-- ==== Defs.lean ====
def Pre_Kernel [hPre_finite1 : Cert.Pre_finite1.Facts] (m : (ℓ : Loc Cert.Kernel.nD Cert.Kernel.τ Cert.Kernel.sig) → Buf (Elt Bits) ℓ) : Prop :=
  ∀ c : Dev Cert.Kernel.nD,
    (Cert.Pre_finite1.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_Kernel_none (m : (ℓ : Loc Cert.Kernel.nD Cert.Kernel.τ Cert.Kernel.sig) → Buf (Elt Bits) ℓ) : Prop :=
  True

def Pre_KernelIdeal [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 [hPre_finite2 : Cert.Pre_finite2.Facts] (m : (ℓ : Loc Cert.Kernel2.nD Cert.Kernel2.τ Cert.Kernel2.sig) → Buf (Elt Bits) ℓ) : Prop :=
  ∀ c : Dev Cert.Kernel2.nD,
    (Cert.Pre_finite2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2_none (m : (ℓ : Loc Cert.Kernel2.nD Cert.Kernel2.τ Cert.Kernel2.sig) → Buf (Elt Bits) ℓ) : Prop :=
  True

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 [hPre_finite6 : Cert.Pre_finite6.Facts] (m : (ℓ : Loc Cert.Kernel6.nD Cert.Kernel6.τ Cert.Kernel6.sig) → Buf (Elt Bits) ℓ) : Prop :=
  ∀ c : Dev Cert.Kernel6.nD,
    (Cert.Pre_finite6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))) = (fun _ => 1#1)

def Pre_Kernel6_none (m : (ℓ : Loc Cert.Kernel6.nD Cert.Kernel6.τ Cert.Kernel6.sig) → Buf (Elt Bits) ℓ) : Prop :=
  True

def Pre_Kernel6Ideal [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Kernel6Ideal_none (m : (ℓ : Loc Cert.Kernel6Ideal.nD Cert.Kernel6Ideal.τ Cert.Kernel6Ideal.sig) → Buf (Elt Ideal) ℓ) : Prop :=
  True

def Pre_Reference6Ideal [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel9 [hPre_in_mesh9 : Cert.Pre_in_mesh9.Facts] (m : (ℓ : Loc Cert.Kernel9.nD Cert.Kernel9.τ Cert.Kernel9.sig) → Buf (Elt Bits) ℓ) : Prop :=
  ∀ c : Dev Cert.Kernel9.nD,
    (Cert.Pre_in_mesh9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5))) = (fun _ => 1#1)

def Pre_Kernel9Ideal [hPre_in_mesh9 : Cert.Pre_in_mesh9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_in_mesh9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal [hPre_in_mesh9 : Cert.Pre_in_mesh9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_in_mesh9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 [hPre_in_mesh10 : Cert.Pre_in_mesh10.Facts] (m : (ℓ : Loc Cert.Kernel10.nD Cert.Kernel10.τ Cert.Kernel10.sig) → Buf (Elt Bits) ℓ) : Prop :=
  ∀ c : Dev Cert.Kernel10.nD,
    (Cert.Pre_in_mesh10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5))) = (fun _ => 1#1)

def Pre_Kernel10Ideal [hPre_in_mesh10 : Cert.Pre_in_mesh10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_in_mesh10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal [hPre_in_mesh10 : Cert.Pre_in_mesh10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_in_mesh10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def Pre_Kernel11 [hPre_in_mesh11 : Cert.Pre_in_mesh11.Facts] (m : (ℓ : Loc Cert.Kernel11.nD Cert.Kernel11.τ Cert.Kernel11.sig) → Buf (Elt Bits) ℓ) : Prop :=
  ∀ c : Dev Cert.Kernel11.nD,
    (Cert.Pre_in_mesh11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5))) = (fun _ => 1#1)

def Pre_Kernel11Ideal [hPre_in_mesh11 : Cert.Pre_in_mesh11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_in_mesh11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal [hPre_in_mesh11 : Cert.Pre_in_mesh11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_in_mesh11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 [hPre_in_mesh12 : Cert.Pre_in_mesh12.Facts] (m : (ℓ : Loc Cert.Kernel12.nD Cert.Kernel12.τ Cert.Kernel12.sig) → Buf (Elt Bits) ℓ) : Prop :=
  ∀ c : Dev Cert.Kernel12.nD,
    (Cert.Pre_in_mesh12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_in_mesh12 : Cert.Pre_in_mesh12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_in_mesh12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal [hPre_in_mesh12 : Cert.Pre_in_mesh12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_in_mesh12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 [hPre_in_mesh13 : Cert.Pre_in_mesh13.Facts] (m : (ℓ : Loc Cert.Kernel13.nD Cert.Kernel13.τ Cert.Kernel13.sig) → Buf (Elt Bits) ℓ) : Prop :=
  ∀ c : Dev Cert.Kernel13.nD,
    (Cert.Pre_in_mesh13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_in_mesh13 : Cert.Pre_in_mesh13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_in_mesh13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal [hPre_in_mesh13 : Cert.Pre_in_mesh13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_in_mesh13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] [hPre_finite1 : Cert.Pre_finite1.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_finite2 : Cert.Pre_finite2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2_pre_none [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2_none m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel6 [hKernel6 : Cert.Kernel6.Facts] [hPre_finite6 : Cert.Pre_finite6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6_pre_none [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6_none m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_none [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_none m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel9 [hKernel9 : Cert.Kernel9.Facts] [hPre_in_mesh9 : Cert.Pre_in_mesh9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] [hPre_in_mesh9 : Cert.Pre_in_mesh9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] [hPre_in_mesh9 : Cert.Pre_in_mesh9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] [hPre_in_mesh10 : Cert.Pre_in_mesh10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] [hPre_in_mesh10 : Cert.Pre_in_mesh10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] [hPre_in_mesh10 : Cert.Pre_in_mesh10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] [hPre_in_mesh11 : Cert.Pre_in_mesh11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] [hPre_in_mesh11 : Cert.Pre_in_mesh11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] [hPre_in_mesh11 : Cert.Pre_in_mesh11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] [hPre_in_mesh12 : Cert.Pre_in_mesh12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_in_mesh12 : Cert.Pre_in_mesh12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] [hPre_in_mesh12 : Cert.Pre_in_mesh12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] [hPre_in_mesh13 : Cert.Pre_in_mesh13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_in_mesh13 : Cert.Pre_in_mesh13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] [hPre_in_mesh13 : Cert.Pre_in_mesh13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_5)) (v5 : (c : Dev Cert.KernelIdeal.nD) → Buf (Elt Ideal) ((c.tc : Thread Cert.KernelIdeal.nD Cert.KernelIdeal.τ).loc Cert.KernelIdeal.main_v6_6)) (v6 : (c : Dev Cert.KernelIdeal.nD) → Buf (Elt Ideal) ((c.tc : Thread Cert.KernelIdeal.nD Cert.KernelIdeal.τ).loc Cert.KernelIdeal.main_v6_7)) (v7 : (c : Dev Cert.KernelIdeal.nD) → Buf (Elt Ideal) ((c.tc : Thread Cert.KernelIdeal.nD Cert.KernelIdeal.τ).loc Cert.KernelIdeal.main_v6_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_5) = v4 c
          ∧ r.2.mem ((c.tc : Thread Cert.KernelIdeal.nD Cert.KernelIdeal.τ).loc Cert.KernelIdeal.main_v6_6) = v5 c
          ∧ r.2.mem ((c.tc : Thread Cert.KernelIdeal.nD Cert.KernelIdeal.τ).loc Cert.KernelIdeal.main_v6_7) = v6 c
          ∧ r.2.mem ((c.tc : Thread Cert.KernelIdeal.nD Cert.KernelIdeal.τ).loc Cert.KernelIdeal.main_v6_8) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_v308) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_v309) = v4 c
          ∧ r.2.mem ((c.tc : Thread Cert.ReferenceIdeal.nD Cert.ReferenceIdeal.τ).loc Cert.ReferenceIdeal.main_v310) = v5 c
          ∧ r.2.mem ((c.tc : Thread Cert.ReferenceIdeal.nD Cert.ReferenceIdeal.τ).loc Cert.ReferenceIdeal.main_v265) = v6 c
          ∧ r.2.mem ((c.tc : Thread Cert.ReferenceIdeal.nD Cert.ReferenceIdeal.τ).loc Cert.ReferenceIdeal.main_v312) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v19_0)) (v1 : (c : Dev Cert.Kernel7Ideal.nD) → Buf (Elt Ideal) ((c.tc : Thread Cert.Kernel7Ideal.nD Cert.Kernel7Ideal.τ).loc Cert.Kernel7Ideal.main_v19_1)) (v2 : (c : Dev Cert.Kernel7Ideal.nD) → Buf (Elt Ideal) ((c.tc : Thread Cert.Kernel7Ideal.nD Cert.Kernel7Ideal.τ).loc Cert.Kernel7Ideal.main_v19_2)) (v3 : (c : Dev Cert.Kernel7Ideal.nD) → Buf (Elt Ideal) ((c.tc : Thread Cert.Kernel7Ideal.nD Cert.Kernel7Ideal.τ).loc Cert.Kernel7Ideal.main_v19_3)) (v4 : (c : Dev Cert.Kernel7Ideal.nD) → Buf (Elt Ideal) ((c.tc : Thread Cert.Kernel7Ideal.nD Cert.Kernel7Ideal.τ).loc Cert.Kernel7Ideal.main_v19_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19_0) = v0 c
          ∧ r.2.mem ((c.tc : Thread Cert.Kernel7Ideal.nD Cert.Kernel7Ideal.τ).loc Cert.Kernel7Ideal.main_v19_1) = v1 c
          ∧ r.2.mem ((c.tc : Thread Cert.Kernel7Ideal.nD Cert.Kernel7Ideal.τ).loc Cert.Kernel7Ideal.main_v19_2) = v2 c
          ∧ r.2.mem ((c.tc : Thread Cert.Kernel7Ideal.nD Cert.Kernel7Ideal.τ).loc Cert.Kernel7Ideal.main_v19_3) = v3 c
          ∧ r.2.mem ((c.tc : Thread Cert.Kernel7Ideal.nD Cert.Kernel7Ideal.τ).loc Cert.Kernel7Ideal.main_v19_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v102) = v1 c
          ∧ r.2.mem ((c.tc : Thread Cert.Reference7Ideal.nD Cert.Reference7Ideal.τ).loc Cert.Reference7Ideal.main_v104) = v2 c
          ∧ r.2.mem ((c.tc : Thread Cert.Reference7Ideal.nD Cert.Reference7Ideal.τ).loc Cert.Reference7Ideal.main_v106) = v3 c
          ∧ r.2.mem ((c.tc : Thread Cert.Reference7Ideal.nD Cert.Reference7Ideal.τ).loc Cert.Reference7Ideal.main_v108) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v19_0)) (v1 : (c : Dev Cert.Kernel6Ideal.nD) → Buf (Elt Ideal) ((c.tc : Thread Cert.Kernel6Ideal.nD Cert.Kernel6Ideal.τ).loc Cert.Kernel6Ideal.main_v19_1)) (v2 : (c : Dev Cert.Kernel6Ideal.nD) → Buf (Elt Ideal) ((c.tc : Thread Cert.Kernel6Ideal.nD Cert.Kernel6Ideal.τ).loc Cert.Kernel6Ideal.main_v19_2)) (v3 : (c : Dev Cert.Kernel6Ideal.nD) → Buf (Elt Ideal) ((c.tc : Thread Cert.Kernel6Ideal.nD Cert.Kernel6Ideal.τ).loc Cert.Kernel6Ideal.main_v19_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19_0) = v0 c
          ∧ r.2.mem ((c.tc : Thread Cert.Kernel6Ideal.nD Cert.Kernel6Ideal.τ).loc Cert.Kernel6Ideal.main_v19_1) = v1 c
          ∧ r.2.mem ((c.tc : Thread Cert.Kernel6Ideal.nD Cert.Kernel6Ideal.τ).loc Cert.Kernel6Ideal.main_v19_2) = v2 c
          ∧ r.2.mem ((c.tc : Thread Cert.Kernel6Ideal.nD Cert.Kernel6Ideal.τ).loc Cert.Kernel6Ideal.main_v19_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v176) = v0 c
          ∧ r.2.mem ((c.tc : Thread Cert.Reference6Ideal.nD Cert.Reference6Ideal.τ).loc Cert.Reference6Ideal.main_v177) = v1 c
          ∧ r.2.mem ((c.tc : Thread Cert.Reference6Ideal.nD Cert.Reference6Ideal.τ).loc Cert.Reference6Ideal.main_v179) = v2 c
          ∧ r.2.mem ((c.tc : Thread Cert.Reference6Ideal.nD Cert.Reference6Ideal.τ).loc Cert.Reference6Ideal.main_v180) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel9_Kernel9Ideal : Prop :=
  True

def algebraic_Kernel9Ideal_Reference9Ideal [hKernel9Ideal : Cert.Kernel9Ideal.Facts] [hReference9Ideal : Cert.Reference9Ideal.Facts] [hPre_in_mesh9 : Cert.Pre_in_mesh9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v33) = v1 c
          ∧ r.2.mem ((c.tc : Thread Cert.Reference9Ideal.nD Cert.Reference9Ideal.τ).loc Cert.Reference9Ideal.main_v14) = v2 c
          ∧ r.2.mem ((c.tc : Thread Cert.Reference9Ideal.nD Cert.Reference9Ideal.τ).loc Cert.Reference9Ideal.main_v20) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] [hPre_in_mesh10 : Cert.Pre_in_mesh10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] [hPre_in_mesh11 : Cert.Pre_in_mesh11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v14) = v2 c
          ∧ r.2.mem ((c.tc : Thread Cert.Reference11Ideal.nD Cert.Reference11Ideal.τ).loc Cert.Reference11Ideal.main_v20) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] [hPre_in_mesh12 : Cert.Pre_in_mesh12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_v14) = v2 c
          ∧ r.2.mem ((c.tc : Thread Cert.Reference12Ideal.nD Cert.Reference12Ideal.τ).loc Cert.Reference12Ideal.main_v20) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_in_mesh13 : Cert.Pre_in_mesh13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_v14) = v2 c
          ∧ r.2.mem ((c.tc : Thread Cert.Reference13Ideal.nD Cert.Reference13Ideal.τ).loc Cert.Reference13Ideal.main_v20) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_4)) (v1 : (c : Dev Cert.Kernel14Ideal.nD) → Buf (Elt Ideal) ((c.tc : Thread Cert.Kernel14Ideal.nD Cert.Kernel14Ideal.τ).loc Cert.Kernel14Ideal.main_v0_0)) (v2 : (c : Dev Cert.Kernel14Ideal.nD) → Buf (Elt Ideal) ((c.tc : Thread Cert.Kernel14Ideal.nD Cert.Kernel14Ideal.τ).loc Cert.Kernel14Ideal.main_v0_1)) (v3 : (c : Dev Cert.Kernel14Ideal.nD) → Buf (Elt Ideal) ((c.tc : Thread Cert.Kernel14Ideal.nD Cert.Kernel14Ideal.τ).loc Cert.Kernel14Ideal.main_v0_2)) (v4 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_4) = v0 c
          ∧ r.2.mem ((c.tc : Thread Cert.Kernel14Ideal.nD Cert.Kernel14Ideal.τ).loc Cert.Kernel14Ideal.main_v0_0) = v1 c
          ∧ r.2.mem ((c.tc : Thread Cert.Kernel14Ideal.nD Cert.Kernel14Ideal.τ).loc Cert.Kernel14Ideal.main_v0_1) = v2 c
          ∧ r.2.mem ((c.tc : Thread Cert.Kernel14Ideal.nD Cert.Kernel14Ideal.τ).loc Cert.Kernel14Ideal.main_v0_2) = v3 c
          ∧ r.2.mem ((c.tc : Thread Cert.Kernel14Ideal.nD Cert.Kernel14Ideal.τ).loc Cert.Kernel14Ideal.main_v0_3) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v1) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_v7) = v3 c
          ∧ r.2.mem ((c.tc : Thread Cert.Reference14Ideal.nD Cert.Reference14Ideal.τ).loc Cert.Reference14Ideal.main_v13) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_4)) (v1 : (c : Dev Cert.Kernel15Ideal.nD) → Buf (Elt Ideal) ((c.tc : Thread Cert.Kernel15Ideal.nD Cert.Kernel15Ideal.τ).loc Cert.Kernel15Ideal.main_v0_0)) (v2 : (c : Dev Cert.Kernel15Ideal.nD) → Buf (Elt Ideal) ((c.tc : Thread Cert.Kernel15Ideal.nD Cert.Kernel15Ideal.τ).loc Cert.Kernel15Ideal.main_v0_1)) (v3 : (c : Dev Cert.Kernel15Ideal.nD) → Buf (Elt Ideal) ((c.tc : Thread Cert.Kernel15Ideal.nD Cert.Kernel15Ideal.τ).loc Cert.Kernel15Ideal.main_v0_2)) (v4 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_4) = v0 c
          ∧ r.2.mem ((c.tc : Thread Cert.Kernel15Ideal.nD Cert.Kernel15Ideal.τ).loc Cert.Kernel15Ideal.main_v0_0) = v1 c
          ∧ r.2.mem ((c.tc : Thread Cert.Kernel15Ideal.nD Cert.Kernel15Ideal.τ).loc Cert.Kernel15Ideal.main_v0_1) = v2 c
          ∧ r.2.mem ((c.tc : Thread Cert.Kernel15Ideal.nD Cert.Kernel15Ideal.τ).loc Cert.Kernel15Ideal.main_v0_2) = v3 c
          ∧ r.2.mem ((c.tc : Thread Cert.Kernel15Ideal.nD Cert.Kernel15Ideal.τ).loc Cert.Kernel15Ideal.main_v0_3) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v1) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_v7) = v3 c
          ∧ r.2.mem ((c.tc : Thread Cert.Reference15Ideal.nD Cert.Reference15Ideal.τ).loc Cert.Reference15Ideal.main_v13) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_4)) (v1 : (c : Dev Cert.Kernel16Ideal.nD) → Buf (Elt Ideal) ((c.tc : Thread Cert.Kernel16Ideal.nD Cert.Kernel16Ideal.τ).loc Cert.Kernel16Ideal.main_v0_0)) (v2 : (c : Dev Cert.Kernel16Ideal.nD) → Buf (Elt Ideal) ((c.tc : Thread Cert.Kernel16Ideal.nD Cert.Kernel16Ideal.τ).loc Cert.Kernel16Ideal.main_v0_1)) (v3 : (c : Dev Cert.Kernel16Ideal.nD) → Buf (Elt Ideal) ((c.tc : Thread Cert.Kernel16Ideal.nD Cert.Kernel16Ideal.τ).loc Cert.Kernel16Ideal.main_v0_2)) (v4 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_4) = v0 c
          ∧ r.2.mem ((c.tc : Thread Cert.Kernel16Ideal.nD Cert.Kernel16Ideal.τ).loc Cert.Kernel16Ideal.main_v0_0) = v1 c
          ∧ r.2.mem ((c.tc : Thread Cert.Kernel16Ideal.nD Cert.Kernel16Ideal.τ).loc Cert.Kernel16Ideal.main_v0_1) = v2 c
          ∧ r.2.mem ((c.tc : Thread Cert.Kernel16Ideal.nD Cert.Kernel16Ideal.τ).loc Cert.Kernel16Ideal.main_v0_2) = v3 c
          ∧ r.2.mem ((c.tc : Thread Cert.Kernel16Ideal.nD Cert.Kernel16Ideal.τ).loc Cert.Kernel16Ideal.main_v0_3) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v1) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v7) = v3 c
          ∧ r.2.mem ((c.tc : Thread Cert.Reference16Ideal.nD Cert.Reference16Ideal.τ).loc Cert.Reference16Ideal.main_v13) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_4)) (v1 : (c : Dev Cert.Kernel17Ideal.nD) → Buf (Elt Ideal) ((c.tc : Thread Cert.Kernel17Ideal.nD Cert.Kernel17Ideal.τ).loc Cert.Kernel17Ideal.main_v0_0)) (v2 : (c : Dev Cert.Kernel17Ideal.nD) → Buf (Elt Ideal) ((c.tc : Thread Cert.Kernel17Ideal.nD Cert.Kernel17Ideal.τ).loc Cert.Kernel17Ideal.main_v0_1)) (v3 : (c : Dev Cert.Kernel17Ideal.nD) → Buf (Elt Ideal) ((c.tc : Thread Cert.Kernel17Ideal.nD Cert.Kernel17Ideal.τ).loc Cert.Kernel17Ideal.main_v0_2)) (v4 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_4) = v0 c
          ∧ r.2.mem ((c.tc : Thread Cert.Kernel17Ideal.nD Cert.Kernel17Ideal.τ).loc Cert.Kernel17Ideal.main_v0_0) = v1 c
          ∧ r.2.mem ((c.tc : Thread Cert.Kernel17Ideal.nD Cert.Kernel17Ideal.τ).loc Cert.Kernel17Ideal.main_v0_1) = v2 c
          ∧ r.2.mem ((c.tc : Thread Cert.Kernel17Ideal.nD Cert.Kernel17Ideal.τ).loc Cert.Kernel17Ideal.main_v0_2) = v3 c
          ∧ r.2.mem ((c.tc : Thread Cert.Kernel17Ideal.nD Cert.Kernel17Ideal.τ).loc Cert.Kernel17Ideal.main_v0_3) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v1) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v7) = v3 c
          ∧ r.2.mem ((c.tc : Thread Cert.Reference17Ideal.nD Cert.Reference17Ideal.τ).loc Cert.Reference17Ideal.main_v13) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_4)) (v1 : (c : Dev Cert.Kernel18Ideal.nD) → Buf (Elt Ideal) ((c.tc : Thread Cert.Kernel18Ideal.nD Cert.Kernel18Ideal.τ).loc Cert.Kernel18Ideal.main_v0_0)) (v2 : (c : Dev Cert.Kernel18Ideal.nD) → Buf (Elt Ideal) ((c.tc : Thread Cert.Kernel18Ideal.nD Cert.Kernel18Ideal.τ).loc Cert.Kernel18Ideal.main_v0_1)) (v3 : (c : Dev Cert.Kernel18Ideal.nD) → Buf (Elt Ideal) ((c.tc : Thread Cert.Kernel18Ideal.nD Cert.Kernel18Ideal.τ).loc Cert.Kernel18Ideal.main_v0_2)) (v4 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_4) = v0 c
          ∧ r.2.mem ((c.tc : Thread Cert.Kernel18Ideal.nD Cert.Kernel18Ideal.τ).loc Cert.Kernel18Ideal.main_v0_0) = v1 c
          ∧ r.2.mem ((c.tc : Thread Cert.Kernel18Ideal.nD Cert.Kernel18Ideal.τ).loc Cert.Kernel18Ideal.main_v0_1) = v2 c
          ∧ r.2.mem ((c.tc : Thread Cert.Kernel18Ideal.nD Cert.Kernel18Ideal.τ).loc Cert.Kernel18Ideal.main_v0_2) = v3 c
          ∧ r.2.mem ((c.tc : Thread Cert.Kernel18Ideal.nD Cert.Kernel18Ideal.τ).loc Cert.Kernel18Ideal.main_v0_3) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v1) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v7) = v3 c
          ∧ r.2.mem ((c.tc : Thread Cert.Reference18Ideal.nD Cert.Reference18Ideal.τ).loc Cert.Reference18Ideal.main_v13) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_4)) (v1 : (c : Dev Cert.Kernel19Ideal.nD) → Buf (Elt Ideal) ((c.tc : Thread Cert.Kernel19Ideal.nD Cert.Kernel19Ideal.τ).loc Cert.Kernel19Ideal.main_v0_0)) (v2 : (c : Dev Cert.Kernel19Ideal.nD) → Buf (Elt Ideal) ((c.tc : Thread Cert.Kernel19Ideal.nD Cert.Kernel19Ideal.τ).loc Cert.Kernel19Ideal.main_v0_1)) (v3 : (c : Dev Cert.Kernel19Ideal.nD) → Buf (Elt Ideal) ((c.tc : Thread Cert.Kernel19Ideal.nD Cert.Kernel19Ideal.τ).loc Cert.Kernel19Ideal.main_v0_2)) (v4 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_4) = v0 c
          ∧ r.2.mem ((c.tc : Thread Cert.Kernel19Ideal.nD Cert.Kernel19Ideal.τ).loc Cert.Kernel19Ideal.main_v0_0) = v1 c
          ∧ r.2.mem ((c.tc : Thread Cert.Kernel19Ideal.nD Cert.Kernel19Ideal.τ).loc Cert.Kernel19Ideal.main_v0_1) = v2 c
          ∧ r.2.mem ((c.tc : Thread Cert.Kernel19Ideal.nD Cert.Kernel19Ideal.τ).loc Cert.Kernel19Ideal.main_v0_2) = v3 c
          ∧ r.2.mem ((c.tc : Thread Cert.Kernel19Ideal.nD Cert.Kernel19Ideal.τ).loc Cert.Kernel19Ideal.main_v0_3) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v1) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_v7) = v3 c
          ∧ r.2.mem ((c.tc : Thread Cert.Reference19Ideal.nD Cert.Reference19Ideal.τ).loc Cert.Reference19Ideal.main_v13) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_4)) (v1 : (c : Dev Cert.Kernel20Ideal.nD) → Buf (Elt Ideal) ((c.tc : Thread Cert.Kernel20Ideal.nD Cert.Kernel20Ideal.τ).loc Cert.Kernel20Ideal.main_v0_0)) (v2 : (c : Dev Cert.Kernel20Ideal.nD) → Buf (Elt Ideal) ((c.tc : Thread Cert.Kernel20Ideal.nD Cert.Kernel20Ideal.τ).loc Cert.Kernel20Ideal.main_v0_1)) (v3 : (c : Dev Cert.Kernel20Ideal.nD) → Buf (Elt Ideal) ((c.tc : Thread Cert.Kernel20Ideal.nD Cert.Kernel20Ideal.τ).loc Cert.Kernel20Ideal.main_v0_2)) (v4 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_4) = v0 c
          ∧ r.2.mem ((c.tc : Thread Cert.Kernel20Ideal.nD Cert.Kernel20Ideal.τ).loc Cert.Kernel20Ideal.main_v0_0) = v1 c
          ∧ r.2.mem ((c.tc : Thread Cert.Kernel20Ideal.nD Cert.Kernel20Ideal.τ).loc Cert.Kernel20Ideal.main_v0_1) = v2 c
          ∧ r.2.mem ((c.tc : Thread Cert.Kernel20Ideal.nD Cert.Kernel20Ideal.τ).loc Cert.Kernel20Ideal.main_v0_2) = v3 c
          ∧ r.2.mem ((c.tc : Thread Cert.Kernel20Ideal.nD Cert.Kernel20Ideal.τ).loc Cert.Kernel20Ideal.main_v0_3) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v1) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v7) = v3 c
          ∧ r.2.mem ((c.tc : Thread Cert.Reference20Ideal.nD Cert.Reference20Ideal.τ).loc Cert.Reference20Ideal.main_v13) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_4)) (v1 : (c : Dev Cert.Kernel21Ideal.nD) → Buf (Elt Ideal) ((c.tc : Thread Cert.Kernel21Ideal.nD Cert.Kernel21Ideal.τ).loc Cert.Kernel21Ideal.main_v0_0)) (v2 : (c : Dev Cert.Kernel21Ideal.nD) → Buf (Elt Ideal) ((c.tc : Thread Cert.Kernel21Ideal.nD Cert.Kernel21Ideal.τ).loc Cert.Kernel21Ideal.main_v0_1)) (v3 : (c : Dev Cert.Kernel21Ideal.nD) → Buf (Elt Ideal) ((c.tc : Thread Cert.Kernel21Ideal.nD Cert.Kernel21Ideal.τ).loc Cert.Kernel21Ideal.main_v0_2)) (v4 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_4) = v0 c
          ∧ r.2.mem ((c.tc : Thread Cert.Kernel21Ideal.nD Cert.Kernel21Ideal.τ).loc Cert.Kernel21Ideal.main_v0_0) = v1 c
          ∧ r.2.mem ((c.tc : Thread Cert.Kernel21Ideal.nD Cert.Kernel21Ideal.τ).loc Cert.Kernel21Ideal.main_v0_1) = v2 c
          ∧ r.2.mem ((c.tc : Thread Cert.Kernel21Ideal.nD Cert.Kernel21Ideal.τ).loc Cert.Kernel21Ideal.main_v0_2) = v3 c
          ∧ r.2.mem ((c.tc : Thread Cert.Kernel21Ideal.nD Cert.Kernel21Ideal.τ).loc Cert.Kernel21Ideal.main_v0_3) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v1) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_v7) = v3 c
          ∧ r.2.mem ((c.tc : Thread Cert.Reference21Ideal.nD Cert.Reference21Ideal.τ).loc Cert.Reference21Ideal.main_v13) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite1 : Cert.Pre_finite1.Facts) (hPre_finite2 : Cert.Pre_finite2.Facts) (hPre_finite6 : Cert.Pre_finite6.Facts) (hPre_in_mesh9 : Cert.Pre_in_mesh9.Facts) (hPre_in_mesh10 : Cert.Pre_in_mesh10.Facts) (hPre_in_mesh11 : Cert.Pre_in_mesh11.Facts) (hPre_in_mesh12 : Cert.Pre_in_mesh12.Facts) (hPre_in_mesh13 : Cert.Pre_in_mesh13.Facts),
    quiescent_Kernel (hKernel := hKernel) (hPre_finite1 := hPre_finite1)
    ∧ quiescent_Kernel_pre_none (hKernel := hKernel)
    ∧ quiescent_KernelIdeal (hKernelIdeal := hKernelIdeal) (hPre_finite1 := hPre_finite1)
    ∧ quiescent_KernelIdeal_pre_none (hKernelIdeal := hKernelIdeal)
    ∧ quiescent_ReferenceIdeal (hReferenceIdeal := hReferenceIdeal) (hPre_finite1 := hPre_finite1)
    ∧ quiescent_Kernel2 (hKernel2 := hKernel2) (hPre_finite2 := hPre_finite2)
    ∧ quiescent_Kernel2_pre_none (hKernel2 := hKernel2)
    ∧ quiescent_Kernel2Ideal (hKernel2Ideal := hKernel2Ideal) (hPre_finite2 := hPre_finite2)
    ∧ quiescent_Kernel2Ideal_pre_none (hKernel2Ideal := hKernel2Ideal)
    ∧ quiescent_Reference2Ideal (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6) (hPre_finite6 := hPre_finite6)
    ∧ quiescent_Kernel6_pre_none (hKernel6 := hKernel6)
    ∧ quiescent_Kernel6Ideal (hKernel6Ideal := hKernel6Ideal) (hPre_finite6 := hPre_finite6)
    ∧ quiescent_Kernel6Ideal_pre_none (hKernel6Ideal := hKernel6Ideal)
    ∧ quiescent_Reference6Ideal (hReference6Ideal := hReference6Ideal) (hPre_finite6 := hPre_finite6)
    ∧ quiescent_Kernel9 (hKernel9 := hKernel9) (hPre_in_mesh9 := hPre_in_mesh9)
    ∧ quiescent_Kernel9Ideal (hKernel9Ideal := hKernel9Ideal) (hPre_in_mesh9 := hPre_in_mesh9)
    ∧ quiescent_Reference9Ideal (hReference9Ideal := hReference9Ideal) (hPre_in_mesh9 := hPre_in_mesh9)
    ∧ quiescent_Kernel10 (hKernel10 := hKernel10) (hPre_in_mesh10 := hPre_in_mesh10)
    ∧ quiescent_Kernel10Ideal (hKernel10Ideal := hKernel10Ideal) (hPre_in_mesh10 := hPre_in_mesh10)
    ∧ quiescent_Reference10Ideal (hReference10Ideal := hReference10Ideal) (hPre_in_mesh10 := hPre_in_mesh10)
    ∧ quiescent_Kernel11 (hKernel11 := hKernel11) (hPre_in_mesh11 := hPre_in_mesh11)
    ∧ quiescent_Kernel11Ideal (hKernel11Ideal := hKernel11Ideal) (hPre_in_mesh11 := hPre_in_mesh11)
    ∧ quiescent_Reference11Ideal (hReference11Ideal := hReference11Ideal) (hPre_in_mesh11 := hPre_in_mesh11)
    ∧ quiescent_Kernel12 (hKernel12 := hKernel12) (hPre_in_mesh12 := hPre_in_mesh12)
    ∧ quiescent_Kernel12Ideal (hKernel12Ideal := hKernel12Ideal) (hPre_in_mesh12 := hPre_in_mesh12)
    ∧ quiescent_Reference12Ideal (hReference12Ideal := hReference12Ideal) (hPre_in_mesh12 := hPre_in_mesh12)
    ∧ quiescent_Kernel13 (hKernel13 := hKernel13) (hPre_in_mesh13 := hPre_in_mesh13)
    ∧ quiescent_Kernel13Ideal (hKernel13Ideal := hKernel13Ideal) (hPre_in_mesh13 := hPre_in_mesh13)
    ∧ quiescent_Reference13Ideal (hReference13Ideal := hReference13Ideal) (hPre_in_mesh13 := hPre_in_mesh13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal) (hPre_finite1 := hPre_finite1)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal (hKernel6Ideal := hKernel6Ideal) (hReference6Ideal := hReference6Ideal) (hPre_finite6 := hPre_finite6)
    ∧ preserves_Kernel9_Kernel9Ideal
    ∧ algebraic_Kernel9Ideal_Reference9Ideal (hKernel9Ideal := hKernel9Ideal) (hReference9Ideal := hReference9Ideal) (hPre_in_mesh9 := hPre_in_mesh9)
    ∧ preserves_Kernel10_Kernel10Ideal
    ∧ algebraic_Kernel10Ideal_Reference10Ideal (hKernel10Ideal := hKernel10Ideal) (hReference10Ideal := hReference10Ideal) (hPre_in_mesh10 := hPre_in_mesh10)
    ∧ preserves_Kernel11_Kernel11Ideal
    ∧ algebraic_Kernel11Ideal_Reference11Ideal (hKernel11Ideal := hKernel11Ideal) (hReference11Ideal := hReference11Ideal) (hPre_in_mesh11 := hPre_in_mesh11)
    ∧ preserves_Kernel12_Kernel12Ideal
    ∧ algebraic_Kernel12Ideal_Reference12Ideal (hKernel12Ideal := hKernel12Ideal) (hReference12Ideal := hReference12Ideal) (hPre_in_mesh12 := hPre_in_mesh12)
    ∧ preserves_Kernel13_Kernel13Ideal
    ∧ algebraic_Kernel13Ideal_Reference13Ideal (hKernel13Ideal := hKernel13Ideal) (hReference13Ideal := hReference13Ideal) (hPre_in_mesh13 := hPre_in_mesh13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite1.lean ====
abbrev S8192x1024 : Shape := ⟨2, ![8192, 1024]⟩
abbrev S2048x1024 : Shape := ⟨2, ![2048, 1024]⟩
abbrev S8192x3072 : Shape := ⟨2, ![8192, 3072]⟩
abbrev S4x128x128 : Shape := ⟨3, ![4, 128, 128]⟩
abbrev S4x128 : Shape := ⟨2, ![4, 128]⟩
abbrev S1024 : Shape := ⟨1, ![1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8192x3072 : S_.BroadcastsInDim S8192x3072 (![] : Fin 0 → Fin S8192x3072.rank)
  reducesTo_S8192x3072_S_d0_1 : S8192x3072.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part4 {F : FTy → Type} [FloatOps F] (main_v61 : IVec S_ 1) (main_v66 : IVec S1024 1) : IVec S_ 1 :=
  let main_c_27 : IVec S_ 1 := constantI S_ 1 1#1
  let main_v67 : IVec S_ 1 := (fun x v => Host.reduce IntOp.andi x v reducesTo_S1024_S_d0 h_S_) main_v66 main_c_27
  let main_v68 : IVec S_ 1 := andi main_v61 main_v67
  main_v68

def fn_part3 {F : FTy → Type} [FloatOps F] (main_arg7 : FVec F S1024 .f32) (main_arg8 : FVec F S4x256x256 .bf16) (main_arg9 : FVec F S1024 .f32) (main_v47 : IVec S_ 1) (main_v49 : IVec S1024 1) : IVec S_ 1 :=
  let main_cst_20 : FVec F S_ .f32 := constant S_ .f32 0xFF800000#32
  let main_v50 : FVec F S1024 .f32 := broadcastInDim S1024 ![] bcast_S_S1024 main_cst_20
  let main_v51 : IVec S1024 1 := cmpf .ogt main_arg7 main_v50
  let main_v52 : IVec S1024 1 := andi main_v49 main_v51
  let main_c_21 : IVec S_ 1 := constantI S_ 1 1#1
  let main_v53 : IVec S_ 1 := (fun x v => Host.reduce IntOp.andi x v reducesTo_S1024_S_d0 h_S_) main_v52 main_c_21
  let main_v54 : IVec S_ 1 := andi main_v47 main_v53
  let main_cst_22 : FVec F S_ .bf16 := constant S_ .bf16 0x7F80#16
  let main_v55 : FVec F S4x256x256 .bf16 := broadcastInDim S4x256x256 ![] bcast_S_S4x256x256 main_cst_22
  let main_v56 : IVec S4x256x256 1 := cmpf .olt main_arg8 main_v55
  let main_cst_23 : FVec F S_ .bf16 := constant S_ .bf16 0xFF80#16
  let main_v57 : FVec F S4x256x256 .bf16 := broadcastInDim S4x256x256 ![] bcast_S_S4x256x256 main_cst_23
  let main_v58 : IVec S4x256x256 1 := cmpf .ogt main_arg8 main_v57
  let main_v59 : IVec S4x256x256 1 := andi main_v56 main_v58
  let main_c_24 : IVec S_ 1 := constantI S_ 1 1#1
  let main_v60 : IVec S_ 1 := (fun x v => Host.reduce IntOp.andi x v reducesTo_S4x256x256_S_d0_1_2 h_S_) main_v59 main_c_24
  let main_v61 : IVec S_ 1 := andi main_v54 main_v60
  let main_cst_25 : FVec F S_ .f32 := constant S_ .f32 0x7F800000#32
  let main_v62 : FVec F S1024 .f32 := broadcastInDim S1024 ![] bcast_S_S1024 main_cst_25
  let main_v63 : IVec S1024 1 := cmpf .olt main_arg9 main_v62
  let main_cst_26 : FVec F S_ .f32 := constant S_ .f32 0xFF800000#32
  let main_v64 : FVec F S1024 .f32 := broadcastInDim S1024 ![] bcast_S_S1024 main_cst_26
  let main_v65 : IVec S1024 1 := cmpf .ogt main_arg9 main_v64
  let main_v66 : IVec S1024 1 := andi main_v63 main_v65
  fn_part4 (F := F) main_v61 main_v66

def fn_part2 {F : FTy → Type} [FloatOps F] (main_arg5 : FVec F S4x128x128 .f32) (main_arg6 : FVec F S4x128 .f32) (main_arg7 : FVec F S1024 .f32) (main_arg8 : FVec F S4x256x256 .bf16) (main_arg9 : FVec F S1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S4x128x128 .f32 := broadcastInDim S4x128x128 ![] bcast_S_S4x128x128 main_cst_13
  let main_v35 : IVec S4x128x128 1 := cmpf .olt main_arg5 main_v34
  let main_cst_14 : FVec F S_ .f32 := constant S_ .f32 0xFF800000#32
  let main_v36 : FVec F S4x128x128 .f32 := broadcastInDim S4x128x128 ![] bcast_S_S4x128x128 main_cst_14
  let main_v37 : IVec S4x128x128 1 := cmpf .ogt main_arg5 main_v36
  let main_v38 : IVec S4x128x128 1 := andi main_v35 main_v37
  let main_c_15 : IVec S_ 1 := constantI S_ 1 1#1
  let main_v39 : IVec S_ 1 := (fun x v => Host.reduce IntOp.andi x v reducesTo_S4x128x128_S_d0_1_2 h_S_) main_v38 main_c_15
  let main_v40 : IVec S_ 1 := andi main_v33 main_v39
  let main_cst_16 : FVec F S_ .f32 := constant S_ .f32 0x7F800000#32
  let main_v41 : FVec F S4x128 .f32 := broadcastInDim S4x128 ![] bcast_S_S4x128 main_cst_16
  let main_v42 : IVec S4x128 1 := cmpf .olt main_arg6 main_v41
  let main_cst_17 : FVec F S_ .f32 := constant S_ .f32 0xFF800000#32
  let main_v43 : FVec F S4x128 .f32 := broadcastInDim S4x128 ![] bcast_S_S4x128 main_cst_17
  let main_v44 : IVec S4x128 1 := cmpf .ogt main_arg6 main_v43
  let main_v45 : IVec S4x128 1 := andi main_v42 main_v44
  let main_c_18 : IVec S_ 1 := constantI S_ 1 1#1
  let main_v46 : IVec S_ 1 := (fun x v => Host.reduce IntOp.andi x v reducesTo_S4x128_S_d0_1 h_S_) main_v45 main_c_18
  let main_v47 : IVec S_ 1 := andi main_v40 main_v46
  let main_cst_19 : FVec F S_ .f32 := constant S_ .f32 0x7F800000#32
  let main_v48 : FVec F S1024 .f32 := broadcastInDim S1024 ![] bcast_S_S1024 main_cst_19
  let main_v49 : IVec S1024 1 := cmpf .olt main_arg7 main_v48
  fn_part3 (F := F) main_arg7 main_arg8 main_arg9 main_v47 main_v49

def fn_part1 {F : FTy → Type} [FloatOps F] (main_arg2 : FVec F S8192x3072 .bf16) (main_arg3 : FVec F S8192x1024 .f32) (main_arg4 : FVec F S8192x1024 .bf16) (main_arg5 : FVec F S4x128x128 .f32) (main_arg6 : FVec F S4x128 .f32) (main_arg7 : FVec F S1024 .f32) (main_arg8 : FVec F S4x256x256 .bf16) (main_arg9 : FVec F S1024 .f32) (main_v12 : IVec S_ 1) (main_v14 : IVec S8192x3072 1) (main_v15 : FVec F S8192x3072 .bf16) : IVec S_ 1 :=
  let main_v16 : IVec S8192x3072 1 := cmpf .ogt main_arg2 main_v15
  let main_v17 : IVec S8192x3072 1 := andi main_v14 main_v16
  let main_c_6 : IVec S_ 1 := constantI S_ 1 1#1
  let main_v18 : IVec S_ 1 := (fun x v => Host.reduce IntOp.andi x v reducesTo_S8192x3072_S_d0_1 h_S_) main_v17 main_c_6
  let main_v19 : IVec S_ 1 := andi main_v12 main_v18
  let main_cst_7 : FVec F S_ .f32 := constant S_ .f32 0x7F800000#32
  let main_v20 : FVec F S8192x1024 .f32 := broadcastInDim S8192x1024 ![] bcast_S_S8192x1024 main_cst_7
  let main_v21 : IVec S8192x1024 1 := cmpf .olt main_arg3 main_v20
  let main_cst_8 : FVec F S_ .f32 := constant S_ .f32 0xFF800000#32
  let main_v22 : FVec F S8192x1024 .f32 := broadcastInDim S8192x1024 ![] bcast_S_S8192x1024 main_cst_8
  let main_v23 : IVec S8192x1024 1 := cmpf .ogt main_arg3 main_v22
  let main_v24 : IVec S8192x1024 1 := andi main_v21 main_v23
  let main_c_9 : IVec S_ 1 := constantI S_ 1 1#1
  let main_v25 : IVec S_ 1 := (fun x v => Host.reduce IntOp.andi x v reducesTo_S8192x1024_S_d0_1 h_S_) main_v24 main_c_9
  let main_v26 : IVec S_ 1 := andi main_v19 main_v25
  let main_cst_10 : FVec F S_ .bf16 := constant S_ .bf16 0x7F80#16
  let main_v27 : FVec F S8192x1024 .bf16 := broadcastInDim S8192x1024 ![] bcast_S_S8192x1024 main_cst_10
  let main_v28 : IVec S8192x1024 1 := cmpf .olt main_arg4 main_v27
  let main_cst_11 : FVec F S_ .bf16 := constant S_ .bf16 0xFF80#16
  let main_v29 : FVec F S8192x1024 .bf16 := broadcastInDim S8192x1024 ![] bcast_S_S8192x1024 main_cst_11
  let main_v30 : IVec S8192x1024 1 := cmpf .ogt main_arg4 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_arg5 main_arg6 main_arg7 main_arg8 main_arg9 main_v26 main_v32

def fn {F : FTy → Type} [FloatOps F] (main_arg0 : FVec F S8192x1024 .bf16) (main_arg1 : FVec F S2048x1024 .bf16) (main_arg2 : FVec F S8192x3072 .bf16) (main_arg3 : FVec F S8192x1024 .f32) (main_arg4 : FVec F S8192x1024 .bf16) (main_arg5 : FVec F S4x128x128 .f32) (main_arg6 : FVec F S4x128 .f32) (main_arg7 : FVec F S1024 .f32) (main_arg8 : FVec F S4x256x256 .bf16) (main_arg9 : FVec F S1024 .f32) : IVec S_ 1 :=
  let main_cst : FVec F S_ .bf16 := constant S_ .bf16 0x7F80#16
  let main_v0 : FVec F S8192x1024 .bf16 := broadcastInDim S8192x1024 ![] bcast_S_S8192x1024 main_cst
  let main_v1 : IVec S8192x1024 1 := cmpf .olt main_arg0 main_v0
  let main_cst_0 : FVec F S_ .bf16 := constant S_ .bf16 0xFF80#16
  let main_v2 : FVec F S8192x1024 .bf16 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .bf16 := constant S_ .bf16 0x7F80#16
  let main_v6 : FVec F S2048x1024 .bf16 := broadcastInDim S2048x1024 ![] bcast_S_S2048x1024 main_cst_1
  let main_v7 : IVec S2048x1024 1 := cmpf .olt main_arg1 main_v6
  let main_cst_2 : FVec F S_ .bf16 := constant S_ .bf16 0xFF80#16
  let main_v8 : FVec F S2048x1024 .bf16 := broadcastInDim S2048x1024 ![] bcast_S_S2048x1024 main_cst_2
  let main_v9 : IVec S2048x1024 1 := cmpf .ogt main_arg1 main_v8
  let main_v10 : IVec S2048x1024 1 := andi main_v7 main_v9
  let main_c_3 : IVec S_ 1 := constantI S_ 1 1#1
  let main_v11 : IVec S_ 1 := (fun x v => Host.reduce IntOp.andi x v reducesTo_S2048x1024_S_d0_1 h_S_) main_v10 main_c_3
  let main_v12 : IVec S_ 1 := andi main_v5 main_v11
  let main_cst_4 : FVec F S_ .bf16 := constant S_ .bf16 0x7F80#16
  let main_v13 : FVec F S8192x3072 .bf16 := broadcastInDim S8192x3072 ![] bcast_S_S8192x3072 main_cst_4
  let main_v14 : IVec S8192x3072 1 := cmpf .olt main_arg2 main_v13
  let main_cst_5 : FVec F S_ .bf16 := constant S_ .bf16 0xFF80#16
  let main_v15 : FVec F S8192x3072 .bf16 := broadcastInDim S8192x3072 ![] bcast_S_S8192x3072 main_cst_5
  fn_part1 (F := F) main_arg2 main_arg3 main_arg4 main_arg5 main_arg6 main_arg7 main_arg8 main_arg9 main_v12 main_v14 main_v15
-- ==== Pre_finite2.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S1024x5120 : S_.BroadcastsInDim S1024x5120 (![] : Fin 0 → Fin S1024x5120.rank)
  reducesTo_S1024x5120_S_d0_1 : S1024x5120.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S8192x1024 .f32) (main_arg3 : FVec F S1024 .f32) (main_v12 : IVec S_ 1) (main_v14 : IVec S8192x1024 1) (main_v15 : FVec F S8192x1024 .f32) : IVec S_ 1 :=
  let main_v16 : IVec S8192x1024 1 := cmpf .ogt main_arg2 main_v15
  let main_v17 : IVec S8192x1024 1 := andi main_v14 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v12 main_v18
  let main_cst_7 : FVec F S_ .f32 := constant S_ .f32 0x7F800000#32
  let main_v20 : FVec F S1024 .f32 := broadcastInDim S1024 ![] bcast_S_S1024 main_cst_7
  let main_v21 : IVec S1024 1 := cmpf .olt main_arg3 main_v20
  let main_cst_8 : FVec F S_ .f32 := constant S_ .f32 0xFF800000#32
  let main_v22 : FVec F S1024 .f32 := broadcastInDim S1024 ![] bcast_S_S1024 main_cst_8
  let main_v23 : IVec S1024 1 := cmpf .ogt main_arg3 main_v22
  let main_v24 : IVec S1024 1 := andi main_v21 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v19 main_v25
  main_v26

def fn {F : FTy → Type} [FloatOps F] (main_arg0 : FVec F S8192x5120 .bf16) (main_arg1 : FVec F S1024x5120 .bf16) (main_arg2 : FVec F S8192x1024 .f32) (main_arg3 : FVec F S1024 .f32) (main_arg4 : FVec F S8192x1024 .f32) : IVec S_ 1 :=
  let main_cst : FVec F S_ .bf16 := constant S_ .bf16 0x7F80#16
  let main_v0 : FVec F S8192x5120 .bf16 := broadcastInDim S8192x5120 ![] bcast_S_S8192x5120 main_cst
  let main_v1 : IVec S8192x5120 1 := cmpf .olt main_arg0 main_v0
  let main_cst_0 : FVec F S_ .bf16 := constant S_ .bf16 0xFF80#16
  let main_v2 : FVec F S8192x5120 .bf16 := broadcastInDim S8192x5120 ![] bcast_S_S8192x5120 main_cst_0
  let main_v3 : IVec S8192x5120 1 := cmpf .ogt main_arg0 main_v2
  let main_v4 : IVec S8192x5120 1 := andi main_v1 main_v3
  let main_c : IVec S_ 1 := constantI S_ 1 1#1
  let main_v5 : IVec S_ 1 := (fun x v => Host.reduce IntOp.andi x v reducesTo_S8192x5120_S_d0_1 h_S_) main_v4 main_c
  let main_cst_1 : FVec F S_ .bf16 := constant S_ .bf16 0x7F80#16
  let main_v6 : FVec F S1024x5120 .bf16 := broadcastInDim S1024x5120 ![] bcast_S_S1024x5120 main_cst_1
  let main_v7 : IVec S1024x5120 1 := cmpf .olt main_arg1 main_v6
  let main_cst_2 : FVec F S_ .bf16 := constant S_ .bf16 0xFF80#16
  let main_v8 : FVec F S1024x5120 .bf16 := broadcastInDim S1024x5120 ![] bcast_S_S1024x5120 main_cst_2
  let main_v9 : IVec S1024x5120 1 := cmpf .ogt main_arg1 main_v8
  let main_v10 : IVec S1024x5120 1 := andi main_v7 main_v9
  let main_c_3 : IVec S_ 1 := constantI S_ 1 1#1
  let main_v11 : IVec S_ 1 := (fun x v => Host.reduce IntOp.andi x v reducesTo_S1024x5120_S_d0_1 h_S_) main_v10 main_c_3
  let main_v12 : IVec S_ 1 := andi main_v5 main_v11
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_arg2 main_v13
  let main_cst_5 : FVec F S_ .f32 := constant S_ .f32 0xFF800000#32
  let main_v15 : FVec F S8192x1024 .f32 := broadcastInDim S8192x1024 ![] bcast_S_S8192x1024 main_cst_5
  fn_part1 (F := F) main_arg2 main_arg3 main_v12 main_v14 main_v15
-- ==== Pre_finite6.lean ====
abbrev S1024x8192 : Shape := ⟨2, ![1024, 8192]⟩
abbrev S256x8192 : Shape := ⟨2, ![256, 8192]⟩
abbrev S2560x1024 : Shape := ⟨2, ![2560, 1024]⟩
abbrev S8192x1024 : Shape := ⟨2, ![8192, 1024]⟩
abbrev S1024 : Shape := ⟨1, ![1024]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S2560x1024 : S_.BroadcastsInDim S2560x1024 (![] : Fin 0 → Fin S2560x1024.rank)
  reducesTo_S2560x1024_S_d0_1 : S2560x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg5 : FVec F S8192x1024 .f32) (main_arg6 : FVec F S1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8192x1024 .f32 := broadcastInDim S8192x1024 ![] bcast_S_S8192x1024 main_cst_13
  let main_v35 : IVec S8192x1024 1 := cmpf .olt main_arg5 main_v34
  let main_cst_14 : FVec F S_ .f32 := constant S_ .f32 0xFF800000#32
  let main_v36 : FVec F S8192x1024 .f32 := broadcastInDim S8192x1024 ![] bcast_S_S8192x1024 main_cst_14
  let main_v37 : IVec S8192x1024 1 := cmpf .ogt main_arg5 main_v36
  let main_v38 : IVec S8192x1024 1 := andi main_v35 main_v37
  let main_c_15 : IVec S_ 1 := constantI S_ 1 1#1
  let main_v39 : IVec S_ 1 := (fun x v => Host.reduce IntOp.andi x v reducesTo_S8192x1024_S_d0_1 h_S_) main_v38 main_c_15
  let main_v40 : IVec S_ 1 := andi main_v33 main_v39
  let main_cst_16 : FVec F S_ .f32 := constant S_ .f32 0x7F800000#32
  let main_v41 : FVec F S1024 .f32 := broadcastInDim S1024 ![] bcast_S_S1024 main_cst_16
  let main_v42 : IVec S1024 1 := cmpf .olt main_arg6 main_v41
  let main_cst_17 : FVec F S_ .f32 := constant S_ .f32 0xFF800000#32
  let main_v43 : FVec F S1024 .f32 := broadcastInDim S1024 ![] bcast_S_S1024 main_cst_17
  let main_v44 : IVec S1024 1 := cmpf .ogt main_arg6 main_v43
  let main_v45 : IVec S1024 1 := andi main_v42 main_v44
  let main_c_18 : IVec S_ 1 := constantI S_ 1 1#1
  let main_v46 : IVec S_ 1 := (fun x v => Host.reduce IntOp.andi x v reducesTo_S1024_S_d0 h_S_) main_v45 main_c_18
  let main_v47 : IVec S_ 1 := andi main_v40 main_v46
  main_v47

def fn_part1 {F : FTy → Type} [FloatOps F] (main_arg2 : FVec F S256x8192 .bf16) (main_arg3 : FVec F S1024x8192 .bf16) (main_arg4 : FVec F S2560x1024 .bf16) (main_arg5 : FVec F S8192x1024 .f32) (main_arg6 : FVec F S1024 .f32) (main_v12 : IVec S_ 1) (main_v14 : IVec S256x8192 1) (main_v15 : FVec F S256x8192 .bf16) : IVec S_ 1 :=
  let main_v16 : IVec S256x8192 1 := cmpf .ogt main_arg2 main_v15
  let main_v17 : IVec S256x8192 1 := andi main_v14 main_v16
  let main_c_6 : IVec S_ 1 := constantI S_ 1 1#1
  let main_v18 : IVec S_ 1 := (fun x v => Host.reduce IntOp.andi x v reducesTo_S256x8192_S_d0_1 h_S_) main_v17 main_c_6
  let main_v19 : IVec S_ 1 := andi main_v12 main_v18
  let main_cst_7 : FVec F S_ .bf16 := constant S_ .bf16 0x7F80#16
  let main_v20 : FVec F S1024x8192 .bf16 := broadcastInDim S1024x8192 ![] bcast_S_S1024x8192 main_cst_7
  let main_v21 : IVec S1024x8192 1 := cmpf .olt main_arg3 main_v20
  let main_cst_8 : FVec F S_ .bf16 := constant S_ .bf16 0xFF80#16
  let main_v22 : FVec F S1024x8192 .bf16 := broadcastInDim S1024x8192 ![] bcast_S_S1024x8192 main_cst_8
  let main_v23 : IVec S1024x8192 1 := cmpf .ogt main_arg3 main_v22
  let main_v24 : IVec S1024x8192 1 := andi main_v21 main_v23
  let main_c_9 : IVec S_ 1 := constantI S_ 1 1#1
  let main_v25 : IVec S_ 1 := (fun x v => Host.reduce IntOp.andi x v reducesTo_S1024x8192_S_d0_1 h_S_) main_v24 main_c_9
  let main_v26 : IVec S_ 1 := andi main_v19 main_v25
  let main_cst_10 : FVec F S_ .bf16 := constant S_ .bf16 0x7F80#16
  let main_v27 : FVec F S2560x1024 .bf16 := broadcastInDim S2560x1024 ![] bcast_S_S2560x1024 main_cst_10
  let main_v28 : IVec S2560x1024 1 := cmpf .olt main_arg4 main_v27
  let main_cst_11 : FVec F S_ .bf16 := constant S_ .bf16 0xFF80#16
  let main_v29 : FVec F S2560x1024 .bf16 := broadcastInDim S2560x1024 ![] bcast_S_S2560x1024 main_cst_11
  let main_v30 : IVec S2560x1024 1 := cmpf .ogt main_arg4 main_v29
  let main_v31 : IVec S2560x1024 1 := andi main_v28 main_v30
  let main_c_12 : IVec S_ 1 := constantI S_ 1 1#1
  let main_v32 : IVec S_ 1 := (fun x v => Host.reduce IntOp.andi x v reducesTo_S2560x1024_S_d0_1 h_S_) main_v31 main_c_12
  fn_part2 (F := F) main_arg5 main_arg6 main_v26 main_v32

def fn {F : FTy → Type} [FloatOps F] (main_arg0 : FVec F S1024x8192 .bf16) (main_arg1 : FVec F S256x8192 .bf16) (main_arg2 : FVec F S256x8192 .bf16) (main_arg3 : FVec F S1024x8192 .bf16) (main_arg4 : FVec F S2560x1024 .bf16) (main_arg5 : FVec F S8192x1024 .f32) (main_arg6 : FVec F S1024 .f32) (main_arg7 : FVec F S8192x1024 .f32) : IVec S_ 1 :=
  let main_cst : FVec F S_ .bf16 := constant S_ .bf16 0x7F80#16
  let main_v0 : FVec F S1024x8192 .bf16 := broadcastInDim S1024x8192 ![] bcast_S_S1024x8192 main_cst
  let main_v1 : IVec S1024x8192 1 := cmpf .olt main_arg0 main_v0
  let main_cst_0 : FVec F S_ .bf16 := constant S_ .bf16 0xFF80#16
  let main_v2 : FVec F S1024x8192 .bf16 := broadcastInDim S1024x8192 ![] bcast_S_S1024x8192 main_cst_0
  let main_v3 : IVec S1024x8192 1 := cmpf .ogt main_arg0 main_v2
  let main_v4 : IVec S1024x8192 1 := andi main_v1 main_v3
  let main_c : IVec S_ 1 := constantI S_ 1 1#1
  let main_v5 : IVec S_ 1 := (fun x v => Host.reduce IntOp.andi x v reducesTo_S1024x8192_S_d0_1 h_S_) main_v4 main_c
  let main_cst_1 : FVec F S_ .bf16 := constant S_ .bf16 0x7F80#16
  let main_v6 : FVec F S256x8192 .bf16 := broadcastInDim S256x8192 ![] bcast_S_S256x8192 main_cst_1
  let main_v7 : IVec S256x8192 1 := cmpf .olt main_arg1 main_v6
  let main_cst_2 : FVec F S_ .bf16 := constant S_ .bf16 0xFF80#16
  let main_v8 : FVec F S256x8192 .bf16 := broadcastInDim S256x8192 ![] bcast_S_S256x8192 main_cst_2
  let main_v9 : IVec S256x8192 1 := cmpf .ogt main_arg1 main_v8
  let main_v10 : IVec S256x8192 1 := andi main_v7 main_v9
  let main_c_3 : IVec S_ 1 := constantI S_ 1 1#1
  let main_v11 : IVec S_ 1 := (fun x v => Host.reduce IntOp.andi x v reducesTo_S256x8192_S_d0_1 h_S_) main_v10 main_c_3
  let main_v12 : IVec S_ 1 := andi main_v5 main_v11
  let main_cst_4 : FVec F S_ .bf16 := constant S_ .bf16 0x7F80#16
  let main_v13 : FVec F S256x8192 .bf16 := broadcastInDim S256x8192 ![] bcast_S_S256x8192 main_cst_4
  let main_v14 : IVec S256x8192 1 := cmpf .olt main_arg2 main_v13
  let main_cst_5 : FVec F S_ .bf16 := constant S_ .bf16 0xFF80#16
  let main_v15 : FVec F S256x8192 .bf16 := broadcastInDim S256x8192 ![] bcast_S_S256x8192 main_cst_5
  fn_part1 (F := F) main_arg2 main_arg3 main_arg4 main_arg5 main_arg6 main_v12 main_v14 main_v15
-- ==== Pre_in_mesh10.lean ====
abbrev S1 : Shape := ⟨1, ![1]⟩
abbrev S8x128x256 : Shape := ⟨3, ![8, 128, 256]⟩
abbrev S7x128x256 : Shape := ⟨3, ![7, 128, 256]⟩
abbrev S128x256 : Shape := ⟨2, ![128, 256]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x128x256 .f32) (main_arg2 : FVec F S7x128x256 .f32) (main_arg3 : FVec F S128x256 .f32) (main_arg4 : FVec F S128x256 .f32) (main_arg5 : FVec F S128x256 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_in_mesh11.lean ====
abbrev S1 : Shape := ⟨1, ![1]⟩
abbrev S8x256x1024 : Shape := ⟨3, ![8, 256, 1024]⟩
abbrev S7x256x1024 : Shape := ⟨3, ![7, 256, 1024]⟩
abbrev S256x1024 : Shape := ⟨2, ![256, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x256x1024 .f32) (main_arg2 : FVec F S7x256x1024 .bf16) (main_arg3 : FVec F S256x1024 .f32) (main_arg4 : FVec F S256x1024 .f32) (main_arg5 : FVec F S256x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_in_mesh12.lean ====
abbrev S1 : Shape := ⟨1, ![1]⟩
abbrev S8x1024x320 : Shape := ⟨3, ![8, 1024, 320]⟩
abbrev S7x1024x320 : Shape := ⟨3, ![7, 1024, 320]⟩
abbrev S1024x320 : Shape := ⟨2, ![1024, 320]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x1024x320 .f32) (main_arg2 : FVec F S7x1024x320 .bf16) (main_arg3 : FVec F S1024x320 .f32) (main_arg4 : FVec F S1024x320 .f32) (main_arg5 : FVec F S1024x320 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_in_mesh13.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x128x1024 .f32) (main_arg2 : FVec F S7x128x1024 .bf16) (main_arg3 : FVec F S128x1024 .f32) (main_arg4 : FVec F S128x1024 .f32) (main_arg5 : FVec F S128x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_in_mesh9.lean ====
abbrev S1 : Shape := ⟨1, ![1]⟩
abbrev S8x1024x640 : Shape := ⟨3, ![8, 1024, 640]⟩
abbrev S7x1024x640 : Shape := ⟨3, ![7, 1024, 640]⟩
abbrev S1024x640 : Shape := ⟨2, ![1024, 640]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S8x1024x640 .f32) (main_arg2 : FVec F S7x1024x640 .bf16) (main_arg3 : FVec F S1024x640 .f32) (main_arg4 : FVec F S1024x640 .f32) (main_arg5 : FVec F S1024x640 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Kernel.lean ====
abbrev S8192x1024 : Shape := ⟨2, ![8192, 1024]⟩
abbrev S2048x1024 : Shape := ⟨2, ![2048, 1024]⟩
abbrev S8192x3072 : Shape := ⟨2, ![8192, 3072]⟩
abbrev S4x128x128 : Shape := ⟨3, ![4, 128, 128]⟩
abbrev S4x128 : Shape := ⟨2, ![4, 128]⟩
abbrev S1024 : Shape := ⟨1, ![1024]⟩
abbrev S4x256x256 : Shape := ⟨3, ![4, 256, 256]⟩
abbrev S128x4 : Shape := ⟨2, ![128, 4]⟩
abbrev S128x4x256 : Shape := ⟨3, ![128, 4, 256]⟩
abbrev S128x1024 : Shape := ⟨2, ![128, 1024]⟩
abbrev S1x1024 : Shape := ⟨2, ![1, 1024]⟩
abbrev S8192x5120 : Shape := ⟨2, ![8192, 5120]⟩
abbrev S2048x8192 : Shape := ⟨2, ![2048, 8192]⟩
abbrev S32x128 : Shape := ⟨2, ![32, 128]⟩
abbrev S256x1024 : Shape := ⟨2, ![256, 1024]⟩
abbrev S256x3072 : Shape := ⟨2, ![256, 3072]⟩
abbrev S8x1024 : Shape := ⟨2, ![8, 1024]⟩
abbrev S256x5120 : Shape := ⟨2, ![256, 5120]⟩
abbrev S2048x256 : Shape := ⟨2, ![2048, 256]⟩
abbrev S296x1024 : Shape := ⟨2, ![296, 1024]⟩
abbrev S296x256 : Shape := ⟨2, ![296, 256]⟩
abbrev S1024x1024 : Shape := ⟨2, ![1024, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x256 : Shape := ⟨2, ![128, 256]⟩
abbrev S24x1024 : Shape := ⟨2, ![24, 1024]⟩
abbrev S256x256 : Shape := ⟨2, ![256, 256]⟩
abbrev S288x256 : Shape := ⟨2, ![288, 256]⟩
abbrev S280x256 : Shape := ⟨2, ![280, 256]⟩
abbrev S272x256 : Shape := ⟨2, ![272, 256]⟩
abbrev S1x256x256 : Shape := ⟨3, ![1, 256, 256]⟩
abbrev S256x2048 : Shape := ⟨2, ![256, 2048]⟩
abbrev S256x128 : Shape := ⟨2, ![256, 128]⟩
abbrev S128 : Shape := ⟨1, ![128]⟩
abbrev S1x128 : Shape := ⟨2, ![1, 128]⟩
abbrev S8x128 : Shape := ⟨2, ![8, 128]⟩

abbrev nBuf : Space → Nat
  | .hbm => 25
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x3072, .bf16⟩
  | .hbm, ⟨3, _⟩ => ⟨S8192x1024, .f32⟩
  | .hbm, ⟨4, _⟩ => ⟨S8192x1024, .bf16⟩
  | .hbm, ⟨5, _⟩ => ⟨S4x128x128, .f32⟩
  | .hbm, ⟨6, _⟩ => ⟨S4x128, .f32⟩
  | .hbm, ⟨7, _⟩ => ⟨S1024, .f32⟩
  | .hbm, ⟨8, _⟩ => ⟨S4x256x256, .bf16⟩
  | .hbm, ⟨9, _⟩ => ⟨S1024, .f32⟩
  | .hbm, ⟨10, _⟩ => ⟨S4x128x128, .bf16⟩
  | .hbm, ⟨11, _⟩ => ⟨S128x4, .f32⟩
  | .hbm, ⟨12, _⟩ => ⟨S128x4x256, .f32⟩
  | .hbm, ⟨13, _⟩ => ⟨S128x1024, .f32⟩
  | .hbm, ⟨14, _⟩ => ⟨S1x1024, .f32⟩
  | .hbm, ⟨15, _⟩ => ⟨S1x1024, .f32⟩
  | .hbm, ⟨16, _⟩ => ⟨S8192x5120, .bf16⟩
  | .hbm, ⟨17, _⟩ => ⟨S8192x1024, .f32⟩
  | .hbm, ⟨18, _⟩ => ⟨S2048x8192, .bf16⟩
  | .hbm, ⟨19, _⟩ => ⟨S4x128x128, .f32⟩
  | .hbm, ⟨20, _⟩ => ⟨S128x1024, .f32⟩
  | .hbm, ⟨21, _⟩ => ⟨S1x1024, .f32⟩
  | .hbm, ⟨22, _⟩ => ⟨S1x1024, .f32⟩
  | .hbm, ⟨23, _⟩ => ⟨S4x256x256, .f32⟩
  | .hbm, ⟨24, _⟩ => ⟨S32x128, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S256x3072, .bf16⟩
  | .local _ .vmem, ⟨4, _⟩ => ⟨S256x3072, .bf16⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S256x1024, .bf16⟩
  | .local _ .vmem, ⟨12, _⟩ => ⟨S256x1024, .bf16⟩
  | .local _ .vmem, ⟨13, _⟩ => ⟨S4x128x128, .bf16⟩
  | .local _ .vmem, ⟨14, _⟩ => ⟨S128x1024, .f32⟩
  | .local _ .vmem, ⟨15, _⟩ => ⟨S1x1024, .f32⟩
  | .local _ .vmem, ⟨16, _⟩ => ⟨S4x256x256, .bf16⟩
  | .local _ .vmem, ⟨17, _⟩ => ⟨S1x1024, .f32⟩
  | .local _ .vmem, ⟨18, _⟩ => ⟨S256x5120, .bf16⟩
  | .local _ .vmem, ⟨19, _⟩ => ⟨S256x5120, .bf16⟩
  | .local _ .vmem, ⟨20, _⟩ => ⟨S256x1024, .f32⟩
  | .local _ .vmem, ⟨21, _⟩ => ⟨S256x1024, .f32⟩
  | .local _ .vmem, ⟨22, _⟩ => ⟨S2048x256, .bf16⟩
  | .local _ .vmem, ⟨23, _⟩ => ⟨S2048x256, .bf16⟩
  | .local _ .vmem, ⟨24, _⟩ => ⟨S4x128x128, .f32⟩
  | .local _ .vmem, ⟨25, _⟩ => ⟨S128x1024, .f32⟩
  | .local _ .vmem, ⟨26, _⟩ => ⟨S1x1024, .f32⟩
  | .local _ .vmem, ⟨27, _⟩ => ⟨S1x1024, .f32⟩
  | .local _ .vmem, ⟨28, _⟩ => ⟨S4x256x256, .f32⟩
  | .local _ .vmem, ⟨29, _⟩ => ⟨S32x128, .f32⟩
  | .local _ .vmem, ⟨30, _⟩ => ⟨S296x1024, .f32⟩
  | .local _ .vmem, ⟨31, _⟩ => ⟨S296x256, .f32⟩
  | .local _ .vmem, ⟨32, _⟩ => ⟨S296x256, .f32⟩
  | .local _ .vmem, ⟨33, _⟩ => ⟨S296x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v6_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32_334 : BitVec 32 := 31#32
  let v541 : BitVec 1 := Scalar.cmpi .eq arg0 c31_i32_334
  let v542 : BitVec 32 := Scalar.extui v541
  let c0_i32_335 : BitVec 32 := 0#32
  let v543 : BitVec 1 := Scalar.cmpi .ne v542 c0_i32_335
  v543

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S2048x1024 : Shape := ⟨2, ![2048, 1024]⟩
abbrev S8192x3072 : Shape := ⟨2, ![8192, 3072]⟩
abbrev S4x128x128 : Shape := ⟨3, ![4, 128, 128]⟩
abbrev S4x128 : Shape := ⟨2, ![4, 128]⟩
abbrev S1024 : Shape := ⟨1, ![1024]⟩
abbrev S4x256x256 : Shape := ⟨3, ![4, 256, 256]⟩
abbrev S_ : Shape := ⟨0, ![]⟩
abbrev S8208x1024 : Shape := ⟨2, ![8208, 1024]⟩
abbrev S8192 : Shape := ⟨1, ![8192]⟩
abbrev S8192x256 : Shape := ⟨2, ![8192, 256]⟩
abbrev S8192x1 : Shape := ⟨2, ![8192, 1]⟩
abbrev S8192x1x256 : Shape := ⟨3, ![8192, 1, 256]⟩
abbrev S8192x4x256 : Shape := ⟨3, ![8192, 4, 256]⟩
abbrev S1x1024 : Shape := ⟨2, ![1, 1024]⟩
abbrev S64x128x4x256 : Shape := ⟨4, ![64, 128, 4, 256]⟩
abbrev S4x64x256x128 : Shape := ⟨4, ![4, 64, 256, 128]⟩
abbrev S128x4 : Shape := ⟨2, ![128, 4]⟩
abbrev S1x128x4x1 : Shape := ⟨4, ![1, 128, 4, 1]⟩
abbrev S4x256x8192 : Shape := ⟨3, ![4, 256, 8192]⟩
abbrev S8192x2048 : Shape := ⟨2, ![8192, 2048]⟩
abbrev S4x8192x256 : Shape := ⟨3, ![4, 8192, 256]⟩
abbrev S8192x5120 : Shape := ⟨2, ![8192, 5120]⟩
abbrev S2048x8192 : Shape := ⟨2, ![2048, 8192]⟩
abbrev S4x8x128 : Shape := ⟨3, ![4, 8, 128]⟩
abbrev S32x128 : Shape := ⟨2, ![32, 128]⟩

abbrev nBuf : Space → Nat
  | .hbm => 463
  | .vmem => 0
  | .smem => 0
  | _ => 0

abbrev hbmTy0_0 (i : Nat) : BufTy := match i % 128 with
  | 0 => ⟨S8192x1024, .bf16⟩
  | 1 => ⟨S2048x1024, .bf16⟩
  | 2 => ⟨S8192x3072, .bf16⟩
  | 3 => ⟨S8192x1024, .f32⟩
  | 4 => ⟨S8192x1024, .bf16⟩
  | 5 => ⟨S4x128x128, .f32⟩
  | 6 => ⟨S4x128, .f32⟩
  | 7 => ⟨S1024, .f32⟩
  | 8 => ⟨S4x256x256, .bf16⟩
  | 9 => ⟨S1024, .f32⟩
  | 10 => ⟨S8192x3072, .f32⟩
  | 11 => ⟨S8192x1024, .f32⟩
  | 12 => ⟨S8192x1024, .f32⟩
  | 13 => ⟨S8192x1024, .f32⟩
  | 14 => ⟨S_, .i32⟩
  | 15 => ⟨S_, .f32⟩
  | 16 => ⟨S8208x1024, .f32⟩
  | 17 => ⟨S8192, .i32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192x256, .f32⟩
  | 41 => ⟨S_, .f32⟩
  | 42 => ⟨S8192x256, .f32⟩
  | 43 => ⟨S8192x256, .f32⟩
  | 44 => ⟨S8192x256, .f32⟩
  | 45 => ⟨S8192x256, .f32⟩
  | 46 => ⟨S8192, .i32⟩
  | 47 => ⟨S8192, .f32⟩
  | 48 => ⟨S8192x1, .f32⟩
  | 49 => ⟨S8192x256, .f32⟩
  | 50 => ⟨S8192x256, .f32⟩
  | 51 => ⟨S8192x256, .f32⟩
  | 52 => ⟨S8192x256, .f32⟩
  | 53 => ⟨S_, .i32⟩
  | 54 => ⟨S8192, .i32⟩
  | 55 => ⟨S8192, .i32⟩
  | 56 => ⟨S_, .i32⟩
  | 57 => ⟨S_, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S_, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S8192x256, .f32⟩
  | 81 => ⟨S8192x256, .f32⟩
  | 82 => ⟨S8192x256, .f32⟩
  | 83 => ⟨S8192x256, .f32⟩
  | 84 => ⟨S8192x256, .f32⟩
  | 85 => ⟨S8192, .i32⟩
  | 86 => ⟨S8192, .f32⟩
  | 87 => ⟨S8192x1, .f32⟩
  | 88 => ⟨S8192x256, .f32⟩
  | 89 => ⟨S8192x256, .f32⟩
  | 90 => ⟨S8192x256, .f32⟩
  | 91 => ⟨S8192x256, .f32⟩
  | 92 => ⟨S_, .i32⟩
  | 93 => ⟨S8192, .i32⟩
  | 94 => ⟨S8192, .i32⟩
  | 95 => ⟨S_, .i32⟩
  | 96 => ⟨S_, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S_, .i32⟩
  | 107 => ⟨S_, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192x256, .f32⟩
  | 115 => ⟨S_, .f32⟩
  | 116 => ⟨S8192x256, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x1024, .bf16⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192, .i32⟩
  | 5 => ⟨S8192, .f32⟩
  | 6 => ⟨S8192x1, .f32⟩
  | 7 => ⟨S8192x256, .f32⟩
  | 8 => ⟨S8192x256, .f32⟩
  | 9 => ⟨S8192x256, .f32⟩
  | 10 => ⟨S8192x256, .f32⟩
  | 11 => ⟨S_, .i32⟩
  | 12 => ⟨S8192, .i32⟩
  | 13 => ⟨S8192, .i32⟩
  | 14 => ⟨S_, .i32⟩
  | 15 => ⟨S_, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S_, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S8192x256, .f32⟩
  | 34 => ⟨S_, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S8192, .i32⟩
  | 68 => ⟨S8192, .f32⟩
  | 69 => ⟨S8192x1, .f32⟩
  | 70 => ⟨S8192x256, .f32⟩
  | 71 => ⟨S8192x256, .f32⟩
  | 72 => ⟨S8192x256, .f32⟩
  | 73 => ⟨S8192x256, .f32⟩
  | 74 => ⟨S8192x1x256, .f32⟩
  | 75 => ⟨S8192x1x256, .f32⟩
  | 76 => ⟨S8192x1x256, .f32⟩
  | 77 => ⟨S8192x1x256, .f32⟩
  | 78 => ⟨S8192x4x256, .f32⟩
  | 79 => ⟨S8192x1024, .f32⟩
  | 80 => ⟨S4x256x256, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S8192x1024, .f32⟩
  | 101 => ⟨S_, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S_, .f32⟩
  | 127 => ⟨S8192x1024, .f32⟩
  | _ => ⟨S8192x1024, .bf16⟩

abbrev hbmTy0_2 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S64x128x4x256, .f32⟩
  | 80 => ⟨S4x64x256x128, .f32⟩
  | 81 => ⟨S64x128x4x256, .f32⟩
  | 82 => ⟨S128x4, .f32⟩
  | 83 => ⟨S1x128x4x1, .f32⟩
  | 84 => ⟨S64x128x4x256, .f32⟩
  | 85 => ⟨S64x128x4x256, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S4x256x8192, .f32⟩
  | 103 => ⟨S8192x4x256, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x2048, .f32⟩
  | 123 => ⟨S2048x1024, .f32⟩
  | 124 => ⟨S8192x1024, .f32⟩
  | 125 => ⟨S8192x1024, .f32⟩
  | 126 => ⟨S8192x2048, .f32⟩
  | 127 => ⟨S8192x1024, .f32⟩
  | _ => ⟨S8192x1024, .bf16⟩

abbrev hbmTy0_3 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S8192x4x256, .f32⟩
  | 16 => ⟨S4x256x8192, .f32⟩
  | 17 => ⟨S4x8192x256, .f32⟩
  | 18 => ⟨S8192x4x256, .f32⟩
  | 19 => ⟨S4x256x256, .f32⟩
  | 20 => ⟨S4x256x256, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S64x128x4x256, .f32⟩
  | 30 => ⟨S_, .f32⟩
  | 31 => ⟨S128x4, .f32⟩
  | 32 => ⟨S1x128x4x1, .f32⟩
  | 33 => ⟨S_, .f32⟩
  | 34 => ⟨S128x4, .f32⟩
  | 35 => ⟨S4x128, .f32⟩
  | 36 => ⟨S4x64x256x128, .f32⟩
  | 37 => ⟨S4x128x128, .f32⟩
  | 38 => ⟨S4x64x256x128, .f32⟩
  | 39 => ⟨S64x128x4x256, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S8192x1024, .f32⟩
  | 46 => ⟨S8192x1024, .f32⟩
  | 47 => ⟨S_, .f32⟩
  | 48 => ⟨S1024, .f32⟩
  | 49 => ⟨S8192x1024, .f32⟩
  | 50 => ⟨S_, .f32⟩
  | 51 => ⟨S8192, .f32⟩
  | 52 => ⟨S8192x1, .f32⟩
  | 53 => ⟨S8192x1024, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x5120, .f32⟩
  | 71 => ⟨S8192x5120, .bf16⟩
  | 72 => ⟨S8192x1024, .f32⟩
  | 73 => ⟨S2048x8192, .f32⟩
  | 74 => ⟨S2048x8192, .bf16⟩
  | 75 => ⟨S1x1024, .f32⟩
  | 76 => ⟨S1x1024, .f32⟩
  | 77 => ⟨S4x8x128, .f32⟩
  | 78 => ⟨S32x128, .f32⟩
  | _ => ⟨S8192x1024, .bf16⟩

abbrev hbmTy (i : Nat) : BufTy := match i / 128 with
  | 0 => hbmTy0_0 i
  | 1 => hbmTy0_1 i
  | 2 => hbmTy0_2 i
  | 3 => hbmTy0_3 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_c_5 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_c_8 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v26 : Ref sig .tc := ⟨.hbm, 63, rfl⟩
abbrev main_c_9 : Ref sig .tc := ⟨.hbm, 64, rfl⟩
abbrev main_v27 : Ref sig .tc := ⟨.hbm, 65, rfl⟩
abbrev main_v28 : Ref sig .tc := ⟨.hbm, 66, rfl⟩
abbrev main_c_10 : Ref sig .tc := ⟨.hbm, 67, rfl⟩
abbrev main_c_11 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v29 : Ref sig .tc := ⟨.hbm, 74, rfl⟩
abbrev main_v30 : Ref sig .tc := ⟨.hbm, 75, rfl⟩
abbrev main_cst_12 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_13 : Ref sig .tc := ⟨.hbm, 92, rfl⟩
abbrev main_v46 : Ref sig .tc := ⟨.hbm, 93, rfl⟩
abbrev main_v47 : Ref sig .tc := ⟨.hbm, 94, rfl⟩
abbrev main_c_14 : Ref sig .tc := ⟨.hbm, 95, rfl⟩
abbrev main_c_15 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v48 : Ref sig .tc := ⟨.hbm, 102, rfl⟩
abbrev main_c_16 : Ref sig .tc := ⟨.hbm, 103, rfl⟩
abbrev main_v49 : Ref sig .tc := ⟨.hbm, 104, rfl⟩
abbrev main_v50 : Ref sig .tc := ⟨.hbm, 105, rfl⟩
abbrev main_c_17 : Ref sig .tc := ⟨.hbm, 106, rfl⟩
abbrev main_c_18 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_v51 : Ref sig .tc := ⟨.hbm, 113, rfl⟩
abbrev main_v52 : Ref sig .tc := ⟨.hbm, 114, rfl⟩
abbrev main_cst_19 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_c_20 : Ref sig .tc := ⟨.hbm, 139, rfl⟩
abbrev main_v76 : Ref sig .tc := ⟨.hbm, 140, rfl⟩
abbrev main_v77 : Ref sig .tc := ⟨.hbm, 141, rfl⟩
abbrev main_c_21 : Ref sig .tc := ⟨.hbm, 142, rfl⟩
abbrev main_c_22 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_v78 : Ref sig .tc := ⟨.hbm, 149, rfl⟩
abbrev main_c_23 : Ref sig .tc := ⟨.hbm, 150, rfl⟩
abbrev main_v79 : Ref sig .tc := ⟨.hbm, 151, rfl⟩
abbrev main_v80 : Ref sig .tc := ⟨.hbm, 152, rfl⟩
abbrev main_c_24 : Ref sig .tc := ⟨.hbm, 153, rfl⟩
abbrev main_c_25 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_v81 : Ref sig .tc := ⟨.hbm, 160, rfl⟩
abbrev main_v82 : Ref sig .tc := ⟨.hbm, 161, rfl⟩
abbrev main_cst_26 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_27 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_cst_28 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_cst_29 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_cst_30 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_31 : Ref sig .tc := ⟨.hbm, 229, rfl⟩
abbrev main_v145 : Ref sig .tc := ⟨.hbm, 230, rfl⟩
abbrev main_v146 : Ref sig .tc := ⟨.hbm, 231, rfl⟩
abbrev main_cst_32 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_cst_33 : Ref sig .tc := ⟨.hbm, 236, rfl⟩
abbrev main_v150 : Ref sig .tc := ⟨.hbm, 237, rfl⟩
abbrev main_v151 : Ref sig .tc := ⟨.hbm, 238, rfl⟩
abbrev main_cst_34 : Ref sig .tc := ⟨.hbm, 239, rfl⟩
abbrev main_v152 : Ref sig .tc := ⟨.hbm, 240, rfl⟩
abbrev main_v153 : Ref sig .tc := ⟨.hbm, 241, rfl⟩
abbrev main_cst_35 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_36 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_cst_37 : Ref sig .tc := ⟨.hbm, 251, rfl⟩
abbrev main_v161 : Ref sig .tc := ⟨.hbm, 252, rfl⟩
abbrev main_v162 : Ref sig .tc := ⟨.hbm, 253, rfl⟩
abbrev main_cst_38 : Ref sig .tc := ⟨.hbm, 254, rfl⟩
abbrev main_v163 : Ref sig .tc := ⟨.hbm, 255, rfl⟩
abbrev main_v164 : Ref sig .tc := ⟨.hbm, 256, rfl⟩
abbrev main_cst_39 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_cst_40 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_cst_41 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_cst_42 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_cst_43 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_cst_44 : Ref sig .tc := ⟨.hbm, 282, rfl⟩
abbrev main_v185 : Ref sig .tc := ⟨.hbm, 283, rfl⟩
abbrev main_v186 : Ref sig .tc := ⟨.hbm, 284, rfl⟩
abbrev main_cst_45 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_cst_46 : Ref sig .tc := ⟨.hbm, 289, rfl⟩
abbrev main_v190 : Ref sig .tc := ⟨.hbm, 290, rfl⟩
abbrev main_v191 : Ref sig .tc := ⟨.hbm, 291, rfl⟩
abbrev main_cst_47 : Ref sig .tc := ⟨.hbm, 292, rfl⟩
abbrev main_v192 : Ref sig .tc := ⟨.hbm, 293, rfl⟩
abbrev main_v193 : Ref sig .tc := ⟨.hbm, 294, rfl⟩
abbrev main_cst_48 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_cst_49 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_cst_50 : Ref sig .tc := ⟨.hbm, 304, rfl⟩
abbrev main_v201 : Ref sig .tc := ⟨.hbm, 305, rfl⟩
abbrev main_v202 : Ref sig .tc := ⟨.hbm, 306, rfl⟩
abbrev main_cst_51 : Ref sig .tc := ⟨.hbm, 307, rfl⟩
abbrev main_v203 : Ref sig .tc := ⟨.hbm, 308, rfl⟩
abbrev main_v204 : Ref sig .tc := ⟨.hbm, 309, rfl⟩
abbrev main_cst_52 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_cst_53 : Ref sig .tc := ⟨.hbm, 316, rfl⟩
abbrev main_v210 : Ref sig .tc := ⟨.hbm, 317, rfl⟩
abbrev main_v211 : Ref sig .tc := ⟨.hbm, 318, rfl⟩
abbrev main_cst_54 : Ref sig .tc := ⟨.hbm, 319, rfl⟩
abbrev main_v212 : Ref sig .tc := ⟨.hbm, 320, rfl⟩
abbrev main_v213 : Ref sig .tc := ⟨.hbm, 321, rfl⟩
abbrev main_cst_55 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_56 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_call9_v0 : Ref sig .tc := ⟨.hbm, 344, rfl⟩
abbrev main_call9_v1 : Ref sig .tc := ⟨.hbm, 345, rfl⟩
abbrev main_call9_cst : Ref sig .tc := ⟨.hbm, 346, rfl⟩
abbrev main_call9_v2 : Ref sig .tc := ⟨.hbm, 347, rfl⟩
abbrev main_call9_v3 : Ref sig .tc := ⟨.hbm, 348, rfl⟩
abbrev main_call9_cst_0 : Ref sig .tc := ⟨.hbm, 349, rfl⟩
abbrev main_call9_v4 : Ref sig .tc := ⟨.hbm, 350, rfl⟩
abbrev main_v234_2 : Ref sig .tc := ⟨.hbm, 351, rfl⟩
abbrev main_call9_cst_1 : Ref sig .tc := ⟨.hbm, 352, rfl⟩
abbrev main_call9_v6 : Ref sig .tc := ⟨.hbm, 353, rfl⟩
abbrev main_call9_v7 : Ref sig .tc := ⟨.hbm, 354, rfl⟩
abbrev main_v234_1 : Ref sig .tc := ⟨.hbm, 355, rfl⟩
abbrev main_v234_0 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_call10_v0 : Ref sig .tc := ⟨.hbm, 364, rfl⟩
abbrev main_call10_v1 : Ref sig .tc := ⟨.hbm, 365, rfl⟩
abbrev main_call10_cst : Ref sig .tc := ⟨.hbm, 366, rfl⟩
abbrev main_call10_v2 : Ref sig .tc := ⟨.hbm, 367, rfl⟩
abbrev main_call10_v3 : Ref sig .tc := ⟨.hbm, 368, rfl⟩
abbrev main_call10_cst_0 : Ref sig .tc := ⟨.hbm, 369, rfl⟩
abbrev main_call10_v4 : Ref sig .tc := ⟨.hbm, 370, rfl⟩
abbrev main_v242_2 : Ref sig .tc := ⟨.hbm, 371, rfl⟩
abbrev main_call10_cst_1 : Ref sig .tc := ⟨.hbm, 372, rfl⟩
abbrev main_call10_v6 : Ref sig .tc := ⟨.hbm, 373, rfl⟩
abbrev main_call10_v7 : Ref sig .tc := ⟨.hbm, 374, rfl⟩
abbrev main_v242_1 : Ref sig .tc := ⟨.hbm, 375, rfl⟩
abbrev main_v242_0 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_v252 : Ref sig .tc := ⟨.hbm, 386, rfl⟩
abbrev main_call11_v0 : Ref sig .tc := ⟨.hbm, 387, rfl⟩
abbrev main_call11_v1 : Ref sig .tc := ⟨.hbm, 388, rfl⟩
abbrev main_call11_v2 : Ref sig .tc := ⟨.hbm, 389, rfl⟩
abbrev main_v253 : Ref sig .tc := ⟨.hbm, 390, rfl⟩
abbrev main_v254 : Ref sig .tc := ⟨.hbm, 391, rfl⟩
abbrev main_cst_57 : Ref sig .tc := ⟨.hbm, 392, rfl⟩
abbrev main_v255 : Ref sig .tc := ⟨.hbm, 393, rfl⟩
abbrev main_v256 : Ref sig .tc := ⟨.hbm, 394, rfl⟩
abbrev main_v257 : Ref sig .tc := ⟨.hbm, 395, rfl⟩
abbrev main_v258 : Ref sig .tc := ⟨.hbm, 396, rfl⟩
abbrev main_cst_58 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_v263 : Ref sig .tc := ⟨.hbm, 402, rfl⟩
abbrev main_v264 : Ref sig .tc := ⟨.hbm, 403, rfl⟩
abbrev main_v265 : Ref sig .tc := ⟨.hbm, 404, rfl⟩
abbrev main_v266 : Ref sig .tc := ⟨.hbm, 405, rfl⟩
abbrev main_v267 : Ref sig .tc := ⟨.hbm, 406, rfl⟩
abbrev main_call12_v0 : Ref sig .tc := ⟨.hbm, 407, rfl⟩
abbrev main_call12_v1 : Ref sig .tc := ⟨.hbm, 408, rfl⟩
abbrev main_call12_v2 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_v271 : Ref sig .tc := ⟨.hbm, 413, rfl⟩
abbrev main_cst_59 : Ref sig .tc := ⟨.hbm, 414, rfl⟩
abbrev main_v272 : Ref sig .tc := ⟨.hbm, 415, rfl⟩
abbrev main_v273 : Ref sig .tc := ⟨.hbm, 416, rfl⟩
abbrev main_cst_60 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_cst_61 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_cst_62 : Ref sig .tc := ⟨.hbm, 431, rfl⟩
abbrev main_v286 : Ref sig .tc := ⟨.hbm, 432, rfl⟩
abbrev main_v287 : Ref sig .tc := ⟨.hbm, 433, rfl⟩
abbrev main_cst_63 : Ref sig .tc := ⟨.hbm, 434, rfl⟩
abbrev main_v288 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_cst_64 : Ref sig .tc := ⟨.hbm, 440, rfl⟩
abbrev main_v293 : Ref sig .tc := ⟨.hbm, 441, rfl⟩
abbrev main_v294 : Ref sig .tc := ⟨.hbm, 442, rfl⟩
abbrev main_cst_65 : Ref sig .tc := ⟨.hbm, 443, rfl⟩
abbrev main_v295 : Ref sig .tc := ⟨.hbm, 444, rfl⟩
abbrev main_v296 : Ref sig .tc := ⟨.hbm, 445, rfl⟩
abbrev main_v297 : Ref sig .tc := ⟨.hbm, 446, rfl⟩
abbrev main_v298 : Ref sig .tc := ⟨.hbm, 447, rfl⟩
abbrev main_v299 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_cst_66 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_v308 : Ref sig .tc := ⟨.hbm, 458, rfl⟩
abbrev main_v309 : Ref sig .tc := ⟨.hbm, 459, rfl⟩
abbrev main_v310 : Ref sig .tc := ⟨.hbm, 460, rfl⟩
abbrev main_v311 : Ref sig .tc := ⟨.hbm, 461, rfl⟩
abbrev main_v312 : Ref sig .tc := ⟨.hbm, 462, rfl⟩

abbrev nD : Nat := 1
abbrev τ : Topo := Topo.v7x

variable {F : FTy → Type} [FloatOps F]
-- ==== Kernel2.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5120, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5120, .f32⟩
  | .hbm, ⟨27, _⟩ => ⟨S8192x5120, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S1024x8192 : Shape := ⟨2, ![1024, 8192]⟩
abbrev S8192x5120 : Shape := ⟨2, ![8192, 5120]⟩
abbrev S8x1024x640 : Shape := ⟨3, ![8, 1024, 640]⟩
abbrev S1024x1024 : Shape := ⟨2, ![1024, 1024]⟩
abbrev S1024x1280 : Shape := ⟨2, ![1024, 1280]⟩
abbrev S2x1024x640 : Shape := ⟨3, ![2, 1024, 640]⟩
abbrev S1024x640 : Shape := ⟨2, ![1024, 640]⟩
abbrev S1x1024x640 : Shape := ⟨3, ![1, 1024, 640]⟩

abbrev nBuf : Space → Nat
  | .hbm => 4
  | .vmem => 9
  | .smem => 0
  | _ => 0

abbrev bufTy : (tb : Table) → Fin (tcTables nBuf tb) → BufTy
  | .hbm, ⟨0, _⟩ => ⟨S1024x8192, .bf16⟩
  | .hbm, ⟨1, _⟩ => ⟨S8192x5120, .bf16⟩
  | .hbm, ⟨2, _⟩ => ⟨S8x1024x640, .f32⟩
  | .hbm, ⟨3, _⟩ => ⟨S8x1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2x1024x640, .f32⟩
  | .local _ .vmem, ⟨5, _⟩ => ⟨S2x1024x640, .f32⟩
  | .local _ .vmem, ⟨6, _⟩ => ⟨S2x1024x640, .bf16⟩
  | .local _ .vmem, ⟨7, _⟩ => ⟨S2x1024x640, .bf16⟩
  | .local _ .vmem, ⟨8, _⟩ => ⟨S1024x1280, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S1024x8192 : Shape := ⟨2, ![1024, 8192]⟩
abbrev S8192x5120 : Shape := ⟨2, ![8192, 5120]⟩
abbrev S_ : Shape := ⟨0, ![]⟩
abbrev S1024x5120 : Shape := ⟨2, ![1024, 5120]⟩
abbrev S8192x1024 : Shape := ⟨2, ![8192, 1024]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x5120, .bf16⟩
  | .hbm, ⟨2, _⟩ => ⟨S1024x8192, .f32⟩
  | .hbm, ⟨3, _⟩ => ⟨S_, .f32⟩
  | .hbm, ⟨4, _⟩ => ⟨S1024x5120, .f32⟩
  | .hbm, ⟨5, _⟩ => ⟨S8192x1024, .f32⟩
  | .hbm, ⟨6, _⟩ => ⟨S8192x5120, .f32⟩
  | .hbm, ⟨7, _⟩ => ⟨S8192x5120, .f32⟩
  | .hbm, ⟨8, _⟩ => ⟨S5120x1024, .f32⟩
  | .hbm, ⟨9, _⟩ => ⟨S1024x5120, .f32⟩
  | .hbm, ⟨10, _⟩ => ⟨S1024x8x640, .f32⟩
  | .hbm, ⟨11, _⟩ => ⟨S8x1024x640, .f32⟩
  | .hbm, ⟨12, _⟩ => ⟨S8x1024x640, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S2048x8192 : Shape := ⟨2, ![2048, 8192]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S2048x1024, .f32⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .bf16⟩
  | .local _ .vmem, ⟨6, _⟩ => ⟨S2048x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S2048x8192 : Shape := ⟨2, ![2048, 8192]⟩
abbrev S8192x1024 : Shape := ⟨2, ![8192, 1024]⟩
abbrev S8192x2048 : Shape := ⟨2, ![8192, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S1024x8192 : Shape := ⟨2, ![1024, 8192]⟩
abbrev S2560x8192 : Shape := ⟨2, ![2560, 8192]⟩
abbrev S8x1024x320 : Shape := ⟨3, ![8, 1024, 320]⟩
abbrev S1024x1024 : Shape := ⟨2, ![1024, 1024]⟩
abbrev S1280x1024 : Shape := ⟨2, ![1280, 1024]⟩
abbrev S4x1024x320 : Shape := ⟨3, ![4, 1024, 320]⟩
abbrev S1024x1280 : Shape := ⟨2, ![1024, 1280]⟩
abbrev S1024x320 : Shape := ⟨2, ![1024, 320]⟩
abbrev S1x1024x320 : Shape := ⟨3, ![1, 1024, 320]⟩

abbrev nBuf : Space → Nat
  | .hbm => 4
  | .vmem => 9
  | .smem => 0
  | _ => 0

abbrev bufTy : (tb : Table) → Fin (tcTables nBuf tb) → BufTy
  | .hbm, ⟨0, _⟩ => ⟨S1024x8192, .bf16⟩
  | .hbm, ⟨1, _⟩ => ⟨S2560x8192, .bf16⟩
  | .hbm, ⟨2, _⟩ => ⟨S8x1024x320, .f32⟩
  | .hbm, ⟨3, _⟩ => ⟨S8x1024x320, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S4x1024x320, .f32⟩
  | .local _ .vmem, ⟨5, _⟩ => ⟨S4x1024x320, .f32⟩
  | .local _ .vmem, ⟨6, _⟩ => ⟨S4x1024x320, .bf16⟩
  | .local _ .vmem, ⟨7, _⟩ => ⟨S4x1024x320, .bf16⟩
  | .local _ .vmem, ⟨8, _⟩ => ⟨S1024x1280, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x320 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S1024x8192 : Shape := ⟨2, ![1024, 8192]⟩
abbrev S2560x8192 : Shape := ⟨2, ![2560, 8192]⟩
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x8x320 : Shape := ⟨3, ![1024, 8, 320]⟩
abbrev S8x1024x320 : Shape := ⟨3, ![8, 1024, 320]⟩

abbrev nBuf : Space → Nat
  | .hbm => 14
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S2560x8192, .bf16⟩
  | .hbm, ⟨2, _⟩ => ⟨S1024x8192, .f32⟩
  | .hbm, ⟨3, _⟩ => ⟨S8192x1024, .f32⟩
  | .hbm, ⟨4, _⟩ => ⟨S2560x8192, .f32⟩
  | .hbm, ⟨5, _⟩ => ⟨S8192x2560, .f32⟩
  | .hbm, ⟨6, _⟩ => ⟨S_, .f32⟩
  | .hbm, ⟨7, _⟩ => ⟨S1024x2560, .f32⟩
  | .hbm, ⟨8, _⟩ => ⟨S8192x2560, .f32⟩
  | .hbm, ⟨9, _⟩ => ⟨S2560x1024, .f32⟩
  | .hbm, ⟨10, _⟩ => ⟨S1024x2560, .f32⟩
  | .hbm, ⟨11, _⟩ => ⟨S1024x8x320, .f32⟩
  | .hbm, ⟨12, _⟩ => ⟨S8x1024x320, .f32⟩
  | .hbm, ⟨13, _⟩ => ⟨S8x1024x320, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S2560x1024 : Shape := ⟨2, ![2560, 1024]⟩
abbrev S8 : Shape := ⟨1, ![8]⟩
abbrev S_ : Shape := ⟨0, ![]⟩
abbrev S8x1 : Shape := ⟨2, ![8, 1]⟩
abbrev S8192 : Shape := ⟨1, ![8192]⟩
abbrev S1x8192 : Shape := ⟨2, ![1, 8192]⟩
abbrev S8x8192 : Shape := ⟨2, ![8, 8192]⟩
abbrev S1x1024 : Shape := ⟨2, ![1, 1024]⟩
abbrev S1024x8192 : Shape := ⟨2, ![1024, 8192]⟩
abbrev S256x8192 : Shape := ⟨2, ![256, 8192]⟩
abbrev S512x1024 : Shape := ⟨2, ![512, 1024]⟩
abbrev S8x512 : Shape := ⟨2, ![8, 512]⟩
abbrev S1024x512 : Shape := ⟨2, ![1024, 512]⟩
abbrev S256x512 : Shape := ⟨2, ![256, 512]⟩
abbrev S512 : Shape := ⟨1, ![512]⟩
abbrev S512x1 : Shape := ⟨2, ![512, 1]⟩
abbrev S1024x1024 : Shape := ⟨2, ![1024, 1024]⟩
abbrev S48x512 : Shape := ⟨2, ![48, 512]⟩
abbrev S256x1024 : Shape := ⟨2, ![256, 1024]⟩

abbrev nBuf : Space → Nat
  | .hbm => 31
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2560x1024, .bf16⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8192, .f32⟩
  | .hbm, ⟨19, _⟩ => ⟨S1x8192, .f32⟩
  | .hbm, ⟨20, _⟩ => ⟨S8x8192, .f32⟩
  | .hbm, ⟨21, _⟩ => ⟨S8x8192, .f32⟩
  | .hbm, ⟨22, _⟩ => ⟨S8x8192, .f32⟩
  | .hbm, ⟨23, _⟩ => ⟨S8x8192, .f32⟩
  | .hbm, ⟨24, _⟩ => ⟨S8x8192, .f32⟩
  | .hbm, ⟨25, _⟩ => ⟨S1x1024, .f32⟩
  | .hbm, ⟨26, _⟩ => ⟨S1024x8192, .bf16⟩
  | .hbm, ⟨27, _⟩ => ⟨S256x8192, .bf16⟩
  | .hbm, ⟨28, _⟩ => ⟨S256x8192, .bf16⟩
  | .hbm, ⟨29, _⟩ => ⟨S1024x8192, .bf16⟩
  | .hbm, ⟨30, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .bf16⟩
  | .local _ .vmem, ⟨9, _⟩ => ⟨S1024x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8192x1024 : Shape := ⟨2, ![8192, 1024]⟩
abbrev S1024 : Shape := ⟨1, ![1024]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩
abbrev S8192x2560 : Shape := ⟨2, ![8192, 2560]⟩
abbrev S8192x256 : Shape := ⟨2, ![8192, 256]⟩
abbrev S8192x16x64 : Shape := ⟨3, ![8192, 16, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x16x16 : Shape := ⟨3, ![8192, 16, 16]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x16 : Shape := ⟨3, ![8192, 4, 16]⟩
abbrev S8192x4x8 : Shape := ⟨3, ![8192, 4, 8]⟩
abbrev S8192x4x48 : Shape := ⟨3, ![8192, 4, 48]⟩
abbrev S1024x8192 : Shape := ⟨2, ![1024, 8192]⟩
abbrev S256x8192 : Shape := ⟨2, ![256, 8192]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2560x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S2560x1024, .f32⟩
  | .hbm, ⟨20, _⟩ => ⟨S1024x2560, .f32⟩
  | .hbm, ⟨21, _⟩ => ⟨S8192x2560, .f32⟩
  | .hbm, ⟨22, _⟩ => ⟨S8192, .i32⟩
  | .hbm, ⟨23, _⟩ => ⟨S8192x1024, .f32⟩
  | .hbm, ⟨24, _⟩ => ⟨S8192x256, .f32⟩
  | .hbm, ⟨25, _⟩ => ⟨S8192x256, .f32⟩
  | .hbm, ⟨26, _⟩ => ⟨S8192x1024, .f32⟩
  | .hbm, ⟨27, _⟩ => ⟨S8192x16x64, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8192, .f32⟩
  | .hbm, ⟨43, _⟩ => ⟨S8192x1, .f32⟩
  | .hbm, ⟨44, _⟩ => ⟨S1x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x1x8, .f32⟩
  | .hbm, ⟨50, _⟩ => ⟨S8192x8, .f32⟩
  | .hbm, ⟨51, _⟩ => ⟨S8192x1x8, .f32⟩
  | .hbm, ⟨52, _⟩ => ⟨S8192x16x16, .f32⟩
  | .hbm, ⟨53, _⟩ => ⟨S8192x16x8, .f32⟩
  | .hbm, ⟨54, _⟩ => ⟨S8192x16x8, .f32⟩
  | .hbm, ⟨55, _⟩ => ⟨S8192x16x8, .f32⟩
  | .hbm, ⟨56, _⟩ => ⟨S8192x16x8, .f32⟩
  | .hbm, ⟨57, _⟩ => ⟨S8192x16x8, .f32⟩
  | .hbm, ⟨58, _⟩ => ⟨S8192x16x8, .f32⟩
  | .hbm, ⟨59, _⟩ => ⟨S8192x16x8, .f32⟩
  | .hbm, ⟨60, _⟩ => ⟨S8192x16x8, .f32⟩
  | .hbm, ⟨61, _⟩ => ⟨S8192x16x8, .f32⟩
  | .hbm, ⟨62, _⟩ => ⟨S8192x16x8, .f32⟩
  | .hbm, ⟨63, _⟩ => ⟨S8192x16x8, .f32⟩
  | .hbm, ⟨64, _⟩ => ⟨S8192x16x8, .f32⟩
  | .hbm, ⟨65, _⟩ => ⟨S8192x16x16, .f32⟩
  | .hbm, ⟨66, _⟩ => ⟨S8192x16x48, .f32⟩
  | .hbm, ⟨67, _⟩ => ⟨S8192x16x64, .f32⟩
  | .hbm, ⟨68, _⟩ => ⟨S8192x4x64, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S8192, .f32⟩
  | .hbm, ⟨84, _⟩ => ⟨S8192x1, .f32⟩
  | .hbm, ⟨85, _⟩ => ⟨S1x8, .f32⟩
  | .hbm, ⟨86, _⟩ => ⟨S8192x8, .f32⟩
  | .hbm, ⟨87, _⟩ => ⟨S8192x8, .f32⟩
  | .hbm, ⟨88, _⟩ => ⟨S8192x8, .f32⟩
  | .hbm, ⟨89, _⟩ => ⟨S8192x8, .f32⟩
  | .hbm, ⟨90, _⟩ => ⟨S8192x1x8, .f32⟩
  | .hbm, ⟨91, _⟩ => ⟨S8192x8, .f32⟩
  | .hbm, ⟨92, _⟩ => ⟨S8192x1x8, .f32⟩
  | .hbm, ⟨93, _⟩ => ⟨S8192x4x16, .f32⟩
  | .hbm, ⟨94, _⟩ => ⟨S8192x4x8, .f32⟩
  | .hbm, ⟨95, _⟩ => ⟨S8192x4x8, .f32⟩
  | .hbm, ⟨96, _⟩ => ⟨S8192x4x8, .f32⟩
  | .hbm, ⟨97, _⟩ => ⟨S8192x4x8, .f32⟩
  | .hbm, ⟨98, _⟩ => ⟨S8192x4x8, .f32⟩
  | .hbm, ⟨99, _⟩ => ⟨S8192x4x8, .f32⟩
  | .hbm, ⟨100, _⟩ => ⟨S8192x4x8, .f32⟩
  | .hbm, ⟨101, _⟩ => ⟨S8192x4x8, .f32⟩
  | .hbm, ⟨102, _⟩ => ⟨S8192x4x8, .f32⟩
  | .hbm, ⟨103, _⟩ => ⟨S8192x4x8, .f32⟩
  | .hbm, ⟨104, _⟩ => ⟨S8192x4x8, .f32⟩
  | .hbm, ⟨105, _⟩ => ⟨S8192x4x8, .f32⟩
  | .hbm, ⟨106, _⟩ => ⟨S8192x4x16, .f32⟩
  | .hbm, ⟨107, _⟩ => ⟨S8192x4x48, .f32⟩
  | .hbm, ⟨108, _⟩ => ⟨S8192x4x64, .f32⟩
  | .hbm, ⟨109, _⟩ => ⟨S8192x1024, .f32⟩
  | .hbm, ⟨110, _⟩ => ⟨S8192x256, .f32⟩
  | .hbm, ⟨111, _⟩ => ⟨S_, .f32⟩
  | .hbm, ⟨112, _⟩ => ⟨S8192x1024, .f32⟩
  | .hbm, ⟨113, _⟩ => ⟨S8192x1024, .f32⟩
  | .hbm, ⟨114, _⟩ => ⟨S1024x8192, .f32⟩
  | .hbm, ⟨115, _⟩ => ⟨S1024x8192, .bf16⟩
  | .hbm, ⟨116, _⟩ => ⟨S256x8192, .f32⟩
  | .hbm, ⟨117, _⟩ => ⟨S256x8192, .bf16⟩
  | .hbm, ⟨118, _⟩ => ⟨S256x8192, .f32⟩
  | .hbm, ⟨119, _⟩ => ⟨S256x8192, .bf16⟩
  | .hbm, ⟨120, _⟩ => ⟨S1024x8192, .f32⟩
  | .hbm, ⟨121, _⟩ => ⟨S1024x8192, .bf16⟩
  | .hbm, ⟨122, _⟩ => ⟨S1024x8192, .f32⟩
  | .hbm, ⟨123, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_10 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩

abbrev nD : Nat := 1
abbrev τ : Topo := Topo.v7x

variable {F : FTy → Type} [FloatOps F]
-- ==== Kernel6.lean ====
abbrev S1024x8192 : Shape := ⟨2, ![1024, 8192]⟩
abbrev S256x8192 : Shape := ⟨2, ![256, 8192]⟩
abbrev S2560x1024 : Shape := ⟨2, ![2560, 1024]⟩
abbrev S8192x1024 : Shape := ⟨2, ![8192, 1024]⟩
abbrev S1024 : Shape := ⟨1, ![1024]⟩
abbrev S8 : Shape := ⟨1, ![8]⟩
abbrev S_ : Shape := ⟨0, ![]⟩
abbrev S8x1 : Shape := ⟨2, ![8, 1]⟩
abbrev S8192 : Shape := ⟨1, ![8192]⟩
abbrev S1x8192 : Shape := ⟨2, ![1, 8192]⟩
abbrev S8x8192 : Shape := ⟨2, ![8, 8192]⟩
abbrev S1x1024 : Shape := ⟨2, ![1, 1024]⟩
abbrev S2560x8192 : Shape := ⟨2, ![2560, 8192]⟩
abbrev S1024x512 : Shape := ⟨2, ![1024, 512]⟩
abbrev S256x512 : Shape := ⟨2, ![256, 512]⟩
abbrev S8x512 : Shape := ⟨2, ![8, 512]⟩
abbrev S512x1024 : Shape := ⟨2, ![512, 1024]⟩
abbrev S2560x512 : Shape := ⟨2, ![2560, 512]⟩
abbrev S48x512 : Shape := ⟨2, ![48, 512]⟩
abbrev S512 : Shape := ⟨1, ![512]⟩
abbrev S512x1 : Shape := ⟨2, ![512, 1]⟩

abbrev nBuf : Space → Nat
  | .hbm => 35
  | .vmem => 25
  | .smem => 0
  | _ => 0

abbrev bufTy : (tb : Table) → Fin (tcTables nBuf tb) → BufTy
  | .hbm, ⟨0, _⟩ => ⟨S1024x8192, .bf16⟩
  | .hbm, ⟨1, _⟩ => ⟨S256x8192, .bf16⟩
  | .hbm, ⟨2, _⟩ => ⟨S256x8192, .bf16⟩
  | .hbm, ⟨3, _⟩ => ⟨S1024x8192, .bf16⟩
  | .hbm, ⟨4, _⟩ => ⟨S2560x1024, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S8192, .f32⟩
  | .hbm, ⟨24, _⟩ => ⟨S1x8192, .f32⟩
  | .hbm, ⟨25, _⟩ => ⟨S8x8192, .f32⟩
  | .hbm, ⟨26, _⟩ => ⟨S8x8192, .f32⟩
  | .hbm, ⟨27, _⟩ => ⟨S8x8192, .f32⟩
  | .hbm, ⟨28, _⟩ => ⟨S8x8192, .f32⟩
  | .hbm, ⟨29, _⟩ => ⟨S8x8192, .f32⟩
  | .hbm, ⟨30, _⟩ => ⟨S1x1024, .f32⟩
  | .hbm, ⟨31, _⟩ => ⟨S8192x1024, .f32⟩
  | .hbm, ⟨32, _⟩ => ⟨S8192x1024, .bf16⟩
  | .hbm, ⟨33, _⟩ => ⟨S2560x8192, .bf16⟩
  | .hbm, ⟨34, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2560x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S2560x512, .bf16⟩
  | .local _ .vmem, ⟨23, _⟩ => ⟨S2560x512, .bf16⟩
  | .local _ .vmem, ⟨24, _⟩ => ⟨S1x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2560x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S1024x8192 : Shape := ⟨2, ![1024, 8192]⟩
abbrev S256x8192 : Shape := ⟨2, ![256, 8192]⟩
abbrev S2560x1024 : Shape := ⟨2, ![2560, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩
abbrev S8192x2560 : Shape := ⟨2, ![8192, 2560]⟩
abbrev S8192x256 : Shape := ⟨2, ![8192, 256]⟩
abbrev S8192x16x64 : Shape := ⟨3, ![8192, 16, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x16x16 : Shape := ⟨3, ![8192, 16, 16]⟩
abbrev S8192x16x8 : Shape := ⟨3, ![8192, 16, 8]⟩
abbrev S8192x16x48 : Shape := ⟨3, ![8192, 16, 48]⟩
abbrev S8192x4x64 : Shape := ⟨3, ![8192, 4, 64]⟩
abbrev S8192x4x16 : Shape := ⟨3, ![8192, 4, 16]⟩
abbrev S8192x4x8 : Shape := ⟨3, ![8192, 4, 8]⟩
abbrev S8192x4x48 : Shape := ⟨3, ![8192, 4, 48]⟩
abbrev S2560x8192 : Shape := ⟨2, ![2560, 8192]⟩

abbrev nBuf : Space → Nat
  | .hbm => 214
  | .vmem => 0
  | .smem => 0
  | _ => 0

abbrev hbmTy0_0 (i : Nat) : BufTy := match i % 128 with
  | 0 => ⟨S1024x8192, .bf16⟩
  | 1 => ⟨S256x8192, .bf16⟩
  | 2 => ⟨S256x8192, .bf16⟩
  | 3 => ⟨S1024x8192, .bf16⟩
  | 4 => ⟨S2560x1024, .bf16⟩
  | 5 => ⟨S8192x1024, .f32⟩
  | 6 => ⟨S1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S2560x1024, .f32⟩
  | 29 => ⟨S1024x2560, .f32⟩
  | 30 => ⟨S8192x2560, .f32⟩
  | 31 => ⟨S8192, .i32⟩
  | 32 => ⟨S8192x1024, .f32⟩
  | 33 => ⟨S8192x256, .f32⟩
  | 34 => ⟨S8192x256, .f32⟩
  | 35 => ⟨S8192x1024, .f32⟩
  | 36 => ⟨S8192x16x64, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8192, .f32⟩
  | 52 => ⟨S8192x1, .f32⟩
  | 53 => ⟨S1x8, .f32⟩
  | 54 => ⟨S8192x8, .f32⟩
  | 55 => ⟨S8192x8, .f32⟩
  | 56 => ⟨S8192x8, .f32⟩
  | 57 => ⟨S8192x8, .f32⟩
  | 58 => ⟨S8192x1x8, .f32⟩
  | 59 => ⟨S8192x8, .f32⟩
  | 60 => ⟨S8192x1x8, .f32⟩
  | 61 => ⟨S8192x16x16, .f32⟩
  | 62 => ⟨S8192x16x8, .f32⟩
  | 63 => ⟨S8192x16x8, .f32⟩
  | 64 => ⟨S8192x16x8, .f32⟩
  | 65 => ⟨S8192x16x8, .f32⟩
  | 66 => ⟨S8192x16x8, .f32⟩
  | 67 => ⟨S8192x16x8, .f32⟩
  | 68 => ⟨S8192x16x8, .f32⟩
  | 69 => ⟨S8192x16x8, .f32⟩
  | 70 => ⟨S8192x16x8, .f32⟩
  | 71 => ⟨S8192x16x8, .f32⟩
  | 72 => ⟨S8192x16x8, .f32⟩
  | 73 => ⟨S8192x16x8, .f32⟩
  | 74 => ⟨S8192x16x16, .f32⟩
  | 75 => ⟨S8192x16x48, .f32⟩
  | 76 => ⟨S8192x16x64, .f32⟩
  | 77 => ⟨S8192x4x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S8192, .f32⟩
  | 93 => ⟨S8192x1, .f32⟩
  | 94 => ⟨S1x8, .f32⟩
  | 95 => ⟨S8192x8, .f32⟩
  | 96 => ⟨S8192x8, .f32⟩
  | 97 => ⟨S8192x8, .f32⟩
  | 98 => ⟨S8192x8, .f32⟩
  | 99 => ⟨S8192x1x8, .f32⟩
  | 100 => ⟨S8192x8, .f32⟩
  | 101 => ⟨S8192x1x8, .f32⟩
  | 102 => ⟨S8192x4x16, .f32⟩
  | 103 => ⟨S8192x4x8, .f32⟩
  | 104 => ⟨S8192x4x8, .f32⟩
  | 105 => ⟨S8192x4x8, .f32⟩
  | 106 => ⟨S8192x4x8, .f32⟩
  | 107 => ⟨S8192x4x8, .f32⟩
  | 108 => ⟨S8192x4x8, .f32⟩
  | 109 => ⟨S8192x4x8, .f32⟩
  | 110 => ⟨S8192x4x8, .f32⟩
  | 111 => ⟨S8192x4x8, .f32⟩
  | 112 => ⟨S8192x4x8, .f32⟩
  | 113 => ⟨S8192x4x8, .f32⟩
  | 114 => ⟨S8192x4x8, .f32⟩
  | 115 => ⟨S8192x4x16, .f32⟩
  | 116 => ⟨S8192x4x48, .f32⟩
  | 117 => ⟨S8192x4x64, .f32⟩
  | 118 => ⟨S8192x1024, .f32⟩
  | 119 => ⟨S8192x256, .f32⟩
  | 120 => ⟨S1024x8192, .f32⟩
  | 121 => ⟨S8192x1024, .f32⟩
  | 122 => ⟨S256x8192, .f32⟩
  | 123 => ⟨S8192x256, .f32⟩
  | 124 => ⟨S256x8192, .f32⟩
  | 125 => ⟨S8192x256, .f32⟩
  | 126 => ⟨S1024x8192, .f32⟩
  | 127 => ⟨S8192x1024, .f32⟩
  | _ => ⟨S1024x8192, .bf16⟩

abbrev hbmTy0_1 (i : Nat) : BufTy := match i % 128 with
  | 0 => ⟨S8192x4x64, .f32⟩
  | 1 => ⟨S8192x16x64, .f32⟩
  | 2 => ⟨S8192x4x16, .f32⟩
  | 3 => ⟨S8192x4x48, .f32⟩
  | 4 => ⟨S_, .f32⟩
  | 5 => ⟨S8192x4x64, .f32⟩
  | 6 => ⟨S8192x4x8, .f32⟩
  | 7 => ⟨S8192x4x8, .f32⟩
  | 8 => ⟨S8192x4x8, .f32⟩
  | 9 => ⟨S8192x4x8, .f32⟩
  | 10 => ⟨S8192x4x8, .f32⟩
  | 11 => ⟨S8192x4x8, .f32⟩
  | 12 => ⟨S8192x4x8, .f32⟩
  | 13 => ⟨S8192x4x8, .f32⟩
  | 14 => ⟨S8192x4x8, .f32⟩
  | 15 => ⟨S8192x4x8, .f32⟩
  | 16 => ⟨S8192x4x8, .f32⟩
  | 17 => ⟨S8192x4x8, .f32⟩
  | 18 => ⟨S8192x4x8, .f32⟩
  | 19 => ⟨S_, .f32⟩
  | 20 => ⟨S8192x4x16, .f32⟩
  | 21 => ⟨S_, .f32⟩
  | 22 => ⟨S8192x4x16, .f32⟩
  | 23 => ⟨S8192x4x16, .f32⟩
  | 24 => ⟨S_, .f32⟩
  | 25 => ⟨S8192x4x64, .f32⟩
  | 26 => ⟨S8192x4x64, .f32⟩
  | 27 => ⟨S8192x256, .f32⟩
  | 28 => ⟨S8192x16x16, .f32⟩
  | 29 => ⟨S8192x16x48, .f32⟩
  | 30 => ⟨S_, .f32⟩
  | 31 => ⟨S8192x16x64, .f32⟩
  | 32 => ⟨S8192x16x8, .f32⟩
  | 33 => ⟨S8192x16x8, .f32⟩
  | 34 => ⟨S8192x16x8, .f32⟩
  | 35 => ⟨S8192x16x8, .f32⟩
  | 36 => ⟨S8192x16x8, .f32⟩
  | 37 => ⟨S8192x16x8, .f32⟩
  | 38 => ⟨S8192x16x8, .f32⟩
  | 39 => ⟨S8192x16x8, .f32⟩
  | 40 => ⟨S8192x16x8, .f32⟩
  | 41 => ⟨S8192x16x8, .f32⟩
  | 42 => ⟨S8192x16x8, .f32⟩
  | 43 => ⟨S8192x16x8, .f32⟩
  | 44 => ⟨S8192x16x8, .f32⟩
  | 45 => ⟨S_, .f32⟩
  | 46 => ⟨S8192x16x16, .f32⟩
  | 47 => ⟨S_, .f32⟩
  | 48 => ⟨S8192x16x16, .f32⟩
  | 49 => ⟨S8192x16x16, .f32⟩
  | 50 => ⟨S_, .f32⟩
  | 51 => ⟨S8192x16x64, .f32⟩
  | 52 => ⟨S8192x16x64, .f32⟩
  | 53 => ⟨S8192x1024, .f32⟩
  | 54 => ⟨S8192x2560, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S8192x1024, .f32⟩
  | 61 => ⟨S8192x1024, .f32⟩
  | 62 => ⟨S_, .f32⟩
  | 63 => ⟨S1024, .f32⟩
  | 64 => ⟨S8192x1024, .f32⟩
  | 65 => ⟨S_, .f32⟩
  | 66 => ⟨S8192, .f32⟩
  | 67 => ⟨S8192x1, .f32⟩
  | 68 => ⟨S8192x1024, .f32⟩
  | 69 => ⟨S8192x1024, .f32⟩
  | 70 => ⟨S8192x1024, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .bf16⟩
  | 83 => ⟨S2560x8192, .f32⟩
  | 84 => ⟨S2560x8192, .bf16⟩
  | 85 => ⟨S1x1024, .f32⟩
  | _ => ⟨S1024x8192, .bf16⟩

abbrev hbmTy (i : Nat) : BufTy := match i / 128 with
  | 0 => hbmTy0_0 i
  | 1 => hbmTy0_1 i
  | _ => ⟨S1024x8192, .bf16⟩

abbrev bufTy : (tb : Table) → Fin (tcTables nBuf tb) → BufTy
  | .hbm, ⟨i, _⟩ => hbmTy i
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_11 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_12 : Ref sig .tc := ⟨.hbm, 147, rfl⟩
abbrev main_v126 : Ref sig .tc := ⟨.hbm, 148, rfl⟩
abbrev main_cst_13 : Ref sig .tc := ⟨.hbm, 149, rfl⟩
abbrev main_v127 : Ref sig .tc := ⟨.hbm, 150, rfl⟩
abbrev main_v128 : Ref sig .tc := ⟨.hbm, 151, rfl⟩
abbrev main_cst_14 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_15 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_16 : Ref sig .tc := ⟨.hbm, 173, rfl⟩
abbrev main_v148 : Ref sig .tc := ⟨.hbm, 174, rfl⟩
abbrev main_cst_17 : Ref sig .tc := ⟨.hbm, 175, rfl⟩
abbrev main_v149 : Ref sig .tc := ⟨.hbm, 176, rfl⟩
abbrev main_v150 : Ref sig .tc := ⟨.hbm, 177, rfl⟩
abbrev main_cst_18 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_19 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_cst_20 : Ref sig .tc := ⟨.hbm, 190, rfl⟩
abbrev main_v161 : Ref sig .tc := ⟨.hbm, 191, rfl⟩
abbrev main_v162 : Ref sig .tc := ⟨.hbm, 192, rfl⟩
abbrev main_cst_21 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_cst_22 : Ref sig .tc := ⟨.hbm, 200, rfl⟩
abbrev main_v169 : Ref sig .tc := ⟨.hbm, 201, rfl⟩
abbrev main_v170 : Ref sig .tc := ⟨.hbm, 202, rfl⟩
abbrev main_cst_23 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩

abbrev nD : Nat := 1
abbrev τ : Topo := Topo.v7x

variable {F : FTy → Type} [FloatOps F]
-- ==== Kernel9.lean ====
abbrev S1 : Shape := ⟨1, ![1]⟩
abbrev S8x1024x640 : Shape := ⟨3, ![8, 1024, 640]⟩
abbrev S7x1024x640 : Shape := ⟨3, ![7, 1024, 640]⟩
abbrev S1024x640 : Shape := ⟨2, ![1024, 640]⟩
abbrev S1x128x640 : Shape := ⟨3, ![1, 128, 640]⟩
abbrev S7x128x640 : Shape := ⟨3, ![7, 128, 640]⟩
abbrev S128x640 : Shape := ⟨2, ![128, 640]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x640, .f32⟩
  | .hbm, ⟨1, _⟩ => ⟨S7x1024x640, .bf16⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S1x128x640, .f32⟩
  | .local _ .vmem, ⟨1, _⟩ => ⟨S1x128x640, .f32⟩
  | .local _ .vmem, ⟨2, _⟩ => ⟨S7x128x640, .bf16⟩
  | .local _ .vmem, ⟨3, _⟩ => ⟨S7x128x640, .bf16⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | .local _ .vmem, ⟨16, _⟩ => ⟨S128x640, .f32⟩
  | .local _ .vmem, ⟨17, _⟩ => ⟨S128x640, .f32⟩
  | .local _ .smem, ⟨0, _⟩ => ⟨S1, .i32⟩
  | _, _ => ⟨S8x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1 : Shape := ⟨1, ![1]⟩
abbrev S8x1024x640 : Shape := ⟨3, ![8, 1024, 640]⟩
abbrev S7x1024x640 : Shape := ⟨3, ![7, 1024, 640]⟩
abbrev S1024x640 : Shape := ⟨2, ![1024, 640]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x640, .f32⟩
  | .hbm, ⟨2, _⟩ => ⟨S7x1024x640, .bf16⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x1024x640, .i1⟩
  | .hbm, ⟨14, _⟩ => ⟨S8x1024x640, .f32⟩
  | .hbm, ⟨15, _⟩ => ⟨S8x1024x640, .f32⟩
  | .hbm, ⟨16, _⟩ => ⟨S_, .f32⟩
  | .hbm, ⟨17, _⟩ => ⟨S1024x640, .f32⟩
  | .hbm, ⟨18, _⟩ => ⟨S7x1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | .hbm, ⟨40, _⟩ => ⟨S_, .f32⟩
  | .hbm, ⟨41, _⟩ => ⟨S1024x640, .f32⟩
  | .hbm, ⟨42, _⟩ => ⟨S1024x640, .f32⟩
  | .hbm, ⟨43, _⟩ => ⟨S1024x640, .f32⟩
  | .hbm, ⟨44, _⟩ => ⟨S_, .f32⟩
  | .hbm, ⟨45, _⟩ => ⟨S1024x640, .f32⟩
  | .hbm, ⟨46, _⟩ => ⟨S1024x640, .f32⟩
  | .hbm, ⟨47, _⟩ => ⟨S1024x640, .f32⟩
  | .hbm, ⟨48, _⟩ => ⟨S_, .f32⟩
  | .hbm, ⟨49, _⟩ => ⟨S1024x640, .f32⟩
  | .hbm, ⟨50, _⟩ => ⟨S1024x640, .f32⟩
  | .hbm, ⟨51, _⟩ => ⟨S1024x640, .f32⟩
  | .hbm, ⟨52, _⟩ => ⟨S_, .f32⟩
  | .hbm, ⟨53, _⟩ => ⟨S1024x640, .f32⟩
  | .hbm, ⟨54, _⟩ => ⟨S1024x640, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel10.lean ====
abbrev S1 : Shape := ⟨1, ![1]⟩
abbrev S8x128x256 : Shape := ⟨3, ![8, 128, 256]⟩
abbrev S7x128x256 : Shape := ⟨3, ![7, 128, 256]⟩
abbrev S128x256 : Shape := ⟨2, ![128, 256]⟩
abbrev S1x16x256 : Shape := ⟨3, ![1, 16, 256]⟩
abbrev S7x16x256 : Shape := ⟨3, ![7, 16, 256]⟩
abbrev S16x256 : Shape := ⟨2, ![16, 256]⟩

abbrev nBuf : Space → Nat
  | .hbm => 9
  | .vmem => 18
  | .smem => 1
  | _ => 0

abbrev bufTy : (tb : Table) → Fin (tcTables nBuf tb) → BufTy
  | .hbm, ⟨0, _⟩ => ⟨S8x128x256, .f32⟩
  | .hbm, ⟨1, _⟩ => ⟨S7x128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S1x16x256, .f32⟩
  | .local _ .vmem, ⟨1, _⟩ => ⟨S1x16x256, .f32⟩
  | .local _ .vmem, ⟨2, _⟩ => ⟨S7x16x256, .f32⟩
  | .local _ .vmem, ⟨3, _⟩ => ⟨S7x16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | .local _ .smem, ⟨0, _⟩ => ⟨S1, .i32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S1 : Shape := ⟨1, ![1]⟩
abbrev S8x128x256 : Shape := ⟨3, ![8, 128, 256]⟩
abbrev S7x128x256 : Shape := ⟨3, ![7, 128, 256]⟩
abbrev S128x256 : Shape := ⟨2, ![128, 256]⟩
abbrev S8 : Shape := ⟨1, ![8]⟩
abbrev S8x1x1 : Shape := ⟨3, ![8, 1, 1]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x256, .f32⟩
  | .hbm, ⟨2, _⟩ => ⟨S7x128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x128x256, .i1⟩
  | .hbm, ⟨14, _⟩ => ⟨S8x128x256, .f32⟩
  | .hbm, ⟨15, _⟩ => ⟨S8x128x256, .f32⟩
  | .hbm, ⟨16, _⟩ => ⟨S_, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | .hbm, ⟨42, _⟩ => ⟨S128x256, .f32⟩
  | .hbm, ⟨43, _⟩ => ⟨S_, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S128x256, .f32⟩
  | .hbm, ⟨51, _⟩ => ⟨S_, .f32⟩
  | .hbm, ⟨52, _⟩ => ⟨S128x256, .f32⟩
  | .hbm, ⟨53, _⟩ => ⟨S128x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel11.lean ====
abbrev S1 : Shape := ⟨1, ![1]⟩
abbrev S8x256x1024 : Shape := ⟨3, ![8, 256, 1024]⟩
abbrev S7x256x1024 : Shape := ⟨3, ![7, 256, 1024]⟩
abbrev S256x1024 : Shape := ⟨2, ![256, 1024]⟩
abbrev S1x32x1024 : Shape := ⟨3, ![1, 32, 1024]⟩
abbrev S7x32x1024 : Shape := ⟨3, ![7, 32, 1024]⟩
abbrev S32x1024 : Shape := ⟨2, ![32, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x256x1024, .f32⟩
  | .hbm, ⟨1, _⟩ => ⟨S7x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S1x32x1024, .f32⟩
  | .local _ .vmem, ⟨1, _⟩ => ⟨S1x32x1024, .f32⟩
  | .local _ .vmem, ⟨2, _⟩ => ⟨S7x32x1024, .bf16⟩
  | .local _ .vmem, ⟨3, _⟩ => ⟨S7x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .smem, ⟨0, _⟩ => ⟨S1, .i32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S1 : Shape := ⟨1, ![1]⟩
abbrev S8x256x1024 : Shape := ⟨3, ![8, 256, 1024]⟩
abbrev S7x256x1024 : Shape := ⟨3, ![7, 256, 1024]⟩
abbrev S256x1024 : Shape := ⟨2, ![256, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x256x1024, .f32⟩
  | .hbm, ⟨2, _⟩ => ⟨S7x256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x256x1024, .i1⟩
  | .hbm, ⟨14, _⟩ => ⟨S8x256x1024, .f32⟩
  | .hbm, ⟨15, _⟩ => ⟨S8x256x1024, .f32⟩
  | .hbm, ⟨16, _⟩ => ⟨S_, .f32⟩
  | .hbm, ⟨17, _⟩ => ⟨S256x1024, .f32⟩
  | .hbm, ⟨18, _⟩ => ⟨S7x256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel12.lean ====
abbrev S1 : Shape := ⟨1, ![1]⟩
abbrev S8x1024x320 : Shape := ⟨3, ![8, 1024, 320]⟩
abbrev S7x1024x320 : Shape := ⟨3, ![7, 1024, 320]⟩
abbrev S1024x320 : Shape := ⟨2, ![1024, 320]⟩
abbrev S1x128x320 : Shape := ⟨3, ![1, 128, 320]⟩
abbrev S7x128x320 : Shape := ⟨3, ![7, 128, 320]⟩
abbrev S128x320 : Shape := ⟨2, ![128, 320]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x320, .f32⟩
  | .hbm, ⟨1, _⟩ => ⟨S7x1024x320, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .hbm, ⟨8, _⟩ => ⟨S1024x320, .f32⟩
  | .local _ .vmem, ⟨0, _⟩ => ⟨S1x128x320, .f32⟩
  | .local _ .vmem, ⟨1, _⟩ => ⟨S1x128x320, .f32⟩
  | .local _ .vmem, ⟨2, _⟩ => ⟨S7x128x320, .bf16⟩
  | .local _ .vmem, ⟨3, _⟩ => ⟨S7x128x320, .bf16⟩
  | .local _ .vmem, ⟨4, _⟩ => ⟨S128x320, .f32⟩
  | .local _ .vmem, ⟨5, _⟩ => ⟨S128x320, .f32⟩
  | .local _ .vmem, ⟨6, _⟩ => ⟨S128x320, .f32⟩
  | .local _ .vmem, ⟨7, _⟩ => ⟨S128x320, .f32⟩
  | .local _ .vmem, ⟨8, _⟩ => ⟨S128x320, .f32⟩
  | .local _ .vmem, ⟨9, _⟩ => ⟨S128x320, .f32⟩
  | .local _ .vmem, ⟨10, _⟩ => ⟨S128x320, .f32⟩
  | .local _ .vmem, ⟨11, _⟩ => ⟨S128x320, .f32⟩
  | .local _ .vmem, ⟨12, _⟩ => ⟨S128x320, .f32⟩
  | .local _ .vmem, ⟨13, _⟩ => ⟨S128x320, .f32⟩
  | .local _ .vmem, ⟨14, _⟩ => ⟨S128x320, .f32⟩
  | .local _ .vmem, ⟨15, _⟩ => ⟨S128x320, .f32⟩
  | .local _ .vmem, ⟨16, _⟩ => ⟨S128x320, .f32⟩
  | .local _ .vmem, ⟨17, _⟩ => ⟨S128x320, .f32⟩
  | .local _ .smem, ⟨0, _⟩ => ⟨S1, .i32⟩
  | _, _ => ⟨S8x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x320 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1 : Shape := ⟨1, ![1]⟩
abbrev S8x1024x320 : Shape := ⟨3, ![8, 1024, 320]⟩
abbrev S7x1024x320 : Shape := ⟨3, ![7, 1024, 320]⟩
abbrev S1024x320 : Shape := ⟨2, ![1024, 320]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x320, .f32⟩
  | .hbm, ⟨2, _⟩ => ⟨S7x1024x320, .bf16⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x1024x320, .i1⟩
  | .hbm, ⟨14, _⟩ => ⟨S8x1024x320, .f32⟩
  | .hbm, ⟨15, _⟩ => ⟨S8x1024x320, .f32⟩
  | .hbm, ⟨16, _⟩ => ⟨S_, .f32⟩
  | .hbm, ⟨17, _⟩ => ⟨S1024x320, .f32⟩
  | .hbm, ⟨18, _⟩ => ⟨S7x1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | .hbm, ⟨40, _⟩ => ⟨S_, .f32⟩
  | .hbm, ⟨41, _⟩ => ⟨S1024x320, .f32⟩
  | .hbm, ⟨42, _⟩ => ⟨S1024x320, .f32⟩
  | .hbm, ⟨43, _⟩ => ⟨S1024x320, .f32⟩
  | .hbm, ⟨44, _⟩ => ⟨S_, .f32⟩
  | .hbm, ⟨45, _⟩ => ⟨S1024x320, .f32⟩
  | .hbm, ⟨46, _⟩ => ⟨S1024x320, .f32⟩
  | .hbm, ⟨47, _⟩ => ⟨S1024x320, .f32⟩
  | .hbm, ⟨48, _⟩ => ⟨S_, .f32⟩
  | .hbm, ⟨49, _⟩ => ⟨S1024x320, .f32⟩
  | .hbm, ⟨50, _⟩ => ⟨S1024x320, .f32⟩
  | .hbm, ⟨51, _⟩ => ⟨S1024x320, .f32⟩
  | .hbm, ⟨52, _⟩ => ⟨S_, .f32⟩
  | .hbm, ⟨53, _⟩ => ⟨S1024x320, .f32⟩
  | .hbm, ⟨54, _⟩ => ⟨S1024x320, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel13.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S1x16x1024 : Shape := ⟨3, ![1, 16, 1024]⟩
abbrev S7x16x1024 : Shape := ⟨3, ![7, 16, 1024]⟩
abbrev S16x1024 : Shape := ⟨2, ![16, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x128x1024, .f32⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x16x1024, .f32⟩
  | .local _ .vmem, ⟨1, _⟩ => ⟨S1x16x1024, .f32⟩
  | .local _ .vmem, ⟨2, _⟩ => ⟨S7x16x1024, .bf16⟩
  | .local _ .vmem, ⟨3, _⟩ => ⟨S7x16x1024, .bf16⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .smem, ⟨0, _⟩ => ⟨S1, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S8 : Shape := ⟨1, ![8]⟩
abbrev S8x1x1 : Shape := ⟨3, ![8, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .f32⟩
  | .hbm, ⟨2, _⟩ => ⟨S7x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x128x1024, .i1⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S7x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel14.lean ====
abbrev S8x568x128 : Shape := ⟨3, ![8, 568, 128]⟩
abbrev S8x8x128 : Shape := ⟨3, ![8, 8, 128]⟩
abbrev S8x128 : Shape := ⟨2, ![8, 128]⟩
abbrev S1x1 : Shape := ⟨2, ![1, 1]⟩
abbrev S1x568x128 : Shape := ⟨3, ![1, 568, 128]⟩
abbrev S568x128 : Shape := ⟨2, ![568, 128]⟩
abbrev S1x8x128 : Shape := ⟨3, ![1, 8, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference14Ideal.lean ====
abbrev S8x568x128 : Shape := ⟨3, ![8, 568, 128]⟩
abbrev S8x8x128 : Shape := ⟨3, ![8, 8, 128]⟩
abbrev S8x128 : Shape := ⟨2, ![8, 128]⟩
abbrev S_ : Shape := ⟨0, ![]⟩
abbrev S568x128 : Shape := ⟨2, ![568, 128]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S_, .f32⟩
  | .hbm, ⟨6, _⟩ => ⟨S568x128, .f32⟩
  | .hbm, ⟨7, _⟩ => ⟨S_, .f32⟩
  | .hbm, ⟨8, _⟩ => ⟨S8x128, .f32⟩
  | .hbm, ⟨9, _⟩ => ⟨S1x1, .f32⟩
  | .hbm, ⟨10, _⟩ => ⟨S_, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S_, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S_, .f32⟩
  | .hbm, ⟨41, _⟩ => ⟨S8x128, .f32⟩
  | .hbm, ⟨42, _⟩ => ⟨S8x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel15.lean ====
abbrev S8x568x128 : Shape := ⟨3, ![8, 568, 128]⟩
abbrev S8x8x128 : Shape := ⟨3, ![8, 8, 128]⟩
abbrev S8x128 : Shape := ⟨2, ![8, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference15Ideal.lean ====
abbrev S8x568x128 : Shape := ⟨3, ![8, 568, 128]⟩
abbrev S8x8x128 : Shape := ⟨3, ![8, 8, 128]⟩
abbrev S8x128 : Shape := ⟨2, ![8, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S_, .f32⟩
  | .hbm, ⟨6, _⟩ => ⟨S568x128, .f32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S_, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S_, .f32⟩
  | .hbm, ⟨40, _⟩ => ⟨S8x128, .f32⟩
  | .hbm, ⟨41, _⟩ => ⟨S8x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel16.lean ====
abbrev S8x568x128 : Shape := ⟨3, ![8, 568, 128]⟩
abbrev S8x8x128 : Shape := ⟨3, ![8, 8, 128]⟩
abbrev S8x128 : Shape := ⟨2, ![8, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference16Ideal.lean ====
abbrev S8x568x128 : Shape := ⟨3, ![8, 568, 128]⟩
abbrev S8x8x128 : Shape := ⟨3, ![8, 8, 128]⟩
abbrev S8x128 : Shape := ⟨2, ![8, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S_, .f32⟩
  | .hbm, ⟨6, _⟩ => ⟨S568x128, .f32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S_, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S_, .f32⟩
  | .hbm, ⟨40, _⟩ => ⟨S8x128, .f32⟩
  | .hbm, ⟨41, _⟩ => ⟨S8x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel17.lean ====
abbrev S8x568x128 : Shape := ⟨3, ![8, 568, 128]⟩
abbrev S8x8x128 : Shape := ⟨3, ![8, 8, 128]⟩
abbrev S8x128 : Shape := ⟨2, ![8, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference17Ideal.lean ====
abbrev S8x568x128 : Shape := ⟨3, ![8, 568, 128]⟩
abbrev S8x8x128 : Shape := ⟨3, ![8, 8, 128]⟩
abbrev S8x128 : Shape := ⟨2, ![8, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S_, .f32⟩
  | .hbm, ⟨6, _⟩ => ⟨S568x128, .f32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S_, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S_, .f32⟩
  | .hbm, ⟨40, _⟩ => ⟨S8x128, .f32⟩
  | .hbm, ⟨41, _⟩ => ⟨S8x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel18.lean ====
abbrev S8x568x128 : Shape := ⟨3, ![8, 568, 128]⟩
abbrev S8x8x128 : Shape := ⟨3, ![8, 8, 128]⟩
abbrev S8x128 : Shape := ⟨2, ![8, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference18Ideal.lean ====
abbrev S8x568x128 : Shape := ⟨3, ![8, 568, 128]⟩
abbrev S8x8x128 : Shape := ⟨3, ![8, 8, 128]⟩
abbrev S8x128 : Shape := ⟨2, ![8, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S_, .f32⟩
  | .hbm, ⟨6, _⟩ => ⟨S568x128, .f32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S_, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S_, .f32⟩
  | .hbm, ⟨40, _⟩ => ⟨S8x128, .f32⟩
  | .hbm, ⟨41, _⟩ => ⟨S8x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel19.lean ====
abbrev S8x568x128 : Shape := ⟨3, ![8, 568, 128]⟩
abbrev S8x8x128 : Shape := ⟨3, ![8, 8, 128]⟩
abbrev S512x128 : Shape := ⟨2, ![512, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference19Ideal.lean ====
abbrev S8x568x128 : Shape := ⟨3, ![8, 568, 128]⟩
abbrev S8x8x128 : Shape := ⟨3, ![8, 8, 128]⟩
abbrev S512x128 : Shape := ⟨2, ![512, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .f32⟩
  | .hbm, ⟨6, _⟩ => ⟨S568x128, .f32⟩
  | .hbm, ⟨7, _⟩ => ⟨S512x128, .f32⟩
  | .hbm, ⟨8, _⟩ => ⟨S1x1, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel20.lean ====
abbrev S8x568x128 : Shape := ⟨3, ![8, 568, 128]⟩
abbrev S8x8x128 : Shape := ⟨3, ![8, 8, 128]⟩
abbrev S4x128 : Shape := ⟨2, ![4, 128]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference20Ideal.lean ====
abbrev S8x568x128 : Shape := ⟨3, ![8, 568, 128]⟩
abbrev S8x8x128 : Shape := ⟨3, ![8, 8, 128]⟩
abbrev S4x128 : Shape := ⟨2, ![4, 128]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S_, .f32⟩
  | .hbm, ⟨6, _⟩ => ⟨S568x128, .f32⟩
  | .hbm, ⟨7, _⟩ => ⟨S4x128, .f32⟩
  | .hbm, ⟨8, _⟩ => ⟨S1x1, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S_, .f32⟩
  | .hbm, ⟨13, _⟩ => ⟨S4x128, .f32⟩
  | .hbm, ⟨14, _⟩ => ⟨S4x128, .f32⟩
  | .hbm, ⟨15, _⟩ => ⟨S4x128, .f32⟩
  | .hbm, ⟨16, _⟩ => ⟨S_, .f32⟩
  | .hbm, ⟨17, _⟩ => ⟨S4x128, .f32⟩
  | .hbm, ⟨18, _⟩ => ⟨S4x128, .f32⟩
  | .hbm, ⟨19, _⟩ => ⟨S4x128, .f32⟩
  | .hbm, ⟨20, _⟩ => ⟨S_, .f32⟩
  | .hbm, ⟨21, _⟩ => ⟨S4x128, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S_, .f32⟩
  | .hbm, ⟨28, _⟩ => ⟨S4x128, .f32⟩
  | .hbm, ⟨29, _⟩ => ⟨S4x128, .f32⟩
  | .hbm, ⟨30, _⟩ => ⟨S4x128, .f32⟩
  | .hbm, ⟨31, _⟩ => ⟨S_, .f32⟩
  | .hbm, ⟨32, _⟩ => ⟨S4x128, .f32⟩
  | .hbm, ⟨33, _⟩ => ⟨S4x128, .f32⟩
  | .hbm, ⟨34, _⟩ => ⟨S4x128, .f32⟩
  | .hbm, ⟨35, _⟩ => ⟨S_, .f32⟩
  | .hbm, ⟨36, _⟩ => ⟨S4x128, .f32⟩
  | .hbm, ⟨37, _⟩ => ⟨S4x128, .f32⟩
  | .hbm, ⟨38, _⟩ => ⟨S4x128, .f32⟩
  | .hbm, ⟨39, _⟩ => ⟨S_, .f32⟩
  | .hbm, ⟨40, _⟩ => ⟨S4x128, .f32⟩
  | .hbm, ⟨41, _⟩ => ⟨S4x128, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel21.lean ====
abbrev S8x568x128 : Shape := ⟨3, ![8, 568, 128]⟩
abbrev S8x8x128 : Shape := ⟨3, ![8, 8, 128]⟩
abbrev S1x16 : Shape := ⟨2, ![1, 16]⟩
abbrev S1x1 : Shape := ⟨2, ![1, 1]⟩
abbrev S1x568x128 : Shape := ⟨3, ![1, 568, 128]⟩
abbrev S568x128 : Shape := ⟨2, ![568, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x1, .f32⟩
  | .local _ .vmem, ⟨0, _⟩ => ⟨S8x568x128, .f32⟩
  | .local _ .vmem, ⟨1, _⟩ => ⟨S8x8x128, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x1, .f32⟩
  | _, _ => ⟨S8x568x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x568x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference21Ideal.lean ====
abbrev S8x568x128 : Shape := ⟨3, ![8, 568, 128]⟩
abbrev S8x8x128 : Shape := ⟨3, ![8, 8, 128]⟩
abbrev S1x16 : Shape := ⟨2, ![1, 16]⟩
abbrev S_ : Shape := ⟨0, ![]⟩
abbrev S568x128 : Shape := ⟨2, ![568, 128]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x568x128, .f32⟩
  | .hbm, ⟨1, _⟩ => ⟨S8x8x128, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S_, .f32⟩
  | .hbm, ⟨6, _⟩ => ⟨S568x128, .f32⟩
  | .hbm, ⟨7, _⟩ => ⟨S1x16, .f32⟩
  | .hbm, ⟨8, _⟩ => ⟨S1x1, .f32⟩
  | .hbm, ⟨9, _⟩ => ⟨S_, .f32⟩
  | .hbm, ⟨10, _⟩ => ⟨S1x16, .f32⟩
  | .hbm, ⟨11, _⟩ => ⟨S1x16, .f32⟩
  | .hbm, ⟨12, _⟩ => ⟨S_, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S_, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S_, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S_, .f32⟩
  | .hbm, ⟨25, _⟩ => ⟨S1x16, .f32⟩
  | .hbm, ⟨26, _⟩ => ⟨S1x16, .f32⟩
  | .hbm, ⟨27, _⟩ => ⟨S_, .f32⟩
  | .hbm, ⟨28, _⟩ => ⟨S1x16, .f32⟩
  | .hbm, ⟨29, _⟩ => ⟨S1x16, .f32⟩
  | .hbm, ⟨30, _⟩ => ⟨S1x16, .f32⟩
  | .hbm, ⟨31, _⟩ => ⟨S_, .f32⟩
  | .hbm, ⟨32, _⟩ => ⟨S1x16, .f32⟩
  | .hbm, ⟨33, _⟩ => ⟨S1x16, .f32⟩
  | .hbm, ⟨34, _⟩ => ⟨S1x16, .f32⟩
  | .hbm, ⟨35, _⟩ => ⟨S_, .f32⟩
  | .hbm, ⟨36, _⟩ => ⟨S1x16, .f32⟩
  | .hbm, ⟨37, _⟩ => ⟨S1x16, .f32⟩
  | .hbm, ⟨38, _⟩ => ⟨S1x16, .f32⟩
  | .hbm, ⟨39, _⟩ => ⟨S_, .f32⟩
  | .hbm, ⟨40, _⟩ => ⟨S1x16, .f32⟩
  | .hbm, ⟨41, _⟩ => ⟨S1x16, .f32⟩
  | _, _ => ⟨S8x568x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Mix.lean ====
module

public import Idealize.ShloMosaic.PureOps
public import Idealize.ShloMosaic.Lib.Pointwise

@[expose] public section

noncomputable section

namespace Cert.Mix

open Idealize.ShloMosaic

/-- The tanh form of gelu, its derivative, silu and its derivative, at one element. -/
def th (x : EReal) : EReal := Ideal.tanh (Ideal.ofBits FTy.f32 1061962282#32 * (x + Ideal.ofBits FTy.f32 1027024659#32 * x * (x * x)))
def gl (x : EReal) : EReal := Ideal.ofBits FTy.f32 1056964608#32 * x * (Ideal.ofBits FTy.f32 1065353216#32 + th x)
def gd (x : EReal) : EReal :=
  Ideal.ofBits FTy.f32 1056964608#32 * (Ideal.ofBits FTy.f32 1065353216#32 + th x)
    + Ideal.ofBits FTy.f32 1056964608#32 * x * (Ideal.ofBits FTy.f32 1065353216#32 - th x * th x)
      * (Ideal.ofBits FTy.f32 1061962282#32 * (Ideal.ofBits FTy.f32 1065353216#32 + Ideal.ofBits FTy.f32 1040801103#32 * (x * x)))
def sl (x : EReal) : EReal := x * Ideal.logistic x
def sd (x : EReal) : EReal :=
  Ideal.logistic x * (Ideal.ofBits FTy.f32 1065353216#32 + x * (Ideal.ofBits FTy.f32 1065353216#32 - Ideal.logistic x))

/-- The group of a column, of four groups of 256 columns, and the place in it. -/
def grp (d : Fin 1024) : Fin 4 := if d.val < 256 then 0 else if d.val < 512 then 1 else if d.val < 768 then 2 else 3
def off (d : Fin 1024) : Fin 256 := ⟨d.val % 256, Nat.mod_lt _ (by decide)⟩
def col (h : Fin 4) (e : Fin 256) : Fin 1024 := ⟨256 * h.val + e.val, by have := h.isLt; have := e.isLt; omega⟩

/-- The norm of the gated row: one over the root of its mean square. -/
def rv (z : Fin 1024 → EReal) : EReal :=
  Ideal.rsqrt (Ideal.div (∑ e, gl (z e) * gl (z e)) (Ideal.ofBits FTy.f32 1149239296#32) + Ideal.ofBits FTy.f32 897988541#32)
def vn (z : Fin 1024 → EReal) (d : Fin 1024) : EReal := gl (z d) * rv z
def vb (z g : Fin 1024 → EReal) (d : Fin 1024) : EReal := vn z d * g d

/-- One row of the spatial mix: the rows of the chunk, weighted, and the bias. -/
def mix (z : Fin 128 → Fin 1024 → EReal) (g : Fin 1024 → EReal) (w : Fin 4 → Fin 128 → Fin 128 → EReal) (b : EReal)
    (i : Fin 128) (d : Fin 1024) : EReal := (∑ j, w (grp d) i j * vb (z j) g d) + b

/-- A choice by the column's group is the group's function. -/
theorem quad (d : Fin 1024) (F : Fin 4 → Fin 1024 → EReal) :
    (if _ : d.val < 256 then F 0 d
     else if _ : d.val - 256 < 256 then F 1 ⟨256 + (d.val - 256), by omega⟩
     else if _ : d.val - 256 - 256 < 256 then F 2 ⟨512 + (d.val - 256 - 256), by omega⟩
     else F 3 ⟨768 + (d.val - 256 - 256 - 256), by omega⟩) = F (grp d) d := by
  have := d.isLt
  by_cases a1 : d.val < 256
  · simp only [a1, grp, ↓reduceDIte, ↓reduceIte]
  by_cases a2 : d.val < 512
  · have b2 : d.val - 256 < 256 := by omega
    have hd : (⟨256 + (d.val - 256), by omega⟩ : Fin 1024) = d := Fin.ext (by show 256 + (d.val - 256) = d.val; omega)
    simp only [a1, a2, b2, grp, ↓reduceDIte, ↓reduceIte, hd]
  by_cases a3 : d.val < 768
  · have b2 : ¬ d.val - 256 < 256 := by omega
    have b3 : d.val - 256 - 256 < 256 := by omega
    have hd : (⟨512 + (d.val - 256 - 256), by omega⟩ : Fin 1024) = d := Fin.ext (by show 512 + (d.val - 256 - 256) = d.val; omega)
    simp only [a1, a2, a3, b2, b3, grp, ↓reduceDIte, ↓reduceIte, hd]
  · have b2 : ¬ d.val - 256 < 256 := by omega
    have b3 : ¬ d.val - 256 - 256 < 256 := by omega
    have hd : (⟨768 + (d.val - 256 - 256 - 256), by omega⟩ : Fin 1024) = d := Fin.ext (by show 768 + (d.val - 256 - 256 - 256) = d.val; omega)
    simp only [a1, a2, a3, b2, b3, grp, ↓reduceDIte, ↓reduceIte, hd]

theorem quad2 (d : Fin 1024) (F : Fin 4 → Fin 256 → EReal) :
    (if h : d.val < 256 then F 0 ⟨d.val, h⟩
     else if h : d.val - 256 < 256 then F 1 ⟨d.val - 256, h⟩
     else if h : d.val - 256 - 256 < 256 then F 2 ⟨d.val - 256 - 256, h⟩
     else F 3 ⟨d.val - 256 - 256 - 256, by omega⟩) = F (grp d) (off d) := by
  have := d.isLt
  by_cases a1 : d.val < 256
  · have hd : off d = ⟨d.val, a1⟩ := Fin.ext (by show d.val % 256 = d.val; omega)
    simp only [a1, grp, ↓reduceDIte, ↓reduceIte, hd]
  by_cases a2 : d.val < 512
  · have b2 : d.val - 256 < 256 := by omega
    have hd : off d = ⟨d.val - 256, b2⟩ := Fin.ext (by show d.val % 256 = d.val - 256; omega)
    simp only [a1, a2, b2, grp, ↓reduceDIte, ↓reduceIte, hd]
  by_cases a3 : d.val < 768
  · have b2 : ¬ d.val - 256 < 256 := by omega
    have b3 : d.val - 256 - 256 < 256 := by omega
    have hd : off d = ⟨d.val - 256 - 256, b3⟩ := Fin.ext (by show d.val % 256 = d.val - 256 - 256; omega)
    simp only [a1, a2, a3, b2, b3, grp, ↓reduceDIte, ↓reduceIte, hd]
  · have b2 : ¬ d.val - 256 < 256 := by omega
    have b3 : ¬ d.val - 256 - 256 < 256 := by omega
    have hd : off d = ⟨d.val - 256 - 256 - 256, by omega⟩ := Fin.ext (by show d.val % 256 = d.val - 256 - 256 - 256; omega)
    simp only [a1, a2, a3, b2, b3, grp, ↓reduceDIte, ↓reduceIte, hd]
theorem col_zero (e : Fin 256) : (⟨e.val, by omega⟩ : Fin 1024) = col 0 e := Fin.ext (by simp [col])

end Cert.Mix

end
-- ==== Proof.K1a.lean ====
module

public import proofs.«01_k».proof.Proof.Gen.KernelIdeal.Skeleton
public import proofs.«01_k».proof.Proof.Mix
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

def XE (w : BitVec 32) (x3 : Vec Ideal S256x1024 .f32) (x4 x5 : Vec Ideal S8x1024 .f32) : Vec Ideal S296x1024 .f32 :=
  View.canon ([⟨Rect.unit ![272, 0] ![24, 1024] inb_S296x1024_S24x1024_272_0, (k0_pay39 (F := Ideal) : Vec Ideal S24x1024 .f32)⟩,
    ⟨Rect.unit ![264, 0] ![8, 1024] inb_S296x1024_S8x1024_264_0, (k0_pay38 w x5 : Vec Ideal S8x1024 .f32)⟩,
    ⟨Rect.unit ![8, 0] ![256, 1024] inb_S296x1024_S256x1024_8_0, (k0_pay37 x3 : Vec Ideal S256x1024 .f32)⟩,
    ⟨Rect.unit ![0, 0] ![8, 1024] inb_S296x1024_S8x1024_0_0, (k0_pay36 w x4 : Vec Ideal S8x1024 .f32)⟩] :
    List (View.Piece (Elt Ideal) S296x1024 .f32))
def A1 (xe : Vec Ideal S296x1024 .f32) : Vec Ideal S296x256 .f32 :=
  View.canon ([⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32))
def A2 (xe : Vec Ideal S296x1024 .f32) : Vec Ideal S296x256 .f32 :=
  View.canon ([⟨Rect.unit ![0, 0] ![288, 256] inb_S296x256_S288x256_0_0, (k0_pay47 (k0_pay46 (View.ld xe (Rect.unit ![0, 512] ![288, 256] inb_S296x1024_S288x256_0_512)) (View.ld xe (Rect.unit ![1, 512] ![288, 256] inb_S296x1024_S288x256_1_512))) : Vec Ideal S288x256 .f32)⟩, ⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32))
def A3 (xe : Vec Ideal S296x1024 .f32) : Vec Ideal S296x256 .f32 :=
  View.canon ([⟨Rect.unit ![0, 0] ![288, 256] inb_S296x256_S288x256_0_0, (k0_pay51 (View.ld xe (Rect.unit ![0, 768] ![288, 256] inb_S296x1024_S288x256_0_768)) (View.ld xe (Rect.unit ![1, 768] ![288, 256] inb_S296x1024_S288x256_1_768)) : Vec Ideal S288x256 .f32)⟩, ⟨Rect.unit ![0, 0] ![288, 256] inb_S296x256_S288x256_0_0, (k0_pay47 (k0_pay46 (View.ld xe (Rect.unit ![0, 512] ![288, 256] inb_S296x1024_S288x256_0_512)) (View.ld xe (Rect.unit ![1, 512] ![288, 256] inb_S296x1024_S288x256_1_512))) : Vec Ideal S288x256 .f32)⟩, ⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32))
def B1 (xe : Vec Ideal S296x1024 .f32) : Vec Ideal S296x256 .f32 :=
  View.canon ([⟨Rect.unit ![0, 0] ![280, 256] inb_S296x256_S280x256_0_0, (k0_pay48 (View.ld (A2 xe) (Rect.unit ![0, 0] ![280, 256] inb_S296x256_S280x256_0_0)) (View.ld (A2 xe) (Rect.unit ![2, 0] ![280, 256] inb_S296x256_S280x256_2_0)) : Vec Ideal S280x256 .f32)⟩] : List (View.Piece (Elt Ideal) S296x256 .f32))
def B2 (xe : Vec Ideal S296x1024 .f32) : Vec Ideal S296x256 .f32 :=
  View.canon ([⟨Rect.unit ![0, 0] ![280, 256] inb_S296x256_S280x256_0_0, (k0_pay52 (View.ld (A3 xe) (Rect.unit ![0, 0] ![280, 256] inb_S296x256_S280x256_0_0)) (View.ld (A3 xe) (Rect.unit ![2, 0] ![280, 256] inb_S296x256_S280x256_2_0)) : Vec Ideal S280x256 .f32)⟩, ⟨Rect.unit ![0, 0] ![280, 256] inb_S296x256_S280x256_0_0, (k0_pay48 (View.ld (A2 xe) (Rect.unit ![0, 0] ![280, 256] inb_S296x256_S280x256_0_0)) (View.ld (A2 xe) (Rect.unit ![2, 0] ![280, 256] inb_S296x256_S280x256_2_0)) : Vec Ideal S280x256 .f32)⟩] : List (View.Piece (Elt Ideal) S296x256 .f32))
def C3 (xe : Vec Ideal S296x1024 .f32) : Vec Ideal S296x256 .f32 :=
  View.canon ([⟨Rect.unit ![0, 0] ![272, 256] inb_S296x256_S272x256_0_0, (k0_pay53 (View.ld (B2 xe) (Rect.unit ![0, 0] ![272, 256] inb_S296x256_S272x256_0_0)) (View.ld (B2 xe) (Rect.unit ![4, 0] ![272, 256] inb_S296x256_S272x256_4_0)) : Vec Ideal S272x256 .f32)⟩] : List (View.Piece (Elt Ideal) S296x256 .f32))
theorem A1_fold (xe : Vec Ideal S296x1024 .f32) : View.canon ([⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32)) = A1 xe := rfl
theorem A2_fold (xe : Vec Ideal S296x1024 .f32) : View.canon ([⟨Rect.unit ![0, 0] ![288, 256] inb_S296x256_S288x256_0_0, (k0_pay47 (k0_pay46 (View.ld xe (Rect.unit ![0, 512] ![288, 256] inb_S296x1024_S288x256_0_512)) (View.ld xe (Rect.unit ![1, 512] ![288, 256] inb_S296x1024_S288x256_1_512))) : Vec Ideal S288x256 .f32)⟩, ⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32)) = A2 xe := rfl
theorem A3_fold (xe : Vec Ideal S296x1024 .f32) : View.canon ([⟨Rect.unit ![0, 0] ![288, 256] inb_S296x256_S288x256_0_0, (k0_pay51 (View.ld xe (Rect.unit ![0, 768] ![288, 256] inb_S296x1024_S288x256_0_768)) (View.ld xe (Rect.unit ![1, 768] ![288, 256] inb_S296x1024_S288x256_1_768)) : Vec Ideal S288x256 .f32)⟩, ⟨Rect.unit ![0, 0] ![288, 256] inb_S296x256_S288x256_0_0, (k0_pay47 (k0_pay46 (View.ld xe (Rect.unit ![0, 512] ![288, 256] inb_S296x1024_S288x256_0_512)) (View.ld xe (Rect.unit ![1, 512] ![288, 256] inb_S296x1024_S288x256_1_512))) : Vec Ideal S288x256 .f32)⟩, ⟨Rect.unit ![0, 0] ![288, 256] inb_S296x256_S288x256_0_0, (k0_pay43 (View.ld xe (Rect.unit ![0, 256] ![288, 256] inb_S296x1024_S288x256_0_256)) (View.ld xe (Rect.unit ![1, 256] ![288, 256] inb_S296x1024_S288x256_1_256)) : Vec Ideal S288x256 .f32)⟩] : List (View.Piece (Elt Ideal) S296x256 .f32)) = A3 xe := rfl
theorem B1_fold (xe : Vec Ideal S296x1024 .f32) : View.canon ([⟨Rect.unit ![0, 0] ![280, 256] inb_S296x256_S280x256_0_0, (k0_pay48 (View.ld (A2 xe) (Rect.unit ![0, 0] ![280, 256] inb_S296x256_S280x256_0_0)) (View.ld (A2 xe) (Rect.unit ![2, 0] ![280, 256] inb_S296x256_S280x256_2_0)) : Vec Ideal S280x256 .f32)⟩] : List (View.Piece (Elt Ideal) S296x256 .f32)) = B1 xe := rfl
theorem B2_fold (xe : Vec Ideal S296x1024 .f32) : View.canon ([⟨Rect.unit ![0, 0] ![280, 256] inb_S296x256_S280x256_0_0, (k0_pay52 (View.ld (A3 xe) (Rect.unit ![0, 0] ![280, 256] inb_S296x256_S280x256_0_0)) (View.ld (A3 xe) (Rect.unit ![2, 0] ![280, 256] inb_S296x256_S280x256_2_0)) : Vec Ideal S280x256 .f32)⟩, ⟨Rect.unit ![0, 0] ![280, 256] inb_S296x256_S280x256_0_0, (k0_pay48 (View.ld (A2 xe) (Rect.unit ![0, 0] ![280, 256] inb_S296x256_S280x256_0_0)) (View.ld (A2 xe) (Rect.unit ![2, 0] ![280, 256] inb_S296x256_S280x256_2_0)) : Vec Ideal S280x256 .f32)⟩] : List (View.Piece (Elt Ideal) S296x256 .f32)) = B2 xe := rfl
theorem C3_fold (xe : Vec Ideal S296x1024 .f32) : View.canon ([⟨Rect.unit ![0, 0] ![272, 256] inb_S296x256_S272x256_0_0, (k0_pay53 (View.ld (B2 xe) (Rect.unit ![0, 0] ![272, 256] inb_S296x256_S272x256_0_0)) (View.ld (B2 xe) (Rect.unit ![4, 0] ![272, 256] inb_S296x256_S272x256_4_0)) : Vec Ideal S272x256 .f32)⟩] : List (View.Piece (Elt Ideal) S296x256 .f32)) = C3 xe := rfl
theorem XE_fold (w : BitVec 32) (x3 : Vec Ideal S256x1024 .f32) (x4 x5 : Vec Ideal S8x1024 .f32) :
    View.canon ([⟨Rect.unit ![272, 0] ![24, 1024] inb_S296x1024_S24x1024_272_0, (k0_pay39 (F := Ideal) : Vec Ideal S24x1024 .f32)⟩,
    ⟨Rect.unit ![264, 0] ![8, 1024] inb_S296x1024_S8x1024_264_0, (k0_pay38 w x5 : Vec Ideal S8x1024 .f32)⟩,
    ⟨Rect.unit ![8, 0] ![256, 1024] inb_S296x1024_S256x1024_8_0, (k0_pay37 x3 : Vec Ideal S256x1024 .f32)⟩,
    ⟨Rect.unit ![0, 0] ![8, 1024] inb_S296x1024_S8x1024_0_0, (k0_pay36 w x4 : Vec Ideal S8x1024 .f32)⟩] :
    List (View.Piece (Elt Ideal) S296x1024 .f32)) = XE w x3 x4 x5 := rfl

theorem hit2 {M N m n a b : ℕ} {e : EltTy} (inb) (w) (L : List (View.Piece (Elt Ideal) (⟨2, ![M, N]⟩ : Shape) e)) (i : Fin M) (j : Fin N)
    (p : Fin m) (q : Fin n) (hi : i.val = a + p.val) (hj : j.val = b + q.val) :
    View.canon (⟨Rect.unit ![a, b] ![m, n] inb, w⟩ :: L) (ix2 i j) = w (ix2 p q) := by
  have h : (Rect.unit (s := ⟨2, ![M, N]⟩) ![a, b] ![m, n] inb).emb (ix2 p q) = ix2 i j := by
    funext x; fin_cases x
    · exact Fin.ext (by first | (show a + 1 * p.val = i.val; omega) | (show b + 1 * q.val = j.val; omega))
    · exact Fin.ext (by first | (show a + 1 * p.val = i.val; omega) | (show b + 1 * q.val = j.val; omega))
  rw [← h]
  exact View.canon_cons_emb _ w L _
theorem miss2 {M N m n a b : ℕ} {e : EltTy} (inb) (w) (L : List (View.Piece (Elt Ideal) (⟨2, ![M, N]⟩ : Shape) e)) (i : Fin M) (j : Fin N)
    (h : i.val < a ∨ a + m ≤ i.val ∨ j.val < b ∨ b + n ≤ j.val) :
    View.canon (⟨Rect.unit ![a, b] ![m, n] inb, w⟩ :: L) (ix2 i j) = View.canon L (ix2 i j) := by
  refine View.canon_cons_of_not_mem _ L fun hm => ?_
  rw [Rect.mem_set_unit] at hm
  have h0 := hm 0
  have h1 := hm 1
  simp at h0 h1
  omega

theorem rc_ld {s : Shape} {sig : RefSig} {κ : Kind} {sp : Space} {e : EltTy} (v : View sig κ sp s e)
    (L : List (View.Piece (Elt Ideal) s e)) (r : Rect s) :
    v.readCov L r.toLoadRect = View.ld (View.canon L) r := View.readCov_eq_canon' v L r.toLoadRect

def zu (x2 : Vec Ideal S256x3072 .bf16) : Vec Ideal S256x1024 .bf16 := View.ld x2 (Rect.unit ![0, 0] ![256, 1024] inb_S256x3072_S256x1024_0_0)
def zv (x2 : Vec Ideal S256x3072 .bf16) : Vec Ideal S256x1024 .bf16 := View.ld x2 (Rect.unit ![0, 1024] ![256, 1024] inb_S256x3072_S256x1024_0_1024)
def zg (x2 : Vec Ideal S256x3072 .bf16) : Vec Ideal S256x1024 .bf16 := View.ld x2 (Rect.unit ![0, 2048] ![256, 1024] inb_S256x3072_S256x1024_0_2048)
def w0 (x1 : Vec Ideal S2048x1024 .bf16) : Vec Ideal S1024x1024 .bf16 := View.ld x1 (Rect.unit ![0, 0] ![1024, 1024] inb_S2048x1024_S1024x1024_0_0)
def w1 (x1 : Vec Ideal S2048x1024 .bf16) : Vec Ideal S1024x1024 .bf16 := View.ld x1 (Rect.unit ![1024, 0] ![1024, 1024] inb_S2048x1024_S1024x1024_1024_0)
def s0 (x7 : Vec Ideal S4x128x128 .bf16) : Vec Ideal S1x128x128 .bf16 := View.ld x7 (Rect.unit ![0, 0, 0] ![1, 128, 128] inb_S4x128x128_S1x128x128_0_0_0)
def g0 (x10 : Vec Ideal S4x256x256 .bf16) : Vec Ideal S1x256x256 .bf16 := View.ld x10 (Rect.unit ![0, 0, 0] ![1, 256, 256] inb_S4x256x256_S1x256x256_0_0_0)
def s1 (x7 : Vec Ideal S4x128x128 .bf16) : Vec Ideal S1x128x128 .bf16 := View.ld x7 (Rect.unit ![1, 0, 0] ![1, 128, 128] inb_S4x128x128_S1x128x128_1_0_0)
def g1 (x10 : Vec Ideal S4x256x256 .bf16) : Vec Ideal S1x256x256 .bf16 := View.ld x10 (Rect.unit ![1, 0, 0] ![1, 256, 256] inb_S4x256x256_S1x256x256_1_0_0)
def s2 (x7 : Vec Ideal S4x128x128 .bf16) : Vec Ideal S1x128x128 .bf16 := View.ld x7 (Rect.unit ![2, 0, 0] ![1, 128, 128] inb_S4x128x128_S1x128x128_2_0_0)
def g2 (x10 : Vec Ideal S4x256x256 .bf16) : Vec Ideal S1x256x256 .bf16 := View.ld x10 (Rect.unit ![2, 0, 0] ![1, 256, 256] inb_S4x256x256_S1x256x256_2_0_0)
def s3 (x7 : Vec Ideal S4x128x128 .bf16) : Vec Ideal S1x128x128 .bf16 := View.ld x7 (Rect.unit ![3, 0, 0] ![1, 128, 128] inb_S4x128x128_S1x128x128_3_0_0)
def g3 (x10 : Vec Ideal S4x256x256 .bf16) : Vec Ideal S1x256x256 .bf16 := View.ld x10 (Rect.unit ![3, 0, 0] ![1, 256, 256] inb_S4x256x256_S1x256x256_3_0_0)

def Q0 (w : BitVec 32) (xe : Vec Ideal S296x1024 .f32) : FVec Ideal S256x256 .f32 := k0_pay41 w (View.ld xe (Rect.unit ![7, 0] ![256, 256] inb_S296x1024_S256x256_7_0)) (View.ld xe (Rect.unit ![8, 0] ![256, 256] inb_S296x1024_S256x256_8_0)) (View.ld xe (Rect.unit ![8, 0] ![256, 256] inb_S296x1024_S256x256_8_0))
def Q1 (w : BitVec 32) (xe : Vec Ideal S296x1024 .f32) : FVec Ideal S256x256 .f32 := k0_pay44 (k0_pay40 w) k0_pay42 (View.ld (A1 xe) (Rect.unit ![6, 0] ![256, 256] inb_S296x256_S256x256_6_0)) (View.ld (A1 xe) (Rect.unit ![8, 0] ![256, 256] inb_S296x256_S256x256_8_0)) (View.ld xe (Rect.unit ![8, 256] ![256, 256] inb_S296x1024_S256x256_8_256))
def Q2 (w : BitVec 32) (xe : Vec Ideal S296x1024 .f32) : FVec Ideal S256x256 .f32 := k0_pay49 (k0_pay45 (k0_pay40 w)) (View.ld (B1 xe) (Rect.unit ![4, 0] ![256, 256] inb_S296x256_S256x256_4_0)) (View.ld (B1 xe) (Rect.unit ![8, 0] ![256, 256] inb_S296x256_S256x256_8_0)) (View.ld xe (Rect.unit ![8, 512] ![256, 256] inb_S296x1024_S256x256_8_512))
def bP (w : BitVec 32) (xe : Vec Ideal S296x1024 .f32) : FVec Ideal S256x1024 .bf16 :=
  k0_pay54 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768))

def bY (w : BitVec 32) (xe : Vec Ideal S296x1024 .f32) (x10 : Vec Ideal S4x256x256 .bf16) : FVec Ideal S256x1024 .f32 :=
  k0_pay58 (bP w xe) (k0_pay55 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768)) (g0 x10)) (k0_pay56 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768)) (g1 x10)) (k0_pay57 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768))) (g2 x10) (g3 x10)
end Cert.K1

end
-- ==== Proof.K1c.lean ====
module

public import proofs.«01_k».proof.Proof.K1a
public import proofs.«01_k».proof.Proof.Mix
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

/-- A row of the halo-extended block. -/
def hx (w : BitVec 32) (x3 : Vec Ideal S256x1024 .f32) (x4 x5 : Vec Ideal S8x1024 .f32) (k : ℕ) (d : Fin 1024) : EReal :=
  if h : k < 8 then Scalar.select (Scalar.cmpi CmpIPredicate.sgt w 0#32) x4 (broadcast S8x1024 0) (ix2 ⟨k, h⟩ d)
  else if h : k < 264 then x3 (ix2 ⟨k - 8, by omega⟩ d)
  else if h : k < 272 then Scalar.select (Scalar.cmpi CmpIPredicate.slt w 31#32) x5 (broadcast S8x1024 0) (ix2 ⟨k - 264, by omega⟩ d)
  else 0
theorem XE_at (w : BitVec 32) (x3 : Vec Ideal S256x1024 .f32) (x4 x5 : Vec Ideal S8x1024 .f32) (k : Fin 296) (d : Fin 1024) :
    XE w x3 x4 x5 (ix2 k d) = hx w x3 x4 x5 k.val d := by
  unfold XE hx
  by_cases h0 : k.val < 8
  · rw [dif_pos h0, miss2 _ _ _ k d (by omega), miss2 _ _ _ k d (by omega), miss2 _ _ _ k d (by omega),
      hit2 _ _ _ k d ⟨k.val, h0⟩ d (by simp) (by simp)]
    pointwise [k0_pay36]
    done
  by_cases h1 : k.val < 264
  · rw [dif_neg h0, dif_pos h1, miss2 _ _ _ k d (by omega), miss2 _ _ _ k d (by omega),
      hit2 _ _ _ k d ⟨k.val - 8, by omega⟩ d (by simp; omega) (by simp)]
    pointwise [k0_pay37]
    done
  by_cases h2 : k.val < 272
  · rw [dif_neg h0, dif_neg h1, dif_pos h2, miss2 _ _ _ k d (by omega),
      hit2 _ _ _ k d ⟨k.val - 264, by omega⟩ d (by simp; omega) (by simp)]
    pointwise [k0_pay38]
    done
  · rw [dif_neg h0, dif_neg h1, dif_neg h2,
      hit2 _ _ _ k d ⟨k.val - 272, by omega⟩ d (by simp; omega) (by simp)]
    pointwise [k0_pay39]
    done
/-- Sums of 2, 4, 8 rows from row `k`. -/
def f1 (f : ℕ → EReal) (k : ℕ) : EReal := f k + f (k + 1)
def f2 (f : ℕ → EReal) (k : ℕ) : EReal := f1 f k + f1 f (k + 2)
def f3 (f : ℕ → EReal) (k : ℕ) : EReal := f2 f k + f2 f (k + 4)
section
variable (xe : Vec Ideal S296x1024 .f32) (f : ℕ → Fin 1024 → EReal) (hf : ∀ (k : Fin 296) (d : Fin 1024), xe (ix2 k d) = f k.val d)
include hf
theorem A1_at (k : Fin 296) (h : k.val < 288) (d : Fin 256) : A1 xe (ix2 k d) = f1 (f · (col 1 d)) k.val := by
  unfold A1
  rw [hit2 _ _ _ k d ⟨k.val, h⟩ d (by simp) (by simp)]
  pointwise [k0_pay43]
  simp only [hf]
  simp [f1, col, Nat.add_comm]
theorem A2_at (k : Fin 296) (h : k.val < 288) (d : Fin 256) : A2 xe (ix2 k d) = f1 (f · (col 2 d)) k.val := by
  unfold A2
  rw [hit2 _ _ _ k d ⟨k.val, h⟩ d (by simp) (by simp)]
  pointwise [k0_pay46, k0_pay47]
  simp only [hf]
  simp [f1, col, Nat.add_comm]
theorem A3_at (k : Fin 296) (h : k.val < 288) (d : Fin 256) : A3 xe (ix2 k d) = f1 (f · (col 3 d)) k.val := by
  unfold A3
  rw [hit2 _ _ _ k d ⟨k.val, h⟩ d (by simp) (by simp)]
  pointwise [k0_pay51]
  simp only [hf]
  simp [f1, col, Nat.add_comm]
theorem B1_at (k : Fin 296) (h : k.val < 280) (d : Fin 256) : B1 xe (ix2 k d) = f2 (f · (col 2 d)) k.val := by
  unfold B1
  rw [hit2 _ _ _ k d ⟨k.val, h⟩ d (by simp) (by simp)]
  pointwise [k0_pay48]
  rw [A2_at xe f hf, A2_at xe f hf]
  · simp [f2, Nat.add_comm]
  all_goals first | omega | (dsimp only; omega)
theorem B2_at (k : Fin 296) (h : k.val < 280) (d : Fin 256) : B2 xe (ix2 k d) = f2 (f · (col 3 d)) k.val := by
  unfold B2
  rw [hit2 _ _ _ k d ⟨k.val, h⟩ d (by simp) (by simp)]
  pointwise [k0_pay52]
  rw [A3_at xe f hf, A3_at xe f hf]
  · simp [f2, Nat.add_comm]
  all_goals first | omega | (dsimp only; omega)
theorem C3_at (k : Fin 296) (h : k.val < 272) (d : Fin 256) : C3 xe (ix2 k d) = f3 (f · (col 3 d)) k.val := by
  unfold C3
  rw [hit2 _ _ _ k d ⟨k.val, h⟩ d (by simp) (by simp)]
  pointwise [k0_pay53]
  rw [B2_at xe f hf, B2_at xe f hf]
  · simp [f3, Nat.add_comm]
  all_goals first | omega | (dsimp only; omega)
/-- The rows a window of `2 n` rows covers, counted at global row `R`. -/
def cnt (w : BitVec 32) (r : ℕ) (n : BitVec 32) : EReal :=
  FloatOps.sitofp (F := Ideal) FTy.f32
          (IntOp.subi (IntOp.minsi (IntOp.addi (IntOp.addi (Scalar.muli w 256#32) (BitVec.ofNat 32 r)) n) 8192#32)
            (IntOp.maxsi (IntOp.subi (IntOp.addi (Scalar.muli w 256#32) (BitVec.ofNat 32 r)) n) 0#32))
def pl (w : BitVec 32) (f : ℕ → Fin 1024 → EReal) (r : Fin 256) (d : Fin 1024) : EReal :=
  if d.val < 256 then Ideal.div (f (r.val + 7) d + f (r.val + 8) d) (cnt w r.val 1#32) - f (r.val + 8) d
  else if d.val < 512 then Ideal.div (f1 (f · d) (r.val + 6) + f1 (f · d) (r.val + 8)) (cnt w r.val 2#32) - f (r.val + 8) d
  else if d.val < 768 then Ideal.div (f2 (f · d) (r.val + 4) + f2 (f · d) (r.val + 8)) (cnt w r.val 4#32) - f (r.val + 8) d
  else Ideal.div (f3 (f · d) r.val + f3 (f · d) (r.val + 8)) (cnt w r.val 8#32) - f (r.val + 8) d
theorem bP_at (w : BitVec 32) (r : Fin 256) (d : Fin 1024) : bP w xe (ix2 r d) = pl w f r d := by
  unfold bP pl
  pointwise [k0_pay54, Q0, Q1, Q2, k0_pay41, k0_pay40, k0_pay42, k0_pay44, k0_pay49, k0_pay45, k0_pay50]
  by_cases a1 : d.val < 256
  · simp only [a1, hf, ↓reduceDIte, ↓reduceIte, cnt, Nat.add_comm]
    done
  by_cases a2 : d.val < 512
  · have b2 : d.val - 256 < 256 := by omega
    have hc : col 1 ⟨d.val - 256, b2⟩ = d := Fin.ext (by simp only [col]; show 256 * 1 + (d.val - 256) = d.val; omega)
    have hd : (⟨256 + (d.val - 256), by omega⟩ : Fin 1024) = d := Fin.ext (by simp only []; omega)
    simp only [a1, a2, b2, ↓reduceDIte, ↓reduceIte, cnt]
    rw [A1_at xe f hf, A1_at xe f hf]
    · (simp only [hc, hd]; simp only [hf, Nat.add_comm])
    all_goals first | omega | (dsimp only; omega)
  by_cases a3 : d.val < 768
  · have b2 : ¬ d.val - 256 < 256 := by omega
    have b3 : d.val - 256 - 256 < 256 := by omega
    have hc : col 2 ⟨d.val - 256 - 256, b3⟩ = d := Fin.ext (by simp only [col]; show 256 * 2 + (d.val - 256 - 256) = d.val; omega)
    have hd : (⟨512 + (d.val - 256 - 256), by omega⟩ : Fin 1024) = d := Fin.ext (by simp only []; omega)
    simp only [a1, a2, a3, b2, b3, ↓reduceDIte, ↓reduceIte, cnt]
    rw [B1_at xe f hf, B1_at xe f hf]
    · (simp only [hc, hd]; simp only [hf, Nat.add_comm])
    all_goals first | omega | (dsimp only; omega)
  · have b2 : ¬ d.val - 256 < 256 := by omega
    have b3 : ¬ d.val - 256 - 256 < 256 := by omega
    have b4 : d.val - 256 - 256 - 256 < 256 := by omega
    have hc : col 3 ⟨d.val - 256 - 256 - 256, b4⟩ = d := Fin.ext (by simp only [col]; show 256 * 3 + (d.val - 256 - 256 - 256) = d.val; omega)
    have hd : (⟨768 + (d.val - 256 - 256 - 256), by omega⟩ : Fin 1024) = d := Fin.ext (by simp only []; omega)
    simp only [a1, a2, a3, b2, b3, ↓reduceDIte, ↓reduceIte, cnt]
    rw [C3_at xe f hf, C3_at xe f hf]
    · (simp only [hc, hd]; simp only [hf, Nat.add_comm])
    all_goals first | omega | (dsimp only; omega)
end
end Cert.K1

end
-- ==== Proof.K1b.lean ====
module

public import proofs.«01_k».proof.Proof.K1a
public import proofs.«01_k».proof.Proof.Mix
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

theorem p14 (a : Vec Ideal S256x1024 .bf16) (b : Vec Ideal S1024x1024 .bf16) (i : S256x1024.Idx) :
    k0_pay14 a b i = ∑ k : Fin 1024, a (ix2 (i 0) k) * b (ix2 (i 1) k) := by
  idx_vars i
  pointwise [k0_pay14]
  done
theorem p15 (a : Vec Ideal S256x1024 .bf16) (b : Vec Ideal S1024x1024 .bf16) (i : S256x1024.Idx) :
    k0_pay15 a b i = ∑ k : Fin 1024, a (ix2 (i 0) k) * b (ix2 (i 1) k) := by
  idx_vars i
  pointwise [k0_pay15]
  done
theorem p19 (a : Vec Ideal S256x1024 .bf16) (i : S256x1024.Idx) : k0_pay19 a i = gl (a i) := by
  idx_vars i
  unfold gl th
  pointwise [k0_pay19, k0_pay18, k0_pay17, k0_pay16]
  done
theorem p24 (a : Vec Ideal S256x1024 .bf16) (i : S256x1024.Idx) :
    k0_pay24 (k0_pay20 a) (k0_pay21 a) (k0_pay22 a) k0_pay23 i = gd (a i) := by
  idx_vars i
  unfold gd th
  pointwise [k0_pay24, k0_pay20, k0_pay21, k0_pay22, k0_pay23, k0_pay18, k0_pay17, k0_pay16]
  done
theorem p62 (a : Vec Ideal S256x1024 .bf16) (i : S256x1024.Idx) : k0_pay62 a i = gl (a i) := by
  idx_vars i
  unfold gl th
  pointwise [k0_pay62, k0_pay61, k0_pay60, k0_pay59]
  done
theorem p63 (a : Vec Ideal S256x1024 .bf16) (i : S256x1024.Idx) :
    k0_pay63 a i = gd (a i) := by
  idx_vars i
  unfold gd th
  pointwise [k0_pay63, k0_pay61, k0_pay60, k0_pay59]
  done
theorem p66 (a : Vec Ideal S256x1024 .bf16) (i : S256x1024.Idx) : k0_pay66 a i = sl (a i) := by
  idx_vars i
  unfold sl
  pointwise [k0_pay66, k0_pay65, k0_pay64]
  done
theorem p97 (a : Vec Ideal S256x1024 .bf16) (i : S256x1024.Idx) : k0_pay97 a i = sl (a i) := by
  idx_vars i
  unfold sl
  pointwise [k0_pay97, k0_pay96, k0_pay95]
  done
theorem p25 (a : Vec Ideal S256x1024 .bf16) (r : Fin 256) :
    k0_pay25 (k0_pay19 a) (ix2 r 0) = rv fun e => a (ix2 r e) := by
  unfold rv
  pointwise [k0_pay25]
  simp only [p19]
  done
theorem p26 (a : Vec Ideal S256x1024 .bf16) (i : S256x1024.Idx) :
    k0_pay26 (k0_pay19 a) i = vn (fun e => a (ix2 (i 0) e)) (i 1) := by
  idx_vars i
  unfold vn
  rw [← p25]
  pointwise [k0_pay26]
  rw [p19]
  done
theorem p28 (a : Vec Ideal S256x1024 .bf16) (g : Vec Ideal S1x1024 .f32) (i : S256x1024.Idx) :
    k0_pay28 (k0_pay19 a) g i = vb (fun e => a (ix2 (i 0) e)) (fun e => g (ix2 0 e)) (i 1) := by
  idx_vars i
  unfold vb
  pointwise [k0_pay28, k0_pay27]
  rw [p26]
  rfl
end Cert.K1

end
-- ==== Proof.K1d.lean ====
module

public import proofs.«01_k».proof.Proof.K1b
public import proofs.«01_k».proof.Proof.Mix
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

theorem zu_at (x2) (r : Fin 256) (e : Fin 1024) : zu x2 (ix2 r e) = x2 (ix2 r ⟨e.val, by omega⟩) := by
  pointwise [zu]
  done
theorem zv_at (x2) (r : Fin 256) (e : Fin 1024) : zv x2 (ix2 r e) = x2 (ix2 r ⟨1024 + e.val, by omega⟩) := by
  pointwise [zv]
  done
theorem zg_at (x2) (r : Fin 256) (e : Fin 1024) : zg x2 (ix2 r e) = x2 (ix2 r ⟨2048 + e.val, by omega⟩) := by
  pointwise [zg]
  done
theorem w1_at (x2) (r : Fin 1024) (e : Fin 1024) : w1 x2 (ix2 r e) = x2 (ix2 ⟨1024 + r.val, by omega⟩ e) := by
  pointwise [w1]
  done
theorem w0_at (x2) (r : Fin 1024) (e : Fin 1024) : w0 x2 (ix2 r e) = x2 (ix2 ⟨r.val, by omega⟩ e) := by
  pointwise [w0]
  done
def bM (v : Vec Ideal S256x1024 .bf16) (x7 : Vec Ideal S4x128x128 .bf16) (x8 : Vec Ideal S128x1024 .f32) (x9 : Vec Ideal S1x1024 .f32) :
    FVec Ideal S256x1024 .f32 :=
  k0_pay35 (k0_pay28 (k0_pay19 v) x9) (k0_pay29 x8) (k0_pay30 (k0_pay19 v) x9) (k0_pay31 (k0_pay19 v) x9 (s0 x7))
    (k0_pay32 (k0_pay19 v) x9 (s1 x7)) (k0_pay33 (k0_pay19 v) x9 (s2 x7)) (k0_pay34 (s3 x7)) (s0 x7) (s1 x7) (s2 x7) (s3 x7)
/-- Row `j` of the chunk of row `r`. -/
def chk (r : Fin 256) (j : Fin 128) : Fin 256 := if r.val < 128 then ⟨j.val, by omega⟩ else ⟨128 + j.val, by omega⟩
def inc (r : Fin 256) : Fin 128 := ⟨r.val % 128, Nat.mod_lt _ (by decide)⟩
theorem chk_lo {r : Fin 256} (h : r.val < 128) (j : Fin 128) : chk r j = ⟨j.val, by omega⟩ := by simp only [chk, h, ↓reduceIte]
theorem chk_hi {r : Fin 256} (h : ¬ r.val < 128) (j : Fin 128) : chk r j = ⟨128 + j.val, by omega⟩ := by simp only [chk, h, ↓reduceIte]
theorem inc_lo {r : Fin 256} (h : r.val < 128) : inc r = ⟨r.val, h⟩ := Fin.ext (Nat.mod_eq_of_lt h)
theorem inc_hi {r : Fin 256} (h : ¬ r.val < 128) : inc r = ⟨r.val - 128, by omega⟩ := Fin.ext (by show r.val % 128 = r.val - 128; omega)
theorem bM_at (v x7 x8 x9) (r : Fin 256) (d : Fin 1024) : bM v x7 x8 x9 (ix2 r d) =
    mix (fun j e => v (ix2 (chk r j) e)) (fun e => x9 (ix2 0 e)) (fun h i j => x7 (ix3 h i j)) (x8 (ix2 (inc r) d)) (inc r) d := by
  unfold bM mix
  pointwise [k0_pay35, k0_pay29, k0_pay30, k0_pay31, k0_pay32, k0_pay33, k0_pay34, s0, s1, s2, s3]
  have hp : ∀ r d, k0_pay28 (k0_pay19 v) x9 (ix2 r d) = vb (fun e => v (ix2 r e)) (fun e => x9 (ix2 0 e)) d :=
    fun r d => p28 v x9 (ix2 r d)
  simp only [hp]
  by_cases hr : r.val < 128
  · simp only [hr, ↓reduceDIte, chk_lo hr, inc_lo hr]
    congr 1
    exact quad d fun h e => ∑ x, x7 (ix3 h ⟨r.val, hr⟩ x) * vb (fun e => v (ix2 ⟨x.val, by omega⟩ e)) (fun e => x9 (ix2 0 e)) e
  · simp only [hr, ↓reduceDIte, chk_hi hr, inc_hi hr]
    congr 1
    exact quad d fun h e => ∑ x, x7 (ix3 h ⟨r.val - 128, by omega⟩ x) * vb (fun e => v (ix2 ⟨128 + x.val, by omega⟩ e)) (fun e => x9 (ix2 0 e)) e
def bT (dx : Vec Ideal S256x1024 .bf16) (x1 : Vec Ideal S2048x1024 .bf16) (x2 : Vec Ideal S256x3072 .bf16) : FVec Ideal S256x1024 .f32 := k0_pay72 (k0_pay14 dx (w0 x1)) (k0_pay62 (zu x2)) (zg x2)
theorem bT_at (dx : Vec Ideal S256x1024 .bf16) (x1 : Vec Ideal S2048x1024 .bf16) (x2 : Vec Ideal S256x3072 .bf16) (i : S256x1024.Idx) : bT dx x1 x2 i = (k0_pay14 dx (w0 x1) i * sl (zg x2 i)) * gl (zu x2 i) := by
  idx_vars i
  pointwise [bT, k0_pay72, k0_pay69]
  rw [p66, p62]
def bD0 (t : Vec Ideal S256x1024 .bf16) (x7 : Vec Ideal S4x128x128 .bf16) (a : FVec Ideal S128x256 .f32) : FVec Ideal S128x1024 .f32 :=
  k0_pay82 t a (k0_pay77 t (s1 x7)) (k0_pay79 t (s2 x7)) (s3 x7)
def bD1 (t : Vec Ideal S256x1024 .bf16) (x7 : Vec Ideal S4x128x128 .bf16) : FVec Ideal S128x1024 .f32 :=
  k0_pay92 (k0_pay84 t (s0 x7)) (k0_pay86 t (s1 x7)) (k0_pay88 t (s2 x7)) (k0_pay90 (s3 x7)) (k0_pay91 t) (constant S128x256 FTy.f32 0#32)
def bD (dx : Vec Ideal S256x1024 .bf16) (x1 : Vec Ideal S2048x1024 .bf16) (x2 : Vec Ideal S256x3072 .bf16) (x7 : Vec Ideal S4x128x128 .bf16) : FVec Ideal S256x1024 .f32 :=
  k0_pay116 (bD0 (k0_pay73 (k0_pay14 dx (w0 x1)) (k0_pay62 (zu x2)) (zg x2)) x7 (k0_pay75 (k0_pay14 dx (w0 x1)) (k0_pay62 (zu x2)) (zg x2) (s0 x7)))
   (bD1 (k0_pay73 (k0_pay14 dx (w0 x1)) (k0_pay62 (zu x2)) (zg x2)) x7)
theorem p82 (t : Vec Ideal S256x1024 .bf16) (x7 : Vec Ideal S4x128x128 .bf16) (a : FVec Ideal S128x256 .f32)
    (ha : ∀ i e, a (ix2 i e) = ∑ k : Fin 128, x7 (ix3 0 k i) * t (ix2 ⟨k.val, by omega⟩ ⟨e.val, by omega⟩)) (r : Fin 256) (d : Fin 1024) :
    k0_pay116 (bD0 t x7 a) (bD1 t x7) (ix2 r d) = ∑ i : Fin 128, x7 (ix3 (grp d) i (inc r)) * t (ix2 (chk r i) d) := by
  pointwise [k0_pay116, bD0, bD1, k0_pay82, k0_pay77, k0_pay79, k0_pay92, k0_pay84, k0_pay86, k0_pay88, k0_pay90, k0_pay91, s0, s1, s2, s3]
  simp only [ha]
  by_cases hr : r.val < 128
  · simp only [hr, ↓reduceDIte, chk_lo hr, inc_lo hr]
    exact quad d fun h e => ∑ i, x7 (ix3 h i ⟨r.val, hr⟩) * t (ix2 ⟨i.val, by omega⟩ e)
  · simp only [hr, ↓reduceDIte, chk_hi hr, inc_hi hr]
    exact quad d fun h e => ∑ i, x7 (ix3 h i ⟨r.val - 128, by omega⟩) * t (ix2 ⟨128 + i.val, by omega⟩ e)
theorem h73 (dx x1 x2) : k0_pay73 (k0_pay14 dx (w0 x1)) (k0_pay62 (zu x2)) (zg x2) = bT dx x1 x2 := rfl
theorem bD_at (dx x1 x2 x7) (r : Fin 256) (d : Fin 1024) : bD dx x1 x2 x7 (ix2 r d) =
    ∑ i : Fin 128, x7 (ix3 (grp d) i (inc r)) * bT dx x1 x2 (ix2 (chk r i) d) := by
  unfold bD
  rw [h73]
  refine p82 _ x7 _ (fun i e => ?_) r d
  pointwise [k0_pay75, s0]
  rw [h73]
  done
/-- The gate of the second half: the pooled block times its group's weights. -/
theorem bY_at (w : BitVec 32) (xe : Vec Ideal S296x1024 .f32) (x10 : Vec Ideal S4x256x256 .bf16) (r : Fin 256) (d : Fin 1024) :
    bY w xe x10 (ix2 r d) = ∑ e : Fin 256, bP w xe (ix2 r (col (grp d) e)) * x10 (ix3 (grp d) e (off d)) := by
  have hb : k0_pay54 (Q0 w xe) (Q1 w xe) (Q2 w xe) (k0_pay50 (k0_pay40 w))
              (View.ld (C3 xe) (Rect.unit ![0, 0] ![256, 256] inb_S296x256_S256x256_0_0))
              (View.ld (C3 xe) (Rect.unit ![8, 0] ![256, 256] inb_S296x256_S256x256_8_0))
              (View.ld xe (Rect.unit ![8, 768] ![256, 256] inb_S296x1024_S256x256_8_768)) = bP w xe := rfl
  unfold bY
  pointwise [k0_pay58, k0_pay55, k0_pay56, k0_pay57, g0, g1, g2, g3]
  simp only [hb, col_zero]
  exact quad2 d fun h f => ∑ e, bP w xe (ix2 r (col h e)) * x10 (ix3 h e f)
def bE (dx : Vec Ideal S256x1024 .bf16) (x1 : Vec Ideal S2048x1024 .bf16) (x11 : Vec Ideal S1x1024 .f32) (x6 : Vec Ideal S256x1024 .bf16) :
    FVec Ideal S256x1024 .bf16 := k0_pay103 (k0_pay15 dx (w1 x1)) x11 x6
theorem bE_at (dx x1 x11 x6) (r : Fin 256) (d : Fin 1024) : bE dx x1 x11 x6 (ix2 r d) =
    (k0_pay15 dx (w1 x1) (ix2 r d) * sl (x6 (ix2 r d))) * x11 (ix2 0 d) := by
  pointwise [bE, k0_pay103, k0_pay99, k0_pay93]
  rw [p97]
def bDp (g : FVec Ideal S256x1024 .bf16) (x10 : Vec Ideal S4x256x256 .bf16) : FVec Ideal S256x1024 .f32 :=
  k0_pay2 (k0_pay107 g (g0 x10)) (k0_pay109 g (g1 x10)) (k0_pay112 g (g2 x10)) (k0_pay114 g (g3 x10))
theorem bDp_at (g x10) (r : Fin 256) (d : Fin 1024) : bDp g x10 (ix2 r d) =
    ∑ e : Fin 256, g (ix2 r (col (grp d) e)) * x10 (ix3 (grp d) (off d) e) := by
  unfold bDp
  pointwise [k0_pay2, k0_pay107, k0_pay109, k0_pay112, k0_pay114, g0, g1, g2, g3]
  simp only [col_zero]
  exact quad2 d fun h f => ∑ e, g (ix2 r (col h e)) * x10 (ix3 h f e)
/-- The pieces of the gradient of the activations. -/
theorem p70 (dx x1 x2) (mx : FVec Ideal S256x1024 .f32) (r : Fin 256) (d : Fin 1024) :
    k0_pay70 (k0_pay14 dx (w0 x1)) mx (k0_pay63 (zu x2)) (zg x2) (ix2 r d) =
      (k0_pay14 dx (w0 x1) (ix2 r d) * sl (zg x2 (ix2 r d))) * mx (ix2 r d) * gd (zu x2 (ix2 r d)) := by
  pointwise [k0_pay70, k0_pay69]
  rw [p66, p63]
theorem p71 (dx x1 x2) (mx : FVec Ideal S256x1024 .f32) (r : Fin 256) (d : Fin 1024) :
    k0_pay71 (k0_pay14 dx (w0 x1)) mx (k0_pay62 (zu x2)) (zg x2) (ix2 r d) =
      k0_pay14 dx (w0 x1) (ix2 r d) * (gl (zu x2 (ix2 r d)) * mx (ix2 r d)) * sd (zg x2 (ix2 r d)) := by
  unfold sd
  pointwise [k0_pay71, k0_pay67, k0_pay64, k0_pay65]
  rw [p62]
theorem p101 (dx x1) (y : FVec Ideal S256x1024 .f32) (x11 x6) (r : Fin 256) (d : Fin 1024) :
    k0_pay101 (k0_pay15 dx (w1 x1)) y x11 x6 (ix2 r d) =
      k0_pay15 dx (w1 x1) (ix2 r d) * (y (ix2 r d) * x11 (ix2 0 d)) * sd (x6 (ix2 r d)) := by
  unfold sd
  pointwise [k0_pay101, k0_pay94, k0_pay93, k0_pay95, k0_pay96]
  done
theorem p68 (x2) (mx : FVec Ideal S256x1024 .f32) (r : Fin 256) (d : Fin 1024) :
    k0_pay68 mx (k0_pay62 (zu x2)) (zg x2) (ix2 r d) = gl (zu x2 (ix2 r d)) * mx (ix2 r d) * sl (zg x2 (ix2 r d)) := by
  pointwise [k0_pay68, k0_pay67]
  rw [p62, p66]
theorem p98 (y : FVec Ideal S256x1024 .f32) (x11 x6) (r : Fin 256) (d : Fin 1024) :
    k0_pay98 y x11 x6 (ix2 r d) = y (ix2 r d) * x11 (ix2 0 d) * sl (x6 (ix2 r d)) := by
  pointwise [k0_pay98, k0_pay94, k0_pay93]
  rw [p97]
theorem p3 (a b : FVec Ideal S256x1024 .bf16) (e : Fin 2048) (r : Fin 256) :
    k0_pay3 a b (ix2 e r) = if h : e.val < 1024 then a (ix2 r ⟨e.val, h⟩) else b (ix2 r ⟨e.val - 1024, by omega⟩) := by
  pointwise [k0_pay3]
  done
theorem p117 (a : Vec Ideal S256x1024 .bf16) (v0 v1) (x : Vec Ideal S1x1024 .f32) (d : Fin 1024) :
    k0_pay117 (k0_pay26 (k0_pay19 a)) v0 v1 x (ix2 0 d) =
     x (ix2 0 d) + ∑ r : Fin 256, k0_pay116 v0 v1 (ix2 r d) * vn (fun e => a (ix2 r e)) d := by
  have hp : ∀ r d, k0_pay26 (k0_pay19 a) (ix2 r d) = vn (fun e => a (ix2 r e)) d := fun r d => p26 a (ix2 r d)
  pointwise [k0_pay117]
  simp only [hp]
theorem p102 (dx x1 y x6) (x : Vec Ideal S1x1024 .f32) (d : Fin 1024) :
    k0_pay102 (k0_pay15 dx (w1 x1)) y x6 x (ix2 0 d) =
     x (ix2 0 d) + ∑ r : Fin 256, k0_pay15 dx (w1 x1) (ix2 r d) * sl (x6 (ix2 r d)) * y (ix2 r d) := by
  pointwise [k0_pay102, k0_pay99]
  simp only [p97]
theorem p115 (a : FVec Ideal S256x1024 .f32) (x : Vec Ideal S128x1024 .f32) (i : Fin 128) (d : Fin 1024) :
    k0_pay115 a x (ix2 i d) = x (ix2 i d) + (a (ix2 ⟨i.val, by omega⟩ d) + a (ix2 ⟨128 + i.val, by omega⟩ d)) := by
  pointwise [k0_pay115]
  done
/-- The gradient through the normalisation, at one row. -/
def bN (z dn : Fin 1024 → EReal) (g : Fin 1024 → EReal) (d : Fin 1024) : EReal :=
  rv z * (dn d * g d - vn z d * Ideal.div (∑ e, dn e * g e * vn z e) (Ideal.ofBits FTy.f32 1149239296#32)) * gd (z d)
theorem p1 (a : Vec Ideal S256x1024 .bf16) (x9 : Vec Ideal S1x1024 .f32) (v : FVec Ideal S256x1024 .f32) (r : Fin 256) (d : Fin 1024) :
    k0_pay1 (k0_pay24 (k0_pay20 a) (k0_pay21 a) (k0_pay22 a) k0_pay23) (k0_pay25 (k0_pay19 a)) (k0_pay26 (k0_pay19 a)) (k0_pay27 x9) v (ix2 r d) =
      bN (fun e => a (ix2 r e)) (fun e => v (ix2 r e)) (fun e => x9 (ix2 0 e)) d := by
  have hp : ∀ r d, k0_pay26 (k0_pay19 a) (ix2 r d) = vn (fun e => a (ix2 r e)) d := fun r d => p26 a (ix2 r d)
  unfold bN
  pointwise [k0_pay1, k0_pay27]
  simp only [hp, p25, p24]
end Cert.K1

end
-- ==== Proof.K1e.lean ====
module

public import proofs.«01_k».proof.Proof.K1c
public import proofs.«01_k».proof.Proof.K1d
public import proofs.«01_k».proof.Proof.Gen.KernelIdeal.Frame
public import proofs.«01_k».proof.Proof.Mix
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

variable (m : (ℓ : Loc nD τ sig) → Buf (Elt Ideal) ℓ) (c : Dev nD)

theorem zu_f (x2 : Vec Ideal S256x3072 .bf16) : View.ld x2 (Rect.unit ![0, 0] ![256, 1024] inb_S256x3072_S256x1024_0_0) = zu x2 := rfl
theorem zv_f (x2 : Vec Ideal S256x3072 .bf16) : View.ld x2 (Rect.unit ![0, 1024] ![256, 1024] inb_S256x3072_S256x1024_0_1024) = zv x2 := rfl
theorem zg_f (x2 : Vec Ideal S256x3072 .bf16) : View.ld x2 (Rect.unit ![0, 2048] ![256, 1024] inb_S256x3072_S256x1024_0_2048) = zg x2 := rfl
theorem w0_f (x1 : Vec Ideal S2048x1024 .bf16) : View.ld x1 (Rect.unit ![0, 0] ![1024, 1024] inb_S2048x1024_S1024x1024_0_0) = w0 x1 := rfl
theorem w1_f (x1 : Vec Ideal S2048x1024 .bf16) : View.ld x1 (Rect.unit ![1024, 0] ![1024, 1024] inb_S2048x1024_S1024x1024_1024_0) = w1 x1 := rfl
theorem s0_f (x7 : Vec Ideal S4x128x128 .bf16) : View.ld x7 (Rect.unit ![0, 0, 0] ![1, 128, 128] inb_S4x128x128_S1x128x128_0_0_0) = s0 x7 := rfl
theorem g0_f (x10 : Vec Ideal S4x256x256 .bf16) : View.ld x10 (Rect.unit ![0, 0, 0] ![1, 256, 256] inb_S4x256x256_S1x256x256_0_0_0) = g0 x10 := rfl
theorem s1_f (x7 : Vec Ideal S4x128x128 .bf16) : View.ld x7 (Rect.unit ![1, 0, 0] ![1, 128, 128] inb_S4x128x128_S1x128x128_1_0_0) = s1 x7 := rfl
theorem g1_f (x10 : Vec Ideal S4x256x256 .bf16) : View.ld x10 (Rect.unit ![1, 0, 0] ![1, 256, 256] inb_S4x256x256_S1x256x256_1_0_0) = g1 x10 := rfl
theorem s2_f (x7 : Vec Ideal S4x128x128 .bf16) : View.ld x7 (Rect.unit ![2, 0, 0] ![1, 128, 128] inb_S4x128x128_S1x128x128_2_0_0) = s2 x7 := rfl
theorem g2_f (x10 : Vec Ideal S4x256x256 .bf16) : View.ld x10 (Rect.unit ![2, 0, 0] ![1, 256, 256] inb_S4x256x256_S1x256x256_2_0_0) = g2 x10 := rfl
theorem s3_f (x7 : Vec Ideal S4x128x128 .bf16) : View.ld x7 (Rect.unit ![3, 0, 0] ![1, 128, 128] inb_S4x128x128_S1x128x128_3_0_0) = s3 x7 := rfl
theorem g3_f (x10 : Vec Ideal S4x256x256 .bf16) : View.ld x10 (Rect.unit ![3, 0, 0] ![1, 256, 256] inb_S4x256x256_S1x256x256_3_0_0) = g3 x10 := rfl
theorem Q0_f (w : BitVec 32) (xe : Vec Ideal S296x1024 .f32) : k0_pay41 w (View.ld xe (Rect.unit ![7, 0] ![256, 256] inb_S296x1024_S256x256_7_0)) (View.ld xe (Rect.unit ![8, 0] ![256, 256] inb_S296x1024_S256x256_8_0)) (View.ld xe (Rect.unit ![8, 0] ![256, 256] inb_S296x1024_S256x256_8_0)) = Q0 w xe := rfl
theorem Q1_f (w : BitVec 32) (xe : Vec Ideal S296x1024 .f32) : k0_pay44 (k0_pay40 w) k0_pay42 (View.ld (A1 xe) (Rect.unit ![6, 0] ![256, 256] inb_S296x256_S256x256_6_0)) (View.ld (A1 xe) (Rect.unit ![8, 0] ![256, 256] inb_S296x256_S256x256_8_0)) (View.ld xe (Rect.unit ![8, 256] ![256, 256] inb_S296x1024_S256x256_8_256)) = Q1 w xe := rfl
theorem Q2_f (w : BitVec 32) (xe : Vec Ideal S296x1024 .f32) : k0_pay49 (k0_pay45 (k0_pay40 w)) (View.ld (B1 xe) (Rect.unit ![4, 0] ![256, 256] inb_S296x256_S256x256_4_0)) (View.ld (B1 xe) (Rect.unit ![8, 0] ![256, 256] inb_S296x256_S256x256_8_0)) (View.ld xe (Rect.unit ![8, 512] ![256, 256] inb_S296x1024_S256x256_8_512)) = Q2 w xe := rfl
theorem bP_f (w : BitVec 32) (xe : Vec Ideal S296x1024 .f32) : k0_pay54 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768)) = bP w xe := rfl
theorem bY_f (w : BitVec 32) (xe : Vec Ideal S296x1024 .f32) (x10 : Vec Ideal S4x256x256 .bf16) : k0_pay58 (bP w xe) (k0_pay55 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768)) (g0 x10)) (k0_pay56 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768)) (g1 x10)) (k0_pay57 (Q0 w xe) (Q1 w xe) (Q2 w xe) (k0_pay50 (k0_pay40 w)) (View.ld (C3 xe) (Rect.unit ![0, 0] ![256, 256] inb_S296x256_S256x256_0_0)) (View.ld (C3 xe) (Rect.unit ![8, 0] ![256, 256] inb_S296x256_S256x256_8_0)) (View.ld xe (Rect.unit ![8, 768] ![256, 256] inb_S296x1024_S256x256_8_768))) (g2 x10) (g3 x10) = bY w xe x10 := rfl
theorem bM_f (v : Vec Ideal S256x1024 .bf16) (x7 : Vec Ideal S4x128x128 .bf16) (x8 : Vec Ideal S128x1024 .f32) (x9 : Vec Ideal S1x1024 .f32) : k0_pay35 (k0_pay28 (k0_pay19 v) x9) (k0_pay29 x8) (k0_pay30 (k0_pay19 v) x9) (k0_pay31 (k0_pay19 v) x9 (s0 x7))
    (k0_pay32 (k0_pay19 v) x9 (s1 x7)) (k0_pay33 (k0_pay19 v) x9 (s2 x7)) (k0_pay34 (s3 x7)) (s0 x7) (s1 x7) (s2 x7) (s3 x7) = bM v x7 x8 x9 := rfl
theorem bD_f (dx : Vec Ideal S256x1024 .bf16) (x1 : Vec Ideal S2048x1024 .bf16) (x2 : Vec Ideal S256x3072 .bf16) (x7 : Vec Ideal S4x128x128 .bf16) :
    k0_pay116 (k0_pay82 (bT dx x1 x2) (k0_pay75 (k0_pay14 dx (w0 x1)) (k0_pay62 (zu x2)) (zg x2) (s0 x7)) (k0_pay77 (bT dx x1 x2) (s1 x7)) (k0_pay79 (bT dx x1 x2) (s2 x7)) (s3 x7))
      (k0_pay92 (k0_pay84 (bT dx x1 x2) (s0 x7)) (k0_pay86 (bT dx x1 x2) (s1 x7)) (k0_pay88 (bT dx x1 x2) (s2 x7)) (k0_pay90 (s3 x7)) (k0_pay91 (bT dx x1 x2)) (constant S128x256 FTy.f32 0#32)) =
    bD dx x1 x2 x7 := rfl
theorem h72 (dx : Vec Ideal S256x1024 .bf16) (x1 : Vec Ideal S2048x1024 .bf16) (x2 : Vec Ideal S256x3072 .bf16) :
    k0_pay72 (k0_pay14 dx (w0 x1)) (k0_pay62 (zu x2)) (zg x2) = bT dx x1 x2 := rfl
theorem bE_f (dx : Vec Ideal S256x1024 .bf16) (x1 : Vec Ideal S2048x1024 .bf16) (x11 : Vec Ideal S1x1024 .f32) (x6 : Vec Ideal S256x1024 .bf16) :
    k0_pay103 (k0_pay15 dx (w1 x1)) x11 x6 = bE dx x1 x11 x6 := rfl

def bO (x0 : Vec Ideal S256x1024 .bf16) (x1 : Vec Ideal S2048x1024 .bf16) (x2 : Vec Ideal S256x3072 .bf16) (x7 : Vec Ideal S4x128x128 .bf16)
    (x9 : Vec Ideal S1x1024 .f32) (x6 : Vec Ideal S256x1024 .bf16) (x11 : Vec Ideal S1x1024 .f32) (mx y : FVec Ideal S256x1024 .f32) : Vec Ideal S256x5120 .bf16 :=
  View.canon ([⟨Rect.unit ![0, 1024] ![256, 1024] inb_S256x5120_S256x1024_0_1024, (k0_pay1 (k0_pay24 (k0_pay20 (zv x2)) (k0_pay21 (zv x2)) (k0_pay22 (zv x2)) k0_pay23) (k0_pay25 (k0_pay19 (zv x2))) (k0_pay26 (k0_pay19 (zv x2))) (k0_pay27 x9) (bD x0 x1 x2 x7) : Vec Ideal S256x1024 .bf16)⟩,
    ⟨Rect.unit ![0, 4096] ![256, 1024] inb_S256x5120_S256x1024_0_4096, (k0_pay101 (k0_pay15 x0 (w1 x1)) y x11 x6 : Vec Ideal S256x1024 .bf16)⟩,
    ⟨Rect.unit ![0, 3072] ![256, 1024] inb_S256x5120_S256x1024_0_3072, (k0_pay100 (F := Ideal) : Vec Ideal S256x1024 .bf16)⟩,
    ⟨Rect.unit ![0, 2048] ![256, 1024] inb_S256x5120_S256x1024_0_2048, (k0_pay71 (k0_pay14 x0 (w0 x1)) mx (k0_pay62 (zu x2)) (zg x2) : Vec Ideal S256x1024 .bf16)⟩,
    ⟨Rect.unit ![0, 0] ![256, 1024] inb_S256x5120_S256x1024_0_0, (k0_pay70 (k0_pay14 x0 (w0 x1)) mx (k0_pay63 (zu x2)) (zg x2) : Vec Ideal S256x1024 .bf16)⟩] : List (View.Piece (Elt Ideal) S256x5120 .bf16))
theorem o12_A (t : Fin cfg0.N) (h0 : t.val % 32 = 0) : (outsAt0 m c t.val t.isLt).1 = bO (iblk m c 0 t) (iblk m c 1 t) (iblk m c 2 t) (iblk m c 7 t) (iblk m c 9 t) (iblk m c 6 t) (iblk m c 11 t) (bM (zv (iblk m c 2 t)) (iblk m c 7 t) (iblk m c 8 t) (iblk m c 9 t)) (bY (BitVec.ofNat 32 ↑(grid0.coords t 0)) (XE (BitVec.ofNat 32 ↑(grid0.coords t 0)) (iblk m c 3 t) (iblk m c 4 t) (iblk m c 5 t)) (iblk m c 10 t)) := by
    rw [outsAt0_A m c t h0 (by omega)]
    dsimp only
    unfold out0_A_12
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o12_B (t : Fin cfg0.N) (h0 : ¬ t.val % 32 = 0) (h1 : ¬ t.val % 32 = 31) : (outsAt0 m c t.val t.isLt).1 = bO (iblk m c 0 t) (iblk m c 1 t) (iblk m c 2 t) (iblk m c 7 t) (iblk m c 9 t) (iblk m c 6 t) (iblk m c 11 t) (bM (zv (iblk m c 2 t)) (iblk m c 7 t) (iblk m c 8 t) (iblk m c 9 t)) (bY (BitVec.ofNat 32 ↑(grid0.coords t 0)) (XE (BitVec.ofNat 32 ↑(grid0.coords t 0)) (iblk m c 3 t) (iblk m c 4 t) (iblk m c 5 t)) (iblk m c 10 t)) := by
    rw [outsAt0_B m c t h0 h1]
    dsimp only
    unfold out0_B_12
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o12_C (t : Fin cfg0.N) (h0 : ¬ t.val % 32 = 0) (h1 : t.val % 32 = 31) : (outsAt0 m c t.val t.isLt).1 = bO (iblk m c 0 t) (iblk m c 1 t) (iblk m c 2 t) (iblk m c 7 t) (iblk m c 9 t) (iblk m c 6 t) (iblk m c 11 t) (bM (zv (iblk m c 2 t)) (iblk m c 7 t) (iblk m c 8 t) (iblk m c 9 t)) (bY (BitVec.ofNat 32 ↑(grid0.coords t 0)) (XE (BitVec.ofNat 32 ↑(grid0.coords t 0)) (iblk m c 3 t) (iblk m c 4 t) (iblk m c 5 t)) (iblk m c 10 t)) := by
    rw [outsAt0_C m c t h0 h1]
    dsimp only
    unfold out0_C_12
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o12 (t : Fin cfg0.N) : (outsAt0 m c t.val t.isLt).1 = bO (iblk m c 0 t) (iblk m c 1 t) (iblk m c 2 t) (iblk m c 7 t) (iblk m c 9 t) (iblk m c 6 t) (iblk m c 11 t) (bM (zv (iblk m c 2 t)) (iblk m c 7 t) (iblk m c 8 t) (iblk m c 9 t)) (bY (BitVec.ofNat 32 ↑(grid0.coords t 0)) (XE (BitVec.ofNat 32 ↑(grid0.coords t 0)) (iblk m c 3 t) (iblk m c 4 t) (iblk m c 5 t)) (iblk m c 10 t)) := by
  by_cases h0 : t.val % 32 = 0
  · exact o12_A m c t h0
  by_cases h1 : t.val % 32 = 31
  · exact o12_C m c t h0 h1
  · exact o12_B m c t h0 h1
theorem o13_A (t : Fin cfg0.N) (h0 : t.val % 32 = 0) : (outsAt0 m c t.val t.isLt).2.1 = bDp (bE (iblk m c 0 t) (iblk m c 1 t) (iblk m c 11 t) (iblk m c 6 t)) (iblk m c 10 t) := by
    rw [outsAt0_A m c t h0 (by omega)]
    dsimp only
    unfold out0_A_13
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o13_B (t : Fin cfg0.N) (h0 : ¬ t.val % 32 = 0) (h1 : ¬ t.val % 32 = 31) : (outsAt0 m c t.val t.isLt).2.1 = bDp (bE (iblk m c 0 t) (iblk m c 1 t) (iblk m c 11 t) (iblk m c 6 t)) (iblk m c 10 t) := by
    rw [outsAt0_B m c t h0 h1]
    dsimp only
    unfold out0_B_13
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o13_C (t : Fin cfg0.N) (h0 : ¬ t.val % 32 = 0) (h1 : t.val % 32 = 31) : (outsAt0 m c t.val t.isLt).2.1 = bDp (bE (iblk m c 0 t) (iblk m c 1 t) (iblk m c 11 t) (iblk m c 6 t)) (iblk m c 10 t) := by
    rw [outsAt0_C m c t h0 h1]
    dsimp only
    unfold out0_C_13
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o13 (t : Fin cfg0.N) : (outsAt0 m c t.val t.isLt).2.1 = bDp (bE (iblk m c 0 t) (iblk m c 1 t) (iblk m c 11 t) (iblk m c 6 t)) (iblk m c 10 t) := by
  by_cases h0 : t.val % 32 = 0
  · exact o13_A m c t h0
  by_cases h1 : t.val % 32 = 31
  · exact o13_C m c t h0 h1
  · exact o13_B m c t h0 h1
theorem o14_A (t : Fin cfg0.N) (h0 : t.val % 32 = 0) : (outsAt0 m c t.val t.isLt).2.2.1 = k0_pay3 (k0_pay68 (bM (zv (iblk m c 2 t)) (iblk m c 7 t) (iblk m c 8 t) (iblk m c 9 t)) (k0_pay62 (zu (iblk m c 2 t))) (zg (iblk m c 2 t))) (k0_pay98 (bY (BitVec.ofNat 32 ↑(grid0.coords t 0)) (XE (BitVec.ofNat 32 ↑(grid0.coords t 0)) (iblk m c 3 t) (iblk m c 4 t) (iblk m c 5 t)) (iblk m c 10 t)) (iblk m c 11 t) (iblk m c 6 t)) := by
    rw [outsAt0_A m c t h0 (by omega)]
    dsimp only
    unfold out0_A_14
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o14_B (t : Fin cfg0.N) (h0 : ¬ t.val % 32 = 0) (h1 : ¬ t.val % 32 = 31) : (outsAt0 m c t.val t.isLt).2.2.1 = k0_pay3 (k0_pay68 (bM (zv (iblk m c 2 t)) (iblk m c 7 t) (iblk m c 8 t) (iblk m c 9 t)) (k0_pay62 (zu (iblk m c 2 t))) (zg (iblk m c 2 t))) (k0_pay98 (bY (BitVec.ofNat 32 ↑(grid0.coords t 0)) (XE (BitVec.ofNat 32 ↑(grid0.coords t 0)) (iblk m c 3 t) (iblk m c 4 t) (iblk m c 5 t)) (iblk m c 10 t)) (iblk m c 11 t) (iblk m c 6 t)) := by
    rw [outsAt0_B m c t h0 h1]
    dsimp only
    unfold out0_B_14
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o14_C (t : Fin cfg0.N) (h0 : ¬ t.val % 32 = 0) (h1 : t.val % 32 = 31) : (outsAt0 m c t.val t.isLt).2.2.1 = k0_pay3 (k0_pay68 (bM (zv (iblk m c 2 t)) (iblk m c 7 t) (iblk m c 8 t) (iblk m c 9 t)) (k0_pay62 (zu (iblk m c 2 t))) (zg (iblk m c 2 t))) (k0_pay98 (bY (BitVec.ofNat 32 ↑(grid0.coords t 0)) (XE (BitVec.ofNat 32 ↑(grid0.coords t 0)) (iblk m c 3 t) (iblk m c 4 t) (iblk m c 5 t)) (iblk m c 10 t)) (iblk m c 11 t) (iblk m c 6 t)) := by
    rw [outsAt0_C m c t h0 h1]
    dsimp only
    unfold out0_C_14
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o14 (t : Fin cfg0.N) : (outsAt0 m c t.val t.isLt).2.2.1 = k0_pay3 (k0_pay68 (bM (zv (iblk m c 2 t)) (iblk m c 7 t) (iblk m c 8 t) (iblk m c 9 t)) (k0_pay62 (zu (iblk m c 2 t))) (zg (iblk m c 2 t))) (k0_pay98 (bY (BitVec.ofNat 32 ↑(grid0.coords t 0)) (XE (BitVec.ofNat 32 ↑(grid0.coords t 0)) (iblk m c 3 t) (iblk m c 4 t) (iblk m c 5 t)) (iblk m c 10 t)) (iblk m c 11 t) (iblk m c 6 t)) := by
  by_cases h0 : t.val % 32 = 0
  · exact o14_A m c t h0
  by_cases h1 : t.val % 32 = 31
  · exact o14_C m c t h0 h1
  · exact o14_B m c t h0 h1
theorem o16_A (t : Fin cfg0.N) (h0 : t.val % 32 = 0) : (outsAt0 m c t.val t.isLt).2.2.2.2.1 = k0_pay115 (bT (iblk m c 0 t) (iblk m c 1 t) (iblk m c 2 t)) ((k0_pay9 (F := Ideal) : Vec Ideal S128x1024 .f32)) := by
    rw [outsAt0_A m c t h0 (by omega)]
    dsimp only
    unfold out0_A_16
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o16_B (t : Fin cfg0.N) (h0 : ¬ t.val % 32 = 0) : (outsAt0 m c t.val t.isLt).2.2.2.2.1 = k0_pay115 (bT (iblk m c 0 t) (iblk m c 1 t) (iblk m c 2 t)) ((outsAt0 m c (t.val - 1) (Nat.lt_of_le_of_lt (Nat.sub_le _ _) t.isLt)).2.2.2.2.1) := by
  by_cases h1 : t.val % 32 = 31
  · rw [outsAt0_C m c t h0 h1]
    dsimp only
    unfold out0_C_16
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
  · rw [outsAt0_B m c t h0 h1]
    dsimp only
    unfold out0_B_16
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o17_A (t : Fin cfg0.N) (h0 : t.val % 32 = 0) : (outsAt0 m c t.val t.isLt).2.2.2.2.2.1 = k0_pay117 (k0_pay26 (k0_pay19 (zv (iblk m c 2 t)))) (bD0 (bT (iblk m c 0 t) (iblk m c 1 t) (iblk m c 2 t)) (iblk m c 7 t) (k0_pay75 (k0_pay14 (iblk m c 0 t) (w0 (iblk m c 1 t))) (k0_pay62 (zu (iblk m c 2 t))) (zg (iblk m c 2 t)) (s0 (iblk m c 7 t)))) (bD1 (bT (iblk m c 0 t) (iblk m c 1 t) (iblk m c 2 t)) (iblk m c 7 t)) ((k0_pay10 (F := Ideal) : Vec Ideal S1x1024 .f32)) := by
    rw [outsAt0_A m c t h0 (by omega)]
    dsimp only
    unfold out0_A_17
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o17_B (t : Fin cfg0.N) (h0 : ¬ t.val % 32 = 0) : (outsAt0 m c t.val t.isLt).2.2.2.2.2.1 = k0_pay117 (k0_pay26 (k0_pay19 (zv (iblk m c 2 t)))) (bD0 (bT (iblk m c 0 t) (iblk m c 1 t) (iblk m c 2 t)) (iblk m c 7 t) (k0_pay75 (k0_pay14 (iblk m c 0 t) (w0 (iblk m c 1 t))) (k0_pay62 (zu (iblk m c 2 t))) (zg (iblk m c 2 t)) (s0 (iblk m c 7 t)))) (bD1 (bT (iblk m c 0 t) (iblk m c 1 t) (iblk m c 2 t)) (iblk m c 7 t)) ((outsAt0 m c (t.val - 1) (Nat.lt_of_le_of_lt (Nat.sub_le _ _) t.isLt)).2.2.2.2.2.1) := by
  by_cases h1 : t.val % 32 = 31
  · rw [outsAt0_C m c t h0 h1]
    dsimp only
    unfold out0_C_17
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
  · rw [outsAt0_B m c t h0 h1]
    dsimp only
    unfold out0_B_17
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o18_A (t : Fin cfg0.N) (h0 : t.val % 32 = 0) : (outsAt0 m c t.val t.isLt).2.2.2.2.2.2.1 = k0_pay102 (k0_pay15 (iblk m c 0 t) (w1 (iblk m c 1 t))) (bY (BitVec.ofNat 32 ↑(grid0.coords t 0)) (XE (BitVec.ofNat 32 ↑(grid0.coords t 0)) (iblk m c 3 t) (iblk m c 4 t) (iblk m c 5 t)) (iblk m c 10 t)) (iblk m c 6 t) ((k0_pay11 (F := Ideal) : Vec Ideal S1x1024 .f32)) := by
    rw [outsAt0_A m c t h0 (by omega)]
    dsimp only
    unfold out0_A_18
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
theorem o18_B (t : Fin cfg0.N) (h0 : ¬ t.val % 32 = 0) : (outsAt0 m c t.val t.isLt).2.2.2.2.2.2.1 = k0_pay102 (k0_pay15 (iblk m c 0 t) (w1 (iblk m c 1 t))) (bY (BitVec.ofNat 32 ↑(grid0.coords t 0)) (XE (BitVec.ofNat 32 ↑(grid0.coords t 0)) (iblk m c 3 t) (iblk m c 4 t) (iblk m c 5 t)) (iblk m c 10 t)) (iblk m c 6 t) ((outsAt0 m c (t.val - 1) (Nat.lt_of_le_of_lt (Nat.sub_le _ _) t.isLt)).2.2.2.2.2.2.1) := by
  by_cases h1 : t.val % 32 = 31
  · rw [outsAt0_C m c t h0 h1]
    dsimp only
    unfold out0_C_18
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl
  · rw [outsAt0_B m c t h0 h1]
    dsimp only
    unfold out0_B_18
    frame_out
    try simp only [rc_ld, XE_fold, A1_fold, A2_fold, A3_fold, B1_fold, B2_fold, C3_fold, zu_f, zv_f, zg_f, w0_f, w1_f, s0_f, s1_f, s2_f, s3_f, g0_f, g1_f, g2_f, g3_f]
    try simp only [Q0_f, Q1_f, Q2_f, bP_f, bY_f, bM_f, h73, h72, bE_f]
    try simp only [bD_f]
    try rfl

end Cert.K1

end
-- ==== Proof.K1f.lean ====
module

public import proofs.«01_k».proof.Proof.K1e

@[expose] public section

noncomputable section

namespace Cert.K1

open Cert.KernelIdeal Cert.KernelIdeal.Gen Idealize.ShloMosaic Idealize.ShloMosaic.TcCoe Idealize.SL.Sem
open Cert.Mix

theorem slab_hit {H M N h : ℕ} {e : EltTy} (inb) (w) (L : List (View.Piece (Elt Ideal) (⟨3, ![H, M, N]⟩ : Shape) e)) (k : Fin H) (i : Fin M) (j : Fin N)
    (hk : k.val = h) :
    View.canon (⟨Rect.unit ![h, 0, 0] ![1, M, N] inb, w⟩ :: L) (ix3 k i j) = w (ix3 0 i j) := by
  have h : (Rect.unit (s := ⟨3, ![H, M, N]⟩) ![h, 0, 0] ![1, M, N] inb).emb (ix3 0 i j) = ix3 k i j := by
    funext x; fin_cases x
    · exact Fin.ext (by show h + 1 * 0 = k.val; omega)
    · exact Fin.ext (by show 0 + 1 * i.val = i.val; omega)
    · exact Fin.ext (by show 0 + 1 * j.val = j.val; omega)
  rw [← h]
  exact View.canon_cons_emb _ w L _
theorem slab_miss {H M N h : ℕ} {e : EltTy} (inb) (w) (L : List (View.Piece (Elt Ideal) (⟨3, ![H, M, N]⟩ : Shape) e)) (k : Fin H) (i : Fin M) (j : Fin N)
    (hk : k.val ≠ h) :
    View.canon (⟨Rect.unit ![h, 0, 0] ![1, M, N] inb, w⟩ :: L) (ix3 k i j) = View.canon L (ix3 k i j) := by
  refine View.canon_cons_of_not_mem _ L fun hm => ?_
  rw [Rect.mem_set_unit] at hm
  have h0 := hm 0
  simp at h0
  omega
def sA (T V : FVec Ideal S256x1024 .f32) (h : Fin 4) (i j : Fin 128) : EReal :=
  ∑ e : Fin 256, T (ix2 ⟨i.val, by omega⟩ (col h e)) * V (ix2 ⟨j.val, by omega⟩ (col h e))
def sB (T V : FVec Ideal S256x1024 .f32) (h : Fin 4) (i j : Fin 128) : EReal :=
  ∑ e : Fin 256, T (ix2 ⟨128 + i.val, by omega⟩ (col h e)) * V (ix2 ⟨128 + j.val, by omega⟩ (col h e))
def sW (P E : FVec Ideal S256x1024 .bf16) (h : Fin 4) (i j : Fin 256) : EReal :=
  ∑ r : Fin 256, P (ix2 r (col h i)) * E (ix2 r (col h j))
theorem c1 (e : Fin 256) : (⟨256 + e.val, by omega⟩ : Fin 1024) = col 1 e := rfl
theorem c2 (e : Fin 256) : (⟨512 + e.val, by omega⟩ : Fin 1024) = col 2 e := rfl
theorem c3 (e : Fin 256) : (⟨768 + e.val, by omega⟩ : Fin 1024) = col 3 e := rfl
variable (D : FVec Ideal S256x1024 .f32) (V T : FVec Ideal S256x1024 .bf16) (x : Vec Ideal S1x128x128 .f32) (i j : Fin 128)
theorem p74 (u z) (hT : k0_pay73 D u z = T) : k0_pay74 D V u z x (ix3 0 i j) = x (ix3 0 i j) + sA T V 0 i j := by
  unfold sA
  pointwise [k0_pay74]
  simp only [hT, col_zero]
  done
theorem p76 : k0_pay76 V T x (ix3 0 i j) = x (ix3 0 i j) + sA T V 1 i j := by
  unfold sA
  pointwise [k0_pay76]
  try simp only [c1]
theorem p78 : k0_pay78 V T x (ix3 0 i j) = x (ix3 0 i j) + sA T V 2 i j := by
  unfold sA
  pointwise [k0_pay78]
  try simp only [c2]
theorem p80 : k0_pay81 (k0_pay80 V T x) (ix3 0 i j) = x (ix3 0 i j) + sA T V 3 i j := by
  unfold sA
  pointwise [k0_pay80, k0_pay81]
  try simp only [c3]
theorem p83 : k0_pay83 V T x (ix3 0 i j) = x (ix3 0 i j) + sB T V 0 i j := by
  unfold sB
  pointwise [k0_pay83]
  try simp only [col_zero]
theorem p85 : k0_pay85 V T x (ix3 0 i j) = x (ix3 0 i j) + sB T V 1 i j := by
  unfold sB
  pointwise [k0_pay85]
  try simp only [c1]
theorem p87 : k0_pay87 V T x (ix3 0 i j) = x (ix3 0 i j) + sB T V 2 i j := by
  unfold sB
  pointwise [k0_pay87]
  try simp only [c2]
theorem p89 : k0_pay89 V T x (ix3 0 i j) = x (ix3 0 i j) + sB T V 3 i j := by
  unfold sB
  pointwise [k0_pay89]
  try simp only [c3]
variable (P E : FVec Ideal S256x1024 .bf16) (y : Vec Ideal S1x256x256 .f32) (a b : Fin 256)
theorem p106 : k0_pay106 E (k0_pay104 y) (k0_pay105 P) (ix3 0 a b) = y (ix3 0 a b) + sW P E 0 a b := by
  unfold sW
  pointwise [k0_pay106, k0_pay104, k0_pay105]
  try simp only [col_zero]
theorem p108 : k0_pay108 P E y (ix3 0 a b) = y (ix3 0 a b) + sW P E 1 a b := by
  unfold sW
  pointwise [k0_pay108]
  try simp only [c1]
theorem p110 : k0_pay111 (k0_pay110 P E y) (ix3 0 a b) = y (ix3 0 a b) + sW P E 2 a b := by
  unfold sW
  pointwise [k0_pay110, k0_pay111]
  try simp only [c2]
theorem p113 : k0_pay113 P E y (ix3 0 a b) = y (ix3 0 a b) + sW P E 3 a b := by
  unfold sW
  pointwise [k0_pay113]
  try simp only [c3]
def r0 (X : Vec Ideal S4x128x128 .f32) : Vec Ideal S1x128x128 .f32 := View.ld X (Rect.unit ![0, 0, 0] ![1, 128, 128] inb_S4x128x128_S1x128x128_0_0_0)
theorem r0_f (X : Vec Ideal S4x128x128 .f32) : View.ld X (Rect.unit ![0, 0, 0] ![1, 128, 128] inb_S4x128x128_S1x128x128_0_0_0) = r0 X := rfl
theorem r0_at (X : Vec Ideal S4x128x128 .f32) (i j : Fin 128) : r0 X (ix3 0 i j) = X (ix3 0 i j) := by
  pointwise [r0]
  done
def q0 (X : Vec Ideal S4x256x256 .f32) : Vec Ideal S1x256x256 .f32 := View.ld X (Rect.unit ![0, 0, 0] ![1, 256, 256] inb_S4x256x256_S1x256x256_0_0_0)
theorem q0_f (X : Vec Ideal S4x256x256 .f32) : View.ld X (Rect.unit ![0, 0, 0] ![1, 256, 256] inb_S4x256x256_S1x256x256_0_0_0) = q0 X := rfl
theorem q0_at (X : Vec Ideal S4x256x256 .f32) (i j : Fin 256) : q0 X (ix3 0 i j) = X (ix3 0 i j) := by
  pointwise [q0]
  done
def r1 (X : Vec Ideal S4x128x128 .f32) : Vec Ideal S1x128x128 .f32 := View.ld X (Rect.unit ![1, 0, 0] ![1, 128, 128] inb_S4x128x128_S1x128x128_1_0_0)
theorem r1_f (X : Vec Ideal S4x128x128 .f32) : View.ld X (Rect.unit ![1, 0, 0] ![1, 128, 128] inb_S4x128x128_S1x128x128_1_0_0) = r1 X := rfl
theorem r1_at (X : Vec Ideal S4x128x128 .f32) (i j : Fin 128) : r1 X (ix3 0 i j) = X (ix3 1 i j) := by
  pointwise [r1]
  done
def q1 (X : Vec Ideal S4x256x256 .f32) : Vec Ideal S1x256x256 .f32 := View.ld X (Rect.unit ![1, 0, 0] ![1, 256, 256] inb_S4x256x256_S1x256x256_1_0_0)
theorem q1_f (X : Vec Ideal S4x256x256 .f32) : View.ld X (Rect.unit ![1, 0, 0] ![1, 256, 256] inb_S4x256x256_S1x256x256_1_0_0) = q1 X := rfl
theorem q1_at (X : Vec Ideal S4x256x256 .f32) (i j : Fin 256) : q1 X (ix3 0 i j) = X (ix3 1 i j) := by
  pointwise [q1]
  done
def r2 (X : Vec Ideal S4x128x128 .f32) : Vec Ideal S1x128x128 .f32 := View.ld X (Rect.unit ![2, 0, 0] ![1, 128, 128] inb_S4x128x128_S1x128x128_2_0_0)
theorem r2_f (X : Vec Ideal S4x128x128 .f32) : View.ld X (Rect.unit ![2, 0, 0] ![1, 128, 128] inb_S4x128x128_S1x128x128_2_0_0) = r2 X := rfl
theorem r2_at (X : Vec Ideal S4x128x128 .f32) (i j : Fin 128) : r2 X (ix3 0 i j) = X (ix3 2 i j) := by
  pointwise [r2]
  done
def q2 (X : Vec Ideal S4x256x256 .f32) : Vec Ideal S1x256x256 .f32 := View.ld X (Rect.unit ![2, 0, 0] ![1, 256, 256] inb_S4x256x256_S1x256x256_2_0_0)
theorem q2_f (X : Vec Ideal S4x256x256 .f32) : View.ld X (Rect.unit ![2, 0, 0] ![1, 256, 256] inb_S4x256x256_S1x256x256_2_0_0) = q2 X := rfl
theorem q2_at (X : Vec Ideal S4x256x256 .f32) (i j : Fin 256) : q2 X (ix3 0 i j) = X (ix3 2 i j) := by
  pointwise [q2]
  done
def r3 (X : Vec Ideal S4x128x128 .f32) : Vec Ideal S1x128x128 .f32 := View.ld X (Rect.unit ![3, 0, 0] ![1, 128, 128] inb_S4x128x128_S1x128x128_3_0_0)
theorem r3_f (X : Vec Ideal S4x128x128 .f32) : View.ld X (Rect.unit ![3, 0, 0] ![1, 128, 128] inb_S4x128x128_S1x128x128_3_0_0) = r3 X := rfl
theorem r3_at (X : Vec Ideal S4x128x128 .f32) (i j : Fin 128) : r3 X (ix3 0 i j) = X (ix3 3 i j) := by
  pointwise [r3]
  done
def q3 (X : Vec Ideal S4x256x256 .f32) : Vec Ideal S1x256x256 .f32 := View.ld X (Rect.unit ![3, 0, 0] ![1, 256, 256] inb_S4x256x256_S1x256x256_3_0_0)
theorem q3_f (X : Vec Ideal S4x256x256 .f32) : View.ld X (Rect.unit ![3, 0, 0] ![1, 256, 256] inb_S4x256x256_S1x256x256_3_0_0) = q3 X := rfl
theorem q3_at (X : Vec Ideal S4x256x256 .f32) (i j : Fin 256) : q3 X (ix3 0 i j) = X (ix3 3 i j) := by
  pointwise [q3]
  done
variable (m : (ℓ : Loc nD τ sig) → Buf (Elt Ideal) ℓ) (c : Dev nD)
theorem k8 (i : S4x128x128.Idx) : k0_pay8 (F := Ideal) i = 0 := by
  idx_vars i
  pointwise [k0_pay8]
  done
theorem k12 (i : S4x256x256.Idx) : k0_pay12 (F := Ideal) i = 0 := by
  idx_vars i
  pointwise [k0_pay12]
  done
theorem o15_A_0 (t : Fin cfg0.N) (h0 : t.val % 32 = 0) (i j : Fin 128) : (outsAt0 m c t.val t.isLt).2.2.2.1 (ix3 0 i j) = 0 + (sA (bT (iblk m c 0 t) (iblk m c 1 t) (iblk m c 2 t)) (k0_pay28 (k0_pay19 (zv (iblk m c 2 t))) (iblk m c 9 t)) 0 i j + sB (bT (iblk m c 0 t) (iblk m c 1 t) (iblk m c 2 t)) (k0_pay28 (k0_pay19 (zv (iblk m c 2 t))) (iblk m c 9 t)) 0 i j) := by
    rw [outsAt0_A m c t h0 (by omega)]
    dsimp only
    unfold out0_A_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k8, zero_add]
    try exact add_assoc _ _ _
theorem o15_A_1 (t : Fin cfg0.N) (h0 : t.val % 32 = 0) (i j : Fin 128) : (outsAt0 m c t.val t.isLt).2.2.2.1 (ix3 1 i j) = 0 + (sA (bT (iblk m c 0 t) (iblk m c 1 t) (iblk m c 2 t)) (k0_pay28 (k0_pay19 (zv (iblk m c 2 t))) (iblk m c 9 t)) 1 i j + sB (bT (iblk m c 0 t) (iblk m c 1 t) (iblk m c 2 t)) (k0_pay28 (k0_pay19 (zv (iblk m c 2 t))) (iblk m c 9 t)) 1 i j) := by
    rw [outsAt0_A m c t h0 (by omega)]
    dsimp only
    unfold out0_A_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k8, zero_add]
    try exact add_assoc _ _ _
theorem o15_A_2 (t : Fin cfg0.N) (h0 : t.val % 32 = 0) (i j : Fin 128) : (outsAt0 m c t.val t.isLt).2.2.2.1 (ix3 2 i j) = 0 + (sA (bT (iblk m c 0 t) (iblk m c 1 t) (iblk m c 2 t)) (k0_pay28 (k0_pay19 (zv (iblk m c 2 t))) (iblk m c 9 t)) 2 i j + sB (bT (iblk m c 0 t) (iblk m c 1 t) (iblk m c 2 t)) (k0_pay28 (k0_pay19 (zv (iblk m c 2 t))) (iblk m c 9 t)) 2 i j) := by
    rw [outsAt0_A m c t h0 (by omega)]
    dsimp only
    unfold out0_A_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k8, zero_add]
    try exact add_assoc _ _ _
theorem o15_A_3 (t : Fin cfg0.N) (h0 : t.val % 32 = 0) (i j : Fin 128) : (outsAt0 m c t.val t.isLt).2.2.2.1 (ix3 3 i j) = 0 + (sA (bT (iblk m c 0 t) (iblk m c 1 t) (iblk m c 2 t)) (k0_pay28 (k0_pay19 (zv (iblk m c 2 t))) (iblk m c 9 t)) 3 i j + sB (bT (iblk m c 0 t) (iblk m c 1 t) (iblk m c 2 t)) (k0_pay28 (k0_pay19 (zv (iblk m c 2 t))) (iblk m c 9 t)) 3 i j) := by
    rw [outsAt0_A m c t h0 (by omega)]
    dsimp only
    unfold out0_A_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k8, zero_add]
    try exact add_assoc _ _ _
theorem o15_A (t : Fin cfg0.N) (h0 : t.val % 32 = 0) (h : Fin 4) (i j : Fin 128) : (outsAt0 m c t.val t.isLt).2.2.2.1 (ix3 h i j) = 0 + (sA (bT (iblk m c 0 t) (iblk m c 1 t) (iblk m c 2 t)) (k0_pay28 (k0_pay19 (zv (iblk m c 2 t))) (iblk m c 9 t)) h i j + sB (bT (iblk m c 0 t) (iblk m c 1 t) (iblk m c 2 t)) (k0_pay28 (k0_pay19 (zv (iblk m c 2 t))) (iblk m c 9 t)) h i j) := by
    fin_cases h
    · exact o15_A_0 m c t h0  i j
    · exact o15_A_1 m c t h0  i j
    · exact o15_A_2 m c t h0  i j
    · exact o15_A_3 m c t h0  i j
theorem o15_B_0 (t : Fin cfg0.N) (h0 : ¬ t.val % 32 = 0) (h1 : ¬ t.val % 32 = 31) (i j : Fin 128) : (outsAt0 m c t.val t.isLt).2.2.2.1 (ix3 0 i j) = (outsAt0 m c (t.val - 1) (Nat.lt_of_le_of_lt (Nat.sub_le _ _) t.isLt)).2.2.2.1 (ix3 0 i j) + (sA (bT (iblk m c 0 t) (iblk m c 1 t) (iblk m c 2 t)) (k0_pay28 (k0_pay19 (zv (iblk m c 2 t))) (iblk m c 9 t)) 0 i j + sB (bT (iblk m c 0 t) (iblk m c 1 t) (iblk m c 2 t)) (k0_pay28 (k0_pay19 (zv (iblk m c 2 t))) (iblk m c 9 t)) 0 i j) := by
    rw [outsAt0_B m c t h0 h1]
    dsimp only
    unfold out0_B_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_B_1 (t : Fin cfg0.N) (h0 : ¬ t.val % 32 = 0) (h1 : ¬ t.val % 32 = 31) (i j : Fin 128) : (outsAt0 m c t.val t.isLt).2.2.2.1 (ix3 1 i j) = (outsAt0 m c (t.val - 1) (Nat.lt_of_le_of_lt (Nat.sub_le _ _) t.isLt)).2.2.2.1 (ix3 1 i j) + (sA (bT (iblk m c 0 t) (iblk m c 1 t) (iblk m c 2 t)) (k0_pay28 (k0_pay19 (zv (iblk m c 2 t))) (iblk m c 9 t)) 1 i j + sB (bT (iblk m c 0 t) (iblk m c 1 t) (iblk m c 2 t)) (k0_pay28 (k0_pay19 (zv (iblk m c 2 t))) (iblk m c 9 t)) 1 i j) := by
    rw [outsAt0_B m c t h0 h1]
    dsimp only
    unfold out0_B_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_B_2 (t : Fin cfg0.N) (h0 : ¬ t.val % 32 = 0) (h1 : ¬ t.val % 32 = 31) (i j : Fin 128) : (outsAt0 m c t.val t.isLt).2.2.2.1 (ix3 2 i j) = (outsAt0 m c (t.val - 1) (Nat.lt_of_le_of_lt (Nat.sub_le _ _) t.isLt)).2.2.2.1 (ix3 2 i j) + (sA (bT (iblk m c 0 t) (iblk m c 1 t) (iblk m c 2 t)) (k0_pay28 (k0_pay19 (zv (iblk m c 2 t))) (iblk m c 9 t)) 2 i j + sB (bT (iblk m c 0 t) (iblk m c 1 t) (iblk m c 2 t)) (k0_pay28 (k0_pay19 (zv (iblk m c 2 t))) (iblk m c 9 t)) 2 i j) := by
    rw [outsAt0_B m c t h0 h1]
    dsimp only
    unfold out0_B_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_B_3 (t : Fin cfg0.N) (h0 : ¬ t.val % 32 = 0) (h1 : ¬ t.val % 32 = 31) (i j : Fin 128) : (outsAt0 m c t.val t.isLt).2.2.2.1 (ix3 3 i j) = (outsAt0 m c (t.val - 1) (Nat.lt_of_le_of_lt (Nat.sub_le _ _) t.isLt)).2.2.2.1 (ix3 3 i j) + (sA (bT (iblk m c 0 t) (iblk m c 1 t) (iblk m c 2 t)) (k0_pay28 (k0_pay19 (zv (iblk m c 2 t))) (iblk m c 9 t)) 3 i j + sB (bT (iblk m c 0 t) (iblk m c 1 t) (iblk m c 2 t)) (k0_pay28 (k0_pay19 (zv (iblk m c 2 t))) (iblk m c 9 t)) 3 i j) := by
    rw [outsAt0_B m c t h0 h1]
    dsimp only
    unfold out0_B_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_B (t : Fin cfg0.N) (h0 : ¬ t.val % 32 = 0) (h1 : ¬ t.val % 32 = 31) (h : Fin 4) (i j : Fin 128) : (outsAt0 m c t.val t.isLt).2.2.2.1 (ix3 h i j) = (outsAt0 m c (t.val - 1) (Nat.lt_of_le_of_lt (Nat.sub_le _ _) t.isLt)).2.2.2.1 (ix3 h i j) + (sA (bT (iblk m c 0 t) (iblk m c 1 t) (iblk m c 2 t)) (k0_pay28 (k0_pay19 (zv (iblk m c 2 t))) (iblk m c 9 t)) h i j + sB (bT (iblk m c 0 t) (iblk m c 1 t) (iblk m c 2 t)) (k0_pay28 (k0_pay19 (zv (iblk m c 2 t))) (iblk m c 9 t)) h i j) := by
    fin_cases h
    · exact o15_B_0 m c t h0 h1 i j
    · exact o15_B_1 m c t h0 h1 i j
    · exact o15_B_2 m c t h0 h1 i j
    · exact o15_B_3 m c t h0 h1 i j
theorem o15_C_0 (t : Fin cfg0.N) (h0 : ¬ t.val % 32 = 0) (h1 : t.val % 32 = 31) (i j : Fin 128) : (outsAt0 m c t.val t.isLt).2.2.2.1 (ix3 0 i j) = (outsAt0 m c (t.val - 1) (Nat.lt_of_le_of_lt (Nat.sub_le _ _) t.isLt)).2.2.2.1 (ix3 0 i j) + (sA (bT (iblk m c 0 t) (iblk m c 1 t) (iblk m c 2 t)) (k0_pay28 (k0_pay19 (zv (iblk m c 2 t))) (iblk m c 9 t)) 0 i j + sB (bT (iblk m c 0 t) (iblk m c 1 t) (iblk m c 2 t)) (k0_pay28 (k0_pay19 (zv (iblk m c 2 t))) (iblk m c 9 t)) 0 i j) := by
    rw [outsAt0_C m c t h0 h1]
    dsimp only
    unfold out0_C_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_C_1 (t : Fin cfg0.N) (h0 : ¬ t.val % 32 = 0) (h1 : t.val % 32 = 31) (i j : Fin 128) : (outsAt0 m c t.val t.isLt).2.2.2.1 (ix3 1 i j) = (outsAt0 m c (t.val - 1) (Nat.lt_of_le_of_lt (Nat.sub_le _ _) t.isLt)).2.2.2.1 (ix3 1 i j) + (sA (bT (iblk m c 0 t) (iblk m c 1 t) (iblk m c 2 t)) (k0_pay28 (k0_pay19 (zv (iblk m c 2 t))) (iblk m c 9 t)) 1 i j + sB (bT (iblk m c 0 t) (iblk m c 1 t) (iblk m c 2 t)) (k0_pay28 (k0_pay19 (zv (iblk m c 2 t))) (iblk m c 9 t)) 1 i j) := by
    rw [outsAt0_C m c t h0 h1]
    dsimp only
    unfold out0_C_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_C_2 (t : Fin cfg0.N) (h0 : ¬ t.val % 32 = 0) (h1 : t.val % 32 = 31) (i j : Fin 128) : (outsAt0 m c t.val t.isLt).2.2.2.1 (ix3 2 i j) = (outsAt0 m c (t.val - 1) (Nat.lt_of_le_of_lt (Nat.sub_le _ _) t.isLt)).2.2.2.1 (ix3 2 i j) + (sA (bT (iblk m c 0 t) (iblk m c 1 t) (iblk m c 2 t)) (k0_pay28 (k0_pay19 (zv (iblk m c 2 t))) (iblk m c 9 t)) 2 i j + sB (bT (iblk m c 0 t) (iblk m c 1 t) (iblk m c 2 t)) (k0_pay28 (k0_pay19 (zv (iblk m c 2 t))) (iblk m c 9 t)) 2 i j) := by
    rw [outsAt0_C m c t h0 h1]
    dsimp only
    unfold out0_C_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_C_3 (t : Fin cfg0.N) (h0 : ¬ t.val % 32 = 0) (h1 : t.val % 32 = 31) (i j : Fin 128) : (outsAt0 m c t.val t.isLt).2.2.2.1 (ix3 3 i j) = (outsAt0 m c (t.val - 1) (Nat.lt_of_le_of_lt (Nat.sub_le _ _) t.isLt)).2.2.2.1 (ix3 3 i j) + (sA (bT (iblk m c 0 t) (iblk m c 1 t) (iblk m c 2 t)) (k0_pay28 (k0_pay19 (zv (iblk m c 2 t))) (iblk m c 9 t)) 3 i j + sB (bT (iblk m c 0 t) (iblk m c 1 t) (iblk m c 2 t)) (k0_pay28 (k0_pay19 (zv (iblk m c 2 t))) (iblk m c 9 t)) 3 i j) := by
    rw [outsAt0_C m c t h0 h1]
    dsimp only
    unfold out0_C_15
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o15_C (t : Fin cfg0.N) (h0 : ¬ t.val % 32 = 0) (h1 : t.val % 32 = 31) (h : Fin 4) (i j : Fin 128) : (outsAt0 m c t.val t.isLt).2.2.2.1 (ix3 h i j) = (outsAt0 m c (t.val - 1) (Nat.lt_of_le_of_lt (Nat.sub_le _ _) t.isLt)).2.2.2.1 (ix3 h i j) + (sA (bT (iblk m c 0 t) (iblk m c 1 t) (iblk m c 2 t)) (k0_pay28 (k0_pay19 (zv (iblk m c 2 t))) (iblk m c 9 t)) h i j + sB (bT (iblk m c 0 t) (iblk m c 1 t) (iblk m c 2 t)) (k0_pay28 (k0_pay19 (zv (iblk m c 2 t))) (iblk m c 9 t)) h i j) := by
    fin_cases h
    · exact o15_C_0 m c t h0 h1 i j
    · exact o15_C_1 m c t h0 h1 i j
    · exact o15_C_2 m c t h0 h1 i j
    · exact o15_C_3 m c t h0 h1 i j
theorem o19_A_0 (t : Fin cfg0.N) (h0 : t.val % 32 = 0) (i j : Fin 256) : (outsAt0 m c t.val t.isLt).2.2.2.2.2.2.2.1 (ix3 0 i j) = 0 + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 0 i j := by
    rw [outsAt0_A m c t h0 (by omega)]
    dsimp only
    unfold out0_A_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k12, zero_add]
    try exact add_assoc _ _ _
theorem o19_A_1 (t : Fin cfg0.N) (h0 : t.val % 32 = 0) (i j : Fin 256) : (outsAt0 m c t.val t.isLt).2.2.2.2.2.2.2.1 (ix3 1 i j) = 0 + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 1 i j := by
    rw [outsAt0_A m c t h0 (by omega)]
    dsimp only
    unfold out0_A_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k12, zero_add]
    try exact add_assoc _ _ _
theorem o19_A_2 (t : Fin cfg0.N) (h0 : t.val % 32 = 0) (i j : Fin 256) : (outsAt0 m c t.val t.isLt).2.2.2.2.2.2.2.1 (ix3 2 i j) = 0 + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 2 i j := by
    rw [outsAt0_A m c t h0 (by omega)]
    dsimp only
    unfold out0_A_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k12, zero_add]
    try exact add_assoc _ _ _
theorem o19_A_3 (t : Fin cfg0.N) (h0 : t.val % 32 = 0) (i j : Fin 256) : (outsAt0 m c t.val t.isLt).2.2.2.2.2.2.2.1 (ix3 3 i j) = 0 + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 3 i j := by
    rw [outsAt0_A m c t h0 (by omega)]
    dsimp only
    unfold out0_A_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try simp only [k12, zero_add]
    try exact add_assoc _ _ _
theorem o19_A (t : Fin cfg0.N) (h0 : t.val % 32 = 0) (h : Fin 4) (i j : Fin 256) : (outsAt0 m c t.val t.isLt).2.2.2.2.2.2.2.1 (ix3 h i j) = 0 + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) h i j := by
    fin_cases h
    · exact o19_A_0 m c t h0  i j
    · exact o19_A_1 m c t h0  i j
    · exact o19_A_2 m c t h0  i j
    · exact o19_A_3 m c t h0  i j
theorem o19_B_0 (t : Fin cfg0.N) (h0 : ¬ t.val % 32 = 0) (h1 : ¬ t.val % 32 = 31) (i j : Fin 256) : (outsAt0 m c t.val t.isLt).2.2.2.2.2.2.2.1 (ix3 0 i j) = (outsAt0 m c (t.val - 1) (Nat.lt_of_le_of_lt (Nat.sub_le _ _) t.isLt)).2.2.2.2.2.2.2.1 (ix3 0 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 0 i j := by
    rw [outsAt0_B m c t h0 h1]
    dsimp only
    unfold out0_B_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_B_1 (t : Fin cfg0.N) (h0 : ¬ t.val % 32 = 0) (h1 : ¬ t.val % 32 = 31) (i j : Fin 256) : (outsAt0 m c t.val t.isLt).2.2.2.2.2.2.2.1 (ix3 1 i j) = (outsAt0 m c (t.val - 1) (Nat.lt_of_le_of_lt (Nat.sub_le _ _) t.isLt)).2.2.2.2.2.2.2.1 (ix3 1 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 1 i j := by
    rw [outsAt0_B m c t h0 h1]
    dsimp only
    unfold out0_B_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_B_2 (t : Fin cfg0.N) (h0 : ¬ t.val % 32 = 0) (h1 : ¬ t.val % 32 = 31) (i j : Fin 256) : (outsAt0 m c t.val t.isLt).2.2.2.2.2.2.2.1 (ix3 2 i j) = (outsAt0 m c (t.val - 1) (Nat.lt_of_le_of_lt (Nat.sub_le _ _) t.isLt)).2.2.2.2.2.2.2.1 (ix3 2 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 2 i j := by
    rw [outsAt0_B m c t h0 h1]
    dsimp only
    unfold out0_B_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_B_3 (t : Fin cfg0.N) (h0 : ¬ t.val % 32 = 0) (h1 : ¬ t.val % 32 = 31) (i j : Fin 256) : (outsAt0 m c t.val t.isLt).2.2.2.2.2.2.2.1 (ix3 3 i j) = (outsAt0 m c (t.val - 1) (Nat.lt_of_le_of_lt (Nat.sub_le _ _) t.isLt)).2.2.2.2.2.2.2.1 (ix3 3 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 3 i j := by
    rw [outsAt0_B m c t h0 h1]
    dsimp only
    unfold out0_B_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_B (t : Fin cfg0.N) (h0 : ¬ t.val % 32 = 0) (h1 : ¬ t.val % 32 = 31) (h : Fin 4) (i j : Fin 256) : (outsAt0 m c t.val t.isLt).2.2.2.2.2.2.2.1 (ix3 h i j) = (outsAt0 m c (t.val - 1) (Nat.lt_of_le_of_lt (Nat.sub_le _ _) t.isLt)).2.2.2.2.2.2.2.1 (ix3 h i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) h i j := by
    fin_cases h
    · exact o19_B_0 m c t h0 h1 i j
    · exact o19_B_1 m c t h0 h1 i j
    · exact o19_B_2 m c t h0 h1 i j
    · exact o19_B_3 m c t h0 h1 i j
theorem o19_C_0 (t : Fin cfg0.N) (h0 : ¬ t.val % 32 = 0) (h1 : t.val % 32 = 31) (i j : Fin 256) : (outsAt0 m c t.val t.isLt).2.2.2.2.2.2.2.1 (ix3 0 i j) = (outsAt0 m c (t.val - 1) (Nat.lt_of_le_of_lt (Nat.sub_le _ _) t.isLt)).2.2.2.2.2.2.2.1 (ix3 0 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 0 i j := by
    rw [outsAt0_C m c t h0 h1]
    dsimp only
    unfold out0_C_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_C_1 (t : Fin cfg0.N) (h0 : ¬ t.val % 32 = 0) (h1 : t.val % 32 = 31) (i j : Fin 256) : (outsAt0 m c t.val t.isLt).2.2.2.2.2.2.2.1 (ix3 1 i j) = (outsAt0 m c (t.val - 1) (Nat.lt_of_le_of_lt (Nat.sub_le _ _) t.isLt)).2.2.2.2.2.2.2.1 (ix3 1 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 1 i j := by
    rw [outsAt0_C m c t h0 h1]
    dsimp only
    unfold out0_C_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_C_2 (t : Fin cfg0.N) (h0 : ¬ t.val % 32 = 0) (h1 : t.val % 32 = 31) (i j : Fin 256) : (outsAt0 m c t.val t.isLt).2.2.2.2.2.2.2.1 (ix3 2 i j) = (outsAt0 m c (t.val - 1) (Nat.lt_of_le_of_lt (Nat.sub_le _ _) t.isLt)).2.2.2.2.2.2.2.1 (ix3 2 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 2 i j := by
    rw [outsAt0_C m c t h0 h1]
    dsimp only
    unfold out0_C_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_C_3 (t : Fin cfg0.N) (h0 : ¬ t.val % 32 = 0) (h1 : t.val % 32 = 31) (i j : Fin 256) : (outsAt0 m c t.val t.isLt).2.2.2.2.2.2.2.1 (ix3 3 i j) = (outsAt0 m c (t.val - 1) (Nat.lt_of_le_of_lt (Nat.sub_le _ _) t.isLt)).2.2.2.2.2.2.2.1 (ix3 3 i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) 3 i j := by
    rw [outsAt0_C m c t h0 h1]
    dsimp only
    unfold out0_C_19
    frame_out
    try simp only [rc_ld, XE_fold, A1_fold, A2_fold, A3_fold, B1_fold, B2_fold, C3_fold, zu_f, zv_f, zg_f, w0_f, w1_f, r0_f, r1_f, r2_f, r3_f, q0_f, q1_f, q2_f, q3_f]
    try simp only [Q0_f, Q1_f, Q2_f, bP_f, h73, h72, bE_f]
    simp (disch := decide) only [slab_hit, slab_miss, View.canon_cons_unit_lit', p76, p78, p80, p83, p85, p87, p89, p106, p108, p110, p113, r0_at, r1_at, r2_at, r3_at, q0_at, q1_at, q2_at, q3_at, p74 _ _ _ _ _ _ _ _ rfl, h73]
    try exact add_assoc _ _ _
theorem o19_C (t : Fin cfg0.N) (h0 : ¬ t.val % 32 = 0) (h1 : t.val % 32 = 31) (h : Fin 4) (i j : Fin 256) : (outsAt0 m c t.val t.isLt).2.2.2.2.2.2.2.1 (ix3 h i j) = (outsAt0 m c (t.val - 1) (Nat.lt_of_le_of_lt (Nat.sub_le _ _) t.isLt)).2.2.2.2.2.2.2.1 (ix3 h i j) + sW (bP (BitVec.ofNat 32 ↑(grid0.coords t 0)) (XE (BitVec.ofNat 32 ↑(grid0.coords t 0)) (iblk m c 3 t) (iblk m c 4 t) (iblk m c 5 t))) (bE (iblk m c 0 t) (iblk m c 1 t) (iblk m c 11 t) (iblk m c 6 t)) h i j := by
    fin_cases h
    · exact o19_C_0 m c t h0 h1 i j
    · exact o19_C_1 m c t h0 h1 i j
    · exact o19_C_2 m c t h0 h1 i j
    · exact o19_C_3 m c t h0 h1 i j
end Cert.K1

end
-- ==== Proof.K1g.lean ====
module

public import proofs.«01_k».proof.Proof.K1f

@[expose] public section

noncomputable section

namespace Cert.K1

open Cert.KernelIdeal Cert.KernelIdeal.Gen Idealize.ShloMosaic Idealize.ShloMosaic.TcCoe Idealize.SL.Sem
open Cert.Mix

variable (m : (ℓ : Loc nD τ sig) → Buf (Elt Ideal) ℓ) (c : Dev nD)
theorem p4 (x : Vec Ideal S128x256 .f32) (b : Fin 8) (l : Fin 128) : k0_pay4 x (ix2 b l) = ∑ e : Fin 256, x (ix2 l e) := by
  pointwise [k0_pay4]
  done
theorem p5 (x : Vec Ideal S128x256 .f32) (b : Fin 8) (l : Fin 128) : k0_pay5 x (ix2 b l) = ∑ e : Fin 256, x (ix2 l e) := by
  pointwise [k0_pay5]
  done
theorem p6 (x : Vec Ideal S128x256 .f32) (b : Fin 8) (l : Fin 128) : k0_pay6 x (ix2 b l) = ∑ e : Fin 256, x (ix2 l e) := by
  pointwise [k0_pay6]
  done
theorem p7 (x : Vec Ideal S128x256 .f32) (b : Fin 8) (l : Fin 128) : k0_pay7 x (ix2 b l) = ∑ e : Fin 256, x (ix2 l e) := by
  pointwise [k0_pay7]
  done
theorem u0 (x : Vec Ideal S128x1024 .f32) (l : Fin 128) (e : Fin 256) :
    (View.ld x (Rect.unit ![0, 0] ![128, 256] inb_S128x1024_S128x256_0_0) : Vec Ideal S128x256 .f32) (ix2 l e) = x (ix2 l (col 0 e)) := by
  have h : col 0 e = ⟨0 + e.val, by omega⟩ := Fin.ext (by simp [col])
  rw [h]
  pointwise []
  done
theorem u1 (x : Vec Ideal S128x1024 .f32) (l : Fin 128) (e : Fin 256) :
    (View.ld x (Rect.unit ![0, 256] ![128, 256] inb_S128x1024_S128x256_0_256) : Vec Ideal S128x256 .f32) (ix2 l e) = x (ix2 l (col 1 e)) := by
  have h : col 1 e = ⟨256 + e.val, by omega⟩ := Fin.ext (by simp [col])
  rw [h]
  pointwise []
  done
theorem u2 (x : Vec Ideal S128x1024 .f32) (l : Fin 128) (e : Fin 256) :
    (View.ld x (Rect.unit ![0, 512] ![128, 256] inb_S128x1024_S128x256_0_512) : Vec Ideal S128x256 .f32) (ix2 l e) = x (ix2 l (col 2 e)) := by
  have h : col 2 e = ⟨512 + e.val, by omega⟩ := Fin.ext (by simp [col])
  rw [h]
  pointwise []
  done
theorem u3 (x : Vec Ideal S128x1024 .f32) (l : Fin 128) (e : Fin 256) :
    (View.ld x (Rect.unit ![0, 768] ![128, 256] inb_S128x1024_S128x256_0_768) : Vec Ideal S128x256 .f32) (ix2 l e) = x (ix2 l (col 3 e)) := by
  have h : col 3 e = ⟨768 + e.val, by omega⟩ := Fin.ext (by simp [col])
  rw [h]
  pointwise []
  done
/-- The four groups' bias gradients, eight rows each. -/
theorem o20 (t : Fin cfg0.N) (h1 : t.val % 32 = 31) (a : Fin 32) (l : Fin 128) :
    (outsAt0 m c t.val t.isLt).2.2.2.2.2.2.2.2 (ix2 a l) = ∑ e : Fin 256, (outsAt0 m c t.val t.isLt).2.2.2.2.1 (ix2 l (col ⟨a.val / 8, by omega⟩ e)) := by
  rw [o16_B m c t (by omega)]
  rw [outsAt0_C m c t (by omega) h1]
  dsimp only
  unfold out0_C_20
  frame_out
  simp only [rc_ld, zu_f, zv_f, zg_f, w0_f, w1_f, h72]
  simp (disch := decide) only [View.canon_cons_unit_lit']
  generalize k0_pay115 (bT (iblk m c 0 t) (iblk m c 1 t) (iblk m c 2 t)) _ = x
  have ha := a.isLt
  by_cases g0 : a.val < 8
  · rw [miss2 _ _ _ a l (by omega), miss2 _ _ _ a l (by omega), miss2 _ _ _ a l (by omega),
      hit2 _ _ _ a l ⟨a.val, g0⟩ l (by simp) (by simp), p4]
    have hc : (⟨a.val / 8, by omega⟩ : Fin 4) = 0 := Fin.ext (by show a.val / 8 = 0; omega)
    rw [hc]
    exact Finset.sum_congr rfl fun e _ => u0 x l e
  by_cases g1 : a.val < 16
  · rw [miss2 _ _ _ a l (by omega), miss2 _ _ _ a l (by omega),
      hit2 _ _ _ a l ⟨a.val - 8, by omega⟩ l (by simp; omega) (by simp), p5]
    have hc : (⟨a.val / 8, by omega⟩ : Fin 4) = 1 := Fin.ext (by show a.val / 8 = 1; omega)
    rw [hc]
    exact Finset.sum_congr rfl fun e _ => u1 x l e
  by_cases g2 : a.val < 24
  · rw [miss2 _ _ _ a l (by omega),
      hit2 _ _ _ a l ⟨a.val - 16, by omega⟩ l (by simp; omega) (by simp), p6]
    have hc : (⟨a.val / 8, by omega⟩ : Fin 4) = 2 := Fin.ext (by show a.val / 8 = 2; omega)
    rw [hc]
    exact Finset.sum_congr rfl fun e _ => u2 x l e
  · rw [hit2 _ _ _ a l ⟨a.val - 24, by omega⟩ l (by simp; omega) (by simp), p7]
    have hc : (⟨a.val / 8, by omega⟩ : Fin 4) = 3 := Fin.ext (by show a.val / 8 = 3; omega)
    rw [hc]
    exact Finset.sum_congr rfl fun e _ => u3 x l e
section
variable (x0 : Vec Ideal S256x1024 .bf16) (x1 : Vec Ideal S2048x1024 .bf16) (x2 : Vec Ideal S256x3072 .bf16) (x7 : Vec Ideal S4x128x128 .bf16)
    (x9 : Vec Ideal S1x1024 .f32) (x6 : Vec Ideal S256x1024 .bf16) (x11 : Vec Ideal S1x1024 .f32) (mx y : FVec Ideal S256x1024 .f32) (r : Fin 256) (d : Fin 1024)
theorem bO_0 (q : Fin 5120) (hq : q.val = 0 + d.val) : bO x0 x1 x2 x7 x9 x6 x11 mx y (ix2 r q) = k0_pay14 x0 (w0 x1) (ix2 r d) * sl (zg x2 (ix2 r d)) * mx (ix2 r d) * gd (zu x2 (ix2 r d)) := by
  have hd := d.isLt
  unfold bO
  rw [miss2 _ _ _ r q (by omega)]
  rw [miss2 _ _ _ r q (by omega)]
  rw [miss2 _ _ _ r q (by omega)]
  rw [miss2 _ _ _ r q (by omega)]
  rw [hit2 _ _ _ r q r d (by simp) (by omega)]
  exact p70 x0 x1 x2 mx r d
theorem bO_1024 (q : Fin 5120) (hq : q.val = 1024 + d.val) : bO x0 x1 x2 x7 x9 x6 x11 mx y (ix2 r q) = bN (fun e => zv x2 (ix2 r e)) (fun e => bD x0 x1 x2 x7 (ix2 r e)) (fun e => x9 (ix2 0 e)) d := by
  have hd := d.isLt
  unfold bO
  rw [hit2 _ _ _ r q r d (by simp) (by omega)]
  exact p1 (zv x2) x9 (bD x0 x1 x2 x7) r d
theorem bO_2048 (q : Fin 5120) (hq : q.val = 2048 + d.val) : bO x0 x1 x2 x7 x9 x6 x11 mx y (ix2 r q) = k0_pay14 x0 (w0 x1) (ix2 r d) * (gl (zu x2 (ix2 r d)) * mx (ix2 r d)) * sd (zg x2 (ix2 r d)) := by
  have hd := d.isLt
  unfold bO
  rw [miss2 _ _ _ r q (by omega)]
  rw [miss2 _ _ _ r q (by omega)]
  rw [miss2 _ _ _ r q (by omega)]
  rw [hit2 _ _ _ r q r d (by simp) (by omega)]
  exact p71 x0 x1 x2 mx r d
theorem bO_3072 (q : Fin 5120) (hq : q.val = 3072 + d.val) : bO x0 x1 x2 x7 x9 x6 x11 mx y (ix2 r q) = 0 := by
  have hd := d.isLt
  unfold bO
  rw [miss2 _ _ _ r q (by omega)]
  rw [miss2 _ _ _ r q (by omega)]
  rw [hit2 _ _ _ r q r d (by simp) (by omega)]
  pointwise [k0_pay100]; done
theorem bO_4096 (q : Fin 5120) (hq : q.val = 4096 + d.val) : bO x0 x1 x2 x7 x9 x6 x11 mx y (ix2 r q) = k0_pay15 x0 (w1 x1) (ix2 r d) * (y (ix2 r d) * x11 (ix2 0 d)) * sd (x6 (ix2 r d)) := by
  have hd := d.isLt
  unfold bO
  rw [miss2 _ _ _ r q (by omega)]
  rw [hit2 _ _ _ r q r d (by simp) (by omega)]
  exact p101 x0 x1 y x11 x6 r d
end
end Cert.K1
-- ==== Proof.K1s.lean ====
module

public import proofs.«01_k».proof.Proof.K1g
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

section Spec
variable (A0 : FVec Ideal S8192x1024 .bf16) (A1 : FVec Ideal S2048x1024 .bf16) (A2 : FVec Ideal S8192x3072 .bf16) (A3 : FVec Ideal S8192x1024 .f32)
  (A4 : FVec Ideal S8192x1024 .bf16) (A5 : FVec Ideal S4x128x128 .f32) (A6 : FVec Ideal S4x128 .f32) (A7 : FVec Ideal S1024 .f32)
  (A8 : FVec Ideal S4x256x256 .bf16) (A9 : FVec Ideal S1024 .f32)

/-- The pooled branch's rows with eight rows of zeros on either side. -/
def xp (k : ℕ) (d : Fin 1024) : EReal := if h : 8 ≤ k ∧ k < 8200 then A3 (ix2 ⟨k - 8, by omega⟩ d) else 0
/-- How many rows the window of `2 n` rows around row `R` covers. -/
def gc (R : ℕ) (n : BitVec 32) : EReal :=
  FloatOps.sitofp (F := Ideal) FTy.f32 (IntOp.subi (IntOp.minsi (IntOp.addi (BitVec.ofNat 32 R) n) 8192#32) (IntOp.maxsi (IntOp.subi (BitVec.ofNat 32 R) n) 0#32))
/-- The pooled differences. -/
def gP (R : ℕ) (d : Fin 1024) : EReal :=
  if d.val < 256 then Ideal.div (xp A3 (R + 7) d + xp A3 (R + 8) d) (gc R 1#32) - xp A3 (R + 8) d
  else if d.val < 512 then Ideal.div (f1 (xp A3 · d) (R + 6) + f1 (xp A3 · d) (R + 8)) (gc R 2#32) - xp A3 (R + 8) d
  else if d.val < 768 then Ideal.div (f2 (xp A3 · d) (R + 4) + f2 (xp A3 · d) (R + 8)) (gc R 4#32) - xp A3 (R + 8) d
  else Ideal.div (f3 (xp A3 · d) R + f3 (xp A3 · d) (R + 8)) (gc R 8#32) - xp A3 (R + 8) d
def ch (R : Fin 8192) (j : Fin 128) : Fin 8192 := ⟨128 * (R.val / 128) + j.val, by omega⟩
def ck (k : Fin 64) (j : Fin 128) : Fin 8192 := ⟨128 * k.val + j.val, by omega⟩
def im (R : Fin 8192) : Fin 128 := ⟨R.val % 128, Nat.mod_lt _ (by decide)⟩
def aU (R : Fin 8192) (d : Fin 1024) : EReal := A2 (ix2 R ⟨d.val, by omega⟩)
def aV (R : Fin 8192) (d : Fin 1024) : EReal := A2 (ix2 R ⟨1024 + d.val, by omega⟩)
def aG (R : Fin 8192) (d : Fin 1024) : EReal := A2 (ix2 R ⟨2048 + d.val, by omega⟩)
def gA (R : Fin 8192) (d : Fin 1024) : EReal := ∑ k : Fin 1024, A0 (ix2 R k) * A1 (ix2 ⟨d.val, by omega⟩ k)
def gB (R : Fin 8192) (d : Fin 1024) : EReal := ∑ k : Fin 1024, A0 (ix2 R k) * A1 (ix2 ⟨1024 + d.val, by omega⟩ k)
def gT (R : Fin 8192) (d : Fin 1024) : EReal := gA A0 A1 R d * sl (aG A2 R d) * gl (aU A2 R d)
def gM (R : Fin 8192) (d : Fin 1024) : EReal :=
  (∑ j : Fin 128, A5 (ix3 (grp d) (im R) j) * vb (aV A2 (ch R j)) (fun e => A7 (ix1 e)) d) + A6 (ix2 (grp d) (im R))
def gN (R : Fin 8192) (d : Fin 1024) : EReal := ∑ i : Fin 128, A5 (ix3 (grp d) i (im R)) * gT A0 A1 A2 (ch R i) d
def gY (R : Fin 8192) (d : Fin 1024) : EReal := ∑ e : Fin 256, gP A3 R.val (col (grp d) e) * A8 (ix3 (grp d) e (off d))
def gE (R : Fin 8192) (d : Fin 1024) : EReal := gB A0 A1 R d * sl (A4 (ix2 R d)) * A9 (ix1 d)
/-- The results. -/
def Gdp (R : Fin 8192) (d : Fin 1024) : EReal := ∑ e : Fin 256, gE A0 A1 A4 A9 R (col (grp d) e) * A8 (ix3 (grp d) (off d) e)
def Gdz (R : Fin 8192) (q : Fin 5120) : EReal :=
  if h : q.val < 1024 then
    gA A0 A1 R ⟨q.val, h⟩ * sl (aG A2 R ⟨q.val, h⟩) * gM A2 A5 A6 A7 R ⟨q.val, h⟩ * gd (aU A2 R ⟨q.val, h⟩)
  else if h : q.val - 1024 < 1024 then bN (aV A2 R) (gN A0 A1 A2 A5 R) (fun e => A7 (ix1 e)) ⟨q.val - 1024, h⟩
  else if h : q.val - 1024 - 1024 < 1024 then
    gA A0 A1 R ⟨q.val - 1024 - 1024, h⟩ * (gl (aU A2 R ⟨q.val - 1024 - 1024, h⟩) * gM A2 A5 A6 A7 R ⟨q.val - 1024 - 1024, h⟩) * sd (aG A2 R ⟨q.val - 1024 - 1024, h⟩)
  else if q.val - 1024 - 1024 - 1024 < 1024 then 0
  else
    gB A0 A1 R ⟨q.val - 1024 - 1024 - 1024 - 1024, by omega⟩ * (gY A3 A8 R ⟨q.val - 1024 - 1024 - 1024 - 1024, by omega⟩ * A9 (ix1 ⟨q.val - 1024 - 1024 - 1024 - 1024, by omega⟩)) * sd (A4 (ix2 R ⟨q.val - 1024 - 1024 - 1024 - 1024, by omega⟩))
def Gct (e : Fin 2048) (R : Fin 8192) : EReal :=
  if h : e.val < 1024 then gl (aU A2 R ⟨e.val, h⟩) * gM A2 A5 A6 A7 R ⟨e.val, h⟩ * sl (aG A2 R ⟨e.val, h⟩)
  else gY A3 A8 R ⟨e.val - 1024, by omega⟩ * A9 (ix1 ⟨e.val - 1024, by omega⟩) * sl (A4 (ix2 R ⟨e.val - 1024, by omega⟩))
def Gws (h : Fin 4) (i j : Fin 128) : EReal :=
  ∑ k : Fin 64, ∑ e : Fin 256, gT A0 A1 A2 (ck k i) (col h e) * vb (aV A2 (ck k j)) (fun e => A7 (ix1 e)) (col h e)
def Ggv (d : Fin 1024) : EReal := ∑ R : Fin 8192, gN A0 A1 A2 A5 R d * vn (aV A2 R) d
def Gsc (d : Fin 1024) : EReal := ∑ R : Fin 8192, gB A0 A1 R d * sl (A4 (ix2 R d)) * gY A3 A8 R d
def Gwg (h : Fin 4) (i j : Fin 256) : EReal := ∑ R : Fin 8192, gP A3 R.val (col h i) * gE A0 A1 A4 A9 R (col h j)
def Gbs (h : Fin 4) (l : Fin 128) : EReal := ∑ e : Fin 256, ∑ k : Fin 64, gT A0 A1 A2 (ck k l) (col h e)
def Gbb (a : Fin 32) (l : Fin 128) : EReal := Gbs A0 A1 A2 ⟨a.val / 8, by omega⟩ l
end Spec

theorem gcnt : ∀ t : Fin cfg0.N, (grid0.coords t 0).val = t.val := (by decide +kernel : ∀ t : Fin grid0.N, _)
theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![32 * t.val - 1, 0] := (by decide +kernel : ∀ t : Fin grid0.N, _)
theorem e5 : ∀ t : Fin cfg0.N, win0_5.index t = ![if t.val = 31 then 1023 else 32 * (t.val + 1), 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![0, t.val] := (by decide +kernel : ∀ t : Fin grid0.N, _)
theorem e15 : ∀ t : Fin cfg0.N, win0_15.index t = ![0, 0, 0] := (by decide +kernel : ∀ t : Fin grid0.N, _)
theorem e17 : ∀ t : Fin cfg0.N, win0_17.index t = ![0, 0] := (by decide +kernel : ∀ t : Fin grid0.N, _)
theorem e18 : ∀ t : Fin cfg0.N, win0_18.index t = ![0, 0] := (by decide +kernel : ∀ t : Fin grid0.N, _)
theorem e19 : ∀ t : Fin cfg0.N, win0_19.index t = ![0, 0, 0] := (by decide +kernel : ∀ t : Fin grid0.N, _)
theorem e20 : ∀ t : Fin cfg0.N, win0_20.index t = ![0, 0] := (by decide +kernel : ∀ t : Fin grid0.N, _)

variable (m : (ℓ : Loc nD τ sig) → Buf (Elt Ideal) ℓ)
section Blocks
variable (c : Dev nD) (t : Fin cfg0.N)
abbrev b0 : Vec Ideal S256x1024 .bf16 := iblk m c 0 t
abbrev b1 : Vec Ideal S2048x1024 .bf16 := iblk m c 1 t
abbrev b2 : Vec Ideal S256x3072 .bf16 := iblk m c 2 t
abbrev b3 : Vec Ideal S256x1024 .f32 := iblk m c 3 t
abbrev b4 : Vec Ideal S8x1024 .f32 := iblk m c 4 t
abbrev b5 : Vec Ideal S8x1024 .f32 := iblk m c 5 t
abbrev b6 : Vec Ideal S256x1024 .bf16 := iblk m c 6 t
abbrev b7 : Vec Ideal S4x128x128 .bf16 := iblk m c 7 t
abbrev b8 : Vec Ideal S128x1024 .f32 := iblk m c 8 t
abbrev b9 : Vec Ideal S1x1024 .f32 := iblk m c 9 t
abbrev b10 : Vec Ideal S4x256x256 .bf16 := iblk m c 10 t
abbrev b11 : Vec Ideal S1x1024 .f32 := iblk m c 11 t
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
theorem b1_at (e : Fin 2048) (d : Fin 1024) : b1 m c t (ix2 e d) = m ((c : Thread nD τ).loc main_arg1) (ix2 e d) := by blk_point [b1, iblk, V, e1]
theorem b7_at (h : Fin 4) (i j : Fin 128) : b7 m c t (ix3 h i j) = m ((c : Thread nD τ).loc main_arg5) (ix3 h i j) := by blk_point [b7, iblk, V, e7]
theorem b8_at (i : Fin 128) (d : Fin 1024) : b8 m c t (ix2 i d) = m ((c : Thread nD τ).loc main_arg6) (ix2 (grp d) i) := by
  have hg : grp d = ⟨d.val / 256, by omega⟩ := by
    unfold grp
    split_ifs <;> refine Fin.ext ?_ <;> simp <;> omega
  rw [hg]
  blk_point [b8, iblk, V, e8]
theorem b9_at (d : Fin 1024) : b9 m c t (ix2 0 d) = m ((c : Thread nD τ).loc main_arg7) (ix1 d) := by blk_point [b9, iblk, V, e9]
theorem b10_at (h : Fin 4) (i j : Fin 256) : b10 m c t (ix3 h i j) = m ((c : Thread nD τ).loc main_arg8) (ix3 h i j) := by blk_point [b10, iblk, V, e10]
theorem b11_at (d : Fin 1024) : b11 m c t (ix2 0 d) = m ((c : Thread nD τ).loc main_arg9) (ix1 d) := by blk_point [b11, iblk, V, e11]
theorem b4_at (h : t.val ≠ 0) (k : Fin 8) (R : Fin 8192) (hR : R.val + 8 = 256 * t.val + k.val) (d : Fin 1024) : b4 m c t (ix2 k d) = m ((c : Thread nD τ).loc main_arg3) (ix2 R d) := by
  blk_point [b4, iblk, V, e4]
theorem b5_at (h : t.val ≠ 31) (k : Fin 8) (R : Fin 8192) (hR : R.val = 256 * t.val + 256 + k.val) (d : Fin 1024) : b5 m c t (ix2 k d) = m ((c : Thread nD τ).loc main_arg3) (ix2 R d) := by
  blk_point [b5, iblk, V, e5, h]
  rw [if_neg id]; omega
variable (r : Fin 256) (R : Fin 8192) (hR : R.val = 256 * t.val + r.val)
include hR
theorem b0_at (d : Fin 1024) : b0 m c t (ix2 r d) = m ((c : Thread nD τ).loc main_arg0) (ix2 R d) := by blk_point [b0, iblk, V, e0]
theorem b2_at (d : Fin 3072) : b2 m c t (ix2 r d) = m ((c : Thread nD τ).loc main_arg2) (ix2 R d) := by blk_point [b2, iblk, V, e2]
theorem b3_at (d : Fin 1024) : b3 m c t (ix2 r d) = m ((c : Thread nD τ).loc main_arg3) (ix2 R d) := by blk_point [b3, iblk, V, e3]
theorem b6_at (d : Fin 1024) : b6 m c t (ix2 r d) = m ((c : Thread nD τ).loc main_arg4) (ix2 R d) := by blk_point [b6, iblk, V, e6]
end Blocks
end Cert.K1

end
-- ==== Proof.K1h.lean ====
module

public import proofs.«01_k».proof.Proof.K1s
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

theorem sgt32 : ∀ n : Fin 32, (Scalar.cmpi CmpIPredicate.sgt (BitVec.ofNat 32 n.val) 0#32 = 1) ↔ n.val ≠ 0 := by decide +kernel
theorem slt32 : ∀ n : Fin 32, (Scalar.cmpi CmpIPredicate.slt (BitVec.ofNat 32 n.val) 31#32 = 1) ↔ n.val ≠ 31 := by decide +kernel

variable (m : (ℓ : Loc nD τ sig) → Buf (Elt Ideal) ℓ)
variable (c : Dev nD) (t : Fin cfg0.N)

/-- The grid point's own number as a word. -/
abbrev wd : BitVec 32 := BitVec.ofNat 32 ↑(grid0.coords t 0)

theorem hx_eq (k : ℕ) (hk : k < 272) (d : Fin 1024) :
    hx (wd t) (b3 m c t) (b4 m c t) (b5 m c t) k d = xp (a3 m c) (256 * t.val + k) d := by
  have ht : t.val < 32 := t.isLt
  have hw : wd t = BitVec.ofNat 32 (⟨t.val, ht⟩ : Fin 32).val := by
    show BitVec.ofNat 32 (grid0.coords t 0).val = _
    rw [gcnt t]
  unfold hx xp
  by_cases h8 : k < 8
  · rw [dif_pos h8]
    by_cases h0 : t.val = 0
    · rw [dif_neg (by omega)]
      rw [Scalar.select, if_neg (by rw [hw, sgt32]; simpa using h0)]
      rfl
    · rw [dif_pos (by omega)]
      rw [Scalar.select, if_pos (by rw [hw, sgt32]; exact h0)]
      exact b4_at m c t h0 ⟨k, h8⟩ _ (by show 256 * t.val + k - 8 + 8 = _; dsimp only; omega) d
  rw [dif_neg h8]
  by_cases h2 : k < 264
  · rw [dif_pos h2, dif_pos (by omega)]
    exact b3_at m c t ⟨k - 8, by omega⟩ _ (by show 256 * t.val + k - 8 = _; dsimp only; omega) d
  rw [dif_neg h2, dif_pos hk]
  by_cases h0 : t.val = 31
  · rw [dif_neg (by omega)]
    rw [Scalar.select, if_neg (by rw [hw, slt32]; simpa using h0)]
    rfl
  · rw [dif_pos (by omega)]
    rw [Scalar.select, if_pos (by rw [hw, slt32]; exact h0)]
    exact b5_at m c t h0 ⟨k - 264, by omega⟩ _ (by show 256 * t.val + k - 8 = _; dsimp only; omega) d

variable (r : Fin 256) (R : Fin 8192) (hR : R.val = 256 * t.val + r.val)
include hR
theorem cnt_eq (n : BitVec 32) : cnt (wd t) r.val n = gc R.val n := by
  have h : IntOp.addi (Scalar.muli (wd t) 256#32) (BitVec.ofNat 32 r.val) = BitVec.ofNat 32 R.val := by
    show BitVec.ofNat 32 (grid0.coords t 0).val * 256#32 + BitVec.ofNat 32 r.val = _
    rw [gcnt t, hR, BitVec.ofNat_add, BitVec.ofNat_mul, BitVec.mul_comm]
  unfold cnt gc
  rw [h]
theorem P_at (d : Fin 1024) : bP (wd t) (XE (wd t) (b3 m c t) (b4 m c t) (b5 m c t)) (ix2 r d) = gP (a3 m c) R.val d := by
  rw [bP_at _ (hx (wd t) (b3 m c t) (b4 m c t) (b5 m c t)) (XE_at _ _ _ _)]
  have hr := r.isLt
  have hk : ∀ (k : ℕ) (_ : k < 272) (d : Fin 1024), hx (wd t) (b3 m c t) (b4 m c t) (b5 m c t) k d = xp (a3 m c) (256 * t.val + k) d := hx_eq m c t
  unfold pl gP
  simp only [cnt_eq t r R hR]
  rw [hR]
  simp only [f1, f2, f3]
  simp (disch := omega) only [hk]
  simp only [Nat.add_assoc]
theorem A_at (d : Fin 1024) : k0_pay14 (b0 m c t) (w0 (b1 m c t)) (ix2 r d) = gA (a0 m c) (a1 m c) R d := by
  rw [p14]
  refine Finset.sum_congr rfl fun k _ => ?_
  show b0 m c t (ix2 r k) * w0 (b1 m c t) (ix2 d k) = _
  rw [w0_at, b0_at m c t r R hR, b1_at]
theorem B_at (d : Fin 1024) : k0_pay15 (b0 m c t) (w1 (b1 m c t)) (ix2 r d) = gB (a0 m c) (a1 m c) R d := by
  rw [p15]
  refine Finset.sum_congr rfl fun k _ => ?_
  show b0 m c t (ix2 r k) * w1 (b1 m c t) (ix2 d k) = _
  rw [w1_at, b0_at m c t r R hR, b1_at]
theorem U_at (d : Fin 1024) : zu (b2 m c t) (ix2 r d) = aU (a2 m c) R d := by rw [zu_at, b2_at m c t r R hR]; rfl
theorem V_at (d : Fin 1024) : zv (b2 m c t) (ix2 r d) = aV (a2 m c) R d := by rw [zv_at, b2_at m c t r R hR]; rfl
theorem G_at (d : Fin 1024) : zg (b2 m c t) (ix2 r d) = aG (a2 m c) R d := by rw [zg_at, b2_at m c t r R hR]; rfl
theorem T_at (d : Fin 1024) : bT (b0 m c t) (b1 m c t) (b2 m c t) (ix2 r d) = gT (a0 m c) (a1 m c) (a2 m c) R d := by
  rw [bT_at, A_at m c t r R hR, U_at m c t r R hR, G_at m c t r R hR]; rfl
omit m in
theorem ch_at (j : Fin 128) : (ch R j).val = 256 * t.val + (chk r j).val := by
  have := j.isLt
  have := r.isLt
  unfold chk
  split_ifs <;> simp only [ch] <;> omega
omit m in
theorem im_at : inc r = im R := Fin.ext (by show r.val % 128 = R.val % 128; omega)
theorem M_at (d : Fin 1024) : bM (zv (b2 m c t)) (b7 m c t) (b8 m c t) (b9 m c t) (ix2 r d) = gM (a2 m c) (a5 m c) (a6 m c) (a7 m c) R d := by
  rw [bM_at]
  unfold mix gM
  rw [b8_at, im_at t r R hR]
  refine congrArg₂ (· + ·) (Finset.sum_congr rfl fun j _ => ?_) rfl
  dsimp only
  rw [b7_at, funext fun e => V_at m c t (chk r j) (ch R j) (ch_at t r R hR j) e, funext fun e => b9_at m c t e]
theorem D_at (d : Fin 1024) : bD (b0 m c t) (b1 m c t) (b2 m c t) (b7 m c t) (ix2 r d) = gN (a0 m c) (a1 m c) (a2 m c) (a5 m c) R d := by
  rw [bD_at, im_at t r R hR]
  refine Finset.sum_congr rfl fun j _ => ?_
  rw [b7_at, T_at m c t (chk r j) (ch R j) (ch_at t r R hR j)]
theorem Y_at (d : Fin 1024) : bY (wd t) (XE (wd t) (b3 m c t) (b4 m c t) (b5 m c t)) (b10 m c t) (ix2 r d) = gY (a3 m c) (a8 m c) R d := by
  rw [bY_at]
  refine Finset.sum_congr rfl fun e _ => ?_
  rw [P_at m c t r R hR, b10_at]
theorem E_at (d : Fin 1024) : bE (b0 m c t) (b1 m c t) (b11 m c t) (b6 m c t) (ix2 r d) = gE (a0 m c) (a1 m c) (a4 m c) (a9 m c) R d := by
  rw [bE_at, B_at m c t r R hR, b6_at m c t r R hR, b11_at]; rfl
theorem dp_at (d : Fin 1024) : bDp (bE (b0 m c t) (b1 m c t) (b11 m c t) (b6 m c t)) (b10 m c t) (ix2 r d) = Gdp (a0 m c) (a1 m c) (a4 m c) (a8 m c) (a9 m c) R d := by
  rw [bDp_at]
  refine Finset.sum_congr rfl fun e _ => ?_
  rw [E_at m c t r R hR, b10_at]
theorem dz_at (q : Fin 5120) : bO (b0 m c t) (b1 m c t) (b2 m c t) (b7 m c t) (b9 m c t) (b6 m c t) (b11 m c t) (bM (zv (b2 m c t)) (b7 m c t) (b8 m c t) (b9 m c t))
     (bY (wd t) (XE (wd t) (b3 m c t) (b4 m c t) (b5 m c t)) (b10 m c t)) (ix2 r q) =
    Gdz (a0 m c) (a1 m c) (a2 m c) (a3 m c) (a4 m c) (a5 m c) (a6 m c) (a7 m c) (a8 m c) (a9 m c) R q := by
  have hq := q.isLt
  unfold Gdz
  split_ifs with h1 h2 h3 h4
  · rw [bO_0 _ _ _ _ _ _ _ _ _ r ⟨q.val, h1⟩ q (by show q.val = 0 + q.val; omega)]
    rw [A_at m c t r R hR, G_at m c t r R hR, M_at m c t r R hR, U_at m c t r R hR]
  · rw [bO_1024 _ _ _ _ _ _ _ _ _ r ⟨q.val - 1024, h2⟩ q (by show q.val = 1024 + (q.val - 1024); omega)]
    rw [funext fun e => V_at m c t r R hR e, funext fun e => D_at m c t r R hR e, funext fun e => b9_at m c t e]
  · rw [bO_2048 _ _ _ _ _ _ _ _ _ r ⟨q.val - 1024 - 1024, h3⟩ q (by show q.val = 2048 + (q.val - 1024 - 1024); omega)]
    rw [A_at m c t r R hR, G_at m c t r R hR, M_at m c t r R hR, U_at m c t r R hR]
  · rw [bO_3072 _ _ _ _ _ _ _ _ _ r ⟨q.val - 1024 - 1024 - 1024, h4⟩ q (by show q.val = 3072 + (q.val - 1024 - 1024 - 1024); omega)]
  · rw [bO_4096 _ _ _ _ _ _ _ _ _ r ⟨q.val - 1024 - 1024 - 1024 - 1024, by omega⟩ q (by show q.val = 4096 + (q.val - 1024 - 1024 - 1024 - 1024); omega)]
    rw [B_at m c t r R hR, Y_at m c t r R hR, b11_at, b6_at m c t r R hR]
theorem ct_at (e : Fin 2048) : k0_pay3 (k0_pay68 (bM (zv (b2 m c t)) (b7 m c t) (b8 m c t) (b9 m c t)) (k0_pay62 (zu (b2 m c t))) (zg (b2 m c t)))
      (k0_pay98 (bY (wd t) (XE (wd t) (b3 m c t) (b4 m c t) (b5 m c t)) (b10 m c t)) (b11 m c t) (b6 m c t)) (ix2 e r) =
    Gct (a2 m c) (a3 m c) (a4 m c) (a5 m c) (a6 m c) (a7 m c) (a8 m c) (a9 m c) e R := by
  rw [p3]
  unfold Gct
  split_ifs with h
  · rw [p68, U_at m c t r R hR, M_at m c t r R hR, G_at m c t r R hR]
  · rw [p98, Y_at m c t r R hR, b11_at, b6_at m c t r R hR]
end Cert.K1

end
-- ==== Proof.K1i.lean ====
module

public import proofs.«01_k».proof.Proof.K1h
public import Idealize.ShloMosaic.Lib.Pointwise
public import Idealize.ShloMosaic.Lib.Pipeline.ValueKit

@[expose] public section

noncomputable section

namespace Cert.K1

open Cert.KernelIdeal Cert.KernelIdeal.Gen Idealize.ShloMosaic Idealize.ShloMosaic.TcCoe Idealize.SL.Sem
open Cert.Mix

variable (m : (ℓ : Loc nD τ sig) → Buf (Elt Ideal) ℓ)
variable (c : Dev nD)

theorem final12 : (dats m 0 c).arrAt 12 cfg0.N = fun i : S8192x5120.Idx => Gdz (a0 m c) (a1 m c) (a2 m c) (a3 m c) (a4 m c) (a5 m c) (a6 m c) (a7 m c) (a8 m c) (a9 m c) (i 0) (i 1) := by
  refine (dats m 0 c).arrAt_eq_of_covers 12 _ (by decide +kernel) fun t hf y => ?_
  blk_simp
  rw [after0_12, o12 m c t]
  idx_vars y
  have hR : ((((View.whole main_v6_0).slice (win0_12.rect t)).emb (ix2 y0 y1)) 0).val = 256 * t.val + y0.val := by
    blk_simp [e12]
    simp
    omega
  have hr : (((View.whole main_v6_0).slice (win0_12.rect t)).emb (ix2 y0 y1)) 1 = y1 := by
    apply Fin.ext
    blk_simp [e12]
  rw [hr]
  exact dz_at m c t y0 _ hR y1

theorem final13 : (dats m 0 c).arrAt 13 cfg0.N = fun i : S8192x1024.Idx => Gdp (a0 m c) (a1 m c) (a4 m c) (a8 m c) (a9 m c) (i 0) (i 1) := by
  refine (dats m 0 c).arrAt_eq_of_covers 13 _ (by decide +kernel) fun t hf y => ?_
  blk_simp
  rw [after0_13, o13 m c t]
  idx_vars y
  have hR : ((((View.whole main_v6_1).slice (win0_13.rect t)).emb (ix2 y0 y1)) 0).val = 256 * t.val + y0.val := by
    blk_simp [e13]
    simp
    omega
  have hr : (((View.whole main_v6_1).slice (win0_13.rect t)).emb (ix2 y0 y1)) 1 = y1 := by
    apply Fin.ext
    blk_simp [e13]
  rw [hr]
  exact dp_at m c t y0 _ hR y1

theorem final14 : (dats m 0 c).arrAt 14 cfg0.N = fun i : S2048x8192.Idx => Gct (a2 m c) (a3 m c) (a4 m c) (a5 m c) (a6 m c) (a7 m c) (a8 m c) (a9 m c) (i 0) (i 1) := by
  refine (dats m 0 c).arrAt_eq_of_covers 14 _ (by decide +kernel) fun t hf y => ?_
  blk_simp
  rw [after0_14, o14 m c t]
  idx_vars y
  have hR : ((((View.whole main_v6_2).slice (win0_14.rect t)).emb (ix2 y0 y1)) 1).val = 256 * t.val + y1.val := by
    blk_simp [e14]
    simp
    omega
  have hr : (((View.whole main_v6_2).slice (win0_14.rect t)).emb (ix2 y0 y1)) 0 = y0 := by
    apply Fin.ext
    blk_simp [e14]
  rw [hr]
  exact ct_at m c t y1 _ hR y0

/-- What one grid point adds to each of the sums. -/
def t15' (t : Fin cfg0.N) (j : S4x128x128.Idx) : EReal := sA (bT (b0 m c t) (b1 m c t) (b2 m c t)) (k0_pay28 (k0_pay19 (zv (b2 m c t))) (b9 m c t)) (j 0) (j 1) (j 2) + sB (bT (b0 m c t) (b1 m c t) (b2 m c t)) (k0_pay28 (k0_pay19 (zv (b2 m c t))) (b9 m c t)) (j 0) (j 1) (j 2)
def t16' (t : Fin cfg0.N) (j : S128x1024.Idx) : EReal := (bT (b0 m c t) (b1 m c t) (b2 m c t)) (ix2 ⟨(j 0).val, by have := (j 0).isLt; simp at this; omega⟩ (j 1)) + (bT (b0 m c t) (b1 m c t) (b2 m c t)) (ix2 ⟨128 + (j 0).val, by have := (j 0).isLt; simp at this; omega⟩ (j 1))
def t17' (t : Fin cfg0.N) (j : S1x1024.Idx) : EReal := ∑ r : Fin 256, bD (b0 m c t) (b1 m c t) (b2 m c t) (b7 m c t) (ix2 r (j 1)) * vn (fun e => zv (b2 m c t) (ix2 r e)) (j 1)
def t18' (t : Fin cfg0.N) (j : S1x1024.Idx) : EReal := ∑ r : Fin 256, k0_pay15 (b0 m c t) (w1 (b1 m c t)) (ix2 r (j 1)) * sl (b6 m c t (ix2 r (j 1))) * (bY (wd t) (XE (wd t) (b3 m c t) (b4 m c t) (b5 m c t)) (b10 m c t)) (ix2 r (j 1))
def t19' (t : Fin cfg0.N) (j : S4x256x256.Idx) : EReal := sW (bP (wd t) (XE (wd t) (b3 m c t) (b4 m c t) (b5 m c t))) (bE (b0 m c t) (b1 m c t) (b11 m c t) (b6 m c t)) (j 0) (j 1) (j 2)
theorem z9 (j) : (k0_pay9 (F := Ideal) : Vec Ideal S128x1024 .f32) j = 0 := by
  idx_vars j
  pointwise [k0_pay9]
  done
theorem z10 (j) : (k0_pay10 (F := Ideal) : Vec Ideal S1x1024 .f32) j = 0 := by
  idx_vars j
  pointwise [k0_pay10]
  done
theorem z11 (j) : (k0_pay11 (F := Ideal) : Vec Ideal S1x1024 .f32) j = 0 := by
  idx_vars j
  pointwise [k0_pay11]
  done
theorem y115 (a : FVec Ideal S256x1024 .f32) (x : Vec Ideal S128x1024 .f32) (j : S128x1024.Idx) :
    k0_pay115 a x j = x j + (a (ix2 ⟨(j 0).val, by have := (j 0).isLt; simp at this; omega⟩ (j 1)) + a (ix2 ⟨128 + (j 0).val, by have := (j 0).isLt; simp at this; omega⟩ (j 1))) := by
  idx_vars j
  exact p115 a x j0 j1
theorem y117 (a : Vec Ideal S256x1024 .bf16) (v0 v1) (x : Vec Ideal S1x1024 .f32) (j : S1x1024.Idx) :
    k0_pay117 (k0_pay26 (k0_pay19 a)) v0 v1 x j = x j + ∑ r : Fin 256, k0_pay116 v0 v1 (ix2 r (j 1)) * vn (fun e => a (ix2 r e)) (j 1) := by
  idx_vars j
  obtain rfl : j0 = 0 := Subsingleton.elim _ _
  exact p117 a v0 v1 x j1
theorem y102 (dx x1 y x6) (x : Vec Ideal S1x1024 .f32) (j : S1x1024.Idx) :
    k0_pay102 (k0_pay15 dx (w1 x1)) y x6 x j = x j + ∑ r : Fin 256, k0_pay15 dx (w1 x1) (ix2 r (j 1)) * sl (x6 (ix2 r (j 1))) * y (ix2 r (j 1)) := by
  idx_vars j
  obtain rfl : j0 = 0 := Subsingleton.elim _ _
  exact p102 dx x1 y x6 x j1

theorem out15 (t : Fin cfg0.N) (h7 : t.val % 32 = 31) (j : S4x128x128.Idx) :
    (outsAt0 m c t.val t.isLt).2.2.2.1 j = ∑ s : Fin 32, t15' m c ⟨32 * (t.val / 32) + s.val, Pipeline.run_point_lt_of_flush t h7 s⟩ j := by
  have h := Pipeline.eq_sum_fin_of_reset_step_apply_of_flush (fun n h => (outsAt0 m c n h).2.2.2.1) 32 (fun _ => 0) (t15' m c)
    (fun t h0 j => by
      show (outsAt0 m c t.val t.isLt).2.2.2.1 j = 0 + t15' m c t j
      idx_vars j
      exact o15_A m c t h0 j0 j1 j2)
    (fun t h0 j => by
      show (outsAt0 m c t.val t.isLt).2.2.2.1 j = (outsAt0 m c (t.val - 1) (Nat.lt_of_le_of_lt (Nat.sub_le _ _) t.isLt)).2.2.2.1 j + t15' m c t j
      idx_vars j
      by_cases h1 : t.val % 32 = 31
      · exact o15_C m c t h0 h1 j0 j1 j2
      · exact o15_B m c t h0 h1 j0 j1 j2) t h7 j
  rw [zero_add] at h
  exact h

theorem out16 (t : Fin cfg0.N) (h7 : t.val % 32 = 31) (j : S128x1024.Idx) :
    (outsAt0 m c t.val t.isLt).2.2.2.2.1 j = ∑ s : Fin 32, t16' m c ⟨32 * (t.val / 32) + s.val, Pipeline.run_point_lt_of_flush t h7 s⟩ j := by
  have h := Pipeline.eq_sum_fin_of_reset_step_apply_of_flush (fun n h => (outsAt0 m c n h).2.2.2.2.1) 32 (fun _ => 0) (t16' m c)
    (fun t h0 j => by
      show (outsAt0 m c t.val t.isLt).2.2.2.2.1 j = 0 + t16' m c t j
      rw [o16_A m c t h0, y115, z9]
      rfl)
    (fun t h0 j => by
      show (outsAt0 m c t.val t.isLt).2.2.2.2.1 j = (outsAt0 m c (t.val - 1) (Nat.lt_of_le_of_lt (Nat.sub_le _ _) t.isLt)).2.2.2.2.1 j + t16' m c t j
      rw [o16_B m c t h0, y115]
      rfl) t h7 j
  rw [zero_add] at h
  exact h

theorem out17 (t : Fin cfg0.N) (h7 : t.val % 32 = 31) (j : S1x1024.Idx) :
    (outsAt0 m c t.val t.isLt).2.2.2.2.2.1 j = ∑ s : Fin 32, t17' m c ⟨32 * (t.val / 32) + s.val, Pipeline.run_point_lt_of_flush t h7 s⟩ j := by
  have h := Pipeline.eq_sum_fin_of_reset_step_apply_of_flush (fun n h => (outsAt0 m c n h).2.2.2.2.2.1) 32 (fun _ => 0) (t17' m c)
    (fun t h0 j => by
      show (outsAt0 m c t.val t.isLt).2.2.2.2.2.1 j = 0 + t17' m c t j
      rw [o17_A m c t h0, y117, z10]
      rfl)
    (fun t h0 j => by
      show (outsAt0 m c t.val t.isLt).2.2.2.2.2.1 j = (outsAt0 m c (t.val - 1) (Nat.lt_of_le_of_lt (Nat.sub_le _ _) t.isLt)).2.2.2.2.2.1 j + t17' m c t j
      rw [o17_B m c t h0, y117]
      rfl) t h7 j
  rw [zero_add] at h
  exact h

theorem out18 (t : Fin cfg0.N) (h7 : t.val % 32 = 31) (j : S1x1024.Idx) :
    (outsAt0 m c t.val t.isLt).2.2.2.2.2.2.1 j = ∑ s : Fin 32, t18' m c ⟨32 * (t.val / 32) + s.val, Pipeline.run_point_lt_of_flush t h7 s⟩ j := by
  have h := Pipeline.eq_sum_fin_of_reset_step_apply_of_flush (fun n h => (outsAt0 m c n h).2.2.2.2.2.2.1) 32 (fun _ => 0) (t18' m c)
    (fun t h0 j => by
      show (outsAt0 m c t.val t.isLt).2.2.2.2.2.2.1 j = 0 + t18' m c t j
      rw [o18_A m c t h0, y102, z11]
      rfl)
    (fun t h0 j => by
      show (outsAt0 m c t.val t.isLt).2.2.2.2.2.2.1 j = (outsAt0 m c (t.val - 1) (Nat.lt_of_le_of_lt (Nat.sub_le _ _) t.isLt)).2.2.2.2.2.2.1 j + t18' m c t j
      rw [o18_B m c t h0, y102]
      rfl) t h7 j
  rw [zero_add] at h
  exact h

theorem out19 (t : Fin cfg0.N) (h7 : t.val % 32 = 31) (j : S4x256x256.Idx) :
    (outsAt0 m c t.val t.isLt).2.2.2.2.2.2.2.1 j = ∑ s : Fin 32, t19' m c ⟨32 * (t.val / 32) + s.val, Pipeline.run_point_lt_of_flush t h7 s⟩ j := by
  have h := Pipeline.eq_sum_fin_of_reset_step_apply_of_flush (fun n h => (outsAt0 m c n h).2.2.2.2.2.2.2.1) 32 (fun _ => 0) (t19' m c)
    (fun t h0 j => by
      show (outsAt0 m c t.val t.isLt).2.2.2.2.2.2.2.1 j = 0 + t19' m c t j
      idx_vars j
      exact o19_A m c t h0 j0 j1 j2)
    (fun t h0 j => by
      show (outsAt0 m c t.val t.isLt).2.2.2.2.2.2.2.1 j = (outsAt0 m c (t.val - 1) (Nat.lt_of_le_of_lt (Nat.sub_le _ _) t.isLt)).2.2.2.2.2.2.2.1 j + t19' m c t j
      idx_vars j
      by_cases h1 : t.val % 32 = 31
      · exact o19_C m c t h0 h1 j0 j1 j2
      · exact o19_B m c t h0 h1 j0 j1 j2) t h7 j
  rw [zero_add] at h
  exact h

section Sums
variable (t : Fin cfg0.N) (h7 : t.val % 32 = 31) (h1 : t.val / 32 = 0)
include h1
theorem sum17 (d : Fin 1024) : ∑ s : Fin 32, t17' m c (⟨32 * (t.val / 32) + s.val, Pipeline.run_point_lt_of_flush t h7 s⟩ : Fin cfg0.N) (ix2 0 d) = Ggv (a0 m c) (a1 m c) (a2 m c) (a5 m c) d := by
  unfold Ggv t17'
  refine Fin.sum_mul_add_congr fun s k hl => ?_
  have e : (⟨s.val * 256 + k.val, hl⟩ : Fin 8192).val = 256 * (⟨32 * (t.val / 32) + s.val, Pipeline.run_point_lt_of_flush t h7 s⟩ : Fin cfg0.N).val + k.val := by
    show s.val * 256 + k.val = 256 * (32 * (t.val / 32) + s.val) + k.val
    omega
  have hD := D_at m c (⟨32 * (t.val / 32) + s.val, Pipeline.run_point_lt_of_flush t h7 s⟩ : Fin cfg0.N) k _ e d
  have hV := funext fun x => V_at m c (⟨32 * (t.val / 32) + s.val, Pipeline.run_point_lt_of_flush t h7 s⟩ : Fin cfg0.N) k _ e x
  exact congrArg₂ (· * ·) hD (congrArg (fun z => vn z d) hV)
theorem sum18 (d : Fin 1024) : ∑ s : Fin 32, t18' m c (⟨32 * (t.val / 32) + s.val, Pipeline.run_point_lt_of_flush t h7 s⟩ : Fin cfg0.N) (ix2 0 d) = Gsc (a0 m c) (a1 m c) (a3 m c) (a4 m c) (a8 m c) d := by
  unfold Gsc t18'
  refine Fin.sum_mul_add_congr fun s k hl => ?_
  have e : (⟨s.val * 256 + k.val, hl⟩ : Fin 8192).val = 256 * (⟨32 * (t.val / 32) + s.val, Pipeline.run_point_lt_of_flush t h7 s⟩ : Fin cfg0.N).val + k.val := by
    show s.val * 256 + k.val = 256 * (32 * (t.val / 32) + s.val) + k.val
    omega
  have hD := B_at m c (⟨32 * (t.val / 32) + s.val, Pipeline.run_point_lt_of_flush t h7 s⟩ : Fin cfg0.N) k _ e d
  have hV := b6_at m c (⟨32 * (t.val / 32) + s.val, Pipeline.run_point_lt_of_flush t h7 s⟩ : Fin cfg0.N) k _ e d
  have hY := Y_at m c (⟨32 * (t.val / 32) + s.val, Pipeline.run_point_lt_of_flush t h7 s⟩ : Fin cfg0.N) k _ e d
  exact congrArg₂ (· * ·) (congrArg₂ (· * ·) hD (congrArg sl hV)) hY
theorem sum19 (h : Fin 4) (i j : Fin 256) : ∑ s : Fin 32, t19' m c (⟨32 * (t.val / 32) + s.val, Pipeline.run_point_lt_of_flush t h7 s⟩ : Fin cfg0.N) (ix3 h i j) = Gwg (a0 m c) (a1 m c) (a3 m c) (a4 m c) (a9 m c) h i j := by
  unfold Gwg t19' sW
  refine Fin.sum_mul_add_congr fun s k hl => ?_
  have e : (⟨s.val * 256 + k.val, hl⟩ : Fin 8192).val = 256 * (⟨32 * (t.val / 32) + s.val, Pipeline.run_point_lt_of_flush t h7 s⟩ : Fin cfg0.N).val + k.val := by
    show s.val * 256 + k.val = 256 * (32 * (t.val / 32) + s.val) + k.val
    omega
  have hP := P_at m c (⟨32 * (t.val / 32) + s.val, Pipeline.run_point_lt_of_flush t h7 s⟩ : Fin cfg0.N) k _ e (col h i)
  have hE := E_at m c (⟨32 * (t.val / 32) + s.val, Pipeline.run_point_lt_of_flush t h7 s⟩ : Fin cfg0.N) k _ e (col h j)
  exact congrArg₂ (· * ·) hP hE
theorem sum16 (l : Fin 128) (d : Fin 1024) : ∑ s : Fin 32, t16' m c (⟨32 * (t.val / 32) + s.val, Pipeline.run_point_lt_of_flush t h7 s⟩ : Fin cfg0.N) (ix2 l d) = ∑ k : Fin 64, gT (a0 m c) (a1 m c) (a2 m c) (ck k l) d := by
  refine Eq.trans (Finset.sum_congr rfl fun s _ => ?_) (Fin.sum_mul_add_congr (S := 32) (n := 2) (F := fun s k => gT (a0 m c) (a1 m c) (a2 m c) (ck ⟨s.val * 2 + k.val, by omega⟩ l) d) fun s k hl => rfl)
  rw [Fin.sum_univ_two]
  have hl := l.isLt
  exact congrArg₂ (· + ·)
    (T_at m c (⟨32 * (t.val / 32) + s.val, Pipeline.run_point_lt_of_flush t h7 s⟩ : Fin cfg0.N) ⟨l.val, by omega⟩ _ (by show 128 * (s.val * 2 + 0) + l.val = 256 * (32 * (t.val / 32) + s.val) + l.val; omega) d)
    (T_at m c (⟨32 * (t.val / 32) + s.val, Pipeline.run_point_lt_of_flush t h7 s⟩ : Fin cfg0.N) ⟨128 + l.val, by omega⟩ _ (by show 128 * (s.val * 2 + 1) + l.val = 256 * (32 * (t.val / 32) + s.val) + (128 + l.val); omega) d)
omit h1 in
theorem N_at (r : Fin 256) (R : Fin 8192) (hR : R.val = 256 * t.val + r.val) (d : Fin 1024) :
    k0_pay28 (k0_pay19 (zv (b2 m c t))) (b9 m c t) (ix2 r d) = vb (aV (a2 m c) R) (fun e => a7 m c (ix1 e)) d := by
  refine (p28 _ _ _).trans ?_
  show vb (fun e => zv (b2 m c t) (ix2 r e)) (fun e => b9 m c t (ix2 0 e)) d = _
  rw [funext fun e => V_at m c t r R hR e, funext fun e => b9_at m c t e]
theorem sum15 (h : Fin 4) (i j : Fin 128) : ∑ s : Fin 32, t15' m c (⟨32 * (t.val / 32) + s.val, Pipeline.run_point_lt_of_flush t h7 s⟩ : Fin cfg0.N) (ix3 h i j) = Gws (a0 m c) (a1 m c) (a2 m c) (a7 m c) h i j := by
  refine Eq.trans (Finset.sum_congr rfl fun s _ => ?_) (Fin.sum_mul_add_congr (S := 32) (n := 2) (F := fun s k => ∑ e : Fin 256, gT (a0 m c) (a1 m c) (a2 m c) (ck ⟨s.val * 2 + k.val, by omega⟩ i) (col h e) * vb (aV (a2 m c) (ck ⟨s.val * 2 + k.val, by omega⟩ j)) (fun e => a7 m c (ix1 e)) (col h e)) fun s k hl => rfl)
  rw [Fin.sum_univ_two]
  have hi := i.isLt
  have hj := j.isLt
  refine congrArg₂ (· + ·) (Finset.sum_congr rfl fun e _ => ?_) (Finset.sum_congr rfl fun e _ => ?_)
  · exact congrArg₂ (· * ·)
      (T_at m c (⟨32 * (t.val / 32) + s.val, Pipeline.run_point_lt_of_flush t h7 s⟩ : Fin cfg0.N) ⟨i.val, by omega⟩ _ (by show 128 * (s.val * 2 + 0) + i.val = 256 * (32 * (t.val / 32) + s.val) + i.val; omega) (col h e))
      (N_at m c (⟨32 * (t.val / 32) + s.val, Pipeline.run_point_lt_of_flush t h7 s⟩ : Fin cfg0.N) ⟨j.val, by omega⟩ _ (by show 128 * (s.val * 2 + 0) + j.val = 256 * (32 * (t.val / 32) + s.val) + j.val; omega) (col h e))
  · exact congrArg₂ (· * ·)
      (T_at m c (⟨32 * (t.val / 32) + s.val, Pipeline.run_point_lt_of_flush t h7 s⟩ : Fin cfg0.N) ⟨128 + i.val, by omega⟩ _ (by show 128 * (s.val * 2 + 1) + i.val = 256 * (32 * (t.val / 32) + s.val) + (128 + i.val); omega) (col h e))
      (N_at m c (⟨32 * (t.val / 32) + s.val, Pipeline.run_point_lt_of_flush t h7 s⟩ : Fin cfg0.N) ⟨128 + j.val, by omega⟩ _ (by show 128 * (s.val * 2 + 1) + j.val = 256 * (32 * (t.val / 32) + s.val) + (128 + j.val); omega) (col h e))
end Sums

theorem final15 : (dats m 0 c).arrAt 15 cfg0.N = fun i : S4x128x128.Idx => Gws (a0 m c) (a1 m c) (a2 m c) (a7 m c) (i 0) (i 1) (i 2) := by
  refine (dats m 0 c).arrAt_eq_of_covers 15 _ (by decide +kernel) fun t hf y => ?_
  have h7 := (flush0_15 t).mp hf
  have h1 : t.val / 32 = 0 := by have := t.isLt; have : cfg0.N = 32 := N_0; omega
  blk_simp
  idx_vars y
  have hr : ((View.whole main_v6_3).slice (win0_15.rect t)).emb (ix3 y0 y1 y2) = (ix3 y0 y1 y2) := by
    funext x
    fin_cases x <;> (apply Fin.ext; blk_simp [e15])
  rw [after0_15, out15 m c t h7, hr]
  exact sum15 m c t h7 h1 y0 y1 y2

theorem final17 : (dats m 0 c).arrAt 17 cfg0.N = fun i : S1x1024.Idx => Ggv (a0 m c) (a1 m c) (a2 m c) (a5 m c) (i 1) := by
  refine (dats m 0 c).arrAt_eq_of_covers 17 _ (by decide +kernel) fun t hf y => ?_
  have h7 := (flush0_17 t).mp hf
  have h1 : t.val / 32 = 0 := by have := t.isLt; have : cfg0.N = 32 := N_0; omega
  blk_simp
  idx_vars y
  have hr : ((View.whole main_v6_5).slice (win0_17.rect t)).emb (ix2 y0 y1) = (ix2 y0 y1) := by
    funext x
    fin_cases x <;> (apply Fin.ext; blk_simp [e17])
  obtain rfl : y0 = 0 := Subsingleton.elim _ _
  rw [after0_17, out17 m c t h7, hr]
  exact sum17 m c t h7 h1 y1

theorem final18 : (dats m 0 c).arrAt 18 cfg0.N = fun i : S1x1024.Idx => Gsc (a0 m c) (a1 m c) (a3 m c) (a4 m c) (a8 m c) (i 1) := by
  refine (dats m 0 c).arrAt_eq_of_covers 18 _ (by decide +kernel) fun t hf y => ?_
  have h7 := (flush0_18 t).mp hf
  have h1 : t.val / 32 = 0 := by have := t.isLt; have : cfg0.N = 32 := N_0; omega
  blk_simp
  idx_vars y
  have hr : ((View.whole main_v6_6).slice (win0_18.rect t)).emb (ix2 y0 y1) = (ix2 y0 y1) := by
    funext x
    fin_cases x <;> (apply Fin.ext; blk_simp [e18])
  obtain rfl : y0 = 0 := Subsingleton.elim _ _
  rw [after0_18, out18 m c t h7, hr]
  exact sum18 m c t h7 h1 y1

theorem final19 : (dats m 0 c).arrAt 19 cfg0.N = fun i : S4x256x256.Idx => Gwg (a0 m c) (a1 m c) (a3 m c) (a4 m c) (a9 m c) (i 0) (i 1) (i 2) := by
  refine (dats m 0 c).arrAt_eq_of_covers 19 _ (by decide +kernel) fun t hf y => ?_
  have h7 := (flush0_19 t).mp hf
  have h1 : t.val / 32 = 0 := by have := t.isLt; have : cfg0.N = 32 := N_0; omega
  blk_simp
  idx_vars y
  have hr : ((View.whole main_v6_7).slice (win0_19.rect t)).emb (ix3 y0 y1 y2) = (ix3 y0 y1 y2) := by
    funext x
    fin_cases x <;> (apply Fin.ext; blk_simp [e19])
  rw [after0_19, out19 m c t h7, hr]
  exact sum19 m c t h7 h1 y0 y1 y2

theorem final20 : (dats m 0 c).arrAt 20 cfg0.N = fun i : S32x128.Idx => Gbb (a0 m c) (a1 m c) (a2 m c) (i 0) (i 1) := by
  refine (dats m 0 c).arrAt_eq_of_covers 20 _ (by decide +kernel) fun t hf y => ?_
  have h7 := (flush0_20 t).mp hf
  have h1 : t.val / 32 = 0 := by have := t.isLt; have : cfg0.N = 32 := N_0; omega
  blk_simp
  idx_vars y
  have hr : ((View.whole main_v6_8).slice (win0_20.rect t)).emb (ix2 y0 y1) = (ix2 y0 y1) := by
    funext x
    fin_cases x <;> (apply Fin.ext; blk_simp [e20])
  rw [after0_20, o20 m c t h7, hr]
  unfold Gbb Gbs
  refine Finset.sum_congr (M := EReal) rfl fun e _ => ?_
  rw [out16 m c t h7]
  exact sum16 m c t h7 h1 y1 _
end Cert.K1

end
-- ==== Proof.RealLib.lean ====
module

public import Idealize.ShloMosaic.PureOps.Ideal
public import Idealize.ShloMosaic.Lib.IdealHost
public import Mathlib.Analysis.SpecialFunctions.Pow.Real
public import Mathlib.Tactic.Ring
public import Mathlib.Tactic.Positivity
public import Mathlib.Tactic.Linarith
public import Mathlib.Tactic.FieldSimp

@[expose] public section

noncomputable section

namespace Cert.RealLib

open Idealize.ShloMosaic

/-- An extended real that is a real number. -/
def IsR (x : EReal) : Prop := ∃ r : ℝ, x = (r : EReal)

theorem isR_of_lt {x : EReal} (h1 : x < ⊤) (h2 : ⊥ < x) : IsR x := by
  induction x using EReal.rec with
  | bot => exact absurd h2 (lt_irrefl _)
  | top => exact absurd h1 (lt_irrefl _)
  | coe r => exact ⟨r, rfl⟩

theorem exists_fun {ι : Type*} (f : ι → EReal) (h : ∀ i, IsR (f i)) : ∃ g : ι → ℝ, f = fun i => (g i : EReal) := by
  choose g hg using h
  exact ⟨g, funext hg⟩

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem lit1024 : Ideal.ofBits .f32 0x44800000#32 = ((1024 : ℝ) : EReal) := by
  simp [Ideal.ofBits, Ideal.ieee, -EReal.coe_mul]; norm_num

theorem lit_mhalf : Ideal.ofBits .f32 0xBF000000#32 = ((-1 / 2 : ℝ) : EReal) := by
  simp [Ideal.ofBits, Ideal.ieee, -EReal.coe_mul]; norm_num

theorem lit_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem lit_inf : Ideal.ofBits .f32 0x7F800000#32 = ⊤ := by
  simp [Ideal.ofBits, Ideal.ieee]
theorem lit_ninf : Ideal.ofBits .f32 0xFF800000#32 = ⊥ := by
  simp [Ideal.ofBits, Ideal.ieee]
theorem lit_inf16 : Ideal.ofBits .bf16 0x7F80#16 = ⊤ := by
  simp [Ideal.ofBits, Ideal.ieee]
theorem lit_ninf16 : Ideal.ofBits .bf16 0xFF80#16 = ⊥ := by
  simp [Ideal.ofBits, Ideal.ieee]

theorem div_coe' (a b : ℝ) (h : b ≠ 0) : Ideal.div (a : EReal) (b : EReal) = ((a / b : ℝ) : EReal) := by
  rw [Ideal.div_coe h, ← EReal.coe_mul]; congr 1; ring

theorem rsqrt_pos (w : ℝ) (h : 0 < w) : Ideal.rsqrt (w : EReal) = (((Real.sqrt w)⁻¹ : ℝ) : EReal) := by
  rw [Ideal.rsqrt_coe, if_neg (not_lt.mpr h.le), if_neg h.ne']

/-- The mean square plus the small constant, over reals. -/
theorem ms_coe {n : ℕ} (x : Fin n → ℝ) (e : ℝ) :
    Ideal.div (∑ k, (x k : EReal) * (x k : EReal)) ((1024 : ℝ) : EReal) + (e : EReal)
      = (((∑ k, x k * x k) / 1024 + e : ℝ) : EReal) := by
  simp only [← EReal.coe_mul]
  rw [sum_coe, div_coe' _ _ (by norm_num), ← EReal.coe_add]

theorem ms_pos {n : ℕ} (x : Fin n → ℝ) (e : ℝ) (he : 0 < e) : 0 < (∑ k, x k * x k) / 1024 + e := by
  have : 0 ≤ ∑ k, x k * x k := Finset.sum_nonneg fun k _ => mul_self_nonneg _
  positivity

/-- The gradient of the mean-square norm, the kernel's form against the chain rule's: `u` is the
    gradient of the normalised row times the weight, `D` what is added to the result. -/
theorem rms_bwd {n : ℕ} (x u : Fin n → ℝ) (D : EReal) (e : ℝ) (he : 0 < e) (d : Fin n) (W : EReal)
    (hW : W = Ideal.div (∑ k, (x k : EReal) * (x k : EReal)) ((1024 : ℝ) : EReal) + (e : EReal)) :
    D + Ideal.rsqrt W * ((u d : EReal) - ((x d : EReal) * Ideal.rsqrt W)
        * Ideal.div (∑ k, (u k : EReal) * ((x k : EReal) * Ideal.rsqrt W)) ((1024 : ℝ) : EReal))
      = ((D + (u d : EReal) * Ideal.rsqrt W)
          + (x d : EReal) * Ideal.div ((∑ k, (x k : EReal) * (u k : EReal)) * (((-1 / 2 : ℝ) : EReal) * Ideal.div (Ideal.rsqrt W) W))
              ((1024 : ℝ) : EReal))
          + Ideal.div ((∑ k, (x k : EReal) * (u k : EReal)) * (((-1 / 2 : ℝ) : EReal) * Ideal.div (Ideal.rsqrt W) W))
              ((1024 : ℝ) : EReal) * (x d : EReal) := by
  rw [hW, ms_coe]
  have hw := ms_pos x e he
  generalize (∑ k, x k * x k) / 1024 + e = w at hw
  rw [rsqrt_pos w hw]
  have hs : (Real.sqrt w)⁻¹ * (Real.sqrt w)⁻¹ = w⁻¹ := by rw [← mul_inv, Real.mul_self_sqrt hw.le]
  generalize (Real.sqrt w)⁻¹ = s at hs
  simp only [← EReal.coe_mul, sum_coe, div_coe' _ _ hw.ne', div_coe' _ (1024 : ℝ) (by norm_num), ← EReal.coe_sub]
  rw [add_assoc, add_assoc, ← EReal.coe_add, ← EReal.coe_add]
  congr 2
  have h1 : ∑ k, u k * (x k * s) = (∑ k, x k * u k) * s := by
    rw [Finset.sum_mul]; exact Finset.sum_congr rfl fun k _ => by ring
  rw [h1, div_eq_mul_inv s w, ← hs]
  ring

end Cert.RealLib

end
-- ==== Proof.K1r.lean ====
module

public import proofs.«01_k».proof.Proof.K1s
public import proofs.«01_k».proof.Proof.RealLib
public import proofs.«01_k».proof.Proof.Gen.ReferenceIdeal.Read
public import Idealize.ShloMosaic.Lib.Pointwise
public import Idealize.ShloMosaic.Lib.ReduceAll

@[expose] public section

noncomputable section

namespace Cert.K1r

open Cert.ReferenceIdeal Idealize.ShloMosaic Idealize.ShloMosaic.TcCoe Idealize.SL.Sem
open Cert.ReferenceIdeal.Read
open Cert.Mix Cert.K1
open Cert.RealLib

variable (A0 : FVec Ideal S8192x1024 .bf16) (A1 : FVec Ideal S2048x1024 .bf16) (A2 : FVec Ideal S8192x3072 .bf16) (A3 : FVec Ideal S8192x1024 .f32)
  (A4 : FVec Ideal S8192x1024 .bf16) (A5 : FVec Ideal S4x128x128 .f32) (A6 : FVec Ideal S4x128 .f32) (A7 : FVec Ideal S1024 .f32)
  (A8 : FVec Ideal S4x256x256 .bf16) (A9 : FVec Ideal S1024 .f32)

theorem o1 : Ideal.ofBits FTy.f32 1065353216#32 = 1 := by
  exact Idealize.ShloMosaic.Ideal.ofBits_one_f32
theorem fz : (FloatOps.sitofp (F := Ideal) FTy.f32 0#32 : EReal) = 0 := by
  show (((0#32 : BitVec 32).toInt : ℝ) : EReal) = 0
  simp
theorem grp_eq (d : Fin 1024) : (⟨d.val / 256, by omega⟩ : Fin 4) = grp d := by
  have := d.isLt
  unfold grp
  apply Fin.ext
  split
  · show d.val / 256 = 0; omega
  · split
    · show d.val / 256 = 1; omega
    · split
      · show d.val / 256 = 2; omega
      · show d.val / 256 = 3; omega
theorem col_eq (d : Fin 1024) : col (grp d) (off d) = d := by
  rw [← grp_eq]
  apply Fin.ext
  show 256 * (d.val / 256) + d.val % 256 = d.val
  omega
theorem q1 (i : S8192x1024.Idx) : val_main_v1 (F := Ideal) A2 i = aU A2 (i 0) (i 1) := by
  idx_vars i
  unfold aU
  pointwise [val_main_v1, val_main_v0]
  done
theorem q2 (i : S8192x1024.Idx) : val_main_v2 (F := Ideal) A2 i = aV A2 (i 0) (i 1) := by
  idx_vars i
  unfold aV
  pointwise [val_main_v2, val_main_v0]
  done
theorem q3 (i : S8192x1024.Idx) : val_main_v3 (F := Ideal) A2 i = aG A2 (i 0) (i 1) := by
  idx_vars i
  unfold aG
  pointwise [val_main_v3, val_main_v0]
  done
theorem th_eq (x : EReal) : Ideal.tanh (Ideal.ofBits FTy.f32 1061962282#32 * (x + Ideal.ofBits FTy.f32 1027024659#32 * (x * x * x))) = th x := by
  unfold th
  rw [mul_assoc (Ideal.ofBits FTy.f32 1027024659#32) x, mul_assoc x x x]
theorem gl_eq (x : EReal) : x * (Ideal.ofBits FTy.f32 1056964608#32 * (1 + th x)) = gl x := by
  unfold gl
  rw [o1, ← mul_assoc, mul_comm x]
theorem q149 (i : S8192x1024.Idx) : val_main_v149 (F := Ideal) A2 i = gl (aU A2 (i 0) (i 1)) := by
  idx_vars i
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_cst_27, val_main_cst_28, val_main_cst_29, val_main_cst_30, val_main_cst_31, val_main_cst_32, q1, q2]
  try rw [th_eq, gl_eq]
theorem q189 (i : S8192x1024.Idx) : val_main_v189 (F := Ideal) A2 i = gl (aV A2 (i 0) (i 1)) := by
  idx_vars i
  pointwise [val_main_v189, val_main_v188, val_main_v187, val_main_v186, val_main_v185, val_main_v184, val_main_v183, val_main_v182, val_main_v181, val_main_v180, val_main_v179, val_main_v178, val_main_v177, val_main_cst_42, val_main_cst_43, val_main_cst_44, val_main_cst_45, q1, q2]
  try rw [th_eq, gl_eq]
theorem q168 (i : S8192x1024.Idx) : val_main_v168 (F := Ideal) A2 i = gd (aU A2 (i 0) (i 1)) := by
  idx_vars i
  pointwise [val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_cst_27, val_main_cst_28, val_main_cst_29, val_main_cst_30, val_main_cst_31, val_main_cst_32, val_main_cst_33, val_main_cst_34, val_main_cst_35, val_main_cst_36, val_main_cst_37, val_main_cst_38, val_main_cst_39, q1, q2]
  unfold gd
  simp only [th_eq, o1]
  try rfl
theorem q208 (i : S8192x1024.Idx) : val_main_v208 (F := Ideal) A2 i = gd (aV A2 (i 0) (i 1)) := by
  idx_vars i
  pointwise [val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_cst_40, val_main_cst_41, val_main_cst_42, val_main_cst_43, val_main_cst_44, val_main_cst_45, val_main_cst_46, val_main_cst_47, val_main_cst_48, val_main_cst_49, val_main_cst_50, val_main_cst_51, val_main_cst_52, q1, q2]
  unfold gd
  simp only [th_eq, o1]
  try rfl
theorem q216 (i : S8192x1.Idx) : val_main_v216 (F := Ideal) A2 i = rv (aV A2 (i 0)) := by
  idx_vars i
  unfold rv
  pointwise [val_main_v216, val_main_v215, val_main_v214, val_main_v213, val_main_v212, val_main_v211, val_main_v210, val_main_v209, val_main_cst_53, val_main_cst_54, val_main_cst_55, q189]
  done
theorem q221 (i : S8192x1024.Idx) : val_main_v221 (F := Ideal) A2 i = vn (aV A2 (i 0)) (i 1) := by
  idx_vars i
  unfold vn
  pointwise [val_main_v221, val_main_v220, q189, q216]
  done
theorem q224 (i : S8192x1024.Idx) : val_main_v224 (F := Ideal) A2 A7 i = vb (aV A2 (i 0)) (fun e => A7 (ix1 e)) (i 1) := by
  idx_vars i
  unfold vb
  pointwise [val_main_v224, val_main_v223, val_main_v222, q221]
  done
theorem q225 (i : S64x128x4x256.Idx) : val_main_v225 (F := Ideal) A2 A7 i = vb (aV A2 (ck (i 0) (i 1))) (fun e => A7 (ix1 e)) (col (i 2) (i 3)) := by
  idx_vars i
  pointwise [val_main_v225, q224]
  unfold ck col
  simp only [Nat.mul_comm 128, Nat.mul_comm 256]
  try rfl
theorem q232 (i : S8192x1024.Idx) : val_main_v232 (F := Ideal) A2 A5 A6 A7 i = gM A2 A5 A6 A7 (i 0) (i 1) := by
  idx_vars i
  unfold gM
  pointwise [val_main_v232, val_main_v231, val_main_v230, val_main_v229, val_main_v228, val_main_v227, val_main_v226, q225]
  congr 1
  · refine Finset.sum_congr rfl fun j _ => ?_
    rw [mul_comm, grp_eq]
    have h : col (grp i1) ⟨i1.val % 256, by omega⟩ = i1 := col_eq i1
    rw [h]
    rfl
  · rw [grp_eq]
    rfl
theorem q4 (i : S8208x1024.Idx) : val_main_v4 (F := Ideal) A3 i = xp A3 (i 0).val (i 1) := by
  idx_vars i
  unfold xp
  pointwise [val_main_v4, val_main_call0_v0, val_main_c, fz]
  have e : (8 ≤ i0.val ∧ i0.val - 8 < 8192) = (8 ≤ i0.val ∧ i0.val < 8200) := propext (by omega)
  by_cases h : 8 ≤ i0.val ∧ i0.val < 8200
  · have h' : 8 ≤ i0.val ∧ i0.val - 8 < 8192 := by omega
    rw [dif_pos h, dif_pos h']
  · have h' : ¬ (8 ≤ i0.val ∧ i0.val - 8 < 8192) := by omega
    rw [dif_neg h, dif_neg h']
theorem bm (x : ℤ) (h : -2147483648 ≤ x) (h' : x < 2147483648) : x.bmod (2 ^ 32) = x :=
  Int.bmod_eq_of_le (by norm_num; omega) (by norm_num; omega)
theorem cap (w : BitVec 32) (h : 0 ≤ w.toInt) : IntOp.minsi 8192#32 (IntOp.maxsi 0#32 w) = IntOp.minsi w 8192#32 := by
  apply BitVec.eq_of_toInt_eq
  have a : (8192#32 : BitVec 32).toInt = 8192 := by decide
  have b : (0#32 : BitVec 32).toInt = 0 := by decide
  simp only [IntOp.minsi, IntOp.maxsi, BitVec.slt, decide_eq_true_eq, a, b]
  split_ifs <;> simp only [a, b] at * <;> omega
theorem low (w : BitVec 32) (h : w.toInt ≤ 8192) : IntOp.minsi 8192#32 (IntOp.maxsi 0#32 w) = IntOp.maxsi w 0#32 := by
  apply BitVec.eq_of_toInt_eq
  have a : (8192#32 : BitVec 32).toInt = 8192 := by decide
  have b : (0#32 : BitVec 32).toInt = 0 := by decide
  simp only [IntOp.minsi, IntOp.maxsi, BitVec.slt, decide_eq_true_eq, a, b]
  split_ifs <;> simp only [a, b] at * <;> omega
theorem wR (R : Fin 8192) : (BitVec.ofNat 32 R.val).toInt = R.val := by
  have := R.isLt
  rw [BitVec.toInt_ofNat']
  exact bm _ (by omega) (by omega)
theorem x8 (R : Fin 8192) (d : Fin 1024) : A3 (ix2 R d) = xp A3 (R.val + 8) d := by
  have := R.isLt
  unfold xp
  rw [dif_pos (by omega)]
  rfl
theorem ws0 (f : ℕ → EReal) (k : ℕ) : f (7 + k) + f (8 + k) = f (k + 7) + f (k + 8) := by
  simp only [f3, f2, f1, Nat.add_comm _ k, Nat.add_assoc, Nat.reduceAdd, _root_.add_assoc]
theorem cn0 (R : Fin 8192) : FloatOps.sitofp (F := Ideal) FTy.f32 (IntOp.subi (IntOp.minsi 8192#32 (IntOp.maxsi 0#32 (IntOp.addi (BitVec.ofNat 32 R.val) 1#32))) (IntOp.minsi 8192#32 (IntOp.maxsi 0#32 (IntOp.subi (BitVec.ofNat 32 R.val) 1#32)))) = gc R.val 1#32 := by
  unfold gc
  have hR := R.isLt
  have e : (1#32 : BitVec 32).toInt = 1 := by decide
  have w := wR R
  rw [cap _ (by show 0 ≤ (BitVec.ofNat 32 R.val + 1#32).toInt; rw [BitVec.toInt_add, w, e, bm _ (by omega) (by omega)]; omega),
    low _ (by show (BitVec.ofNat 32 R.val - 1#32).toInt ≤ 8192; rw [BitVec.toInt_sub, w, e, bm _ (by omega) (by omega)]; omega)]
theorem q23 (i : S8192x256.Idx) : val_main_v23 (F := Ideal) A3 i = gP A3 (i 0).val (col 0 (i 1)) := by
  idx_vars i
  have h0 : (col 0 i1).val < 256 := by show 256 * 0 + i1.val < 256; omega
  unfold gP
  rw [if_pos h0]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_c_0, val_main_c_1, val_main_c_2, val_main_c_3, val_main_c_4, val_main_c_5, val_main_call1_v0, val_main_call1_v1, val_main_call1_v2, val_main_call1_v3, val_main_call1_v4, val_main_call2_v0, val_main_call2_v1, val_main_call2_v2, val_main_call2_v3, val_main_call2_v4, val_main_cst, q4]
  have hc : (⟨i1.val, by omega⟩ : Fin 1024) = col 0 i1 := Fin.ext (by show i1.val = 256 * 0 + i1.val; omega)
  rw [hc]
  refine congrArg₂ (fun a b : EReal => a - b) (congrArg₂ Ideal.div ?_ (cn0 i0)) ?_
  · exact ws0 (fun k => xp A3 k (col 0 i1)) i0.val
  · exact x8 A3 i0 (col 0 i1)
theorem ws1 (f : ℕ → EReal) (k : ℕ) : f (6 + k) + f (7 + k) + f (8 + k) + f (9 + k) = f1 f (k + 6) + f1 f (k + 8) := by
  simp only [f3, f2, f1, Nat.add_comm _ k, Nat.add_assoc, Nat.reduceAdd, _root_.add_assoc]
theorem cn1 (R : Fin 8192) : FloatOps.sitofp (F := Ideal) FTy.f32 (IntOp.subi (IntOp.minsi 8192#32 (IntOp.maxsi 0#32 (IntOp.addi (BitVec.ofNat 32 R.val) 2#32))) (IntOp.minsi 8192#32 (IntOp.maxsi 0#32 (IntOp.subi (BitVec.ofNat 32 R.val) 2#32)))) = gc R.val 2#32 := by
  unfold gc
  have hR := R.isLt
  have e : (2#32 : BitVec 32).toInt = 2 := by decide
  have w := wR R
  rw [cap _ (by show 0 ≤ (BitVec.ofNat 32 R.val + 2#32).toInt; rw [BitVec.toInt_add, w, e, bm _ (by omega) (by omega)]; omega),
    low _ (by show (BitVec.ofNat 32 R.val - 2#32).toInt ≤ 8192; rw [BitVec.toInt_sub, w, e, bm _ (by omega) (by omega)]; omega)]
theorem q45 (i : S8192x256.Idx) : val_main_v45 (F := Ideal) A3 i = gP A3 (i 0).val (col 1 (i 1)) := by
  idx_vars i
  have h0 : ¬ (col 1 i1).val < 256 := by show ¬ 256 * 1 + i1.val < 256; omega
  have h1 : (col 1 i1).val < 512 := by show 256 * 1 + i1.val < 512; omega
  unfold gP
  rw [if_neg h0, if_pos h1]
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v5, val_main_c_6, val_main_c_7, val_main_c_8, val_main_c_9, val_main_c_10, val_main_c_11, val_main_call3_v0, val_main_call3_v1, val_main_call3_v2, val_main_call3_v3, val_main_call3_v4, val_main_call4_v0, val_main_call4_v1, val_main_call4_v2, val_main_call4_v3, val_main_call4_v4, val_main_cst_12, q4]
  clear h0
  skip
  refine congrArg₂ (fun a b : EReal => a - b) (congrArg₂ Ideal.div ?_ (cn1 i0)) ?_
  · exact ws1 (fun k => xp A3 k (col 1 i1)) i0.val
  · exact x8 A3 i0 (col 1 i1)
theorem ws2 (f : ℕ → EReal) (k : ℕ) : f (4 + k) + f (5 + k) + f (6 + k) + f (7 + k) + f (8 + k) + f (9 + k) + f (10 + k) + f (11 + k) = f2 f (k + 4) + f2 f (k + 8) := by
  simp only [f3, f2, f1, Nat.add_comm _ k, Nat.add_assoc, Nat.reduceAdd, _root_.add_assoc]
theorem cn2 (R : Fin 8192) : FloatOps.sitofp (F := Ideal) FTy.f32 (IntOp.subi (IntOp.minsi 8192#32 (IntOp.maxsi 0#32 (IntOp.addi (BitVec.ofNat 32 R.val) 4#32))) (IntOp.minsi 8192#32 (IntOp.maxsi 0#32 (IntOp.subi (BitVec.ofNat 32 R.val) 4#32)))) = gc R.val 4#32 := by
  unfold gc
  have hR := R.isLt
  have e : (4#32 : BitVec 32).toInt = 4 := by decide
  have w := wR R
  rw [cap _ (by show 0 ≤ (BitVec.ofNat 32 R.val + 4#32).toInt; rw [BitVec.toInt_add, w, e, bm _ (by omega) (by omega)]; omega),
    low _ (by show (BitVec.ofNat 32 R.val - 4#32).toInt ≤ 8192; rw [BitVec.toInt_sub, w, e, bm _ (by omega) (by omega)]; omega)]
theorem q75 (i : S8192x256.Idx) : val_main_v75 (F := Ideal) A3 i = gP A3 (i 0).val (col 2 (i 1)) := by
  idx_vars i
  have h0 : ¬ (col 2 i1).val < 256 := by show ¬ 256 * 2 + i1.val < 256; omega
  have h1 : ¬ (col 2 i1).val < 512 := by show ¬ 256 * 2 + i1.val < 512; omega
  have h2 : (col 2 i1).val < 768 := by show 256 * 2 + i1.val < 768; omega
  unfold gP
  rw [if_neg h0, if_neg h1, if_pos h2]
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v5, val_main_c_13, val_main_c_14, val_main_c_15, val_main_c_16, val_main_c_17, val_main_c_18, val_main_call5_v0, val_main_call5_v1, val_main_call5_v2, val_main_call5_v3, val_main_call5_v4, val_main_call6_v0, val_main_call6_v1, val_main_call6_v2, val_main_call6_v3, val_main_call6_v4, val_main_cst_19, q4]
  clear h0
  skip
  refine congrArg₂ (fun a b : EReal => a - b) (congrArg₂ Ideal.div ?_ (cn2 i0)) ?_
  · exact ws2 (fun k => xp A3 k (col 2 i1)) i0.val
  · exact x8 A3 i0 (col 2 i1)
theorem ws3 (f : ℕ → EReal) (k : ℕ) : f k + f (1 + k) + f (2 + k) + f (3 + k) + f (4 + k) + f (5 + k) + f (6 + k) + f (7 + k) + f (8 + k) + f (9 + k) + f (10 + k) + f (11 + k) + f (12 + k) + f (13 + k) + f (14 + k) + f (15 + k) = f3 f k + f3 f (k + 8) := by
  simp only [f3, f2, f1, Nat.add_comm _ k, Nat.add_assoc, Nat.reduceAdd, _root_.add_assoc]
theorem cn3 (R : Fin 8192) : FloatOps.sitofp (F := Ideal) FTy.f32 (IntOp.subi (IntOp.minsi 8192#32 (IntOp.maxsi 0#32 (IntOp.addi (BitVec.ofNat 32 R.val) 8#32))) (IntOp.minsi 8192#32 (IntOp.maxsi 0#32 (IntOp.subi (BitVec.ofNat 32 R.val) 8#32)))) = gc R.val 8#32 := by
  unfold gc
  have hR := R.isLt
  have e : (8#32 : BitVec 32).toInt = 8 := by decide
  have w := wR R
  rw [cap _ (by show 0 ≤ (BitVec.ofNat 32 R.val + 8#32).toInt; rw [BitVec.toInt_add, w, e, bm _ (by omega) (by omega)]; omega),
    low _ (by show (BitVec.ofNat 32 R.val - 8#32).toInt ≤ 8192; rw [BitVec.toInt_sub, w, e, bm _ (by omega) (by omega)]; omega)]
theorem q121 (i : S8192x256.Idx) : val_main_v121 (F := Ideal) A3 i = gP A3 (i 0).val (col 3 (i 1)) := by
  idx_vars i
  have h0 : ¬ (col 3 i1).val < 256 := by show ¬ 256 * 3 + i1.val < 256; omega
  have h1 : ¬ (col 3 i1).val < 512 := by show ¬ 256 * 3 + i1.val < 512; omega
  have h2 : ¬ (col 3 i1).val < 768 := by show ¬ 256 * 3 + i1.val < 768; omega
  unfold gP
  rw [if_neg h0, if_neg h1, if_neg h2]
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v5, val_main_c_20, val_main_c_21, val_main_c_22, val_main_c_23, val_main_c_24, val_main_c_25, val_main_call7_v0, val_main_call7_v1, val_main_call7_v2, val_main_call7_v3, val_main_call7_v4, val_main_call8_v0, val_main_call8_v1, val_main_call8_v2, val_main_call8_v3, val_main_call8_v4, val_main_cst_26, q4]
  clear h0
  skip
  refine congrArg₂ (fun a b : EReal => a - b) (congrArg₂ Ideal.div ?_ (cn3 i0)) ?_
  · exact ws3 (fun k => xp A3 k (col 3 i1)) i0.val
  · exact x8 A3 i0 (col 3 i1)
end Cert.K1r

end
-- ==== Proof.K1t.lean ====
module

public import proofs.«01_k».proof.Proof.K1r
public import proofs.«01_k».proof.Proof.RealLib
public import proofs.«01_k».proof.Proof.Gen.ReferenceIdeal.Read
public import Idealize.ShloMosaic.Lib.Pointwise
public import Idealize.ShloMosaic.Lib.ReduceAll

@[expose] public section

noncomputable section

namespace Cert.K1r

open Cert.ReferenceIdeal Idealize.ShloMosaic Idealize.ShloMosaic.TcCoe Idealize.SL.Sem
open Cert.ReferenceIdeal.Read
open Cert.Mix Cert.K1
open Cert.RealLib

variable (A0 : FVec Ideal S8192x1024 .bf16) (A1 : FVec Ideal S2048x1024 .bf16) (A2 : FVec Ideal S8192x3072 .bf16) (A3 : FVec Ideal S8192x1024 .f32)
  (A4 : FVec Ideal S8192x1024 .bf16) (A5 : FVec Ideal S4x128x128 .f32) (A6 : FVec Ideal S4x128 .f32) (A7 : FVec Ideal S1024 .f32)
  (A8 : FVec Ideal S4x256x256 .bf16) (A9 : FVec Ideal S1024 .f32)

theorem sg (x : EReal) : Ideal.div 1 (1 + Ideal.exp (-x)) = Ideal.logistic x := by
  first | rfl | (unfold Ideal.logistic; simp only [o1])
theorem q234_2 (i : S8192x1024.Idx) : val_main_v234_2 (F := Ideal) A2 i = Ideal.logistic (aG A2 (i 0) (i 1)) := by
  idx_vars i
  pointwise [val_main_v234_2, val_main_call9_v0, val_main_call9_v1, val_main_call9_cst, val_main_call9_v2, val_main_call9_v3, val_main_call9_cst_0, val_main_call9_v4, val_main_call9_cst_1, val_main_call9_v6, val_main_call9_v7, q3]
  try exact sg _
theorem q234_0 (i : S8192x1024.Idx) : val_main_v234_0 (F := Ideal) A2 i = sl (aG A2 (i 0) (i 1)) := by
  idx_vars i
  unfold sl
  pointwise [val_main_v234_0, q234_2, q3]
  done
theorem q234_1 (i : S8192x1024.Idx) : val_main_v234_1 (F := Ideal) A2 i = Ideal.logistic (aG A2 (i 0) (i 1)) * (1 - Ideal.logistic (aG A2 (i 0) (i 1))) := by
  idx_vars i
  pointwise [val_main_v234_1, q234_2, val_main_call9_v7, val_main_call9_v6, val_main_call9_cst_1]
  done
theorem q242_2 (i : S8192x1024.Idx) : val_main_v242_2 (F := Ideal) A4 i = Ideal.logistic (A4 i) := by
  idx_vars i
  pointwise [val_main_v242_2, val_main_v127, val_main_call10_v0, val_main_call10_v1, val_main_call10_cst, val_main_call10_v2, val_main_call10_v3, val_main_call10_cst_0, val_main_call10_v4, val_main_call10_cst_1, val_main_call10_v6, val_main_call10_v7]
  try exact sg _
theorem q242_0 (i : S8192x1024.Idx) : val_main_v242_0 (F := Ideal) A4 i = sl (A4 i) := by
  idx_vars i
  unfold sl
  pointwise [val_main_v242_0, q242_2, val_main_v127]
  done
theorem q242_1 (i : S8192x1024.Idx) : val_main_v242_1 (F := Ideal) A4 i = Ideal.logistic (A4 i) * (1 - Ideal.logistic (A4 i)) := by
  idx_vars i
  pointwise [val_main_v242_1, q242_2, val_main_call10_v7, val_main_call10_v6, val_main_call10_cst_1]
  done
theorem q126 (i : S8192x4x256.Idx) : val_main_v126 (F := Ideal) A3 i = gP A3 (i 0).val (col (i 1) (i 2)) := by
  idx_vars i
  pointwise [val_main_v126, val_main_v122, val_main_v123, val_main_v124, val_main_v125, q23, q45, q75, q121]
  fin_cases i1 <;> rfl
theorem q238 (i : S8192x1024.Idx) : val_main_v238 (F := Ideal) A3 A8 i = gY A3 A8 (i 0) (i 1) := by
  idx_vars i
  unfold gY
  pointwise [val_main_v238, val_main_v237, val_main_v236, val_main_v128, q126]
  refine Finset.sum_congr rfl fun e _ => ?_
  rw [mul_comm, grp_eq]
  rfl
theorem q249 (i : S8192x1024.Idx) : val_main_v249 (F := Ideal) A0 A1 i = gA A0 A1 (i 0) (i 1) := by
  idx_vars i
  unfold gA
  pointwise [val_main_v249, val_main_v248, val_main_v247, val_main_v245]
  done
theorem q250 (i : S8192x1024.Idx) : val_main_v250 (F := Ideal) A0 A1 i = gB A0 A1 (i 0) (i 1) := by
  idx_vars i
  unfold gB
  pointwise [val_main_v250, val_main_v248, val_main_v247, val_main_v245]
  done
theorem q252 (i : S8192x1024.Idx) : val_main_v252 (F := Ideal) A0 A1 A4 i = gB A0 A1 (i 0) (i 1) * sl (A4 i) := by
  idx_vars i
  pointwise [val_main_v252, q250, q242_0]
  done
theorem q258 (i : S8192x1024.Idx) : val_main_v258 (F := Ideal) A0 A1 A4 A9 i = gE A0 A1 A4 A9 (i 0) (i 1) := by
  idx_vars i
  unfold gE
  pointwise [val_main_v258, val_main_v257, val_main_v239, q252]
  done
theorem q260 (i : S8192x4x256.Idx) : val_main_v260 (F := Ideal) A0 A1 A4 A9 i = gE A0 A1 A4 A9 (i 0) (col (i 1) (i 2)) := by
  idx_vars i
  pointwise [val_main_v260, q258]
  unfold col
  simp only [Nat.mul_comm 256]
  done
theorem q306 (i : S8192x1024.Idx) : val_main_v306 (F := Ideal) A0 A1 A4 A8 A9 i = Gdp A0 A1 A4 A8 A9 (i 0) (i 1) := by
  idx_vars i
  unfold Gdp
  pointwise [val_main_v306, val_main_v263, val_main_v262, val_main_v261, q260, val_main_v128]
  refine Finset.sum_congr rfl fun e _ => ?_
  rw [grp_eq]
  rfl
theorem q265 (i : S4x256x256.Idx) : val_main_v265 (F := Ideal) A0 A1 A3 A4 A9 i = Gwg A0 A1 A3 A4 A9 (i 0) (i 1) (i 2) := by
  idx_vars i
  unfold Gwg
  pointwise [val_main_v265, val_main_v264, val_main_v261, q260, q126]
  refine Finset.sum_congr rfl fun e _ => ?_
  rw [mul_comm]
theorem q310 (i : S1x1024.Idx) : val_main_v310 (F := Ideal) A0 A1 A3 A4 A8 i = Gsc A0 A1 A3 A4 A8 (i 1) := by
  idx_vars i
  unfold Gsc
  pointwise [val_main_v310, val_main_v259, val_main_v256, val_main_v255, val_main_v254, q238, q252, val_main_cst_57, val_main_cst_58]
  try rw [Fin.sum_univ_one]
  try refine Finset.sum_congr rfl fun e _ => ?_
  try rw [mul_comm]
theorem q233 (i : S8192x1024.Idx) : val_main_v233 (F := Ideal) A2 A5 A6 A7 i = gl (aU A2 (i 0) (i 1)) * gM A2 A5 A6 A7 (i 0) (i 1) := by
  idx_vars i
  pointwise [val_main_v233, q149, q232]
  done
theorem q267 (i : S8192x1024.Idx) : val_main_v267 (F := Ideal) A0 A1 A2 i = gA A0 A1 (i 0) (i 1) * sl (aG A2 (i 0) (i 1)) := by
  idx_vars i
  pointwise [val_main_v267, q249, q234_0]
  done
theorem q269 (i : S8192x1024.Idx) : val_main_v269 (F := Ideal) A0 A1 A2 i = gT A0 A1 A2 (i 0) (i 1) := by
  idx_vars i
  unfold gT
  pointwise [val_main_v269, q149, q267]
  try rw [mul_comm]
theorem q271 (i : S64x128x4x256.Idx) : val_main_v271 (F := Ideal) A0 A1 A2 i = gT A0 A1 A2 (ck (i 0) (i 1)) (col (i 2) (i 3)) := by
  idx_vars i
  pointwise [val_main_v271, q269]
  unfold ck col
  simp only [Nat.mul_comm 128, Nat.mul_comm 256]
  try rfl
theorem q277 (i : S4x128x128.Idx) : val_main_v277 (F := Ideal) A0 A1 A2 A7 i = Gws A0 A1 A2 A7 (i 0) (i 1) (i 2) := by
  idx_vars i
  unfold Gws
  pointwise [val_main_v277, val_main_v276, q271, q225]
  done
theorem q280 (i : S8192x1024.Idx) : val_main_v280 (F := Ideal) A0 A1 A2 A5 i = gN A0 A1 A2 A5 (i 0) (i 1) := by
  idx_vars i
  unfold gN
  pointwise [val_main_v280, val_main_v279, val_main_v278, val_main_v276, q271]
  refine Finset.sum_congr rfl fun e _ => ?_
  rw [mul_comm, grp_eq]
  have h : col (grp i1) ⟨i1.val % 256, by omega⟩ = i1 := col_eq i1
  rw [h]
  rfl
theorem q309 (i : S1x1024.Idx) : val_main_v309 (F := Ideal) A0 A1 A2 A5 i = Ggv A0 A1 A2 A5 (i 1) := by
  idx_vars i
  unfold Ggv
  pointwise [val_main_v309, val_main_v286, val_main_v283, val_main_v282, val_main_v281, q221, q280, val_main_cst_61, val_main_cst_62]
  try rw [Fin.sum_univ_one]
  try refine Finset.sum_congr rfl fun e _ => ?_
  try rw [mul_comm]
theorem q235 (i : S8192x1024.Idx) : val_main_v235 (F := Ideal) A2 A5 A6 A7 i = gl (aU A2 (i 0) (i 1)) * gM A2 A5 A6 A7 (i 0) (i 1) * sl (aG A2 (i 0) (i 1)) := by
  idx_vars i
  pointwise [val_main_v235, q233, q234_0]
  done
theorem q243 (i : S8192x1024.Idx) : val_main_v243 (F := Ideal) A3 A4 A8 A9 i = gY A3 A8 (i 0) (i 1) * A9 (ix1 (i 1)) * sl (A4 i) := by
  idx_vars i
  pointwise [val_main_v243, val_main_v241, val_main_v240, val_main_v239, q238, q242_0]
  done
theorem q308 (i : S2048x8192.Idx) : val_main_v308 (F := Ideal) A2 A3 A4 A5 A6 A7 A8 A9 i = Gct A2 A3 A4 A5 A6 A7 A8 A9 (i 0) (i 1) := by
  idx_vars i
  unfold Gct
  pointwise [val_main_v308, val_main_v307, val_main_v244, q235, q243]
  done
theorem q302 (i : S8192x1024.Idx) : val_main_v302 (F := Ideal) A0 A1 A2 A5 A6 A7 i = gA A0 A1 (i 0) (i 1) * sl (aG A2 (i 0) (i 1)) * gM A2 A5 A6 A7 (i 0) (i 1) * gd (aU A2 (i 0) (i 1)) := by
  idx_vars i
  pointwise [val_main_v302, val_main_v270, q267, q232, q168]
  done
end Cert.K1r

end
-- ==== Proof.K1u.lean ====
module

public import proofs.«01_k».proof.Proof.K1t
public import proofs.«01_k».proof.Proof.Gen.Pre_finite1
public import proofs.«01_k».proof.Proof.RealLib
public import proofs.«01_k».proof.Proof.Gen.ReferenceIdeal.Read
public import Idealize.ShloMosaic.Lib.Pointwise
public import Idealize.ShloMosaic.Lib.ReduceAll

@[expose] public section

noncomputable section

namespace Cert.K1r

open Cert.ReferenceIdeal Idealize.ShloMosaic Idealize.ShloMosaic.TcCoe Idealize.SL.Sem
open Cert.ReferenceIdeal.Read
open Cert.Mix Cert.K1
open Cert.RealLib

variable (A0 : FVec Ideal S8192x1024 .bf16) (A1 : FVec Ideal S2048x1024 .bf16) (A2 : FVec Ideal S8192x3072 .bf16) (A3 : FVec Ideal S8192x1024 .f32)
  (A4 : FVec Ideal S8192x1024 .bf16) (A5 : FVec Ideal S4x128x128 .f32) (A6 : FVec Ideal S4x128 .f32) (A7 : FVec Ideal S1024 .f32)
  (A8 : FVec Ideal S4x256x256 .bf16) (A9 : FVec Ideal S1024 .f32)

theorem r03 {n0 n1 n2 n3 : ℕ} (h : (⟨4, ![n0, n1, n2, n3]⟩ : Shape).ReducesTo [0, 3] ⟨2, ![n1, n2]⟩) (v : (⟨4, ![n0, n1, n2, n3]⟩ : Shape).Idx → EReal) (init : EReal)
    (a : Fin n1) (b : Fin n2) : Ideal.hostReduceAdd h v init (ix2 a b) = init + ∑ k1 : Fin n3, ∑ k0 : Fin n0, v (ix4 k0 a b k1) := by
  refine congrArg (init + ·) ((Finset.sum_filter_eq_sum_of_fiber _ (fun k : Fin n3 × Fin n0 => ix4 k.2 a b k.1)
    (fun _ _ e => Prod.ext (congrFun e 3) (congrFun e 0)) (fun i => ?_) v).trans ?_)
  · constructor
    · intro e
      refine ⟨(i 3, i 0), ?_⟩
      funext x; apply Fin.ext
      match x with
      | ⟨0, _⟩ => rfl
      | ⟨1, _⟩ => exact (congrArg Fin.val (congrFun e ⟨0, by show 0 < 2; decide⟩)).symm
      | ⟨2, _⟩ => exact (congrArg Fin.val (congrFun e ⟨1, by show 1 < 2; decide⟩)).symm
      | ⟨3, _⟩ => rfl
    · rintro ⟨k, rfl⟩
      funext x; apply Fin.ext
      match x with
      | ⟨0, _⟩ => rfl
      | ⟨1, _⟩ => rfl
  · simp only [Fintype.sum_prod_type]
theorem q272 (i : S128x4.Idx) : val_main_v272 (F := Ideal) A0 A1 A2 i = Gbs A0 A1 A2 (i 1) (i 0) := by
  idx_vars i
  unfold Gbs
  pointwise [val_main_v272, q271, val_main_cst_59, r03]
theorem q274 (i : S128x4.Idx) : val_main_v274 (F := Ideal) A0 A1 A2 i = Gbs A0 A1 A2 (i 1) (i 0) := by
  idx_vars i
  pointwise [val_main_v274, val_main_v273, q272, val_main_cst_60, r03]
  simp only [Fin.sum_univ_one]
theorem q312 (i : S32x128.Idx) : val_main_v312 (F := Ideal) A0 A1 A2 i = Gbb A0 A1 A2 (i 0) (i 1) := by
  idx_vars i
  unfold Gbb
  pointwise [val_main_v312, val_main_v311, val_main_v275, q274]

theorem isR_mul {a b : EReal} (ha : IsR a) (hb : IsR b) : IsR (a * b) := by
  obtain ⟨x, rfl⟩ := ha
  obtain ⟨y, rfl⟩ := hb
  exact ⟨x * y, (EReal.coe_mul x y).symm⟩
theorem isR_add {a b : EReal} (ha : IsR a) (hb : IsR b) : IsR (a + b) := by
  obtain ⟨x, rfl⟩ := ha
  obtain ⟨y, rfl⟩ := hb
  exact ⟨x + y, (EReal.coe_add x y).symm⟩
theorem isR_neg {a : EReal} (ha : IsR a) : IsR (-a) := by
  obtain ⟨x, rfl⟩ := ha
  exact ⟨-x, (EReal.coe_neg x).symm⟩
theorem isR_sub {a b : EReal} (ha : IsR a) (hb : IsR b) : IsR (a - b) := by
  rw [sub_eq_add_neg]
  exact isR_add ha (isR_neg hb)
theorem isR_sum {n : ℕ} (f : Fin n → EReal) (h : ∀ k, IsR (f k)) : IsR (∑ k, f k) := by
  obtain ⟨g, rfl⟩ := exists_fun f h
  exact ⟨_, sum_coe _ _⟩
theorem isR_one : IsR (Ideal.ofBits FTy.f32 1065353216#32) := ⟨1, by rw [o1]; rfl⟩
theorem isR_half : IsR (Ideal.ofBits FTy.f32 1056964608#32) := by
  refine ⟨8388608 * 2 ^ (-24 : ℤ), ?_⟩
  simp [Ideal.ofBits, Ideal.ieee, -EReal.coe_mul]
theorem isR_k : IsR (Ideal.ofBits FTy.f32 1061962282#32) := by
  refine ⟨13386282 * 2 ^ (-24 : ℤ), ?_⟩
  simp [Ideal.ofBits, Ideal.ieee, -EReal.coe_mul]
theorem isR_c : IsR (Ideal.ofBits FTy.f32 1027024659#32) := by
  refine ⟨12003091 * 2 ^ (-28 : ℤ), ?_⟩
  simp [Ideal.ofBits, Ideal.ieee, -EReal.coe_mul]
theorem isR_tanh {a : EReal} (h : IsR a) : IsR (Ideal.tanh a) := by
  obtain ⟨x, rfl⟩ := h
  exact ⟨_, rfl⟩
theorem isR_lg {a : EReal} (h : IsR a) : IsR (Ideal.logistic a) := by
  obtain ⟨x, rfl⟩ := h
  have e : Ideal.logistic (x : EReal) = Ideal.div ((1 : ℝ) : EReal) (((1 + Real.exp (-x) : ℝ)) : EReal) := by
    unfold Ideal.logistic
    rw [EReal.coe_add, ← EReal.coe_neg]
    rfl
  rw [e, div_coe' _ _ (by have := Real.exp_pos (-x); positivity)]
  exact ⟨_, rfl⟩
theorem isR_gl {a : EReal} (h : IsR a) : IsR (gl a) := by
  unfold gl th
  exact isR_mul (isR_mul isR_half h) (isR_add isR_one (isR_tanh (isR_mul isR_k (isR_add h (isR_mul (isR_mul isR_c h) (isR_mul h h))))))
theorem isR_sl {a : EReal} (h : IsR a) : IsR (sl a) := isR_mul h (isR_lg h)
theorem isR_rv {z : Fin 1024 → EReal} (h : ∀ d, IsR (z d)) : IsR (rv z) := by
  obtain ⟨x, hx⟩ := exists_fun (fun d => gl (z d)) fun d => isR_gl (h d)
  have hx' : ∀ d, gl (z d) = (x d : EReal) := fun d => congrFun hx d
  obtain ⟨e, he, hl⟩ := lit_eps
  unfold rv
  simp only [hx', lit1024, hl]
  rw [ms_coe, rsqrt_pos _ (ms_pos x e he)]
  exact ⟨_, rfl⟩
theorem isR_vb {z g : Fin 1024 → EReal} (h : ∀ d, IsR (z d)) (hg : ∀ d, IsR (g d)) (d : Fin 1024) : IsR (vb z g d) :=
  isR_mul (isR_mul (isR_gl (h d)) (isR_rv h)) (hg d)

section
variable (h0 : ∀ i, IsR (A0 i)) (h1 : ∀ i, IsR (A1 i)) (h2 : ∀ i, IsR (A2 i)) (h3 : ∀ i, IsR (A3 i)) (h4 : ∀ i, IsR (A4 i))
  (h5 : ∀ i, IsR (A5 i)) (h6 : ∀ i, IsR (A6 i)) (h7 : ∀ i, IsR (A7 i)) (h8 : ∀ i, IsR (A8 i)) (h9 : ∀ i, IsR (A9 i))
include h0 h1 in
theorem isR_gA (R : Fin 8192) (d : Fin 1024) : IsR (gA A0 A1 R d) := isR_sum _ fun k => isR_mul (h0 _) (h1 _)
include h0 h1 in
theorem isR_gB (R : Fin 8192) (d : Fin 1024) : IsR (gB A0 A1 R d) := isR_sum _ fun k => isR_mul (h0 _) (h1 _)
include h0 h1 h2 in
theorem isR_gT (R : Fin 8192) (d : Fin 1024) : IsR (gT A0 A1 A2 R d) := isR_mul (isR_mul (isR_gA A0 A1 h0 h1 R d) (isR_sl (h2 _))) (isR_gl (h2 _))
include h2 h5 h6 h7 in
theorem isR_gM (R : Fin 8192) (d : Fin 1024) : IsR (gM A2 A5 A6 A7 R d) :=
  isR_add (isR_sum _ fun j => isR_mul (h5 _) (isR_vb (fun _ => h2 _) (fun _ => h7 _) d)) (h6 _)
include h0 h1 h2 h5 in
theorem isR_gN (R : Fin 8192) (d : Fin 1024) : IsR (gN A0 A1 A2 A5 R d) := isR_sum _ fun i => isR_mul (h5 _) (isR_gT A0 A1 A2 h0 h1 h2 _ d)
theorem isR_gc (R : Fin 8192) (n : BitVec 32) (k : ℤ) (hn : n.toInt = k) (h1 : 1 ≤ k) (h2 : k ≤ 8) : ∃ r : ℝ, r ≠ 0 ∧ gc R.val n = (r : EReal) := by
  have hR := R.isLt
  have w := wR R
  have a : (8192#32 : BitVec 32).toInt = 8192 := by decide
  have b : (0#32 : BitVec 32).toInt = 0 := by decide
  have p : (IntOp.addi (BitVec.ofNat 32 R.val) n).toInt = R.val + k := by
    show (BitVec.ofNat 32 R.val + n).toInt = _
    rw [BitVec.toInt_add, w, hn, bm _ (by omega) (by omega)]
  have q : (IntOp.subi (BitVec.ofNat 32 R.val) n).toInt = R.val - k := by
    show (BitVec.ofNat 32 R.val - n).toInt = _
    rw [BitVec.toInt_sub, w, hn, bm _ (by omega) (by omega)]
  have p' : R.val < (IntOp.minsi (IntOp.addi (BitVec.ofNat 32 R.val) n) 8192#32).toInt ∧ (IntOp.minsi (IntOp.addi (BitVec.ofNat 32 R.val) n) 8192#32).toInt ≤ 8192 := by
    simp only [IntOp.minsi, BitVec.slt, decide_eq_true_eq, a]
    split_ifs <;> simp only [a, p] at * <;> omega
  have q' : (IntOp.maxsi (IntOp.subi (BitVec.ofNat 32 R.val) n) 0#32).toInt ≤ R.val ∧ 0 ≤ (IntOp.maxsi (IntOp.subi (BitVec.ofNat 32 R.val) n) 0#32).toInt := by
    simp only [IntOp.maxsi, BitVec.slt, decide_eq_true_eq, b]
    split_ifs <;> simp only [b, q] at * <;> omega
  refine ⟨((IntOp.subi (IntOp.minsi (IntOp.addi (BitVec.ofNat 32 R.val) n) 8192#32) (IntOp.maxsi (IntOp.subi (BitVec.ofNat 32 R.val) n) 0#32)).toInt : ℝ), ?_, rfl⟩
  rw [Int.cast_ne_zero]
  show (IntOp.minsi (IntOp.addi (BitVec.ofNat 32 R.val) n) 8192#32 - IntOp.maxsi (IntOp.subi (BitVec.ofNat 32 R.val) n) 0#32).toInt ≠ 0
  rw [BitVec.toInt_sub, bm _ (by omega) (by omega)]
  omega
theorem isR_dv (R : Fin 8192) (n : BitVec 32) (k : ℤ) (hn : n.toInt = k) (h1 : 1 ≤ k) (h2 : k ≤ 8) {x : EReal} (hx : IsR x) : IsR (Ideal.div x (gc R.val n)) := by
  obtain ⟨r, hr, e⟩ := isR_gc R n k hn h1 h2
  obtain ⟨y, rfl⟩ := hx
  rw [e, div_coe' _ _ hr]
  exact ⟨_, rfl⟩
include h3 in
theorem isR_xp (k : ℕ) (d : Fin 1024) : IsR (xp A3 k d) := by
  unfold xp
  split_ifs
  · exact h3 _
  · exact ⟨0, rfl⟩
theorem isR_f1 {f : ℕ → EReal} (h : ∀ k, IsR (f k)) (k : ℕ) : IsR (f1 f k) := isR_add (h _) (h _)
theorem isR_f2 {f : ℕ → EReal} (h : ∀ k, IsR (f k)) (k : ℕ) : IsR (f2 f k) := isR_add (isR_f1 h _) (isR_f1 h _)
theorem isR_f3 {f : ℕ → EReal} (h : ∀ k, IsR (f k)) (k : ℕ) : IsR (f3 f k) := isR_add (isR_f2 h _) (isR_f2 h _)
include h3 in
theorem isR_gP (R : Fin 8192) (d : Fin 1024) : IsR (gP A3 R.val d) := by
  have hx : ∀ k, IsR (xp A3 k d) := fun k => isR_xp A3 h3 k d
  unfold gP
  split_ifs
  · exact isR_sub (isR_dv R _ 1 (by decide) (by decide) (by decide) (isR_add (hx _) (hx _))) (hx _)
  · exact isR_sub (isR_dv R _ 2 (by decide) (by decide) (by decide) (isR_add (isR_f1 hx _) (isR_f1 hx _))) (hx _)
  · exact isR_sub (isR_dv R _ 4 (by decide) (by decide) (by decide) (isR_add (isR_f2 hx _) (isR_f2 hx _))) (hx _)
  · exact isR_sub (isR_dv R _ 8 (by decide) (by decide) (by decide) (isR_add (isR_f3 hx _) (isR_f3 hx _))) (hx _)
include h3 h8 in
theorem isR_gY (R : Fin 8192) (d : Fin 1024) : IsR (gY A3 A8 R d) := isR_sum _ fun e => isR_mul (isR_gP A3 h3 R _) (h8 _)
/-- The derivative of silu, gathered or term by term, on real numbers. -/
theorem sil {x y b g s : EReal} (hx : IsR x) (hy : IsR y) (hb : IsR b) (hg : IsR g) (hs : IsR s) :
    x * y * b * s + g * (x * y * b) * (s * (1 - s)) = b * (x * y) * (s * (1 + g * (1 - s))) := by
  obtain ⟨x, rfl⟩ := hx
  obtain ⟨y, rfl⟩ := hy
  obtain ⟨b, rfl⟩ := hb
  obtain ⟨g, rfl⟩ := hg
  obtain ⟨s, rfl⟩ := hs
  have e : (1 : EReal) = ((1 : ℝ) : EReal) := rfl
  rw [e]
  simp only [← EReal.coe_mul, ← EReal.coe_add, ← EReal.coe_sub]
  congr 1
  ring
include h0 h1 h2 h5 h6 h7 in
theorem q268 (i : S8192x1024.Idx) : val_main_v268 (F := Ideal) A0 A1 A2 A5 A6 A7 i
    = gA A0 A1 (i 0) (i 1) * (gl (aU A2 (i 0) (i 1)) * gM A2 A5 A6 A7 (i 0) (i 1)) * sd (aG A2 (i 0) (i 1)) := by
  idx_vars i
  pointwise [val_main_v268, val_main_call12_v0, val_main_call12_v1, val_main_call12_v2, val_main_v266, q234_2, q234_1, q233, q249, q3]
  unfold sd
  rw [o1]
  exact sil (isR_gl (h2 _)) (isR_gM A2 A5 A6 A7 h2 h5 h6 h7 i0 i1) (isR_gA A0 A1 h0 h1 i0 i1) (h2 _) (isR_lg (h2 _))
include h0 h1 h3 h4 h8 h9 in
theorem q253 (i : S8192x1024.Idx) : val_main_v253 (F := Ideal) A0 A1 A3 A4 A8 A9 i
    = gB A0 A1 (i 0) (i 1) * (gY A3 A8 (i 0) (i 1) * A9 (ix1 (i 1))) * sd (A4 i) := by
  idx_vars i
  pointwise [val_main_v253, val_main_call11_v0, val_main_call11_v1, val_main_call11_v2, val_main_v251, val_main_v241, val_main_v240, val_main_v239, q242_2, q242_1, q238, q250, val_main_v127]
  unfold sd
  rw [o1]
  exact sil (isR_gY A3 A8 h3 h8 i0 i1) (h9 _) (isR_gB A0 A1 h0 h1 i0 i1) (h4 _) (isR_lg (h4 _))
include h0 h1 h2 h5 h7 in
theorem q301 (i : S8192x1024.Idx) : val_main_v301 (F := Ideal) A0 A1 A2 A5 A7 i
    = bN (aV A2 (i 0)) (gN A0 A1 A2 A5 (i 0)) (fun e => A7 (ix1 e)) (i 1) := by
  idx_vars i
  pointwise [val_main_v301, q208, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v219, val_main_v218, val_main_v217, val_main_v216, val_main_v215, val_main_v214, val_main_v213, val_main_v212, val_main_v211, val_main_v210, val_main_v209, val_main_v222, q189, q280, val_main_cst_53, val_main_cst_54, val_main_cst_55, val_main_cst_56, val_main_cst_57, val_main_cst_58, val_main_cst_59, val_main_cst_60, val_main_cst_61, val_main_cst_62, val_main_cst_63, val_main_cst_64, val_main_cst_65]
  simp only [Fin.sum_univ_one]
  obtain ⟨x, hx⟩ := exists_fun (fun d => gl (aV A2 i0 d)) fun d => isR_gl (h2 _)
  have hx' : ∀ d, gl (aV A2 i0 d) = (x d : EReal) := fun d => congrFun hx d
  obtain ⟨u, hu⟩ := exists_fun (fun d : Fin 1024 => gN A0 A1 A2 A5 i0 d * A7 (ix1 d)) fun d => isR_mul (isR_gN A0 A1 A2 A5 h0 h1 h2 h5 i0 d) (h7 _)
  have hu' : ∀ d : Fin 1024, gN A0 A1 A2 A5 i0 d * A7 (ix1 d) = (u d : EReal) := fun d => congrFun hu d
  obtain ⟨e, he, hl⟩ := lit_eps
  unfold bN vn rv
  congr 1
  simp only [hu', hx', lit1024, lit_mhalf, hl]
  have := rms_bwd x u 0 e he i1 _ rfl
  simp only [zero_add] at this
  exact this.symm
include h0 h1 h2 h3 h4 h5 h6 h7 h8 h9 in
theorem q305 (i : S8192x5120.Idx) : val_main_v305 (F := Ideal) A0 A1 A2 A3 A4 A5 A6 A7 A8 A9 i = Gdz A0 A1 A2 A3 A4 A5 A6 A7 A8 A9 (i 0) (i 1) := by
  idx_vars i
  unfold Gdz
  pointwise [val_main_v305, val_main_v304, q302, q301 A0 A1 A2 A5 A7 h0 h1 h2 h5 h7, q268 A0 A1 A2 A5 A6 A7 h0 h1 h2 h5 h6 h7, q253 A0 A1 A3 A4 A8 A9 h0 h1 h3 h4 h8 h9, val_main_v303, val_main_cst_66]
  by_cases c3 : i1.val - 1024 - 1024 - 1024 < 1024
  · simp only [c3, ↓reduceDIte, ↓reduceIte]
  · simp only [c3, ↓reduceDIte, ↓reduceIte]
end
theorem isR_of_bit {φ : FTy} (x a b : Ideal φ) (ha : a = (⊤ : EReal)) (hb : b = (⊥ : EReal))
    (h : IntOp.andi (FloatOps.cmpf .olt x a) (FloatOps.cmpf .ogt x b) = 1#1) : IsR x := by
  subst ha hb
  have h' : IntOp.andi (BitVec.ofBool (decide (x < (⊤ : EReal)))) (BitVec.ofBool (decide (x > (⊥ : EReal)))) = 1#1 := h
  rw [Idealize.ShloMosaic.WordCmp.andi_ofBool, ← Bool.decide_and] at h'
  by_cases hc : x < (⊤ : EReal) ∧ x > (⊥ : EReal)
  · exact isR_of_lt hc.1 hc.2
  · rw [decide_eq_false hc] at h'
    exact absurd h' (by decide)
/-- What the precondition says of the arrays it reads. -/
theorem pre (h : Cert.Pre_finite1.fn (F := Ideal) A0 A1 A2 A3 A4 A5 A6 A7 A8 A9 = fun _ => 1#1) :
    (∀ i, IsR (A0 i)) ∧ (∀ i, IsR (A1 i)) ∧ (∀ i, IsR (A2 i)) ∧ (∀ i, IsR (A3 i)) ∧ (∀ i, IsR (A4 i)) ∧ (∀ i, IsR (A5 i)) ∧ (∀ i, IsR (A6 i))
      ∧ (∀ i, IsR (A7 i)) ∧ (∀ i, IsR (A8 i)) ∧ (∀ i, IsR (A9 i)) := by
  have h := congrFun h (fun a => a.elim0)
  dsimp only [Cert.Pre_finite1.fn, Cert.Pre_finite1.fn_part1, Cert.Pre_finite1.fn_part2, Cert.Pre_finite1.fn_part3, Cert.Pre_finite1.fn_part4] at h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  refine ⟨fun i => ?_, fun i => ?_, fun i => ?_, fun i => ?_, fun i => ?_, fun i => ?_, fun i => ?_, fun i => ?_, fun i => ?_, fun i => ?_⟩
  · exact isR_of_bit _ _ _ lit_inf16 lit_ninf16 (Host.reduce_andi_all _ _ _ _ _ h0 i)
  · exact isR_of_bit _ _ _ lit_inf16 lit_ninf16 (Host.reduce_andi_all _ _ _ _ _ h1 i)
  · exact isR_of_bit _ _ _ lit_inf16 lit_ninf16 (Host.reduce_andi_all _ _ _ _ _ h2 i)
  · exact isR_of_bit _ _ _ lit_inf lit_ninf (Host.reduce_andi_all _ _ _ _ _ h3 i)
  · exact isR_of_bit _ _ _ lit_inf16 lit_ninf16 (Host.reduce_andi_all _ _ _ _ _ h4 i)
  · exact isR_of_bit _ _ _ lit_inf lit_ninf (Host.reduce_andi_all _ _ _ _ _ h5 i)
  · exact isR_of_bit _ _ _ lit_inf lit_ninf (Host.reduce_andi_all _ _ _ _ _ h6 i)
  · exact isR_of_bit _ _ _ lit_inf lit_ninf (Host.reduce_andi_all _ _ _ _ _ h7 i)
  · exact isR_of_bit _ _ _ lit_inf16 lit_ninf16 (Host.reduce_andi_all _ _ _ _ _ h8 i)
  · exact isR_of_bit _ _ _ lit_inf lit_ninf (Host.reduce_andi_all _ _ _ _ _ h9 i)
end Cert.K1r

end
-- ==== Proof.K1.lean ====
module

public import proofs.«01_k».proof.Defs
public import proofs.«01_k».proof.Proof.Gen.Kernel
public import proofs.«01_k».proof.Proof.K1i
public import proofs.«01_k».proof.Proof.K1u
public import proofs.«01_k».proof.Proof.Gen.KernelIdeal.Value
public import proofs.«01_k».proof.Proof.Gen.ReferenceIdeal.Run

@[expose] public section

noncomputable section

namespace Cert.K1

open Idealize.ShloMosaic Idealize.ShloMosaic.TcCoe Idealize.SL.Sem
open Cert.K1r

theorem frame_ri : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

open Cert.KernelIdeal in
theorem algebraic : Cert.algebraic_KernelIdeal_ReferenceIdeal := by
  intro m g m' g' hp hag
  refine ⟨_, _, _, _, _, _, _, _, (θ_run _ _ _).mono (fun _ h c => ⟨((h c).1).trans (final12 m c), ((h c).2.1).trans (final13 m c), ((h c).2.2.1).trans (final14 m c), ((h c).2.2.2.1).trans (final15 m c), ((h c).2.2.2.2.2.1).trans (final17 m c), ((h c).2.2.2.2.2.2.1).trans (final18 m c), ((h c).2.2.2.2.2.2.2.1).trans (final19 m c), ((h c).2.2.2.2.2.2.2.2.1).trans (final20 m c), (h c).2.2.2.2.2.2.2.2.2⟩)
      (Cert.KernelIdeal.Value.run_blocks (F := Ideal) m g), ?_⟩
  refine (θ_run _ _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, (h c).2.2.2.2.2.2.2.2⟩)
      (Cert.ReferenceIdeal.Value.run (F := Ideal) m' g')
  · clear h
    obtain ⟨p0, p1, p2, p3, p4, p5, p6, p7, p8, p9⟩ := pre _ _ _ _ _ _ _ _ _ _ (hp c)
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a2 : StableHlo.launchContents m' c (Proc.tc.devRef Cert.ReferenceIdeal.main_arg2) = m ((c : Thread Cert.KernelIdeal.nD Cert.KernelIdeal.τ).loc Cert.KernelIdeal.main_arg2) := (hag c).2.2.1
    have a3 : StableHlo.launchContents m' c (Proc.tc.devRef Cert.ReferenceIdeal.main_arg3) = m ((c : Thread Cert.KernelIdeal.nD Cert.KernelIdeal.τ).loc Cert.KernelIdeal.main_arg3) := (hag c).2.2.2.1
    have a4 : StableHlo.launchContents m' c (Proc.tc.devRef Cert.ReferenceIdeal.main_arg4) = m ((c : Thread Cert.KernelIdeal.nD Cert.KernelIdeal.τ).loc Cert.KernelIdeal.main_arg4) := (hag c).2.2.2.2.1
    have a5 : StableHlo.launchContents m' c (Proc.tc.devRef Cert.ReferenceIdeal.main_arg5) = m ((c : Thread Cert.KernelIdeal.nD Cert.KernelIdeal.τ).loc Cert.KernelIdeal.main_arg5) := (hag c).2.2.2.2.2.1
    have a6 : StableHlo.launchContents m' c (Proc.tc.devRef Cert.ReferenceIdeal.main_arg6) = m ((c : Thread Cert.KernelIdeal.nD Cert.KernelIdeal.τ).loc Cert.KernelIdeal.main_arg6) := (hag c).2.2.2.2.2.2.1
    have a7 : StableHlo.launchContents m' c (Proc.tc.devRef Cert.ReferenceIdeal.main_arg7) = m ((c : Thread Cert.KernelIdeal.nD Cert.KernelIdeal.τ).loc Cert.KernelIdeal.main_arg7) := (hag c).2.2.2.2.2.2.2.1
    have a8 : StableHlo.launchContents m' c (Proc.tc.devRef Cert.ReferenceIdeal.main_arg8) = m ((c : Thread Cert.KernelIdeal.nD Cert.KernelIdeal.τ).loc Cert.KernelIdeal.main_arg8) := (hag c).2.2.2.2.2.2.2.2.1
    have a9 : StableHlo.launchContents m' c (Proc.tc.devRef Cert.ReferenceIdeal.main_arg9) = m ((c : Thread Cert.KernelIdeal.nD Cert.KernelIdeal.τ).loc Cert.KernelIdeal.main_arg9) := (hag c).2.2.2.2.2.2.2.2.2
    rw [Cert.ReferenceIdeal.Read.val_main_v305_eq, a0, a1, a2, a3, a4, a5, a6, a7, a8, a9]
    exact funext fun i => q305 _ _ _ _ _ _ _ _ _ _ p0 p1 p2 p3 p4 p5 p6 p7 p8 p9 i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a4 : StableHlo.launchContents m' c (Proc.tc.devRef Cert.ReferenceIdeal.main_arg4) = m ((c : Thread Cert.KernelIdeal.nD Cert.KernelIdeal.τ).loc Cert.KernelIdeal.main_arg4) := (hag c).2.2.2.2.1
    have a8 : StableHlo.launchContents m' c (Proc.tc.devRef Cert.ReferenceIdeal.main_arg8) = m ((c : Thread Cert.KernelIdeal.nD Cert.KernelIdeal.τ).loc Cert.KernelIdeal.main_arg8) := (hag c).2.2.2.2.2.2.2.2.1
    have a9 : StableHlo.launchContents m' c (Proc.tc.devRef Cert.ReferenceIdeal.main_arg9) = m ((c : Thread Cert.KernelIdeal.nD Cert.KernelIdeal.τ).loc Cert.KernelIdeal.main_arg9) := (hag c).2.2.2.2.2.2.2.2.2
    rw [Cert.ReferenceIdeal.Read.val_main_v306_eq, a0, a1, a4, a8, a9]
    exact funext fun i => q306 _ _ _ _ _  i
  · clear h
    have a2 : StableHlo.launchContents m' c (Proc.tc.devRef Cert.ReferenceIdeal.main_arg2) = m ((c : Thread Cert.KernelIdeal.nD Cert.KernelIdeal.τ).loc Cert.KernelIdeal.main_arg2) := (hag c).2.2.1
    have a3 : StableHlo.launchContents m' c (Proc.tc.devRef Cert.ReferenceIdeal.main_arg3) = m ((c : Thread Cert.KernelIdeal.nD Cert.KernelIdeal.τ).loc Cert.KernelIdeal.main_arg3) := (hag c).2.2.2.1
    have a4 : StableHlo.launchContents m' c (Proc.tc.devRef Cert.ReferenceIdeal.main_arg4) = m ((c : Thread Cert.KernelIdeal.nD Cert.KernelIdeal.τ).loc Cert.KernelIdeal.main_arg4) := (hag c).2.2.2.2.1
    have a5 : StableHlo.launchContents m' c (Proc.tc.devRef Cert.ReferenceIdeal.main_arg5) = m ((c : Thread Cert.KernelIdeal.nD Cert.KernelIdeal.τ).loc Cert.KernelIdeal.main_arg5) := (hag c).2.2.2.2.2.1
    have a6 : StableHlo.launchContents m' c (Proc.tc.devRef Cert.ReferenceIdeal.main_arg6) = m ((c : Thread Cert.KernelIdeal.nD Cert.KernelIdeal.τ).loc Cert.KernelIdeal.main_arg6) := (hag c).2.2.2.2.2.2.1
    have a7 : StableHlo.launchContents m' c (Proc.tc.devRef Cert.ReferenceIdeal.main_arg7) = m ((c : Thread Cert.KernelIdeal.nD Cert.KernelIdeal.τ).loc Cert.KernelIdeal.main_arg7) := (hag c).2.2.2.2.2.2.2.1
    have a8 : StableHlo.launchContents m' c (Proc.tc.devRef Cert.ReferenceIdeal.main_arg8) = m ((c : Thread Cert.KernelIdeal.nD Cert.KernelIdeal.τ).loc Cert.KernelIdeal.main_arg8) := (hag c).2.2.2.2.2.2.2.2.1
    have a9 : StableHlo.launchContents m' c (Proc.tc.devRef Cert.ReferenceIdeal.main_arg9) = m ((c : Thread Cert.KernelIdeal.nD Cert.KernelIdeal.τ).loc Cert.KernelIdeal.main_arg9) := (hag c).2.2.2.2.2.2.2.2.2
    rw [Cert.ReferenceIdeal.Read.val_main_v308_eq, a2, a3, a4, a5, a6, a7, a8, a9]
    exact funext fun i => q308 _ _ _ _ _ _ _ _  i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a2 : StableHlo.launchContents m' c (Proc.tc.devRef Cert.ReferenceIdeal.main_arg2) = m ((c : Thread Cert.KernelIdeal.nD Cert.KernelIdeal.τ).loc Cert.KernelIdeal.main_arg2) := (hag c).2.2.1
    have a7 : StableHlo.launchContents m' c (Proc.tc.devRef Cert.ReferenceIdeal.main_arg7) = m ((c : Thread Cert.KernelIdeal.nD Cert.KernelIdeal.τ).loc Cert.KernelIdeal.main_arg7) := (hag c).2.2.2.2.2.2.2.1
    rw [Cert.ReferenceIdeal.Read.val_main_v277_eq, a0, a1, a2, a7]
    exact funext fun i => q277 _ _ _ _  i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a2 : StableHlo.launchContents m' c (Proc.tc.devRef Cert.ReferenceIdeal.main_arg2) = m ((c : Thread Cert.KernelIdeal.nD Cert.KernelIdeal.τ).loc Cert.KernelIdeal.main_arg2) := (hag c).2.2.1
    have a5 : StableHlo.launchContents m' c (Proc.tc.devRef Cert.ReferenceIdeal.main_arg5) = m ((c : Thread Cert.KernelIdeal.nD Cert.KernelIdeal.τ).loc Cert.KernelIdeal.main_arg5) := (hag c).2.2.2.2.2.1
    rw [Cert.ReferenceIdeal.Read.val_main_v309_eq, a0, a1, a2, a5]
    exact funext fun i => q309 _ _ _ _  i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a3 : StableHlo.launchContents m' c (Proc.tc.devRef Cert.ReferenceIdeal.main_arg3) = m ((c : Thread Cert.KernelIdeal.nD Cert.KernelIdeal.τ).loc Cert.KernelIdeal.main_arg3) := (hag c).2.2.2.1
    have a4 : StableHlo.launchContents m' c (Proc.tc.devRef Cert.ReferenceIdeal.main_arg4) = m ((c : Thread Cert.KernelIdeal.nD Cert.KernelIdeal.τ).loc Cert.KernelIdeal.main_arg4) := (hag c).2.2.2.2.1
    have a8 : StableHlo.launchContents m' c (Proc.tc.devRef Cert.ReferenceIdeal.main_arg8) = m ((c : Thread Cert.KernelIdeal.nD Cert.KernelIdeal.τ).loc Cert.KernelIdeal.main_arg8) := (hag c).2.2.2.2.2.2.2.2.1
    rw [Cert.ReferenceIdeal.Read.val_main_v310_eq, a0, a1, a3, a4, a8]
    exact funext fun i => q310 _ _ _ _ _  i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a3 : StableHlo.launchContents m' c (Proc.tc.devRef Cert.ReferenceIdeal.main_arg3) = m ((c : Thread Cert.KernelIdeal.nD Cert.KernelIdeal.τ).loc Cert.KernelIdeal.main_arg3) := (hag c).2.2.2.1
    have a4 : StableHlo.launchContents m' c (Proc.tc.devRef Cert.ReferenceIdeal.main_arg4) = m ((c : Thread Cert.KernelIdeal.nD Cert.KernelIdeal.τ).loc Cert.KernelIdeal.main_arg4) := (hag c).2.2.2.2.1
    have a9 : StableHlo.launchContents m' c (Proc.tc.devRef Cert.ReferenceIdeal.main_arg9) = m ((c : Thread Cert.KernelIdeal.nD Cert.KernelIdeal.τ).loc Cert.KernelIdeal.main_arg9) := (hag c).2.2.2.2.2.2.2.2.2
    rw [Cert.ReferenceIdeal.Read.val_main_v265_eq, a0, a1, a3, a4, a9]
    exact funext fun i => q265 _ _ _ _ _  i
  · clear h
    have a0 : StableHlo.launchContents m' c (Proc.tc.devRef Cert.ReferenceIdeal.main_arg0) = m ((c : Thread Cert.KernelIdeal.nD Cert.KernelIdeal.τ).loc Cert.KernelIdeal.main_arg0) := (hag c).1
    have a1 : StableHlo.launchContents m' c (Proc.tc.devRef Cert.ReferenceIdeal.main_arg1) = m ((c : Thread Cert.KernelIdeal.nD Cert.KernelIdeal.τ).loc Cert.KernelIdeal.main_arg1) := (hag c).2.1
    have a2 : StableHlo.launchContents m' c (Proc.tc.devRef Cert.ReferenceIdeal.main_arg2) = m ((c : Thread Cert.KernelIdeal.nD Cert.KernelIdeal.τ).loc Cert.KernelIdeal.main_arg2) := (hag c).2.2.1
    rw [Cert.ReferenceIdeal.Read.val_main_v312_eq, a0, a1, a2]
    exact funext fun i => q312 _ _ _  i

end Cert.K1

end
-- ==== Proof.K2.lean ====
module

public import proofs.«01_k».proof.Defs
public import proofs.«01_k».proof.Proof.Gen.Pre_finite2
public import proofs.«01_k».proof.Proof.Gen.Kernel2Ideal.Value
public import proofs.«01_k».proof.Proof.Gen.Reference2Ideal.Run
public import proofs.«01_k».proof.Proof.Gen.Reference2Ideal.Read
public import proofs.«01_k».proof.Proof.RealLib
public import Idealize.ShloMosaic.Lib.Pointwise
public import Idealize.ShloMosaic.Lib.ReduceAll
public import Idealize.ShloMosaic.Lib.Pipeline.ValueKit

@[expose] public section

noncomputable section

namespace Cert.K2

open Cert.Kernel2Ideal Cert.Kernel2Ideal.Gen Idealize.ShloMosaic Idealize.ShloMosaic.TcCoe Idealize.SL.Sem
open Idealize.ShloMosaic.Pipeline (Dat)
open Cert.RealLib

variable (m : (ℓ : Loc nD τ sig) → Buf (Elt Ideal) ℓ)

theorem isR_of_bit {φ : FTy} (x a b : Ideal φ) (ha : a = (⊤ : EReal)) (hb : b = (⊥ : EReal))
    (h : IntOp.andi (FloatOps.cmpf .olt x a) (FloatOps.cmpf .ogt x b) = 1#1) : IsR x := by
  subst ha hb
  have h' : IntOp.andi (BitVec.ofBool (decide (x < (⊤ : EReal)))) (BitVec.ofBool (decide (x > (⊥ : EReal)))) = 1#1 := h
  rw [Idealize.ShloMosaic.WordCmp.andi_ofBool, ← Bool.decide_and] at h'
  by_cases hc : x < (⊤ : EReal) ∧ x > (⊥ : EReal)
  · exact isR_of_lt hc.1 hc.2
  · rw [decide_eq_false hc] at h'
    exact absurd h' (by decide)

/-- What the precondition says of the four arrays it reads. -/
theorem pre (A0 : FVec Ideal S8192x5120 .bf16) (A1 : FVec Ideal S1024x5120 .bf16) (A2 : FVec Ideal S8192x1024 .f32)
    (A3 : FVec Ideal S1024 .f32) (A4 : FVec Ideal S8192x1024 .f32)
    (h : Cert.Pre_finite2.fn (F := Ideal) A0 A1 A2 A3 A4 = fun _ => 1#1) :
    (∀ i, IsR (A0 i)) ∧ (∀ i, IsR (A1 i)) ∧ (∀ i, IsR (A2 i)) ∧ (∀ i, IsR (A3 i)) := by
  have h := congrFun h (fun a => a.elim0)
  dsimp only [Cert.Pre_finite2.fn, Cert.Pre_finite2.fn_part1] at h
  obtain ⟨h, h3⟩ := IntOp.andi_eq_one.mp h
  obtain ⟨h, h2⟩ := IntOp.andi_eq_one.mp h
  obtain ⟨h0, h1⟩ := IntOp.andi_eq_one.mp h
  refine ⟨fun i => ?_, fun i => ?_, fun i => ?_, fun i => ?_⟩
  · exact isR_of_bit _ _ _ lit_inf16 lit_ninf16 (Host.reduce_andi_all _ _ _ _ _ h0 i)
  · exact isR_of_bit _ _ _ lit_inf16 lit_ninf16 (Host.reduce_andi_all _ _ _ _ _ h1 i)
  · exact isR_of_bit _ _ _ lit_inf lit_ninf (Host.reduce_andi_all _ _ _ _ _ h2 i)
  · exact isR_of_bit _ _ _ lit_inf lit_ninf (Host.reduce_andi_all _ _ _ _ _ h3 i)

/-- The gradient of the normalised rows: the product with the weight's rows. -/
def dh (A0 : FVec Ideal S8192x5120 .bf16) (A1 : FVec Ideal S1024x5120 .bf16) (R : Fin 8192) (d : Fin 1024) : EReal :=
  ∑ k : Fin 5120, A0 (ix2 R k) * A1 (ix2 d k)
/-- The mean square of a row, plus the small constant. -/
def ms (A2 : FVec Ideal S8192x1024 .f32) (R : Fin 8192) : EReal :=
  Ideal.div (∑ k : Fin 1024, A2 (ix2 R k) * A2 (ix2 R k)) (Ideal.ofBits .f32 0x44800000#32) + Ideal.ofBits .f32 0x358637BD#32
/-- The gradient with respect to the input row. -/
def Gdx (A0 : FVec Ideal S8192x5120 .bf16) (A1 : FVec Ideal S1024x5120 .bf16) (A2 : FVec Ideal S8192x1024 .f32)
    (A3 : FVec Ideal S1024 .f32) (A4 : FVec Ideal S8192x1024 .f32) (R : Fin 8192) (d : Fin 1024) : EReal :=
  A4 (ix2 R d) + Ideal.rsqrt (ms A2 R) * (dh A0 A1 R d * A3 (ix1 d) - A2 (ix2 R d) * Ideal.rsqrt (ms A2 R)
    * Ideal.div (∑ k : Fin 1024, dh A0 A1 R k * A3 (ix1 k) * (A2 (ix2 R k) * Ideal.rsqrt (ms A2 R))) (Ideal.ofBits .f32 0x44800000#32))
/-- The gradient with respect to the norm's weight. -/
def Gdn (A0 : FVec Ideal S8192x5120 .bf16) (A1 : FVec Ideal S1024x5120 .bf16) (A2 : FVec Ideal S8192x1024 .f32) (d : Fin 1024) : EReal :=
  ∑ R : Fin 8192, dh A0 A1 R d * (A2 (ix2 R d) * Ideal.rsqrt (ms A2 R))

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

theorem out5 (c : Dev nD) (t : Fin cfg0.N) : (outsAt0 m c t.val t.isLt).1
    = k0_pay1 (k0_pay4 (iblk m c 2 t)) (k0_pay5 (iblk m c 2 t)) (k0_pay7 (iblk m c 0 t) (iblk m c 1 t) (iblk m c 3 t))
      (iblk m c 4 t) (k0_pay8 (iblk m c 0 t) (iblk m c 1 t) (iblk m c 2 t) (iblk m c 3 t)) := by
  by_cases h : t.val % 16 = 0
  · rw [outsAt0_A m c t h]; frame_out
  · rw [outsAt0_B m c t h]; frame_out

theorem final5 (c : Dev nD) : (dats m 0 c).arrAt 5 cfg0.N = fun i : S8192x1024.Idx =>
    Gdx (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5, out5 m c t]
  pointwise [k0_pay1, k0_pay4, k0_pay5, k0_pay7, k0_pay8, k0_pay3, Gdx, dh, ms]
  blk_point [iblk, V, e0, e1, e2, e3, e4, e5]

theorem hdn (x0 : Vec Ideal S512x5120 .bf16) (x1 : Vec Ideal S1024x5120 .bf16) (x2 : Vec Ideal S512x1024 .f32)
    (acc : Vec Ideal S1x1024 .f32) (j : S1x1024.Idx) :
    k0_pay6 x0 x1 x2 acc j = acc j + ∑ r : Fin 512, (∑ k : Fin 5120, x0 (ix2 r k) * x1 (ix2 (j 1) k)) *
      (x2 (ix2 r (j 1)) * Ideal.rsqrt (Ideal.div (∑ k : Fin 1024, x2 (ix2 r k) * x2 (ix2 r k)) (Ideal.ofBits .f32 0x44800000#32)
        + Ideal.ofBits .f32 0x358637BD#32)) := by
  idx_vars j
  pointwise [k0_pay6, k0_pay4, k0_pay5, k0_pay3]
  done

theorem hzero (j : S1x1024.Idx) : (k0_pay2 (F := Ideal)) j = 0 := by
  idx_vars j
  pointwise [k0_pay2]
  done

/-- The blocks of a grid point the norm's gradient reads. -/
abbrev za (c : Dev nD) (t : Fin cfg0.N) : Vec Ideal S512x5120 .bf16 := iblk m c 0 t
abbrev wa (c : Dev nD) (t : Fin cfg0.N) : Vec Ideal S1024x5120 .bf16 := iblk m c 1 t
abbrev xa (c : Dev nD) (t : Fin cfg0.N) : Vec Ideal S512x1024 .f32 := iblk m c 2 t

/-- The part a grid point adds to the norm's gradient. -/
def term (c : Dev nD) (t : Fin cfg0.N) (j : S1x1024.Idx) : EReal :=
  ∑ r : Fin 512, (∑ k : Fin 5120, za m c t (ix2 r k) * wa m c t (ix2 (j 1) k)) *
      (xa m c t (ix2 r (j 1)) * Ideal.rsqrt (Ideal.div (∑ k : Fin 1024, xa m c t (ix2 r k) * xa m c t (ix2 r k)) (Ideal.ofBits .f32 0x44800000#32)
        + Ideal.ofBits .f32 0x358637BD#32))

theorem out6 (c : Dev nD) (t : Fin cfg0.N) (h7 : t.val % 16 = 15) (j : S1x1024.Idx) :
    (outsAt0 m c t.val t.isLt).2 j
      = ∑ s : Fin 16, term m c ⟨16 * (t.val / 16) + s.val, Pipeline.run_point_lt_of_flush t h7 s⟩ j := by
  have h := Pipeline.eq_sum_fin_of_reset_step_apply_of_flush (fun n h => (outsAt0 m c n h).2) 16 (fun _ => 0) (term m c)
    (fun t h0 j => by
      show (outsAt0 m c t.val t.isLt).2 j = _
      rw [outsAt0_A m c t h0]; frame_out; rw [hdn, hzero]; rfl)
    (fun t h0 j => by
      show (outsAt0 m c t.val t.isLt).2 j = _
      rw [outsAt0_B m c t h0]; frame_out; rw [hdn]; rfl) t h7 j
  rw [zero_add] at h
  exact h

theorem final6 (c : Dev nD) : (dats m 0 c).arrAt 6 cfg0.N = fun i : S1x1024.Idx =>
    Gdn (m ((c : Thread nD τ).loc main_arg0)) (m ((c : Thread nD τ).loc main_arg1)) (m ((c : Thread nD τ).loc main_arg2)) (i 1) := by
  refine (dats m 0 c).arrAt_eq_of_covers 6 _ (by decide +kernel) fun t hf y => ?_
  have h7 := (flush0_6 t).mp hf
  have h1 : t.val / 16 = 0 := by have := t.isLt; have : cfg0.N = 16 := N_0; omega
  blk_simp
  rw [after0_6, out6 m c t h7]
  unfold Gdn term dh ms
  refine Fin.sum_mul_add_congr fun s k hl => ?_
  blk_point [iblk, V, e0, e1, e2, e6, h1, e0 ⟨_, Pipeline.run_point_lt_of_flush t h7 s⟩, e1 ⟨_, Pipeline.run_point_lt_of_flush t h7 s⟩, e2 ⟨_, Pipeline.run_point_lt_of_flush t h7 s⟩]

open Cert.Reference2Ideal.Read

/-- The reference's mean square. -/
theorem r7 (A2 : FVec Ideal S8192x1024 .f32) (i : Cert.Reference2Ideal.S8192x1.Idx) :
    val_main_v7 (F := Ideal) A2 i = ms A2 (i 0) := by
  idx_vars i
  unfold ms
  pointwise [val_main_v7, val_main_v5, val_main_v3, val_main_v2, val_main_v1, val_main_v4, val_main_v6, val_main_cst, val_main_cst_0, val_main_cst_1]
  done

theorem r19 (A0 : FVec Ideal S8192x5120 .bf16) (A1 : FVec Ideal S1024x5120 .bf16) (i : S8192x1024.Idx) :
    val_main_v19 (F := Ideal) A0 A1 i = dh A0 A1 (i 0) (i 1) := by
  idx_vars i
  unfold dh
  pointwise [val_main_v19, val_main_v18, val_main_v0]
  done

theorem r41 (A0 : FVec Ideal S8192x5120 .bf16) (A1 : FVec Ideal S1024x5120 .bf16) (A2 : FVec Ideal S8192x1024 .f32) (i : S1x1024.Idx) :
    val_main_v41 (F := Ideal) A0 A1 A2 i = Gdn A0 A1 A2 (i 1) := by
  idx_vars i
  unfold Gdn
  pointwise [val_main_v41, val_main_v25, val_main_v22, val_main_v21, val_main_v20, val_main_v13, val_main_v12, val_main_v8, val_main_cst_3, val_main_cst_4, r7, r19]
  refine (Fin.sum_univ_one _).trans (Finset.sum_congr rfl fun R _ => ?_)
  exact mul_comm _ _

theorem r40 (A0 : FVec Ideal S8192x5120 .bf16) (A1 : FVec Ideal S1024x5120 .bf16) (A2 : FVec Ideal S8192x1024 .f32)
    (A3 : FVec Ideal S1024 .f32) (A4 : FVec Ideal S8192x1024 .f32)
    (h0 : ∀ i, IsR (A0 i)) (h1 : ∀ i, IsR (A1 i)) (h2 : ∀ i, IsR (A2 i)) (h3 : ∀ i, IsR (A3 i)) (i : S8192x1024.Idx) :
    val_main_v40 (F := Ideal) A0 A1 A2 A3 A4 i = Gdx A0 A1 A2 A3 A4 (i 0) (i 1) := by
  idx_vars i
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v14, val_main_v11, val_main_v10, val_main_v9,
    val_main_v8, val_main_cst_2, val_main_cst_5, val_main_cst_6, val_main_cst_7, r7, r19]
  simp only [Fin.sum_univ_one]
  obtain ⟨x, hx⟩ := exists_fun A2 h2
  obtain ⟨u, hu⟩ := exists_fun (fun d : Fin 1024 => dh A0 A1 i0 d * A3 (ix1 d)) fun d => by
    obtain ⟨a, ha⟩ := exists_fun A0 h0
    obtain ⟨b, hb⟩ := exists_fun A1 h1
    obtain ⟨g, hg⟩ := exists_fun A3 h3
    refine ⟨(∑ k : Fin 5120, a (ix2 i0 k) * b (ix2 d k)) * g (ix1 d), ?_⟩
    simp only [dh, ha, hb, hg, ← EReal.coe_mul, sum_coe]
  obtain ⟨e, he, hl⟩ := lit_eps
  have hu' : ∀ d : Fin 1024, dh A0 A1 i0 d * A3 (ix1 d) = (u d : EReal) := fun d => congrFun hu d
  unfold Gdx
  simp only [hu', hx, lit1024, lit_mhalf]
  exact (rms_bwd (fun k => x (ix2 i0 k)) u (A4 (ix2 i0 i1)) e he i1 _ (by simp only [ms, hl, lit1024])).symm

theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

open Cert.Kernel2Ideal Cert.Kernel2Ideal.Gen in
theorem algebraic : Cert.algebraic_Kernel2Ideal_Reference2Ideal := by
  intro m g m' g' hp hag
  refine ⟨fun c => fun i : S8192x1024.Idx =>
    Gdx (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1),
    fun c => fun i : S1x1024.Idx =>
    Gdn (m ((c : Thread nD τ).loc main_arg0)) (m ((c : Thread nD τ).loc main_arg1)) (m ((c : Thread nD τ).loc main_arg2)) (i 1), ?_, ?_⟩
  · exact (θ_run _ _ _).mono (fun _ h c => ⟨(h c).1.trans (final5 m c), (h c).2.1.trans (final6 m c), (h c).2.2⟩)
      (Cert.Kernel2Ideal.Value.run_blocks (F := Ideal) m g)
  · refine (θ_run _ _ _).mono (fun _ h c => ⟨(h c).1.trans ?_, (h c).2.1.trans ?_, (h c).2.2⟩)
      (Cert.Reference2Ideal.Value.run (F := Ideal) m' g')
    · obtain ⟨p0, p1, p2, p3⟩ := pre _ _ _ _ _ (hp c)
      rw [Cert.Reference2Ideal.Read.val_main_v40_eq, (hag c).1, (hag c).2.1, (hag c).2.2.1, (hag c).2.2.2.1, (hag c).2.2.2.2]
      exact funext fun i => r40 _ _ _ _ _ p0 p1 p2 p3 i
    · rw [Cert.Reference2Ideal.Read.val_main_v41_eq, (hag c).1, (hag c).2.1, (hag c).2.2.1]
      exact funext fun i => r41 _ _ _ i

end Cert.K2

end
-- ==== Proof.K3.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

noncomputable section

namespace Cert.K3

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem hpay (acc : Vec Ideal S1024x1280 .f32) (x0 : Vec Ideal S1024x1024 .bf16) (x1 : Vec Ideal S1024x1280 .bf16)
    (j : S1024x1280.Idx) :
    k0_pay2 acc x0 x1 j = acc j + ∑ k : Fin 1024, x0 (ix2 (j 0) k) * x1 (ix2 k (j 1)) := by
  idx_vars j
  pointwise [k0_pay2]
  done

theorem hzero (j : S1024x1280.Idx) : (k0_pay1 (F := Ideal)) j = 0 := by
  idx_vars j
  pointwise [k0_pay1]
  done

/-- The two input blocks of a grid point. -/
abbrev xa (c : Dev nD) (t : Fin cfg0.N) : Vec Ideal S1024x1024 .bf16 := iblk m c 0 t
abbrev xb (c : Dev nD) (t : Fin cfg0.N) : Vec Ideal S1024x1280 .bf16 := iblk m c 1 t

theorem read_scr (v : Vec Ideal S1024x1280 .f32) :
    View.read (Elt Ideal) (View.whole cc0_scratch0) ((Memref.isWhole_whole cc0_scratch0).unread v) = v :=
  (Memref.isWhole_whole cc0_scratch0).read_unread v

theorem scr (c : Dev nD) (t : Fin cfg0.N) (h7 : t.val % 8 = 7) (j : S1024x1280.Idx) :
    (outsAt0 m c t.val t.isLt).2.2 j
      = ∑ s : Fin 8, ∑ k : Fin 1024, xa m c ⟨8 * (t.val / 8) + s.val, Pipeline.run_point_lt_of_flush t h7 s⟩ (ix2 (j 0) k)
          * xb m c ⟨8 * (t.val / 8) + s.val, Pipeline.run_point_lt_of_flush t h7 s⟩ (ix2 k (j 1)) := by
  have h := Pipeline.eq_sum_fin_of_reset_step_apply_of_flush (fun n h => (outsAt0 m c n h).2.2) 8 (fun _ => 0)
    (fun t j => ∑ k : Fin 1024, xa m c t (ix2 (j 0) k) * xb m c t (ix2 k (j 1)))
    (fun t h0 j => by
      show (outsAt0 m c t.val t.isLt).2.2 j = _
      rw [outsAt0_A m c t h0 (by omega)]; frame_out; rw [hpay, hzero])
    (fun t h0 j => by
      show (outsAt0 m c t.val t.isLt).2.2 j = _
      by_cases h1 : t.val % 8 = 7
      · rw [outsAt0_C m c t h0 h1]; frame_out; rw [hpay]
        rw [read_scr]
      · rw [outsAt0_B m c t h0 h1]; frame_out; rw [hpay]
        rw [read_scr]) t h7 j
  rw [zero_add] at h
  exact h

theorem hp4 (v : Vec Ideal S1024x1280 .f32) (x : S1x1024x640.Idx) (i : S1024x1280.Idx)
    (h0 : (i 0).val = (x 1).val) (h1 : (i 1).val = (x 2).val) : k0_pay4 v x = v i := by
  idx_vars x
  idx_vars i
  pointwise [k0_pay4, k0_pay3]
  congr 1
  blk_ext

theorem hp7 (v : Vec Ideal S1024x1280 .f32) (x : S1x1024x640.Idx) (i : S1024x1280.Idx)
    (h0 : (i 0).val = (x 1).val) (h1 : (i 1).val = (x 2).val + 640) : k0_pay7 v x = v i := by
  idx_vars x
  idx_vars i
  pointwise [k0_pay7, k0_pay6]
  congr 1
  blk_ext

theorem hp5 (v : Vec Ideal S1024x1280 .f32) (x : S1x1024x640.Idx) (i : S1024x1280.Idx)
    (h0 : (i 0).val = (x 1).val) (h1 : (i 1).val = (x 2).val) : k0_pay5 v x = v i := by
  idx_vars x
  idx_vars i
  pointwise [k0_pay5, k0_pay3]
  congr 1
  blk_ext

theorem hp8 (v : Vec Ideal S1024x1280 .f32) (x : S1x1024x640.Idx) (i : S1024x1280.Idx)
    (h0 : (i 0).val = (x 1).val) (h1 : (i 1).val = (x 2).val + 640) : k0_pay8 v x = v i := by
  idx_vars x
  idx_vars i
  pointwise [k0_pay8, k0_pay6]
  congr 1
  blk_ext

/-- The column of the accumulator an element of the output block comes from. -/
def col (y : S2x1024x640.Idx) : S1024x1280.Idx :=
  ix2 (y 1) ⟨640 * (y 0).val + (y 2).val, by idx_bounds y; omega⟩

theorem col0 (y : S2x1024x640.Idx) : (col y 0).val = (y 1).val := rfl
theorem col1 (y : S2x1024x640.Idx) : (col y 1).val = 640 * (y 0).val + (y 2).val := rfl

theorem outC2 (c : Dev nD) (t : Fin cfg0.N) (h7 : t.val % 8 = 7) (y : S2x1024x640.Idx) :
    (outsAt0 m c t.val t.isLt).1 y = (outsAt0 m c t.val t.isLt).2.2 (col y) := by
  rw [outsAt0_C m c t (by omega) h7]; frame_out
  canon_tiles x h
  · exact hp7 _ x _ (show (y 1).val = _ from h1) (show 640 * (y 0).val + (y 2).val = _ by omega)
  · exact hp4 _ x _ (show (y 1).val = _ from h1) (show 640 * (y 0).val + (y 2).val = _ by omega)

theorem outC3 (c : Dev nD) (t : Fin cfg0.N) (h7 : t.val % 8 = 7) (y : S2x1024x640.Idx) :
    (outsAt0 m c t.val t.isLt).2.1 y = (outsAt0 m c t.val t.isLt).2.2 (col y) := by
  rw [outsAt0_C m c t (by omega) h7]; frame_out
  canon_tiles x h
  · exact hp8 _ x _ (show (y 1).val = _ from h1) (show 640 * (y 0).val + (y 2).val = _ by omega)
  · exact hp5 _ x _ (show (y 1).val = _ from h1) (show 640 * (y 0).val + (y 2).val = _ by omega)

/-- The product of the two argument arrays, in blocks of columns. -/
def G (A : Vec Ideal S1024x8192 .bf16) (B : Vec Ideal S8192x5120 .bf16) (i : S8x1024x640.Idx) : EReal :=
  ∑ l : Fin 8192, A (ix2 (i 1) l) * B (ix2 l ⟨640 * (i 0).val + (i 2).val, by idx_bounds i; omega⟩)

theorem e0 : ∀ t : Fin cfg0.N, win0_0.index t = ![0, t.val % 8] := (by decide +kernel : ∀ t : Fin grid0.N, _)
theorem e1 : ∀ t : Fin cfg0.N, win0_1.index t = ![t.val % 8, t.val / 8] := (by decide +kernel : ∀ t : Fin grid0.N, _)
theorem e2 : ∀ t : Fin cfg0.N, win0_2.index t = ![t.val / 8, 0, 0] := (by decide +kernel : ∀ t : Fin grid0.N, _)
theorem e3 : ∀ t : Fin cfg0.N, win0_3.index t = ![t.val / 8, 0, 0] := (by decide +kernel : ∀ t : Fin grid0.N, _)

theorem final2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outC2 m c t h7, scr m c t h7]
  unfold G
  refine Fin.sum_mul_add_congr fun s k hl => ?_
  blk_point [iblk, V, col0, col1, e0, e1, e2, e0 ⟨_, Pipeline.run_point_lt_of_flush t h7 s⟩, e1 ⟨_, Pipeline.run_point_lt_of_flush t h7 s⟩]

theorem final3 (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  have h7 := (flush0_3 t).mp hf
  blk_simp
  rw [after0_3, outC3 m c t h7, scr m c t h7]
  unfold G
  refine Fin.sum_mul_add_congr fun s k hl => ?_
  blk_point [iblk, V, col0, col1, e0, e1, e3, e0 ⟨_, Pipeline.run_point_lt_of_flush t h7 s⟩, e1 ⟨_, Pipeline.run_point_lt_of_flush t h7 s⟩]

open Cert.Reference3Ideal.Read in
/-- The reference's product, at an index. -/
theorem ref_eq (A : Vec Ideal S1024x8192 .bf16) (B : Vec Ideal S8192x5120 .bf16) (i : S8x1024x640.Idx) :
    val_main_v8 (F := Ideal) A B i = G A B i := by
  rw [val_main_v8_apply, val_main_v7_apply, val_main_v6_apply, val_main_v5_apply]
  unfold G
  refine Finset.sum_congr rfl fun k _ => ?_
  rw [val_main_v4_apply, val_main_v2_apply, val_main_v0_apply]
  show B _ * A _ = _
  rw [mul_comm]
  congr 1 <;> congr 1 <;> blk_ext

theorem frame_ri : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem algebraic : Cert.algebraic_Kernel3Ideal_Reference3Ideal := by
  intro m g m' g' _ hag
  refine ⟨fun c => G (m ((c : Thread nD τ).loc main_arg0)) (m ((c : Thread nD τ).loc main_arg1)),
    fun c => G (m ((c : Thread nD τ).loc main_arg0)) (m ((c : Thread nD τ).loc main_arg1)), ?_, ?_⟩
  · exact (θ_run _ _ _).mono (fun _ h c => ⟨(h c).1.trans (final2 m c), (h c).2.1.trans (final3 m c), (h c).2.2⟩)
      (Cert.Kernel3Ideal.Value.run_blocks (F := Ideal) m g)
  · refine (θ_run _ _ _).mono (fun _ h c => ⟨(h c).1.trans ?_, (h c).2.1.trans ?_, (h c).2.2⟩)
      (Cert.Reference3Ideal.Value.run (F := Ideal) m' g')
    · rw [Cert.Reference3Ideal.Read.val_main_v8_eq, (hag c).1, (hag c).2]
      exact funext fun i => ref_eq _ _ i
    · rw [Cert.Reference3Ideal.Read.val_main_v9_eq, (hag c).1, (hag c).2]
      exact funext fun i => (Cert.Reference3Ideal.Read.val_main_v9_apply _ _ i).trans (ref_eq _ _ i)

end Cert.K3

end
-- ==== Proof.K4.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

@[expose] public section

noncomputable section

namespace Cert.K4

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem hpay (acc : Vec Ideal S2048x1024 .f32) (x0 : Vec Ideal S2048x1024 .bf16) (x1 : Vec Ideal S1024x1024 .bf16)
    (j : S2048x1024.Idx) :
    k0_pay2 acc x0 x1 j = acc j + ∑ k : Fin 1024, x0 (ix2 (j 0) k) * x1 (ix2 k (j 1)) := by
  idx_vars j
  pointwise [k0_pay2]
  done

theorem hzero (j : S2048x1024.Idx) : (k0_pay1 (F := Ideal)) j = 0 := by
  idx_vars j
  pointwise [k0_pay1]
  done

/-- The two input blocks of a grid point. -/
abbrev xa (c : Dev nD) (t : Fin cfg0.N) : Vec Ideal S2048x1024 .bf16 := iblk m c 0 t
abbrev xb (c : Dev nD) (t : Fin cfg0.N) : Vec Ideal S1024x1024 .bf16 := iblk m c 1 t

theorem read_scr (v : Vec Ideal S2048x1024 .f32) :
    View.read (Elt Ideal) (View.whole cc0_scratch0) ((Memref.isWhole_whole cc0_scratch0).unread v) = v :=
  (Memref.isWhole_whole cc0_scratch0).read_unread v

theorem scr (c : Dev nD) (t : Fin cfg0.N) (h7 : t.val % 8 = 7) (j : S2048x1024.Idx) :
    (outsAt0 m c t.val t.isLt).2.2 j
      = ∑ s : Fin 8, ∑ k : Fin 1024, xa m c ⟨8 * (t.val / 8) + s.val, Pipeline.run_point_lt_of_flush t h7 s⟩ (ix2 (j 0) k)
          * xb m c ⟨8 * (t.val / 8) + s.val, Pipeline.run_point_lt_of_flush t h7 s⟩ (ix2 k (j 1)) := by
  have h := Pipeline.eq_sum_fin_of_reset_step_apply_of_flush (fun n h => (outsAt0 m c n h).2.2) 8 (fun _ => 0)
    (fun t j => ∑ k : Fin 1024, xa m c t (ix2 (j 0) k) * xb m c t (ix2 k (j 1)))
    (fun t h0 j => by
      show (outsAt0 m c t.val t.isLt).2.2 j = _
      rw [outsAt0_A m c t h0 (by omega)]; frame_out; rw [hpay, hzero])
    (fun t h0 j => by
      show (outsAt0 m c t.val t.isLt).2.2 j = _
      by_cases h1 : t.val % 8 = 7
      · rw [outsAt0_C m c t h0 h1]; frame_out; rw [hpay]
        rw [read_scr]
      · rw [outsAt0_B m c t h0 h1]; frame_out; rw [hpay]
        rw [read_scr]) t h7 j
  rw [zero_add] at h
  exact h

theorem outC2 (c : Dev nD) (t : Fin cfg0.N) (h7 : t.val % 8 = 7) (y : S2048x1024.Idx) :
    (outsAt0 m c t.val t.isLt).1 y = (outsAt0 m c t.val t.isLt).2.2 y := by
  rw [outsAt0_C m c t (by omega) h7]; frame_out

theorem outC3 (c : Dev nD) (t : Fin cfg0.N) (h7 : t.val % 8 = 7) (y : S2048x1024.Idx) :
    (outsAt0 m c t.val t.isLt).2.1 y = (outsAt0 m c t.val t.isLt).2.2 y := by
  rw [outsAt0_C m c t (by omega) h7]; frame_out
  idx_vars y
  pointwise [k0_pay3]
  done

/-- The product of the two argument arrays. -/
def G (A : Vec Ideal S2048x8192 .bf16) (B : Vec Ideal S8192x1024 .bf16) (i : S2048x1024.Idx) : EReal :=
  ∑ l : Fin 8192, A (ix2 (i 0) l) * B (ix2 l (i 1))

theorem e0 : ∀ t : Fin cfg0.N, win0_0.index t = ![0, t.val % 8] := (by decide +kernel : ∀ t : Fin grid0.N, _)
theorem e1 : ∀ t : Fin cfg0.N, win0_1.index t = ![t.val % 8, t.val / 8] := (by decide +kernel : ∀ t : Fin grid0.N, _)
theorem e2 : ∀ t : Fin cfg0.N, win0_2.index t = ![0, t.val / 8] := (by decide +kernel : ∀ t : Fin grid0.N, _)
theorem e3 : ∀ t : Fin cfg0.N, win0_3.index t = ![0, t.val / 8] := (by decide +kernel : ∀ t : Fin grid0.N, _)

theorem final2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outC2 m c t h7, scr m c t h7]
  unfold G
  refine Fin.sum_mul_add_congr fun s k hl => ?_
  blk_point [iblk, V, e0, e1, e2, e0 ⟨_, Pipeline.run_point_lt_of_flush t h7 s⟩, e1 ⟨_, Pipeline.run_point_lt_of_flush t h7 s⟩]

theorem final3 (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  have h7 := (flush0_3 t).mp hf
  blk_simp
  rw [after0_3, outC3 m c t h7, scr m c t h7]
  unfold G
  refine Fin.sum_mul_add_congr fun s k hl => ?_
  blk_point [iblk, V, e0, e1, e3, e0 ⟨_, Pipeline.run_point_lt_of_flush t h7 s⟩, e1 ⟨_, Pipeline.run_point_lt_of_flush t h7 s⟩]

open Cert.Reference4Ideal.Read in
/-- The reference's product, at an index. -/
theorem ref_eq (A : Vec Ideal S2048x8192 .bf16) (B : Vec Ideal S8192x1024 .bf16) (i : S2048x1024.Idx) :
    val_main_v6 (F := Ideal) A B i = G A B i := by
  idx_vars i
  unfold G
  pointwise [val_main_v6, val_main_v5, val_main_v4, val_main_v1, val_main_v0]
  exact Finset.sum_congr rfl fun k _ => mul_comm _ _

theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem algebraic : Cert.algebraic_Kernel4Ideal_Reference4Ideal := by
  intro m g m' g' _ hag
  refine ⟨fun c => G (m ((c : Thread nD τ).loc main_arg0)) (m ((c : Thread nD τ).loc main_arg1)),
    fun c => G (m ((c : Thread nD τ).loc main_arg0)) (m ((c : Thread nD τ).loc main_arg1)), ?_, ?_⟩
  · exact (θ_run _ _ _).mono (fun _ h c => ⟨(h c).1.trans (final2 m c), (h c).2.1.trans (final3 m c), (h c).2.2⟩)
      (Cert.Kernel4Ideal.Value.run_blocks (F := Ideal) m g)
  · refine (θ_run _ _ _).mono (fun _ h c => ⟨(h c).1.trans ?_, (h c).2.1.trans ?_, (h c).2.2⟩)
      (Cert.Reference4Ideal.Value.run (F := Ideal) m' g')
    · rw [Cert.Reference4Ideal.Read.val_main_v6_eq, (hag c).1, (hag c).2]
      exact funext fun i => ref_eq _ _ i
    · rw [Cert.Reference4Ideal.Read.val_main_v7_eq, (hag c).1, (hag c).2]
      exact funext fun i => (Cert.Reference4Ideal.Read.val_main_v7_apply _ _ i).trans (ref_eq _ _ i)

end Cert.K4

end
-- ==== Proof.K5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section

noncomputable section

namespace Cert.K5

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem hpay (acc : Vec Ideal S1024x1280 .f32) (x0 : Vec Ideal S1024x1024 .bf16) (x1 : Vec Ideal S1280x1024 .bf16)
    (j : S1024x1280.Idx) :
    k0_pay2 acc x0 x1 j = acc j + ∑ k : Fin 1024, x0 (ix2 (j 0) k) * x1 (ix2 (j 1) k) := by
  idx_vars j
  pointwise [k0_pay2]
  done

theorem hzero (j : S1024x1280.Idx) : (k0_pay1 (F := Ideal)) j = 0 := by
  idx_vars j
  pointwise [k0_pay1]
  done

/-- The two input blocks of a grid point. -/
abbrev xa (c : Dev nD) (t : Fin cfg0.N) : Vec Ideal S1024x1024 .bf16 := iblk m c 0 t
abbrev xb (c : Dev nD) (t : Fin cfg0.N) : Vec Ideal S1280x1024 .bf16 := iblk m c 1 t

theorem read_scr (v : Vec Ideal S1024x1280 .f32) :
    View.read (Elt Ideal) (View.whole cc0_scratch0) ((Memref.isWhole_whole cc0_scratch0).unread v) = v :=
  (Memref.isWhole_whole cc0_scratch0).read_unread v

theorem scr (c : Dev nD) (t : Fin cfg0.N) (h7 : t.val % 8 = 7) (j : S1024x1280.Idx) :
    (outsAt0 m c t.val t.isLt).2.2 j
      = ∑ s : Fin 8, ∑ k : Fin 1024, xa m c ⟨8 * (t.val / 8) + s.val, Pipeline.run_point_lt_of_flush t h7 s⟩ (ix2 (j 0) k)
          * xb m c ⟨8 * (t.val / 8) + s.val, Pipeline.run_point_lt_of_flush t h7 s⟩ (ix2 (j 1) k) := by
  have h := Pipeline.eq_sum_fin_of_reset_step_apply_of_flush (fun n h => (outsAt0 m c n h).2.2) 8 (fun _ => 0)
    (fun t j => ∑ k : Fin 1024, xa m c t (ix2 (j 0) k) * xb m c t (ix2 (j 1) k))
    (fun t h0 j => by
      show (outsAt0 m c t.val t.isLt).2.2 j = _
      rw [outsAt0_A m c t h0 (by omega)]; frame_out; rw [hpay, hzero])
    (fun t h0 j => by
      show (outsAt0 m c t.val t.isLt).2.2 j = _
      by_cases h1 : t.val % 8 = 7
      · rw [outsAt0_C m c t h0 h1]; frame_out; rw [hpay]
        rw [read_scr]
      · rw [outsAt0_B m c t h0 h1]; frame_out; rw [hpay]
        rw [read_scr]) t h7 j
  rw [zero_add] at h
  exact h

theorem hf0 (v : Vec Ideal S1024x1280 .f32) (x : S1x1024x320.Idx) (i : S1024x1280.Idx)
    (h0 : (i 0).val = (x 1).val) (h1 : (i 1).val = (x 2).val) : k0_pay5 v x = v i := by
  idx_vars x
  idx_vars i
  pointwise [k0_pay5, k0_pay4]
  congr 1
  blk_ext

theorem hb0 (v : Vec Ideal S1024x1280 .f32) (x : S1x1024x320.Idx) (i : S1024x1280.Idx)
    (h0 : (i 0).val = (x 1).val) (h1 : (i 1).val = (x 2).val) : k0_pay6 v x = v i := by
  idx_vars x
  idx_vars i
  pointwise [k0_pay6, k0_pay4]
  congr 1
  blk_ext

theorem hf320 (v : Vec Ideal S1024x1280 .f32) (x : S1x1024x320.Idx) (i : S1024x1280.Idx)
    (h0 : (i 0).val = (x 1).val) (h1 : (i 1).val = (x 2).val + 320) : k0_pay8 v x = v i := by
  idx_vars x
  idx_vars i
  pointwise [k0_pay8, k0_pay7]
  congr 1
  blk_ext

theorem hb320 (v : Vec Ideal S1024x1280 .f32) (x : S1x1024x320.Idx) (i : S1024x1280.Idx)
    (h0 : (i 0).val = (x 1).val) (h1 : (i 1).val = (x 2).val + 320) : k0_pay9 v x = v i := by
  idx_vars x
  idx_vars i
  pointwise [k0_pay9, k0_pay7]
  congr 1
  blk_ext

theorem hf640 (v : Vec Ideal S1024x1280 .f32) (x : S1x1024x320.Idx) (i : S1024x1280.Idx)
    (h0 : (i 0).val = (x 1).val) (h1 : (i 1).val = (x 2).val + 640) : k0_pay11 v x = v i := by
  idx_vars x
  idx_vars i
  pointwise [k0_pay11, k0_pay10]
  congr 1
  blk_ext

theorem hb640 (v : Vec Ideal S1024x1280 .f32) (x : S1x1024x320.Idx) (i : S1024x1280.Idx)
    (h0 : (i 0).val = (x 1).val) (h1 : (i 1).val = (x 2).val + 640) : k0_pay12 v x = v i := by
  idx_vars x
  idx_vars i
  pointwise [k0_pay12, k0_pay10]
  congr 1
  blk_ext

theorem hf960 (v : Vec Ideal S1024x1280 .f32) (x : S1x1024x320.Idx) (i : S1024x1280.Idx)
    (h0 : (i 0).val = (x 1).val) (h1 : (i 1).val = (x 2).val + 960) : k0_pay14 v x = v i := by
  idx_vars x
  idx_vars i
  pointwise [k0_pay14, k0_pay13]
  congr 1
  blk_ext

theorem hb960 (v : Vec Ideal S1024x1280 .f32) (x : S1x1024x320.Idx) (i : S1024x1280.Idx)
    (h0 : (i 0).val = (x 1).val) (h1 : (i 1).val = (x 2).val + 960) : k0_pay3 (k0_pay15 v) x = v i := by
  idx_vars x
  idx_vars i
  pointwise [k0_pay3, k0_pay15, k0_pay13]
  congr 1
  blk_ext

/-- The column of the accumulator an element of the output block comes from. -/
def col (y : S4x1024x320.Idx) : S1024x1280.Idx :=
  ix2 (y 1) ⟨320 * (y 0).val + (y 2).val, by idx_bounds y; omega⟩

theorem col0 (y : S4x1024x320.Idx) : (col y 0).val = (y 1).val := rfl
theorem col1 (y : S4x1024x320.Idx) : (col y 1).val = 320 * (y 0).val + (y 2).val := rfl

theorem outC2 (c : Dev nD) (t : Fin cfg0.N) (h7 : t.val % 8 = 7) (y : S4x1024x320.Idx) :
    (outsAt0 m c t.val t.isLt).1 y = (outsAt0 m c t.val t.isLt).2.2 (col y) := by
  rw [outsAt0_C m c t (by omega) h7]; frame_out
  canon_tiles x h
  · exact hf960 _ x _ (show (y 1).val = _ from h1) (show 320 * (y 0).val + (y 2).val = _ by omega)
  · exact hf640 _ x _ (show (y 1).val = _ from h1) (show 320 * (y 0).val + (y 2).val = _ by omega)
  · exact hf320 _ x _ (show (y 1).val = _ from h1) (show 320 * (y 0).val + (y 2).val = _ by omega)
  · exact hf0 _ x _ (show (y 1).val = _ from h1) (show 320 * (y 0).val + (y 2).val = _ by omega)

theorem outC3 (c : Dev nD) (t : Fin cfg0.N) (h7 : t.val % 8 = 7) (y : S4x1024x320.Idx) :
    (outsAt0 m c t.val t.isLt).2.1 y = (outsAt0 m c t.val t.isLt).2.2 (col y) := by
  rw [outsAt0_C m c t (by omega) h7]; frame_out
  canon_tiles x h
  · exact hb960 _ x _ (show (y 1).val = _ from h1) (show 320 * (y 0).val + (y 2).val = _ by omega)
  · exact hb640 _ x _ (show (y 1).val = _ from h1) (show 320 * (y 0).val + (y 2).val = _ by omega)
  · exact hb320 _ x _ (show (y 1).val = _ from h1) (show 320 * (y 0).val + (y 2).val = _ by omega)
  · exact hb0 _ x _ (show (y 1).val = _ from h1) (show 320 * (y 0).val + (y 2).val = _ by omega)

/-- The product of the two argument arrays, in blocks of columns. -/
def G (A : Vec Ideal S1024x8192 .bf16) (B : Vec Ideal S2560x8192 .bf16) (i : S8x1024x320.Idx) : EReal :=
  ∑ l : Fin 8192, A (ix2 (i 1) l) * B (ix2 ⟨320 * (i 0).val + (i 2).val, by idx_bounds i; omega⟩ l)

theorem e0 : ∀ t : Fin cfg0.N, win0_0.index t = ![0, t.val % 8] := (by decide +kernel : ∀ t : Fin grid0.N, _)
theorem e1 : ∀ t : Fin cfg0.N, win0_1.index t = ![t.val / 8, t.val % 8] := (by decide +kernel : ∀ t : Fin grid0.N, _)
theorem e2 : ∀ t : Fin cfg0.N, win0_2.index t = ![t.val / 8, 0, 0] := (by decide +kernel : ∀ t : Fin grid0.N, _)
theorem e3 : ∀ t : Fin cfg0.N, win0_3.index t = ![t.val / 8, 0, 0] := (by decide +kernel : ∀ t : Fin grid0.N, _)

theorem final2 (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2, outC2 m c t h7, scr m c t h7]
  unfold G
  refine Fin.sum_mul_add_congr fun s k hl => ?_
  blk_point [iblk, V, col0, col1, e0, e1, e2, e0 ⟨_, Pipeline.run_point_lt_of_flush t h7 s⟩, e1 ⟨_, Pipeline.run_point_lt_of_flush t h7 s⟩]

theorem final3 (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  have h7 := (flush0_3 t).mp hf
  blk_simp
  rw [after0_3, outC3 m c t h7, scr m c t h7]
  unfold G
  refine Fin.sum_mul_add_congr fun s k hl => ?_
  blk_point [iblk, V, col0, col1, e0, e1, e3, e0 ⟨_, Pipeline.run_point_lt_of_flush t h7 s⟩, e1 ⟨_, Pipeline.run_point_lt_of_flush t h7 s⟩]

open Cert.Reference5Ideal.Read in
/-- The reference's product, at an index. -/
theorem ref_eq (A : Vec Ideal S1024x8192 .bf16) (B : Vec Ideal S2560x8192 .bf16) (i : S8x1024x320.Idx) :
    val_main_v9 (F := Ideal) A B i = G A B i := by
  rw [val_main_v9_apply, val_main_v8_apply, val_main_v7_apply, val_main_v6_apply]
  unfold G
  refine Finset.sum_congr rfl fun k _ => ?_
  rw [val_main_v3_apply, val_main_v2_apply, val_main_v1_apply, val_main_v0_apply]
  show B _ * A _ = _
  rw [mul_comm]
  congr 1 <;> congr 1 <;> blk_ext

theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem algebraic : Cert.algebraic_Kernel5Ideal_Reference5Ideal := by
  intro m g m' g' _ hag
  refine ⟨fun c => G (m ((c : Thread nD τ).loc main_arg0)) (m ((c : Thread nD τ).loc main_arg1)),
    fun c => G (m ((c : Thread nD τ).loc main_arg0)) (m ((c : Thread nD τ).loc main_arg1)), ?_, ?_⟩
  · exact (θ_run _ _ _).mono (fun _ h c => ⟨(h c).1.trans (final2 m c), (h c).2.1.trans (final3 m c), (h c).2.2⟩)
      (Cert.Kernel5Ideal.Value.run_blocks (F := Ideal) m g)
  · refine (θ_run _ _ _).mono (fun _ h c => ⟨(h c).1.trans ?_, (h c).2.1.trans ?_, (h c).2.2⟩)
      (Cert.Reference5Ideal.Value.run (F := Ideal) m' g')
    · rw [Cert.Reference5Ideal.Read.val_main_v9_eq, (hag c).1, (hag c).2]
      exact funext fun i => ref_eq _ _ i
    · rw [Cert.Reference5Ideal.Read.val_main_v10_eq, (hag c).1, (hag c).2]
      exact funext fun i => (Cert.Reference5Ideal.Read.val_main_v10_apply _ _ i).trans (ref_eq _ _ i)

end Cert.K5

end
-- ==== Proof.Heads.lean ====
module

public import Idealize.ShloMosaic.Lib.Pointwise
public import Idealize.ShloMosaic.Lib.Pipeline.ValueKit

@[expose] public section

noncomputable section

/-! Columns of heads of 64 rows, cut into the two halves of 8 rows that are turned and the 48 rows that are not. -/

namespace Cert.Heads

open Idealize.ShloMosaic

abbrev S8 : Shape := ⟨2, ![8, 512]⟩
abbrev S48 : Shape := ⟨2, ![48, 512]⟩

/-- A column of heads of 64 rows, the first 16 rows of each turned by the angle's cosine and sine. -/
def rope {n : ℕ} (hn : n % 64 = 0) (z : Fin n → EReal) (c s : Fin 8 → EReal) (r : Fin n) : EReal :=
  if h : r.val % 64 < 8 then
    z r * c ⟨r.val % 64, h⟩ - z ⟨r.val + 8, by have := r.isLt; omega⟩ * s ⟨r.val % 64, h⟩
  else if h' : r.val % 64 < 16 then
    z r * c ⟨r.val % 64 - 8, by omega⟩ + z ⟨r.val - 8, by have := r.isLt; omega⟩ * s ⟨r.val % 64 - 8, by omega⟩
  else z r

theorem rope_lo {n : ℕ} (hn : n % 64 = 0) (z : Fin n → EReal) (c s : Fin 8 → EReal) (A : ℕ) (k : Fin 8) (hA : A % 64 = 0)
    (h : A + k.val < n) (h' : A + 8 + k.val < n) :
    rope hn z c s ⟨A + k.val, h⟩ = z ⟨A + k.val, h⟩ * c k - z ⟨A + 8 + k.val, h'⟩ * s k := by
  have hk := k.isLt
  have e : (A + k.val) % 64 = k.val := by omega
  rw [rope, dif_pos (by show (A + k.val) % 64 < 8; omega)]
  congr 3
  · exact Fin.ext e
  · exact Fin.ext (show A + k.val + 8 = A + 8 + k.val by omega)
  · exact Fin.ext e

theorem rope_hi {n : ℕ} (hn : n % 64 = 0) (z : Fin n → EReal) (c s : Fin 8 → EReal) (A : ℕ) (k : Fin 8) (hA : A % 64 = 8)
    (h : A + k.val < n) (h' : A - 8 + k.val < n) :
    rope hn z c s ⟨A + k.val, h⟩ = z ⟨A + k.val, h⟩ * c k + z ⟨A - 8 + k.val, h'⟩ * s k := by
  have hk := k.isLt
  have e : (A + k.val) % 64 - 8 = k.val := by omega
  rw [rope, dif_neg (by show ¬ (A + k.val) % 64 < 8; omega), dif_pos (by show (A + k.val) % 64 < 16; omega)]
  congr 3
  · exact Fin.ext e
  · exact Fin.ext (show A + k.val - 8 = A - 8 + k.val by omega)
  · exact Fin.ext e

theorem rope_re {n : ℕ} (hn : n % 64 = 0) (z : Fin n → EReal) (c s : Fin 8 → EReal) (A : ℕ) (k : Fin 48) (hA : A % 64 = 16)
    (h : A + k.val < n) : rope hn z c s ⟨A + k.val, h⟩ = z ⟨A + k.val, h⟩ := by
  have hk := k.isLt
  rw [rope, dif_neg (by show ¬ (A + k.val) % 64 < 8; omega), dif_neg (by show ¬ (A + k.val) % 64 < 16; omega)]

theorem rope_congr {n : ℕ} (hn : n % 64 = 0) {z z' : Fin n → EReal} {c c' s s' : Fin 8 → EReal} {r r' : Fin n} (hz : ∀ r, z r = z' r)
    (hc : ∀ k, c k = c' k) (hs : ∀ k, s k = s' k) (hr : r = r') : rope hn z c s r = rope hn z' c' s' r' := by
  rw [funext hz, funext hc, funext hs, hr]

theorem at_col {n w : ℕ} (xs : List ((s : Shape) × (s.Idx → EReal))) (h : Shape.Concatenates (xs.map (·.1)) ⟨2, ![n, 512]⟩ 0)
    (K : ℕ) (hk : K < xs.length) (v : (⟨2, ![w, 512]⟩ : Shape).Idx → EReal) (hv : xs[K] = ⟨⟨2, ![w, 512]⟩, v⟩) (A : ℕ)
    (hp : (((xs.take K).map (·.1)).map fun s => if h : s.rank = 2 then s.size ((0 : Fin 2).cast h.symm) else 0).sum = A)
    (r : Fin n) (q : Fin 512) (k : Fin w) (hr : A + k.val = r.val) :
    concatenate ⟨2, ![n, 512]⟩ 0 xs h (ix2 r q) = v (ix2 k q) := by
  refine concatenate_apply_piece 0 xs h (ix2 r q) K hk _ v hv rfl A hp (ix2 k q) ?_ hr
  intro b hb
  fin_cases b
  · exact absurd rfl hb
  · rfl

/-- The pieces of 4 heads. -/
def heads4 (lo hi : Fin 4 → S8.Idx → EReal) (re : Fin 4 → S48.Idx → EReal) : List ((s : Shape) × (s.Idx → EReal)) :=
  [⟨S8, lo 0⟩, ⟨S8, hi 0⟩, ⟨S48, re 0⟩, ⟨S8, lo 1⟩, ⟨S8, hi 1⟩, ⟨S48, re 1⟩, ⟨S8, lo 2⟩, ⟨S8, hi 2⟩, ⟨S48, re 2⟩, ⟨S8, lo 3⟩, ⟨S8, hi 3⟩, ⟨S48, re 3⟩]

theorem heads4_len (lo hi : Fin 4 → S8.Idx → EReal) (re : Fin 4 → S48.Idx → EReal) : (heads4 lo hi re).length = 12 := rfl

/-- The extents of the pieces of 4 heads. -/
def shapes4 : List Shape := [S8, S8, S48, S8, S8, S48, S8, S8, S48, S8, S8, S48]

theorem heads4_shapes (lo hi : Fin 4 → S8.Idx → EReal) (re : Fin 4 → S48.Idx → EReal) : (heads4 lo hi re).map (·.1) = shapes4 := rfl

theorem shapes4_sum : ∀ e : Fin 4, ∀ p : Fin 3, (((shapes4.take (3 * e.val + p.val))).map fun s => if h : s.rank = 2 then s.size ((0 : Fin 2).cast h.symm) else 0).sum = 64 * e.val + 8 * p.val := by
  decide +kernel

theorem cat_heads4 (f : Fin 256 → Fin 512 → EReal) (lo hi : Fin 4 → S8.Idx → EReal) (re : Fin 4 → S48.Idx → EReal)
    (hlo : ∀ (e : Fin 4) (k : Fin 8) (q : Fin 512), lo e (ix2 k q) = f ⟨64 * e.val + k.val, by omega⟩ q)
    (hhi : ∀ (e : Fin 4) (k : Fin 8) (q : Fin 512), hi e (ix2 k q) = f ⟨64 * e.val + 8 + k.val, by omega⟩ q)
    (hre : ∀ (e : Fin 4) (k : Fin 48) (q : Fin 512), re e (ix2 k q) = f ⟨64 * e.val + 16 + k.val, by omega⟩ q)
    (h : Shape.Concatenates ((heads4 lo hi re).map (·.1)) ⟨2, ![256, 512]⟩ 0) (r : Fin 256) (q : Fin 512) :
    concatenate ⟨2, ![256, 512]⟩ 0 (heads4 lo hi re) h (ix2 r q) = f r q := by
  have h1 : ∀ e : Fin 4, (heads4 lo hi re)[3 * e.val]'(by rw [heads4_len]; omega) = ⟨S8, lo e⟩ := by
    intro e; fin_cases e <;> rfl
  have h2 : ∀ e : Fin 4, (heads4 lo hi re)[3 * e.val + 1]'(by rw [heads4_len]; omega) = ⟨S8, hi e⟩ := by
    intro e; fin_cases e <;> rfl
  have h3 : ∀ e : Fin 4, (heads4 lo hi re)[3 * e.val + 2]'(by rw [heads4_len]; omega) = ⟨S48, re e⟩ := by
    intro e; fin_cases e <;> rfl
  have p1 : ∀ e : Fin 4, ((((heads4 lo hi re).take (3 * e.val)).map (·.1)).map fun s => if h : s.rank = 2 then s.size ((0 : Fin 2).cast h.symm) else 0).sum = 64 * e.val := by
    intro e; rw [List.map_take, heads4_shapes]; exact shapes4_sum e 0
  have p2 : ∀ e : Fin 4, ((((heads4 lo hi re).take (3 * e.val + 1)).map (·.1)).map fun s => if h : s.rank = 2 then s.size ((0 : Fin 2).cast h.symm) else 0).sum = 64 * e.val + 8 := by
    intro e; rw [List.map_take, heads4_shapes]; exact shapes4_sum e 1
  have p3 : ∀ e : Fin 4, ((((heads4 lo hi re).take (3 * e.val + 2)).map (·.1)).map fun s => if h : s.rank = 2 then s.size ((0 : Fin 2).cast h.symm) else 0).sum = 64 * e.val + 16 := by
    intro e; rw [List.map_take, heads4_shapes]; exact shapes4_sum e 2
  have hr := r.isLt
  obtain ⟨e, he⟩ : ∃ e : Fin 4, e.val = r.val / 64 := ⟨⟨r.val / 64, by omega⟩, rfl⟩
  by_cases g : r.val % 64 < 8
  · obtain ⟨k, hk⟩ : ∃ k : Fin 8, 64 * e.val + k.val = r.val := ⟨⟨r.val % 64, g⟩, by show 64 * e.val + r.val % 64 = r.val; omega⟩
    exact (at_col _ h (3 * e.val) _ _ (h1 e) _ (p1 e) r q k hk).trans ((hlo e k q).trans (congrArg (f · q) (Fin.ext hk)))
  · by_cases g' : r.val % 64 < 16
    · obtain ⟨k, hk⟩ : ∃ k : Fin 8, 64 * e.val + 8 + k.val = r.val := ⟨⟨r.val % 64 - 8, by omega⟩, by show 64 * e.val + 8 + (r.val % 64 - 8) = r.val; omega⟩
      exact (at_col _ h (3 * e.val + 1) _ _ (h2 e) _ (p2 e) r q k hk).trans ((hhi e k q).trans (congrArg (f · q) (Fin.ext hk)))
    · obtain ⟨k, hk⟩ : ∃ k : Fin 48, 64 * e.val + 16 + k.val = r.val := ⟨⟨r.val % 64 - 16, by omega⟩, by show 64 * e.val + 16 + (r.val % 64 - 16) = r.val; omega⟩
      exact (at_col _ h (3 * e.val + 2) _ _ (h3 e) _ (p3 e) r q k hk).trans ((hre e k q).trans (congrArg (f · q) (Fin.ext hk)))

/-- The pieces of 16 heads. -/
def heads16 (lo hi : Fin 16 → S8.Idx → EReal) (re : Fin 16 → S48.Idx → EReal) : List ((s : Shape) × (s.Idx → EReal)) :=
  [⟨S8, lo 0⟩, ⟨S8, hi 0⟩, ⟨S48, re 0⟩, ⟨S8, lo 1⟩, ⟨S8, hi 1⟩, ⟨S48, re 1⟩, ⟨S8, lo 2⟩, ⟨S8, hi 2⟩, ⟨S48, re 2⟩, ⟨S8, lo 3⟩, ⟨S8, hi 3⟩, ⟨S48, re 3⟩, ⟨S8, lo 4⟩, ⟨S8, hi 4⟩, ⟨S48, re 4⟩, ⟨S8, lo 5⟩, ⟨S8, hi 5⟩, ⟨S48, re 5⟩, ⟨S8, lo 6⟩, ⟨S8, hi 6⟩, ⟨S48, re 6⟩, ⟨S8, lo 7⟩, ⟨S8, hi 7⟩, ⟨S48, re 7⟩, ⟨S8, lo 8⟩, ⟨S8, hi 8⟩, ⟨S48, re 8⟩, ⟨S8, lo 9⟩, ⟨S8, hi 9⟩, ⟨S48, re 9⟩, ⟨S8, lo 10⟩, ⟨S8, hi 10⟩, ⟨S48, re 10⟩, ⟨S8, lo 11⟩, ⟨S8, hi 11⟩, ⟨S48, re 11⟩, ⟨S8, lo 12⟩, ⟨S8, hi 12⟩, ⟨S48, re 12⟩, ⟨S8, lo 13⟩, ⟨S8, hi 13⟩, ⟨S48, re 13⟩, ⟨S8, lo 14⟩, ⟨S8, hi 14⟩, ⟨S48, re 14⟩, ⟨S8, lo 15⟩, ⟨S8, hi 15⟩, ⟨S48, re 15⟩]

theorem heads16_len (lo hi : Fin 16 → S8.Idx → EReal) (re : Fin 16 → S48.Idx → EReal) : (heads16 lo hi re).length = 48 := rfl

/-- The extents of the pieces of 16 heads. -/
def shapes16 : List Shape := [S8, S8, S48, S8, S8, S48, S8, S8, S48, S8, S8, S48, S8, S8, S48, S8, S8, S48, S8, S8, S48, S8, S8, S48, S8, S8, S48, S8, S8, S48, S8, S8, S48, S8, S8, S48, S8, S8, S48, S8, S8, S48, S8, S8, S48, S8, S8, S48]

theorem heads16_shapes (lo hi : Fin 16 → S8.Idx → EReal) (re : Fin 16 → S48.Idx → EReal) : (heads16 lo hi re).map (·.1) = shapes16 := rfl

theorem shapes16_sum : ∀ e : Fin 16, ∀ p : Fin 3, (((shapes16.take (3 * e.val + p.val))).map fun s => if h : s.rank = 2 then s.size ((0 : Fin 2).cast h.symm) else 0).sum = 64 * e.val + 8 * p.val := by
  decide +kernel

theorem cat_heads16 (f : Fin 1024 → Fin 512 → EReal) (lo hi : Fin 16 → S8.Idx → EReal) (re : Fin 16 → S48.Idx → EReal)
    (hlo : ∀ (e : Fin 16) (k : Fin 8) (q : Fin 512), lo e (ix2 k q) = f ⟨64 * e.val + k.val, by omega⟩ q)
    (hhi : ∀ (e : Fin 16) (k : Fin 8) (q : Fin 512), hi e (ix2 k q) = f ⟨64 * e.val + 8 + k.val, by omega⟩ q)
    (hre : ∀ (e : Fin 16) (k : Fin 48) (q : Fin 512), re e (ix2 k q) = f ⟨64 * e.val + 16 + k.val, by omega⟩ q)
    (h : Shape.Concatenates ((heads16 lo hi re).map (·.1)) ⟨2, ![1024, 512]⟩ 0) (r : Fin 1024) (q : Fin 512) :
    concatenate ⟨2, ![1024, 512]⟩ 0 (heads16 lo hi re) h (ix2 r q) = f r q := by
  have h1 : ∀ e : Fin 16, (heads16 lo hi re)[3 * e.val]'(by rw [heads16_len]; omega) = ⟨S8, lo e⟩ := by
    intro e; fin_cases e <;> rfl
  have h2 : ∀ e : Fin 16, (heads16 lo hi re)[3 * e.val + 1]'(by rw [heads16_len]; omega) = ⟨S8, hi e⟩ := by
    intro e; fin_cases e <;> rfl
  have h3 : ∀ e : Fin 16, (heads16 lo hi re)[3 * e.val + 2]'(by rw [heads16_len]; omega) = ⟨S48, re e⟩ := by
    intro e; fin_cases e <;> rfl
  have p1 : ∀ e : Fin 16, ((((heads16 lo hi re).take (3 * e.val)).map (·.1)).map fun s => if h : s.rank = 2 then s.size ((0 : Fin 2).cast h.symm) else 0).sum = 64 * e.val := by
    intro e; rw [List.map_take, heads16_shapes]; exact shapes16_sum e 0
  have p2 : ∀ e : Fin 16, ((((heads16 lo hi re).take (3 * e.val + 1)).map (·.1)).map fun s => if h : s.rank = 2 then s.size ((0 : Fin 2).cast h.symm) else 0).sum = 64 * e.val + 8 := by
    intro e; rw [List.map_take, heads16_shapes]; exact shapes16_sum e 1
  have p3 : ∀ e : Fin 16, ((((heads16 lo hi re).take (3 * e.val + 2)).map (·.1)).map fun s => if h : s.rank = 2 then s.size ((0 : Fin 2).cast h.symm) else 0).sum = 64 * e.val + 16 := by
    intro e; rw [List.map_take, heads16_shapes]; exact shapes16_sum e 2
  have hr := r.isLt
  obtain ⟨e, he⟩ : ∃ e : Fin 16, e.val = r.val / 64 := ⟨⟨r.val / 64, by omega⟩, rfl⟩
  by_cases g : r.val % 64 < 8
  · obtain ⟨k, hk⟩ : ∃ k : Fin 8, 64 * e.val + k.val = r.val := ⟨⟨r.val % 64, g⟩, by show 64 * e.val + r.val % 64 = r.val; omega⟩
    exact (at_col _ h (3 * e.val) _ _ (h1 e) _ (p1 e) r q k hk).trans ((hlo e k q).trans (congrArg (f · q) (Fin.ext hk)))
  · by_cases g' : r.val % 64 < 16
    · obtain ⟨k, hk⟩ : ∃ k : Fin 8, 64 * e.val + 8 + k.val = r.val := ⟨⟨r.val % 64 - 8, by omega⟩, by show 64 * e.val + 8 + (r.val % 64 - 8) = r.val; omega⟩
      exact (at_col _ h (3 * e.val + 1) _ _ (h2 e) _ (p2 e) r q k hk).trans ((hhi e k q).trans (congrArg (f · q) (Fin.ext hk)))
    · obtain ⟨k, hk⟩ : ∃ k : Fin 48, 64 * e.val + 16 + k.val = r.val := ⟨⟨r.val % 64 - 16, by omega⟩, by show 64 * e.val + 16 + (r.val % 64 - 16) = r.val; omega⟩
      exact (at_col _ h (3 * e.val + 2) _ _ (h3 e) _ (p3 e) r q k hk).trans ((hre e k q).trans (congrArg (f · q) (Fin.ext hk)))

end Cert.Heads
-- ==== Proof.K7a.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Heads
public import Idealize.ShloMosaic.Lib.Pointwise
public import Idealize.ShloMosaic.Lib.Pipeline.ValueKit
public import Idealize.ShloMosaic.Lib.StableHlo.ReadAt

@[expose] public section

noncomputable section

namespace Cert.K7

open Cert.Kernel7Ideal Cert.Kernel7Ideal.Gen Idealize.ShloMosaic Idealize.ShloMosaic.TcCoe Idealize.SL.Sem
open Idealize.ShloMosaic.Pipeline (Dat)
open Cert.Heads (rope rope_lo rope_hi rope_re cat_heads4 cat_heads16)

variable (m : (ℓ : Loc nD τ sig) → Buf (Elt Ideal) ℓ)

/-- The mean square of a row, plus the small constant. -/
def ms (A0 : FVec Ideal S8192x1024 .f32) (R : Fin 8192) : EReal :=
  Ideal.div (∑ k : Fin 1024, A0 (ix2 R k) * A0 (ix2 R k)) (Ideal.ofBits .f32 0x44800000#32) + Ideal.ofBits .f32 0x358637BD#32
/-- The normalised row. -/
def hn (A0 : FVec Ideal S8192x1024 .f32) (A1 : FVec Ideal S1024 .f32) (R : Fin 8192) (d : Fin 1024) : EReal :=
  A0 (ix2 R d) * Ideal.rsqrt (ms A0 R) * A1 (ix1 d)
/-- The projected row. -/
def zz (A0 : FVec Ideal S8192x1024 .f32) (A1 : FVec Ideal S1024 .f32) (A2 : FVec Ideal S2560x1024 .bf16) (R : Fin 8192) (r : Fin 2560) : EReal :=
  ∑ k : Fin 1024, A2 (ix2 r k) * hn A0 A1 R k
/-- The angle by which a position turns a pair of a head's rows. -/
def ang (k : Fin 8) (R : Fin 8192) : EReal :=
  Ideal.pow (Ideal.ofBits .f32 0x48F42400#32) (Ideal.div (-(Ideal.ofBits .f32 0x00000000#32 + Ideal.ofBits .f32 0x40000000#32 * (FloatOps.sitofp .f32 (BitVec.ofNat 32 k.val) : Ideal .f32))) (Ideal.ofBits .f32 0x41800000#32)) * (FloatOps.sitofp .f32 (BitVec.ofNat 32 R.val) : Ideal .f32)

theorem pay3 (x0 : Vec Ideal S512x1024 .f32) (x1 : Vec Ideal S1x1024 .f32) (d : Fin 1024) (q : Fin 512) :
    k0_pay3 x0 x1 (ix2 d q) = x0 (ix2 q d) * Ideal.rsqrt (Ideal.div (∑ k : Fin 1024, x0 (ix2 q k) * x0 (ix2 q k)) (Ideal.ofBits .f32 0x44800000#32)
      + Ideal.ofBits .f32 0x358637BD#32) * x1 (ix2 0 d) := by
  pointwise [k0_pay3]
  done

theorem pay6 (x0 : Vec Ideal S512x1024 .f32) (x1 : Vec Ideal S1x1024 .f32) (w : Vec Ideal S1024x1024 .bf16) (r : Fin 1024) (q : Fin 512) :
    k0_pay6 x0 x1 w (ix2 r q) = ∑ k : Fin 1024, w (ix2 r k) * k0_pay3 x0 x1 (ix2 k q) := by
  pointwise [k0_pay6]
  done

theorem pay1 (h : Vec Ideal S1024x512 .bf16) (w : Vec Ideal S256x1024 .bf16) (r : Fin 256) (q : Fin 512) :
    k0_pay1 h w (ix2 r q) = ∑ k : Fin 1024, w (ix2 r k) * h (ix2 k q) := by
  pointwise [k0_pay1]
  done

theorem pay2 (h : Vec Ideal S1024x512 .bf16) (w : Vec Ideal S1024x1024 .bf16) (r : Fin 1024) (q : Fin 512) :
    k0_pay2 h w (ix2 r q) = ∑ k : Fin 1024, w (ix2 r k) * h (ix2 k q) := by
  pointwise [k0_pay2]
  done

set_option maxHeartbeats 2000000 in
theorem k_pay (x0 : Vec Ideal S1024x512 .bf16) (x1 : Vec Ideal S8x512 .f32) (x2 : Vec Ideal S8x512 .f32) (x3 : Vec Ideal S256x1024 .bf16) (r : Fin 256) (q : Fin 512) :
    k0_pay87 x0 x1 x2 x3 (ix2 r q) = rope (n := 256) rfl (fun r => ∑ k : Fin 1024, x3 (ix2 r k) * x0 (ix2 k q)) (fun k => x1 (ix2 k q)) (fun k => x2 (ix2 k q)) r := by
  show concatenate _ 0 _ (by exact concatenates_S8x512_S8x512_S48x512_S8x512_S8x512_S48x512_S8x512_S8x512_S48x512_S8x512_S8x512_S48x512_S256x512_d0) (ix2 r q) = _
  refine cat_heads4 (fun r q => rope (n := 256) rfl (fun r => ∑ k : Fin 1024, x3 (ix2 r k) * x0 (ix2 k q)) (fun k => x1 (ix2 k q)) (fun k => x2 (ix2 k q)) r) ![_, _, _, _] ![_, _, _, _] ![_, _, _, _] ?_ ?_ ?_ _ r q
  · intro e k q
    refine Eq.trans ?_ (rope_lo rfl _ _ _ (64 * e.val) k (by omega) _ (by omega)).symm
    fin_cases e <;> (pointwise []; done)
  · intro e k q
    refine Eq.trans ?_ (rope_hi rfl _ _ _ (64 * e.val + 8) k (by omega) _ (by omega)).symm
    fin_cases e <;> (pointwise []; done)
  · intro e k q
    refine Eq.trans ?_ (rope_re rfl _ _ _ (64 * e.val + 16) k (by omega) _).symm
    fin_cases e <;> (pointwise []; done)

set_option maxHeartbeats 4000000 in
theorem q_pay (x0 : Vec Ideal S512x1024 .f32) (x1 : Vec Ideal S1x1024 .f32) (x3 : Vec Ideal S8x512 .f32) (x4 : Vec Ideal S8x512 .f32) (w : Vec Ideal S1024x1024 .bf16) (r : Fin 1024) (q : Fin 512) :
    k0_pay86 (k0_pay4 x3) (k0_pay5 x4) (k0_pay6 x0 x1 w) (k0_pay9 x0 x1 x3 x4 w) (k0_pay10 x0 x1 x3 x4 w) (k0_pay11 x0 x1 w) (k0_pay14 x0 x1 x3 x4 w) (k0_pay15 x0 x1 x3 x4 w) (k0_pay16 x0 x1 w) (k0_pay19 (k0_pay4 x3) (k0_pay5 x4) (k0_pay6 x0 x1 w)) (k0_pay20 (k0_pay4 x3) (k0_pay5 x4) (k0_pay6 x0 x1 w)) (k0_pay21 (k0_pay6 x0 x1 w)) (k0_pay24 (k0_pay4 x3) (k0_pay5 x4) (k0_pay6 x0 x1 w)) (k0_pay25 (k0_pay4 x3) (k0_pay5 x4) (k0_pay6 x0 x1 w)) (k0_pay26 (k0_pay6 x0 x1 w)) (k0_pay29 (k0_pay4 x3) (k0_pay5 x4) (k0_pay6 x0 x1 w)) (k0_pay30 (k0_pay4 x3) (k0_pay5 x4) (k0_pay6 x0 x1 w)) (k0_pay31 (k0_pay6 x0 x1 w)) (k0_pay34 (k0_pay4 x3) (k0_pay5 x4) (k0_pay6 x0 x1 w)) (k0_pay35 (k0_pay4 x3) (k0_pay5 x4) (k0_pay6 x0 x1 w)) (k0_pay36 (k0_pay6 x0 x1 w)) (k0_pay39 (k0_pay4 x3) (k0_pay5 x4) (k0_pay6 x0 x1 w)) (k0_pay40 (k0_pay4 x3) (k0_pay5 x4) (k0_pay6 x0 x1 w)) (k0_pay41 (k0_pay6 x0 x1 w)) (k0_pay44 (k0_pay4 x3) (k0_pay5 x4) (k0_pay6 x0 x1 w)) (k0_pay45 (k0_pay4 x3) (k0_pay5 x4) (k0_pay6 x0 x1 w)) (k0_pay46 (k0_pay6 x0 x1 w)) (k0_pay49 (k0_pay4 x3) (k0_pay5 x4) (k0_pay6 x0 x1 w)) (k0_pay51 (k0_pay5 x4) (k0_pay47 (k0_pay6 x0 x1 w)) (k0_pay50 (k0_pay4 x3) (k0_pay6 x0 x1 w))) (k0_pay52 (k0_pay6 x0 x1 w)) (k0_pay55 (k0_pay4 x3) (k0_pay5 x4) (k0_pay6 x0 x1 w)) (k0_pay56 (k0_pay4 x3) (k0_pay5 x4) (k0_pay6 x0 x1 w)) (k0_pay57 (k0_pay6 x0 x1 w)) (k0_pay60 (k0_pay4 x3) (k0_pay5 x4) (k0_pay6 x0 x1 w)) (k0_pay61 (k0_pay4 x3) (k0_pay5 x4) (k0_pay6 x0 x1 w)) (k0_pay62 (k0_pay6 x0 x1 w)) (k0_pay65 (k0_pay4 x3) (k0_pay5 x4) (k0_pay6 x0 x1 w)) (k0_pay66 (k0_pay4 x3) (k0_pay5 x4) (k0_pay6 x0 x1 w)) (k0_pay67 (k0_pay6 x0 x1 w)) (k0_pay70 (k0_pay4 x3) (k0_pay5 x4) (k0_pay6 x0 x1 w)) (k0_pay71 (k0_pay4 x3) (k0_pay5 x4) (k0_pay6 x0 x1 w)) (k0_pay72 (k0_pay6 x0 x1 w)) (k0_pay75 (k0_pay4 x3) (k0_pay5 x4) (k0_pay6 x0 x1 w)) (k0_pay76 (k0_pay4 x3) (k0_pay5 x4) (k0_pay6 x0 x1 w)) (k0_pay77 (k0_pay6 x0 x1 w)) (k0_pay80 (k0_pay4 x3) (k0_pay5 x4) (k0_pay6 x0 x1 w)) (k0_pay81 (k0_pay4 x3) (k0_pay5 x4) (k0_pay6 x0 x1 w)) (k0_pay82 (k0_pay6 x0 x1 w)) (k0_pay83 (k0_pay6 x0 x1 w)) (k0_pay84 (k0_pay6 x0 x1 w)) (k0_pay85 (k0_pay4 x3) (k0_pay6 x0 x1 w)) (ix2 r q)
      = rope (n := 1024) rfl (fun r => ∑ x : Fin 1024, w (ix2 r x) * k0_pay3 x0 x1 (ix2 x q)) (fun k => x3 (ix2 k q)) (fun k => x4 (ix2 k q)) r * Ideal.ofBits .f32 0x3E000000#32 := by
  show concatenate _ 0 _ (by exact concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S1024x512_d0) (ix2 r q) * Ideal.ofBits .f32 0x3E000000#32 = _
  refine congrArg (· * Ideal.ofBits .f32 0x3E000000#32) ?_
  refine cat_heads16 (fun r q => rope (n := 1024) rfl (fun r => ∑ x : Fin 1024, w (ix2 r x) * k0_pay3 x0 x1 (ix2 x q)) (fun k => x3 (ix2 k q)) (fun k => x4 (ix2 k q)) r) ![_, _, _, _, _, _, _, _, _, _, _, _, _, _, _, _] ![_, _, _, _, _, _, _, _, _, _, _, _, _, _, _, _] ![_, _, _, _, _, _, _, _, _, _, _, _, _, _, _, _] ?_ ?_ ?_ _ r q
  · intro e k q
    refine Eq.trans ?_ (rope_lo rfl _ _ _ (64 * e.val) k (by omega) _ (by omega)).symm
    fin_cases e <;> (pointwise [k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, pay6]; done)
  · intro e k q
    refine Eq.trans ?_ (rope_hi rfl _ _ _ (64 * e.val + 8) k (by omega) _ (by omega)).symm
    fin_cases e <;> (pointwise [k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, pay6]; done)
  · intro e k q
    refine Eq.trans ?_ (rope_re rfl _ _ _ (64 * e.val + 16) k (by omega) _).symm
    fin_cases e <;> (pointwise [k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, pay6]; done)

/-- The tables of cosines and sines the host prepares. -/
theorem Vcos (c : Dev nD) (k : Fin 8) (R : Fin 8192) : (V m c main_v16 : Vec Ideal S8x8192 .f32) (ix2 k R) = Ideal.cos (ang k R) := by
  unfold V
  unfold ang
  after_reads_at

theorem Vsin (c : Dev nD) (k : Fin 8) (R : Fin 8192) : (V m c main_v17 : Vec Ideal S8x8192 .f32) (ix2 k R) = Ideal.sin (ang k R) := by
  unfold V
  unfold ang
  after_reads_at

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)
theorem e9 : ∀ t : Fin cfg0.N, win0_9.index t = ![0, t.val] := (by decide +kernel : ∀ t : Fin grid0.N, _)

theorem rope_at (c : Dev nD) (t : Fin cfg0.N) (q : Fin 512) (R : Fin 8192) (hR : R.val = 512 * t.val + q.val) :
    (∀ k : Fin 8, (iblk m c 3 t : Vec Ideal S8x512 .f32) (ix2 k q) = Ideal.cos (ang k R))
      ∧ (∀ k : Fin 8, (iblk m c 4 t : Vec Ideal S8x512 .f32) (ix2 k q) = Ideal.sin (ang k R)) := by
  refine ⟨fun k => Eq.trans ?_ (Vcos m c k R), fun k => Eq.trans ?_ (Vsin m c k R)⟩
  · blk_point [iblk, e3]
  · blk_point [iblk, e4]

/-- The blocks of a grid point the projection reads. -/
abbrev bx (c : Dev nD) (t : Fin cfg0.N) : Vec Ideal S512x1024 .f32 := iblk m c 0 t
abbrev bg (c : Dev nD) (t : Fin cfg0.N) : Vec Ideal S1x1024 .f32 := iblk m c 1 t
abbrev bw (c : Dev nD) (t : Fin cfg0.N) : Vec Ideal S2560x1024 .bf16 := iblk m c 2 t
/-- The rows of the weight that give the queries, and those that give the keys. -/
abbrev wq (c : Dev nD) (t : Fin cfg0.N) : Vec Ideal S1024x1024 .bf16 := View.ld (bw m c t) r0_4
abbrev wk (c : Dev nD) (t : Fin cfg0.N) : Vec Ideal S256x1024 .bf16 := View.ld (bw m c t) r0_5

theorem z_at (c : Dev nD) (t : Fin cfg0.N) (q : Fin 512) (R : Fin 8192) (hR : R.val = 512 * t.val + q.val) :
    (∀ (r : Fin 1024) , ∑ x : Fin 1024, wq m c t (ix2 r x) * k0_pay3 (bx m c t) (bg m c t) (ix2 x q)
      = zz (m ((c : Thread nD τ).loc main_arg0)) (m ((c : Thread nD τ).loc main_arg1)) (m ((c : Thread nD τ).loc main_arg2)) R ⟨r.val, by omega⟩)
    ∧ (∀ (r : Fin 256) , ∑ x : Fin 1024, wk m c t (ix2 r x) * k0_pay3 (bx m c t) (bg m c t) (ix2 x q)
      = zz (m ((c : Thread nD τ).loc main_arg0)) (m ((c : Thread nD τ).loc main_arg1)) (m ((c : Thread nD τ).loc main_arg2)) R ⟨1024 + r.val, by omega⟩) := by
  refine ⟨fun r => ?_, fun r => ?_⟩
  · pointwise [pay3, zz, hn, ms]
    blk_point [wq, wk, bw, iblk, V, e0, e1, e2]
  · pointwise [pay3, zz, hn, ms]
    blk_point [wq, wk, bw, iblk, V, e0, e1, e2]

theorem final9 (c : Dev nD) : (dats m 0 c).arrAt 9 cfg0.N = fun i : S1024x8192.Idx =>
    hn (m ((c : Thread nD τ).loc main_arg0)) (m ((c : Thread nD τ).loc main_arg1)) (i 1) (i 0) := by
  refine (dats m 0 c).arrAt_eq_of_covers 9 _ (by decide +kernel) fun t hf y => ?_
  blk_simp
  rw [after0_9]
  frame_out
  pointwise [k0_pay3, hn, ms]
  blk_point [iblk, V, e0, e1, e9]

theorem final7 (c : Dev nD) : (dats m 0 c).arrAt 7 cfg0.N = fun i : S256x8192.Idx =>
    zz (m ((c : Thread nD τ).loc main_arg0)) (m ((c : Thread nD τ).loc main_arg1)) (m ((c : Thread nD τ).loc main_arg2)) (i 1) ⟨1280 + (i 0).val, by have : (i 0).val < 256 := (i 0).isLt; omega⟩ := by
  refine (dats m 0 c).arrAt_eq_of_covers 7 _ (by decide +kernel) fun t hf y => ?_
  blk_simp
  rw [after0_7]
  frame_out
  pointwise [k0_pay1, k0_pay3, k0_pay88, zz, hn, ms]
  blk_point [iblk, V, e0, e1, e2, e7]

theorem final8 (c : Dev nD) : (dats m 0 c).arrAt 8 cfg0.N = fun i : S1024x8192.Idx =>
    zz (m ((c : Thread nD τ).loc main_arg0)) (m ((c : Thread nD τ).loc main_arg1)) (m ((c : Thread nD τ).loc main_arg2)) (i 1) ⟨1536 + (i 0).val, by have : (i 0).val < 1024 := (i 0).isLt; omega⟩ := by
  refine (dats m 0 c).arrAt_eq_of_covers 8 _ (by decide +kernel) fun t hf y => ?_
  blk_simp
  rw [after0_8]
  frame_out
  pointwise [k0_pay2, k0_pay3, k0_pay88, zz, hn, ms]
  blk_point [iblk, V, e0, e1, e2, e8]

theorem final5 (c : Dev nD) : (dats m 0 c).arrAt 5 cfg0.N = fun i : S1024x8192.Idx =>
    rope (n := 1024) rfl (fun r => zz (m ((c : Thread nD τ).loc main_arg0)) (m ((c : Thread nD τ).loc main_arg1)) (m ((c : Thread nD τ).loc main_arg2)) (i 1) ⟨r.val, by omega⟩)
     (fun k => Ideal.cos (ang k (i 1))) (fun k => Ideal.sin (ang k (i 1))) (i 0) * Ideal.ofBits .f32 0x3E000000#32 := by
  refine (dats m 0 c).arrAt_eq_of_covers 5 _ (by decide +kernel) fun t hf y => ?_
  blk_simp
  rw [after0_5]
  unfold_out out0_5
  frame_out
  idx_vars y
  have hR : ((((View.whole main_v19_0).slice (win0_5.rect t)).emb (ix2 y0 y1)) 1).val = 512 * t.val + y1.val := by
    blk_simp [e5]
    simp
    omega
  have hr : (((View.whole main_v19_0).slice (win0_5.rect t)).emb (ix2 y0 y1)) 0 = y0 := by
    apply Fin.ext
    blk_simp [e5]
  refine (q_pay _ _ _ _ _ y0 y1).trans (congrArg (· * Ideal.ofBits .f32 0x3E000000#32) (Cert.Heads.rope_congr _ (z_at m c t y1 _ hR).1 (rope_at m c t y1 _ hR).1 (rope_at m c t y1 _ hR).2 hr.symm))

theorem final6 (c : Dev nD) : (dats m 0 c).arrAt 6 cfg0.N = fun i : S256x8192.Idx =>
    rope (n := 256) rfl (fun r => zz (m ((c : Thread nD τ).loc main_arg0)) (m ((c : Thread nD τ).loc main_arg1)) (m ((c : Thread nD τ).loc main_arg2)) (i 1) ⟨1024 + r.val, by omega⟩)
     (fun k => Ideal.cos (ang k (i 1))) (fun k => Ideal.sin (ang k (i 1))) (i 0) := by
  refine (dats m 0 c).arrAt_eq_of_covers 6 _ (by decide +kernel) fun t hf y => ?_
  blk_simp
  rw [after0_6]
  unfold_out out0_6
  frame_out
  idx_vars y
  have hR : ((((View.whole main_v19_1).slice (win0_6.rect t)).emb (ix2 y0 y1)) 1).val = 512 * t.val + y1.val := by
    blk_simp [e6]
    simp
    omega
  have hr : (((View.whole main_v19_1).slice (win0_6.rect t)).emb (ix2 y0 y1)) 0 = y0 := by
    apply Fin.ext
    blk_simp [e6]
  refine (k_pay _ _ _ _ y0 y1).trans (Cert.Heads.rope_congr _ (z_at m c t y1 _ hR).2 (fun k => Eq.trans ?_ ((rope_at m c t y1 _ hR).1 k)) (fun k => Eq.trans ?_ ((rope_at m c t y1 _ hR).2 k)) hr.symm)
  · pointwise [k0_pay4]
  · pointwise [k0_pay5]

end Cert.K7
-- ==== Proof.K7.lean ====
module

public import proofs.«01_k».proof.Proof.K7a

@[expose] public section

noncomputable section

namespace Cert.K7

open Cert.Reference7Ideal Idealize.ShloMosaic Idealize.ShloMosaic.TcCoe Idealize.SL.Sem
open Cert.Heads (rope rope_lo rope_hi rope_re)
open Cert.Reference7Ideal.Read

variable (A0 : FVec Ideal S8192x1024 .f32) (A1 : FVec Ideal S1024 .f32) (A2 : FVec Ideal S2560x1024 .bf16)

theorem r12 (i : S8192x1024.Idx) : val_main_v12 (F := Ideal) A0 A1 i = hn A0 A1 (i 0) (i 1) := by
  idx_vars i
  unfold hn ms
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  done

theorem r15 (i : S8192x2560.Idx) : val_main_v15 (F := Ideal) A0 A1 A2 i = zz A0 A1 A2 (i 0) (i 1) := by
  idx_vars i
  unfold zz
  pointwise [val_main_v15, val_main_v14, val_main_v13, r12]
  exact Finset.sum_congr rfl fun _ _ => mul_comm _ _

theorem r38 (i : S8192x8.Idx) : val_main_v38 (F := Ideal) i = Ideal.cos (ang (i 1) (i 0)) := by
  idx_vars i
  unfold ang
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v16, val_main_cst_2, val_main_cst_3, val_main_cst_4, val_main_cst_5]
  rw [mul_comm]

theorem r40 (i : S8192x8.Idx) : val_main_v40 (F := Ideal) i = Ideal.sin (ang (i 1) (i 0)) := by
  idx_vars i
  unfold ang
  pointwise [val_main_v40, val_main_v37, val_main_v36, val_main_v35, val_main_v34, val_main_v33, val_main_v32, val_main_v31, val_main_v30, val_main_v29, val_main_v28, val_main_v27, val_main_v26, val_main_v25, val_main_v24, val_main_v23, val_main_v22, val_main_v16, val_main_cst_2, val_main_cst_3, val_main_cst_4, val_main_cst_5]
  rw [mul_comm]

theorem r75 (i : S8192x8.Idx) : val_main_v75 (F := Ideal) i = Ideal.cos (ang (i 1) (i 0)) := by
  idx_vars i
  unfold ang
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v16, val_main_cst_6, val_main_cst_7, val_main_cst_8, val_main_cst_9]
  rw [mul_comm]

theorem r77 (i : S8192x8.Idx) : val_main_v77 (F := Ideal) i = Ideal.sin (ang (i 1) (i 0)) := by
  idx_vars i
  unfold ang
  pointwise [val_main_v77, val_main_v74, val_main_v73, val_main_v72, val_main_v71, val_main_v70, val_main_v69, val_main_v68, val_main_v67, val_main_v66, val_main_v65, val_main_v64, val_main_v63, val_main_v62, val_main_v61, val_main_v60, val_main_v59, val_main_v16, val_main_cst_6, val_main_cst_7, val_main_cst_8, val_main_cst_9]
  rw [mul_comm]

/-- The projected row turned, at a row of the queries and at a row of the keys. -/
def qs (R : Fin 8192) (r : Fin 1024) : EReal :=
  rope (n := 1024) rfl (fun r => zz A0 A1 A2 R ⟨r.val, by omega⟩) (fun k => Ideal.cos (ang k R)) (fun k => Ideal.sin (ang k R)) r
def ks (R : Fin 8192) (r : Fin 256) : EReal :=
  rope (n := 256) rfl (fun r => zz A0 A1 A2 R ⟨1024 + r.val, by omega⟩) (fun k => Ideal.cos (ang k R)) (fun k => Ideal.sin (ang k R)) r

/-- One head of a turned column, a row of it at a time. -/
theorem rope_head {n : ℕ} (hn : n % 64 = 0) (z : Fin n → EReal) (c s : Fin 8 → EReal) (A : ℕ) (hA : A % 64 = 0) (d : Fin 64) (h : A + 63 < n) :
    rope hn z c s ⟨A + d.val, by omega⟩ =
      if h1 : d.val < 16 then
        if h2 : d.val < 8 then
          z ⟨A + d.val, by omega⟩ * c ⟨d.val, h2⟩ - z ⟨A + (8 + d.val), by omega⟩ * s ⟨d.val, h2⟩
        else
          z ⟨A + (8 + (d.val - 8)), by omega⟩ * c ⟨d.val - 8, by omega⟩ + z ⟨A + (d.val - 8), by omega⟩ * s ⟨d.val - 8, by omega⟩
      else z ⟨A + (16 + (d.val - 16)), by omega⟩ := by
  have hd := d.isLt
  by_cases h1 : d.val < 16
  · rw [dif_pos h1]
    by_cases h2 : d.val < 8
    · rw [dif_pos h2, show (⟨A + d.val, by omega⟩ : Fin n) = ⟨A + (⟨d.val, h2⟩ : Fin 8).val, by omega⟩ from rfl, rope_lo hn z c s A ⟨d.val, h2⟩ hA _ (by show A + 8 + d.val < n; omega)]
      congr 4
      exact add_assoc A 8 d.val
    · rw [dif_neg h2, show (⟨A + d.val, by omega⟩ : Fin n) = ⟨A + 8 + (⟨d.val - 8, by omega⟩ : Fin 8).val, by omega⟩ from Fin.ext (show A + d.val = A + 8 + (d.val - 8) by omega),
        rope_hi hn z c s (A + 8) ⟨d.val - 8, by omega⟩ (by omega) _ (by show A + 8 - 8 + (d.val - 8) < n; omega)]
      congr 4
      exact add_assoc A 8 _
  · rw [dif_neg h1, show (⟨A + d.val, by omega⟩ : Fin n) = ⟨A + 16 + (⟨d.val - 16, by omega⟩ : Fin 48).val, by omega⟩ from Fin.ext (show A + d.val = A + 16 + (d.val - 16) by omega),
        rope_re hn z c s (A + 16) ⟨d.val - 16, by omega⟩ (by omega)]
    exact congrArg z (Fin.ext (add_assoc A 16 _))

theorem r57 (i : S8192x16x64.Idx) : val_main_v57 (F := Ideal) A0 A1 A2 i =
    qs A0 A1 A2 (i 0) ⟨(i 1).val * 64 + (i 2).val, by have : (i 1).val < 16 := (i 1).isLt; have : (i 2).val < 64 := (i 2).isLt; omega⟩ := by
  idx_vars i
  have hi : i1.val < 16 := i1.isLt
  refine Eq.trans ?_ (rope_head rfl _ _ _ (i1.val * 64) (by omega) i2 (by omega)).symm
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v21, val_main_v17, r15, r38, r40]
  done

theorem r94 (i : S8192x4x64.Idx) : val_main_v94 (F := Ideal) A0 A1 A2 i =
    ks A0 A1 A2 (i 0) ⟨(i 1).val * 64 + (i 2).val, by have : (i 1).val < 4 := (i 1).isLt; have : (i 2).val < 64 := (i 2).isLt; omega⟩ := by
  idx_vars i
  have hi : i1.val < 4 := i1.isLt
  refine Eq.trans ?_ (rope_head rfl _ _ _ (i1.val * 64) (by omega) i2 (by omega)).symm
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v76, val_main_v58, val_main_v18, r15, r75, r77]
  done

theorem r95 (i : S8192x1024.Idx) : val_main_v95 (F := Ideal) A0 A1 A2 i = qs A0 A1 A2 (i 0) (i 1) := by
  idx_vars i
  pointwise [val_main_v95, r57]
  exact congrArg _ (Fin.ext (Nat.div_add_mod' i1.val 64))

theorem r96 (i : S8192x256.Idx) : val_main_v96 (F := Ideal) A0 A1 A2 i = ks A0 A1 A2 (i 0) (i 1) := by
  idx_vars i
  pointwise [val_main_v96, r94]
  exact congrArg _ (Fin.ext (Nat.div_add_mod' i1.val 64))

theorem r100 (i : S1024x8192.Idx) : val_main_v100 (F := Ideal) A0 A1 A2 i = qs A0 A1 A2 (i 1) (i 0) * Ideal.ofBits .f32 0x3E000000#32 := by
  idx_vars i
  pointwise [val_main_v100, val_main_v99, val_main_v98, val_main_v97, val_main_cst_10, r95]
  done

theorem r102 (i : S256x8192.Idx) : val_main_v102 (F := Ideal) A0 A1 A2 i = ks A0 A1 A2 (i 1) (i 0) := by
  idx_vars i
  pointwise [val_main_v102, val_main_v101, r96]
  done

theorem r104 (i : S256x8192.Idx) : val_main_v104 (F := Ideal) A0 A1 A2 i = zz A0 A1 A2 (i 1) ⟨1280 + (i 0).val, by have : (i 0).val < 256 := (i 0).isLt; omega⟩ := by
  idx_vars i
  pointwise [val_main_v104, val_main_v103, val_main_v19, r15]
  done

theorem r106 (i : S1024x8192.Idx) : val_main_v106 (F := Ideal) A0 A1 A2 i = zz A0 A1 A2 (i 1) ⟨1536 + (i 0).val, by have : (i 0).val < 1024 := (i 0).isLt; omega⟩ := by
  idx_vars i
  pointwise [val_main_v106, val_main_v105, val_main_v20, r15]
  done

theorem r108 (i : S1024x8192.Idx) : val_main_v108 (F := Ideal) A0 A1 i = hn A0 A1 (i 1) (i 0) := by
  idx_vars i
  pointwise [val_main_v108, val_main_v107, r12]
  done

theorem frame_ri : Cert.quiescent_Reference7Ideal := fun m ρ _ =>
  (θ_run Cert.Reference7Ideal.defs _ _).mono (fun r h => ⟨fun c => (h c).2.2.2.2.2,
      Idealize.ShloMosaic.sem_eq_zero_of_no_sems (by decide) r.2⟩)
    (Cert.Reference7Ideal.Value.run (F := Ideal) m ρ)

open Cert.Kernel7Ideal in
theorem algebraic : Cert.algebraic_Kernel7Ideal_Reference7Ideal := by
  intro m g m' g' _ hag
  refine ⟨_, _, _, _, _, (θ_run _ _ _).mono (fun _ h c => ⟨(h c).1.trans (final5 m c), (h c).2.1.trans (final6 m c), (h c).2.2.1.trans (final7 m c),
      (h c).2.2.2.1.trans (final8 m c), (h c).2.2.2.2.1.trans (final9 m c), (h c).2.2.2.2.2⟩)
      (Cert.Kernel7Ideal.Value.run_blocks (F := Ideal) m g), ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference7Ideal.Value.run (F := Ideal) m' g')
  · rw [Cert.Reference7Ideal.Read.val_main_v100_eq, (hag c).1, (hag c).2.1, (hag c).2.2]
    exact funext fun i => r100 _ _ _ i
  · rw [Cert.Reference7Ideal.Read.val_main_v102_eq, (hag c).1, (hag c).2.1, (hag c).2.2]
    exact funext fun i => r102 _ _ _ i
  · rw [Cert.Reference7Ideal.Read.val_main_v104_eq, (hag c).1, (hag c).2.1, (hag c).2.2]
    exact funext fun i => r104 _ _ _ i
  · rw [Cert.Reference7Ideal.Read.val_main_v106_eq, (hag c).1, (hag c).2.1, (hag c).2.2]
    exact funext fun i => r106 _ _ _ i
  · rw [Cert.Reference7Ideal.Read.val_main_v108_eq, (hag c).1, (hag c).2.1]
    exact funext fun i => r108 _ _ i

end Cert.K7

end
-- ==== Proof.K6a.lean ====
module

public import proofs.«01_k».proof.Defs
public import proofs.«01_k».proof.Proof.Gen.Kernel6Ideal.Value
public import proofs.«01_k».proof.Proof.Heads
public import proofs.«01_k».proof.Proof.K7a
public import Idealize.ShloMosaic.Lib.Pointwise
public import Idealize.ShloMosaic.Lib.Pipeline.ValueKit
public import Idealize.ShloMosaic.Lib.StableHlo.ReadAt

@[expose] public section

noncomputable section

namespace Cert.K6

open Cert.Kernel6Ideal Cert.Kernel6Ideal.Gen Idealize.ShloMosaic Idealize.ShloMosaic.TcCoe Idealize.SL.Sem
open Idealize.ShloMosaic.Pipeline (Dat)
open Cert.Heads (rope rope_lo rope_hi rope_re cat_heads4 cat_heads16 at_col)
open Cert.K7 (ang)

variable (m : (ℓ : Loc nD τ sig) → Buf (Elt Ideal) ℓ)

theorem rope_lo_neg {n : ℕ} (hn : n % 64 = 0) (z : Fin n → EReal) (c s : Fin 8 → EReal) (A : ℕ) (k : Fin 8) (hA : A % 64 = 0)
    (h : A + k.val < n) (h' : A + 8 + k.val < n) :
    rope hn z c (fun k => -s k) ⟨A + k.val, h⟩ = z ⟨A + k.val, h⟩ * c k + z ⟨A + 8 + k.val, h'⟩ * s k := by
  rw [rope_lo hn z c (fun k => -s k) A k hA h h', mul_neg, sub_eq_add_neg, neg_neg]

theorem rope_hi_neg {n : ℕ} (hn : n % 64 = 0) (z : Fin n → EReal) (c s : Fin 8 → EReal) (A : ℕ) (k : Fin 8) (hA : A % 64 = 8)
    (h : A + k.val < n) (h' : A - 8 + k.val < n) :
    rope hn z c (fun k => -s k) ⟨A + k.val, h⟩ = z ⟨A + k.val, h⟩ * c k - z ⟨A - 8 + k.val, h'⟩ * s k := by
  rw [rope_hi hn z c (fun k => -s k) A k hA h h', mul_neg, ← sub_eq_add_neg]

/-- The turned-back gradient of the queries, and the gradient of the projection, in a grid point. -/
def dqb (x0 : Vec Ideal S1024x512 .bf16) (x4 : Vec Ideal S8x512 .f32) (x5 : Vec Ideal S8x512 .f32) : FVec Ideal S1024x512 .bf16 :=
  k0_pay65 (k0_pay5 x4) (k0_pay6 x5) (k0_pay7 x0) (k0_pay10 x4 x5 x0) (k0_pay11 x4 x5 x0) (k0_pay12 x0) (k0_pay15 x4 x5 x0) (k0_pay16 x4 x5 x0) (k0_pay17 x0) (k0_pay20 x4 x5 x0) (k0_pay21 x4 x5 x0) (k0_pay22 x0) (k0_pay25 x4 x5 x0) (k0_pay26 x4 x5 x0) (k0_pay27 x0) (k0_pay30 x4 x5 x0) (k0_pay31 (k0_pay5 x4) (k0_pay6 x5) (k0_pay28 x0) (k0_pay29 x0)) (k0_pay32 (k0_pay7 x0)) (k0_pay35 (k0_pay5 x4) (k0_pay6 x5) (k0_pay7 x0)) (k0_pay36 (k0_pay5 x4) (k0_pay6 x5) (k0_pay7 x0)) (k0_pay37 (k0_pay7 x0)) (k0_pay40 (k0_pay5 x4) (k0_pay6 x5) (k0_pay7 x0)) (k0_pay41 (k0_pay5 x4) (k0_pay6 x5) (k0_pay7 x0)) (k0_pay42 (k0_pay7 x0)) (k0_pay45 (k0_pay5 x4) (k0_pay6 x5) (k0_pay7 x0)) (k0_pay46 (k0_pay5 x4) (k0_pay6 x5) (k0_pay7 x0)) (k0_pay47 (k0_pay7 x0)) (k0_pay50 (k0_pay5 x4) (k0_pay6 x5) (k0_pay7 x0)) (k0_pay51 (k0_pay5 x4) (k0_pay6 x5) (k0_pay7 x0)) (k0_pay52 (k0_pay7 x0)) (k0_pay55 (k0_pay5 x4) (k0_pay6 x5) (k0_pay7 x0)) (k0_pay56 (k0_pay5 x4) (k0_pay6 x5) (k0_pay7 x0)) (k0_pay57 (k0_pay7 x0)) (k0_pay60 (k0_pay5 x4) (k0_pay6 x5) (k0_pay7 x0)) (k0_pay61 (k0_pay5 x4) (k0_pay6 x5) (k0_pay7 x0)) (k0_pay62 (k0_pay7 x0)) (k0_pay63 (k0_pay7 x0)) (k0_pay64 (k0_pay7 x0))
def dzb (x0 : Vec Ideal S1024x512 .bf16) (x1 : Vec Ideal S256x512 .bf16) (x2 : Vec Ideal S256x512 .bf16) (x3 : Vec Ideal S1024x512 .bf16) (x4 : Vec Ideal S8x512 .f32) (x5 : Vec Ideal S8x512 .f32) : FVec Ideal S2560x512 .bf16 :=
  k0_pay74 (k0_pay5 x4) (k0_pay6 x5) (dqb x0 x4 x5) (k0_pay66 x1) (k0_pay69 (k0_pay5 x4) (k0_pay6 x5) x1) (k0_pay70 (k0_pay5 x4) (k0_pay6 x5) x1) (k0_pay71 x1) (k0_pay72 x1) (k0_pay73 x1) x2 x3

set_option maxHeartbeats 4000000 in
theorem dqb_at (x0 : Vec Ideal S1024x512 .bf16) (x4 : Vec Ideal S8x512 .f32) (x5 : Vec Ideal S8x512 .f32) (r : Fin 1024) (q : Fin 512) :
    dqb x0 x4 x5 (ix2 r q) = rope (n := 1024) rfl (fun r => x0 (ix2 r q)) (fun k => x4 (ix2 k q)) (fun k => -x5 (ix2 k q)) r := by
  show concatenate _ 0 _ (by exact concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S8x512_S8x512_S48x512_S1024x512_d0) (ix2 r q) = _
  refine cat_heads16 (fun r q => rope (n := 1024) rfl (fun r => x0 (ix2 r q)) (fun k => x4 (ix2 k q)) (fun k => -x5 (ix2 k q)) r) ![_, _, _, _, _, _, _, _, _, _, _, _, _, _, _, _] ![_, _, _, _, _, _, _, _, _, _, _, _, _, _, _, _] ![_, _, _, _, _, _, _, _, _, _, _, _, _, _, _, _] ?_ ?_ ?_ _ r q
  · intro e k q
    refine Eq.trans ?_ (rope_lo_neg rfl _ _ _ (64 * e.val) k (by omega) _ (by omega)).symm
    fin_cases e <;> (pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]; first | done | exact congrArg _ (funext fun a => Fin.ext (by fin_cases a <;> simp [ix2])))
  · intro e k q
    refine Eq.trans ?_ (rope_hi_neg rfl _ _ _ (64 * e.val + 8) k (by omega) _ (by omega)).symm
    fin_cases e <;> (pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]; first | done | exact congrArg _ (funext fun a => Fin.ext (by fin_cases a <;> simp [ix2])))
  · intro e k q
    refine Eq.trans ?_ (rope_re rfl _ _ _ (64 * e.val + 16) k (by omega) _).symm
    fin_cases e <;> (pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]; first | done | exact congrArg _ (funext fun a => Fin.ext (by fin_cases a <;> simp [ix2])))

/-- The gradient of a column of the projection, over the blocks of a grid point. -/
def dzv (x0 : Vec Ideal S1024x512 .bf16) (x1 : Vec Ideal S256x512 .bf16) (x2 : Vec Ideal S256x512 .bf16) (x3 : Vec Ideal S1024x512 .bf16) (x4 : Vec Ideal S8x512 .f32) (x5 : Vec Ideal S8x512 .f32) (r : Fin 2560) (q : Fin 512) : EReal :=
  if h : r.val < 1024 then rope (n := 1024) rfl (fun r => x0 (ix2 r q)) (fun k => x4 (ix2 k q)) (fun k => -x5 (ix2 k q)) ⟨r.val, h⟩
  else if h : r.val < 1280 then rope (n := 256) rfl (fun r => x1 (ix2 r q)) (fun k => x4 (ix2 k q)) (fun k => -x5 (ix2 k q)) ⟨r.val - 1024, by omega⟩
  else if h : r.val < 1536 then x2 (ix2 ⟨r.val - 1280, by omega⟩ q)
  else x3 (ix2 ⟨r.val - 1536, by omega⟩ q)

set_option maxHeartbeats 4000000 in
theorem dzb_at (x0 : Vec Ideal S1024x512 .bf16) (x1 : Vec Ideal S256x512 .bf16) (x2 : Vec Ideal S256x512 .bf16) (x3 : Vec Ideal S1024x512 .bf16) (x4 : Vec Ideal S8x512 .f32) (x5 : Vec Ideal S8x512 .f32) (r : Fin 2560) (q : Fin 512) :
    dzb x0 x1 x2 x3 x4 x5 (ix2 r q) = dzv x0 x1 x2 x3 x4 x5 r q := by
  unfold dzv
  show concatenate _ 0 _ (by exact concatenates_S1024x512_S256x512_S256x512_S1024x512_S2560x512_d0) (ix2 r q) = _
  split_ifs with h1 h2 h3
  · exact (at_col _ _ 0 (by exact (by decide : 0 < 4)) _ rfl 0 rfl r q ⟨r.val, h1⟩ (Nat.zero_add _)).trans (dqb_at x0 x4 x5 _ q)
  · refine (at_col _ _ 1 (by exact (by decide : 1 < 4)) _ rfl 1024 rfl r q ⟨r.val - 1024, by omega⟩ (by show 1024 + (r.val - 1024) = r.val; omega)).trans ?_
    generalize (⟨r.val - 1024, by omega⟩ : Fin 256) = r
    show concatenate _ 0 _ (by exact concatenates_S8x512_S8x512_S48x512_S8x512_S8x512_S48x512_S8x512_S8x512_S48x512_S8x512_S8x512_S48x512_S256x512_d0) (ix2 r q) = _
    refine cat_heads4 (fun r q => rope (n := 256) rfl (fun r => x1 (ix2 r q)) (fun k => x4 (ix2 k q)) (fun k => -x5 (ix2 k q)) r) ![_, _, _, _] ![_, _, _, _] ![_, _, _, _] ?_ ?_ ?_ _ r q
    · intro e k q
      refine Eq.trans ?_ (rope_lo_neg rfl _ _ _ (64 * e.val) k (by omega) _ (by omega)).symm
      fin_cases e <;> (pointwise [k0_pay5, k0_pay6, k0_pay66, k0_pay67, k0_pay68, k0_pay69, k0_pay70, k0_pay71, k0_pay72, k0_pay73]; first | done | exact congrArg _ (funext fun a => Fin.ext (by fin_cases a <;> simp [ix2])))
    · intro e k q
      refine Eq.trans ?_ (rope_hi_neg rfl _ _ _ (64 * e.val + 8) k (by omega) _ (by omega)).symm
      fin_cases e <;> (pointwise [k0_pay5, k0_pay6, k0_pay66, k0_pay67, k0_pay68, k0_pay69, k0_pay70, k0_pay71, k0_pay72, k0_pay73]; first | done | exact congrArg _ (funext fun a => Fin.ext (by fin_cases a <;> simp [ix2])))
    · intro e k q
      refine Eq.trans ?_ (rope_re rfl _ _ _ (64 * e.val + 16) k (by omega) _).symm
      fin_cases e <;> (pointwise [k0_pay5, k0_pay6, k0_pay66, k0_pay67, k0_pay68, k0_pay69, k0_pay70, k0_pay71, k0_pay72, k0_pay73]; first | done | exact congrArg _ (funext fun a => Fin.ext (by fin_cases a <;> simp [ix2])))
  · exact at_col _ _ 2 (by exact (by decide : 2 < 4)) _ rfl 1280 rfl r q ⟨r.val - 1280, by omega⟩ (by show 1280 + (r.val - 1280) = r.val; omega)
  · exact at_col _ _ 3 (by exact (by decide : 3 < 4)) _ rfl 1536 rfl r q ⟨r.val - 1536, by omega⟩ (by show 1536 + (r.val - 1536) = r.val; omega)

/-- The gradient of the normalised rows, in a grid point. -/
def dhb (x0 : Vec Ideal S1024x512 .bf16) (x1 : Vec Ideal S256x512 .bf16) (x2 : Vec Ideal S256x512 .bf16) (x3 : Vec Ideal S1024x512 .bf16) (x4 : Vec Ideal S8x512 .f32) (x5 : Vec Ideal S8x512 .f32) (w : Vec Ideal S2560x1024 .bf16) : FVec Ideal S512x1024 .f32 :=
  k0_pay75 (k0_pay5 x4) (k0_pay6 x5) (dqb x0 x4 x5) (k0_pay66 x1) (k0_pay69 (k0_pay5 x4) (k0_pay6 x5) x1) (k0_pay70 (k0_pay5 x4) (k0_pay6 x5) x1) (k0_pay71 x1) (k0_pay72 x1) (k0_pay73 x1) x2 x3 w

theorem dhb_at (x0 : Vec Ideal S1024x512 .bf16) (x1 : Vec Ideal S256x512 .bf16) (x2 : Vec Ideal S256x512 .bf16) (x3 : Vec Ideal S1024x512 .bf16) (x4 : Vec Ideal S8x512 .f32) (x5 : Vec Ideal S8x512 .f32) (w : Vec Ideal S2560x1024 .bf16) (q : Fin 512) (d : Fin 1024) :
    dhb x0 x1 x2 x3 x4 x5 w (ix2 q d) = ∑ r : Fin 2560, dzv x0 x1 x2 x3 x4 x5 r q * w (ix2 r d) := by
  refine Eq.trans (b := ∑ r : Fin 2560, dzb x0 x1 x2 x3 x4 x5 (ix2 r q) * w (ix2 r d)) ?_ (Finset.sum_congr rfl fun r _ => by rw [dzb_at])
  unfold dhb dzb
  pointwise [k0_pay75]
  done

section Spec
variable (A0 : FVec Ideal S1024x8192 .bf16) (A1 : FVec Ideal S256x8192 .bf16) (A2 : FVec Ideal S256x8192 .bf16) (A3 : FVec Ideal S1024x8192 .bf16)
  (A4 : FVec Ideal S2560x1024 .bf16) (A5 : FVec Ideal S8192x1024 .f32) (A6 : FVec Ideal S1024 .f32) (A7 : FVec Ideal S8192x1024 .f32)

/-- The gradient of the projection: the queries' and keys' parts turned back, then the values' and the gate's. -/
def dzz (r : Fin 2560) (R : Fin 8192) : EReal :=
  if h : r.val < 1024 then rope (n := 1024) rfl (fun r => A0 (ix2 r R)) (fun k => Ideal.cos (ang k R)) (fun k => -Ideal.sin (ang k R)) ⟨r.val, h⟩
  else if h : r.val < 1280 then rope (n := 256) rfl (fun r => A1 (ix2 r R)) (fun k => Ideal.cos (ang k R)) (fun k => -Ideal.sin (ang k R)) ⟨r.val - 1024, by omega⟩
  else if h : r.val < 1536 then A2 (ix2 ⟨r.val - 1280, by omega⟩ R)
  else A3 (ix2 ⟨r.val - 1536, by omega⟩ R)
/-- The gradient of the normalised rows. -/
def dh (R : Fin 8192) (d : Fin 1024) : EReal := ∑ r : Fin 2560, dzz A0 A1 A2 A3 r R * A4 (ix2 r d)
/-- The mean square of a row, plus the small constant. -/
def ms (R : Fin 8192) : EReal :=
  Ideal.div (∑ k : Fin 1024, A5 (ix2 R k) * A5 (ix2 R k)) (Ideal.ofBits .f32 0x44800000#32) + Ideal.ofBits .f32 0x358637BD#32
/-- The gradient with respect to the input row. -/
def Gdx (R : Fin 8192) (d : Fin 1024) : EReal :=
  A7 (ix2 R d) + Ideal.rsqrt (ms A5 R) * (dh A0 A1 A2 A3 A4 R d * A6 (ix1 d) - A5 (ix2 R d) * Ideal.rsqrt (ms A5 R)
    * Ideal.div (∑ k : Fin 1024, dh A0 A1 A2 A3 A4 R k * A6 (ix1 k) * (A5 (ix2 R k) * Ideal.rsqrt (ms A5 R))) (Ideal.ofBits .f32 0x44800000#32))
/-- The gradient with respect to the norm's weight. -/
def Gdn (d : Fin 1024) : EReal :=
  ∑ R : Fin 8192, dh A0 A1 A2 A3 A4 R d * (A5 (ix2 R d) * Ideal.rsqrt (ms A5 R))
end Spec

theorem Vcos (c : Dev nD) (k : Fin 8) (R : Fin 8192) : (V m c main_v16 : Vec Ideal S8x8192 .f32) (ix2 k R) = Ideal.cos (ang k R) := by
  unfold V
  unfold ang
  after_reads_at

theorem Vsin (c : Dev nD) (k : Fin 8) (R : Fin 8192) : (V m c main_v17 : Vec Ideal S8x8192 .f32) (ix2 k R) = Ideal.sin (ang k R) := by
  unfold V
  unfold ang
  after_reads_at

theorem e0 : ∀ t : Fin cfg0.N, win0_0.index t = ![0, t.val] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![0, t.val] := (by decide +kernel : ∀ t : Fin grid0.N, _)
theorem e13 : ∀ t : Fin cfg0.N, win0_13.index t = ![0, 0] := (by decide +kernel : ∀ t : Fin grid0.N, _)

section Blocks
variable (c : Dev nD) (t : Fin cfg0.N)
/-- The blocks of a grid point. -/
abbrev b0 : Vec Ideal S1024x512 .bf16 := iblk m c 0 t
abbrev b1 : Vec Ideal S256x512 .bf16 := iblk m c 1 t
abbrev b2 : Vec Ideal S256x512 .bf16 := iblk m c 2 t
abbrev b3 : Vec Ideal S1024x512 .bf16 := iblk m c 3 t
abbrev b4 : Vec Ideal S8x512 .f32 := iblk m c 4 t
abbrev b5 : Vec Ideal S8x512 .f32 := iblk m c 5 t
abbrev b6 : Vec Ideal S2560x1024 .bf16 := iblk m c 6 t
abbrev b7 : Vec Ideal S512x1024 .f32 := iblk m c 7 t
abbrev b8 : Vec Ideal S1x1024 .f32 := iblk m c 8 t
abbrev b9 : Vec Ideal S512x1024 .f32 := iblk m c 9 t

variable (q : Fin 512) (R : Fin 8192) (hR : R.val = 512 * t.val + q.val)
include hR

theorem b0_at (r : Fin 1024) : b0 m c t (ix2 r q) = m ((c : Thread nD τ).loc main_arg0) (ix2 r R) := by blk_point [b0, iblk, V, e0]
theorem b1_at (r : Fin 256) : b1 m c t (ix2 r q) = m ((c : Thread nD τ).loc main_arg1) (ix2 r R) := by blk_point [b1, iblk, V, e1]
theorem b2_at (r : Fin 256) : b2 m c t (ix2 r q) = m ((c : Thread nD τ).loc main_arg2) (ix2 r R) := by blk_point [b2, iblk, V, e2]
theorem b3_at (r : Fin 1024) : b3 m c t (ix2 r q) = m ((c : Thread nD τ).loc main_arg3) (ix2 r R) := by blk_point [b3, iblk, V, e3]
theorem b4_at (k : Fin 8) : b4 m c t (ix2 k q) = Ideal.cos (ang k R) := Eq.trans (by blk_point [b4, iblk, e4]) (Vcos m c k R)
theorem b5_at (k : Fin 8) : b5 m c t (ix2 k q) = Ideal.sin (ang k R) := Eq.trans (by blk_point [b5, iblk, e5]) (Vsin m c k R)
theorem b7_at (k : Fin 1024) : b7 m c t (ix2 q k) = m ((c : Thread nD τ).loc main_arg5) (ix2 R k) := by blk_point [b7, iblk, V, e7]
theorem b9_at (k : Fin 1024) : b9 m c t (ix2 q k) = m ((c : Thread nD τ).loc main_arg7) (ix2 R k) := by blk_point [b9, iblk, V, e9]
omit hR
theorem b6_at (r : Fin 2560) (d : Fin 1024) : b6 m c t (ix2 r d) = m ((c : Thread nD τ).loc main_arg4) (ix2 r d) := by blk_point [b6, iblk, V, e6]
theorem b8_at (d : Fin 1024) : b8 m c t (ix2 0 d) = m ((c : Thread nD τ).loc main_arg6) (ix1 d) := by blk_point [b8, iblk, V, e8]
include hR

theorem dz_at (r : Fin 2560) : dzv (b0 m c t) (b1 m c t) (b2 m c t) (b3 m c t) (b4 m c t) (b5 m c t) r q
    = dzz (m ((c : Thread nD τ).loc main_arg0)) (m ((c : Thread nD τ).loc main_arg1)) (m ((c : Thread nD τ).loc main_arg2)) (m ((c : Thread nD τ).loc main_arg3)) r R := by
  unfold dzv dzz
  simp only [b0_at m c t q R hR, b1_at m c t q R hR, b2_at m c t q R hR, b3_at m c t q R hR, b4_at m c t q R hR, b5_at m c t q R hR]

theorem dh_at (d : Fin 1024) : dhb (b0 m c t) (b1 m c t) (b2 m c t) (b3 m c t) (b4 m c t) (b5 m c t) (b6 m c t) (ix2 q d)
    = dh (m ((c : Thread nD τ).loc main_arg0)) (m ((c : Thread nD τ).loc main_arg1)) (m ((c : Thread nD τ).loc main_arg2)) (m ((c : Thread nD τ).loc main_arg3))
      (m ((c : Thread nD τ).loc main_arg4)) R d := by
  rw [dhb_at]
  unfold dh
  simp only [dz_at m c t q R hR, b6_at]
end Blocks

theorem pay2_at (v : Vec Ideal S512x1024 .f32) (x7 : Vec Ideal S512x1024 .f32) (x8 : Vec Ideal S1x1024 .f32) (x9 : Vec Ideal S512x1024 .f32) (q : Fin 512) (d : Fin 1024) :
    k0_pay2 v (k0_pay76 x7) (k0_pay77 x7) x8 x9 (ix2 q d)
      = x9 (ix2 q d) + Ideal.rsqrt (Ideal.div (∑ k : Fin 1024, x7 (ix2 q k) * x7 (ix2 q k)) (Ideal.ofBits .f32 0x44800000#32) + Ideal.ofBits .f32 0x358637BD#32)
        * (v (ix2 q d) * x8 (ix2 0 d) - x7 (ix2 q d) * Ideal.rsqrt (Ideal.div (∑ k : Fin 1024, x7 (ix2 q k) * x7 (ix2 q k)) (Ideal.ofBits .f32 0x44800000#32) + Ideal.ofBits .f32 0x358637BD#32)
          * Ideal.div (∑ k : Fin 1024, v (ix2 q k) * x8 (ix2 0 k) * (x7 (ix2 q k) * Ideal.rsqrt (Ideal.div (∑ k : Fin 1024, x7 (ix2 q k) * x7 (ix2 q k)) (Ideal.ofBits .f32 0x44800000#32) + Ideal.ofBits .f32 0x358637BD#32))) (Ideal.ofBits .f32 0x44800000#32)) := by
  pointwise [k0_pay2, k0_pay76, k0_pay77]
  done

theorem pay1_at (v : Vec Ideal S512x1024 .f32) (x7 : Vec Ideal S512x1024 .f32) (acc : Vec Ideal S1x1024 .f32) (j : S1x1024.Idx) :
    k0_pay1 v (k0_pay77 x7) acc j = acc j + ∑ q : Fin 512, v (ix2 q (j 1)) *
      (x7 (ix2 q (j 1)) * Ideal.rsqrt (Ideal.div (∑ k : Fin 1024, x7 (ix2 q k) * x7 (ix2 q k)) (Ideal.ofBits .f32 0x44800000#32) + Ideal.ofBits .f32 0x358637BD#32)) := by
  idx_vars j
  pointwise [k0_pay1, k0_pay76, k0_pay77]
  done

theorem hzero (j : S1x1024.Idx) : (k0_pay4 (F := Ideal)) j = 0 := by
  idx_vars j
  pointwise [k0_pay4]
  done

/-- The gradient of the normalised rows, of a grid point's blocks. -/
abbrev dhp (c : Dev nD) (t : Fin cfg0.N) : FVec Ideal S512x1024 .f32 :=
  dhb (b0 m c t) (b1 m c t) (b2 m c t) (b3 m c t) (b4 m c t) (b5 m c t) (b6 m c t)

theorem out10 (c : Dev nD) (t : Fin cfg0.N) : (outsAt0 m c t.val t.isLt).1
    = k0_pay2 (dhp m c t) (k0_pay76 (b7 m c t)) (k0_pay77 (b7 m c t)) (b8 m c t) (b9 m c t) := by
  by_cases h : t.val % 16 = 0
  · rw [outsAt0_A m c t h]; frame_out; rfl
  · rw [outsAt0_B m c t h]; frame_out; rfl

theorem out11 (c : Dev nD) (t : Fin cfg0.N) : (outsAt0 m c t.val t.isLt).2.1
    = k0_pay3 (dhp m c t) (k0_pay76 (b7 m c t)) (k0_pay77 (b7 m c t)) (b8 m c t) (b9 m c t) := by
  by_cases h : t.val % 16 = 0
  · rw [outsAt0_A m c t h]; frame_out; rfl
  · rw [outsAt0_B m c t h]; frame_out; rfl

theorem out12 (c : Dev nD) (t : Fin cfg0.N) : (outsAt0 m c t.val t.isLt).2.2.1
    = dzb (b0 m c t) (b1 m c t) (b2 m c t) (b3 m c t) (b4 m c t) (b5 m c t) := by
  by_cases h : t.val % 16 = 0
  · rw [outsAt0_A m c t h]; frame_out; rfl
  · rw [outsAt0_B m c t h]; frame_out; rfl

theorem dx_at (c : Dev nD) (t : Fin cfg0.N) (q : Fin 512) (R : Fin 8192) (hR : R.val = 512 * t.val + q.val) (d : Fin 1024) :
    k0_pay2 (dhp m c t) (k0_pay76 (b7 m c t)) (k0_pay77 (b7 m c t)) (b8 m c t) (b9 m c t) (ix2 q d)
      = Gdx (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) R d := by
  rw [pay2_at]
  unfold Gdx ms dhp
  simp only [dh_at m c t q R hR, b7_at m c t q R hR, b8_at, b9_at m c t q R hR]

theorem final10 (c : Dev nD) : (dats m 0 c).arrAt 10 cfg0.N = fun i : S8192x1024.Idx =>
    Gdx (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 10 _ (by decide +kernel) fun t hf y => ?_
  blk_simp
  rw [after0_10, out10 m c t]
  idx_vars y
  have hR : ((((View.whole main_v19_0).slice (win0_10.rect t)).emb (ix2 y0 y1)) 0).val = 512 * t.val + y0.val := by
    blk_simp [e10]
    simp
    omega
  have hr : (((View.whole main_v19_0).slice (win0_10.rect t)).emb (ix2 y0 y1)) 1 = y1 := by
    apply Fin.ext
    blk_simp [e10]
  exact (dx_at m c t y0 _ hR y1).trans (congrArg _ hr.symm)

theorem final11 (c : Dev nD) : (dats m 0 c).arrAt 11 cfg0.N = fun i : S8192x1024.Idx =>
    Gdx (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 11 _ (by decide +kernel) fun t hf y => ?_
  blk_simp
  rw [after0_11, out11 m c t]
  idx_vars y
  have hR : ((((View.whole main_v19_1).slice (win0_11.rect t)).emb (ix2 y0 y1)) 0).val = 512 * t.val + y0.val := by
    blk_simp [e11]
    simp
    omega
  have hr : (((View.whole main_v19_1).slice (win0_11.rect t)).emb (ix2 y0 y1)) 1 = y1 := by
    apply Fin.ext
    blk_simp [e11]
  exact (dx_at m c t y0 _ hR y1).trans (congrArg _ hr.symm)

theorem final12 (c : Dev nD) : (dats m 0 c).arrAt 12 cfg0.N = fun i : S2560x8192.Idx =>
    dzz (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 12 _ (by decide +kernel) fun t hf y => ?_
  blk_simp
  rw [after0_12, out12 m c t]
  idx_vars y
  have hR : ((((View.whole main_v19_2).slice (win0_12.rect t)).emb (ix2 y0 y1)) 1).val = 512 * t.val + y1.val := by
    blk_simp [e12]
    simp
    omega
  have hr : (((View.whole main_v19_2).slice (win0_12.rect t)).emb (ix2 y0 y1)) 0 = y0 := by
    apply Fin.ext
    blk_simp [e12]
  rw [dzb_at, dz_at m c t y1 _ hR, hr]

/-- The part a grid point adds to the norm's gradient. -/
def term (c : Dev nD) (t : Fin cfg0.N) (d : Fin 1024) : EReal :=
  ∑ q : Fin 512, dhp m c t (ix2 q d) *
      (b7 m c t (ix2 q d) * Ideal.rsqrt (Ideal.div (∑ k : Fin 1024, b7 m c t (ix2 q k) * b7 m c t (ix2 q k)) (Ideal.ofBits .f32 0x44800000#32) + Ideal.ofBits .f32 0x358637BD#32))

theorem out13 (c : Dev nD) (t : Fin cfg0.N) (h7 : t.val % 16 = 15) (j : S1x1024.Idx) :
    (outsAt0 m c t.val t.isLt).2.2.2 j
      = ∑ s : Fin 16, term m c ⟨16 * (t.val / 16) + s.val, Pipeline.run_point_lt_of_flush t h7 s⟩ (j 1) := by
  have h := Pipeline.eq_sum_fin_of_reset_step_apply_of_flush (fun n h => (outsAt0 m c n h).2.2.2) 16 (fun _ => 0) (fun t (j : S1x1024.Idx) => term m c t (j 1))
    (fun t h0 j => by
      show (outsAt0 m c t.val t.isLt).2.2.2 j = _
      rw [outsAt0_A m c t h0]; frame_out
      exact (pay1_at (dhp m c t) (b7 m c t) _ j).trans (by rw [hzero]; rfl))
    (fun t h0 j => by
      show (outsAt0 m c t.val t.isLt).2.2.2 j = _
      rw [outsAt0_B m c t h0]; frame_out
      exact (pay1_at (dhp m c t) (b7 m c t) _ j).trans rfl) t h7 j
  rw [zero_add] at h
  exact h

theorem sum_term (c : Dev nD) (t : Fin cfg0.N) (h7 : t.val % 16 = 15) (h1 : t.val / 16 = 0) (d : Fin 1024) :
    ∑ s : Fin 16, term m c ⟨16 * (t.val / 16) + s.val, Pipeline.run_point_lt_of_flush t h7 s⟩ d
      = Gdn (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) d := by
  unfold Gdn term ms
  refine Fin.sum_mul_add_congr fun s k hl => ?_
  have e : (⟨s.val * 512 + k.val, hl⟩ : Fin 8192).val = 512 * (⟨16 * (t.val / 16) + s.val, Pipeline.run_point_lt_of_flush t h7 s⟩ : Fin cfg0.N).val + k.val := by
    show s.val * 512 + k.val = 512 * (16 * (t.val / 16) + s.val) + k.val
    omega
  have hH := dh_at m c ⟨16 * (t.val / 16) + s.val, Pipeline.run_point_lt_of_flush t h7 s⟩ k _ e d
  have hX := b7_at m c ⟨16 * (t.val / 16) + s.val, Pipeline.run_point_lt_of_flush t h7 s⟩ k _ e
  simp only [dhp]
  rw [hH]
  simp only [hX]

theorem final13 (c : Dev nD) : (dats m 0 c).arrAt 13 cfg0.N = fun i : S1x1024.Idx =>
    Gdn (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (i 1) := by
  refine (dats m 0 c).arrAt_eq_of_covers 13 _ (by decide +kernel) fun t hf y => ?_
  have h7 := (flush0_13 t).mp hf
  have h1 : t.val / 16 = 0 := by have := t.isLt; have : cfg0.N = 16 := N_0; omega
  blk_simp
  rw [after0_13, out13 m c t h7]
  have hr : (((View.whole main_v19_3).slice (win0_13.rect t)).emb y) 1 = y 1 := by
    idx_vars y
    apply Fin.ext
    blk_simp [e13]
  rw [hr]
  exact sum_term m c t h7 h1 (y 1)

end Cert.K6
-- ==== Proof.K6.lean ====
module

public import proofs.«01_k».proof.Proof.K6a
public import proofs.«01_k».proof.Proof.K7
public import proofs.«01_k».proof.Proof.RealLib
public import proofs.«01_k».proof.Proof.Gen.Pre_finite6
public import proofs.«01_k».proof.Proof.Gen.Reference6Ideal.Run
public import proofs.«01_k».proof.Proof.Gen.Reference6Ideal.Read
public import Idealize.ShloMosaic.Lib.Pointwise
public import Idealize.ShloMosaic.Lib.ReduceAll

@[expose] public section

noncomputable section

namespace Cert.K6

open Cert.Reference6Ideal Idealize.ShloMosaic Idealize.ShloMosaic.TcCoe Idealize.SL.Sem
open Cert.Heads (rope rope_lo rope_hi rope_re)
open Cert.K7 (rope_head ang)
open Cert.Reference6Ideal.Read
open Cert.RealLib

theorem r41 (i : S8192x8.Idx) : val_main_v41 (F := Ideal) i = Ideal.cos (ang (i 1) (i 0)) := by
  idx_vars i
  unfold ang
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v19, val_main_cst_3, val_main_cst_4, val_main_cst_5, val_main_cst_6]
  rw [mul_comm]

theorem r43 (i : S8192x8.Idx) : val_main_v43 (F := Ideal) i = Ideal.sin (ang (i 1) (i 0)) := by
  idx_vars i
  unfold ang
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v19, val_main_cst_3, val_main_cst_4, val_main_cst_5, val_main_cst_6]
  rw [mul_comm]

theorem r78 (i : S8192x8.Idx) : val_main_v78 (F := Ideal) i = Ideal.cos (ang (i 1) (i 0)) := by
  idx_vars i
  unfold ang
  pointwise [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v19, val_main_cst_7, val_main_cst_8, val_main_cst_9, val_main_cst_10]
  rw [mul_comm]

theorem r80 (i : S8192x8.Idx) : val_main_v80 (F := Ideal) i = Ideal.sin (ang (i 1) (i 0)) := by
  idx_vars i
  unfold ang
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v19, val_main_cst_7, val_main_cst_8, val_main_cst_9, val_main_cst_10]
  rw [mul_comm]

variable (A0 : FVec Ideal S1024x8192 .bf16) (A1 : FVec Ideal S256x8192 .bf16) (A2 : FVec Ideal S256x8192 .bf16) (A3 : FVec Ideal S1024x8192 .bf16)
  (A4 : FVec Ideal S2560x1024 .bf16) (A5 : FVec Ideal S8192x1024 .f32) (A6 : FVec Ideal S1024 .f32) (A7 : FVec Ideal S8192x1024 .f32)

/-- The gradient of the queries' and of the keys' rows, turned back. -/
def qb (R : Fin 8192) (r : Fin 1024) : EReal :=
  rope (n := 1024) rfl (fun r => A0 (ix2 r R)) (fun k => Ideal.cos (ang k R)) (fun k => -Ideal.sin (ang k R)) r
def kb (R : Fin 8192) (r : Fin 256) : EReal :=
  rope (n := 256) rfl (fun r => A1 (ix2 r R)) (fun k => Ideal.cos (ang k R)) (fun k => -Ideal.sin (ang k R)) r

theorem r152 (i : S8192x16x64.Idx) : val_main_v152 (F := Ideal) A0 i =
    qb A0 (i 0) ⟨(i 1).val * 64 + (i 2).val, by have : (i 1).val < 16 := (i 1).isLt; have : (i 2).val < 64 := (i 2).isLt; omega⟩ := by
  idx_vars i
  have hi : i1.val < 16 := i1.isLt
  refine Eq.trans ?_ (rope_head rfl _ _ _ (i1.val * 64) (by omega) i2 (by omega)).symm
  pointwise [val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v109, val_main_v101, val_main_v100, val_main_v44, val_main_v42, val_main_cst_15, val_main_cst_16, val_main_cst_17, val_main_cst_18, r41, r43]
  have hd : i2.val < 64 := i2.isLt
  by_cases h1 : i2.val < 16
  · have n1 : ¬ (16 ≤ i2.val) := by omega
    by_cases h2 : i2.val < 8
    · have n2 : ¬ (8 ≤ i2.val) := by omega
      simp only [n1, h1, n2, h2, false_and, ↓reduceDIte, zero_add, mul_neg, sub_eq_add_neg, neg_neg]
      exact add_comm _ _
    · have n2 : 8 ≤ i2.val := by omega
      have n3 : i2.val - 8 < 8 := by omega
      simp only [n1, h1, n2, n3, h2, and_self, false_and, ↓reduceDIte, zero_add, add_zero, neg_mul, mul_neg]
  · have n1 : 16 ≤ i2.val := by omega
    have n3 : i2.val - 16 < 48 := by omega
    simp only [n1, n3, h1, and_self, ↓reduceDIte, add_zero]

theorem r130 (i : S8192x4x64.Idx) : val_main_v130 (F := Ideal) A1 i =
    kb A1 (i 0) ⟨(i 1).val * 64 + (i 2).val, by have : (i 1).val < 4 := (i 1).isLt; have : (i 2).val < 64 := (i 2).isLt; omega⟩ := by
  idx_vars i
  have hi : i1.val < 4 := i1.isLt
  refine Eq.trans ?_ (rope_head rfl _ _ _ (i1.val * 64) (by omega) i2 (by omega)).symm
  pointwise [val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v108, val_main_v103, val_main_v102, val_main_v81, val_main_v79, val_main_cst_11, val_main_cst_12, val_main_cst_13, val_main_cst_14, r78, r80]
  have hd : i2.val < 64 := i2.isLt
  by_cases h1 : i2.val < 16
  · have n1 : ¬ (16 ≤ i2.val) := by omega
    by_cases h2 : i2.val < 8
    · have n2 : ¬ (8 ≤ i2.val) := by omega
      simp only [n1, h1, n2, h2, false_and, ↓reduceDIte, zero_add, mul_neg, sub_eq_add_neg, neg_neg]
      exact add_comm _ _
    · have n2 : 8 ≤ i2.val := by omega
      have n3 : i2.val - 8 < 8 := by omega
      simp only [n1, h1, n2, n3, h2, and_self, false_and, ↓reduceDIte, zero_add, add_zero, neg_mul, mul_neg]
  · have n1 : 16 ≤ i2.val := by omega
    have n3 : i2.val - 16 < 48 := by omega
    simp only [n1, n3, h1, and_self, ↓reduceDIte, add_zero]

theorem r153 (i : S8192x1024.Idx) : val_main_v153 (F := Ideal) A0 i = qb A0 (i 0) (i 1) := by
  idx_vars i
  pointwise [val_main_v153, r152]
  exact congrArg _ (Fin.ext (Nat.div_add_mod' i1.val 64))

theorem r131 (i : S8192x256.Idx) : val_main_v131 (F := Ideal) A1 i = kb A1 (i 0) (i 1) := by
  idx_vars i
  pointwise [val_main_v131, r130]
  exact congrArg _ (Fin.ext (Nat.div_add_mod' i1.val 64))

theorem r154 (i : S8192x2560.Idx) : val_main_v154 (F := Ideal) A0 A1 A2 A3 i = dzz A0 A1 A2 A3 (i 1) (i 0) := by
  idx_vars i
  have hr := i1.isLt
  unfold dzz
  pointwise [val_main_v154, val_main_v104, val_main_v105, val_main_v106, val_main_v107, r153, r131]
  by_cases h1 : i1.val < 1024
  · rw [dif_pos h1, dif_pos h1]; rfl
  · rw [dif_neg h1, dif_neg h1]
    by_cases h2 : i1.val < 1280
    · have n2 : i1.val - 1024 < 256 := by omega
      rw [dif_pos h2, dif_pos n2]; rfl
    · have n2 : ¬ i1.val - 1024 < 256 := by omega
      rw [dif_neg h2, dif_neg n2]
      by_cases h3 : i1.val < 1536
      · have n3 : i1.val - 1024 - 256 < 256 := by omega
        rw [dif_pos h3, dif_pos n3]
        exact congrArg (fun r => A2 (ix2 r i0)) (Fin.ext (show i1.val - 1024 - 256 = i1.val - 1280 by omega))
      · have n3 : ¬ i1.val - 1024 - 256 < 256 := by omega
        rw [dif_neg h3, dif_neg n3]
        exact congrArg (fun r => A3 (ix2 r i0)) (Fin.ext (show i1.val - 1024 - 256 - 256 = i1.val - 1536 by omega))

theorem r155 (i : S8192x1024.Idx) : val_main_v155 (F := Ideal) A0 A1 A2 A3 A4 i = dh A0 A1 A2 A3 A4 (i 0) (i 1) := by
  idx_vars i
  unfold dh
  pointwise [val_main_v155, val_main_v16, val_main_v17, r154]
  done

theorem r6 (i : Cert.Reference6Ideal.S8192x1.Idx) : val_main_v6 (F := Ideal) A5 i = ms A5 (i 0) := by
  idx_vars i
  unfold ms
  pointwise [val_main_v6, val_main_v5, val_main_v4, val_main_v3, val_main_v2, val_main_v1, val_main_v0, val_main_cst, val_main_cst_0, val_main_cst_1]
  done

theorem r180 (i : S1x1024.Idx) : val_main_v180 (F := Ideal) A0 A1 A2 A3 A4 A5 i = Gdn A0 A1 A2 A3 A4 A5 (i 1) := by
  idx_vars i
  unfold Gdn
  pointwise [val_main_v180, val_main_v161, val_main_v158, val_main_v157, val_main_v156, val_main_v12, val_main_v11, val_main_v7, val_main_cst_19, val_main_cst_20, r6, r155]
  exact (Fin.sum_univ_one _).trans (Finset.sum_congr rfl fun R _ => mul_comm _ _)

theorem r179 (i : S2560x8192.Idx) : val_main_v179 (F := Ideal) A0 A1 A2 A3 i = dzz A0 A1 A2 A3 (i 0) (i 1) := by
  idx_vars i
  pointwise [val_main_v179, val_main_v178, r154]
  done

theorem isR_mul {a b : EReal} (ha : IsR a) (hb : IsR b) : IsR (a * b) := by
  obtain ⟨x, rfl⟩ := ha
  obtain ⟨y, rfl⟩ := hb
  exact ⟨x * y, (EReal.coe_mul x y).symm⟩
theorem isR_add {a b : EReal} (ha : IsR a) (hb : IsR b) : IsR (a + b) := by
  obtain ⟨x, rfl⟩ := ha
  obtain ⟨y, rfl⟩ := hb
  exact ⟨x + y, (EReal.coe_add x y).symm⟩
theorem isR_neg {a : EReal} (ha : IsR a) : IsR (-a) := by
  obtain ⟨x, rfl⟩ := ha
  exact ⟨-x, (EReal.coe_neg x).symm⟩
theorem isR_sub {a b : EReal} (ha : IsR a) (hb : IsR b) : IsR (a - b) := by
  rw [sub_eq_add_neg]
  exact isR_add ha (isR_neg hb)
theorem isR_sum {n : ℕ} (f : Fin n → EReal) (h : ∀ k, IsR (f k)) : IsR (∑ k, f k) := by
  obtain ⟨g, rfl⟩ := exists_fun f h
  exact ⟨_, sum_coe _ _⟩

theorem lit16 : Ideal.ofBits .f32 0x41800000#32 = ((16 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit0 : Ideal.ofBits .f32 0x00000000#32 = ((0 : ℝ) : EReal) := by
  simp [Ideal.ofBits, Ideal.ieee, -EReal.coe_mul]
theorem lit5e5 : Ideal.ofBits .f32 0x48F42400#32 = ((500000 : ℝ) : EReal) := by
  simp [Ideal.ofBits, Ideal.ieee, -EReal.coe_mul]; norm_num

theorem isR_sitofp (x : BitVec 32) : IsR (FloatOps.sitofp .f32 x : Ideal .f32) := ⟨_, rfl⟩

theorem isR_ang (k : Fin 8) (R : Fin 8192) : IsR (ang k R) := by
  unfold ang
  obtain ⟨a, ha⟩ := isR_sitofp (BitVec.ofNat 32 k.val)
  refine isR_mul ?_ (isR_sitofp _)
  rw [ha, lit16, lit2, lit0, lit5e5, ← EReal.coe_mul, ← EReal.coe_add, ← EReal.coe_neg, div_coe' _ _ (by norm_num)]
  exact ⟨_, rfl⟩

theorem isR_cos (k : Fin 8) (R : Fin 8192) : IsR (Ideal.cos (ang k R)) := by
  obtain ⟨a, ha⟩ := isR_ang k R
  rw [ha]
  exact ⟨_, rfl⟩
theorem isR_sin (k : Fin 8) (R : Fin 8192) : IsR (-Ideal.sin (ang k R)) := by
  obtain ⟨a, ha⟩ := isR_ang k R
  rw [ha]
  exact isR_neg ⟨_, rfl⟩

theorem isR_rope {n : ℕ} (hn : n % 64 = 0) (z : Fin n → EReal) (c s : Fin 8 → EReal) (hz : ∀ k, IsR (z k)) (hc : ∀ k, IsR (c k)) (hs : ∀ k, IsR (s k)) (r : Fin n) :
    IsR (rope hn z c s r) := by
  unfold rope
  split_ifs
  · exact isR_sub (isR_mul (hz _) (hc _)) (isR_mul (hz _) (hs _))
  · exact isR_add (isR_mul (hz _) (hc _)) (isR_mul (hz _) (hs _))
  · exact hz _

theorem isR_dz (h0 : ∀ i, IsR (A0 i)) (h1 : ∀ i, IsR (A1 i)) (h2 : ∀ i, IsR (A2 i)) (h3 : ∀ i, IsR (A3 i)) (r : Fin 2560) (R : Fin 8192) :
    IsR (dzz A0 A1 A2 A3 r R) := by
  unfold dzz
  split_ifs
  · exact isR_rope _ _ _ _ (fun _ => h0 _) (fun k => isR_cos k R) (fun k => isR_sin k R) _
  · exact isR_rope _ _ _ _ (fun _ => h1 _) (fun k => isR_cos k R) (fun k => isR_sin k R) _
  · exact h2 _
  · exact h3 _

theorem isR_dh (h0 : ∀ i, IsR (A0 i)) (h1 : ∀ i, IsR (A1 i)) (h2 : ∀ i, IsR (A2 i)) (h3 : ∀ i, IsR (A3 i)) (h4 : ∀ i, IsR (A4 i)) (R : Fin 8192) (d : Fin 1024) :
    IsR (dh A0 A1 A2 A3 A4 R d) :=
  isR_sum _ fun r => isR_mul (isR_dz A0 A1 A2 A3 h0 h1 h2 h3 r R) (h4 _)

theorem r176 (h0 : ∀ i, IsR (A0 i)) (h1 : ∀ i, IsR (A1 i)) (h2 : ∀ i, IsR (A2 i)) (h3 : ∀ i, IsR (A3 i)) (h4 : ∀ i, IsR (A4 i))
    (h5 : ∀ i, IsR (A5 i)) (h6 : ∀ i, IsR (A6 i)) (i : S8192x1024.Idx) :
    val_main_v176 (F := Ideal) A0 A1 A2 A3 A4 A5 A6 A7 i = Gdx A0 A1 A2 A3 A4 A5 A6 A7 (i 0) (i 1) := by
  idx_vars i
  pointwise [val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v7, val_main_v8, val_main_v9, val_main_v10, val_main_v13, val_main_cst_2, val_main_cst_20, val_main_cst_21, val_main_cst_22, val_main_cst_23, r6, r155]
  simp only [Fin.sum_univ_one]
  obtain ⟨x, hx⟩ := exists_fun A5 h5
  obtain ⟨u, hu⟩ := exists_fun (fun d : Fin 1024 => dh A0 A1 A2 A3 A4 i0 d * A6 (ix1 d)) fun d => by
    obtain ⟨a, ha⟩ := isR_dh A0 A1 A2 A3 A4 h0 h1 h2 h3 h4 i0 d
    obtain ⟨g, hg⟩ := h6 (ix1 d)
    exact ⟨a * g, by rw [ha, hg, EReal.coe_mul]⟩
  obtain ⟨e, he, hl⟩ := lit_eps
  have hu' : ∀ d : Fin 1024, dh A0 A1 A2 A3 A4 i0 d * A6 (ix1 d) = (u d : EReal) := fun d => congrFun hu d
  unfold Gdx
  simp only [hu', hx, lit1024, lit_mhalf]
  exact (rms_bwd (fun k => x (ix2 i0 k)) u (A7 (ix2 i0 i1)) e he i1 _ (by simp only [ms, hl, lit1024])).symm

theorem r177 (h0 : ∀ i, IsR (A0 i)) (h1 : ∀ i, IsR (A1 i)) (h2 : ∀ i, IsR (A2 i)) (h3 : ∀ i, IsR (A3 i)) (h4 : ∀ i, IsR (A4 i))
    (h5 : ∀ i, IsR (A5 i)) (h6 : ∀ i, IsR (A6 i)) (i : S8192x1024.Idx) :
    val_main_v177 (F := Ideal) A0 A1 A2 A3 A4 A5 A6 A7 i = Gdx A0 A1 A2 A3 A4 A5 A6 A7 (i 0) (i 1) :=
  Eq.trans (by idx_vars i; pointwise [val_main_v177]; done) (r176 A0 A1 A2 A3 A4 A5 A6 A7 h0 h1 h2 h3 h4 h5 h6 i)

theorem isR_of_bit {φ : FTy} (x a b : Ideal φ) (ha : a = (⊤ : EReal)) (hb : b = (⊥ : EReal))
    (h : IntOp.andi (FloatOps.cmpf .olt x a) (FloatOps.cmpf .ogt x b) = 1#1) : IsR x := by
  subst ha hb
  have h' : IntOp.andi (BitVec.ofBool (decide (x < (⊤ : EReal)))) (BitVec.ofBool (decide (x > (⊥ : EReal)))) = 1#1 := h
  rw [Idealize.ShloMosaic.WordCmp.andi_ofBool, ← Bool.decide_and] at h'
  by_cases hc : x < (⊤ : EReal) ∧ x > (⊥ : EReal)
  · exact isR_of_lt hc.1 hc.2
  · rw [decide_eq_false hc] at h'
    exact absurd h' (by decide)

/-- What the precondition says of the seven arrays it reads. -/
theorem pre (h : Cert.Pre_finite6.fn (F := Ideal) A0 A1 A2 A3 A4 A5 A6 A7 = fun _ => 1#1) :
    (∀ i, IsR (A0 i)) ∧ (∀ i, IsR (A1 i)) ∧ (∀ i, IsR (A2 i)) ∧ (∀ i, IsR (A3 i)) ∧ (∀ i, IsR (A4 i)) ∧ (∀ i, IsR (A5 i)) ∧ (∀ i, IsR (A6 i)) := by
  have h := congrFun h (fun a => a.elim0)
  dsimp only [Cert.Pre_finite6.fn, Cert.Pre_finite6.fn_part1, Cert.Pre_finite6.fn_part2] at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  refine ⟨fun i => ?_, fun i => ?_, fun i => ?_, fun i => ?_, fun i => ?_, fun i => ?_, fun i => ?_⟩
  · exact isR_of_bit _ _ _ lit_inf16 lit_ninf16 (Host.reduce_andi_all _ _ _ _ _ h0 i)
  · exact isR_of_bit _ _ _ lit_inf16 lit_ninf16 (Host.reduce_andi_all _ _ _ _ _ h1 i)
  · exact isR_of_bit _ _ _ lit_inf16 lit_ninf16 (Host.reduce_andi_all _ _ _ _ _ h2 i)
  · exact isR_of_bit _ _ _ lit_inf16 lit_ninf16 (Host.reduce_andi_all _ _ _ _ _ h3 i)
  · exact isR_of_bit _ _ _ lit_inf16 lit_ninf16 (Host.reduce_andi_all _ _ _ _ _ h4 i)
  · exact isR_of_bit _ _ _ lit_inf lit_ninf (Host.reduce_andi_all _ _ _ _ _ h5 i)
  · exact isR_of_bit _ _ _ lit_inf lit_ninf (Host.reduce_andi_all _ _ _ _ _ h6 i)

theorem frame_ri : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

open Cert.Kernel6Ideal in
theorem algebraic : Cert.algebraic_Kernel6Ideal_Reference6Ideal := by
  intro m g m' g' hp hag
  refine ⟨_, _, _, _, (θ_run _ _ _).mono (fun _ h c => ⟨(h c).1.trans (final10 m c), (h c).2.1.trans (final11 m c), (h c).2.2.1.trans (final12 m c),
      (h c).2.2.2.1.trans (final13 m c), (h c).2.2.2.2⟩)
      (Cert.Kernel6Ideal.Value.run_blocks (F := Ideal) m g), ?_⟩
  refine (θ_run _ _ _).mono (fun _ h c => ⟨(h c).1.trans ?_, (h c).2.1.trans ?_, (h c).2.2.1.trans ?_, (h c).2.2.2.1.trans ?_, (h c).2.2.2.2⟩)
      (Cert.Reference6Ideal.Value.run (F := Ideal) m' g')
  · clear h
    obtain ⟨p0, p1, p2, p3, p4, p5, p6⟩ := pre _ _ _ _ _ _ _ _ (hp c)
    have a0 : StableHlo.launchContents m' c (Proc.tc.devRef Cert.Reference6Ideal.main_arg0) = m ((c : Thread Cert.Kernel6Ideal.nD Cert.Kernel6Ideal.τ).loc Cert.Kernel6Ideal.main_arg0) := (hag c).1
    have a1 : StableHlo.launchContents m' c (Proc.tc.devRef Cert.Reference6Ideal.main_arg1) = m ((c : Thread Cert.Kernel6Ideal.nD Cert.Kernel6Ideal.τ).loc Cert.Kernel6Ideal.main_arg1) := (hag c).2.1
    have a2 : StableHlo.launchContents m' c (Proc.tc.devRef Cert.Reference6Ideal.main_arg2) = m ((c : Thread Cert.Kernel6Ideal.nD Cert.Kernel6Ideal.τ).loc Cert.Kernel6Ideal.main_arg2) := (hag c).2.2.1
    have a3 : StableHlo.launchContents m' c (Proc.tc.devRef Cert.Reference6Ideal.main_arg3) = m ((c : Thread Cert.Kernel6Ideal.nD Cert.Kernel6Ideal.τ).loc Cert.Kernel6Ideal.main_arg3) := (hag c).2.2.2.1
    have a4 : StableHlo.launchContents m' c (Proc.tc.devRef Cert.Reference6Ideal.main_arg4) = m ((c : Thread Cert.Kernel6Ideal.nD Cert.Kernel6Ideal.τ).loc Cert.Kernel6Ideal.main_arg4) := (hag c).2.2.2.2.1
    have a5 : StableHlo.launchContents m' c (Proc.tc.devRef Cert.Reference6Ideal.main_arg5) = m ((c : Thread Cert.Kernel6Ideal.nD Cert.Kernel6Ideal.τ).loc Cert.Kernel6Ideal.main_arg5) := (hag c).2.2.2.2.2.1
    have a6 : StableHlo.launchContents m' c (Proc.tc.devRef Cert.Reference6Ideal.main_arg6) = m ((c : Thread Cert.Kernel6Ideal.nD Cert.Kernel6Ideal.τ).loc Cert.Kernel6Ideal.main_arg6) := (hag c).2.2.2.2.2.2.1
    have a7 : StableHlo.launchContents m' c (Proc.tc.devRef Cert.Reference6Ideal.main_arg7) = m ((c : Thread Cert.Kernel6Ideal.nD Cert.Kernel6Ideal.τ).loc Cert.Kernel6Ideal.main_arg7) := (hag c).2.2.2.2.2.2.2
    rw [Cert.Reference6Ideal.Read.val_main_v176_eq, a0, a1, a2, a3, a4, a5, a6, a7]
    exact funext fun i => r176 _ _ _ _ _ _ _ _ p0 p1 p2 p3 p4 p5 p6 i
  · clear h
    obtain ⟨p0, p1, p2, p3, p4, p5, p6⟩ := pre _ _ _ _ _ _ _ _ (hp c)
    have a0 : StableHlo.launchContents m' c (Proc.tc.devRef Cert.Reference6Ideal.main_arg0) = m ((c : Thread Cert.Kernel6Ideal.nD Cert.Kernel6Ideal.τ).loc Cert.Kernel6Ideal.main_arg0) := (hag c).1
    have a1 : StableHlo.launchContents m' c (Proc.tc.devRef Cert.Reference6Ideal.main_arg1) = m ((c : Thread Cert.Kernel6Ideal.nD Cert.Kernel6Ideal.τ).loc Cert.Kernel6Ideal.main_arg1) := (hag c).2.1
    have a2 : StableHlo.launchContents m' c (Proc.tc.devRef Cert.Reference6Ideal.main_arg2) = m ((c : Thread Cert.Kernel6Ideal.nD Cert.Kernel6Ideal.τ).loc Cert.Kernel6Ideal.main_arg2) := (hag c).2.2.1
    have a3 : StableHlo.launchContents m' c (Proc.tc.devRef Cert.Reference6Ideal.main_arg3) = m ((c : Thread Cert.Kernel6Ideal.nD Cert.Kernel6Ideal.τ).loc Cert.Kernel6Ideal.main_arg3) := (hag c).2.2.2.1
    have a4 : StableHlo.launchContents m' c (Proc.tc.devRef Cert.Reference6Ideal.main_arg4) = m ((c : Thread Cert.Kernel6Ideal.nD Cert.Kernel6Ideal.τ).loc Cert.Kernel6Ideal.main_arg4) := (hag c).2.2.2.2.1
    have a5 : StableHlo.launchContents m' c (Proc.tc.devRef Cert.Reference6Ideal.main_arg5) = m ((c : Thread Cert.Kernel6Ideal.nD Cert.Kernel6Ideal.τ).loc Cert.Kernel6Ideal.main_arg5) := (hag c).2.2.2.2.2.1
    have a6 : StableHlo.launchContents m' c (Proc.tc.devRef Cert.Reference6Ideal.main_arg6) = m ((c : Thread Cert.Kernel6Ideal.nD Cert.Kernel6Ideal.τ).loc Cert.Kernel6Ideal.main_arg6) := (hag c).2.2.2.2.2.2.1
    have a7 : StableHlo.launchContents m' c (Proc.tc.devRef Cert.Reference6Ideal.main_arg7) = m ((c : Thread Cert.Kernel6Ideal.nD Cert.Kernel6Ideal.τ).loc Cert.Kernel6Ideal.main_arg7) := (hag c).2.2.2.2.2.2.2
    rw [Cert.Reference6Ideal.Read.val_main_v177_eq, a0, a1, a2, a3, a4, a5, a6, a7]
    exact funext fun i => r177 _ _ _ _ _ _ _ _ p0 p1 p2 p3 p4 p5 p6 i
  · clear h
    have a0 : StableHlo.launchContents m' c (Proc.tc.devRef Cert.Reference6Ideal.main_arg0) = m ((c : Thread Cert.Kernel6Ideal.nD Cert.Kernel6Ideal.τ).loc Cert.Kernel6Ideal.main_arg0) := (hag c).1
    have a1 : StableHlo.launchContents m' c (Proc.tc.devRef Cert.Reference6Ideal.main_arg1) = m ((c : Thread Cert.Kernel6Ideal.nD Cert.Kernel6Ideal.τ).loc Cert.Kernel6Ideal.main_arg1) := (hag c).2.1
    have a2 : StableHlo.launchContents m' c (Proc.tc.devRef Cert.Reference6Ideal.main_arg2) = m ((c : Thread Cert.Kernel6Ideal.nD Cert.Kernel6Ideal.τ).loc Cert.Kernel6Ideal.main_arg2) := (hag c).2.2.1
    have a3 : StableHlo.launchContents m' c (Proc.tc.devRef Cert.Reference6Ideal.main_arg3) = m ((c : Thread Cert.Kernel6Ideal.nD Cert.Kernel6Ideal.τ).loc Cert.Kernel6Ideal.main_arg3) := (hag c).2.2.2.1
    rw [Cert.Reference6Ideal.Read.val_main_v179_eq, a0, a1, a2, a3]
    exact funext fun i => r179 _ _ _ _ i
  · clear h
    have a0 : StableHlo.launchContents m' c (Proc.tc.devRef Cert.Reference6Ideal.main_arg0) = m ((c : Thread Cert.Kernel6Ideal.nD Cert.Kernel6Ideal.τ).loc Cert.Kernel6Ideal.main_arg0) := (hag c).1
    have a1 : StableHlo.launchContents m' c (Proc.tc.devRef Cert.Reference6Ideal.main_arg1) = m ((c : Thread Cert.Kernel6Ideal.nD Cert.Kernel6Ideal.τ).loc Cert.Kernel6Ideal.main_arg1) := (hag c).2.1
    have a2 : StableHlo.launchContents m' c (Proc.tc.devRef Cert.Reference6Ideal.main_arg2) = m ((c : Thread Cert.Kernel6Ideal.nD Cert.Kernel6Ideal.τ).loc Cert.Kernel6Ideal.main_arg2) := (hag c).2.2.1
    have a3 : StableHlo.launchContents m' c (Proc.tc.devRef Cert.Reference6Ideal.main_arg3) = m ((c : Thread Cert.Kernel6Ideal.nD Cert.Kernel6Ideal.τ).loc Cert.Kernel6Ideal.main_arg3) := (hag c).2.2.2.1
    have a4 : StableHlo.launchContents m' c (Proc.tc.devRef Cert.Reference6Ideal.main_arg4) = m ((c : Thread Cert.Kernel6Ideal.nD Cert.Kernel6Ideal.τ).loc Cert.Kernel6Ideal.main_arg4) := (hag c).2.2.2.2.1
    have a5 : StableHlo.launchContents m' c (Proc.tc.devRef Cert.Reference6Ideal.main_arg5) = m ((c : Thread Cert.Kernel6Ideal.nD Cert.Kernel6Ideal.τ).loc Cert.Kernel6Ideal.main_arg5) := (hag c).2.2.2.2.2.1
    rw [Cert.Reference6Ideal.Read.val_main_v180_eq, a0, a1, a2, a3, a4, a5]
    exact funext fun i => r180 _ _ _ _ _ _ i

end Cert.K6

end
-- ==== Proof.Adam.lean ====
module

public import Idealize.ShloMosaic.PureOps
public import Idealize.ShloMosaic.Lib.Pointwise

@[expose] public section

noncomputable section

namespace Cert.Adam

open Idealize.ShloMosaic

/-- The two moments and the step of the update, at one element. -/
def mom (g m : EReal) : EReal := Ideal.ofBits FTy.f32 1063675494#32 * m + Ideal.ofBits FTy.f32 1036831949#32 * g
def vel (g v : EReal) : EReal := Ideal.ofBits FTy.f32 1065336439#32 * v + Ideal.ofBits FTy.f32 981668463#32 * (g * g)
def step (g w m v : EReal) : EReal :=
  Ideal.ofBits FTy.f32 3129152111#32 * (Ideal.div (Ideal.div (mom g m) (Ideal.ofBits FTy.f32 1059503362#32))
    (Ideal.sqrt (Ideal.div (vel g v) (Ideal.ofBits FTy.f32 1008933580#32)) + Ideal.ofBits FTy.f32 841731191#32)
    + Ideal.ofBits FTy.f32 1008981770#32 * w)

/-- An array of one element has one index. -/
theorem ix_eq (j i : (⟨1, ![1]⟩ : Shape).Idx) : j = i := by
  funext a
  match a with
  | ⟨0, _⟩ => exact Subsingleton.elim (α := Fin 1) _ _

/-- A word that is at least zero and less than eight as a signed number is so as a natural number. -/
theorem word_lt (b : BitVec 32) (ha : IntOp.cmpi .sge b 0#32 = 1#1) (hb : IntOp.cmpi .slt b 8#32 = 1#1) : b.toNat < 8 := by
  revert ha hb
  simp only [IntOp.cmpi, BitVec.slt, BitVec.sle]
  intro ha hb
  have h1 : (0#32).toInt ≤ b.toInt := by
    by_contra hc; rw [decide_eq_false hc] at ha; exact absurd ha (by decide)
  have h2 : b.toInt < (8#32).toInt := by
    by_contra hc; rw [decide_eq_false hc] at hb; exact absurd hb (by decide)
  have e0 : (0#32 : BitVec 32).toInt = 0 := by decide
  have e8 : (8#32 : BitVec 32).toInt = 8 := by decide
  rw [e0] at h1; rw [e8] at h2
  rw [BitVec.toInt_eq_toNat_cond] at h1 h2
  have := b.isLt
  split at h1 <;> omega

/-- A number below eight is the word of a natural number just when it is that number. -/
theorem word_eq (b : BitVec 32) (hk : b.toNat < 8) (k : Fin 8) :
    IntOp.cmpi .eq (BitVec.ofNat 32 k.val) b = 1#1 ↔ (⟨b.toNat, hk⟩ : Fin 8) = k := by
  have h : IntOp.cmpi .eq (BitVec.ofNat 32 k.val) b = 1#1 ↔ BitVec.ofNat 32 k.val = b := by
    by_cases h : BitVec.ofNat 32 k.val = b
    · simp [IntOp.cmpi, h]
    · have hb : (BitVec.ofNat 32 k.val == b) = false := beq_eq_false_iff_ne.mpr h
      simp [IntOp.cmpi, h, hb]
  rw [h]
  have hlt := k.isLt
  constructor
  · rintro rfl
    apply Fin.ext
    show (BitVec.ofNat 32 k.val).toNat = k.val
    rw [BitVec.toNat_ofNat]; omega
  · rintro rfl
    apply BitVec.eq_of_toNat_eq
    show (BitVec.ofNat 32 b.toNat).toNat = b.toNat
    rw [BitVec.toNat_ofNat]; omega

end Cert.Adam

end
-- ==== Proof.K9.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Pre_in_mesh9
public import proofs.«01_k».proof.Proof.Adam
public import Idealize.ShloMosaic.Lib.Pointwise
public import Idealize.ShloMosaic.Lib.Pipeline.ValueKit

@[expose] public section

noncomputable section

namespace Cert.K9

open Cert.Kernel9Ideal Cert.Kernel9Ideal.Gen Idealize.ShloMosaic Idealize.ShloMosaic.TcCoe Idealize.SL.Sem
open Idealize.ShloMosaic.Pipeline (Dat)
open Cert.Adam

/-- The precondition bounds the device's number. -/
theorem num_lt {F : FTy → Type} [FloatOps F] (x0 : IVec S1 32) (x1 : FVec F Cert.Pre_in_mesh9.S8x1024x640 .f32)
    (x2 : FVec F Cert.Pre_in_mesh9.S7x1024x640 .bf16) (x3 x4 x5 : FVec F Cert.Pre_in_mesh9.S1024x640 .f32)
    (h : Cert.Pre_in_mesh9.fn (F := F) x0 x1 x2 x3 x4 x5 = fun _ => 1#1) (i : S1.Idx) : (x0 i).toNat < 8 := by
  have h1 := congrFun h (fun a => a.elim0)
  simp only [Cert.Pre_in_mesh9.fn] at h1
  obtain ⟨ha, hb⟩ := IntOp.andi_eq_one.mp h1
  have ha' : IntOp.cmpi .sge (x0 i) 0#32 = 1#1 := by rw [← ix_eq _ i]; exact ha
  have hb' : IntOp.cmpi .slt (x0 i) 8#32 = 1#1 := by rw [← ix_eq _ i]; exact hb
  exact word_lt _ ha' hb'

theorem ok_of {F : FTy → Type} [FloatOps F] (m : (ℓ : Loc nD τ sig) → Buf (Elt F) ℓ)
    (h : ∀ i : S1.Idx, ((m (((0 : Dev nD) : Thread nD τ).loc main_arg0) : IVec S1 32) i).toNat < 8) : Ok m := by
  intro i
  have hw : ((tbl m).at 0 (Rect.unit (s := S1) ![0] S1.size inb_S1_S1_0) numel1_S1 : BitVec 32).toNat < 8 := h _
  have h8 : (i 0).val < 8 := (i 0).isLt
  refine ⟨?_, .inl rfl⟩
  intro a
  match a with
  | ⟨0, _⟩ =>
    show (((tbl m).at 0 (Rect.unit (s := S1) ![0] S1.size inb_S1_S1_0) numel1_S1 : BitVec 32).toNat + 1) * 1 ≤ 8
    generalize ((tbl m).at 0 (Rect.unit (s := S1) ![0] S1.size inb_S1_S1_0) numel1_S1 : BitVec 32).toNat = b at hw ⊢
    omega
  | ⟨1, _⟩ => show ((BitVec.ofNat 32 (i 0).val).toNat + 1) * 128 ≤ 1024; rw [BitVec.toNat_ofNat]; omega
  | ⟨2, _⟩ => show (0 + 1) * 640 ≤ 640; omega

theorem frame_k : Cert.quiescent_Kernel9 := fun m ρ h =>
  Cert.Kernel9.Gen.frame m ρ (by
    have hw : ∀ i : S1.Idx, ((m (((0 : Dev Cert.Kernel9.nD) : Thread Cert.Kernel9.nD Cert.Kernel9.τ).loc Cert.Kernel9.main_arg0) : IVec S1 32) i).toNat < 8 :=
      num_lt _ _ _ _ _ _ (h 0)
    intro i
    have hb : ((Cert.Kernel9.Gen.tbl m).at 0 (Rect.unit (s := S1) ![0] S1.size (by decide)) (by decide) : BitVec 32).toNat < 8 := hw _
    have h8 : (i 0).val < 8 := (i 0).isLt
    refine ⟨?_, .inl rfl⟩
    intro a
    match a with
    | ⟨0, _⟩ =>
      show (((Cert.Kernel9.Gen.tbl m).at 0 (Rect.unit (s := S1) ![0] S1.size (by decide)) (by decide) : BitVec 32).toNat + 1) * 1 ≤ 8
      generalize ((Cert.Kernel9.Gen.tbl m).at 0 (Rect.unit (s := S1) ![0] S1.size (by decide)) (by decide) : BitVec 32).toNat = b at hb ⊢
      omega
    | ⟨1, _⟩ => show ((BitVec.ofNat 32 (i 0).val).toNat + 1) * 128 ≤ 1024; rw [BitVec.toNat_ofNat]; omega
    | ⟨2, _⟩ => show (0 + 1) * 640 ≤ 640; omega)

theorem frame_ki : Cert.quiescent_Kernel9Ideal := fun m ρ h =>
  Cert.Kernel9Ideal.Gen.frame m ρ (ok_of m (num_lt _ _ _ _ _ _ (h 0)))

theorem frame_ri : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)

theorem pay4_at (v0 : Vec Ideal S1x128x640 .f32) (v2 v6 v10 v14 v18 v22 v26 : Vec Ideal S1x128x640 .bf16) (j : S128x640.Idx) :
    k0_pay4 v0 v2 v6 v10 v14 v18 v22 v26 j = v0 (ix3 0 (j 0) (j 1)) + v2 (ix3 0 (j 0) (j 1)) + v6 (ix3 0 (j 0) (j 1))
      + v10 (ix3 0 (j 0) (j 1)) + v14 (ix3 0 (j 0) (j 1)) + v18 (ix3 0 (j 0) (j 1)) + v22 (ix3 0 (j 0) (j 1))
      + v26 (ix3 0 (j 0) (j 1)) := by
  idx_vars j
  pointwise [k0_pay4]
  done

/-- The gradient's sum over the devices. -/
def grad (k : Fin 8) (A1 : Vec Ideal S8x1024x640 .f32) (A2 : Vec Ideal S7x1024x640 .bf16) (i : S1024x640.Idx) : EReal :=
  A1 (ix3 k (i 0) (i 1)) + A2 (ix3 0 (i 0) (i 1)) + A2 (ix3 1 (i 0) (i 1)) + A2 (ix3 2 (i 0) (i 1)) + A2 (ix3 3 (i 0) (i 1)) + A2 (ix3 4 (i 0) (i 1)) + A2 (ix3 5 (i 0) (i 1)) + A2 (ix3 6 (i 0) (i 1))

theorem pay1_at (g m : Vec Ideal S128x640 .f32) (j : S128x640.Idx) : k0_pay1 g m j = mom (g j) (m j) := by
  idx_vars j
  pointwise [k0_pay1]
  rfl

theorem pay2_at (g v : Vec Ideal S128x640 .f32) (j : S128x640.Idx) : k0_pay2 g v j = vel (g j) (v j) := by
  idx_vars j
  pointwise [k0_pay2]
  rfl

theorem pay3_at (g w m v : Vec Ideal S128x640 .f32) (j : S128x640.Idx) : k0_pay3 g w m v j = step (g j) (w j) (m j) (v j) := by
  idx_vars j
  pointwise [k0_pay3, k0_pay1, k0_pay2]
  rfl

abbrev gs (x0 : Vec Ideal S1x128x640 .f32) (x1 : Vec Ideal S7x128x640 .bf16) : Vec Ideal S128x640 .f32 := k0_pay4 x0 (View.ld x1 (Rect.unit ![0, 0, 0] ![1, 128, 640] inb_S7x128x640_S1x128x640_0_0_0)) (View.ld x1 (Rect.unit ![1, 0, 0] ![1, 128, 640] inb_S7x128x640_S1x128x640_1_0_0)) (View.ld x1 (Rect.unit ![2, 0, 0] ![1, 128, 640] inb_S7x128x640_S1x128x640_2_0_0)) (View.ld x1 (Rect.unit ![3, 0, 0] ![1, 128, 640] inb_S7x128x640_S1x128x640_3_0_0)) (View.ld x1 (Rect.unit ![4, 0, 0] ![1, 128, 640] inb_S7x128x640_S1x128x640_4_0_0)) (View.ld x1 (Rect.unit ![5, 0, 0] ![1, 128, 640] inb_S7x128x640_S1x128x640_5_0_0)) (View.ld x1 (Rect.unit ![6, 0, 0] ![1, 128, 640] inb_S7x128x640_S1x128x640_6_0_0))

section
variable (c : Dev nD) (i : grid0.Coords) (arg2 : Memref sig .tc .vmem S1x128x640 .f32) (harg2 : arg2.IsWhole) (arg3 : Memref sig .tc .vmem S7x128x640 .bf16) (harg3 : arg3.IsWhole) (arg4 : Memref sig .tc .vmem S128x640 .f32) (harg4 : arg4.IsWhole) (arg5 : Memref sig .tc .vmem S128x640 .f32) (harg5 : arg5.IsWhole) (arg6 : Memref sig .tc .vmem S128x640 .f32) (harg6 : arg6.IsWhole) (arg7 : Memref sig .tc .vmem S128x640 .f32) (harg7 : arg7.IsWhole) (arg8 : Memref sig .tc .vmem S128x640 .f32) (harg8 : arg8.IsWhole) (arg9 : Memref sig .tc .vmem S128x640 .f32) (harg9 : arg9.IsWhole) (arg10 : Memref sig .tc .vmem S128x640 .f32) (harg10 : arg10.IsWhole)
    (x0 : Vec Ideal S1x128x640 .f32) (x1 : Vec Ideal S7x128x640 .bf16) (x2 : Vec Ideal S128x640 .f32) (x3 : Vec Ideal S128x640 .f32) (x4 : Vec Ideal S128x640 .f32) (xt0 : TbBuf0 (F := Ideal) c tbM0_0)
theorem outA5 :
    out0_A_5 c i arg2 harg2 arg3 harg3 arg4 harg4 arg5 harg5 arg6 harg6 arg7 harg7 arg8 harg8 arg9 harg9 arg10 harg10 x0 x1 x2 x3 x4 xt0 = gs x0 x1 := by
  frame_out

theorem outA6 :
    out0_A_6 c i arg2 harg2 arg3 harg3 arg4 harg4 arg5 harg5 arg6 harg6 arg7 harg7 arg8 harg8 arg9 harg9 arg10 harg10 x0 x1 x2 x3 x4 xt0 = k0_pay3 (gs x0 x1) x2 x3 x4 := by
  frame_out

theorem outA7 :
    out0_A_7 c i arg2 harg2 arg3 harg3 arg4 harg4 arg5 harg5 arg6 harg6 arg7 harg7 arg8 harg8 arg9 harg9 arg10 harg10 x0 x1 x2 x3 x4 xt0 = k0_pay1 (gs x0 x1) x3 := by
  frame_out

theorem outA8 :
    out0_A_8 c i arg2 harg2 arg3 harg3 arg4 harg4 arg5 harg5 arg6 harg6 arg7 harg7 arg8 harg8 arg9 harg9 arg10 harg10 x0 x1 x2 x3 x4 xt0 = k0_pay2 (gs x0 x1) x4 := by
  frame_out
end

variable (m : (ℓ : Loc nD τ sig) → Buf (Elt Ideal) ℓ) (hO : Ok m)

/-- The number of the device, as the prefetched word says it. -/
abbrev num : Nat := (m (((0 : Dev nD) : Thread nD τ).loc main_arg0) (ix1 0) : BitVec 32).toNat

theorem e0 (t : Fin (cfgM m hO).N) : ((cfgM m hO).win 0).index t = ![num m, t.val, 0] := by
  have h : ∀ t : Fin grid0.N, (BitVec.ofNat 32 ((grid0.coords t) 0).val).toNat = t.val := by decide +kernel
  have h1 : ((tbl m).at 0 (Rect.unit (s := S1) ![0] S1.size inb_S1_S1_0) numel1_S1 : BitVec 32) = m (((0 : Dev nD) : Thread nD τ).loc main_arg0) (ix1 0) :=
    congrArg (m (((0 : Dev nD) : Thread nD τ).loc main_arg0)) (ix_eq _ _)
  show ![((tbl m).at 0 (Rect.unit (s := S1) ![0] S1.size inb_S1_S1_0) numel1_S1 : BitVec 32).toNat, (BitVec.ofNat 32 ((grid0.coords t) 0).val).toNat, 0] = _
  rw [h1, h t]
theorem e1 (t : Fin (cfgM m hO).N) : ((cfgM m hO).win 1).index t = ![0, t.val, 0] :=
  (by decide +kernel : ∀ t : Fin grid0.N, cc0_transform_1 (grid0.coords t) = ![0, t.val, 0]) t
theorem e2 (t : Fin (cfgM m hO).N) : ((cfgM m hO).win 2).index t = ![t.val, 0] :=
  (by decide +kernel : ∀ t : Fin grid0.N, cc0_transform_2 (grid0.coords t) = ![t.val, 0]) t
theorem e3 (t : Fin (cfgM m hO).N) : ((cfgM m hO).win 3).index t = ![t.val, 0] :=
  (by decide +kernel : ∀ t : Fin grid0.N, cc0_transform_3 (grid0.coords t) = ![t.val, 0]) t
theorem e4 (t : Fin (cfgM m hO).N) : ((cfgM m hO).win 4).index t = ![t.val, 0] :=
  (by decide +kernel : ∀ t : Fin grid0.N, cc0_transform_4 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e6 (t : Fin (cfgM m hO).N) : ((cfgM m hO).win 6).index t = ![t.val, 0] :=
  (by decide +kernel : ∀ t : Fin grid0.N, cc0_transform_6 (grid0.coords t) = ![t.val, 0]) t
theorem e7 (t : Fin (cfgM m hO).N) : ((cfgM m hO).win 7).index t = ![t.val, 0] :=
  (by decide +kernel : ∀ t : Fin grid0.N, cc0_transform_7 (grid0.coords t) = ![t.val, 0]) t
theorem e8 (t : Fin (cfgM m hO).N) : ((cfgM m hO).win 8).index t = ![t.val, 0] :=
  (by decide +kernel : ∀ t : Fin grid0.N, cc0_transform_8 (grid0.coords t) = ![t.val, 0]) t

/-- Where a block's element lies in the array. -/
theorem pos0 (t : Fin (cfgM m hO).N) (y : S1x128x640.Idx) (hk : num m < 8) (R : Fin 1024) (hR : R.val = 128 * t.val + (y 1).val) :
    (((cfgM m hO).win 0).blk t).view.emb y = (ix3 ⟨num m, hk⟩ R (y 2) : S8x1024x640.Idx) := by
  funext a
  apply Fin.ext
  refine (Pipeline.Window.rect_emb_val ((cfgM m hO).win 0) t y a).trans ?_
  rw [e0]
  match a with
  | ⟨0, _⟩ => show num m * 1 + (y 0).val = num m; have : (y 0).val < 1 := (y 0).isLt; omega
  | ⟨1, _⟩ => show t.val * 128 + (y 1).val = R.val; omega
  | ⟨2, _⟩ => show 0 * 640 + (y 2).val = (y 2).val; omega

theorem pos1 (t : Fin (cfgM m hO).N) (y : S7x128x640.Idx) (R : Fin 1024) (hR : R.val = 128 * t.val + (y 1).val) :
    (((cfgM m hO).win 1).blk t).view.emb y = (ix3 (y 0) R (y 2) : S7x1024x640.Idx) := by
  funext a
  apply Fin.ext
  refine (Pipeline.Window.rect_emb_val ((cfgM m hO).win 1) t y a).trans ?_
  rw [e1]
  match a with
  | ⟨0, _⟩ => show 0 * 7 + (y 0).val = (y 0).val; omega
  | ⟨1, _⟩ => show t.val * 128 + (y 1).val = R.val; omega
  | ⟨2, _⟩ => show 0 * 640 + (y 2).val = (y 2).val; omega

theorem pos2 (t : Fin (cfgM m hO).N) (y : S128x640.Idx) (i : S1024x640.Idx) (h0 : (i 0).val = 128 * t.val + (y 0).val)
    (h1 : (i 1).val = (y 1).val) : (((cfgM m hO).win 2).blk t).view.emb y = i := by
  funext a
  apply Fin.ext
  refine (Pipeline.Window.rect_emb_val ((cfgM m hO).win 2) t y a).trans ?_
  rw [e2]
  match a with
  | ⟨0, _⟩ => show t.val * 128 + (y 0).val = (i 0).val; omega
  | ⟨1, _⟩ => show 0 * 640 + (y 1).val = (i 1).val; omega

theorem pos3 (t : Fin (cfgM m hO).N) (y : S128x640.Idx) (i : S1024x640.Idx) (h0 : (i 0).val = 128 * t.val + (y 0).val)
    (h1 : (i 1).val = (y 1).val) : (((cfgM m hO).win 3).blk t).view.emb y = i := by
  funext a
  apply Fin.ext
  refine (Pipeline.Window.rect_emb_val ((cfgM m hO).win 3) t y a).trans ?_
  rw [e3]
  match a with
  | ⟨0, _⟩ => show t.val * 128 + (y 0).val = (i 0).val; omega
  | ⟨1, _⟩ => show 0 * 640 + (y 1).val = (i 1).val; omega

theorem pos4 (t : Fin (cfgM m hO).N) (y : S128x640.Idx) (i : S1024x640.Idx) (h0 : (i 0).val = 128 * t.val + (y 0).val)
    (h1 : (i 1).val = (y 1).val) : (((cfgM m hO).win 4).blk t).view.emb y = i := by
  funext a
  apply Fin.ext
  refine (Pipeline.Window.rect_emb_val ((cfgM m hO).win 4) t y a).trans ?_
  rw [e4]
  match a with
  | ⟨0, _⟩ => show t.val * 128 + (y 0).val = (i 0).val; omega
  | ⟨1, _⟩ => show 0 * 640 + (y 1).val = (i 1).val; omega

theorem pos5 (t : Fin (cfgM m hO).N) (y : S128x640.Idx) (i : S1024x640.Idx) (h0 : (i 0).val = 128 * t.val + (y 0).val)
    (h1 : (i 1).val = (y 1).val) : (((cfgM m hO).win 5).blk t).view.emb y = i := by
  funext a
  apply Fin.ext
  refine (Pipeline.Window.rect_emb_val ((cfgM m hO).win 5) t y a).trans ?_
  rw [e5]
  match a with
  | ⟨0, _⟩ => show t.val * 128 + (y 0).val = (i 0).val; omega
  | ⟨1, _⟩ => show 0 * 640 + (y 1).val = (i 1).val; omega

theorem pos6 (t : Fin (cfgM m hO).N) (y : S128x640.Idx) (i : S1024x640.Idx) (h0 : (i 0).val = 128 * t.val + (y 0).val)
    (h1 : (i 1).val = (y 1).val) : (((cfgM m hO).win 6).blk t).view.emb y = i := by
  funext a
  apply Fin.ext
  refine (Pipeline.Window.rect_emb_val ((cfgM m hO).win 6) t y a).trans ?_
  rw [e6]
  match a with
  | ⟨0, _⟩ => show t.val * 128 + (y 0).val = (i 0).val; omega
  | ⟨1, _⟩ => show 0 * 640 + (y 1).val = (i 1).val; omega

theorem pos7 (t : Fin (cfgM m hO).N) (y : S128x640.Idx) (i : S1024x640.Idx) (h0 : (i 0).val = 128 * t.val + (y 0).val)
    (h1 : (i 1).val = (y 1).val) : (((cfgM m hO).win 7).blk t).view.emb y = i := by
  funext a
  apply Fin.ext
  refine (Pipeline.Window.rect_emb_val ((cfgM m hO).win 7) t y a).trans ?_
  rw [e7]
  match a with
  | ⟨0, _⟩ => show t.val * 128 + (y 0).val = (i 0).val; omega
  | ⟨1, _⟩ => show 0 * 640 + (y 1).val = (i 1).val; omega

theorem pos8 (t : Fin (cfgM m hO).N) (y : S128x640.Idx) (i : S1024x640.Idx) (h0 : (i 0).val = 128 * t.val + (y 0).val)
    (h1 : (i 1).val = (y 1).val) : (((cfgM m hO).win 8).blk t).view.emb y = i := by
  funext a
  apply Fin.ext
  refine (Pipeline.Window.rect_emb_val ((cfgM m hO).win 8) t y a).trans ?_
  rw [e8]
  match a with
  | ⟨0, _⟩ => show t.val * 128 + (y 0).val = (i 0).val; omega
  | ⟨1, _⟩ => show 0 * 640 + (y 1).val = (i 1).val; omega

theorem cover5 (i : S1024x640.Idx) :
    ∃ t : Fin (cfgM m hO).N, ((cfgM m hO).win 5).flush t = true ∧ i ∈ (((cfgM m hO).win 5).blk t).view.set := by
  have h0 : (i 0).val < 1024 := (i 0).isLt
  have h1 : (i 1).val < 640 := (i 1).isLt
  refine ⟨⟨(i 0).val / 128, show _ < 8 by omega⟩, flush0_5 _ _, ?_⟩
  refine (Pipeline.Window.emb_mem_blk_iff ((cfgM m hO).win 5) _ i).mpr fun a => ?_
  rw [e5]
  match a with
  | ⟨0, _⟩ => show (i 0).val / 128 * 128 ≤ (i 0).val ∧ (i 0).val < (i 0).val / 128 * 128 + 128; omega
  | ⟨1, _⟩ => show 0 * 640 ≤ (i 1).val ∧ (i 1).val < 0 * 640 + 640; omega

theorem cover6 (i : S1024x640.Idx) :
    ∃ t : Fin (cfgM m hO).N, ((cfgM m hO).win 6).flush t = true ∧ i ∈ (((cfgM m hO).win 6).blk t).view.set := by
  have h0 : (i 0).val < 1024 := (i 0).isLt
  have h1 : (i 1).val < 640 := (i 1).isLt
  refine ⟨⟨(i 0).val / 128, show _ < 8 by omega⟩, flush0_6 _ _, ?_⟩
  refine (Pipeline.Window.emb_mem_blk_iff ((cfgM m hO).win 6) _ i).mpr fun a => ?_
  rw [e6]
  match a with
  | ⟨0, _⟩ => show (i 0).val / 128 * 128 ≤ (i 0).val ∧ (i 0).val < (i 0).val / 128 * 128 + 128; omega
  | ⟨1, _⟩ => show 0 * 640 ≤ (i 1).val ∧ (i 1).val < 0 * 640 + 640; omega

theorem cover7 (i : S1024x640.Idx) :
    ∃ t : Fin (cfgM m hO).N, ((cfgM m hO).win 7).flush t = true ∧ i ∈ (((cfgM m hO).win 7).blk t).view.set := by
  have h0 : (i 0).val < 1024 := (i 0).isLt
  have h1 : (i 1).val < 640 := (i 1).isLt
  refine ⟨⟨(i 0).val / 128, show _ < 8 by omega⟩, flush0_7 _ _, ?_⟩
  refine (Pipeline.Window.emb_mem_blk_iff ((cfgM m hO).win 7) _ i).mpr fun a => ?_
  rw [e7]
  match a with
  | ⟨0, _⟩ => show (i 0).val / 128 * 128 ≤ (i 0).val ∧ (i 0).val < (i 0).val / 128 * 128 + 128; omega
  | ⟨1, _⟩ => show 0 * 640 ≤ (i 1).val ∧ (i 1).val < 0 * 640 + 640; omega

theorem cover8 (i : S1024x640.Idx) :
    ∃ t : Fin (cfgM m hO).N, ((cfgM m hO).win 8).flush t = true ∧ i ∈ (((cfgM m hO).win 8).blk t).view.set := by
  have h0 : (i 0).val < 1024 := (i 0).isLt
  have h1 : (i 1).val < 640 := (i 1).isLt
  refine ⟨⟨(i 0).val / 128, show _ < 8 by omega⟩, flush0_8 _ _, ?_⟩
  refine (Pipeline.Window.emb_mem_blk_iff ((cfgM m hO).win 8) _ i).mpr fun a => ?_
  rw [e8]
  match a with
  | ⟨0, _⟩ => show (i 0).val / 128 * 128 ≤ (i 0).val ∧ (i 0).val < (i 0).val / 128 * 128 + 128; omega
  | ⟨1, _⟩ => show 0 * 640 ≤ (i 1).val ∧ (i 1).val < 0 * 640 + 640; omega

/-- The input blocks of a grid point, at their arrays' elements. -/
abbrev b0 (c : Dev nD) (t : Fin (cfgM m hO).N) : Vec Ideal S1x128x640 .f32 := iblk m hO c 0 t
abbrev b1 (c : Dev nD) (t : Fin (cfgM m hO).N) : Vec Ideal S7x128x640 .bf16 := iblk m hO c 1 t
abbrev b2 (c : Dev nD) (t : Fin (cfgM m hO).N) : Vec Ideal S128x640 .f32 := iblk m hO c 2 t
abbrev b3 (c : Dev nD) (t : Fin (cfgM m hO).N) : Vec Ideal S128x640 .f32 := iblk m hO c 3 t
abbrev b4 (c : Dev nD) (t : Fin (cfgM m hO).N) : Vec Ideal S128x640 .f32 := iblk m hO c 4 t

theorem b0_at (c : Dev nD) (t : Fin (cfgM m hO).N) (hk : num m < 8) (y : S1x128x640.Idx) (R : Fin 1024) (hR : R.val = 128 * t.val + (y 1).val) :
    b0 m hO c t y = m ((c : Thread nD τ).loc main_arg1) (ix3 ⟨num m, hk⟩ R (y 2)) :=
  congrArg (m ((c : Thread nD τ).loc main_arg1)) (pos0 m hO t y hk R hR)
theorem b1_at (c : Dev nD) (t : Fin (cfgM m hO).N) (y : S7x128x640.Idx) (R : Fin 1024) (hR : R.val = 128 * t.val + (y 1).val) :
    b1 m hO c t y = m ((c : Thread nD τ).loc main_arg2) (ix3 (y 0) R (y 2)) :=
  congrArg (m ((c : Thread nD τ).loc main_arg2)) (pos1 m hO t y R hR)
theorem b2_at (c : Dev nD) (t : Fin (cfgM m hO).N) (y : S128x640.Idx) (i : S1024x640.Idx) (h0 : (i 0).val = 128 * t.val + (y 0).val)
    (h1 : (i 1).val = (y 1).val) : b2 m hO c t y = m ((c : Thread nD τ).loc main_arg3) i :=
  congrArg (m ((c : Thread nD τ).loc main_arg3)) (pos2 m hO t y i h0 h1)
theorem b3_at (c : Dev nD) (t : Fin (cfgM m hO).N) (y : S128x640.Idx) (i : S1024x640.Idx) (h0 : (i 0).val = 128 * t.val + (y 0).val)
    (h1 : (i 1).val = (y 1).val) : b3 m hO c t y = m ((c : Thread nD τ).loc main_arg4) i :=
  congrArg (m ((c : Thread nD τ).loc main_arg4)) (pos3 m hO t y i h0 h1)
theorem b4_at (c : Dev nD) (t : Fin (cfgM m hO).N) (y : S128x640.Idx) (i : S1024x640.Idx) (h0 : (i 0).val = 128 * t.val + (y 0).val)
    (h1 : (i 1).val = (y 1).val) : b4 m hO c t y = m ((c : Thread nD τ).loc main_arg5) i :=
  congrArg (m ((c : Thread nD τ).loc main_arg5)) (pos4 m hO t y i h0 h1)

/-- The sum's block at a grid point. -/
abbrev sum (c : Dev nD) (t : Fin (cfgM m hO).N) : Vec Ideal S128x640 .f32 := k0_pay4 (b0 m hO c t) (View.ld (b1 m hO c t) (Rect.unit ![0, 0, 0] ![1, 128, 640] inb_S7x128x640_S1x128x640_0_0_0)) (View.ld (b1 m hO c t) (Rect.unit ![1, 0, 0] ![1, 128, 640] inb_S7x128x640_S1x128x640_1_0_0)) (View.ld (b1 m hO c t) (Rect.unit ![2, 0, 0] ![1, 128, 640] inb_S7x128x640_S1x128x640_2_0_0)) (View.ld (b1 m hO c t) (Rect.unit ![3, 0, 0] ![1, 128, 640] inb_S7x128x640_S1x128x640_3_0_0)) (View.ld (b1 m hO c t) (Rect.unit ![4, 0, 0] ![1, 128, 640] inb_S7x128x640_S1x128x640_4_0_0)) (View.ld (b1 m hO c t) (Rect.unit ![5, 0, 0] ![1, 128, 640] inb_S7x128x640_S1x128x640_5_0_0)) (View.ld (b1 m hO c t) (Rect.unit ![6, 0, 0] ![1, 128, 640] inb_S7x128x640_S1x128x640_6_0_0))

theorem ld_at (x : Vec Ideal S7x128x640 .bf16) (k : Fin 7) (y : S128x640.Idx) (h) :
    View.ld x (Rect.unit ![k.val, 0, 0] ![1, 128, 640] h) (ix3 0 (y 0) (y 1)) = x (ix3 k (y 0) (y 1)) := by
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem sum_at (c : Dev nD) (t : Fin (cfgM m hO).N) (hk : num m < 8) (y : S128x640.Idx) (i : S1024x640.Idx) (h0 : (i 0).val = 128 * t.val + (y 0).val)
    (h1 : (i 1).val = (y 1).val) : sum m hO c t y
      = grad ⟨num m, hk⟩ (m ((c : Thread nD τ).loc main_arg1)) (m ((c : Thread nD τ).loc main_arg2)) i := by
  have e1 : y 1 = i 1 := Fin.ext h1.symm
  have e : ∀ (k : Fin 7) (h), View.ld (b1 m hO c t) (Rect.unit ![k.val, 0, 0] ![1, 128, 640] h) (ix3 0 (y 0) (y 1))
      = m ((c : Thread nD τ).loc main_arg2) (ix3 k (i 0) (i 1)) := fun k h => by
    refine (ld_at (b1 m hO c t) k y h).trans ?_
    rw [b1_at m hO c t _ (i 0) h0, ← e1]
    rfl
  rw [sum, pay4_at, b0_at m hO c t hk _ (i 0) h0]
  unfold grad
  rw [← e1] at e ⊢
  exact congrArg₂ _ (congrArg₂ _ (congrArg₂ _ (congrArg₂ _ (congrArg₂ _ (congrArg₂ _ (congrArg₂ _ rfl (e 0 _)) (e 1 _)) (e 2 _)) (e 3 _)) (e 4 _)) (e 5 _)) (e 6 _)

attribute [local irreducible] out0_A_5 out0_A_6 out0_A_7 out0_A_8 in
theorem outs5 (c : Dev nD) (t : Fin (cfgM m hO).N) : (outsAt0 m hO c t).1 = sum m hO c t := by
  exact outA5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs6 (c : Dev nD) (t : Fin (cfgM m hO).N) : (outsAt0 m hO c t).2.1 = k0_pay3 (sum m hO c t) (b2 m hO c t) (b3 m hO c t) (b4 m hO c t) := by
  exact outA6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs7 (c : Dev nD) (t : Fin (cfgM m hO).N) : (outsAt0 m hO c t).2.2.1 = k0_pay1 (sum m hO c t) (b3 m hO c t) := by
  exact outA7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs8 (c : Dev nD) (t : Fin (cfgM m hO).N) : (outsAt0 m hO c t).2.2.2 = k0_pay2 (sum m hO c t) (b4 m hO c t) := by
  exact outA8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)

section finals

variable (c : Dev nD) (t : Fin (cfgM m hO).N) (hk : num m < 8) (y : S128x640.Idx) (i : S1024x640.Idx)
  (h0 : (i 0).val = 128 * t.val + (y 0).val) (h1 : (i 1).val = (y 1).val)

include h0 h1

theorem out5 : (outsAt0 m hO c t).1 y = grad ⟨num m, hk⟩ (m ((c : Thread nD τ).loc main_arg1)) (m ((c : Thread nD τ).loc main_arg2)) i := by
  refine (congrFun (outs5 m hO c t) y).trans ?_
  exact sum_at m hO c t hk y i h0 h1

theorem out6 : (outsAt0 m hO c t).2.1 y = step (grad ⟨num m, hk⟩ (m ((c : Thread nD τ).loc main_arg1)) (m ((c : Thread nD τ).loc main_arg2)) i)
    (m ((c : Thread nD τ).loc main_arg3) i) (m ((c : Thread nD τ).loc main_arg4) i) (m ((c : Thread nD τ).loc main_arg5) i) := by
  refine (congrFun (outs6 m hO c t) y).trans ?_
  refine (pay3_at (sum m hO c t) (b2 m hO c t) (b3 m hO c t) (b4 m hO c t) y).trans ?_
  rw [sum_at m hO c t hk y i h0 h1, b2_at m hO c t y i h0 h1, b3_at m hO c t y i h0 h1, b4_at m hO c t y i h0 h1]

theorem out7 : (outsAt0 m hO c t).2.2.1 y = mom (grad ⟨num m, hk⟩ (m ((c : Thread nD τ).loc main_arg1)) (m ((c : Thread nD τ).loc main_arg2)) i)
    (m ((c : Thread nD τ).loc main_arg4) i) := by
  refine (congrFun (outs7 m hO c t) y).trans ?_
  refine (pay1_at (sum m hO c t) (b3 m hO c t) y).trans ?_
  rw [sum_at m hO c t hk y i h0 h1, b3_at m hO c t y i h0 h1]

theorem out8 : (outsAt0 m hO c t).2.2.2 y = vel (grad ⟨num m, hk⟩ (m ((c : Thread nD τ).loc main_arg1)) (m ((c : Thread nD τ).loc main_arg2)) i)
    (m ((c : Thread nD τ).loc main_arg5) i) := by
  refine (congrFun (outs8 m hO c t) y).trans ?_
  refine (pay2_at (sum m hO c t) (b4 m hO c t) y).trans ?_
  rw [sum_at m hO c t hk y i h0 h1, b4_at m hO c t y i h0 h1]

end finals

/-- The four results as functions of the arguments. -/
def G5 (hk : num m < 8) (c : Dev nD) (i : S1024x640.Idx) : EReal :=
  grad ⟨num m, hk⟩ (m ((c : Thread nD τ).loc main_arg1)) (m ((c : Thread nD τ).loc main_arg2)) i
def G6 (hk : num m < 8) (c : Dev nD) (i : S1024x640.Idx) : EReal :=
  step (G5 m hk c i) (m ((c : Thread nD τ).loc main_arg3) i) (m ((c : Thread nD τ).loc main_arg4) i) (m ((c : Thread nD τ).loc main_arg5) i)
def G7 (hk : num m < 8) (c : Dev nD) (i : S1024x640.Idx) : EReal := mom (G5 m hk c i) (m ((c : Thread nD τ).loc main_arg4) i)
def G8 (hk : num m < 8) (c : Dev nD) (i : S1024x640.Idx) : EReal := vel (G5 m hk c i) (m ((c : Thread nD τ).loc main_arg5) i)

theorem emb5 (t : Fin (cfgM m hO).N) (y : S128x640.Idx) :
    ∃ i : S1024x640.Idx, (((cfgM m hO).win 5).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos5 m hO t y _ rfl rfl, rfl, rfl⟩

theorem final5 (c : Dev nD) (hk : num m < 8) : (dats m hO 0 c).arrAt 5 (cfgM m hO).N = G5 m hk c := by
  refine (dats m hO 0 c).arrAt_eq_of_emb 5 _ (fun t hf y => ?_) (cover5 m hO)
  obtain ⟨i, he, h0, h1⟩ := emb5 m hO t y
  refine ((congrFun (after0_5 m hO c t) y).trans ?_)
  exact (out5 m hO c t hk y i h0 h1).trans (congrArg (G5 m hk c) he).symm

theorem emb6 (t : Fin (cfgM m hO).N) (y : S128x640.Idx) :
    ∃ i : S1024x640.Idx, (((cfgM m hO).win 6).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos6 m hO t y _ rfl rfl, rfl, rfl⟩

theorem final6 (c : Dev nD) (hk : num m < 8) : (dats m hO 0 c).arrAt 6 (cfgM m hO).N = G6 m hk c := by
  refine (dats m hO 0 c).arrAt_eq_of_emb 6 _ (fun t hf y => ?_) (cover6 m hO)
  obtain ⟨i, he, h0, h1⟩ := emb6 m hO t y
  refine ((congrFun (after0_6 m hO c t) y).trans ?_)
  exact (out6 m hO c t hk y i h0 h1).trans (congrArg (G6 m hk c) he).symm

theorem emb7 (t : Fin (cfgM m hO).N) (y : S128x640.Idx) :
    ∃ i : S1024x640.Idx, (((cfgM m hO).win 7).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos7 m hO t y _ rfl rfl, rfl, rfl⟩

theorem final7 (c : Dev nD) (hk : num m < 8) : (dats m hO 0 c).arrAt 7 (cfgM m hO).N = G7 m hk c := by
  refine (dats m hO 0 c).arrAt_eq_of_emb 7 _ (fun t hf y => ?_) (cover7 m hO)
  obtain ⟨i, he, h0, h1⟩ := emb7 m hO t y
  refine ((congrFun (after0_7 m hO c t) y).trans ?_)
  exact (out7 m hO c t hk y i h0 h1).trans (congrArg (G7 m hk c) he).symm

theorem emb8 (t : Fin (cfgM m hO).N) (y : S128x640.Idx) :
    ∃ i : S1024x640.Idx, (((cfgM m hO).win 8).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos8 m hO t y _ rfl rfl, rfl, rfl⟩

theorem final8 (c : Dev nD) (hk : num m < 8) : (dats m hO 0 c).arrAt 8 (cfgM m hO).N = G8 m hk c := by
  refine (dats m hO 0 c).arrAt_eq_of_emb 8 _ (fun t hf y => ?_) (cover8 m hO)
  obtain ⟨i, he, h0, h1⟩ := emb8 m hO t y
  refine ((congrFun (after0_8 m hO c t) y).trans ?_)
  exact (out8 m hO c t hk y i h0 h1).trans (congrArg (G8 m hk c) he).symm

section ref

open Cert.Reference9Ideal.Read

variable (x0 : IVec S1 32) (x1 : Vec Ideal S8x1024x640 .f32) (x2 : Vec Ideal S7x1024x640 .bf16) (x3 x4 x5 : Vec Ideal S1024x640 .f32)

theorem own_at (hk : (x0 (ix1 0)).toNat < 8) (i : S1024x640.Idx) :
    val_main_v6 (F := Ideal) x0 x1 i = x1 (ix3 ⟨(x0 (ix1 0)).toNat, hk⟩ (i 0) (i 1)) := by
  have e : val_main_v6 (F := Ideal) x0 x1 i = ∑ k : Fin 8, val_main_v5 (F := Ideal) x0 x1 (ix3 k (i 0) (i 1)) := by
    idx_vars i
    pointwise [val_main_v6, val_main_cst_0]
    done
  have hs : ∀ k : Fin 8, val_main_v5 (F := Ideal) x0 x1 (ix3 k (i 0) (i 1))
      = if (⟨(x0 (ix1 0)).toNat, hk⟩ : Fin 8) = k then x1 (ix3 k (i 0) (i 1)) else 0 := fun k => by
    have hz : val_main_call0_v2 (F := Ideal) (ix3 k (i 0) (i 1)) = 0 := by
      have hv : val_main_call0_v2 (F := Ideal) (ix3 k (i 0) (i 1)) = val_main_cst (F := Ideal) ix0 := rfl
      rw [hv]
      pointwise [val_main_cst]
      done
    have hc : val_main_call0_v1 (F := Ideal) x0 (ix3 k (i 0) (i 1)) = IntOp.cmpi .eq (BitVec.ofNat 32 k.val) (x0 (ix1 0)) :=
      congrArg (fun z => IntOp.cmpi .eq (BitVec.ofNat 32 k.val) (x0 z)) (ix_eq _ _)
    have hd : val_main_v5 (F := Ideal) x0 x1 (ix3 k (i 0) (i 1)) = if val_main_call0_v1 (F := Ideal) x0 (ix3 k (i 0) (i 1)) = 1#1
        then x1 (ix3 k (i 0) (i 1)) else val_main_call0_v2 (F := Ideal) (ix3 k (i 0) (i 1)) := rfl
    rw [hd, hz, hc]
    exact if_congr (word_eq _ hk k) rfl rfl
  rw [e, Finset.sum_congr rfl fun k _ => hs k, Finset.sum_ite_eq, if_pos (Finset.mem_univ _)]

theorem rg (hk : (x0 (ix1 0)).toNat < 8) (i : S1024x640.Idx) :
    val_main_v9 (F := Ideal) x0 x1 x2 i = grad ⟨(x0 (ix1 0)).toNat, hk⟩ x1 x2 i := by
  have e : val_main_v9 (F := Ideal) x0 x1 x2 i = val_main_v6 (F := Ideal) x0 x1 i + ∑ k : Fin 7, x2 (ix3 k (i 0) (i 1)) := by
    idx_vars i
    pointwise [val_main_v9, val_main_v8, val_main_v7, val_main_cst_1]
    done
  rw [e, own_at x0 x1 hk i, Fin.sum_univ_seven]
  unfold grad
  simp only [add_assoc]

theorem rm (i : S1024x640.Idx) : val_main_v14 (F := Ideal) x0 x1 x2 x4 i = mom (val_main_v9 (F := Ideal) x0 x1 x2 i) (x4 i) := rfl

theorem rv (i : S1024x640.Idx) : val_main_v20 (F := Ideal) x0 x1 x2 x5 i = vel (val_main_v9 (F := Ideal) x0 x1 x2 i) (x5 i) := rfl

theorem rd (i : S1024x640.Idx) : val_main_v33 (F := Ideal) x0 x1 x2 x3 x4 x5 i
    = step (val_main_v9 (F := Ideal) x0 x1 x2 i) (x3 i) (x4 i) (x5 i) := rfl

end ref

theorem algebraic : Cert.algebraic_Kernel9Ideal_Reference9Ideal := by
  intro m g m' g' hpre hag
  have hw : ∀ i : S1.Idx, ((m (((0 : Dev nD) : Thread nD τ).loc main_arg0) : IVec S1 32) i).toNat < 8 := num_lt _ _ _ _ _ _ (hpre 0)
  have hO : Ok m := ok_of m hw
  have hk : num m < 8 := hw (ix1 0)
  refine ⟨fun c => G5 m hk c, fun c => G6 m hk c, fun c => G7 m hk c, fun c => G8 m hk c, ?_, ?_⟩
  · refine (θ_run _ _ _).mono (fun _ h c => ?_) (θ_run_and (run_main m g hO) (unchanged m g hO))
    exact ⟨((h.1 c).1 5).trans (final5 m hO c hk), ((h.1 c).1 6).trans (final6 m hO c hk), ((h.1 c).1 7).trans (final7 m hO c hk),
      ((h.1 c).1 8).trans (final8 m hO c hk), h.2 c⟩
  · refine (θ_run _ _ _).mono (fun _ h c => ⟨(h c).1.trans ?_, (h c).2.1.trans ?_, (h c).2.2.1.trans ?_, (h c).2.2.2.1.trans ?_, (h c).2.2.2.2⟩)
      (Cert.Reference9Ideal.Value.run (F := Ideal) m' g')
    all_goals
      clear h
      obtain rfl : c = 0 := Subsingleton.elim _ _
      have a0 : m' (((0 : Dev Cert.Reference9Ideal.nD) : Thread Cert.Reference9Ideal.nD Cert.Reference9Ideal.τ).loc Cert.Reference9Ideal.main_arg0) = m (((0 : Dev nD) : Thread nD τ).loc main_arg0) := (hag 0).1
      have a1 : m' (((0 : Dev Cert.Reference9Ideal.nD) : Thread Cert.Reference9Ideal.nD Cert.Reference9Ideal.τ).loc Cert.Reference9Ideal.main_arg1) = m (((0 : Dev nD) : Thread nD τ).loc main_arg1) := (hag 0).2.1
      have a2 : m' (((0 : Dev Cert.Reference9Ideal.nD) : Thread Cert.Reference9Ideal.nD Cert.Reference9Ideal.τ).loc Cert.Reference9Ideal.main_arg2) = m (((0 : Dev nD) : Thread nD τ).loc main_arg2) := (hag 0).2.2.1
      have a3 : m' (((0 : Dev Cert.Reference9Ideal.nD) : Thread Cert.Reference9Ideal.nD Cert.Reference9Ideal.τ).loc Cert.Reference9Ideal.main_arg3) = m (((0 : Dev nD) : Thread nD τ).loc main_arg3) := (hag 0).2.2.2.1
      have a4 : m' (((0 : Dev Cert.Reference9Ideal.nD) : Thread Cert.Reference9Ideal.nD Cert.Reference9Ideal.τ).loc Cert.Reference9Ideal.main_arg4) = m (((0 : Dev nD) : Thread nD τ).loc main_arg4) := (hag 0).2.2.2.2.1
      have a5 : m' (((0 : Dev Cert.Reference9Ideal.nD) : Thread Cert.Reference9Ideal.nD Cert.Reference9Ideal.τ).loc Cert.Reference9Ideal.main_arg5) = m (((0 : Dev nD) : Thread nD τ).loc main_arg5) := (hag 0).2.2.2.2.2
    · rw [Cert.Reference9Ideal.Read.val_main_v9_eq, a0, a1, a2]
      exact funext fun i => rg _ _ _ hk i
    · rw [Cert.Reference9Ideal.Read.val_main_v33_eq, a0, a1, a2, a3, a4, a5]
      exact funext fun i => (rd _ _ _ _ _ _ i).trans (by rw [rg _ _ _ hk i]; rfl)
    · rw [Cert.Reference9Ideal.Read.val_main_v14_eq, a0, a1, a2, a4]
      exact funext fun i => (rm _ _ _ _ i).trans (by rw [rg _ _ _ hk i]; rfl)
    · rw [Cert.Reference9Ideal.Read.val_main_v20_eq, a0, a1, a2, a5]
      exact funext fun i => (rv _ _ _ _ i).trans (by rw [rg _ _ _ hk i]; rfl)

end Cert.K9

end
-- ==== Proof.K10.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Pre_in_mesh10
public import proofs.«01_k».proof.Proof.Adam
public import Idealize.ShloMosaic.Lib.Pointwise
public import Idealize.ShloMosaic.Lib.Pipeline.ValueKit

@[expose] public section

noncomputable section

namespace Cert.K10

open Cert.Kernel10Ideal Cert.Kernel10Ideal.Gen Idealize.ShloMosaic Idealize.ShloMosaic.TcCoe Idealize.SL.Sem
open Idealize.ShloMosaic.Pipeline (Dat)
open Cert.Adam

/-- The precondition bounds the device's number. -/
theorem num_lt {F : FTy → Type} [FloatOps F] (x0 : IVec S1 32) (x1 : FVec F Cert.Pre_in_mesh10.S8x128x256 .f32)
    (x2 : FVec F Cert.Pre_in_mesh10.S7x128x256 .f32) (x3 x4 x5 : FVec F Cert.Pre_in_mesh10.S128x256 .f32)
    (h : Cert.Pre_in_mesh10.fn (F := F) x0 x1 x2 x3 x4 x5 = fun _ => 1#1) (i : S1.Idx) : (x0 i).toNat < 8 := by
  have h1 := congrFun h (fun a => a.elim0)
  simp only [Cert.Pre_in_mesh10.fn] at h1
  obtain ⟨ha, hb⟩ := IntOp.andi_eq_one.mp h1
  have ha' : IntOp.cmpi .sge (x0 i) 0#32 = 1#1 := by rw [← ix_eq _ i]; exact ha
  have hb' : IntOp.cmpi .slt (x0 i) 8#32 = 1#1 := by rw [← ix_eq _ i]; exact hb
  exact word_lt _ ha' hb'

theorem ok_of {F : FTy → Type} [FloatOps F] (m : (ℓ : Loc nD τ sig) → Buf (Elt F) ℓ)
    (h : ∀ i : S1.Idx, ((m (((0 : Dev nD) : Thread nD τ).loc main_arg0) : IVec S1 32) i).toNat < 8) : Ok m := by
  intro i
  have hw : ((tbl m).at 0 (Rect.unit (s := S1) ![0] S1.size inb_S1_S1_0) numel1_S1 : BitVec 32).toNat < 8 := h _
  have h8 : (i 0).val < 8 := (i 0).isLt
  refine ⟨?_, .inl rfl⟩
  intro a
  match a with
  | ⟨0, _⟩ =>
    show (((tbl m).at 0 (Rect.unit (s := S1) ![0] S1.size inb_S1_S1_0) numel1_S1 : BitVec 32).toNat + 1) * 1 ≤ 8
    generalize ((tbl m).at 0 (Rect.unit (s := S1) ![0] S1.size inb_S1_S1_0) numel1_S1 : BitVec 32).toNat = b at hw ⊢
    omega
  | ⟨1, _⟩ => show ((BitVec.ofNat 32 (i 0).val).toNat + 1) * 16 ≤ 128; rw [BitVec.toNat_ofNat]; omega
  | ⟨2, _⟩ => show (0 + 1) * 256 ≤ 256; omega

theorem frame_k : Cert.quiescent_Kernel10 := fun m ρ h =>
  Cert.Kernel10.Gen.frame m ρ (by
    have hw : ∀ i : S1.Idx, ((m (((0 : Dev Cert.Kernel10.nD) : Thread Cert.Kernel10.nD Cert.Kernel10.τ).loc Cert.Kernel10.main_arg0) : IVec S1 32) i).toNat < 8 :=
      num_lt _ _ _ _ _ _ (h 0)
    intro i
    have hb : ((Cert.Kernel10.Gen.tbl m).at 0 (Rect.unit (s := S1) ![0] S1.size (by decide)) (by decide) : BitVec 32).toNat < 8 := hw _
    have h8 : (i 0).val < 8 := (i 0).isLt
    refine ⟨?_, .inl rfl⟩
    intro a
    match a with
    | ⟨0, _⟩ =>
      show (((Cert.Kernel10.Gen.tbl m).at 0 (Rect.unit (s := S1) ![0] S1.size (by decide)) (by decide) : BitVec 32).toNat + 1) * 1 ≤ 8
      generalize ((Cert.Kernel10.Gen.tbl m).at 0 (Rect.unit (s := S1) ![0] S1.size (by decide)) (by decide) : BitVec 32).toNat = b at hb ⊢
      omega
    | ⟨1, _⟩ => show ((BitVec.ofNat 32 (i 0).val).toNat + 1) * 16 ≤ 128; rw [BitVec.toNat_ofNat]; omega
    | ⟨2, _⟩ => show (0 + 1) * 256 ≤ 256; omega)

theorem frame_ki : Cert.quiescent_Kernel10Ideal := fun m ρ h =>
  Cert.Kernel10Ideal.Gen.frame m ρ (ok_of m (num_lt _ _ _ _ _ _ (h 0)))

theorem frame_ri : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

theorem pay4_at (v0 : Vec Ideal S1x16x256 .f32) (v2 v6 v10 v14 v18 v22 v26 : Vec Ideal S1x16x256 .f32) (j : S16x256.Idx) :
    k0_pay4 v0 v2 v6 v10 v14 v18 v22 v26 j = v0 (ix3 0 (j 0) (j 1)) + v2 (ix3 0 (j 0) (j 1)) + v6 (ix3 0 (j 0) (j 1))
      + v10 (ix3 0 (j 0) (j 1)) + v14 (ix3 0 (j 0) (j 1)) + v18 (ix3 0 (j 0) (j 1)) + v22 (ix3 0 (j 0) (j 1))
      + v26 (ix3 0 (j 0) (j 1)) := by
  idx_vars j
  pointwise [k0_pay4]
  done

/-- The gradient's sum over the devices. -/
def grad (k : Fin 8) (A1 : Vec Ideal S8x128x256 .f32) (A2 : Vec Ideal S7x128x256 .f32) (i : S128x256.Idx) : EReal :=
  A1 (ix3 k (i 0) (i 1)) + A2 (ix3 0 (i 0) (i 1)) + A2 (ix3 1 (i 0) (i 1)) + A2 (ix3 2 (i 0) (i 1)) + A2 (ix3 3 (i 0) (i 1)) + A2 (ix3 4 (i 0) (i 1)) + A2 (ix3 5 (i 0) (i 1)) + A2 (ix3 6 (i 0) (i 1))

theorem pay1_at (g m : Vec Ideal S16x256 .f32) (j : S16x256.Idx) : k0_pay1 g (k0_pay5 m) j = mom (g j) (m j) := by
  idx_vars j
  pointwise [k0_pay1, k0_pay5]
  rfl

theorem pay2_at (g v : Vec Ideal S16x256 .f32) (j : S16x256.Idx) : k0_pay2 g v j = vel (g j) (v j) := by
  idx_vars j
  pointwise [k0_pay2]
  rfl

theorem pay3_at (g w m v : Vec Ideal S16x256 .f32) (j : S16x256.Idx) : k0_pay3 g w v (k0_pay5 m) j = step (g j) (w j) (m j) (v j) := by
  idx_vars j
  pointwise [k0_pay3, k0_pay1, k0_pay2, k0_pay5]
  rfl

abbrev gs (x0 : Vec Ideal S1x16x256 .f32) (x1 : Vec Ideal S7x16x256 .f32) : Vec Ideal S16x256 .f32 := k0_pay4 x0 (View.ld x1 (Rect.unit ![0, 0, 0] ![1, 16, 256] inb_S7x16x256_S1x16x256_0_0_0)) (View.ld x1 (Rect.unit ![1, 0, 0] ![1, 16, 256] inb_S7x16x256_S1x16x256_1_0_0)) (View.ld x1 (Rect.unit ![2, 0, 0] ![1, 16, 256] inb_S7x16x256_S1x16x256_2_0_0)) (View.ld x1 (Rect.unit ![3, 0, 0] ![1, 16, 256] inb_S7x16x256_S1x16x256_3_0_0)) (View.ld x1 (Rect.unit ![4, 0, 0] ![1, 16, 256] inb_S7x16x256_S1x16x256_4_0_0)) (View.ld x1 (Rect.unit ![5, 0, 0] ![1, 16, 256] inb_S7x16x256_S1x16x256_5_0_0)) (View.ld x1 (Rect.unit ![6, 0, 0] ![1, 16, 256] inb_S7x16x256_S1x16x256_6_0_0))

section
variable (c : Dev nD) (i : grid0.Coords) (arg2 : Memref sig .tc .vmem S1x16x256 .f32) (harg2 : arg2.IsWhole) (arg3 : Memref sig .tc .vmem S7x16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x256 .f32) (harg9 : arg9.IsWhole) (arg10 : Memref sig .tc .vmem S16x256 .f32) (harg10 : arg10.IsWhole)
    (x0 : Vec Ideal S1x16x256 .f32) (x1 : Vec Ideal S7x16x256 .f32) (x2 : Vec Ideal S16x256 .f32) (x3 : Vec Ideal S16x256 .f32) (x4 : Vec Ideal S16x256 .f32) (xt0 : TbBuf0 (F := Ideal) c tbM0_0)
theorem outA5 :
    out0_A_5 c i arg2 harg2 arg3 harg3 arg4 harg4 arg5 harg5 arg6 harg6 arg7 harg7 arg8 harg8 arg9 harg9 arg10 harg10 x0 x1 x2 x3 x4 xt0 = gs x0 x1 := by
  frame_out

theorem outA6 :
    out0_A_6 c i arg2 harg2 arg3 harg3 arg4 harg4 arg5 harg5 arg6 harg6 arg7 harg7 arg8 harg8 arg9 harg9 arg10 harg10 x0 x1 x2 x3 x4 xt0 = k0_pay3 (gs x0 x1) x2 x4 (k0_pay5 x3) := by
  frame_out

theorem outA7 :
    out0_A_7 c i arg2 harg2 arg3 harg3 arg4 harg4 arg5 harg5 arg6 harg6 arg7 harg7 arg8 harg8 arg9 harg9 arg10 harg10 x0 x1 x2 x3 x4 xt0 = k0_pay1 (gs x0 x1) (k0_pay5 x3) := by
  frame_out

theorem outA8 :
    out0_A_8 c i arg2 harg2 arg3 harg3 arg4 harg4 arg5 harg5 arg6 harg6 arg7 harg7 arg8 harg8 arg9 harg9 arg10 harg10 x0 x1 x2 x3 x4 xt0 = k0_pay2 (gs x0 x1) x4 := by
  frame_out
end

variable (m : (ℓ : Loc nD τ sig) → Buf (Elt Ideal) ℓ) (hO : Ok m)

/-- The number of the device, as the prefetched word says it. -/
abbrev num : Nat := (m (((0 : Dev nD) : Thread nD τ).loc main_arg0) (ix1 0) : BitVec 32).toNat

theorem e0 (t : Fin (cfgM m hO).N) : ((cfgM m hO).win 0).index t = ![num m, t.val, 0] := by
  have h : ∀ t : Fin grid0.N, (BitVec.ofNat 32 ((grid0.coords t) 0).val).toNat = t.val := by decide +kernel
  have h1 : ((tbl m).at 0 (Rect.unit (s := S1) ![0] S1.size inb_S1_S1_0) numel1_S1 : BitVec 32) = m (((0 : Dev nD) : Thread nD τ).loc main_arg0) (ix1 0) :=
    congrArg (m (((0 : Dev nD) : Thread nD τ).loc main_arg0)) (ix_eq _ _)
  show ![((tbl m).at 0 (Rect.unit (s := S1) ![0] S1.size inb_S1_S1_0) numel1_S1 : BitVec 32).toNat, (BitVec.ofNat 32 ((grid0.coords t) 0).val).toNat, 0] = _
  rw [h1, h t]
theorem e1 (t : Fin (cfgM m hO).N) : ((cfgM m hO).win 1).index t = ![0, t.val, 0] :=
  (by decide +kernel : ∀ t : Fin grid0.N, cc0_transform_1 (grid0.coords t) = ![0, t.val, 0]) t
theorem e2 (t : Fin (cfgM m hO).N) : ((cfgM m hO).win 2).index t = ![t.val, 0] :=
  (by decide +kernel : ∀ t : Fin grid0.N, cc0_transform_2 (grid0.coords t) = ![t.val, 0]) t
theorem e3 (t : Fin (cfgM m hO).N) : ((cfgM m hO).win 3).index t = ![t.val, 0] :=
  (by decide +kernel : ∀ t : Fin grid0.N, cc0_transform_3 (grid0.coords t) = ![t.val, 0]) t
theorem e4 (t : Fin (cfgM m hO).N) : ((cfgM m hO).win 4).index t = ![t.val, 0] :=
  (by decide +kernel : ∀ t : Fin grid0.N, cc0_transform_4 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e6 (t : Fin (cfgM m hO).N) : ((cfgM m hO).win 6).index t = ![t.val, 0] :=
  (by decide +kernel : ∀ t : Fin grid0.N, cc0_transform_6 (grid0.coords t) = ![t.val, 0]) t
theorem e7 (t : Fin (cfgM m hO).N) : ((cfgM m hO).win 7).index t = ![t.val, 0] :=
  (by decide +kernel : ∀ t : Fin grid0.N, cc0_transform_7 (grid0.coords t) = ![t.val, 0]) t
theorem e8 (t : Fin (cfgM m hO).N) : ((cfgM m hO).win 8).index t = ![t.val, 0] :=
  (by decide +kernel : ∀ t : Fin grid0.N, cc0_transform_8 (grid0.coords t) = ![t.val, 0]) t

/-- Where a block's element lies in the array. -/
theorem pos0 (t : Fin (cfgM m hO).N) (y : S1x16x256.Idx) (hk : num m < 8) (R : Fin 128) (hR : R.val = 16 * t.val + (y 1).val) :
    (((cfgM m hO).win 0).blk t).view.emb y = (ix3 ⟨num m, hk⟩ R (y 2) : S8x128x256.Idx) := by
  funext a
  apply Fin.ext
  refine (Pipeline.Window.rect_emb_val ((cfgM m hO).win 0) t y a).trans ?_
  rw [e0]
  match a with
  | ⟨0, _⟩ => show num m * 1 + (y 0).val = num m; have : (y 0).val < 1 := (y 0).isLt; omega
  | ⟨1, _⟩ => show t.val * 16 + (y 1).val = R.val; omega
  | ⟨2, _⟩ => show 0 * 256 + (y 2).val = (y 2).val; omega

theorem pos1 (t : Fin (cfgM m hO).N) (y : S7x16x256.Idx) (R : Fin 128) (hR : R.val = 16 * t.val + (y 1).val) :
    (((cfgM m hO).win 1).blk t).view.emb y = (ix3 (y 0) R (y 2) : S7x128x256.Idx) := by
  funext a
  apply Fin.ext
  refine (Pipeline.Window.rect_emb_val ((cfgM m hO).win 1) t y a).trans ?_
  rw [e1]
  match a with
  | ⟨0, _⟩ => show 0 * 7 + (y 0).val = (y 0).val; omega
  | ⟨1, _⟩ => show t.val * 16 + (y 1).val = R.val; omega
  | ⟨2, _⟩ => show 0 * 256 + (y 2).val = (y 2).val; omega

theorem pos2 (t : Fin (cfgM m hO).N) (y : S16x256.Idx) (i : S128x256.Idx) (h0 : (i 0).val = 16 * t.val + (y 0).val)
    (h1 : (i 1).val = (y 1).val) : (((cfgM m hO).win 2).blk t).view.emb y = i := by
  funext a
  apply Fin.ext
  refine (Pipeline.Window.rect_emb_val ((cfgM m hO).win 2) t y a).trans ?_
  rw [e2]
  match a with
  | ⟨0, _⟩ => show t.val * 16 + (y 0).val = (i 0).val; omega
  | ⟨1, _⟩ => show 0 * 256 + (y 1).val = (i 1).val; omega

theorem pos3 (t : Fin (cfgM m hO).N) (y : S16x256.Idx) (i : S128x256.Idx) (h0 : (i 0).val = 16 * t.val + (y 0).val)
    (h1 : (i 1).val = (y 1).val) : (((cfgM m hO).win 3).blk t).view.emb y = i := by
  funext a
  apply Fin.ext
  refine (Pipeline.Window.rect_emb_val ((cfgM m hO).win 3) t y a).trans ?_
  rw [e3]
  match a with
  | ⟨0, _⟩ => show t.val * 16 + (y 0).val = (i 0).val; omega
  | ⟨1, _⟩ => show 0 * 256 + (y 1).val = (i 1).val; omega

theorem pos4 (t : Fin (cfgM m hO).N) (y : S16x256.Idx) (i : S128x256.Idx) (h0 : (i 0).val = 16 * t.val + (y 0).val)
    (h1 : (i 1).val = (y 1).val) : (((cfgM m hO).win 4).blk t).view.emb y = i := by
  funext a
  apply Fin.ext
  refine (Pipeline.Window.rect_emb_val ((cfgM m hO).win 4) t y a).trans ?_
  rw [e4]
  match a with
  | ⟨0, _⟩ => show t.val * 16 + (y 0).val = (i 0).val; omega
  | ⟨1, _⟩ => show 0 * 256 + (y 1).val = (i 1).val; omega

theorem pos5 (t : Fin (cfgM m hO).N) (y : S16x256.Idx) (i : S128x256.Idx) (h0 : (i 0).val = 16 * t.val + (y 0).val)
    (h1 : (i 1).val = (y 1).val) : (((cfgM m hO).win 5).blk t).view.emb y = i := by
  funext a
  apply Fin.ext
  refine (Pipeline.Window.rect_emb_val ((cfgM m hO).win 5) t y a).trans ?_
  rw [e5]
  match a with
  | ⟨0, _⟩ => show t.val * 16 + (y 0).val = (i 0).val; omega
  | ⟨1, _⟩ => show 0 * 256 + (y 1).val = (i 1).val; omega

theorem pos6 (t : Fin (cfgM m hO).N) (y : S16x256.Idx) (i : S128x256.Idx) (h0 : (i 0).val = 16 * t.val + (y 0).val)
    (h1 : (i 1).val = (y 1).val) : (((cfgM m hO).win 6).blk t).view.emb y = i := by
  funext a
  apply Fin.ext
  refine (Pipeline.Window.rect_emb_val ((cfgM m hO).win 6) t y a).trans ?_
  rw [e6]
  match a with
  | ⟨0, _⟩ => show t.val * 16 + (y 0).val = (i 0).val; omega
  | ⟨1, _⟩ => show 0 * 256 + (y 1).val = (i 1).val; omega

theorem pos7 (t : Fin (cfgM m hO).N) (y : S16x256.Idx) (i : S128x256.Idx) (h0 : (i 0).val = 16 * t.val + (y 0).val)
    (h1 : (i 1).val = (y 1).val) : (((cfgM m hO).win 7).blk t).view.emb y = i := by
  funext a
  apply Fin.ext
  refine (Pipeline.Window.rect_emb_val ((cfgM m hO).win 7) t y a).trans ?_
  rw [e7]
  match a with
  | ⟨0, _⟩ => show t.val * 16 + (y 0).val = (i 0).val; omega
  | ⟨1, _⟩ => show 0 * 256 + (y 1).val = (i 1).val; omega

theorem pos8 (t : Fin (cfgM m hO).N) (y : S16x256.Idx) (i : S128x256.Idx) (h0 : (i 0).val = 16 * t.val + (y 0).val)
    (h1 : (i 1).val = (y 1).val) : (((cfgM m hO).win 8).blk t).view.emb y = i := by
  funext a
  apply Fin.ext
  refine (Pipeline.Window.rect_emb_val ((cfgM m hO).win 8) t y a).trans ?_
  rw [e8]
  match a with
  | ⟨0, _⟩ => show t.val * 16 + (y 0).val = (i 0).val; omega
  | ⟨1, _⟩ => show 0 * 256 + (y 1).val = (i 1).val; omega

theorem cover5 (i : S128x256.Idx) :
    ∃ t : Fin (cfgM m hO).N, ((cfgM m hO).win 5).flush t = true ∧ i ∈ (((cfgM m hO).win 5).blk t).view.set := by
  have h0 : (i 0).val < 128 := (i 0).isLt
  have h1 : (i 1).val < 256 := (i 1).isLt
  refine ⟨⟨(i 0).val / 16, show _ < 8 by omega⟩, flush0_5 _ _, ?_⟩
  refine (Pipeline.Window.emb_mem_blk_iff ((cfgM m hO).win 5) _ i).mpr fun a => ?_
  rw [e5]
  match a with
  | ⟨0, _⟩ => show (i 0).val / 16 * 16 ≤ (i 0).val ∧ (i 0).val < (i 0).val / 16 * 16 + 16; omega
  | ⟨1, _⟩ => show 0 * 256 ≤ (i 1).val ∧ (i 1).val < 0 * 256 + 256; omega

theorem cover6 (i : S128x256.Idx) :
    ∃ t : Fin (cfgM m hO).N, ((cfgM m hO).win 6).flush t = true ∧ i ∈ (((cfgM m hO).win 6).blk t).view.set := by
  have h0 : (i 0).val < 128 := (i 0).isLt
  have h1 : (i 1).val < 256 := (i 1).isLt
  refine ⟨⟨(i 0).val / 16, show _ < 8 by omega⟩, flush0_6 _ _, ?_⟩
  refine (Pipeline.Window.emb_mem_blk_iff ((cfgM m hO).win 6) _ i).mpr fun a => ?_
  rw [e6]
  match a with
  | ⟨0, _⟩ => show (i 0).val / 16 * 16 ≤ (i 0).val ∧ (i 0).val < (i 0).val / 16 * 16 + 16; omega
  | ⟨1, _⟩ => show 0 * 256 ≤ (i 1).val ∧ (i 1).val < 0 * 256 + 256; omega

theorem cover7 (i : S128x256.Idx) :
    ∃ t : Fin (cfgM m hO).N, ((cfgM m hO).win 7).flush t = true ∧ i ∈ (((cfgM m hO).win 7).blk t).view.set := by
  have h0 : (i 0).val < 128 := (i 0).isLt
  have h1 : (i 1).val < 256 := (i 1).isLt
  refine ⟨⟨(i 0).val / 16, show _ < 8 by omega⟩, flush0_7 _ _, ?_⟩
  refine (Pipeline.Window.emb_mem_blk_iff ((cfgM m hO).win 7) _ i).mpr fun a => ?_
  rw [e7]
  match a with
  | ⟨0, _⟩ => show (i 0).val / 16 * 16 ≤ (i 0).val ∧ (i 0).val < (i 0).val / 16 * 16 + 16; omega
  | ⟨1, _⟩ => show 0 * 256 ≤ (i 1).val ∧ (i 1).val < 0 * 256 + 256; omega

theorem cover8 (i : S128x256.Idx) :
    ∃ t : Fin (cfgM m hO).N, ((cfgM m hO).win 8).flush t = true ∧ i ∈ (((cfgM m hO).win 8).blk t).view.set := by
  have h0 : (i 0).val < 128 := (i 0).isLt
  have h1 : (i 1).val < 256 := (i 1).isLt
  refine ⟨⟨(i 0).val / 16, show _ < 8 by omega⟩, flush0_8 _ _, ?_⟩
  refine (Pipeline.Window.emb_mem_blk_iff ((cfgM m hO).win 8) _ i).mpr fun a => ?_
  rw [e8]
  match a with
  | ⟨0, _⟩ => show (i 0).val / 16 * 16 ≤ (i 0).val ∧ (i 0).val < (i 0).val / 16 * 16 + 16; omega
  | ⟨1, _⟩ => show 0 * 256 ≤ (i 1).val ∧ (i 1).val < 0 * 256 + 256; omega

/-- The input blocks of a grid point, at their arrays' elements. -/
abbrev b0 (c : Dev nD) (t : Fin (cfgM m hO).N) : Vec Ideal S1x16x256 .f32 := iblk m hO c 0 t
abbrev b1 (c : Dev nD) (t : Fin (cfgM m hO).N) : Vec Ideal S7x16x256 .f32 := iblk m hO c 1 t
abbrev b2 (c : Dev nD) (t : Fin (cfgM m hO).N) : Vec Ideal S16x256 .f32 := iblk m hO c 2 t
abbrev b3 (c : Dev nD) (t : Fin (cfgM m hO).N) : Vec Ideal S16x256 .f32 := iblk m hO c 3 t
abbrev b4 (c : Dev nD) (t : Fin (cfgM m hO).N) : Vec Ideal S16x256 .f32 := iblk m hO c 4 t

theorem b0_at (c : Dev nD) (t : Fin (cfgM m hO).N) (hk : num m < 8) (y : S1x16x256.Idx) (R : Fin 128) (hR : R.val = 16 * t.val + (y 1).val) :
    b0 m hO c t y = m ((c : Thread nD τ).loc main_arg1) (ix3 ⟨num m, hk⟩ R (y 2)) :=
  congrArg (m ((c : Thread nD τ).loc main_arg1)) (pos0 m hO t y hk R hR)
theorem b1_at (c : Dev nD) (t : Fin (cfgM m hO).N) (y : S7x16x256.Idx) (R : Fin 128) (hR : R.val = 16 * t.val + (y 1).val) :
    b1 m hO c t y = m ((c : Thread nD τ).loc main_arg2) (ix3 (y 0) R (y 2)) :=
  congrArg (m ((c : Thread nD τ).loc main_arg2)) (pos1 m hO t y R hR)
theorem b2_at (c : Dev nD) (t : Fin (cfgM m hO).N) (y : S16x256.Idx) (i : S128x256.Idx) (h0 : (i 0).val = 16 * t.val + (y 0).val)
    (h1 : (i 1).val = (y 1).val) : b2 m hO c t y = m ((c : Thread nD τ).loc main_arg3) i :=
  congrArg (m ((c : Thread nD τ).loc main_arg3)) (pos2 m hO t y i h0 h1)
theorem b3_at (c : Dev nD) (t : Fin (cfgM m hO).N) (y : S16x256.Idx) (i : S128x256.Idx) (h0 : (i 0).val = 16 * t.val + (y 0).val)
    (h1 : (i 1).val = (y 1).val) : b3 m hO c t y = m ((c : Thread nD τ).loc main_arg4) i :=
  congrArg (m ((c : Thread nD τ).loc main_arg4)) (pos3 m hO t y i h0 h1)
theorem b4_at (c : Dev nD) (t : Fin (cfgM m hO).N) (y : S16x256.Idx) (i : S128x256.Idx) (h0 : (i 0).val = 16 * t.val + (y 0).val)
    (h1 : (i 1).val = (y 1).val) : b4 m hO c t y = m ((c : Thread nD τ).loc main_arg5) i :=
  congrArg (m ((c : Thread nD τ).loc main_arg5)) (pos4 m hO t y i h0 h1)

/-- The sum's block at a grid point. -/
abbrev sum (c : Dev nD) (t : Fin (cfgM m hO).N) : Vec Ideal S16x256 .f32 := k0_pay4 (b0 m hO c t) (View.ld (b1 m hO c t) (Rect.unit ![0, 0, 0] ![1, 16, 256] inb_S7x16x256_S1x16x256_0_0_0)) (View.ld (b1 m hO c t) (Rect.unit ![1, 0, 0] ![1, 16, 256] inb_S7x16x256_S1x16x256_1_0_0)) (View.ld (b1 m hO c t) (Rect.unit ![2, 0, 0] ![1, 16, 256] inb_S7x16x256_S1x16x256_2_0_0)) (View.ld (b1 m hO c t) (Rect.unit ![3, 0, 0] ![1, 16, 256] inb_S7x16x256_S1x16x256_3_0_0)) (View.ld (b1 m hO c t) (Rect.unit ![4, 0, 0] ![1, 16, 256] inb_S7x16x256_S1x16x256_4_0_0)) (View.ld (b1 m hO c t) (Rect.unit ![5, 0, 0] ![1, 16, 256] inb_S7x16x256_S1x16x256_5_0_0)) (View.ld (b1 m hO c t) (Rect.unit ![6, 0, 0] ![1, 16, 256] inb_S7x16x256_S1x16x256_6_0_0))

theorem ld_at (x : Vec Ideal S7x16x256 .f32) (k : Fin 7) (y : S16x256.Idx) (h) :
    View.ld x (Rect.unit ![k.val, 0, 0] ![1, 16, 256] h) (ix3 0 (y 0) (y 1)) = x (ix3 k (y 0) (y 1)) := by
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem sum_at (c : Dev nD) (t : Fin (cfgM m hO).N) (hk : num m < 8) (y : S16x256.Idx) (i : S128x256.Idx) (h0 : (i 0).val = 16 * t.val + (y 0).val)
    (h1 : (i 1).val = (y 1).val) : sum m hO c t y
      = grad ⟨num m, hk⟩ (m ((c : Thread nD τ).loc main_arg1)) (m ((c : Thread nD τ).loc main_arg2)) i := by
  have e1 : y 1 = i 1 := Fin.ext h1.symm
  have e : ∀ (k : Fin 7) (h), View.ld (b1 m hO c t) (Rect.unit ![k.val, 0, 0] ![1, 16, 256] h) (ix3 0 (y 0) (y 1))
      = m ((c : Thread nD τ).loc main_arg2) (ix3 k (i 0) (i 1)) := fun k h => by
    refine (ld_at (b1 m hO c t) k y h).trans ?_
    rw [b1_at m hO c t _ (i 0) h0, ← e1]
    rfl
  rw [sum, pay4_at, b0_at m hO c t hk _ (i 0) h0]
  unfold grad
  rw [← e1] at e ⊢
  exact congrArg₂ _ (congrArg₂ _ (congrArg₂ _ (congrArg₂ _ (congrArg₂ _ (congrArg₂ _ (congrArg₂ _ rfl (e 0 _)) (e 1 _)) (e 2 _)) (e 3 _)) (e 4 _)) (e 5 _)) (e 6 _)

attribute [local irreducible] out0_A_5 out0_A_6 out0_A_7 out0_A_8 in
theorem outs5 (c : Dev nD) (t : Fin (cfgM m hO).N) : (outsAt0 m hO c t).1 = sum m hO c t := by
  exact outA5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs6 (c : Dev nD) (t : Fin (cfgM m hO).N) : (outsAt0 m hO c t).2.1 = k0_pay3 (sum m hO c t) (b2 m hO c t) (b4 m hO c t) (k0_pay5 (b3 m hO c t)) := by
  exact outA6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs7 (c : Dev nD) (t : Fin (cfgM m hO).N) : (outsAt0 m hO c t).2.2.1 = k0_pay1 (sum m hO c t) (k0_pay5 (b3 m hO c t)) := by
  exact outA7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs8 (c : Dev nD) (t : Fin (cfgM m hO).N) : (outsAt0 m hO c t).2.2.2 = k0_pay2 (sum m hO c t) (b4 m hO c t) := by
  exact outA8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)

section finals

variable (c : Dev nD) (t : Fin (cfgM m hO).N) (hk : num m < 8) (y : S16x256.Idx) (i : S128x256.Idx)
  (h0 : (i 0).val = 16 * t.val + (y 0).val) (h1 : (i 1).val = (y 1).val)

include h0 h1

theorem out5 : (outsAt0 m hO c t).1 y = grad ⟨num m, hk⟩ (m ((c : Thread nD τ).loc main_arg1)) (m ((c : Thread nD τ).loc main_arg2)) i := by
  refine (congrFun (outs5 m hO c t) y).trans ?_
  exact sum_at m hO c t hk y i h0 h1

theorem out6 : (outsAt0 m hO c t).2.1 y = step (grad ⟨num m, hk⟩ (m ((c : Thread nD τ).loc main_arg1)) (m ((c : Thread nD τ).loc main_arg2)) i)
    (m ((c : Thread nD τ).loc main_arg3) i) (m ((c : Thread nD τ).loc main_arg4) i) (m ((c : Thread nD τ).loc main_arg5) i) := by
  refine (congrFun (outs6 m hO c t) y).trans ?_
  refine (pay3_at (sum m hO c t) (b2 m hO c t) (b3 m hO c t) (b4 m hO c t) y).trans ?_
  rw [sum_at m hO c t hk y i h0 h1, b2_at m hO c t y i h0 h1, b3_at m hO c t y i h0 h1, b4_at m hO c t y i h0 h1]

theorem out7 : (outsAt0 m hO c t).2.2.1 y = mom (grad ⟨num m, hk⟩ (m ((c : Thread nD τ).loc main_arg1)) (m ((c : Thread nD τ).loc main_arg2)) i)
    (m ((c : Thread nD τ).loc main_arg4) i) := by
  refine (congrFun (outs7 m hO c t) y).trans ?_
  refine (pay1_at (sum m hO c t) (b3 m hO c t) y).trans ?_
  rw [sum_at m hO c t hk y i h0 h1, b3_at m hO c t y i h0 h1]

theorem out8 : (outsAt0 m hO c t).2.2.2 y = vel (grad ⟨num m, hk⟩ (m ((c : Thread nD τ).loc main_arg1)) (m ((c : Thread nD τ).loc main_arg2)) i)
    (m ((c : Thread nD τ).loc main_arg5) i) := by
  refine (congrFun (outs8 m hO c t) y).trans ?_
  refine (pay2_at (sum m hO c t) (b4 m hO c t) y).trans ?_
  rw [sum_at m hO c t hk y i h0 h1, b4_at m hO c t y i h0 h1]

end finals

/-- The four results as functions of the arguments. -/
def G5 (hk : num m < 8) (c : Dev nD) (i : S128x256.Idx) : EReal :=
  grad ⟨num m, hk⟩ (m ((c : Thread nD τ).loc main_arg1)) (m ((c : Thread nD τ).loc main_arg2)) i
def G6 (hk : num m < 8) (c : Dev nD) (i : S128x256.Idx) : EReal :=
  step (G5 m hk c i) (m ((c : Thread nD τ).loc main_arg3) i) (m ((c : Thread nD τ).loc main_arg4) i) (m ((c : Thread nD τ).loc main_arg5) i)
def G7 (hk : num m < 8) (c : Dev nD) (i : S128x256.Idx) : EReal := mom (G5 m hk c i) (m ((c : Thread nD τ).loc main_arg4) i)
def G8 (hk : num m < 8) (c : Dev nD) (i : S128x256.Idx) : EReal := vel (G5 m hk c i) (m ((c : Thread nD τ).loc main_arg5) i)

theorem emb5 (t : Fin (cfgM m hO).N) (y : S16x256.Idx) :
    ∃ i : S128x256.Idx, (((cfgM m hO).win 5).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos5 m hO t y _ rfl rfl, rfl, rfl⟩

theorem final5 (c : Dev nD) (hk : num m < 8) : (dats m hO 0 c).arrAt 5 (cfgM m hO).N = G5 m hk c := by
  refine (dats m hO 0 c).arrAt_eq_of_emb 5 _ (fun t hf y => ?_) (cover5 m hO)
  obtain ⟨i, he, h0, h1⟩ := emb5 m hO t y
  refine ((congrFun (after0_5 m hO c t) y).trans ?_)
  exact (out5 m hO c t hk y i h0 h1).trans (congrArg (G5 m hk c) he).symm

theorem emb6 (t : Fin (cfgM m hO).N) (y : S16x256.Idx) :
    ∃ i : S128x256.Idx, (((cfgM m hO).win 6).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos6 m hO t y _ rfl rfl, rfl, rfl⟩

theorem final6 (c : Dev nD) (hk : num m < 8) : (dats m hO 0 c).arrAt 6 (cfgM m hO).N = G6 m hk c := by
  refine (dats m hO 0 c).arrAt_eq_of_emb 6 _ (fun t hf y => ?_) (cover6 m hO)
  obtain ⟨i, he, h0, h1⟩ := emb6 m hO t y
  refine ((congrFun (after0_6 m hO c t) y).trans ?_)
  exact (out6 m hO c t hk y i h0 h1).trans (congrArg (G6 m hk c) he).symm

theorem emb7 (t : Fin (cfgM m hO).N) (y : S16x256.Idx) :
    ∃ i : S128x256.Idx, (((cfgM m hO).win 7).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos7 m hO t y _ rfl rfl, rfl, rfl⟩

theorem final7 (c : Dev nD) (hk : num m < 8) : (dats m hO 0 c).arrAt 7 (cfgM m hO).N = G7 m hk c := by
  refine (dats m hO 0 c).arrAt_eq_of_emb 7 _ (fun t hf y => ?_) (cover7 m hO)
  obtain ⟨i, he, h0, h1⟩ := emb7 m hO t y
  refine ((congrFun (after0_7 m hO c t) y).trans ?_)
  exact (out7 m hO c t hk y i h0 h1).trans (congrArg (G7 m hk c) he).symm

theorem emb8 (t : Fin (cfgM m hO).N) (y : S16x256.Idx) :
    ∃ i : S128x256.Idx, (((cfgM m hO).win 8).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos8 m hO t y _ rfl rfl, rfl, rfl⟩

theorem final8 (c : Dev nD) (hk : num m < 8) : (dats m hO 0 c).arrAt 8 (cfgM m hO).N = G8 m hk c := by
  refine (dats m hO 0 c).arrAt_eq_of_emb 8 _ (fun t hf y => ?_) (cover8 m hO)
  obtain ⟨i, he, h0, h1⟩ := emb8 m hO t y
  refine ((congrFun (after0_8 m hO c t) y).trans ?_)
  exact (out8 m hO c t hk y i h0 h1).trans (congrArg (G8 m hk c) he).symm

section ref

open Cert.Reference10Ideal.Read

variable (x0 : IVec S1 32) (x1 : Vec Ideal S8x128x256 .f32) (x2 : Vec Ideal S7x128x256 .f32) (x3 x4 x5 : Vec Ideal S128x256 .f32)

theorem own_at (hk : (x0 (ix1 0)).toNat < 8) (i : S128x256.Idx) :
    val_main_v6 (F := Ideal) x0 x1 i = x1 (ix3 ⟨(x0 (ix1 0)).toNat, hk⟩ (i 0) (i 1)) := by
  have e : val_main_v6 (F := Ideal) x0 x1 i = ∑ k : Fin 8, val_main_v5 (F := Ideal) x0 x1 (ix3 k (i 0) (i 1)) := by
    idx_vars i
    pointwise [val_main_v6, val_main_cst_0]
    done
  have hs : ∀ k : Fin 8, val_main_v5 (F := Ideal) x0 x1 (ix3 k (i 0) (i 1))
      = if (⟨(x0 (ix1 0)).toNat, hk⟩ : Fin 8) = k then x1 (ix3 k (i 0) (i 1)) else 0 := fun k => by
    have hz : val_main_call0_v2 (F := Ideal) (ix3 k (i 0) (i 1)) = 0 := by
      have hv : val_main_call0_v2 (F := Ideal) (ix3 k (i 0) (i 1)) = val_main_cst (F := Ideal) ix0 := rfl
      rw [hv]
      pointwise [val_main_cst]
      done
    have hc : val_main_call0_v1 (F := Ideal) x0 (ix3 k (i 0) (i 1)) = IntOp.cmpi .eq (BitVec.ofNat 32 k.val) (x0 (ix1 0)) :=
      congrArg (fun z => IntOp.cmpi .eq (BitVec.ofNat 32 k.val) (x0 z)) (ix_eq _ _)
    have hd : val_main_v5 (F := Ideal) x0 x1 (ix3 k (i 0) (i 1)) = if val_main_call0_v1 (F := Ideal) x0 (ix3 k (i 0) (i 1)) = 1#1
        then x1 (ix3 k (i 0) (i 1)) else val_main_call0_v2 (F := Ideal) (ix3 k (i 0) (i 1)) := rfl
    rw [hd, hz, hc]
    exact if_congr (word_eq _ hk k) rfl rfl
  rw [e, Finset.sum_congr rfl fun k _ => hs k, Finset.sum_ite_eq, if_pos (Finset.mem_univ _)]

theorem rg (hk : (x0 (ix1 0)).toNat < 8) (i : S128x256.Idx) :
    val_main_v8 (F := Ideal) x0 x1 x2 i = grad ⟨(x0 (ix1 0)).toNat, hk⟩ x1 x2 i := by
  have e : val_main_v8 (F := Ideal) x0 x1 x2 i = val_main_v6 (F := Ideal) x0 x1 i + ∑ k : Fin 7, x2 (ix3 k (i 0) (i 1)) := by
    idx_vars i
    pointwise [val_main_v8, val_main_v7, val_main_cst_1]
    done
  rw [e, own_at x0 x1 hk i, Fin.sum_univ_seven]
  unfold grad
  simp only [add_assoc]

theorem rm (i : S128x256.Idx) : val_main_v13 (F := Ideal) x0 x1 x2 x4 i = mom (val_main_v8 (F := Ideal) x0 x1 x2 i) (x4 i) := rfl

theorem rv (i : S128x256.Idx) : val_main_v19 (F := Ideal) x0 x1 x2 x5 i = vel (val_main_v8 (F := Ideal) x0 x1 x2 i) (x5 i) := rfl

theorem rd (i : S128x256.Idx) : val_main_v32 (F := Ideal) x0 x1 x2 x3 x4 x5 i
    = step (val_main_v8 (F := Ideal) x0 x1 x2 i) (x3 i) (x4 i) (x5 i) := rfl

end ref

theorem algebraic : Cert.algebraic_Kernel10Ideal_Reference10Ideal := by
  intro m g m' g' hpre hag
  have hw : ∀ i : S1.Idx, ((m (((0 : Dev nD) : Thread nD τ).loc main_arg0) : IVec S1 32) i).toNat < 8 := num_lt _ _ _ _ _ _ (hpre 0)
  have hO : Ok m := ok_of m hw
  have hk : num m < 8 := hw (ix1 0)
  refine ⟨fun c => G5 m hk c, fun c => G6 m hk c, fun c => G7 m hk c, fun c => G8 m hk c, ?_, ?_⟩
  · refine (θ_run _ _ _).mono (fun _ h c => ?_) (θ_run_and (run_main m g hO) (unchanged m g hO))
    exact ⟨((h.1 c).1 5).trans (final5 m hO c hk), ((h.1 c).1 6).trans (final6 m hO c hk), ((h.1 c).1 7).trans (final7 m hO c hk),
      ((h.1 c).1 8).trans (final8 m hO c hk), h.2 c⟩
  · refine (θ_run _ _ _).mono (fun _ h c => ⟨(h c).1.trans ?_, (h c).2.1.trans ?_, (h c).2.2.1.trans ?_, (h c).2.2.2.1.trans ?_, (h c).2.2.2.2⟩)
      (Cert.Reference10Ideal.Value.run (F := Ideal) m' g')
    all_goals
      clear h
      obtain rfl : c = 0 := Subsingleton.elim _ _
      have a0 : m' (((0 : Dev Cert.Reference10Ideal.nD) : Thread Cert.Reference10Ideal.nD Cert.Reference10Ideal.τ).loc Cert.Reference10Ideal.main_arg0) = m (((0 : Dev nD) : Thread nD τ).loc main_arg0) := (hag 0).1
      have a1 : m' (((0 : Dev Cert.Reference10Ideal.nD) : Thread Cert.Reference10Ideal.nD Cert.Reference10Ideal.τ).loc Cert.Reference10Ideal.main_arg1) = m (((0 : Dev nD) : Thread nD τ).loc main_arg1) := (hag 0).2.1
      have a2 : m' (((0 : Dev Cert.Reference10Ideal.nD) : Thread Cert.Reference10Ideal.nD Cert.Reference10Ideal.τ).loc Cert.Reference10Ideal.main_arg2) = m (((0 : Dev nD) : Thread nD τ).loc main_arg2) := (hag 0).2.2.1
      have a3 : m' (((0 : Dev Cert.Reference10Ideal.nD) : Thread Cert.Reference10Ideal.nD Cert.Reference10Ideal.τ).loc Cert.Reference10Ideal.main_arg3) = m (((0 : Dev nD) : Thread nD τ).loc main_arg3) := (hag 0).2.2.2.1
      have a4 : m' (((0 : Dev Cert.Reference10Ideal.nD) : Thread Cert.Reference10Ideal.nD Cert.Reference10Ideal.τ).loc Cert.Reference10Ideal.main_arg4) = m (((0 : Dev nD) : Thread nD τ).loc main_arg4) := (hag 0).2.2.2.2.1
      have a5 : m' (((0 : Dev Cert.Reference10Ideal.nD) : Thread Cert.Reference10Ideal.nD Cert.Reference10Ideal.τ).loc Cert.Reference10Ideal.main_arg5) = m (((0 : Dev nD) : Thread nD τ).loc main_arg5) := (hag 0).2.2.2.2.2
    · rw [Cert.Reference10Ideal.Read.val_main_v8_eq, a0, a1, a2]
      exact funext fun i => rg _ _ _ hk i
    · rw [Cert.Reference10Ideal.Read.val_main_v32_eq, a0, a1, a2, a3, a4, a5]
      exact funext fun i => (rd _ _ _ _ _ _ i).trans (by rw [rg _ _ _ hk i]; rfl)
    · rw [Cert.Reference10Ideal.Read.val_main_v13_eq, a0, a1, a2, a4]
      exact funext fun i => (rm _ _ _ _ i).trans (by rw [rg _ _ _ hk i]; rfl)
    · rw [Cert.Reference10Ideal.Read.val_main_v19_eq, a0, a1, a2, a5]
      exact funext fun i => (rv _ _ _ _ i).trans (by rw [rg _ _ _ hk i]; rfl)

end Cert.K10

end
-- ==== Proof.K11.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_in_mesh11
public import proofs.«01_k».proof.Proof.Adam
public import Idealize.ShloMosaic.Lib.Pointwise
public import Idealize.ShloMosaic.Lib.Pipeline.ValueKit

@[expose] public section

noncomputable section

namespace Cert.K11

open Cert.Kernel11Ideal Cert.Kernel11Ideal.Gen Idealize.ShloMosaic Idealize.ShloMosaic.TcCoe Idealize.SL.Sem
open Idealize.ShloMosaic.Pipeline (Dat)
open Cert.Adam

/-- The precondition bounds the device's number. -/
theorem num_lt {F : FTy → Type} [FloatOps F] (x0 : IVec S1 32) (x1 : FVec F Cert.Pre_in_mesh11.S8x256x1024 .f32)
    (x2 : FVec F Cert.Pre_in_mesh11.S7x256x1024 .bf16) (x3 x4 x5 : FVec F Cert.Pre_in_mesh11.S256x1024 .f32)
    (h : Cert.Pre_in_mesh11.fn (F := F) x0 x1 x2 x3 x4 x5 = fun _ => 1#1) (i : S1.Idx) : (x0 i).toNat < 8 := by
  have h1 := congrFun h (fun a => a.elim0)
  simp only [Cert.Pre_in_mesh11.fn] at h1
  obtain ⟨ha, hb⟩ := IntOp.andi_eq_one.mp h1
  have ha' : IntOp.cmpi .sge (x0 i) 0#32 = 1#1 := by rw [← ix_eq _ i]; exact ha
  have hb' : IntOp.cmpi .slt (x0 i) 8#32 = 1#1 := by rw [← ix_eq _ i]; exact hb
  exact word_lt _ ha' hb'

theorem ok_of {F : FTy → Type} [FloatOps F] (m : (ℓ : Loc nD τ sig) → Buf (Elt F) ℓ)
    (h : ∀ i : S1.Idx, ((m (((0 : Dev nD) : Thread nD τ).loc main_arg0) : IVec S1 32) i).toNat < 8) : Ok m := by
  intro i
  have hw : ((tbl m).at 0 (Rect.unit (s := S1) ![0] S1.size inb_S1_S1_0) numel1_S1 : BitVec 32).toNat < 8 := h _
  have h8 : (i 0).val < 8 := (i 0).isLt
  refine ⟨?_, .inl rfl⟩
  intro a
  match a with
  | ⟨0, _⟩ =>
    show (((tbl m).at 0 (Rect.unit (s := S1) ![0] S1.size inb_S1_S1_0) numel1_S1 : BitVec 32).toNat + 1) * 1 ≤ 8
    generalize ((tbl m).at 0 (Rect.unit (s := S1) ![0] S1.size inb_S1_S1_0) numel1_S1 : BitVec 32).toNat = b at hw ⊢
    omega
  | ⟨1, _⟩ => show ((BitVec.ofNat 32 (i 0).val).toNat + 1) * 32 ≤ 256; rw [BitVec.toNat_ofNat]; omega
  | ⟨2, _⟩ => show (0 + 1) * 1024 ≤ 1024; omega

theorem frame_k : Cert.quiescent_Kernel11 := fun m ρ h =>
  Cert.Kernel11.Gen.frame m ρ (by
    have hw : ∀ i : S1.Idx, ((m (((0 : Dev Cert.Kernel11.nD) : Thread Cert.Kernel11.nD Cert.Kernel11.τ).loc Cert.Kernel11.main_arg0) : IVec S1 32) i).toNat < 8 :=
      num_lt _ _ _ _ _ _ (h 0)
    intro i
    have hb : ((Cert.Kernel11.Gen.tbl m).at 0 (Rect.unit (s := S1) ![0] S1.size (by decide)) (by decide) : BitVec 32).toNat < 8 := hw _
    have h8 : (i 0).val < 8 := (i 0).isLt
    refine ⟨?_, .inl rfl⟩
    intro a
    match a with
    | ⟨0, _⟩ =>
      show (((Cert.Kernel11.Gen.tbl m).at 0 (Rect.unit (s := S1) ![0] S1.size (by decide)) (by decide) : BitVec 32).toNat + 1) * 1 ≤ 8
      generalize ((Cert.Kernel11.Gen.tbl m).at 0 (Rect.unit (s := S1) ![0] S1.size (by decide)) (by decide) : BitVec 32).toNat = b at hb ⊢
      omega
    | ⟨1, _⟩ => show ((BitVec.ofNat 32 (i 0).val).toNat + 1) * 32 ≤ 256; rw [BitVec.toNat_ofNat]; omega
    | ⟨2, _⟩ => show (0 + 1) * 1024 ≤ 1024; omega)

theorem frame_ki : Cert.quiescent_Kernel11Ideal := fun m ρ h =>
  Cert.Kernel11Ideal.Gen.frame m ρ (ok_of m (num_lt _ _ _ _ _ _ (h 0)))

theorem frame_ri : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

theorem pay4_at (v0 : Vec Ideal S1x32x1024 .f32) (v2 v6 v10 v14 v18 v22 v26 : Vec Ideal S1x32x1024 .bf16) (j : S32x1024.Idx) :
    k0_pay4 v0 v2 v6 v10 v14 v18 v22 v26 j = v0 (ix3 0 (j 0) (j 1)) + v2 (ix3 0 (j 0) (j 1)) + v6 (ix3 0 (j 0) (j 1))
      + v10 (ix3 0 (j 0) (j 1)) + v14 (ix3 0 (j 0) (j 1)) + v18 (ix3 0 (j 0) (j 1)) + v22 (ix3 0 (j 0) (j 1))
      + v26 (ix3 0 (j 0) (j 1)) := by
  idx_vars j
  pointwise [k0_pay4]
  done

/-- The gradient's sum over the devices. -/
def grad (k : Fin 8) (A1 : Vec Ideal S8x256x1024 .f32) (A2 : Vec Ideal S7x256x1024 .bf16) (i : S256x1024.Idx) : EReal :=
  A1 (ix3 k (i 0) (i 1)) + A2 (ix3 0 (i 0) (i 1)) + A2 (ix3 1 (i 0) (i 1)) + A2 (ix3 2 (i 0) (i 1)) + A2 (ix3 3 (i 0) (i 1)) + A2 (ix3 4 (i 0) (i 1)) + A2 (ix3 5 (i 0) (i 1)) + A2 (ix3 6 (i 0) (i 1))

theorem pay1_at (g m : Vec Ideal S32x1024 .f32) (j : S32x1024.Idx) : k0_pay1 g m j = mom (g j) (m j) := by
  idx_vars j
  pointwise [k0_pay1]
  rfl

theorem pay2_at (g v : Vec Ideal S32x1024 .f32) (j : S32x1024.Idx) : k0_pay2 g v j = vel (g j) (v j) := by
  idx_vars j
  pointwise [k0_pay2]
  rfl

theorem pay3_at (g w m v : Vec Ideal S32x1024 .f32) (j : S32x1024.Idx) : k0_pay3 g w m v j = step (g j) (w j) (m j) (v j) := by
  idx_vars j
  pointwise [k0_pay3, k0_pay1, k0_pay2]
  rfl

abbrev gs (x0 : Vec Ideal S1x32x1024 .f32) (x1 : Vec Ideal S7x32x1024 .bf16) : Vec Ideal S32x1024 .f32 := k0_pay4 x0 (View.ld x1 (Rect.unit ![0, 0, 0] ![1, 32, 1024] inb_S7x32x1024_S1x32x1024_0_0_0)) (View.ld x1 (Rect.unit ![1, 0, 0] ![1, 32, 1024] inb_S7x32x1024_S1x32x1024_1_0_0)) (View.ld x1 (Rect.unit ![2, 0, 0] ![1, 32, 1024] inb_S7x32x1024_S1x32x1024_2_0_0)) (View.ld x1 (Rect.unit ![3, 0, 0] ![1, 32, 1024] inb_S7x32x1024_S1x32x1024_3_0_0)) (View.ld x1 (Rect.unit ![4, 0, 0] ![1, 32, 1024] inb_S7x32x1024_S1x32x1024_4_0_0)) (View.ld x1 (Rect.unit ![5, 0, 0] ![1, 32, 1024] inb_S7x32x1024_S1x32x1024_5_0_0)) (View.ld x1 (Rect.unit ![6, 0, 0] ![1, 32, 1024] inb_S7x32x1024_S1x32x1024_6_0_0))

section
variable (c : Dev nD) (i : grid0.Coords) (arg2 : Memref sig .tc .vmem S1x32x1024 .f32) (harg2 : arg2.IsWhole) (arg3 : Memref sig .tc .vmem S7x32x1024 .bf16) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole)
    (x0 : Vec Ideal S1x32x1024 .f32) (x1 : Vec Ideal S7x32x1024 .bf16) (x2 : Vec Ideal S32x1024 .f32) (x3 : Vec Ideal S32x1024 .f32) (x4 : Vec Ideal S32x1024 .f32) (xt0 : TbBuf0 (F := Ideal) c tbM0_0)
theorem outA5 :
    out0_A_5 c i arg2 harg2 arg3 harg3 arg4 harg4 arg5 harg5 arg6 harg6 arg7 harg7 arg8 harg8 arg9 harg9 arg10 harg10 x0 x1 x2 x3 x4 xt0 = gs x0 x1 := by
  frame_out

theorem outA6 :
    out0_A_6 c i arg2 harg2 arg3 harg3 arg4 harg4 arg5 harg5 arg6 harg6 arg7 harg7 arg8 harg8 arg9 harg9 arg10 harg10 x0 x1 x2 x3 x4 xt0 = k0_pay3 (gs x0 x1) x2 x3 x4 := by
  frame_out

theorem outA7 :
    out0_A_7 c i arg2 harg2 arg3 harg3 arg4 harg4 arg5 harg5 arg6 harg6 arg7 harg7 arg8 harg8 arg9 harg9 arg10 harg10 x0 x1 x2 x3 x4 xt0 = k0_pay1 (gs x0 x1) x3 := by
  frame_out

theorem outA8 :
    out0_A_8 c i arg2 harg2 arg3 harg3 arg4 harg4 arg5 harg5 arg6 harg6 arg7 harg7 arg8 harg8 arg9 harg9 arg10 harg10 x0 x1 x2 x3 x4 xt0 = k0_pay2 (gs x0 x1) x4 := by
  frame_out
end

variable (m : (ℓ : Loc nD τ sig) → Buf (Elt Ideal) ℓ) (hO : Ok m)

/-- The number of the device, as the prefetched word says it. -/
abbrev num : Nat := (m (((0 : Dev nD) : Thread nD τ).loc main_arg0) (ix1 0) : BitVec 32).toNat

theorem e0 (t : Fin (cfgM m hO).N) : ((cfgM m hO).win 0).index t = ![num m, t.val, 0] := by
  have h : ∀ t : Fin grid0.N, (BitVec.ofNat 32 ((grid0.coords t) 0).val).toNat = t.val := by decide +kernel
  have h1 : ((tbl m).at 0 (Rect.unit (s := S1) ![0] S1.size inb_S1_S1_0) numel1_S1 : BitVec 32) = m (((0 : Dev nD) : Thread nD τ).loc main_arg0) (ix1 0) :=
    congrArg (m (((0 : Dev nD) : Thread nD τ).loc main_arg0)) (ix_eq _ _)
  show ![((tbl m).at 0 (Rect.unit (s := S1) ![0] S1.size inb_S1_S1_0) numel1_S1 : BitVec 32).toNat, (BitVec.ofNat 32 ((grid0.coords t) 0).val).toNat, 0] = _
  rw [h1, h t]
theorem e1 (t : Fin (cfgM m hO).N) : ((cfgM m hO).win 1).index t = ![0, t.val, 0] :=
  (by decide +kernel : ∀ t : Fin grid0.N, cc0_transform_1 (grid0.coords t) = ![0, t.val, 0]) t
theorem e2 (t : Fin (cfgM m hO).N) : ((cfgM m hO).win 2).index t = ![t.val, 0] :=
  (by decide +kernel : ∀ t : Fin grid0.N, cc0_transform_2 (grid0.coords t) = ![t.val, 0]) t
theorem e3 (t : Fin (cfgM m hO).N) : ((cfgM m hO).win 3).index t = ![t.val, 0] :=
  (by decide +kernel : ∀ t : Fin grid0.N, cc0_transform_3 (grid0.coords t) = ![t.val, 0]) t
theorem e4 (t : Fin (cfgM m hO).N) : ((cfgM m hO).win 4).index t = ![t.val, 0] :=
  (by decide +kernel : ∀ t : Fin grid0.N, cc0_transform_4 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e6 (t : Fin (cfgM m hO).N) : ((cfgM m hO).win 6).index t = ![t.val, 0] :=
  (by decide +kernel : ∀ t : Fin grid0.N, cc0_transform_6 (grid0.coords t) = ![t.val, 0]) t
theorem e7 (t : Fin (cfgM m hO).N) : ((cfgM m hO).win 7).index t = ![t.val, 0] :=
  (by decide +kernel : ∀ t : Fin grid0.N, cc0_transform_7 (grid0.coords t) = ![t.val, 0]) t
theorem e8 (t : Fin (cfgM m hO).N) : ((cfgM m hO).win 8).index t = ![t.val, 0] :=
  (by decide +kernel : ∀ t : Fin grid0.N, cc0_transform_8 (grid0.coords t) = ![t.val, 0]) t

/-- Where a block's element lies in the array. -/
theorem pos0 (t : Fin (cfgM m hO).N) (y : S1x32x1024.Idx) (hk : num m < 8) (R : Fin 256) (hR : R.val = 32 * t.val + (y 1).val) :
    (((cfgM m hO).win 0).blk t).view.emb y = (ix3 ⟨num m, hk⟩ R (y 2) : S8x256x1024.Idx) := by
  funext a
  apply Fin.ext
  refine (Pipeline.Window.rect_emb_val ((cfgM m hO).win 0) t y a).trans ?_
  rw [e0]
  match a with
  | ⟨0, _⟩ => show num m * 1 + (y 0).val = num m; have : (y 0).val < 1 := (y 0).isLt; omega
  | ⟨1, _⟩ => show t.val * 32 + (y 1).val = R.val; omega
  | ⟨2, _⟩ => show 0 * 1024 + (y 2).val = (y 2).val; omega

theorem pos1 (t : Fin (cfgM m hO).N) (y : S7x32x1024.Idx) (R : Fin 256) (hR : R.val = 32 * t.val + (y 1).val) :
    (((cfgM m hO).win 1).blk t).view.emb y = (ix3 (y 0) R (y 2) : S7x256x1024.Idx) := by
  funext a
  apply Fin.ext
  refine (Pipeline.Window.rect_emb_val ((cfgM m hO).win 1) t y a).trans ?_
  rw [e1]
  match a with
  | ⟨0, _⟩ => show 0 * 7 + (y 0).val = (y 0).val; omega
  | ⟨1, _⟩ => show t.val * 32 + (y 1).val = R.val; omega
  | ⟨2, _⟩ => show 0 * 1024 + (y 2).val = (y 2).val; omega

theorem pos2 (t : Fin (cfgM m hO).N) (y : S32x1024.Idx) (i : S256x1024.Idx) (h0 : (i 0).val = 32 * t.val + (y 0).val)
    (h1 : (i 1).val = (y 1).val) : (((cfgM m hO).win 2).blk t).view.emb y = i := by
  funext a
  apply Fin.ext
  refine (Pipeline.Window.rect_emb_val ((cfgM m hO).win 2) t y a).trans ?_
  rw [e2]
  match a with
  | ⟨0, _⟩ => show t.val * 32 + (y 0).val = (i 0).val; omega
  | ⟨1, _⟩ => show 0 * 1024 + (y 1).val = (i 1).val; omega

theorem pos3 (t : Fin (cfgM m hO).N) (y : S32x1024.Idx) (i : S256x1024.Idx) (h0 : (i 0).val = 32 * t.val + (y 0).val)
    (h1 : (i 1).val = (y 1).val) : (((cfgM m hO).win 3).blk t).view.emb y = i := by
  funext a
  apply Fin.ext
  refine (Pipeline.Window.rect_emb_val ((cfgM m hO).win 3) t y a).trans ?_
  rw [e3]
  match a with
  | ⟨0, _⟩ => show t.val * 32 + (y 0).val = (i 0).val; omega
  | ⟨1, _⟩ => show 0 * 1024 + (y 1).val = (i 1).val; omega

theorem pos4 (t : Fin (cfgM m hO).N) (y : S32x1024.Idx) (i : S256x1024.Idx) (h0 : (i 0).val = 32 * t.val + (y 0).val)
    (h1 : (i 1).val = (y 1).val) : (((cfgM m hO).win 4).blk t).view.emb y = i := by
  funext a
  apply Fin.ext
  refine (Pipeline.Window.rect_emb_val ((cfgM m hO).win 4) t y a).trans ?_
  rw [e4]
  match a with
  | ⟨0, _⟩ => show t.val * 32 + (y 0).val = (i 0).val; omega
  | ⟨1, _⟩ => show 0 * 1024 + (y 1).val = (i 1).val; omega

theorem pos5 (t : Fin (cfgM m hO).N) (y : S32x1024.Idx) (i : S256x1024.Idx) (h0 : (i 0).val = 32 * t.val + (y 0).val)
    (h1 : (i 1).val = (y 1).val) : (((cfgM m hO).win 5).blk t).view.emb y = i := by
  funext a
  apply Fin.ext
  refine (Pipeline.Window.rect_emb_val ((cfgM m hO).win 5) t y a).trans ?_
  rw [e5]
  match a with
  | ⟨0, _⟩ => show t.val * 32 + (y 0).val = (i 0).val; omega
  | ⟨1, _⟩ => show 0 * 1024 + (y 1).val = (i 1).val; omega

theorem pos6 (t : Fin (cfgM m hO).N) (y : S32x1024.Idx) (i : S256x1024.Idx) (h0 : (i 0).val = 32 * t.val + (y 0).val)
    (h1 : (i 1).val = (y 1).val) : (((cfgM m hO).win 6).blk t).view.emb y = i := by
  funext a
  apply Fin.ext
  refine (Pipeline.Window.rect_emb_val ((cfgM m hO).win 6) t y a).trans ?_
  rw [e6]
  match a with
  | ⟨0, _⟩ => show t.val * 32 + (y 0).val = (i 0).val; omega
  | ⟨1, _⟩ => show 0 * 1024 + (y 1).val = (i 1).val; omega

theorem pos7 (t : Fin (cfgM m hO).N) (y : S32x1024.Idx) (i : S256x1024.Idx) (h0 : (i 0).val = 32 * t.val + (y 0).val)
    (h1 : (i 1).val = (y 1).val) : (((cfgM m hO).win 7).blk t).view.emb y = i := by
  funext a
  apply Fin.ext
  refine (Pipeline.Window.rect_emb_val ((cfgM m hO).win 7) t y a).trans ?_
  rw [e7]
  match a with
  | ⟨0, _⟩ => show t.val * 32 + (y 0).val = (i 0).val; omega
  | ⟨1, _⟩ => show 0 * 1024 + (y 1).val = (i 1).val; omega

theorem pos8 (t : Fin (cfgM m hO).N) (y : S32x1024.Idx) (i : S256x1024.Idx) (h0 : (i 0).val = 32 * t.val + (y 0).val)
    (h1 : (i 1).val = (y 1).val) : (((cfgM m hO).win 8).blk t).view.emb y = i := by
  funext a
  apply Fin.ext
  refine (Pipeline.Window.rect_emb_val ((cfgM m hO).win 8) t y a).trans ?_
  rw [e8]
  match a with
  | ⟨0, _⟩ => show t.val * 32 + (y 0).val = (i 0).val; omega
  | ⟨1, _⟩ => show 0 * 1024 + (y 1).val = (i 1).val; omega

theorem cover5 (i : S256x1024.Idx) :
    ∃ t : Fin (cfgM m hO).N, ((cfgM m hO).win 5).flush t = true ∧ i ∈ (((cfgM m hO).win 5).blk t).view.set := by
  have h0 : (i 0).val < 256 := (i 0).isLt
  have h1 : (i 1).val < 1024 := (i 1).isLt
  refine ⟨⟨(i 0).val / 32, show _ < 8 by omega⟩, flush0_5 _ _, ?_⟩
  refine (Pipeline.Window.emb_mem_blk_iff ((cfgM m hO).win 5) _ i).mpr fun a => ?_
  rw [e5]
  match a with
  | ⟨0, _⟩ => show (i 0).val / 32 * 32 ≤ (i 0).val ∧ (i 0).val < (i 0).val / 32 * 32 + 32; omega
  | ⟨1, _⟩ => show 0 * 1024 ≤ (i 1).val ∧ (i 1).val < 0 * 1024 + 1024; omega

theorem cover6 (i : S256x1024.Idx) :
    ∃ t : Fin (cfgM m hO).N, ((cfgM m hO).win 6).flush t = true ∧ i ∈ (((cfgM m hO).win 6).blk t).view.set := by
  have h0 : (i 0).val < 256 := (i 0).isLt
  have h1 : (i 1).val < 1024 := (i 1).isLt
  refine ⟨⟨(i 0).val / 32, show _ < 8 by omega⟩, flush0_6 _ _, ?_⟩
  refine (Pipeline.Window.emb_mem_blk_iff ((cfgM m hO).win 6) _ i).mpr fun a => ?_
  rw [e6]
  match a with
  | ⟨0, _⟩ => show (i 0).val / 32 * 32 ≤ (i 0).val ∧ (i 0).val < (i 0).val / 32 * 32 + 32; omega
  | ⟨1, _⟩ => show 0 * 1024 ≤ (i 1).val ∧ (i 1).val < 0 * 1024 + 1024; omega

theorem cover7 (i : S256x1024.Idx) :
    ∃ t : Fin (cfgM m hO).N, ((cfgM m hO).win 7).flush t = true ∧ i ∈ (((cfgM m hO).win 7).blk t).view.set := by
  have h0 : (i 0).val < 256 := (i 0).isLt
  have h1 : (i 1).val < 1024 := (i 1).isLt
  refine ⟨⟨(i 0).val / 32, show _ < 8 by omega⟩, flush0_7 _ _, ?_⟩
  refine (Pipeline.Window.emb_mem_blk_iff ((cfgM m hO).win 7) _ i).mpr fun a => ?_
  rw [e7]
  match a with
  | ⟨0, _⟩ => show (i 0).val / 32 * 32 ≤ (i 0).val ∧ (i 0).val < (i 0).val / 32 * 32 + 32; omega
  | ⟨1, _⟩ => show 0 * 1024 ≤ (i 1).val ∧ (i 1).val < 0 * 1024 + 1024; omega

theorem cover8 (i : S256x1024.Idx) :
    ∃ t : Fin (cfgM m hO).N, ((cfgM m hO).win 8).flush t = true ∧ i ∈ (((cfgM m hO).win 8).blk t).view.set := by
  have h0 : (i 0).val < 256 := (i 0).isLt
  have h1 : (i 1).val < 1024 := (i 1).isLt
  refine ⟨⟨(i 0).val / 32, show _ < 8 by omega⟩, flush0_8 _ _, ?_⟩
  refine (Pipeline.Window.emb_mem_blk_iff ((cfgM m hO).win 8) _ i).mpr fun a => ?_
  rw [e8]
  match a with
  | ⟨0, _⟩ => show (i 0).val / 32 * 32 ≤ (i 0).val ∧ (i 0).val < (i 0).val / 32 * 32 + 32; omega
  | ⟨1, _⟩ => show 0 * 1024 ≤ (i 1).val ∧ (i 1).val < 0 * 1024 + 1024; omega

/-- The input blocks of a grid point, at their arrays' elements. -/
abbrev b0 (c : Dev nD) (t : Fin (cfgM m hO).N) : Vec Ideal S1x32x1024 .f32 := iblk m hO c 0 t
abbrev b1 (c : Dev nD) (t : Fin (cfgM m hO).N) : Vec Ideal S7x32x1024 .bf16 := iblk m hO c 1 t
abbrev b2 (c : Dev nD) (t : Fin (cfgM m hO).N) : Vec Ideal S32x1024 .f32 := iblk m hO c 2 t
abbrev b3 (c : Dev nD) (t : Fin (cfgM m hO).N) : Vec Ideal S32x1024 .f32 := iblk m hO c 3 t
abbrev b4 (c : Dev nD) (t : Fin (cfgM m hO).N) : Vec Ideal S32x1024 .f32 := iblk m hO c 4 t

theorem b0_at (c : Dev nD) (t : Fin (cfgM m hO).N) (hk : num m < 8) (y : S1x32x1024.Idx) (R : Fin 256) (hR : R.val = 32 * t.val + (y 1).val) :
    b0 m hO c t y = m ((c : Thread nD τ).loc main_arg1) (ix3 ⟨num m, hk⟩ R (y 2)) :=
  congrArg (m ((c : Thread nD τ).loc main_arg1)) (pos0 m hO t y hk R hR)
theorem b1_at (c : Dev nD) (t : Fin (cfgM m hO).N) (y : S7x32x1024.Idx) (R : Fin 256) (hR : R.val = 32 * t.val + (y 1).val) :
    b1 m hO c t y = m ((c : Thread nD τ).loc main_arg2) (ix3 (y 0) R (y 2)) :=
  congrArg (m ((c : Thread nD τ).loc main_arg2)) (pos1 m hO t y R hR)
theorem b2_at (c : Dev nD) (t : Fin (cfgM m hO).N) (y : S32x1024.Idx) (i : S256x1024.Idx) (h0 : (i 0).val = 32 * t.val + (y 0).val)
    (h1 : (i 1).val = (y 1).val) : b2 m hO c t y = m ((c : Thread nD τ).loc main_arg3) i :=
  congrArg (m ((c : Thread nD τ).loc main_arg3)) (pos2 m hO t y i h0 h1)
theorem b3_at (c : Dev nD) (t : Fin (cfgM m hO).N) (y : S32x1024.Idx) (i : S256x1024.Idx) (h0 : (i 0).val = 32 * t.val + (y 0).val)
    (h1 : (i 1).val = (y 1).val) : b3 m hO c t y = m ((c : Thread nD τ).loc main_arg4) i :=
  congrArg (m ((c : Thread nD τ).loc main_arg4)) (pos3 m hO t y i h0 h1)
theorem b4_at (c : Dev nD) (t : Fin (cfgM m hO).N) (y : S32x1024.Idx) (i : S256x1024.Idx) (h0 : (i 0).val = 32 * t.val + (y 0).val)
    (h1 : (i 1).val = (y 1).val) : b4 m hO c t y = m ((c : Thread nD τ).loc main_arg5) i :=
  congrArg (m ((c : Thread nD τ).loc main_arg5)) (pos4 m hO t y i h0 h1)

/-- The sum's block at a grid point. -/
abbrev sum (c : Dev nD) (t : Fin (cfgM m hO).N) : Vec Ideal S32x1024 .f32 := k0_pay4 (b0 m hO c t) (View.ld (b1 m hO c t) (Rect.unit ![0, 0, 0] ![1, 32, 1024] inb_S7x32x1024_S1x32x1024_0_0_0)) (View.ld (b1 m hO c t) (Rect.unit ![1, 0, 0] ![1, 32, 1024] inb_S7x32x1024_S1x32x1024_1_0_0)) (View.ld (b1 m hO c t) (Rect.unit ![2, 0, 0] ![1, 32, 1024] inb_S7x32x1024_S1x32x1024_2_0_0)) (View.ld (b1 m hO c t) (Rect.unit ![3, 0, 0] ![1, 32, 1024] inb_S7x32x1024_S1x32x1024_3_0_0)) (View.ld (b1 m hO c t) (Rect.unit ![4, 0, 0] ![1, 32, 1024] inb_S7x32x1024_S1x32x1024_4_0_0)) (View.ld (b1 m hO c t) (Rect.unit ![5, 0, 0] ![1, 32, 1024] inb_S7x32x1024_S1x32x1024_5_0_0)) (View.ld (b1 m hO c t) (Rect.unit ![6, 0, 0] ![1, 32, 1024] inb_S7x32x1024_S1x32x1024_6_0_0))

theorem ld_at (x : Vec Ideal S7x32x1024 .bf16) (k : Fin 7) (y : S32x1024.Idx) (h) :
    View.ld x (Rect.unit ![k.val, 0, 0] ![1, 32, 1024] h) (ix3 0 (y 0) (y 1)) = x (ix3 k (y 0) (y 1)) := by
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem sum_at (c : Dev nD) (t : Fin (cfgM m hO).N) (hk : num m < 8) (y : S32x1024.Idx) (i : S256x1024.Idx) (h0 : (i 0).val = 32 * t.val + (y 0).val)
    (h1 : (i 1).val = (y 1).val) : sum m hO c t y
      = grad ⟨num m, hk⟩ (m ((c : Thread nD τ).loc main_arg1)) (m ((c : Thread nD τ).loc main_arg2)) i := by
  have e1 : y 1 = i 1 := Fin.ext h1.symm
  have e : ∀ (k : Fin 7) (h), View.ld (b1 m hO c t) (Rect.unit ![k.val, 0, 0] ![1, 32, 1024] h) (ix3 0 (y 0) (y 1))
      = m ((c : Thread nD τ).loc main_arg2) (ix3 k (i 0) (i 1)) := fun k h => by
    refine (ld_at (b1 m hO c t) k y h).trans ?_
    rw [b1_at m hO c t _ (i 0) h0, ← e1]
    rfl
  rw [sum, pay4_at, b0_at m hO c t hk _ (i 0) h0]
  unfold grad
  rw [← e1] at e ⊢
  exact congrArg₂ _ (congrArg₂ _ (congrArg₂ _ (congrArg₂ _ (congrArg₂ _ (congrArg₂ _ (congrArg₂ _ rfl (e 0 _)) (e 1 _)) (e 2 _)) (e 3 _)) (e 4 _)) (e 5 _)) (e 6 _)

attribute [local irreducible] out0_A_5 out0_A_6 out0_A_7 out0_A_8 in
theorem outs5 (c : Dev nD) (t : Fin (cfgM m hO).N) : (outsAt0 m hO c t).1 = sum m hO c t := by
  exact outA5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs6 (c : Dev nD) (t : Fin (cfgM m hO).N) : (outsAt0 m hO c t).2.1 = k0_pay3 (sum m hO c t) (b2 m hO c t) (b3 m hO c t) (b4 m hO c t) := by
  exact outA6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs7 (c : Dev nD) (t : Fin (cfgM m hO).N) : (outsAt0 m hO c t).2.2.1 = k0_pay1 (sum m hO c t) (b3 m hO c t) := by
  exact outA7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs8 (c : Dev nD) (t : Fin (cfgM m hO).N) : (outsAt0 m hO c t).2.2.2 = k0_pay2 (sum m hO c t) (b4 m hO c t) := by
  exact outA8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)

section finals

variable (c : Dev nD) (t : Fin (cfgM m hO).N) (hk : num m < 8) (y : S32x1024.Idx) (i : S256x1024.Idx)
  (h0 : (i 0).val = 32 * t.val + (y 0).val) (h1 : (i 1).val = (y 1).val)

include h0 h1

theorem out5 : (outsAt0 m hO c t).1 y = grad ⟨num m, hk⟩ (m ((c : Thread nD τ).loc main_arg1)) (m ((c : Thread nD τ).loc main_arg2)) i := by
  refine (congrFun (outs5 m hO c t) y).trans ?_
  exact sum_at m hO c t hk y i h0 h1

theorem out6 : (outsAt0 m hO c t).2.1 y = step (grad ⟨num m, hk⟩ (m ((c : Thread nD τ).loc main_arg1)) (m ((c : Thread nD τ).loc main_arg2)) i)
    (m ((c : Thread nD τ).loc main_arg3) i) (m ((c : Thread nD τ).loc main_arg4) i) (m ((c : Thread nD τ).loc main_arg5) i) := by
  refine (congrFun (outs6 m hO c t) y).trans ?_
  refine (pay3_at (sum m hO c t) (b2 m hO c t) (b3 m hO c t) (b4 m hO c t) y).trans ?_
  rw [sum_at m hO c t hk y i h0 h1, b2_at m hO c t y i h0 h1, b3_at m hO c t y i h0 h1, b4_at m hO c t y i h0 h1]

theorem out7 : (outsAt0 m hO c t).2.2.1 y = mom (grad ⟨num m, hk⟩ (m ((c : Thread nD τ).loc main_arg1)) (m ((c : Thread nD τ).loc main_arg2)) i)
    (m ((c : Thread nD τ).loc main_arg4) i) := by
  refine (congrFun (outs7 m hO c t) y).trans ?_
  refine (pay1_at (sum m hO c t) (b3 m hO c t) y).trans ?_
  rw [sum_at m hO c t hk y i h0 h1, b3_at m hO c t y i h0 h1]

theorem out8 : (outsAt0 m hO c t).2.2.2 y = vel (grad ⟨num m, hk⟩ (m ((c : Thread nD τ).loc main_arg1)) (m ((c : Thread nD τ).loc main_arg2)) i)
    (m ((c : Thread nD τ).loc main_arg5) i) := by
  refine (congrFun (outs8 m hO c t) y).trans ?_
  refine (pay2_at (sum m hO c t) (b4 m hO c t) y).trans ?_
  rw [sum_at m hO c t hk y i h0 h1, b4_at m hO c t y i h0 h1]

end finals

/-- The four results as functions of the arguments. -/
def G5 (hk : num m < 8) (c : Dev nD) (i : S256x1024.Idx) : EReal :=
  grad ⟨num m, hk⟩ (m ((c : Thread nD τ).loc main_arg1)) (m ((c : Thread nD τ).loc main_arg2)) i
def G6 (hk : num m < 8) (c : Dev nD) (i : S256x1024.Idx) : EReal :=
  step (G5 m hk c i) (m ((c : Thread nD τ).loc main_arg3) i) (m ((c : Thread nD τ).loc main_arg4) i) (m ((c : Thread nD τ).loc main_arg5) i)
def G7 (hk : num m < 8) (c : Dev nD) (i : S256x1024.Idx) : EReal := mom (G5 m hk c i) (m ((c : Thread nD τ).loc main_arg4) i)
def G8 (hk : num m < 8) (c : Dev nD) (i : S256x1024.Idx) : EReal := vel (G5 m hk c i) (m ((c : Thread nD τ).loc main_arg5) i)

theorem emb5 (t : Fin (cfgM m hO).N) (y : S32x1024.Idx) :
    ∃ i : S256x1024.Idx, (((cfgM m hO).win 5).blk t).view.emb y = i ∧ (i 0).val = 32 * t.val + (y 0).val ∧ (i 1).val = (y 1).val := by
  have ht : t.val < 8 := t.isLt
  have h0 : (y 0).val < 32 := (y 0).isLt
  exact ⟨ix2 ⟨32 * t.val + (y 0).val, by omega⟩ (y 1), pos5 m hO t y _ rfl rfl, rfl, rfl⟩

theorem final5 (c : Dev nD) (hk : num m < 8) : (dats m hO 0 c).arrAt 5 (cfgM m hO).N = G5 m hk c := by
  refine (dats m hO 0 c).arrAt_eq_of_emb 5 _ (fun t hf y => ?_) (cover5 m hO)
  obtain ⟨i, he, h0, h1⟩ := emb5 m hO t y
  refine ((congrFun (after0_5 m hO c t) y).trans ?_)
  exact (out5 m hO c t hk y i h0 h1).trans (congrArg (G5 m hk c) he).symm

theorem emb6 (t : Fin (cfgM m hO).N) (y : S32x1024.Idx) :
    ∃ i : S256x1024.Idx, (((cfgM m hO).win 6).blk t).view.emb y = i ∧ (i 0).val = 32 * t.val + (y 0).val ∧ (i 1).val = (y 1).val := by
  have ht : t.val < 8 := t.isLt
  have h0 : (y 0).val < 32 := (y 0).isLt
  exact ⟨ix2 ⟨32 * t.val + (y 0).val, by omega⟩ (y 1), pos6 m hO t y _ rfl rfl, rfl, rfl⟩

theorem final6 (c : Dev nD) (hk : num m < 8) : (dats m hO 0 c).arrAt 6 (cfgM m hO).N = G6 m hk c := by
  refine (dats m hO 0 c).arrAt_eq_of_emb 6 _ (fun t hf y => ?_) (cover6 m hO)
  obtain ⟨i, he, h0, h1⟩ := emb6 m hO t y
  refine ((congrFun (after0_6 m hO c t) y).trans ?_)
  exact (out6 m hO c t hk y i h0 h1).trans (congrArg (G6 m hk c) he).symm

theorem emb7 (t : Fin (cfgM m hO).N) (y : S32x1024.Idx) :
    ∃ i : S256x1024.Idx, (((cfgM m hO).win 7).blk t).view.emb y = i ∧ (i 0).val = 32 * t.val + (y 0).val ∧ (i 1).val = (y 1).val := by
  have ht : t.val < 8 := t.isLt
  have h0 : (y 0).val < 32 := (y 0).isLt
  exact ⟨ix2 ⟨32 * t.val + (y 0).val, by omega⟩ (y 1), pos7 m hO t y _ rfl rfl, rfl, rfl⟩

theorem final7 (c : Dev nD) (hk : num m < 8) : (dats m hO 0 c).arrAt 7 (cfgM m hO).N = G7 m hk c := by
  refine (dats m hO 0 c).arrAt_eq_of_emb 7 _ (fun t hf y => ?_) (cover7 m hO)
  obtain ⟨i, he, h0, h1⟩ := emb7 m hO t y
  refine ((congrFun (after0_7 m hO c t) y).trans ?_)
  exact (out7 m hO c t hk y i h0 h1).trans (congrArg (G7 m hk c) he).symm

theorem emb8 (t : Fin (cfgM m hO).N) (y : S32x1024.Idx) :
    ∃ i : S256x1024.Idx, (((cfgM m hO).win 8).blk t).view.emb y = i ∧ (i 0).val = 32 * t.val + (y 0).val ∧ (i 1).val = (y 1).val := by
  have ht : t.val < 8 := t.isLt
  have h0 : (y 0).val < 32 := (y 0).isLt
  exact ⟨ix2 ⟨32 * t.val + (y 0).val, by omega⟩ (y 1), pos8 m hO t y _ rfl rfl, rfl, rfl⟩

theorem final8 (c : Dev nD) (hk : num m < 8) : (dats m hO 0 c).arrAt 8 (cfgM m hO).N = G8 m hk c := by
  refine (dats m hO 0 c).arrAt_eq_of_emb 8 _ (fun t hf y => ?_) (cover8 m hO)
  obtain ⟨i, he, h0, h1⟩ := emb8 m hO t y
  refine ((congrFun (after0_8 m hO c t) y).trans ?_)
  exact (out8 m hO c t hk y i h0 h1).trans (congrArg (G8 m hk c) he).symm

section ref

open Cert.Reference11Ideal.Read

variable (x0 : IVec S1 32) (x1 : Vec Ideal S8x256x1024 .f32) (x2 : Vec Ideal S7x256x1024 .bf16) (x3 x4 x5 : Vec Ideal S256x1024 .f32)

theorem own_at (hk : (x0 (ix1 0)).toNat < 8) (i : S256x1024.Idx) :
    val_main_v6 (F := Ideal) x0 x1 i = x1 (ix3 ⟨(x0 (ix1 0)).toNat, hk⟩ (i 0) (i 1)) := by
  have e : val_main_v6 (F := Ideal) x0 x1 i = ∑ k : Fin 8, val_main_v5 (F := Ideal) x0 x1 (ix3 k (i 0) (i 1)) := by
    idx_vars i
    pointwise [val_main_v6, val_main_cst_0]
    done
  have hs : ∀ k : Fin 8, val_main_v5 (F := Ideal) x0 x1 (ix3 k (i 0) (i 1))
      = if (⟨(x0 (ix1 0)).toNat, hk⟩ : Fin 8) = k then x1 (ix3 k (i 0) (i 1)) else 0 := fun k => by
    have hz : val_main_call0_v2 (F := Ideal) (ix3 k (i 0) (i 1)) = 0 := by
      have hv : val_main_call0_v2 (F := Ideal) (ix3 k (i 0) (i 1)) = val_main_cst (F := Ideal) ix0 := rfl
      rw [hv]
      pointwise [val_main_cst]
      done
    have hc : val_main_call0_v1 (F := Ideal) x0 (ix3 k (i 0) (i 1)) = IntOp.cmpi .eq (BitVec.ofNat 32 k.val) (x0 (ix1 0)) :=
      congrArg (fun z => IntOp.cmpi .eq (BitVec.ofNat 32 k.val) (x0 z)) (ix_eq _ _)
    have hd : val_main_v5 (F := Ideal) x0 x1 (ix3 k (i 0) (i 1)) = if val_main_call0_v1 (F := Ideal) x0 (ix3 k (i 0) (i 1)) = 1#1
        then x1 (ix3 k (i 0) (i 1)) else val_main_call0_v2 (F := Ideal) (ix3 k (i 0) (i 1)) := rfl
    rw [hd, hz, hc]
    exact if_congr (word_eq _ hk k) rfl rfl
  rw [e, Finset.sum_congr rfl fun k _ => hs k, Finset.sum_ite_eq, if_pos (Finset.mem_univ _)]

theorem rg (hk : (x0 (ix1 0)).toNat < 8) (i : S256x1024.Idx) :
    val_main_v9 (F := Ideal) x0 x1 x2 i = grad ⟨(x0 (ix1 0)).toNat, hk⟩ x1 x2 i := by
  have e : val_main_v9 (F := Ideal) x0 x1 x2 i = val_main_v6 (F := Ideal) x0 x1 i + ∑ k : Fin 7, x2 (ix3 k (i 0) (i 1)) := by
    idx_vars i
    pointwise [val_main_v9, val_main_v8, val_main_v7, val_main_cst_1]
    done
  rw [e, own_at x0 x1 hk i, Fin.sum_univ_seven]
  unfold grad
  simp only [add_assoc]

theorem rm (i : S256x1024.Idx) : val_main_v14 (F := Ideal) x0 x1 x2 x4 i = mom (val_main_v9 (F := Ideal) x0 x1 x2 i) (x4 i) := rfl

theorem rv (i : S256x1024.Idx) : val_main_v20 (F := Ideal) x0 x1 x2 x5 i = vel (val_main_v9 (F := Ideal) x0 x1 x2 i) (x5 i) := rfl

theorem rd (i : S256x1024.Idx) : val_main_v33 (F := Ideal) x0 x1 x2 x3 x4 x5 i
    = step (val_main_v9 (F := Ideal) x0 x1 x2 i) (x3 i) (x4 i) (x5 i) := rfl

end ref

theorem algebraic : Cert.algebraic_Kernel11Ideal_Reference11Ideal := by
  intro m g m' g' hpre hag
  have hw : ∀ i : S1.Idx, ((m (((0 : Dev nD) : Thread nD τ).loc main_arg0) : IVec S1 32) i).toNat < 8 := num_lt _ _ _ _ _ _ (hpre 0)
  have hO : Ok m := ok_of m hw
  have hk : num m < 8 := hw (ix1 0)
  refine ⟨fun c => G5 m hk c, fun c => G6 m hk c, fun c => G7 m hk c, fun c => G8 m hk c, ?_, ?_⟩
  · refine (θ_run _ _ _).mono (fun _ h c => ?_) (θ_run_and (run_main m g hO) (unchanged m g hO))
    exact ⟨((h.1 c).1 5).trans (final5 m hO c hk), ((h.1 c).1 6).trans (final6 m hO c hk), ((h.1 c).1 7).trans (final7 m hO c hk),
      ((h.1 c).1 8).trans (final8 m hO c hk), h.2 c⟩
  · refine (θ_run _ _ _).mono (fun _ h c => ⟨(h c).1.trans ?_, (h c).2.1.trans ?_, (h c).2.2.1.trans ?_, (h c).2.2.2.1.trans ?_, (h c).2.2.2.2⟩)
      (Cert.Reference11Ideal.Value.run (F := Ideal) m' g')
    all_goals
      clear h
      obtain rfl : c = 0 := Subsingleton.elim _ _
      have a0 : m' (((0 : Dev Cert.Reference11Ideal.nD) : Thread Cert.Reference11Ideal.nD Cert.Reference11Ideal.τ).loc Cert.Reference11Ideal.main_arg0) = m (((0 : Dev nD) : Thread nD τ).loc main_arg0) := (hag 0).1
      have a1 : m' (((0 : Dev Cert.Reference11Ideal.nD) : Thread Cert.Reference11Ideal.nD Cert.Reference11Ideal.τ).loc Cert.Reference11Ideal.main_arg1) = m (((0 : Dev nD) : Thread nD τ).loc main_arg1) := (hag 0).2.1
      have a2 : m' (((0 : Dev Cert.Reference11Ideal.nD) : Thread Cert.Reference11Ideal.nD Cert.Reference11Ideal.τ).loc Cert.Reference11Ideal.main_arg2) = m (((0 : Dev nD) : Thread nD τ).loc main_arg2) := (hag 0).2.2.1
      have a3 : m' (((0 : Dev Cert.Reference11Ideal.nD) : Thread Cert.Reference11Ideal.nD Cert.Reference11Ideal.τ).loc Cert.Reference11Ideal.main_arg3) = m (((0 : Dev nD) : Thread nD τ).loc main_arg3) := (hag 0).2.2.2.1
      have a4 : m' (((0 : Dev Cert.Reference11Ideal.nD) : Thread Cert.Reference11Ideal.nD Cert.Reference11Ideal.τ).loc Cert.Reference11Ideal.main_arg4) = m (((0 : Dev nD) : Thread nD τ).loc main_arg4) := (hag 0).2.2.2.2.1
      have a5 : m' (((0 : Dev Cert.Reference11Ideal.nD) : Thread Cert.Reference11Ideal.nD Cert.Reference11Ideal.τ).loc Cert.Reference11Ideal.main_arg5) = m (((0 : Dev nD) : Thread nD τ).loc main_arg5) := (hag 0).2.2.2.2.2
    · rw [Cert.Reference11Ideal.Read.val_main_v9_eq, a0, a1, a2]
      exact funext fun i => rg _ _ _ hk i
    · rw [Cert.Reference11Ideal.Read.val_main_v33_eq, a0, a1, a2, a3, a4, a5]
      exact funext fun i => (rd _ _ _ _ _ _ i).trans (by rw [rg _ _ _ hk i]; rfl)
    · rw [Cert.Reference11Ideal.Read.val_main_v14_eq, a0, a1, a2, a4]
      exact funext fun i => (rm _ _ _ _ i).trans (by rw [rg _ _ _ hk i]; rfl)
    · rw [Cert.Reference11Ideal.Read.val_main_v20_eq, a0, a1, a2, a5]
      exact funext fun i => (rv _ _ _ _ i).trans (by rw [rg _ _ _ hk i]; rfl)

end Cert.K11

end
-- ==== Proof.K12.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Pre_in_mesh12
public import proofs.«01_k».proof.Proof.Adam
public import Idealize.ShloMosaic.Lib.Pointwise
public import Idealize.ShloMosaic.Lib.Pipeline.ValueKit

@[expose] public section

noncomputable section

namespace Cert.K12

open Cert.Kernel12Ideal Cert.Kernel12Ideal.Gen Idealize.ShloMosaic Idealize.ShloMosaic.TcCoe Idealize.SL.Sem
open Idealize.ShloMosaic.Pipeline (Dat)
open Cert.Adam

/-- The precondition bounds the device's number. -/
theorem num_lt {F : FTy → Type} [FloatOps F] (x0 : IVec S1 32) (x1 : FVec F Cert.Pre_in_mesh12.S8x1024x320 .f32)
    (x2 : FVec F Cert.Pre_in_mesh12.S7x1024x320 .bf16) (x3 x4 x5 : FVec F Cert.Pre_in_mesh12.S1024x320 .f32)
    (h : Cert.Pre_in_mesh12.fn (F := F) x0 x1 x2 x3 x4 x5 = fun _ => 1#1) (i : S1.Idx) : (x0 i).toNat < 8 := by
  have h1 := congrFun h (fun a => a.elim0)
  simp only [Cert.Pre_in_mesh12.fn] at h1
  obtain ⟨ha, hb⟩ := IntOp.andi_eq_one.mp h1
  have ha' : IntOp.cmpi .sge (x0 i) 0#32 = 1#1 := by rw [← ix_eq _ i]; exact ha
  have hb' : IntOp.cmpi .slt (x0 i) 8#32 = 1#1 := by rw [← ix_eq _ i]; exact hb
  exact word_lt _ ha' hb'

theorem ok_of {F : FTy → Type} [FloatOps F] (m : (ℓ : Loc nD τ sig) → Buf (Elt F) ℓ)
    (h : ∀ i : S1.Idx, ((m (((0 : Dev nD) : Thread nD τ).loc main_arg0) : IVec S1 32) i).toNat < 8) : Ok m := by
  intro i
  have hw : ((tbl m).at 0 (Rect.unit (s := S1) ![0] S1.size inb_S1_S1_0) numel1_S1 : BitVec 32).toNat < 8 := h _
  have h8 : (i 0).val < 8 := (i 0).isLt
  refine ⟨?_, .inl rfl⟩
  intro a
  match a with
  | ⟨0, _⟩ =>
    show (((tbl m).at 0 (Rect.unit (s := S1) ![0] S1.size inb_S1_S1_0) numel1_S1 : BitVec 32).toNat + 1) * 1 ≤ 8
    generalize ((tbl m).at 0 (Rect.unit (s := S1) ![0] S1.size inb_S1_S1_0) numel1_S1 : BitVec 32).toNat = b at hw ⊢
    omega
  | ⟨1, _⟩ => show ((BitVec.ofNat 32 (i 0).val).toNat + 1) * 128 ≤ 1024; rw [BitVec.toNat_ofNat]; omega
  | ⟨2, _⟩ => show (0 + 1) * 320 ≤ 320; omega

theorem frame_k : Cert.quiescent_Kernel12 := fun m ρ h =>
  Cert.Kernel12.Gen.frame m ρ (by
    have hw : ∀ i : S1.Idx, ((m (((0 : Dev Cert.Kernel12.nD) : Thread Cert.Kernel12.nD Cert.Kernel12.τ).loc Cert.Kernel12.main_arg0) : IVec S1 32) i).toNat < 8 :=
      num_lt _ _ _ _ _ _ (h 0)
    intro i
    have hb : ((Cert.Kernel12.Gen.tbl m).at 0 (Rect.unit (s := S1) ![0] S1.size (by decide)) (by decide) : BitVec 32).toNat < 8 := hw _
    have h8 : (i 0).val < 8 := (i 0).isLt
    refine ⟨?_, .inl rfl⟩
    intro a
    match a with
    | ⟨0, _⟩ =>
      show (((Cert.Kernel12.Gen.tbl m).at 0 (Rect.unit (s := S1) ![0] S1.size (by decide)) (by decide) : BitVec 32).toNat + 1) * 1 ≤ 8
      generalize ((Cert.Kernel12.Gen.tbl m).at 0 (Rect.unit (s := S1) ![0] S1.size (by decide)) (by decide) : BitVec 32).toNat = b at hb ⊢
      omega
    | ⟨1, _⟩ => show ((BitVec.ofNat 32 (i 0).val).toNat + 1) * 128 ≤ 1024; rw [BitVec.toNat_ofNat]; omega
    | ⟨2, _⟩ => show (0 + 1) * 320 ≤ 320; omega)

theorem frame_ki : Cert.quiescent_Kernel12Ideal := fun m ρ h =>
  Cert.Kernel12Ideal.Gen.frame m ρ (ok_of m (num_lt _ _ _ _ _ _ (h 0)))

theorem frame_ri : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

theorem pay4_at (v0 : Vec Ideal S1x128x320 .f32) (v2 v6 v10 v14 v18 v22 v26 : Vec Ideal S1x128x320 .bf16) (j : S128x320.Idx) :
    k0_pay4 v0 v2 v6 v10 v14 v18 v22 v26 j = v0 (ix3 0 (j 0) (j 1)) + v2 (ix3 0 (j 0) (j 1)) + v6 (ix3 0 (j 0) (j 1))
      + v10 (ix3 0 (j 0) (j 1)) + v14 (ix3 0 (j 0) (j 1)) + v18 (ix3 0 (j 0) (j 1)) + v22 (ix3 0 (j 0) (j 1))
      + v26 (ix3 0 (j 0) (j 1)) := by
  idx_vars j
  pointwise [k0_pay4]
  done

/-- The gradient's sum over the devices. -/
def grad (k : Fin 8) (A1 : Vec Ideal S8x1024x320 .f32) (A2 : Vec Ideal S7x1024x320 .bf16) (i : S1024x320.Idx) : EReal :=
  A1 (ix3 k (i 0) (i 1)) + A2 (ix3 0 (i 0) (i 1)) + A2 (ix3 1 (i 0) (i 1)) + A2 (ix3 2 (i 0) (i 1)) + A2 (ix3 3 (i 0) (i 1)) + A2 (ix3 4 (i 0) (i 1)) + A2 (ix3 5 (i 0) (i 1)) + A2 (ix3 6 (i 0) (i 1))

theorem pay1_at (g m : Vec Ideal S128x320 .f32) (j : S128x320.Idx) : k0_pay1 g m j = mom (g j) (m j) := by
  idx_vars j
  pointwise [k0_pay1]
  rfl

theorem pay2_at (g v : Vec Ideal S128x320 .f32) (j : S128x320.Idx) : k0_pay2 g v j = vel (g j) (v j) := by
  idx_vars j
  pointwise [k0_pay2]
  rfl

theorem pay3_at (g w m v : Vec Ideal S128x320 .f32) (j : S128x320.Idx) : k0_pay3 g w m v j = step (g j) (w j) (m j) (v j) := by
  idx_vars j
  pointwise [k0_pay3, k0_pay1, k0_pay2]
  rfl

abbrev gs (x0 : Vec Ideal S1x128x320 .f32) (x1 : Vec Ideal S7x128x320 .bf16) : Vec Ideal S128x320 .f32 := k0_pay4 x0 (View.ld x1 (Rect.unit ![0, 0, 0] ![1, 128, 320] inb_S7x128x320_S1x128x320_0_0_0)) (View.ld x1 (Rect.unit ![1, 0, 0] ![1, 128, 320] inb_S7x128x320_S1x128x320_1_0_0)) (View.ld x1 (Rect.unit ![2, 0, 0] ![1, 128, 320] inb_S7x128x320_S1x128x320_2_0_0)) (View.ld x1 (Rect.unit ![3, 0, 0] ![1, 128, 320] inb_S7x128x320_S1x128x320_3_0_0)) (View.ld x1 (Rect.unit ![4, 0, 0] ![1, 128, 320] inb_S7x128x320_S1x128x320_4_0_0)) (View.ld x1 (Rect.unit ![5, 0, 0] ![1, 128, 320] inb_S7x128x320_S1x128x320_5_0_0)) (View.ld x1 (Rect.unit ![6, 0, 0] ![1, 128, 320] inb_S7x128x320_S1x128x320_6_0_0))

section
variable (c : Dev nD) (i : grid0.Coords) (arg2 : Memref sig .tc .vmem S1x128x320 .f32) (harg2 : arg2.IsWhole) (arg3 : Memref sig .tc .vmem S7x128x320 .bf16) (harg3 : arg3.IsWhole) (arg4 : Memref sig .tc .vmem S128x320 .f32) (harg4 : arg4.IsWhole) (arg5 : Memref sig .tc .vmem S128x320 .f32) (harg5 : arg5.IsWhole) (arg6 : Memref sig .tc .vmem S128x320 .f32) (harg6 : arg6.IsWhole) (arg7 : Memref sig .tc .vmem S128x320 .f32) (harg7 : arg7.IsWhole) (arg8 : Memref sig .tc .vmem S128x320 .f32) (harg8 : arg8.IsWhole) (arg9 : Memref sig .tc .vmem S128x320 .f32) (harg9 : arg9.IsWhole) (arg10 : Memref sig .tc .vmem S128x320 .f32) (harg10 : arg10.IsWhole)
    (x0 : Vec Ideal S1x128x320 .f32) (x1 : Vec Ideal S7x128x320 .bf16) (x2 : Vec Ideal S128x320 .f32) (x3 : Vec Ideal S128x320 .f32) (x4 : Vec Ideal S128x320 .f32) (xt0 : TbBuf0 (F := Ideal) c tbM0_0)
theorem outA5 :
    out0_A_5 c i arg2 harg2 arg3 harg3 arg4 harg4 arg5 harg5 arg6 harg6 arg7 harg7 arg8 harg8 arg9 harg9 arg10 harg10 x0 x1 x2 x3 x4 xt0 = gs x0 x1 := by
  frame_out

theorem outA6 :
    out0_A_6 c i arg2 harg2 arg3 harg3 arg4 harg4 arg5 harg5 arg6 harg6 arg7 harg7 arg8 harg8 arg9 harg9 arg10 harg10 x0 x1 x2 x3 x4 xt0 = k0_pay3 (gs x0 x1) x2 x3 x4 := by
  frame_out

theorem outA7 :
    out0_A_7 c i arg2 harg2 arg3 harg3 arg4 harg4 arg5 harg5 arg6 harg6 arg7 harg7 arg8 harg8 arg9 harg9 arg10 harg10 x0 x1 x2 x3 x4 xt0 = k0_pay1 (gs x0 x1) x3 := by
  frame_out

theorem outA8 :
    out0_A_8 c i arg2 harg2 arg3 harg3 arg4 harg4 arg5 harg5 arg6 harg6 arg7 harg7 arg8 harg8 arg9 harg9 arg10 harg10 x0 x1 x2 x3 x4 xt0 = k0_pay2 (gs x0 x1) x4 := by
  frame_out
end

variable (m : (ℓ : Loc nD τ sig) → Buf (Elt Ideal) ℓ) (hO : Ok m)

/-- The number of the device, as the prefetched word says it. -/
abbrev num : Nat := (m (((0 : Dev nD) : Thread nD τ).loc main_arg0) (ix1 0) : BitVec 32).toNat

theorem e0 (t : Fin (cfgM m hO).N) : ((cfgM m hO).win 0).index t = ![num m, t.val, 0] := by
  have h : ∀ t : Fin grid0.N, (BitVec.ofNat 32 ((grid0.coords t) 0).val).toNat = t.val := by decide +kernel
  have h1 : ((tbl m).at 0 (Rect.unit (s := S1) ![0] S1.size inb_S1_S1_0) numel1_S1 : BitVec 32) = m (((0 : Dev nD) : Thread nD τ).loc main_arg0) (ix1 0) :=
    congrArg (m (((0 : Dev nD) : Thread nD τ).loc main_arg0)) (ix_eq _ _)
  show ![((tbl m).at 0 (Rect.unit (s := S1) ![0] S1.size inb_S1_S1_0) numel1_S1 : BitVec 32).toNat, (BitVec.ofNat 32 ((grid0.coords t) 0).val).toNat, 0] = _
  rw [h1, h t]
theorem e1 (t : Fin (cfgM m hO).N) : ((cfgM m hO).win 1).index t = ![0, t.val, 0] :=
  (by decide +kernel : ∀ t : Fin grid0.N, cc0_transform_1 (grid0.coords t) = ![0, t.val, 0]) t
theorem e2 (t : Fin (cfgM m hO).N) : ((cfgM m hO).win 2).index t = ![t.val, 0] :=
  (by decide +kernel : ∀ t : Fin grid0.N, cc0_transform_2 (grid0.coords t) = ![t.val, 0]) t
theorem e3 (t : Fin (cfgM m hO).N) : ((cfgM m hO).win 3).index t = ![t.val, 0] :=
  (by decide +kernel : ∀ t : Fin grid0.N, cc0_transform_3 (grid0.coords t) = ![t.val, 0]) t
theorem e4 (t : Fin (cfgM m hO).N) : ((cfgM m hO).win 4).index t = ![t.val, 0] :=
  (by decide +kernel : ∀ t : Fin grid0.N, cc0_transform_4 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e6 (t : Fin (cfgM m hO).N) : ((cfgM m hO).win 6).index t = ![t.val, 0] :=
  (by decide +kernel : ∀ t : Fin grid0.N, cc0_transform_6 (grid0.coords t) = ![t.val, 0]) t
theorem e7 (t : Fin (cfgM m hO).N) : ((cfgM m hO).win 7).index t = ![t.val, 0] :=
  (by decide +kernel : ∀ t : Fin grid0.N, cc0_transform_7 (grid0.coords t) = ![t.val, 0]) t
theorem e8 (t : Fin (cfgM m hO).N) : ((cfgM m hO).win 8).index t = ![t.val, 0] :=
  (by decide +kernel : ∀ t : Fin grid0.N, cc0_transform_8 (grid0.coords t) = ![t.val, 0]) t

/-- Where a block's element lies in the array. -/
theorem pos0 (t : Fin (cfgM m hO).N) (y : S1x128x320.Idx) (hk : num m < 8) (R : Fin 1024) (hR : R.val = 128 * t.val + (y 1).val) :
    (((cfgM m hO).win 0).blk t).view.emb y = (ix3 ⟨num m, hk⟩ R (y 2) : S8x1024x320.Idx) := by
  funext a
  apply Fin.ext
  refine (Pipeline.Window.rect_emb_val ((cfgM m hO).win 0) t y a).trans ?_
  rw [e0]
  match a with
  | ⟨0, _⟩ => show num m * 1 + (y 0).val = num m; have : (y 0).val < 1 := (y 0).isLt; omega
  | ⟨1, _⟩ => show t.val * 128 + (y 1).val = R.val; omega
  | ⟨2, _⟩ => show 0 * 320 + (y 2).val = (y 2).val; omega

theorem pos1 (t : Fin (cfgM m hO).N) (y : S7x128x320.Idx) (R : Fin 1024) (hR : R.val = 128 * t.val + (y 1).val) :
    (((cfgM m hO).win 1).blk t).view.emb y = (ix3 (y 0) R (y 2) : S7x1024x320.Idx) := by
  funext a
  apply Fin.ext
  refine (Pipeline.Window.rect_emb_val ((cfgM m hO).win 1) t y a).trans ?_
  rw [e1]
  match a with
  | ⟨0, _⟩ => show 0 * 7 + (y 0).val = (y 0).val; omega
  | ⟨1, _⟩ => show t.val * 128 + (y 1).val = R.val; omega
  | ⟨2, _⟩ => show 0 * 320 + (y 2).val = (y 2).val; omega

theorem pos2 (t : Fin (cfgM m hO).N) (y : S128x320.Idx) (i : S1024x320.Idx) (h0 : (i 0).val = 128 * t.val + (y 0).val)
    (h1 : (i 1).val = (y 1).val) : (((cfgM m hO).win 2).blk t).view.emb y = i := by
  funext a
  apply Fin.ext
  refine (Pipeline.Window.rect_emb_val ((cfgM m hO).win 2) t y a).trans ?_
  rw [e2]
  match a with
  | ⟨0, _⟩ => show t.val * 128 + (y 0).val = (i 0).val; omega
  | ⟨1, _⟩ => show 0 * 320 + (y 1).val = (i 1).val; omega

theorem pos3 (t : Fin (cfgM m hO).N) (y : S128x320.Idx) (i : S1024x320.Idx) (h0 : (i 0).val = 128 * t.val + (y 0).val)
    (h1 : (i 1).val = (y 1).val) : (((cfgM m hO).win 3).blk t).view.emb y = i := by
  funext a
  apply Fin.ext
  refine (Pipeline.Window.rect_emb_val ((cfgM m hO).win 3) t y a).trans ?_
  rw [e3]
  match a with
  | ⟨0, _⟩ => show t.val * 128 + (y 0).val = (i 0).val; omega
  | ⟨1, _⟩ => show 0 * 320 + (y 1).val = (i 1).val; omega

theorem pos4 (t : Fin (cfgM m hO).N) (y : S128x320.Idx) (i : S1024x320.Idx) (h0 : (i 0).val = 128 * t.val + (y 0).val)
    (h1 : (i 1).val = (y 1).val) : (((cfgM m hO).win 4).blk t).view.emb y = i := by
  funext a
  apply Fin.ext
  refine (Pipeline.Window.rect_emb_val ((cfgM m hO).win 4) t y a).trans ?_
  rw [e4]
  match a with
  | ⟨0, _⟩ => show t.val * 128 + (y 0).val = (i 0).val; omega
  | ⟨1, _⟩ => show 0 * 320 + (y 1).val = (i 1).val; omega

theorem pos5 (t : Fin (cfgM m hO).N) (y : S128x320.Idx) (i : S1024x320.Idx) (h0 : (i 0).val = 128 * t.val + (y 0).val)
    (h1 : (i 1).val = (y 1).val) : (((cfgM m hO).win 5).blk t).view.emb y = i := by
  funext a
  apply Fin.ext
  refine (Pipeline.Window.rect_emb_val ((cfgM m hO).win 5) t y a).trans ?_
  rw [e5]
  match a with
  | ⟨0, _⟩ => show t.val * 128 + (y 0).val = (i 0).val; omega
  | ⟨1, _⟩ => show 0 * 320 + (y 1).val = (i 1).val; omega

theorem pos6 (t : Fin (cfgM m hO).N) (y : S128x320.Idx) (i : S1024x320.Idx) (h0 : (i 0).val = 128 * t.val + (y 0).val)
    (h1 : (i 1).val = (y 1).val) : (((cfgM m hO).win 6).blk t).view.emb y = i := by
  funext a
  apply Fin.ext
  refine (Pipeline.Window.rect_emb_val ((cfgM m hO).win 6) t y a).trans ?_
  rw [e6]
  match a with
  | ⟨0, _⟩ => show t.val * 128 + (y 0).val = (i 0).val; omega
  | ⟨1, _⟩ => show 0 * 320 + (y 1).val = (i 1).val; omega

theorem pos7 (t : Fin (cfgM m hO).N) (y : S128x320.Idx) (i : S1024x320.Idx) (h0 : (i 0).val = 128 * t.val + (y 0).val)
    (h1 : (i 1).val = (y 1).val) : (((cfgM m hO).win 7).blk t).view.emb y = i := by
  funext a
  apply Fin.ext
  refine (Pipeline.Window.rect_emb_val ((cfgM m hO).win 7) t y a).trans ?_
  rw [e7]
  match a with
  | ⟨0, _⟩ => show t.val * 128 + (y 0).val = (i 0).val; omega
  | ⟨1, _⟩ => show 0 * 320 + (y 1).val = (i 1).val; omega

theorem pos8 (t : Fin (cfgM m hO).N) (y : S128x320.Idx) (i : S1024x320.Idx) (h0 : (i 0).val = 128 * t.val + (y 0).val)
    (h1 : (i 1).val = (y 1).val) : (((cfgM m hO).win 8).blk t).view.emb y = i := by
  funext a
  apply Fin.ext
  refine (Pipeline.Window.rect_emb_val ((cfgM m hO).win 8) t y a).trans ?_
  rw [e8]
  match a with
  | ⟨0, _⟩ => show t.val * 128 + (y 0).val = (i 0).val; omega
  | ⟨1, _⟩ => show 0 * 320 + (y 1).val = (i 1).val; omega

theorem cover5 (i : S1024x320.Idx) :
    ∃ t : Fin (cfgM m hO).N, ((cfgM m hO).win 5).flush t = true ∧ i ∈ (((cfgM m hO).win 5).blk t).view.set := by
  have h0 : (i 0).val < 1024 := (i 0).isLt
  have h1 : (i 1).val < 320 := (i 1).isLt
  refine ⟨⟨(i 0).val / 128, show _ < 8 by omega⟩, flush0_5 _ _, ?_⟩
  refine (Pipeline.Window.emb_mem_blk_iff ((cfgM m hO).win 5) _ i).mpr fun a => ?_
  rw [e5]
  match a with
  | ⟨0, _⟩ => show (i 0).val / 128 * 128 ≤ (i 0).val ∧ (i 0).val < (i 0).val / 128 * 128 + 128; omega
  | ⟨1, _⟩ => show 0 * 320 ≤ (i 1).val ∧ (i 1).val < 0 * 320 + 320; omega

theorem cover6 (i : S1024x320.Idx) :
    ∃ t : Fin (cfgM m hO).N, ((cfgM m hO).win 6).flush t = true ∧ i ∈ (((cfgM m hO).win 6).blk t).view.set := by
  have h0 : (i 0).val < 1024 := (i 0).isLt
  have h1 : (i 1).val < 320 := (i 1).isLt
  refine ⟨⟨(i 0).val / 128, show _ < 8 by omega⟩, flush0_6 _ _, ?_⟩
  refine (Pipeline.Window.emb_mem_blk_iff ((cfgM m hO).win 6) _ i).mpr fun a => ?_
  rw [e6]
  match a with
  | ⟨0, _⟩ => show (i 0).val / 128 * 128 ≤ (i 0).val ∧ (i 0).val < (i 0).val / 128 * 128 + 128; omega
  | ⟨1, _⟩ => show 0 * 320 ≤ (i 1).val ∧ (i 1).val < 0 * 320 + 320; omega

theorem cover7 (i : S1024x320.Idx) :
    ∃ t : Fin (cfgM m hO).N, ((cfgM m hO).win 7).flush t = true ∧ i ∈ (((cfgM m hO).win 7).blk t).view.set := by
  have h0 : (i 0).val < 1024 := (i 0).isLt
  have h1 : (i 1).val < 320 := (i 1).isLt
  refine ⟨⟨(i 0).val / 128, show _ < 8 by omega⟩, flush0_7 _ _, ?_⟩
  refine (Pipeline.Window.emb_mem_blk_iff ((cfgM m hO).win 7) _ i).mpr fun a => ?_
  rw [e7]
  match a with
  | ⟨0, _⟩ => show (i 0).val / 128 * 128 ≤ (i 0).val ∧ (i 0).val < (i 0).val / 128 * 128 + 128; omega
  | ⟨1, _⟩ => show 0 * 320 ≤ (i 1).val ∧ (i 1).val < 0 * 320 + 320; omega

theorem cover8 (i : S1024x320.Idx) :
    ∃ t : Fin (cfgM m hO).N, ((cfgM m hO).win 8).flush t = true ∧ i ∈ (((cfgM m hO).win 8).blk t).view.set := by
  have h0 : (i 0).val < 1024 := (i 0).isLt
  have h1 : (i 1).val < 320 := (i 1).isLt
  refine ⟨⟨(i 0).val / 128, show _ < 8 by omega⟩, flush0_8 _ _, ?_⟩
  refine (Pipeline.Window.emb_mem_blk_iff ((cfgM m hO).win 8) _ i).mpr fun a => ?_
  rw [e8]
  match a with
  | ⟨0, _⟩ => show (i 0).val / 128 * 128 ≤ (i 0).val ∧ (i 0).val < (i 0).val / 128 * 128 + 128; omega
  | ⟨1, _⟩ => show 0 * 320 ≤ (i 1).val ∧ (i 1).val < 0 * 320 + 320; omega

/-- The input blocks of a grid point, at their arrays' elements. -/
abbrev b0 (c : Dev nD) (t : Fin (cfgM m hO).N) : Vec Ideal S1x128x320 .f32 := iblk m hO c 0 t
abbrev b1 (c : Dev nD) (t : Fin (cfgM m hO).N) : Vec Ideal S7x128x320 .bf16 := iblk m hO c 1 t
abbrev b2 (c : Dev nD) (t : Fin (cfgM m hO).N) : Vec Ideal S128x320 .f32 := iblk m hO c 2 t
abbrev b3 (c : Dev nD) (t : Fin (cfgM m hO).N) : Vec Ideal S128x320 .f32 := iblk m hO c 3 t
abbrev b4 (c : Dev nD) (t : Fin (cfgM m hO).N) : Vec Ideal S128x320 .f32 := iblk m hO c 4 t

theorem b0_at (c : Dev nD) (t : Fin (cfgM m hO).N) (hk : num m < 8) (y : S1x128x320.Idx) (R : Fin 1024) (hR : R.val = 128 * t.val + (y 1).val) :
    b0 m hO c t y = m ((c : Thread nD τ).loc main_arg1) (ix3 ⟨num m, hk⟩ R (y 2)) :=
  congrArg (m ((c : Thread nD τ).loc main_arg1)) (pos0 m hO t y hk R hR)
theorem b1_at (c : Dev nD) (t : Fin (cfgM m hO).N) (y : S7x128x320.Idx) (R : Fin 1024) (hR : R.val = 128 * t.val + (y 1).val) :
    b1 m hO c t y = m ((c : Thread nD τ).loc main_arg2) (ix3 (y 0) R (y 2)) :=
  congrArg (m ((c : Thread nD τ).loc main_arg2)) (pos1 m hO t y R hR)
theorem b2_at (c : Dev nD) (t : Fin (cfgM m hO).N) (y : S128x320.Idx) (i : S1024x320.Idx) (h0 : (i 0).val = 128 * t.val + (y 0).val)
    (h1 : (i 1).val = (y 1).val) : b2 m hO c t y = m ((c : Thread nD τ).loc main_arg3) i :=
  congrArg (m ((c : Thread nD τ).loc main_arg3)) (pos2 m hO t y i h0 h1)
theorem b3_at (c : Dev nD) (t : Fin (cfgM m hO).N) (y : S128x320.Idx) (i : S1024x320.Idx) (h0 : (i 0).val = 128 * t.val + (y 0).val)
    (h1 : (i 1).val = (y 1).val) : b3 m hO c t y = m ((c : Thread nD τ).loc main_arg4) i :=
  congrArg (m ((c : Thread nD τ).loc main_arg4)) (pos3 m hO t y i h0 h1)
theorem b4_at (c : Dev nD) (t : Fin (cfgM m hO).N) (y : S128x320.Idx) (i : S1024x320.Idx) (h0 : (i 0).val = 128 * t.val + (y 0).val)
    (h1 : (i 1).val = (y 1).val) : b4 m hO c t y = m ((c : Thread nD τ).loc main_arg5) i :=
  congrArg (m ((c : Thread nD τ).loc main_arg5)) (pos4 m hO t y i h0 h1)

/-- The sum's block at a grid point. -/
abbrev sum (c : Dev nD) (t : Fin (cfgM m hO).N) : Vec Ideal S128x320 .f32 := k0_pay4 (b0 m hO c t) (View.ld (b1 m hO c t) (Rect.unit ![0, 0, 0] ![1, 128, 320] inb_S7x128x320_S1x128x320_0_0_0)) (View.ld (b1 m hO c t) (Rect.unit ![1, 0, 0] ![1, 128, 320] inb_S7x128x320_S1x128x320_1_0_0)) (View.ld (b1 m hO c t) (Rect.unit ![2, 0, 0] ![1, 128, 320] inb_S7x128x320_S1x128x320_2_0_0)) (View.ld (b1 m hO c t) (Rect.unit ![3, 0, 0] ![1, 128, 320] inb_S7x128x320_S1x128x320_3_0_0)) (View.ld (b1 m hO c t) (Rect.unit ![4, 0, 0] ![1, 128, 320] inb_S7x128x320_S1x128x320_4_0_0)) (View.ld (b1 m hO c t) (Rect.unit ![5, 0, 0] ![1, 128, 320] inb_S7x128x320_S1x128x320_5_0_0)) (View.ld (b1 m hO c t) (Rect.unit ![6, 0, 0] ![1, 128, 320] inb_S7x128x320_S1x128x320_6_0_0))

theorem ld_at (x : Vec Ideal S7x128x320 .bf16) (k : Fin 7) (y : S128x320.Idx) (h) :
    View.ld x (Rect.unit ![k.val, 0, 0] ![1, 128, 320] h) (ix3 0 (y 0) (y 1)) = x (ix3 k (y 0) (y 1)) := by
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem sum_at (c : Dev nD) (t : Fin (cfgM m hO).N) (hk : num m < 8) (y : S128x320.Idx) (i : S1024x320.Idx) (h0 : (i 0).val = 128 * t.val + (y 0).val)
    (h1 : (i 1).val = (y 1).val) : sum m hO c t y
      = grad ⟨num m, hk⟩ (m ((c : Thread nD τ).loc main_arg1)) (m ((c : Thread nD τ).loc main_arg2)) i := by
  have e1 : y 1 = i 1 := Fin.ext h1.symm
  have e : ∀ (k : Fin 7) (h), View.ld (b1 m hO c t) (Rect.unit ![k.val, 0, 0] ![1, 128, 320] h) (ix3 0 (y 0) (y 1))
      = m ((c : Thread nD τ).loc main_arg2) (ix3 k (i 0) (i 1)) := fun k h => by
    refine (ld_at (b1 m hO c t) k y h).trans ?_
    rw [b1_at m hO c t _ (i 0) h0, ← e1]
    rfl
  rw [sum, pay4_at, b0_at m hO c t hk _ (i 0) h0]
  unfold grad
  rw [← e1] at e ⊢
  exact congrArg₂ _ (congrArg₂ _ (congrArg₂ _ (congrArg₂ _ (congrArg₂ _ (congrArg₂ _ (congrArg₂ _ rfl (e 0 _)) (e 1 _)) (e 2 _)) (e 3 _)) (e 4 _)) (e 5 _)) (e 6 _)

attribute [local irreducible] out0_A_5 out0_A_6 out0_A_7 out0_A_8 in
theorem outs5 (c : Dev nD) (t : Fin (cfgM m hO).N) : (outsAt0 m hO c t).1 = sum m hO c t := by
  exact outA5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs6 (c : Dev nD) (t : Fin (cfgM m hO).N) : (outsAt0 m hO c t).2.1 = k0_pay3 (sum m hO c t) (b2 m hO c t) (b3 m hO c t) (b4 m hO c t) := by
  exact outA6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs7 (c : Dev nD) (t : Fin (cfgM m hO).N) : (outsAt0 m hO c t).2.2.1 = k0_pay1 (sum m hO c t) (b3 m hO c t) := by
  exact outA7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs8 (c : Dev nD) (t : Fin (cfgM m hO).N) : (outsAt0 m hO c t).2.2.2 = k0_pay2 (sum m hO c t) (b4 m hO c t) := by
  exact outA8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)

section finals

variable (c : Dev nD) (t : Fin (cfgM m hO).N) (hk : num m < 8) (y : S128x320.Idx) (i : S1024x320.Idx)
  (h0 : (i 0).val = 128 * t.val + (y 0).val) (h1 : (i 1).val = (y 1).val)

include h0 h1

theorem out5 : (outsAt0 m hO c t).1 y = grad ⟨num m, hk⟩ (m ((c : Thread nD τ).loc main_arg1)) (m ((c : Thread nD τ).loc main_arg2)) i := by
  refine (congrFun (outs5 m hO c t) y).trans ?_
  exact sum_at m hO c t hk y i h0 h1

theorem out6 : (outsAt0 m hO c t).2.1 y = step (grad ⟨num m, hk⟩ (m ((c : Thread nD τ).loc main_arg1)) (m ((c : Thread nD τ).loc main_arg2)) i)
    (m ((c : Thread nD τ).loc main_arg3) i) (m ((c : Thread nD τ).loc main_arg4) i) (m ((c : Thread nD τ).loc main_arg5) i) := by
  refine (congrFun (outs6 m hO c t) y).trans ?_
  refine (pay3_at (sum m hO c t) (b2 m hO c t) (b3 m hO c t) (b4 m hO c t) y).trans ?_
  rw [sum_at m hO c t hk y i h0 h1, b2_at m hO c t y i h0 h1, b3_at m hO c t y i h0 h1, b4_at m hO c t y i h0 h1]

theorem out7 : (outsAt0 m hO c t).2.2.1 y = mom (grad ⟨num m, hk⟩ (m ((c : Thread nD τ).loc main_arg1)) (m ((c : Thread nD τ).loc main_arg2)) i)
    (m ((c : Thread nD τ).loc main_arg4) i) := by
  refine (congrFun (outs7 m hO c t) y).trans ?_
  refine (pay1_at (sum m hO c t) (b3 m hO c t) y).trans ?_
  rw [sum_at m hO c t hk y i h0 h1, b3_at m hO c t y i h0 h1]

theorem out8 : (outsAt0 m hO c t).2.2.2 y = vel (grad ⟨num m, hk⟩ (m ((c : Thread nD τ).loc main_arg1)) (m ((c : Thread nD τ).loc main_arg2)) i)
    (m ((c : Thread nD τ).loc main_arg5) i) := by
  refine (congrFun (outs8 m hO c t) y).trans ?_
  refine (pay2_at (sum m hO c t) (b4 m hO c t) y).trans ?_
  rw [sum_at m hO c t hk y i h0 h1, b4_at m hO c t y i h0 h1]

end finals

/-- The four results as functions of the arguments. -/
def G5 (hk : num m < 8) (c : Dev nD) (i : S1024x320.Idx) : EReal :=
  grad ⟨num m, hk⟩ (m ((c : Thread nD τ).loc main_arg1)) (m ((c : Thread nD τ).loc main_arg2)) i
def G6 (hk : num m < 8) (c : Dev nD) (i : S1024x320.Idx) : EReal :=
  step (G5 m hk c i) (m ((c : Thread nD τ).loc main_arg3) i) (m ((c : Thread nD τ).loc main_arg4) i) (m ((c : Thread nD τ).loc main_arg5) i)
def G7 (hk : num m < 8) (c : Dev nD) (i : S1024x320.Idx) : EReal := mom (G5 m hk c i) (m ((c : Thread nD τ).loc main_arg4) i)
def G8 (hk : num m < 8) (c : Dev nD) (i : S1024x320.Idx) : EReal := vel (G5 m hk c i) (m ((c : Thread nD τ).loc main_arg5) i)

theorem emb5 (t : Fin (cfgM m hO).N) (y : S128x320.Idx) :
    ∃ i : S1024x320.Idx, (((cfgM m hO).win 5).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos5 m hO t y _ rfl rfl, rfl, rfl⟩

theorem final5 (c : Dev nD) (hk : num m < 8) : (dats m hO 0 c).arrAt 5 (cfgM m hO).N = G5 m hk c := by
  refine (dats m hO 0 c).arrAt_eq_of_emb 5 _ (fun t hf y => ?_) (cover5 m hO)
  obtain ⟨i, he, h0, h1⟩ := emb5 m hO t y
  refine ((congrFun (after0_5 m hO c t) y).trans ?_)
  exact (out5 m hO c t hk y i h0 h1).trans (congrArg (G5 m hk c) he).symm

theorem emb6 (t : Fin (cfgM m hO).N) (y : S128x320.Idx) :
    ∃ i : S1024x320.Idx, (((cfgM m hO).win 6).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos6 m hO t y _ rfl rfl, rfl, rfl⟩

theorem final6 (c : Dev nD) (hk : num m < 8) : (dats m hO 0 c).arrAt 6 (cfgM m hO).N = G6 m hk c := by
  refine (dats m hO 0 c).arrAt_eq_of_emb 6 _ (fun t hf y => ?_) (cover6 m hO)
  obtain ⟨i, he, h0, h1⟩ := emb6 m hO t y
  refine ((congrFun (after0_6 m hO c t) y).trans ?_)
  exact (out6 m hO c t hk y i h0 h1).trans (congrArg (G6 m hk c) he).symm

theorem emb7 (t : Fin (cfgM m hO).N) (y : S128x320.Idx) :
    ∃ i : S1024x320.Idx, (((cfgM m hO).win 7).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos7 m hO t y _ rfl rfl, rfl, rfl⟩

theorem final7 (c : Dev nD) (hk : num m < 8) : (dats m hO 0 c).arrAt 7 (cfgM m hO).N = G7 m hk c := by
  refine (dats m hO 0 c).arrAt_eq_of_emb 7 _ (fun t hf y => ?_) (cover7 m hO)
  obtain ⟨i, he, h0, h1⟩ := emb7 m hO t y
  refine ((congrFun (after0_7 m hO c t) y).trans ?_)
  exact (out7 m hO c t hk y i h0 h1).trans (congrArg (G7 m hk c) he).symm

theorem emb8 (t : Fin (cfgM m hO).N) (y : S128x320.Idx) :
    ∃ i : S1024x320.Idx, (((cfgM m hO).win 8).blk t).view.emb y = i ∧ (i 0).val = 128 * t.val + (y 0).val ∧ (i 1).val = (y 1).val := by
  have ht : t.val < 8 := t.isLt
  have h0 : (y 0).val < 128 := (y 0).isLt
  exact ⟨ix2 ⟨128 * t.val + (y 0).val, by omega⟩ (y 1), pos8 m hO t y _ rfl rfl, rfl, rfl⟩

theorem final8 (c : Dev nD) (hk : num m < 8) : (dats m hO 0 c).arrAt 8 (cfgM m hO).N = G8 m hk c := by
  refine (dats m hO 0 c).arrAt_eq_of_emb 8 _ (fun t hf y => ?_) (cover8 m hO)
  obtain ⟨i, he, h0, h1⟩ := emb8 m hO t y
  refine ((congrFun (after0_8 m hO c t) y).trans ?_)
  exact (out8 m hO c t hk y i h0 h1).trans (congrArg (G8 m hk c) he).symm

section ref

open Cert.Reference12Ideal.Read

variable (x0 : IVec S1 32) (x1 : Vec Ideal S8x1024x320 .f32) (x2 : Vec Ideal S7x1024x320 .bf16) (x3 x4 x5 : Vec Ideal S1024x320 .f32)

theorem own_at (hk : (x0 (ix1 0)).toNat < 8) (i : S1024x320.Idx) :
    val_main_v6 (F := Ideal) x0 x1 i = x1 (ix3 ⟨(x0 (ix1 0)).toNat, hk⟩ (i 0) (i 1)) := by
  have e : val_main_v6 (F := Ideal) x0 x1 i = ∑ k : Fin 8, val_main_v5 (F := Ideal) x0 x1 (ix3 k (i 0) (i 1)) := by
    idx_vars i
    pointwise [val_main_v6, val_main_cst_0]
    done
  have hs : ∀ k : Fin 8, val_main_v5 (F := Ideal) x0 x1 (ix3 k (i 0) (i 1))
      = if (⟨(x0 (ix1 0)).toNat, hk⟩ : Fin 8) = k then x1 (ix3 k (i 0) (i 1)) else 0 := fun k => by
    have hz : val_main_call0_v2 (F := Ideal) (ix3 k (i 0) (i 1)) = 0 := by
      have hv : val_main_call0_v2 (F := Ideal) (ix3 k (i 0) (i 1)) = val_main_cst (F := Ideal) ix0 := rfl
      rw [hv]
      pointwise [val_main_cst]
      done
    have hc : val_main_call0_v1 (F := Ideal) x0 (ix3 k (i 0) (i 1)) = IntOp.cmpi .eq (BitVec.ofNat 32 k.val) (x0 (ix1 0)) :=
      congrArg (fun z => IntOp.cmpi .eq (BitVec.ofNat 32 k.val) (x0 z)) (ix_eq _ _)
    have hd : val_main_v5 (F := Ideal) x0 x1 (ix3 k (i 0) (i 1)) = if val_main_call0_v1 (F := Ideal) x0 (ix3 k (i 0) (i 1)) = 1#1
        then x1 (ix3 k (i 0) (i 1)) else val_main_call0_v2 (F := Ideal) (ix3 k (i 0) (i 1)) := rfl
    rw [hd, hz, hc]
    exact if_congr (word_eq _ hk k) rfl rfl
  rw [e, Finset.sum_congr rfl fun k _ => hs k, Finset.sum_ite_eq, if_pos (Finset.mem_univ _)]

theorem rg (hk : (x0 (ix1 0)).toNat < 8) (i : S1024x320.Idx) :
    val_main_v9 (F := Ideal) x0 x1 x2 i = grad ⟨(x0 (ix1 0)).toNat, hk⟩ x1 x2 i := by
  have e : val_main_v9 (F := Ideal) x0 x1 x2 i = val_main_v6 (F := Ideal) x0 x1 i + ∑ k : Fin 7, x2 (ix3 k (i 0) (i 1)) := by
    idx_vars i
    pointwise [val_main_v9, val_main_v8, val_main_v7, val_main_cst_1]
    done
  rw [e, own_at x0 x1 hk i, Fin.sum_univ_seven]
  unfold grad
  simp only [add_assoc]

theorem rm (i : S1024x320.Idx) : val_main_v14 (F := Ideal) x0 x1 x2 x4 i = mom (val_main_v9 (F := Ideal) x0 x1 x2 i) (x4 i) := rfl

theorem rv (i : S1024x320.Idx) : val_main_v20 (F := Ideal) x0 x1 x2 x5 i = vel (val_main_v9 (F := Ideal) x0 x1 x2 i) (x5 i) := rfl

theorem rd (i : S1024x320.Idx) : val_main_v33 (F := Ideal) x0 x1 x2 x3 x4 x5 i
    = step (val_main_v9 (F := Ideal) x0 x1 x2 i) (x3 i) (x4 i) (x5 i) := rfl

end ref

theorem algebraic : Cert.algebraic_Kernel12Ideal_Reference12Ideal := by
  intro m g m' g' hpre hag
  have hw : ∀ i : S1.Idx, ((m (((0 : Dev nD) : Thread nD τ).loc main_arg0) : IVec S1 32) i).toNat < 8 := num_lt _ _ _ _ _ _ (hpre 0)
  have hO : Ok m := ok_of m hw
  have hk : num m < 8 := hw (ix1 0)
  refine ⟨fun c => G5 m hk c, fun c => G6 m hk c, fun c => G7 m hk c, fun c => G8 m hk c, ?_, ?_⟩
  · refine (θ_run _ _ _).mono (fun _ h c => ?_) (θ_run_and (run_main m g hO) (unchanged m g hO))
    exact ⟨((h.1 c).1 5).trans (final5 m hO c hk), ((h.1 c).1 6).trans (final6 m hO c hk), ((h.1 c).1 7).trans (final7 m hO c hk),
      ((h.1 c).1 8).trans (final8 m hO c hk), h.2 c⟩
  · refine (θ_run _ _ _).mono (fun _ h c => ⟨(h c).1.trans ?_, (h c).2.1.trans ?_, (h c).2.2.1.trans ?_, (h c).2.2.2.1.trans ?_, (h c).2.2.2.2⟩)
      (Cert.Reference12Ideal.Value.run (F := Ideal) m' g')
    all_goals
      clear h
      obtain rfl : c = 0 := Subsingleton.elim _ _
      have a0 : m' (((0 : Dev Cert.Reference12Ideal.nD) : Thread Cert.Reference12Ideal.nD Cert.Reference12Ideal.τ).loc Cert.Reference12Ideal.main_arg0) = m (((0 : Dev nD) : Thread nD τ).loc main_arg0) := (hag 0).1
      have a1 : m' (((0 : Dev Cert.Reference12Ideal.nD) : Thread Cert.Reference12Ideal.nD Cert.Reference12Ideal.τ).loc Cert.Reference12Ideal.main_arg1) = m (((0 : Dev nD) : Thread nD τ).loc main_arg1) := (hag 0).2.1
      have a2 : m' (((0 : Dev Cert.Reference12Ideal.nD) : Thread Cert.Reference12Ideal.nD Cert.Reference12Ideal.τ).loc Cert.Reference12Ideal.main_arg2) = m (((0 : Dev nD) : Thread nD τ).loc main_arg2) := (hag 0).2.2.1
      have a3 : m' (((0 : Dev Cert.Reference12Ideal.nD) : Thread Cert.Reference12Ideal.nD Cert.Reference12Ideal.τ).loc Cert.Reference12Ideal.main_arg3) = m (((0 : Dev nD) : Thread nD τ).loc main_arg3) := (hag 0).2.2.2.1
      have a4 : m' (((0 : Dev Cert.Reference12Ideal.nD) : Thread Cert.Reference12Ideal.nD Cert.Reference12Ideal.τ).loc Cert.Reference12Ideal.main_arg4) = m (((0 : Dev nD) : Thread nD τ).loc main_arg4) := (hag 0).2.2.2.2.1
      have a5 : m' (((0 : Dev Cert.Reference12Ideal.nD) : Thread Cert.Reference12Ideal.nD Cert.Reference12Ideal.τ).loc Cert.Reference12Ideal.main_arg5) = m (((0 : Dev nD) : Thread nD τ).loc main_arg5) := (hag 0).2.2.2.2.2
    · rw [Cert.Reference12Ideal.Read.val_main_v9_eq, a0, a1, a2]
      exact funext fun i => rg _ _ _ hk i
    · rw [Cert.Reference12Ideal.Read.val_main_v33_eq, a0, a1, a2, a3, a4, a5]
      exact funext fun i => (rd _ _ _ _ _ _ i).trans (by rw [rg _ _ _ hk i]; rfl)
    · rw [Cert.Reference12Ideal.Read.val_main_v14_eq, a0, a1, a2, a4]
      exact funext fun i => (rm _ _ _ _ i).trans (by rw [rg _ _ _ hk i]; rfl)
    · rw [Cert.Reference12Ideal.Read.val_main_v20_eq, a0, a1, a2, a5]
      exact funext fun i => (rv _ _ _ _ i).trans (by rw [rg _ _ _ hk i]; rfl)

end Cert.K12

end
-- ==== Proof.K13.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Pre_in_mesh13
public import proofs.«01_k».proof.Proof.Adam
public import Idealize.ShloMosaic.Lib.Pointwise
public import Idealize.ShloMosaic.Lib.Pipeline.ValueKit

@[expose] public section

noncomputable section

namespace Cert.K13

open Cert.Kernel13Ideal Cert.Kernel13Ideal.Gen Idealize.ShloMosaic Idealize.ShloMosaic.TcCoe Idealize.SL.Sem
open Idealize.ShloMosaic.Pipeline (Dat)
open Cert.Adam

/-- The precondition bounds the device's number. -/
theorem num_lt {F : FTy → Type} [FloatOps F] (x0 : IVec S1 32) (x1 : FVec F Cert.Pre_in_mesh13.S8x128x1024 .f32)
    (x2 : FVec F Cert.Pre_in_mesh13.S7x128x1024 .bf16) (x3 x4 x5 : FVec F Cert.Pre_in_mesh13.S128x1024 .f32)
    (h : Cert.Pre_in_mesh13.fn (F := F) x0 x1 x2 x3 x4 x5 = fun _ => 1#1) (i : S1.Idx) : (x0 i).toNat < 8 := by
  have h1 := congrFun h (fun a => a.elim0)
  simp only [Cert.Pre_in_mesh13.fn] at h1
  obtain ⟨ha, hb⟩ := IntOp.andi_eq_one.mp h1
  have ha' : IntOp.cmpi .sge (x0 i) 0#32 = 1#1 := by rw [← ix_eq _ i]; exact ha
  have hb' : IntOp.cmpi .slt (x0 i) 8#32 = 1#1 := by rw [← ix_eq _ i]; exact hb
  exact word_lt _ ha' hb'

theorem ok_of {F : FTy → Type} [FloatOps F] (m : (ℓ : Loc nD τ sig) → Buf (Elt F) ℓ)
    (h : ∀ i : S1.Idx, ((m (((0 : Dev nD) : Thread nD τ).loc main_arg0) : IVec S1 32) i).toNat < 8) : Ok m := by
  intro i
  have hw : ((tbl m).at 0 (Rect.unit (s := S1) ![0] S1.size inb_S1_S1_0) numel1_S1 : BitVec 32).toNat < 8 := h _
  have h8 : (i 0).val < 8 := (i 0).isLt
  refine ⟨?_, .inl rfl⟩
  intro a
  match a with
  | ⟨0, _⟩ =>
    show (((tbl m).at 0 (Rect.unit (s := S1) ![0] S1.size inb_S1_S1_0) numel1_S1 : BitVec 32).toNat + 1) * 1 ≤ 8
    generalize ((tbl m).at 0 (Rect.unit (s := S1) ![0] S1.size inb_S1_S1_0) numel1_S1 : BitVec 32).toNat = b at hw ⊢
    omega
  | ⟨1, _⟩ => show ((BitVec.ofNat 32 (i 0).val).toNat + 1) * 16 ≤ 128; rw [BitVec.toNat_ofNat]; omega
  | ⟨2, _⟩ => show (0 + 1) * 1024 ≤ 1024; omega

theorem frame_k : Cert.quiescent_Kernel13 := fun m ρ h =>
  Cert.Kernel13.Gen.frame m ρ (by
    have hw : ∀ i : S1.Idx, ((m (((0 : Dev Cert.Kernel13.nD) : Thread Cert.Kernel13.nD Cert.Kernel13.τ).loc Cert.Kernel13.main_arg0) : IVec S1 32) i).toNat < 8 :=
      num_lt _ _ _ _ _ _ (h 0)
    intro i
    have hb : ((Cert.Kernel13.Gen.tbl m).at 0 (Rect.unit (s := S1) ![0] S1.size (by decide)) (by decide) : BitVec 32).toNat < 8 := hw _
    have h8 : (i 0).val < 8 := (i 0).isLt
    refine ⟨?_, .inl rfl⟩
    intro a
    match a with
    | ⟨0, _⟩ =>
      show (((Cert.Kernel13.Gen.tbl m).at 0 (Rect.unit (s := S1) ![0] S1.size (by decide)) (by decide) : BitVec 32).toNat + 1) * 1 ≤ 8
      generalize ((Cert.Kernel13.Gen.tbl m).at 0 (Rect.unit (s := S1) ![0] S1.size (by decide)) (by decide) : BitVec 32).toNat = b at hb ⊢
      omega
    | ⟨1, _⟩ => show ((BitVec.ofNat 32 (i 0).val).toNat + 1) * 16 ≤ 128; rw [BitVec.toNat_ofNat]; omega
    | ⟨2, _⟩ => show (0 + 1) * 1024 ≤ 1024; omega)

theorem frame_ki : Cert.quiescent_Kernel13Ideal := fun m ρ h =>
  Cert.Kernel13Ideal.Gen.frame m ρ (ok_of m (num_lt _ _ _ _ _ _ (h 0)))

theorem frame_ri : Cert.quiescent_Reference13Ideal := fun m ρ _ =>
  (θ_run Cert.Reference13Ideal.defs _ _).mono (fun r h => ⟨fun c => (h c).2.2.2.2,
      Idealize.ShloMosaic.sem_eq_zero_of_no_sems (by decide) r.2⟩)
    (Cert.Reference13Ideal.Value.run (F := Ideal) m ρ)

theorem pay4_at (v0 : Vec Ideal S1x16x1024 .f32) (v2 v6 v10 v14 v18 v22 v26 : Vec Ideal S1x16x1024 .bf16) (j : S16x1024.Idx) :
    k0_pay4 v0 v2 v6 v10 v14 v18 v22 v26 j = v0 (ix3 0 (j 0) (j 1)) + v2 (ix3 0 (j 0) (j 1)) + v6 (ix3 0 (j 0) (j 1))
      + v10 (ix3 0 (j 0) (j 1)) + v14 (ix3 0 (j 0) (j 1)) + v18 (ix3 0 (j 0) (j 1)) + v22 (ix3 0 (j 0) (j 1))
      + v26 (ix3 0 (j 0) (j 1)) := by
  idx_vars j
  pointwise [k0_pay4]
  done

/-- The gradient's sum over the devices. -/
def grad (k : Fin 8) (A1 : Vec Ideal S8x128x1024 .f32) (A2 : Vec Ideal S7x128x1024 .bf16) (i : S128x1024.Idx) : EReal :=
  A1 (ix3 k (i 0) (i 1)) + A2 (ix3 0 (i 0) (i 1)) + A2 (ix3 1 (i 0) (i 1)) + A2 (ix3 2 (i 0) (i 1)) + A2 (ix3 3 (i 0) (i 1)) + A2 (ix3 4 (i 0) (i 1)) + A2 (ix3 5 (i 0) (i 1)) + A2 (ix3 6 (i 0) (i 1))

theorem pay1_at (g m : Vec Ideal S16x1024 .f32) (j : S16x1024.Idx) : k0_pay1 g m j = mom (g j) (m j) := by
  idx_vars j
  pointwise [k0_pay1]
  rfl

theorem pay2_at (g v : Vec Ideal S16x1024 .f32) (j : S16x1024.Idx) : k0_pay2 g v j = vel (g j) (v j) := by
  idx_vars j
  pointwise [k0_pay2]
  rfl

theorem pay3_at (g w m v : Vec Ideal S16x1024 .f32) (j : S16x1024.Idx) : k0_pay3 g w m v j = step (g j) (w j) (m j) (v j) := by
  idx_vars j
  pointwise [k0_pay3, k0_pay1, k0_pay2]
  rfl

abbrev gs (x0 : Vec Ideal S1x16x1024 .f32) (x1 : Vec Ideal S7x16x1024 .bf16) : Vec Ideal S16x1024 .f32 := k0_pay4 x0 (View.ld x1 (Rect.unit ![0, 0, 0] ![1, 16, 1024] inb_S7x16x1024_S1x16x1024_0_0_0)) (View.ld x1 (Rect.unit ![1, 0, 0] ![1, 16, 1024] inb_S7x16x1024_S1x16x1024_1_0_0)) (View.ld x1 (Rect.unit ![2, 0, 0] ![1, 16, 1024] inb_S7x16x1024_S1x16x1024_2_0_0)) (View.ld x1 (Rect.unit ![3, 0, 0] ![1, 16, 1024] inb_S7x16x1024_S1x16x1024_3_0_0)) (View.ld x1 (Rect.unit ![4, 0, 0] ![1, 16, 1024] inb_S7x16x1024_S1x16x1024_4_0_0)) (View.ld x1 (Rect.unit ![5, 0, 0] ![1, 16, 1024] inb_S7x16x1024_S1x16x1024_5_0_0)) (View.ld x1 (Rect.unit ![6, 0, 0] ![1, 16, 1024] inb_S7x16x1024_S1x16x1024_6_0_0))

section
variable (c : Dev nD) (i : grid0.Coords) (arg2 : Memref sig .tc .vmem S1x16x1024 .f32) (harg2 : arg2.IsWhole) (arg3 : Memref sig .tc .vmem S7x16x1024 .bf16) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x1024 .f32) (harg10 : arg10.IsWhole)
    (x0 : Vec Ideal S1x16x1024 .f32) (x1 : Vec Ideal S7x16x1024 .bf16) (x2 : Vec Ideal S16x1024 .f32) (x3 : Vec Ideal S16x1024 .f32) (x4 : Vec Ideal S16x1024 .f32) (xt0 : TbBuf0 (F := Ideal) c tbM0_0)
theorem outA5 :
    out0_A_5 c i arg2 harg2 arg3 harg3 arg4 harg4 arg5 harg5 arg6 harg6 arg7 harg7 arg8 harg8 arg9 harg9 arg10 harg10 x0 x1 x2 x3 x4 xt0 = gs x0 x1 := by
  frame_out

theorem outA6 :
    out0_A_6 c i arg2 harg2 arg3 harg3 arg4 harg4 arg5 harg5 arg6 harg6 arg7 harg7 arg8 harg8 arg9 harg9 arg10 harg10 x0 x1 x2 x3 x4 xt0 = k0_pay3 (gs x0 x1) x2 x3 x4 := by
  frame_out

theorem outA7 :
    out0_A_7 c i arg2 harg2 arg3 harg3 arg4 harg4 arg5 harg5 arg6 harg6 arg7 harg7 arg8 harg8 arg9 harg9 arg10 harg10 x0 x1 x2 x3 x4 xt0 = k0_pay1 (gs x0 x1) x3 := by
  frame_out

theorem outA8 :
    out0_A_8 c i arg2 harg2 arg3 harg3 arg4 harg4 arg5 harg5 arg6 harg6 arg7 harg7 arg8 harg8 arg9 harg9 arg10 harg10 x0 x1 x2 x3 x4 xt0 = k0_pay2 (gs x0 x1) x4 := by
  frame_out
end

variable (m : (ℓ : Loc nD τ sig) → Buf (Elt Ideal) ℓ) (hO : Ok m)

/-- The number of the device, as the prefetched word says it. -/
abbrev num : Nat := (m (((0 : Dev nD) : Thread nD τ).loc main_arg0) (ix1 0) : BitVec 32).toNat

theorem e0 (t : Fin (cfgM m hO).N) : ((cfgM m hO).win 0).index t = ![num m, t.val, 0] := by
  have h : ∀ t : Fin grid0.N, (BitVec.ofNat 32 ((grid0.coords t) 0).val).toNat = t.val := by decide +kernel
  have h1 : ((tbl m).at 0 (Rect.unit (s := S1) ![0] S1.size inb_S1_S1_0) numel1_S1 : BitVec 32) = m (((0 : Dev nD) : Thread nD τ).loc main_arg0) (ix1 0) :=
    congrArg (m (((0 : Dev nD) : Thread nD τ).loc main_arg0)) (ix_eq _ _)
  show ![((tbl m).at 0 (Rect.unit (s := S1) ![0] S1.size inb_S1_S1_0) numel1_S1 : BitVec 32).toNat, (BitVec.ofNat 32 ((grid0.coords t) 0).val).toNat, 0] = _
  rw [h1, h t]
theorem e1 (t : Fin (cfgM m hO).N) : ((cfgM m hO).win 1).index t = ![0, t.val, 0] :=
  (by decide +kernel : ∀ t : Fin grid0.N, cc0_transform_1 (grid0.coords t) = ![0, t.val, 0]) t
theorem e2 (t : Fin (cfgM m hO).N) : ((cfgM m hO).win 2).index t = ![t.val, 0] :=
  (by decide +kernel : ∀ t : Fin grid0.N, cc0_transform_2 (grid0.coords t) = ![t.val, 0]) t
theorem e3 (t : Fin (cfgM m hO).N) : ((cfgM m hO).win 3).index t = ![t.val, 0] :=
  (by decide +kernel : ∀ t : Fin grid0.N, cc0_transform_3 (grid0.coords t) = ![t.val, 0]) t
theorem e4 (t : Fin (cfgM m hO).N) : ((cfgM m hO).win 4).index t = ![t.val, 0] :=
  (by decide +kernel : ∀ t : Fin grid0.N, cc0_transform_4 (grid0.coords t) = ![t.val, 0]) t
theorem e5 (t : Fin (cfgM m hO).N) : ((cfgM m hO).win 5).index t = ![t.val, 0] :=
  (by decide +kernel : ∀ t : Fin grid0.N, cc0_transform_5 (grid0.coords t) = ![t.val, 0]) t
theorem e6 (t : Fin (cfgM m hO).N) : ((cfgM m hO).win 6).index t = ![t.val, 0] :=
  (by decide +kernel : ∀ t : Fin grid0.N, cc0_transform_6 (grid0.coords t) = ![t.val, 0]) t
theorem e7 (t : Fin (cfgM m hO).N) : ((cfgM m hO).win 7).index t = ![t.val, 0] :=
  (by decide +kernel : ∀ t : Fin grid0.N, cc0_transform_7 (grid0.coords t) = ![t.val, 0]) t
theorem e8 (t : Fin (cfgM m hO).N) : ((cfgM m hO).win 8).index t = ![t.val, 0] :=
  (by decide +kernel : ∀ t : Fin grid0.N, cc0_transform_8 (grid0.coords t) = ![t.val, 0]) t

/-- Where a block's element lies in the array. -/
theorem pos0 (t : Fin (cfgM m hO).N) (y : S1x16x1024.Idx) (hk : num m < 8) (R : Fin 128) (hR : R.val = 16 * t.val + (y 1).val) :
    (((cfgM m hO).win 0).blk t).view.emb y = (ix3 ⟨num m, hk⟩ R (y 2) : S8x128x1024.Idx) := by
  funext a
  apply Fin.ext
  refine (Pipeline.Window.rect_emb_val ((cfgM m hO).win 0) t y a).trans ?_
  rw [e0]
  match a with
  | ⟨0, _⟩ => show num m * 1 + (y 0).val = num m; have : (y 0).val < 1 := (y 0).isLt; omega
  | ⟨1, _⟩ => show t.val * 16 + (y 1).val = R.val; omega
  | ⟨2, _⟩ => show 0 * 1024 + (y 2).val = (y 2).val; omega

theorem pos1 (t : Fin (cfgM m hO).N) (y : S7x16x1024.Idx) (R : Fin 128) (hR : R.val = 16 * t.val + (y 1).val) :
    (((cfgM m hO).win 1).blk t).view.emb y = (ix3 (y 0) R (y 2) : S7x128x1024.Idx) := by
  funext a
  apply Fin.ext
  refine (Pipeline.Window.rect_emb_val ((cfgM m hO).win 1) t y a).trans ?_
  rw [e1]
  match a with
  | ⟨0, _⟩ => show 0 * 7 + (y 0).val = (y 0).val; omega
  | ⟨1, _⟩ => show t.val * 16 + (y 1).val = R.val; omega
  | ⟨2, _⟩ => show 0 * 1024 + (y 2).val = (y 2).val; omega

theorem pos2 (t : Fin (cfgM m hO).N) (y : S16x1024.Idx) (i : S128x1024.Idx) (h0 : (i 0).val = 16 * t.val + (y 0).val)
    (h1 : (i 1).val = (y 1).val) : (((cfgM m hO).win 2).blk t).view.emb y = i := by
  funext a
  apply Fin.ext
  refine (Pipeline.Window.rect_emb_val ((cfgM m hO).win 2) t y a).trans ?_
  rw [e2]
  match a with
  | ⟨0, _⟩ => show t.val * 16 + (y 0).val = (i 0).val; omega
  | ⟨1, _⟩ => show 0 * 1024 + (y 1).val = (i 1).val; omega

theorem pos3 (t : Fin (cfgM m hO).N) (y : S16x1024.Idx) (i : S128x1024.Idx) (h0 : (i 0).val = 16 * t.val + (y 0).val)
    (h1 : (i 1).val = (y 1).val) : (((cfgM m hO).win 3).blk t).view.emb y = i := by
  funext a
  apply Fin.ext
  refine (Pipeline.Window.rect_emb_val ((cfgM m hO).win 3) t y a).trans ?_
  rw [e3]
  match a with
  | ⟨0, _⟩ => show t.val * 16 + (y 0).val = (i 0).val; omega
  | ⟨1, _⟩ => show 0 * 1024 + (y 1).val = (i 1).val; omega

theorem pos4 (t : Fin (cfgM m hO).N) (y : S16x1024.Idx) (i : S128x1024.Idx) (h0 : (i 0).val = 16 * t.val + (y 0).val)
    (h1 : (i 1).val = (y 1).val) : (((cfgM m hO).win 4).blk t).view.emb y = i := by
  funext a
  apply Fin.ext
  refine (Pipeline.Window.rect_emb_val ((cfgM m hO).win 4) t y a).trans ?_
  rw [e4]
  match a with
  | ⟨0, _⟩ => show t.val * 16 + (y 0).val = (i 0).val; omega
  | ⟨1, _⟩ => show 0 * 1024 + (y 1).val = (i 1).val; omega

theorem pos5 (t : Fin (cfgM m hO).N) (y : S16x1024.Idx) (i : S128x1024.Idx) (h0 : (i 0).val = 16 * t.val + (y 0).val)
    (h1 : (i 1).val = (y 1).val) : (((cfgM m hO).win 5).blk t).view.emb y = i := by
  funext a
  apply Fin.ext
  refine (Pipeline.Window.rect_emb_val ((cfgM m hO).win 5) t y a).trans ?_
  rw [e5]
  match a with
  | ⟨0, _⟩ => show t.val * 16 + (y 0).val = (i 0).val; omega
  | ⟨1, _⟩ => show 0 * 1024 + (y 1).val = (i 1).val; omega

theorem pos6 (t : Fin (cfgM m hO).N) (y : S16x1024.Idx) (i : S128x1024.Idx) (h0 : (i 0).val = 16 * t.val + (y 0).val)
    (h1 : (i 1).val = (y 1).val) : (((cfgM m hO).win 6).blk t).view.emb y = i := by
  funext a
  apply Fin.ext
  refine (Pipeline.Window.rect_emb_val ((cfgM m hO).win 6) t y a).trans ?_
  rw [e6]
  match a with
  | ⟨0, _⟩ => show t.val * 16 + (y 0).val = (i 0).val; omega
  | ⟨1, _⟩ => show 0 * 1024 + (y 1).val = (i 1).val; omega

theorem pos7 (t : Fin (cfgM m hO).N) (y : S16x1024.Idx) (i : S128x1024.Idx) (h0 : (i 0).val = 16 * t.val + (y 0).val)
    (h1 : (i 1).val = (y 1).val) : (((cfgM m hO).win 7).blk t).view.emb y = i := by
  funext a
  apply Fin.ext
  refine (Pipeline.Window.rect_emb_val ((cfgM m hO).win 7) t y a).trans ?_
  rw [e7]
  match a with
  | ⟨0, _⟩ => show t.val * 16 + (y 0).val = (i 0).val; omega
  | ⟨1, _⟩ => show 0 * 1024 + (y 1).val = (i 1).val; omega

theorem pos8 (t : Fin (cfgM m hO).N) (y : S16x1024.Idx) (i : S128x1024.Idx) (h0 : (i 0).val = 16 * t.val + (y 0).val)
    (h1 : (i 1).val = (y 1).val) : (((cfgM m hO).win 8).blk t).view.emb y = i := by
  funext a
  apply Fin.ext
  refine (Pipeline.Window.rect_emb_val ((cfgM m hO).win 8) t y a).trans ?_
  rw [e8]
  match a with
  | ⟨0, _⟩ => show t.val * 16 + (y 0).val = (i 0).val; omega
  | ⟨1, _⟩ => show 0 * 1024 + (y 1).val = (i 1).val; omega

theorem cover5 (i : S128x1024.Idx) :
    ∃ t : Fin (cfgM m hO).N, ((cfgM m hO).win 5).flush t = true ∧ i ∈ (((cfgM m hO).win 5).blk t).view.set := by
  have h0 : (i 0).val < 128 := (i 0).isLt
  have h1 : (i 1).val < 1024 := (i 1).isLt
  refine ⟨⟨(i 0).val / 16, show _ < 8 by omega⟩, flush0_5 _ _, ?_⟩
  refine (Pipeline.Window.emb_mem_blk_iff ((cfgM m hO).win 5) _ i).mpr fun a => ?_
  rw [e5]
  match a with
  | ⟨0, _⟩ => show (i 0).val / 16 * 16 ≤ (i 0).val ∧ (i 0).val < (i 0).val / 16 * 16 + 16; omega
  | ⟨1, _⟩ => show 0 * 1024 ≤ (i 1).val ∧ (i 1).val < 0 * 1024 + 1024; omega

theorem cover6 (i : S128x1024.Idx) :
    ∃ t : Fin (cfgM m hO).N, ((cfgM m hO).win 6).flush t = true ∧ i ∈ (((cfgM m hO).win 6).blk t).view.set := by
  have h0 : (i 0).val < 128 := (i 0).isLt
  have h1 : (i 1).val < 1024 := (i 1).isLt
  refine ⟨⟨(i 0).val / 16, show _ < 8 by omega⟩, flush0_6 _ _, ?_⟩
  refine (Pipeline.Window.emb_mem_blk_iff ((cfgM m hO).win 6) _ i).mpr fun a => ?_
  rw [e6]
  match a with
  | ⟨0, _⟩ => show (i 0).val / 16 * 16 ≤ (i 0).val ∧ (i 0).val < (i 0).val / 16 * 16 + 16; omega
  | ⟨1, _⟩ => show 0 * 1024 ≤ (i 1).val ∧ (i 1).val < 0 * 1024 + 1024; omega

theorem cover7 (i : S128x1024.Idx) :
    ∃ t : Fin (cfgM m hO).N, ((cfgM m hO).win 7).flush t = true ∧ i ∈ (((cfgM m hO).win 7).blk t).view.set := by
  have h0 : (i 0).val < 128 := (i 0).isLt
  have h1 : (i 1).val < 1024 := (i 1).isLt
  refine ⟨⟨(i 0).val / 16, show _ < 8 by omega⟩, flush0_7 _ _, ?_⟩
  refine (Pipeline.Window.emb_mem_blk_iff ((cfgM m hO).win 7) _ i).mpr fun a => ?_
  rw [e7]
  match a with
  | ⟨0, _⟩ => show (i 0).val / 16 * 16 ≤ (i 0).val ∧ (i 0).val < (i 0).val / 16 * 16 + 16; omega
  | ⟨1, _⟩ => show 0 * 1024 ≤ (i 1).val ∧ (i 1).val < 0 * 1024 + 1024; omega

theorem cover8 (i : S128x1024.Idx) :
    ∃ t : Fin (cfgM m hO).N, ((cfgM m hO).win 8).flush t = true ∧ i ∈ (((cfgM m hO).win 8).blk t).view.set := by
  have h0 : (i 0).val < 128 := (i 0).isLt
  have h1 : (i 1).val < 1024 := (i 1).isLt
  refine ⟨⟨(i 0).val / 16, show _ < 8 by omega⟩, flush0_8 _ _, ?_⟩
  refine (Pipeline.Window.emb_mem_blk_iff ((cfgM m hO).win 8) _ i).mpr fun a => ?_
  rw [e8]
  match a with
  | ⟨0, _⟩ => show (i 0).val / 16 * 16 ≤ (i 0).val ∧ (i 0).val < (i 0).val / 16 * 16 + 16; omega
  | ⟨1, _⟩ => show 0 * 1024 ≤ (i 1).val ∧ (i 1).val < 0 * 1024 + 1024; omega

/-- The input blocks of a grid point, at their arrays' elements. -/
abbrev b0 (c : Dev nD) (t : Fin (cfgM m hO).N) : Vec Ideal S1x16x1024 .f32 := iblk m hO c 0 t
abbrev b1 (c : Dev nD) (t : Fin (cfgM m hO).N) : Vec Ideal S7x16x1024 .bf16 := iblk m hO c 1 t
abbrev b2 (c : Dev nD) (t : Fin (cfgM m hO).N) : Vec Ideal S16x1024 .f32 := iblk m hO c 2 t
abbrev b3 (c : Dev nD) (t : Fin (cfgM m hO).N) : Vec Ideal S16x1024 .f32 := iblk m hO c 3 t
abbrev b4 (c : Dev nD) (t : Fin (cfgM m hO).N) : Vec Ideal S16x1024 .f32 := iblk m hO c 4 t

theorem b0_at (c : Dev nD) (t : Fin (cfgM m hO).N) (hk : num m < 8) (y : S1x16x1024.Idx) (R : Fin 128) (hR : R.val = 16 * t.val + (y 1).val) :
    b0 m hO c t y = m ((c : Thread nD τ).loc main_arg1) (ix3 ⟨num m, hk⟩ R (y 2)) :=
  congrArg (m ((c : Thread nD τ).loc main_arg1)) (pos0 m hO t y hk R hR)
theorem b1_at (c : Dev nD) (t : Fin (cfgM m hO).N) (y : S7x16x1024.Idx) (R : Fin 128) (hR : R.val = 16 * t.val + (y 1).val) :
    b1 m hO c t y = m ((c : Thread nD τ).loc main_arg2) (ix3 (y 0) R (y 2)) :=
  congrArg (m ((c : Thread nD τ).loc main_arg2)) (pos1 m hO t y R hR)
theorem b2_at (c : Dev nD) (t : Fin (cfgM m hO).N) (y : S16x1024.Idx) (i : S128x1024.Idx) (h0 : (i 0).val = 16 * t.val + (y 0).val)
    (h1 : (i 1).val = (y 1).val) : b2 m hO c t y = m ((c : Thread nD τ).loc main_arg3) i :=
  congrArg (m ((c : Thread nD τ).loc main_arg3)) (pos2 m hO t y i h0 h1)
theorem b3_at (c : Dev nD) (t : Fin (cfgM m hO).N) (y : S16x1024.Idx) (i : S128x1024.Idx) (h0 : (i 0).val = 16 * t.val + (y 0).val)
    (h1 : (i 1).val = (y 1).val) : b3 m hO c t y = m ((c : Thread nD τ).loc main_arg4) i :=
  congrArg (m ((c : Thread nD τ).loc main_arg4)) (pos3 m hO t y i h0 h1)
theorem b4_at (c : Dev nD) (t : Fin (cfgM m hO).N) (y : S16x1024.Idx) (i : S128x1024.Idx) (h0 : (i 0).val = 16 * t.val + (y 0).val)
    (h1 : (i 1).val = (y 1).val) : b4 m hO c t y = m ((c : Thread nD τ).loc main_arg5) i :=
  congrArg (m ((c : Thread nD τ).loc main_arg5)) (pos4 m hO t y i h0 h1)

/-- The sum's block at a grid point. -/
abbrev sum (c : Dev nD) (t : Fin (cfgM m hO).N) : Vec Ideal S16x1024 .f32 := k0_pay4 (b0 m hO c t) (View.ld (b1 m hO c t) (Rect.unit ![0, 0, 0] ![1, 16, 1024] inb_S7x16x1024_S1x16x1024_0_0_0)) (View.ld (b1 m hO c t) (Rect.unit ![1, 0, 0] ![1, 16, 1024] inb_S7x16x1024_S1x16x1024_1_0_0)) (View.ld (b1 m hO c t) (Rect.unit ![2, 0, 0] ![1, 16, 1024] inb_S7x16x1024_S1x16x1024_2_0_0)) (View.ld (b1 m hO c t) (Rect.unit ![3, 0, 0] ![1, 16, 1024] inb_S7x16x1024_S1x16x1024_3_0_0)) (View.ld (b1 m hO c t) (Rect.unit ![4, 0, 0] ![1, 16, 1024] inb_S7x16x1024_S1x16x1024_4_0_0)) (View.ld (b1 m hO c t) (Rect.unit ![5, 0, 0] ![1, 16, 1024] inb_S7x16x1024_S1x16x1024_5_0_0)) (View.ld (b1 m hO c t) (Rect.unit ![6, 0, 0] ![1, 16, 1024] inb_S7x16x1024_S1x16x1024_6_0_0))

theorem ld_at (x : Vec Ideal S7x16x1024 .bf16) (k : Fin 7) (y : S16x1024.Idx) (h) :
    View.ld x (Rect.unit ![k.val, 0, 0] ![1, 16, 1024] h) (ix3 0 (y 0) (y 1)) = x (ix3 k (y 0) (y 1)) := by
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem sum_at (c : Dev nD) (t : Fin (cfgM m hO).N) (hk : num m < 8) (y : S16x1024.Idx) (i : S128x1024.Idx) (h0 : (i 0).val = 16 * t.val + (y 0).val)
    (h1 : (i 1).val = (y 1).val) : sum m hO c t y
      = grad ⟨num m, hk⟩ (m ((c : Thread nD τ).loc main_arg1)) (m ((c : Thread nD τ).loc main_arg2)) i := by
  have e1 : y 1 = i 1 := Fin.ext h1.symm
  have e : ∀ (k : Fin 7) (h), View.ld (b1 m hO c t) (Rect.unit ![k.val, 0, 0] ![1, 16, 1024] h) (ix3 0 (y 0) (y 1))
      = m ((c : Thread nD τ).loc main_arg2) (ix3 k (i 0) (i 1)) := fun k h => by
    refine (ld_at (b1 m hO c t) k y h).trans ?_
    rw [b1_at m hO c t _ (i 0) h0, ← e1]
    rfl
  rw [sum, pay4_at, b0_at m hO c t hk _ (i 0) h0]
  unfold grad
  rw [← e1] at e ⊢
  exact congrArg₂ _ (congrArg₂ _ (congrArg₂ _ (congrArg₂ _ (congrArg₂ _ (congrArg₂ _ (congrArg₂ _ rfl (e 0 _)) (e 1 _)) (e 2 _)) (e 3 _)) (e 4 _)) (e 5 _)) (e 6 _)

attribute [local irreducible] out0_A_5 out0_A_6 out0_A_7 out0_A_8 in
theorem outs5 (c : Dev nD) (t : Fin (cfgM m hO).N) : (outsAt0 m hO c t).1 = sum m hO c t := by
  exact outA5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs6 (c : Dev nD) (t : Fin (cfgM m hO).N) : (outsAt0 m hO c t).2.1 = k0_pay3 (sum m hO c t) (b2 m hO c t) (b3 m hO c t) (b4 m hO c t) := by
  exact outA6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs7 (c : Dev nD) (t : Fin (cfgM m hO).N) : (outsAt0 m hO c t).2.2.1 = k0_pay1 (sum m hO c t) (b3 m hO c t) := by
  exact outA7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)
attribute [local irreducible] out0_A_5 out0_A_6 out0_A_7 out0_A_8 in
theorem outs8 (c : Dev nD) (t : Fin (cfgM m hO).N) : (outsAt0 m hO c t).2.2.2 = k0_pay2 (sum m hO c t) (b4 m hO c t) := by
  exact outA8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (b0 m hO c t) (b1 m hO c t) (b2 m hO c t) (b3 m hO c t) (b4 m hO c t) (tbl m 0)

section finals

variable (c : Dev nD) (t : Fin (cfgM m hO).N) (hk : num m < 8) (y : S16x1024.Idx) (i : S128x1024.Idx)
  (h0 : (i 0).val = 16 * t.val + (y 0).val) (h1 : (i 1).val = (y 1).val)

include h0 h1

theorem out5 : (outsAt0 m hO c t).1 y = grad ⟨num m, hk⟩ (m ((c : Thread nD τ).loc main_arg1)) (m ((c : Thread nD τ).loc main_arg2)) i := by
  refine (congrFun (outs5 m hO c t) y).trans ?_
  exact sum_at m hO c t hk y i h0 h1

theorem out6 : (outsAt0 m hO c t).2.1 y = step (grad ⟨num m, hk⟩ (m ((c : Thread nD τ).loc main_arg1)) (m ((c : Thread nD τ).loc main_arg2)) i)
    (m ((c : Thread nD τ).loc main_arg3) i) (m ((c : Thread nD τ).loc main_arg4) i) (m ((c : Thread nD τ).loc main_arg5) i) := by
  refine (congrFun (outs6 m hO c t) y).trans ?_
  refine (pay3_at (sum m hO c t) (b2 m hO c t) (b3 m hO c t) (b4 m hO c t) y).trans ?_
  rw [sum_at m hO c t hk y i h0 h1, b2_at m hO c t y i h0 h1, b3_at m hO c t y i h0 h1, b4_at m hO c t y i h0 h1]

theorem out7 : (outsAt0 m hO c t).2.2.1 y = mom (grad ⟨num m, hk⟩ (m ((c : Thread nD τ).loc main_arg1)) (m ((c : Thread nD τ).loc main_arg2)) i)
    (m ((c : Thread nD τ).loc main_arg4) i) := by
  refine (congrFun (outs7 m hO c t) y).trans ?_
  refine (pay1_at (sum m hO c t) (b3 m hO c t) y).trans ?_
  rw [sum_at m hO c t hk y i h0 h1, b3_at m hO c t y i h0 h1]

theorem out8 : (outsAt0 m hO c t).2.2.2 y = vel (grad ⟨num m, hk⟩ (m ((c : Thread nD τ).loc main_arg1)) (m ((c : Thread nD τ).loc main_arg2)) i)
    (m ((c : Thread nD τ).loc main_arg5) i) := by
  refine (congrFun (outs8 m hO c t) y).trans ?_
  refine (pay2_at (sum m hO c t) (b4 m hO c t) y).trans ?_
  rw [sum_at m hO c t hk y i h0 h1, b4_at m hO c t y i h0 h1]

end finals

/-- The four results as functions of the arguments. -/
def G5 (hk : num m < 8) (c : Dev nD) (i : S128x1024.Idx) : EReal :=
  grad ⟨num m, hk⟩ (m ((c : Thread nD τ).loc main_arg1)) (m ((c : Thread nD τ).loc main_arg2)) i
def G6 (hk : num m < 8) (c : Dev nD) (i : S128x1024.Idx) : EReal :=
  step (G5 m hk c i) (m ((c : Thread nD τ).loc main_arg3) i) (m ((c : Thread nD τ).loc main_arg4) i) (m ((c : Thread nD τ).loc main_arg5) i)
def G7 (hk : num m < 8) (c : Dev nD) (i : S128x1024.Idx) : EReal := mom (G5 m hk c i) (m ((c : Thread nD τ).loc main_arg4) i)
def G8 (hk : num m < 8) (c : Dev nD) (i : S128x1024.Idx) : EReal := vel (G5 m hk c i) (m ((c : Thread nD τ).loc main_arg5) i)

theorem emb5 (t : Fin (cfgM m hO).N) (y : S16x1024.Idx) :
    ∃ i : S128x1024.Idx, (((cfgM m hO).win 5).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos5 m hO t y _ rfl rfl, rfl, rfl⟩

theorem final5 (c : Dev nD) (hk : num m < 8) : (dats m hO 0 c).arrAt 5 (cfgM m hO).N = G5 m hk c := by
  refine (dats m hO 0 c).arrAt_eq_of_emb 5 _ (fun t hf y => ?_) (cover5 m hO)
  obtain ⟨i, he, h0, h1⟩ := emb5 m hO t y
  refine ((congrFun (after0_5 m hO c t) y).trans ?_)
  exact (out5 m hO c t hk y i h0 h1).trans (congrArg (G5 m hk c) he).symm

theorem emb6 (t : Fin (cfgM m hO).N) (y : S16x1024.Idx) :
    ∃ i : S128x1024.Idx, (((cfgM m hO).win 6).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos6 m hO t y _ rfl rfl, rfl, rfl⟩

theorem final6 (c : Dev nD) (hk : num m < 8) : (dats m hO 0 c).arrAt 6 (cfgM m hO).N = G6 m hk c := by
  refine (dats m hO 0 c).arrAt_eq_of_emb 6 _ (fun t hf y => ?_) (cover6 m hO)
  obtain ⟨i, he, h0, h1⟩ := emb6 m hO t y
  refine ((congrFun (after0_6 m hO c t) y).trans ?_)
  exact (out6 m hO c t hk y i h0 h1).trans (congrArg (G6 m hk c) he).symm

theorem emb7 (t : Fin (cfgM m hO).N) (y : S16x1024.Idx) :
    ∃ i : S128x1024.Idx, (((cfgM m hO).win 7).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos7 m hO t y _ rfl rfl, rfl, rfl⟩

theorem final7 (c : Dev nD) (hk : num m < 8) : (dats m hO 0 c).arrAt 7 (cfgM m hO).N = G7 m hk c := by
  refine (dats m hO 0 c).arrAt_eq_of_emb 7 _ (fun t hf y => ?_) (cover7 m hO)
  obtain ⟨i, he, h0, h1⟩ := emb7 m hO t y
  refine ((congrFun (after0_7 m hO c t) y).trans ?_)
  exact (out7 m hO c t hk y i h0 h1).trans (congrArg (G7 m hk c) he).symm

theorem emb8 (t : Fin (cfgM m hO).N) (y : S16x1024.Idx) :
    ∃ i : S128x1024.Idx, (((cfgM m hO).win 8).blk t).view.emb y = i ∧ (i 0).val = 16 * t.val + (y 0).val ∧ (i 1).val = (y 1).val := by
  have ht : t.val < 8 := t.isLt
  have h0 : (y 0).val < 16 := (y 0).isLt
  exact ⟨ix2 ⟨16 * t.val + (y 0).val, by omega⟩ (y 1), pos8 m hO t y _ rfl rfl, rfl, rfl⟩

theorem final8 (c : Dev nD) (hk : num m < 8) : (dats m hO 0 c).arrAt 8 (cfgM m hO).N = G8 m hk c := by
  refine (dats m hO 0 c).arrAt_eq_of_emb 8 _ (fun t hf y => ?_) (cover8 m hO)
  obtain ⟨i, he, h0, h1⟩ := emb8 m hO t y
  refine ((congrFun (after0_8 m hO c t) y).trans ?_)
  exact (out8 m hO c t hk y i h0 h1).trans (congrArg (G8 m hk c) he).symm

section ref

open Cert.Reference13Ideal.Read

variable (x0 : IVec S1 32) (x1 : Vec Ideal S8x128x1024 .f32) (x2 : Vec Ideal S7x128x1024 .bf16) (x3 x4 x5 : Vec Ideal S128x1024 .f32)

theorem own_at (hk : (x0 (ix1 0)).toNat < 8) (i : S128x1024.Idx) :
    val_main_v6 (F := Ideal) x0 x1 i = x1 (ix3 ⟨(x0 (ix1 0)).toNat, hk⟩ (i 0) (i 1)) := by
  have e : val_main_v6 (F := Ideal) x0 x1 i = ∑ k : Fin 8, val_main_v5 (F := Ideal) x0 x1 (ix3 k (i 0) (i 1)) := by
    idx_vars i
    pointwise [val_main_v6, val_main_cst_0]
    done
  have hs : ∀ k : Fin 8, val_main_v5 (F := Ideal) x0 x1 (ix3 k (i 0) (i 1))
      = if (⟨(x0 (ix1 0)).toNat, hk⟩ : Fin 8) = k then x1 (ix3 k (i 0) (i 1)) else 0 := fun k => by
    have hz : val_main_call0_v2 (F := Ideal) (ix3 k (i 0) (i 1)) = 0 := by
      have hv : val_main_call0_v2 (F := Ideal) (ix3 k (i 0) (i 1)) = val_main_cst (F := Ideal) ix0 := rfl
      rw [hv]
      pointwise [val_main_cst]
      done
    have hc : val_main_call0_v1 (F := Ideal) x0 (ix3 k (i 0) (i 1)) = IntOp.cmpi .eq (BitVec.ofNat 32 k.val) (x0 (ix1 0)) :=
      congrArg (fun z => IntOp.cmpi .eq (BitVec.ofNat 32 k.val) (x0 z)) (ix_eq _ _)
    have hd : val_main_v5 (F := Ideal) x0 x1 (ix3 k (i 0) (i 1)) = if val_main_call0_v1 (F := Ideal) x0 (ix3 k (i 0) (i 1)) = 1#1
        then x1 (ix3 k (i 0) (i 1)) else val_main_call0_v2 (F := Ideal) (ix3 k (i 0) (i 1)) := rfl
    rw [hd, hz, hc]
    exact if_congr (word_eq _ hk k) rfl rfl
  rw [e, Finset.sum_congr rfl fun k _ => hs k, Finset.sum_ite_eq, if_pos (Finset.mem_univ _)]

theorem rg (hk : (x0 (ix1 0)).toNat < 8) (i : S128x1024.Idx) :
    val_main_v9 (F := Ideal) x0 x1 x2 i = grad ⟨(x0 (ix1 0)).toNat, hk⟩ x1 x2 i := by
  have e : val_main_v9 (F := Ideal) x0 x1 x2 i = val_main_v6 (F := Ideal) x0 x1 i + ∑ k : Fin 7, x2 (ix3 k (i 0) (i 1)) := by
    idx_vars i
    pointwise [val_main_v9, val_main_v8, val_main_v7, val_main_cst_1]
    done
  rw [e, own_at x0 x1 hk i, Fin.sum_univ_seven]
  unfold grad
  simp only [add_assoc]

theorem rm (i : S128x1024.Idx) : val_main_v14 (F := Ideal) x0 x1 x2 x4 i = mom (val_main_v9 (F := Ideal) x0 x1 x2 i) (x4 i) := rfl

theorem rv (i : S128x1024.Idx) : val_main_v20 (F := Ideal) x0 x1 x2 x5 i = vel (val_main_v9 (F := Ideal) x0 x1 x2 i) (x5 i) := rfl

theorem rd (i : S128x1024.Idx) : val_main_v33 (F := Ideal) x0 x1 x2 x3 x4 x5 i
    = step (val_main_v9 (F := Ideal) x0 x1 x2 i) (x3 i) (x4 i) (x5 i) := rfl

end ref

theorem algebraic : Cert.algebraic_Kernel13Ideal_Reference13Ideal := by
  intro m g m' g' hpre hag
  have hw : ∀ i : S1.Idx, ((m (((0 : Dev nD) : Thread nD τ).loc main_arg0) : IVec S1 32) i).toNat < 8 := num_lt _ _ _ _ _ _ (hpre 0)
  have hO : Ok m := ok_of m hw
  have hk : num m < 8 := hw (ix1 0)
  refine ⟨fun c => G5 m hk c, fun c => G6 m hk c, fun c => G7 m hk c, fun c => G8 m hk c, ?_, ?_⟩
  · refine (θ_run _ _ _).mono (fun _ h c => ?_) (θ_run_and (run_main m g hO) (unchanged m g hO))
    exact ⟨((h.1 c).1 5).trans (final5 m hO c hk), ((h.1 c).1 6).trans (final6 m hO c hk), ((h.1 c).1 7).trans (final7 m hO c hk),
      ((h.1 c).1 8).trans (final8 m hO c hk), h.2 c⟩
  · refine (θ_run _ _ _).mono (fun _ h c => ⟨(h c).1.trans ?_, (h c).2.1.trans ?_, (h c).2.2.1.trans ?_, (h c).2.2.2.1.trans ?_, (h c).2.2.2.2⟩)
      (Cert.Reference13Ideal.Value.run (F := Ideal) m' g')
    all_goals
      clear h
      obtain rfl : c = 0 := Subsingleton.elim _ _
      have a0 : m' (((0 : Dev Cert.Reference13Ideal.nD) : Thread Cert.Reference13Ideal.nD Cert.Reference13Ideal.τ).loc Cert.Reference13Ideal.main_arg0) = m (((0 : Dev nD) : Thread nD τ).loc main_arg0) := (hag 0).1
      have a1 : m' (((0 : Dev Cert.Reference13Ideal.nD) : Thread Cert.Reference13Ideal.nD Cert.Reference13Ideal.τ).loc Cert.Reference13Ideal.main_arg1) = m (((0 : Dev nD) : Thread nD τ).loc main_arg1) := (hag 0).2.1
      have a2 : m' (((0 : Dev Cert.Reference13Ideal.nD) : Thread Cert.Reference13Ideal.nD Cert.Reference13Ideal.τ).loc Cert.Reference13Ideal.main_arg2) = m (((0 : Dev nD) : Thread nD τ).loc main_arg2) := (hag 0).2.2.1
      have a3 : m' (((0 : Dev Cert.Reference13Ideal.nD) : Thread Cert.Reference13Ideal.nD Cert.Reference13Ideal.τ).loc Cert.Reference13Ideal.main_arg3) = m (((0 : Dev nD) : Thread nD τ).loc main_arg3) := (hag 0).2.2.2.1
      have a4 : m' (((0 : Dev Cert.Reference13Ideal.nD) : Thread Cert.Reference13Ideal.nD Cert.Reference13Ideal.τ).loc Cert.Reference13Ideal.main_arg4) = m (((0 : Dev nD) : Thread nD τ).loc main_arg4) := (hag 0).2.2.2.2.1
      have a5 : m' (((0 : Dev Cert.Reference13Ideal.nD) : Thread Cert.Reference13Ideal.nD Cert.Reference13Ideal.τ).loc Cert.Reference13Ideal.main_arg5) = m (((0 : Dev nD) : Thread nD τ).loc main_arg5) := (hag 0).2.2.2.2.2
    · rw [Cert.Reference13Ideal.Read.val_main_v9_eq, a0, a1, a2]
      exact funext fun i => rg _ _ _ hk i
    · rw [Cert.Reference13Ideal.Read.val_main_v33_eq, a0, a1, a2, a3, a4, a5]
      exact funext fun i => (rd _ _ _ _ _ _ i).trans (by rw [rg _ _ _ hk i]; rfl)
    · rw [Cert.Reference13Ideal.Read.val_main_v14_eq, a0, a1, a2, a4]
      exact funext fun i => (rm _ _ _ _ i).trans (by rw [rg _ _ _ hk i]; rfl)
    · rw [Cert.Reference13Ideal.Read.val_main_v20_eq, a0, a1, a2, a5]
      exact funext fun i => (rv _ _ _ _ i).trans (by rw [rg _ _ _ hk i]; rfl)

end Cert.K13

end
-- ==== Proof.K14.lean ====
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.Adam
public import Idealize.ShloMosaic.Lib.Pointwise
public import Idealize.ShloMosaic.Lib.Pipeline.ValueKit

@[expose] public section

noncomputable section

namespace Cert.K14

open Cert.Kernel14Ideal Cert.Kernel14Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The sum over the eight devices of the gradient's own rows. -/
def grad (x1 : Vec Ideal S8x8x128 .f32) (i : S8x128.Idx) : EReal :=
  x1 (ix3 0 (i 0) (i 1)) + x1 (ix3 1 (i 0) (i 1)) + x1 (ix3 2 (i 0) (i 1)) + x1 (ix3 3 (i 0) (i 1))
    + x1 (ix3 4 (i 0) (i 1)) + x1 (ix3 5 (i 0) (i 1)) + x1 (ix3 6 (i 0) (i 1)) + x1 (ix3 7 (i 0) (i 1))

section body

variable (x0 : Vec Ideal S8x568x128 .f32) (x1 : Vec Ideal S8x8x128 .f32) (x2 x3 x4 : Vec Ideal S8x128 .f32)

theorem out5_at (j : S8x128.Idx) : out0_5 x0 x1 x2 x3 x4 j = grad x1 j := by
  idx_vars j
  unfold out0_5 grad
  frame_out
  pointwise [k0_pay12, k0_pay11, k0_pay10, k0_pay9, k0_pay8, k0_pay7, k0_pay6, k0_pay5, k0_pay4, k0_pay3, k0_pay2, k0_pay1]

theorem out7_at (j : S8x128.Idx) : out0_7 x0 x1 x2 x3 x4 j = mom (grad x1 j) (x3 j) := by
  idx_vars j
  unfold out0_7 mom grad
  frame_out
  pointwise [k0_pay12, k0_pay11, k0_pay10, k0_pay9, k0_pay8, k0_pay7, k0_pay6, k0_pay5, k0_pay4, k0_pay3, k0_pay2, k0_pay1]

theorem out8_at (j : S8x128.Idx) : out0_8 x0 x1 x2 x3 x4 j = vel (grad x1 j) (x4 j) := by
  idx_vars j
  unfold out0_8 vel grad
  frame_out
  pointwise [k0_pay12, k0_pay11, k0_pay10, k0_pay9, k0_pay8, k0_pay7, k0_pay6, k0_pay5, k0_pay4, k0_pay3, k0_pay2, k0_pay1]

theorem out6_at (j : S8x128.Idx) : out0_6 x0 x1 x2 x3 x4 j = step (grad x1 j) (x2 j) (x3 j) (x4 j) := by
  idx_vars j
  unfold out0_6 step mom vel grad
  frame_out
  pointwise [k0_pay12, k0_pay11, k0_pay10, k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay12, k0_pay11, k0_pay10, k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S8x128 .f32 := fun i => grad (m ((c : Thread nD τ).loc main_arg1)) i
def G6 (c : Dev nD) : Vec Ideal S8x128 .f32 := fun i => step (grad (m ((c : Thread nD τ).loc main_arg1)) i) ((m ((c : Thread nD τ).loc main_arg2)) i) ((m ((c : Thread nD τ).loc main_arg3)) i) ((m ((c : Thread nD τ).loc main_arg4)) i)
def G7 (c : Dev nD) : Vec Ideal S8x128 .f32 := fun i => mom (grad (m ((c : Thread nD τ).loc main_arg1)) i) ((m ((c : Thread nD τ).loc main_arg3)) i)
def G8 (c : Dev nD) : Vec Ideal S8x128 .f32 := fun i => vel (grad (m ((c : Thread nD τ).loc main_arg1)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S8x128 .f32) = (m ((c : Thread nD τ).loc main_arg2)) := by
  funext y
  blk_point [iblk, V, e2]

theorem b3_eq (c : Dev nD) (t : Fin cfg0.N) : (iblk m c 3 t : Vec Ideal S8x128 .f32) = (m ((c : Thread nD τ).loc main_arg3)) := by
  funext y
  blk_point [iblk, V, e3]

theorem b4_eq (c : Dev nD) (t : Fin cfg0.N) : (iblk m c 4 t : Vec Ideal S8x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference14Ideal.Read

variable (x0 : Vec Ideal S8x568x128 .f32) (x1 : Vec Ideal S8x8x128 .f32) (x2 x3 x4 : Vec Ideal S8x128 .f32)

theorem rg (i : S8x128.Idx) : val_main_v1 (F := Ideal) x1 i = grad x1 i := by
  idx_vars i
  unfold grad
  pointwise [val_main_v1, val_main_cst_0, val_main_v0, val_main_cst]
  rw [Fin.sum_univ_eight]

theorem rl (i : S1x1.Idx) : val_main_v2 (F := Ideal) x0 i = total x0 560 16 := by
  idx_vars i
  unfold total
  pointwise [val_main_v2, val_main_v1, val_main_cst_0, val_main_v0, val_main_cst]
  rw [Fin.sum_univ_eight]

theorem rm (i : S8x128.Idx) : val_main_v7 (F := Ideal) x1 x3 i = mom (val_main_v1 (F := Ideal) x1 i) (x3 i) := rfl

theorem rv (i : S8x128.Idx) : val_main_v13 (F := Ideal) x1 x4 i = vel (val_main_v1 (F := Ideal) x1 i) (x4 i) := rfl

theorem rd (i : S8x128.Idx) : val_main_v26 (F := Ideal) x1 x2 x3 x4 i = step (val_main_v1 (F := Ideal) x1 i) (x2 i) (x3 i) (x4 i) := rfl

end ref

theorem frame_ri : Cert.quiescent_Reference14Ideal := fun m ρ _ =>
  (θ_run Cert.Reference14Ideal.defs _ _).mono (fun r h => ⟨fun c => (h c).2.2.2.2.2,
      Idealize.ShloMosaic.sem_eq_zero_of_no_sems (by decide) r.2⟩)
    (Cert.Reference14Ideal.Value.run (F := Ideal) m ρ)

theorem algebraic : Cert.algebraic_Kernel14Ideal_Reference14Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference14Ideal.Value.run (F := Ideal) m' g')
    all_goals
      clear h
      obtain rfl : c = 0 := Subsingleton.elim _ _
      have a0 : m' (((0 : Dev Cert.Reference14Ideal.nD) : Thread Cert.Reference14Ideal.nD Cert.Reference14Ideal.τ).loc Cert.Reference14Ideal.main_arg0) = m (((0 : Dev nD) : Thread nD τ).loc main_arg0) := (hag 0).1
      have a1 : m' (((0 : Dev Cert.Reference14Ideal.nD) : Thread Cert.Reference14Ideal.nD Cert.Reference14Ideal.τ).loc Cert.Reference14Ideal.main_arg1) = m (((0 : Dev nD) : Thread nD τ).loc main_arg1) := (hag 0).2.1
      have a2 : m' (((0 : Dev Cert.Reference14Ideal.nD) : Thread Cert.Reference14Ideal.nD Cert.Reference14Ideal.τ).loc Cert.Reference14Ideal.main_arg2) = m (((0 : Dev nD) : Thread nD τ).loc main_arg2) := (hag 0).2.2.1
      have a3 : m' (((0 : Dev Cert.Reference14Ideal.nD) : Thread Cert.Reference14Ideal.nD Cert.Reference14Ideal.τ).loc Cert.Reference14Ideal.main_arg3) = m (((0 : Dev nD) : Thread nD τ).loc main_arg3) := (hag 0).2.2.2.1
      have a4 : m' (((0 : Dev Cert.Reference14Ideal.nD) : Thread Cert.Reference14Ideal.nD Cert.Reference14Ideal.τ).loc Cert.Reference14Ideal.main_arg4) = m (((0 : Dev nD) : Thread nD τ).loc main_arg4) := (hag 0).2.2.2.2
    · rw [Cert.Reference14Ideal.Read.val_main_v2_eq, a0]
      exact funext fun i => rl _ i
    · rw [Cert.Reference14Ideal.Read.val_main_v1_eq, a1]
      exact funext fun i => rg _ i
    · rw [Cert.Reference14Ideal.Read.val_main_v26_eq, a1, a2, a3, a4]
      exact funext fun i => (rd _ _ _ _ i).trans (by rw [rg]; rfl)
    · rw [Cert.Reference14Ideal.Read.val_main_v7_eq, a1, a3]
      exact funext fun i => (rm _ _ i).trans (by rw [rg]; rfl)
    · rw [Cert.Reference14Ideal.Read.val_main_v13_eq, a1, a4]
      exact funext fun i => (rv _ _ i).trans (by rw [rg]; rfl)

end Cert.K14

end
-- ==== Proof.K15.lean ====
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import proofs.«01_k».proof.Proof.Adam
public import Idealize.ShloMosaic.Lib.Pointwise
public import Idealize.ShloMosaic.Lib.Pipeline.ValueKit

@[expose] public section

noncomputable section

namespace Cert.K15

open Cert.Kernel15Ideal Cert.Kernel15Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 8 on. -/
def grad (x0 : Vec Ideal S8x568x128 .f32) (i : S8x128.Idx) : EReal :=
  total x0 ⟨8 + (i 0).val, by have h : (i 0).val < 8 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S8x128 .f32)

theorem out5_at (j : S8x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S8x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S8x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S8x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S8x128 .f32 := fun i => grad (m ((c : Thread nD τ).loc main_arg0)) i
def G6 (c : Dev nD) : Vec Ideal S8x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S8x128 .f32 := fun i => mom (grad (m ((c : Thread nD τ).loc main_arg0)) i) ((m ((c : Thread nD τ).loc main_arg3)) i)
def G8 (c : Dev nD) : Vec Ideal S8x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S8x128 .f32) = (m ((c : Thread nD τ).loc main_arg2)) := by
  funext y
  blk_point [iblk, V, e2]

theorem b3_eq (c : Dev nD) (t : Fin cfg0.N) : (iblk m c 3 t : Vec Ideal S8x128 .f32) = (m ((c : Thread nD τ).loc main_arg3)) := by
  funext y
  blk_point [iblk, V, e3]

theorem b4_eq (c : Dev nD) (t : Fin cfg0.N) : (iblk m c 4 t : Vec Ideal S8x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference15Ideal.Read

variable (x0 : Vec Ideal S8x568x128 .f32) (x1 : Vec Ideal S8x8x128 .f32) (x2 x3 x4 : Vec Ideal S8x128 .f32)

theorem rg (i : S8x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S8x128.Idx) : val_main_v7 (F := Ideal) x0 x3 i = mom (val_main_v1 (F := Ideal) x0 i) (x3 i) := rfl

theorem rv (i : S8x128.Idx) : val_main_v13 (F := Ideal) x0 x4 i = vel (val_main_v1 (F := Ideal) x0 i) (x4 i) := rfl

theorem rd (i : S8x128.Idx) : val_main_v26 (F := Ideal) x0 x2 x3 x4 i = step (val_main_v1 (F := Ideal) x0 i) (x2 i) (x3 i) (x4 i) := rfl

end ref

theorem frame_ri : Cert.quiescent_Reference15Ideal := fun m ρ _ =>
  (θ_run Cert.Reference15Ideal.defs _ _).mono (fun r h => ⟨fun c => (h c).2.2.2.2.2,
      Idealize.ShloMosaic.sem_eq_zero_of_no_sems (by decide) r.2⟩)
    (Cert.Reference15Ideal.Value.run (F := Ideal) m ρ)

theorem algebraic : Cert.algebraic_Kernel15Ideal_Reference15Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference15Ideal.Value.run (F := Ideal) m' g')
    all_goals
      clear h
      obtain rfl : c = 0 := Subsingleton.elim _ _
      have a0 : m' (((0 : Dev Cert.Reference15Ideal.nD) : Thread Cert.Reference15Ideal.nD Cert.Reference15Ideal.τ).loc Cert.Reference15Ideal.main_arg0) = m (((0 : Dev nD) : Thread nD τ).loc main_arg0) := (hag 0).1
      have a1 : m' (((0 : Dev Cert.Reference15Ideal.nD) : Thread Cert.Reference15Ideal.nD Cert.Reference15Ideal.τ).loc Cert.Reference15Ideal.main_arg1) = m (((0 : Dev nD) : Thread nD τ).loc main_arg1) := (hag 0).2.1
      have a2 : m' (((0 : Dev Cert.Reference15Ideal.nD) : Thread Cert.Reference15Ideal.nD Cert.Reference15Ideal.τ).loc Cert.Reference15Ideal.main_arg2) = m (((0 : Dev nD) : Thread nD τ).loc main_arg2) := (hag 0).2.2.1
      have a3 : m' (((0 : Dev Cert.Reference15Ideal.nD) : Thread Cert.Reference15Ideal.nD Cert.Reference15Ideal.τ).loc Cert.Reference15Ideal.main_arg3) = m (((0 : Dev nD) : Thread nD τ).loc main_arg3) := (hag 0).2.2.2.1
      have a4 : m' (((0 : Dev Cert.Reference15Ideal.nD) : Thread Cert.Reference15Ideal.nD Cert.Reference15Ideal.τ).loc Cert.Reference15Ideal.main_arg4) = m (((0 : Dev nD) : Thread nD τ).loc main_arg4) := (hag 0).2.2.2.2
    · rw [Cert.Reference15Ideal.Read.val_main_v2_eq, a0]
      exact funext fun i => rl _ i
    · rw [Cert.Reference15Ideal.Read.val_main_v1_eq, a0]
      exact funext fun i => rg _ i
    · rw [Cert.Reference15Ideal.Read.val_main_v26_eq, a0, a2, a3, a4]
      exact funext fun i => (rd _ _ _ _ i).trans (by rw [rg]; rfl)
    · rw [Cert.Reference15Ideal.Read.val_main_v7_eq, a0, a3]
      exact funext fun i => (rm _ _ i).trans (by rw [rg]; rfl)
    · rw [Cert.Reference15Ideal.Read.val_main_v13_eq, a0, a4]
      exact funext fun i => (rv _ _ i).trans (by rw [rg]; rfl)

end Cert.K15

end
-- ==== Proof.K16.lean ====
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import proofs.«01_k».proof.Proof.Adam
public import Idealize.ShloMosaic.Lib.Pointwise
public import Idealize.ShloMosaic.Lib.Pipeline.ValueKit

@[expose] public section

noncomputable section

namespace Cert.K16

open Cert.Kernel16Ideal Cert.Kernel16Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 16 on. -/
def grad (x0 : Vec Ideal S8x568x128 .f32) (i : S8x128.Idx) : EReal :=
  total x0 ⟨16 + (i 0).val, by have h : (i 0).val < 8 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S8x128 .f32)

theorem out5_at (j : S8x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S8x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S8x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S8x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S8x128 .f32 := fun i => grad (m ((c : Thread nD τ).loc main_arg0)) i
def G6 (c : Dev nD) : Vec Ideal S8x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S8x128 .f32 := fun i => mom (grad (m ((c : Thread nD τ).loc main_arg0)) i) ((m ((c : Thread nD τ).loc main_arg3)) i)
def G8 (c : Dev nD) : Vec Ideal S8x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S8x128 .f32) = (m ((c : Thread nD τ).loc main_arg2)) := by
  funext y
  blk_point [iblk, V, e2]

theorem b3_eq (c : Dev nD) (t : Fin cfg0.N) : (iblk m c 3 t : Vec Ideal S8x128 .f32) = (m ((c : Thread nD τ).loc main_arg3)) := by
  funext y
  blk_point [iblk, V, e3]

theorem b4_eq (c : Dev nD) (t : Fin cfg0.N) : (iblk m c 4 t : Vec Ideal S8x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference16Ideal.Read

variable (x0 : Vec Ideal S8x568x128 .f32) (x1 : Vec Ideal S8x8x128 .f32) (x2 x3 x4 : Vec Ideal S8x128 .f32)

theorem rg (i : S8x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S8x128.Idx) : val_main_v7 (F := Ideal) x0 x3 i = mom (val_main_v1 (F := Ideal) x0 i) (x3 i) := rfl

theorem rv (i : S8x128.Idx) : val_main_v13 (F := Ideal) x0 x4 i = vel (val_main_v1 (F := Ideal) x0 i) (x4 i) := rfl

theorem rd (i : S8x128.Idx) : val_main_v26 (F := Ideal) x0 x2 x3 x4 i = step (val_main_v1 (F := Ideal) x0 i) (x2 i) (x3 i) (x4 i) := rfl

end ref

theorem frame_ri : Cert.quiescent_Reference16Ideal := fun m ρ _ =>
  (θ_run Cert.Reference16Ideal.defs _ _).mono (fun r h => ⟨fun c => (h c).2.2.2.2.2,
      Idealize.ShloMosaic.sem_eq_zero_of_no_sems (by decide) r.2⟩)
    (Cert.Reference16Ideal.Value.run (F := Ideal) m ρ)

theorem algebraic : Cert.algebraic_Kernel16Ideal_Reference16Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference16Ideal.Value.run (F := Ideal) m' g')
    all_goals
      clear h
      obtain rfl : c = 0 := Subsingleton.elim _ _
      have a0 : m' (((0 : Dev Cert.Reference16Ideal.nD) : Thread Cert.Reference16Ideal.nD Cert.Reference16Ideal.τ).loc Cert.Reference16Ideal.main_arg0) = m (((0 : Dev nD) : Thread nD τ).loc main_arg0) := (hag 0).1
      have a1 : m' (((0 : Dev Cert.Reference16Ideal.nD) : Thread Cert.Reference16Ideal.nD Cert.Reference16Ideal.τ).loc Cert.Reference16Ideal.main_arg1) = m (((0 : Dev nD) : Thread nD τ).loc main_arg1) := (hag 0).2.1
      have a2 : m' (((0 : Dev Cert.Reference16Ideal.nD) : Thread Cert.Reference16Ideal.nD Cert.Reference16Ideal.τ).loc Cert.Reference16Ideal.main_arg2) = m (((0 : Dev nD) : Thread nD τ).loc main_arg2) := (hag 0).2.2.1
      have a3 : m' (((0 : Dev Cert.Reference16Ideal.nD) : Thread Cert.Reference16Ideal.nD Cert.Reference16Ideal.τ).loc Cert.Reference16Ideal.main_arg3) = m (((0 : Dev nD) : Thread nD τ).loc main_arg3) := (hag 0).2.2.2.1
      have a4 : m' (((0 : Dev Cert.Reference16Ideal.nD) : Thread Cert.Reference16Ideal.nD Cert.Reference16Ideal.τ).loc Cert.Reference16Ideal.main_arg4) = m (((0 : Dev nD) : Thread nD τ).loc main_arg4) := (hag 0).2.2.2.2
    · rw [Cert.Reference16Ideal.Read.val_main_v2_eq, a0]
      exact funext fun i => rl _ i
    · rw [Cert.Reference16Ideal.Read.val_main_v1_eq, a0]
      exact funext fun i => rg _ i
    · rw [Cert.Reference16Ideal.Read.val_main_v26_eq, a0, a2, a3, a4]
      exact funext fun i => (rd _ _ _ _ i).trans (by rw [rg]; rfl)
    · rw [Cert.Reference16Ideal.Read.val_main_v7_eq, a0, a3]
      exact funext fun i => (rm _ _ i).trans (by rw [rg]; rfl)
    · rw [Cert.Reference16Ideal.Read.val_main_v13_eq, a0, a4]
      exact funext fun i => (rv _ _ i).trans (by rw [rg]; rfl)

end Cert.K16

end
-- ==== Proof.K17.lean ====
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import proofs.«01_k».proof.Proof.Adam
public import Idealize.ShloMosaic.Lib.Pointwise
public import Idealize.ShloMosaic.Lib.Pipeline.ValueKit

@[expose] public section

noncomputable section

namespace Cert.K17

open Cert.Kernel17Ideal Cert.Kernel17Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 24 on. -/
def grad (x0 : Vec Ideal S8x568x128 .f32) (i : S8x128.Idx) : EReal :=
  total x0 ⟨24 + (i 0).val, by have h : (i 0).val < 8 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S8x128 .f32)

theorem out5_at (j : S8x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S8x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S8x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S8x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S8x128 .f32 := fun i => grad (m ((c : Thread nD τ).loc main_arg0)) i
def G6 (c : Dev nD) : Vec Ideal S8x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S8x128 .f32 := fun i => mom (grad (m ((c : Thread nD τ).loc main_arg0)) i) ((m ((c : Thread nD τ).loc main_arg3)) i)
def G8 (c : Dev nD) : Vec Ideal S8x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S8x128 .f32) = (m ((c : Thread nD τ).loc main_arg2)) := by
  funext y
  blk_point [iblk, V, e2]

theorem b3_eq (c : Dev nD) (t : Fin cfg0.N) : (iblk m c 3 t : Vec Ideal S8x128 .f32) = (m ((c : Thread nD τ).loc main_arg3)) := by
  funext y
  blk_point [iblk, V, e3]

theorem b4_eq (c : Dev nD) (t : Fin cfg0.N) : (iblk m c 4 t : Vec Ideal S8x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference17Ideal.Read

variable (x0 : Vec Ideal S8x568x128 .f32) (x1 : Vec Ideal S8x8x128 .f32) (x2 x3 x4 : Vec Ideal S8x128 .f32)

theorem rg (i : S8x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S8x128.Idx) : val_main_v7 (F := Ideal) x0 x3 i = mom (val_main_v1 (F := Ideal) x0 i) (x3 i) := rfl

theorem rv (i : S8x128.Idx) : val_main_v13 (F := Ideal) x0 x4 i = vel (val_main_v1 (F := Ideal) x0 i) (x4 i) := rfl

theorem rd (i : S8x128.Idx) : val_main_v26 (F := Ideal) x0 x2 x3 x4 i = step (val_main_v1 (F := Ideal) x0 i) (x2 i) (x3 i) (x4 i) := rfl

end ref

theorem frame_ri : Cert.quiescent_Reference17Ideal := fun m ρ _ =>
  (θ_run Cert.Reference17Ideal.defs _ _).mono (fun r h => ⟨fun c => (h c).2.2.2.2.2,
      Idealize.ShloMosaic.sem_eq_zero_of_no_sems (by decide) r.2⟩)
    (Cert.Reference17Ideal.Value.run (F := Ideal) m ρ)

theorem algebraic : Cert.algebraic_Kernel17Ideal_Reference17Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference17Ideal.Value.run (F := Ideal) m' g')
    all_goals
      clear h
      obtain rfl : c = 0 := Subsingleton.elim _ _
      have a0 : m' (((0 : Dev Cert.Reference17Ideal.nD) : Thread Cert.Reference17Ideal.nD Cert.Reference17Ideal.τ).loc Cert.Reference17Ideal.main_arg0) = m (((0 : Dev nD) : Thread nD τ).loc main_arg0) := (hag 0).1
      have a1 : m' (((0 : Dev Cert.Reference17Ideal.nD) : Thread Cert.Reference17Ideal.nD Cert.Reference17Ideal.τ).loc Cert.Reference17Ideal.main_arg1) = m (((0 : Dev nD) : Thread nD τ).loc main_arg1) := (hag 0).2.1
      have a2 : m' (((0 : Dev Cert.Reference17Ideal.nD) : Thread Cert.Reference17Ideal.nD Cert.Reference17Ideal.τ).loc Cert.Reference17Ideal.main_arg2) = m (((0 : Dev nD) : Thread nD τ).loc main_arg2) := (hag 0).2.2.1
      have a3 : m' (((0 : Dev Cert.Reference17Ideal.nD) : Thread Cert.Reference17Ideal.nD Cert.Reference17Ideal.τ).loc Cert.Reference17Ideal.main_arg3) = m (((0 : Dev nD) : Thread nD τ).loc main_arg3) := (hag 0).2.2.2.1
      have a4 : m' (((0 : Dev Cert.Reference17Ideal.nD) : Thread Cert.Reference17Ideal.nD Cert.Reference17Ideal.τ).loc Cert.Reference17Ideal.main_arg4) = m (((0 : Dev nD) : Thread nD τ).loc main_arg4) := (hag 0).2.2.2.2
    · rw [Cert.Reference17Ideal.Read.val_main_v2_eq, a0]
      exact funext fun i => rl _ i
    · rw [Cert.Reference17Ideal.Read.val_main_v1_eq, a0]
      exact funext fun i => rg _ i
    · rw [Cert.Reference17Ideal.Read.val_main_v26_eq, a0, a2, a3, a4]
      exact funext fun i => (rd _ _ _ _ i).trans (by rw [rg]; rfl)
    · rw [Cert.Reference17Ideal.Read.val_main_v7_eq, a0, a3]
      exact funext fun i => (rm _ _ i).trans (by rw [rg]; rfl)
    · rw [Cert.Reference17Ideal.Read.val_main_v13_eq, a0, a4]
      exact funext fun i => (rv _ _ i).trans (by rw [rg]; rfl)

end Cert.K17

end
-- ==== Proof.K18.lean ====
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import proofs.«01_k».proof.Proof.Adam
public import Idealize.ShloMosaic.Lib.Pointwise
public import Idealize.ShloMosaic.Lib.Pipeline.ValueKit

@[expose] public section

noncomputable section

namespace Cert.K18

open Cert.Kernel18Ideal Cert.Kernel18Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 32 on. -/
def grad (x0 : Vec Ideal S8x568x128 .f32) (i : S8x128.Idx) : EReal :=
  total x0 ⟨32 + (i 0).val, by have h : (i 0).val < 8 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S8x128 .f32)

theorem out5_at (j : S8x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S8x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S8x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S8x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S8x128 .f32 := fun i => grad (m ((c : Thread nD τ).loc main_arg0)) i
def G6 (c : Dev nD) : Vec Ideal S8x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S8x128 .f32 := fun i => mom (grad (m ((c : Thread nD τ).loc main_arg0)) i) ((m ((c : Thread nD τ).loc main_arg3)) i)
def G8 (c : Dev nD) : Vec Ideal S8x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S8x128 .f32) = (m ((c : Thread nD τ).loc main_arg2)) := by
  funext y
  blk_point [iblk, V, e2]

theorem b3_eq (c : Dev nD) (t : Fin cfg0.N) : (iblk m c 3 t : Vec Ideal S8x128 .f32) = (m ((c : Thread nD τ).loc main_arg3)) := by
  funext y
  blk_point [iblk, V, e3]

theorem b4_eq (c : Dev nD) (t : Fin cfg0.N) : (iblk m c 4 t : Vec Ideal S8x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference18Ideal.Read

variable (x0 : Vec Ideal S8x568x128 .f32) (x1 : Vec Ideal S8x8x128 .f32) (x2 x3 x4 : Vec Ideal S8x128 .f32)

theorem rg (i : S8x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S8x128.Idx) : val_main_v7 (F := Ideal) x0 x3 i = mom (val_main_v1 (F := Ideal) x0 i) (x3 i) := rfl

theorem rv (i : S8x128.Idx) : val_main_v13 (F := Ideal) x0 x4 i = vel (val_main_v1 (F := Ideal) x0 i) (x4 i) := rfl

theorem rd (i : S8x128.Idx) : val_main_v26 (F := Ideal) x0 x2 x3 x4 i = step (val_main_v1 (F := Ideal) x0 i) (x2 i) (x3 i) (x4 i) := rfl

end ref

theorem frame_ri : Cert.quiescent_Reference18Ideal := fun m ρ _ =>
  (θ_run Cert.Reference18Ideal.defs _ _).mono (fun r h => ⟨fun c => (h c).2.2.2.2.2,
      Idealize.ShloMosaic.sem_eq_zero_of_no_sems (by decide) r.2⟩)
    (Cert.Reference18Ideal.Value.run (F := Ideal) m ρ)

theorem algebraic : Cert.algebraic_Kernel18Ideal_Reference18Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference18Ideal.Value.run (F := Ideal) m' g')
    all_goals
      clear h
      obtain rfl : c = 0 := Subsingleton.elim _ _
      have a0 : m' (((0 : Dev Cert.Reference18Ideal.nD) : Thread Cert.Reference18Ideal.nD Cert.Reference18Ideal.τ).loc Cert.Reference18Ideal.main_arg0) = m (((0 : Dev nD) : Thread nD τ).loc main_arg0) := (hag 0).1
      have a1 : m' (((0 : Dev Cert.Reference18Ideal.nD) : Thread Cert.Reference18Ideal.nD Cert.Reference18Ideal.τ).loc Cert.Reference18Ideal.main_arg1) = m (((0 : Dev nD) : Thread nD τ).loc main_arg1) := (hag 0).2.1
      have a2 : m' (((0 : Dev Cert.Reference18Ideal.nD) : Thread Cert.Reference18Ideal.nD Cert.Reference18Ideal.τ).loc Cert.Reference18Ideal.main_arg2) = m (((0 : Dev nD) : Thread nD τ).loc main_arg2) := (hag 0).2.2.1
      have a3 : m' (((0 : Dev Cert.Reference18Ideal.nD) : Thread Cert.Reference18Ideal.nD Cert.Reference18Ideal.τ).loc Cert.Reference18Ideal.main_arg3) = m (((0 : Dev nD) : Thread nD τ).loc main_arg3) := (hag 0).2.2.2.1
      have a4 : m' (((0 : Dev Cert.Reference18Ideal.nD) : Thread Cert.Reference18Ideal.nD Cert.Reference18Ideal.τ).loc Cert.Reference18Ideal.main_arg4) = m (((0 : Dev nD) : Thread nD τ).loc main_arg4) := (hag 0).2.2.2.2
    · rw [Cert.Reference18Ideal.Read.val_main_v2_eq, a0]
      exact funext fun i => rl _ i
    · rw [Cert.Reference18Ideal.Read.val_main_v1_eq, a0]
      exact funext fun i => rg _ i
    · rw [Cert.Reference18Ideal.Read.val_main_v26_eq, a0, a2, a3, a4]
      exact funext fun i => (rd _ _ _ _ i).trans (by rw [rg]; rfl)
    · rw [Cert.Reference18Ideal.Read.val_main_v7_eq, a0, a3]
      exact funext fun i => (rm _ _ i).trans (by rw [rg]; rfl)
    · rw [Cert.Reference18Ideal.Read.val_main_v13_eq, a0, a4]
      exact funext fun i => (rv _ _ i).trans (by rw [rg]; rfl)

end Cert.K18

end
-- ==== Proof.K19.lean ====
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import proofs.«01_k».proof.Proof.Adam
public import Idealize.ShloMosaic.Lib.Pointwise
public import Idealize.ShloMosaic.Lib.Pipeline.ValueKit

@[expose] public section

noncomputable section

namespace Cert.K19

open Cert.Kernel19Ideal Cert.Kernel19Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 40 on. -/
def grad (x0 : Vec Ideal S8x568x128 .f32) (i : S512x128.Idx) : EReal :=
  total x0 ⟨40 + (i 0).val, by have h : (i 0).val < 512 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S512x128 .f32)

theorem out5_at (j : S512x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S512x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S512x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S512x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S512x128 .f32 := fun i => grad (m ((c : Thread nD τ).loc main_arg0)) i
def G6 (c : Dev nD) : Vec Ideal S512x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S512x128 .f32 := fun i => mom (grad (m ((c : Thread nD τ).loc main_arg0)) i) ((m ((c : Thread nD τ).loc main_arg3)) i)
def G8 (c : Dev nD) : Vec Ideal S512x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S512x128 .f32) = (m ((c : Thread nD τ).loc main_arg2)) := by
  funext y
  blk_point [iblk, V, e2]

theorem b3_eq (c : Dev nD) (t : Fin cfg0.N) : (iblk m c 3 t : Vec Ideal S512x128 .f32) = (m ((c : Thread nD τ).loc main_arg3)) := by
  funext y
  blk_point [iblk, V, e3]

theorem b4_eq (c : Dev nD) (t : Fin cfg0.N) : (iblk m c 4 t : Vec Ideal S512x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference19Ideal.Read

variable (x0 : Vec Ideal S8x568x128 .f32) (x1 : Vec Ideal S8x8x128 .f32) (x2 x3 x4 : Vec Ideal S512x128 .f32)

theorem rg (i : S512x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S512x128.Idx) : val_main_v7 (F := Ideal) x0 x3 i = mom (val_main_v1 (F := Ideal) x0 i) (x3 i) := rfl

theorem rv (i : S512x128.Idx) : val_main_v13 (F := Ideal) x0 x4 i = vel (val_main_v1 (F := Ideal) x0 i) (x4 i) := rfl

theorem rd (i : S512x128.Idx) : val_main_v26 (F := Ideal) x0 x2 x3 x4 i = step (val_main_v1 (F := Ideal) x0 i) (x2 i) (x3 i) (x4 i) := rfl

end ref

theorem frame_ri : Cert.quiescent_Reference19Ideal := fun m ρ _ =>
  (θ_run Cert.Reference19Ideal.defs _ _).mono (fun r h => ⟨fun c => (h c).2.2.2.2.2,
      Idealize.ShloMosaic.sem_eq_zero_of_no_sems (by decide) r.2⟩)
    (Cert.Reference19Ideal.Value.run (F := Ideal) m ρ)

theorem algebraic : Cert.algebraic_Kernel19Ideal_Reference19Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference19Ideal.Value.run (F := Ideal) m' g')
    all_goals
      clear h
      obtain rfl : c = 0 := Subsingleton.elim _ _
      have a0 : m' (((0 : Dev Cert.Reference19Ideal.nD) : Thread Cert.Reference19Ideal.nD Cert.Reference19Ideal.τ).loc Cert.Reference19Ideal.main_arg0) = m (((0 : Dev nD) : Thread nD τ).loc main_arg0) := (hag 0).1
      have a1 : m' (((0 : Dev Cert.Reference19Ideal.nD) : Thread Cert.Reference19Ideal.nD Cert.Reference19Ideal.τ).loc Cert.Reference19Ideal.main_arg1) = m (((0 : Dev nD) : Thread nD τ).loc main_arg1) := (hag 0).2.1
      have a2 : m' (((0 : Dev Cert.Reference19Ideal.nD) : Thread Cert.Reference19Ideal.nD Cert.Reference19Ideal.τ).loc Cert.Reference19Ideal.main_arg2) = m (((0 : Dev nD) : Thread nD τ).loc main_arg2) := (hag 0).2.2.1
      have a3 : m' (((0 : Dev Cert.Reference19Ideal.nD) : Thread Cert.Reference19Ideal.nD Cert.Reference19Ideal.τ).loc Cert.Reference19Ideal.main_arg3) = m (((0 : Dev nD) : Thread nD τ).loc main_arg3) := (hag 0).2.2.2.1
      have a4 : m' (((0 : Dev Cert.Reference19Ideal.nD) : Thread Cert.Reference19Ideal.nD Cert.Reference19Ideal.τ).loc Cert.Reference19Ideal.main_arg4) = m (((0 : Dev nD) : Thread nD τ).loc main_arg4) := (hag 0).2.2.2.2
    · rw [Cert.Reference19Ideal.Read.val_main_v2_eq, a0]
      exact funext fun i => rl _ i
    · rw [Cert.Reference19Ideal.Read.val_main_v1_eq, a0]
      exact funext fun i => rg _ i
    · rw [Cert.Reference19Ideal.Read.val_main_v26_eq, a0, a2, a3, a4]
      exact funext fun i => (rd _ _ _ _ i).trans (by rw [rg]; rfl)
    · rw [Cert.Reference19Ideal.Read.val_main_v7_eq, a0, a3]
      exact funext fun i => (rm _ _ i).trans (by rw [rg]; rfl)
    · rw [Cert.Reference19Ideal.Read.val_main_v13_eq, a0, a4]
      exact funext fun i => (rv _ _ i).trans (by rw [rg]; rfl)

end Cert.K19

end
-- ==== Proof.K20.lean ====
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import proofs.«01_k».proof.Proof.Adam
public import Idealize.ShloMosaic.Lib.Pointwise
public import Idealize.ShloMosaic.Lib.Pipeline.ValueKit

@[expose] public section

noncomputable section

namespace Cert.K20

open Cert.Kernel20Ideal Cert.Kernel20Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 552 on. -/
def grad (x0 : Vec Ideal S8x568x128 .f32) (i : S4x128.Idx) : EReal :=
  total x0 ⟨552 + (i 0).val, by have h : (i 0).val < 4 := (i 0).isLt; omega⟩ ⟨(i 1).val, by have h : (i 1).val < 128 := (i 1).isLt; omega⟩

section body

variable (x0 : Vec Ideal S8x568x128 .f32) (x1 : Vec Ideal S8x8x128 .f32) (x2 x3 x4 : Vec Ideal S4x128 .f32)

theorem out5_at (j : S4x128.Idx) : out0_5 x0 x1 x2 x3 x4 j = grad x0 j := by
  idx_vars j
  unfold out0_5 grad total
  frame_out
  pointwise [k0_pay9, k0_pay8, k0_pay7, k0_pay6, k0_pay5, k0_pay4, k0_pay3, k0_pay2, k0_pay1]

theorem out7_at (j : S4x128.Idx) : out0_7 x0 x1 x2 x3 x4 j = mom (grad x0 j) (x3 j) := by
  idx_vars j
  unfold out0_7 mom grad total
  frame_out
  pointwise [k0_pay9, k0_pay8, k0_pay7, k0_pay6, k0_pay5, k0_pay4, k0_pay3, k0_pay2, k0_pay1]

theorem out8_at (j : S4x128.Idx) : out0_8 x0 x1 x2 x3 x4 j = vel (grad x0 j) (x4 j) := by
  idx_vars j
  unfold out0_8 vel grad total
  frame_out
  pointwise [k0_pay9, k0_pay8, k0_pay7, k0_pay6, k0_pay5, k0_pay4, k0_pay3, k0_pay2, k0_pay1]

theorem out6_at (j : S4x128.Idx) : out0_6 x0 x1 x2 x3 x4 j = step (grad x0 j) (x2 j) (x3 j) (x4 j) := by
  idx_vars j
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S4x128 .f32 := fun i => grad (m ((c : Thread nD τ).loc main_arg0)) i
def G6 (c : Dev nD) : Vec Ideal S4x128 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S4x128 .f32 := fun i => mom (grad (m ((c : Thread nD τ).loc main_arg0)) i) ((m ((c : Thread nD τ).loc main_arg3)) i)
def G8 (c : Dev nD) : Vec Ideal S4x128 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S4x128 .f32) = (m ((c : Thread nD τ).loc main_arg2)) := by
  funext y
  blk_point [iblk, V, e2]

theorem b3_eq (c : Dev nD) (t : Fin cfg0.N) : (iblk m c 3 t : Vec Ideal S4x128 .f32) = (m ((c : Thread nD τ).loc main_arg3)) := by
  funext y
  blk_point [iblk, V, e3]

theorem b4_eq (c : Dev nD) (t : Fin cfg0.N) : (iblk m c 4 t : Vec Ideal S4x128 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference20Ideal.Read

variable (x0 : Vec Ideal S8x568x128 .f32) (x1 : Vec Ideal S8x8x128 .f32) (x2 x3 x4 : Vec Ideal S4x128 .f32)

theorem rg (i : S4x128.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S4x128.Idx) : val_main_v7 (F := Ideal) x0 x3 i = mom (val_main_v1 (F := Ideal) x0 i) (x3 i) := rfl

theorem rv (i : S4x128.Idx) : val_main_v13 (F := Ideal) x0 x4 i = vel (val_main_v1 (F := Ideal) x0 i) (x4 i) := rfl

theorem rd (i : S4x128.Idx) : val_main_v26 (F := Ideal) x0 x2 x3 x4 i = step (val_main_v1 (F := Ideal) x0 i) (x2 i) (x3 i) (x4 i) := rfl

end ref

theorem frame_ri : Cert.quiescent_Reference20Ideal := fun m ρ _ =>
  (θ_run Cert.Reference20Ideal.defs _ _).mono (fun r h => ⟨fun c => (h c).2.2.2.2.2,
      Idealize.ShloMosaic.sem_eq_zero_of_no_sems (by decide) r.2⟩)
    (Cert.Reference20Ideal.Value.run (F := Ideal) m ρ)

theorem algebraic : Cert.algebraic_Kernel20Ideal_Reference20Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference20Ideal.Value.run (F := Ideal) m' g')
    all_goals
      clear h
      obtain rfl : c = 0 := Subsingleton.elim _ _
      have a0 : m' (((0 : Dev Cert.Reference20Ideal.nD) : Thread Cert.Reference20Ideal.nD Cert.Reference20Ideal.τ).loc Cert.Reference20Ideal.main_arg0) = m (((0 : Dev nD) : Thread nD τ).loc main_arg0) := (hag 0).1
      have a1 : m' (((0 : Dev Cert.Reference20Ideal.nD) : Thread Cert.Reference20Ideal.nD Cert.Reference20Ideal.τ).loc Cert.Reference20Ideal.main_arg1) = m (((0 : Dev nD) : Thread nD τ).loc main_arg1) := (hag 0).2.1
      have a2 : m' (((0 : Dev Cert.Reference20Ideal.nD) : Thread Cert.Reference20Ideal.nD Cert.Reference20Ideal.τ).loc Cert.Reference20Ideal.main_arg2) = m (((0 : Dev nD) : Thread nD τ).loc main_arg2) := (hag 0).2.2.1
      have a3 : m' (((0 : Dev Cert.Reference20Ideal.nD) : Thread Cert.Reference20Ideal.nD Cert.Reference20Ideal.τ).loc Cert.Reference20Ideal.main_arg3) = m (((0 : Dev nD) : Thread nD τ).loc main_arg3) := (hag 0).2.2.2.1
      have a4 : m' (((0 : Dev Cert.Reference20Ideal.nD) : Thread Cert.Reference20Ideal.nD Cert.Reference20Ideal.τ).loc Cert.Reference20Ideal.main_arg4) = m (((0 : Dev nD) : Thread nD τ).loc main_arg4) := (hag 0).2.2.2.2
    · rw [Cert.Reference20Ideal.Read.val_main_v2_eq, a0]
      exact funext fun i => rl _ i
    · rw [Cert.Reference20Ideal.Read.val_main_v1_eq, a0]
      exact funext fun i => rg _ i
    · rw [Cert.Reference20Ideal.Read.val_main_v26_eq, a0, a2, a3, a4]
      exact funext fun i => (rd _ _ _ _ i).trans (by rw [rg]; rfl)
    · rw [Cert.Reference20Ideal.Read.val_main_v7_eq, a0, a3]
      exact funext fun i => (rm _ _ i).trans (by rw [rg]; rfl)
    · rw [Cert.Reference20Ideal.Read.val_main_v13_eq, a0, a4]
      exact funext fun i => (rv _ _ i).trans (by rw [rg]; rfl)

end Cert.K20

end
-- ==== Proof.K21.lean ====
module

public import proofs.«01_k».proof.Defs
public import proofs.«01_k».proof.Proof.Gen.Kernel21Ideal.Frame
public import proofs.«01_k».proof.Proof.Gen.Reference21Ideal.Run
public import proofs.«01_k».proof.Proof.Gen.Reference21Ideal.Read
public import proofs.«01_k».proof.Proof.Adam
public import Idealize.ShloMosaic.Lib.Pointwise
public import Idealize.ShloMosaic.Lib.Pipeline.ValueKit

@[expose] public section

noncomputable section

namespace Cert.K21

open Cert.Kernel21Ideal Cert.Kernel21Ideal.Gen Idealize.ShloMosaic Idealize.ShloMosaic.TcCoe Idealize.SL.Sem
open Idealize.ShloMosaic.Pipeline (Dat)
open Cert.Adam

/-- The packed rows, summed over the eight devices. -/
def total (x0 : Vec Ideal S8x568x128 .f32) (r : Fin 568) (d : Fin 128) : EReal :=
  x0 (ix3 0 r d) + x0 (ix3 1 r d) + x0 (ix3 2 r d) + x0 (ix3 3 r d)
    + x0 (ix3 4 r d) + x0 (ix3 5 r d) + x0 (ix3 6 r d) + x0 (ix3 7 r d)

/-- The gradient: the sum over the eight devices, of the packed rows from 560 on. -/
def grad (x0 : Vec Ideal S8x568x128 .f32) (i : S1x16.Idx) : EReal :=
  total x0 ⟨560 + (i 0).val, by have h : (i 0).val < 1 := (i 0).isLt; omega⟩ ⟨(i 1).val, by have h : (i 1).val < 16 := (i 1).isLt; omega⟩

section body

variable (x0 : Vec Ideal S8x568x128 .f32) (x1 : Vec Ideal S8x8x128 .f32) (x2 x3 x4 : Vec Ideal S1x16 .f32)

theorem out5_at (j : S1x16.Idx) : out0_5 x0 x1 x2 x3 x4 j = grad x0 j := by
  idx_vars j
  obtain rfl : j0 = 0 := Subsingleton.elim _ _
  unfold out0_5 grad total
  frame_out
  pointwise [k0_pay9, k0_pay8, k0_pay7, k0_pay6, k0_pay5, k0_pay4, k0_pay3, k0_pay2, k0_pay1]

theorem out7_at (j : S1x16.Idx) : out0_7 x0 x1 x2 x3 x4 j = mom (grad x0 j) (x3 j) := by
  idx_vars j
  obtain rfl : j0 = 0 := Subsingleton.elim _ _
  unfold out0_7 mom grad total
  frame_out
  pointwise [k0_pay9, k0_pay8, k0_pay7, k0_pay6, k0_pay5, k0_pay4, k0_pay3, k0_pay2, k0_pay1]

theorem out8_at (j : S1x16.Idx) : out0_8 x0 x1 x2 x3 x4 j = vel (grad x0 j) (x4 j) := by
  idx_vars j
  obtain rfl : j0 = 0 := Subsingleton.elim _ _
  unfold out0_8 vel grad total
  frame_out
  pointwise [k0_pay9, k0_pay8, k0_pay7, k0_pay6, k0_pay5, k0_pay4, k0_pay3, k0_pay2, k0_pay1]

theorem out6_at (j : S1x16.Idx) : out0_6 x0 x1 x2 x3 x4 j = step (grad x0 j) (x2 j) (x3 j) (x4 j) := by
  idx_vars j
  obtain rfl : j0 = 0 := Subsingleton.elim _ _
  unfold out0_6 step mom vel grad total
  frame_out
  pointwise [k0_pay9, k0_pay8, k0_pay7, k0_pay6, k0_pay5, k0_pay4, k0_pay3, k0_pay2, k0_pay1]

theorem out9_at (j : S1x1.Idx) : out0_9 x0 x1 x2 x3 x4 j = total x0 560 16 := by
  idx_vars j
  unfold out0_9 total
  frame_out
  pointwise [k0_pay9, k0_pay8, k0_pay7, k0_pay6, k0_pay5, k0_pay4, k0_pay3, k0_pay2, k0_pay1]

end body

section run

variable (m : (ℓ : Loc nD τ sig) → Buf (Elt Ideal) ℓ)

/-- The results: the loss, the gradient, the step and the two moments. -/
def G9 (c : Dev nD) : Vec Ideal S1x1 .f32 := fun _ => total (m ((c : Thread nD τ).loc main_arg0)) 560 16
def G5 (c : Dev nD) : Vec Ideal S1x16 .f32 := fun i => grad (m ((c : Thread nD τ).loc main_arg0)) i
def G6 (c : Dev nD) : Vec Ideal S1x16 .f32 := fun i => step (grad (m ((c : Thread nD τ).loc main_arg0)) i) ((m ((c : Thread nD τ).loc main_arg2)) i) ((m ((c : Thread nD τ).loc main_arg3)) i) ((m ((c : Thread nD τ).loc main_arg4)) i)
def G7 (c : Dev nD) : Vec Ideal S1x16 .f32 := fun i => mom (grad (m ((c : Thread nD τ).loc main_arg0)) i) ((m ((c : Thread nD τ).loc main_arg3)) i)
def G8 (c : Dev nD) : Vec Ideal S1x16 .f32 := fun i => vel (grad (m ((c : Thread nD τ).loc main_arg0)) i) ((m ((c : Thread nD τ).loc main_arg4)) i)

theorem e0 : ∀ t : Fin cfg0.N, win0_0.index t = ![0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem b0_eq (c : Dev nD) (t : Fin cfg0.N) : (iblk m c 0 t : Vec Ideal S8x568x128 .f32) = (m ((c : Thread nD τ).loc main_arg0)) := by
  funext y
  blk_point [iblk, V, e0]

theorem b1_eq (c : Dev nD) (t : Fin cfg0.N) : (iblk m c 1 t : Vec Ideal S8x8x128 .f32) = (m ((c : Thread nD τ).loc main_arg1)) := by
  funext y
  blk_point [iblk, V, e1]

theorem b2_eq (c : Dev nD) (t : Fin cfg0.N) : (iblk m c 2 t : Vec Ideal S1x16 .f32) = (m ((c : Thread nD τ).loc main_arg2)) := by
  funext y
  blk_point [iblk, V, e2]

theorem b3_eq (c : Dev nD) (t : Fin cfg0.N) : (iblk m c 3 t : Vec Ideal S1x16 .f32) = (m ((c : Thread nD τ).loc main_arg3)) := by
  funext y
  blk_point [iblk, V, e3]

theorem b4_eq (c : Dev nD) (t : Fin cfg0.N) : (iblk m c 4 t : Vec Ideal S1x16 .f32) = (m ((c : Thread nD τ).loc main_arg4)) := by
  funext y
  blk_point [iblk, V, e4]

theorem final5 (c : Dev nD) : (dats m 0 c).arrAt 5 cfg0.N = G5 m c := by
  refine (dats m 0 c).arrAt_eq_of_covers 5 _ (by decide +kernel) fun t hf y => ?_
  blk_simp
  rw [after0_5]
  rw [out5_at]
  simp only [b0_eq, b1_eq, b2_eq, b3_eq, b4_eq]
  have he : (win0_5.blk t).view.emb y = y := by blk_ext [e5]
  exact congrArg (G5 m c) he.symm

theorem final6 (c : Dev nD) : (dats m 0 c).arrAt 6 cfg0.N = G6 m c := by
  refine (dats m 0 c).arrAt_eq_of_covers 6 _ (by decide +kernel) fun t hf y => ?_
  blk_simp
  rw [after0_6]
  rw [out6_at]
  simp only [b0_eq, b1_eq, b2_eq, b3_eq, b4_eq]
  have he : (win0_6.blk t).view.emb y = y := by blk_ext [e6]
  exact congrArg (G6 m c) he.symm

theorem final7 (c : Dev nD) : (dats m 0 c).arrAt 7 cfg0.N = G7 m c := by
  refine (dats m 0 c).arrAt_eq_of_covers 7 _ (by decide +kernel) fun t hf y => ?_
  blk_simp
  rw [after0_7]
  rw [out7_at]
  simp only [b0_eq, b1_eq, b2_eq, b3_eq, b4_eq]
  have he : (win0_7.blk t).view.emb y = y := by blk_ext [e7]
  exact congrArg (G7 m c) he.symm

theorem final8 (c : Dev nD) : (dats m 0 c).arrAt 8 cfg0.N = G8 m c := by
  refine (dats m 0 c).arrAt_eq_of_covers 8 _ (by decide +kernel) fun t hf y => ?_
  blk_simp
  rw [after0_8]
  rw [out8_at]
  simp only [b0_eq, b1_eq, b2_eq, b3_eq, b4_eq]
  have he : (win0_8.blk t).view.emb y = y := by blk_ext [e8]
  exact congrArg (G8 m c) he.symm

theorem final9 (c : Dev nD) : (dats m 0 c).arrAt 9 cfg0.N = G9 m c := by
  refine (dats m 0 c).arrAt_eq_of_covers 9 _ (by decide +kernel) fun t hf y => ?_
  blk_simp
  rw [after0_9]
  rw [out9_at]
  simp only [b0_eq, b1_eq, b2_eq, b3_eq, b4_eq]
  rfl

end run

section ref

open Cert.Reference21Ideal.Read

variable (x0 : Vec Ideal S8x568x128 .f32) (x1 : Vec Ideal S8x8x128 .f32) (x2 x3 x4 : Vec Ideal S1x16 .f32)

theorem rg (i : S1x16.Idx) : val_main_v1 (F := Ideal) x0 i = grad x0 i := by
  idx_vars i
  unfold grad total
  pointwise [val_main_v1, val_main_v0, val_main_cst]
  rw [Fin.sum_univ_eight]

theorem rl (i : S1x1.Idx) : val_main_v2 (F := Ideal) x0 i = total x0 560 16 := by
  idx_vars i
  unfold total
  pointwise [val_main_v2, val_main_v1, val_main_v0, val_main_cst]
  rw [Fin.sum_univ_eight]

theorem rm (i : S1x16.Idx) : val_main_v7 (F := Ideal) x0 x3 i = mom (val_main_v1 (F := Ideal) x0 i) (x3 i) := rfl

theorem rv (i : S1x16.Idx) : val_main_v13 (F := Ideal) x0 x4 i = vel (val_main_v1 (F := Ideal) x0 i) (x4 i) := rfl

theorem rd (i : S1x16.Idx) : val_main_v26 (F := Ideal) x0 x2 x3 x4 i = step (val_main_v1 (F := Ideal) x0 i) (x2 i) (x3 i) (x4 i) := rfl

end ref

theorem frame_ri : Cert.quiescent_Reference21Ideal := fun m ρ _ =>
  (θ_run Cert.Reference21Ideal.defs _ _).mono (fun r h => ⟨fun c => (h c).2.2.2.2.2,
      Idealize.ShloMosaic.sem_eq_zero_of_no_sems (by decide) r.2⟩)
    (Cert.Reference21Ideal.Value.run (F := Ideal) m ρ)

theorem algebraic : Cert.algebraic_Kernel21Ideal_Reference21Ideal := by
  intro m g m' g' _ hag
  refine ⟨fun c => G9 m c, fun c => G5 m c, fun c => G6 m c, fun c => G7 m c, fun c => G8 m c, ?_, ?_⟩
  · refine (θ_run _ _ _).mono (fun _ h c => ?_) (θ_run_and (run_main m g) (unchanged m g))
    exact ⟨((h.1 c).1 9).trans (final9 m c), ((h.1 c).1 5).trans (final5 m c), ((h.1 c).1 6).trans (final6 m c),
      ((h.1 c).1 7).trans (final7 m c), ((h.1 c).1 8).trans (final8 m c), h.2 c⟩
  · refine (θ_run _ _ _).mono (fun _ h c => ⟨(h c).1.trans ?_, (h c).2.1.trans ?_, (h c).2.2.1.trans ?_, (h c).2.2.2.1.trans ?_,
      (h c).2.2.2.2.1.trans ?_, (h c).2.2.2.2.2⟩)
      (Cert.Reference21Ideal.Value.run (F := Ideal) m' g')
    all_goals
      clear h
      obtain rfl : c = 0 := Subsingleton.elim _ _
      have a0 : m' (((0 : Dev Cert.Reference21Ideal.nD) : Thread Cert.Reference21Ideal.nD Cert.Reference21Ideal.τ).loc Cert.Reference21Ideal.main_arg0) = m (((0 : Dev nD) : Thread nD τ).loc main_arg0) := (hag 0).1
      have a1 : m' (((0 : Dev Cert.Reference21Ideal.nD) : Thread Cert.Reference21Ideal.nD Cert.Reference21Ideal.τ).loc Cert.Reference21Ideal.main_arg1) = m (((0 : Dev nD) : Thread nD τ).loc main_arg1) := (hag 0).2.1
      have a2 : m' (((0 : Dev Cert.Reference21Ideal.nD) : Thread Cert.Reference21Ideal.nD Cert.Reference21Ideal.τ).loc Cert.Reference21Ideal.main_arg2) = m (((0 : Dev nD) : Thread nD τ).loc main_arg2) := (hag 0).2.2.1
      have a3 : m' (((0 : Dev Cert.Reference21Ideal.nD) : Thread Cert.Reference21Ideal.nD Cert.Reference21Ideal.τ).loc Cert.Reference21Ideal.main_arg3) = m (((0 : Dev nD) : Thread nD τ).loc main_arg3) := (hag 0).2.2.2.1
      have a4 : m' (((0 : Dev Cert.Reference21Ideal.nD) : Thread Cert.Reference21Ideal.nD Cert.Reference21Ideal.τ).loc Cert.Reference21Ideal.main_arg4) = m (((0 : Dev nD) : Thread nD τ).loc main_arg4) := (hag 0).2.2.2.2
    · rw [Cert.Reference21Ideal.Read.val_main_v2_eq, a0]
      exact funext fun i => rl _ i
    · rw [Cert.Reference21Ideal.Read.val_main_v1_eq, a0]
      exact funext fun i => rg _ i
    · rw [Cert.Reference21Ideal.Read.val_main_v26_eq, a0, a2, a3, a4]
      exact funext fun i => (rd _ _ _ _ i).trans (by rw [rg]; rfl)
    · rw [Cert.Reference21Ideal.Read.val_main_v7_eq, a0, a3]
      exact funext fun i => (rm _ _ i).trans (by rw [rg]; rfl)
    · rw [Cert.Reference21Ideal.Read.val_main_v13_eq, a0, a4]
      exact funext fun i => (rv _ _ i).trans (by rw [rg]; rfl)

end Cert.K21

end
-- ==== Proof.lean ====
/- The proof of the claim: each call's frames are the generated ones, its value claim is in its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Pre_finite1
public import proofs.«01_k».proof.Proof.Gen.Pre_finite2
public import proofs.«01_k».proof.Proof.Gen.Pre_finite6
public import proofs.«01_k».proof.Proof.Gen.Pre_in_mesh9
public import proofs.«01_k».proof.Proof.Gen.Pre_in_mesh10
public import proofs.«01_k».proof.Proof.Gen.Pre_in_mesh11
public import proofs.«01_k».proof.Proof.Gen.Pre_in_mesh12
public import proofs.«01_k».proof.Proof.Gen.Pre_in_mesh13
public import Idealize.ShloMosaic.Adequacy
public import Idealize.ShloMosaic.Init
public import proofs.«01_k».proof.Proof.K1
public import proofs.«01_k».proof.Proof.K2
public import proofs.«01_k».proof.Proof.K3
public import proofs.«01_k».proof.Proof.K4
public import proofs.«01_k».proof.Proof.K5
public import proofs.«01_k».proof.Proof.K7
public import proofs.«01_k».proof.Proof.K6
public import proofs.«01_k».proof.Proof.K9
public import proofs.«01_k».proof.Proof.K10
public import proofs.«01_k».proof.Proof.K11
public import proofs.«01_k».proof.Proof.K12
public import proofs.«01_k».proof.Proof.K13
public import proofs.«01_k».proof.Proof.K14
public import proofs.«01_k».proof.Proof.K15
public import proofs.«01_k».proof.Proof.K16
public import proofs.«01_k».proof.Proof.K17
public import proofs.«01_k».proof.Proof.K18
public import proofs.«01_k».proof.Proof.K19
public import proofs.«01_k».proof.Proof.K20
public import proofs.«01_k».proof.Proof.K21

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel7.Gen.facts,
  Cert.Kernel7Ideal.Gen.facts,
  Cert.Reference7Ideal.Gen.facts,
  Cert.Kernel6.Gen.facts,
  Cert.Kernel6Ideal.Gen.facts,
  Cert.Reference6Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Pre_finite1.Gen.facts,
  Cert.Pre_finite2.Gen.facts,
  Cert.Pre_finite6.Gen.facts,
  Cert.Pre_in_mesh9.Gen.facts,
  Cert.Pre_in_mesh10.Gen.facts,
  Cert.Pre_in_mesh11.Gen.facts,
  Cert.Pre_in_mesh12.Gen.facts,
  Cert.Pre_in_mesh13.Gen.facts,
  fun m ρ _ => Cert.Kernel.Gen.frame m ρ,
  fun m ρ _ => Cert.Kernel.Gen.frame m ρ,
  fun m ρ _ => Cert.KernelIdeal.Gen.frame m ρ,
  fun m ρ _ => Cert.KernelIdeal.Gen.frame m ρ,
  Cert.K1.frame_ri,
  fun m ρ _ => Cert.Kernel2.Gen.frame m ρ,
  fun m ρ _ => Cert.Kernel2.Gen.frame m ρ,
  fun m ρ _ => Cert.Kernel2Ideal.Gen.frame m ρ,
  fun m ρ _ => Cert.Kernel2Ideal.Gen.frame m ρ,
  Cert.K2.frame_ri,
  fun m ρ _ => Cert.Kernel3.Gen.frame m ρ,
  fun m ρ _ => Cert.Kernel3Ideal.Gen.frame m ρ,
  Cert.K3.frame_ri,
  fun m ρ _ => Cert.Kernel4.Gen.frame m ρ,
  fun m ρ _ => Cert.Kernel4Ideal.Gen.frame m ρ,
  Cert.K4.frame_ri,
  fun m ρ _ => Cert.Kernel5.Gen.frame m ρ,
  fun m ρ _ => Cert.Kernel5Ideal.Gen.frame m ρ,
  Cert.K5.frame_ri,
  fun m ρ _ => Cert.Kernel7.Gen.frame m ρ,
  fun m ρ _ => Cert.Kernel7Ideal.Gen.frame m ρ,
  Cert.K7.frame_ri,
  fun m ρ _ => Cert.Kernel6.Gen.frame m ρ,
  fun m ρ _ => Cert.Kernel6.Gen.frame m ρ,
  fun m ρ _ => Cert.Kernel6Ideal.Gen.frame m ρ,
  fun m ρ _ => Cert.Kernel6Ideal.Gen.frame m ρ,
  Cert.K6.frame_ri,
  Cert.K9.frame_k,
  Cert.K9.frame_ki,
  Cert.K9.frame_ri,
  Cert.K10.frame_k,
  Cert.K10.frame_ki,
  Cert.K10.frame_ri,
  Cert.K11.frame_k,
  Cert.K11.frame_ki,
  Cert.K11.frame_ri,
  Cert.K12.frame_k,
  Cert.K12.frame_ki,
  Cert.K12.frame_ri,
  Cert.K13.frame_k,
  Cert.K13.frame_ki,
  Cert.K13.frame_ri,
  fun m ρ _ => Cert.Kernel14.Gen.frame m ρ,
  fun m ρ _ => Cert.Kernel14Ideal.Gen.frame m ρ,
  Cert.K14.frame_ri,
  fun m ρ _ => Cert.Kernel15.Gen.frame m ρ,
  fun m ρ _ => Cert.Kernel15Ideal.Gen.frame m ρ,
  Cert.K15.frame_ri,
  fun m ρ _ => Cert.Kernel16.Gen.frame m ρ,
  fun m ρ _ => Cert.Kernel16Ideal.Gen.frame m ρ,
  Cert.K16.frame_ri,
  fun m ρ _ => Cert.Kernel17.Gen.frame m ρ,
  fun m ρ _ => Cert.Kernel17Ideal.Gen.frame m ρ,
  Cert.K17.frame_ri,
  fun m ρ _ => Cert.Kernel18.Gen.frame m ρ,
  fun m ρ _ => Cert.Kernel18Ideal.Gen.frame m ρ,
  Cert.K18.frame_ri,
  fun m ρ _ => Cert.Kernel19.Gen.frame m ρ,
  fun m ρ _ => Cert.Kernel19Ideal.Gen.frame m ρ,
  Cert.K19.frame_ri,
  fun m ρ _ => Cert.Kernel20.Gen.frame m ρ,
  fun m ρ _ => Cert.Kernel20Ideal.Gen.frame m ρ,
  Cert.K20.frame_ri,
  fun m ρ _ => Cert.Kernel21.Gen.frame m ρ,
  fun m ρ _ => Cert.Kernel21Ideal.Gen.frame m ρ,
  Cert.K21.frame_ri,
  trivial,
  Cert.K1.algebraic,
  trivial,
  Cert.K2.algebraic,
  trivial,
  Cert.K3.algebraic,
  trivial,
  Cert.K4.algebraic,
  trivial,
  Cert.K5.algebraic,
  trivial,
  Cert.K7.algebraic,
  trivial,
  Cert.K6.algebraic,
  trivial,
  Cert.K9.algebraic,
  trivial,
  Cert.K10.algebraic,
  trivial,
  Cert.K11.algebraic,
  trivial,
  Cert.K12.algebraic,
  trivial,
  Cert.K13.algebraic,
  trivial,
  Cert.K14.algebraic,
  trivial,
  Cert.K15.algebraic,
  trivial,
  Cert.K16.algebraic,
  trivial,
  Cert.K17.algebraic,
  trivial,
  Cert.K18.algebraic,
  trivial,
  Cert.K19.algebraic,
  trivial,
  Cert.K20.algebraic,
  trivial,
  Cert.K21.algebraic⟩

end Cert.Proof

end
